-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_finite_dact [hPre_finite_dact : Cert.Pre_finite_dact.Facts] (m : (ℓ : Loc Cert.DactIdeal.nD Cert.DactIdeal.τ Cert.DactIdeal.sig) → Buf (Elt Ideal) ℓ) : Prop :=
  ∀ c : Dev Cert.DactIdeal.nD,
    (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).1 = (fun _ => 1#1)
    ∧ (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.1 = (fun _ => 1#1)
    ∧ (Cert.Pre_finite_dact.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2)) (m ((c.tc : Thread Cert.DactIdeal.nD Cert.DactIdeal.τ).loc Cert.DactIdeal.main_arg3))).2.2 = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_finite_dact [hPre_finite_dact : Cert.Pre_finite_dact.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_finite_dact.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).1 = (fun _ => 1#1)
    ∧ (Cert.Pre_finite_dact.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.1 = (fun _ => 1#1)
    ∧ (Cert.Pre_finite_dact.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2)) (m ((c.tc : Thread Cert.DactRefIdeal.nD Cert.DactRefIdeal.τ).loc Cert.DactRefIdeal.main_arg3))).2.2 = (fun _ => 1#1)

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdRefIdeal (m : (ℓ : Loc Cert.DwdRefIdeal.nD Cert.DwdRefIdeal.τ Cert.DwdRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Dxg (m : (ℓ : Loc Cert.Dxg.nD Cert.Dxg.τ Cert.Dxg.sig) → Buf (Elt Bits) ℓ) : Prop :=
  True

def Pre_DxgIdeal (m : (ℓ : Loc Cert.DxgIdeal.nD Cert.DxgIdeal.τ Cert.DxgIdeal.sig) → Buf (Elt Ideal) ℓ) : Prop :=
  True

def Pre_DxgRefIdeal (m : (ℓ : Loc Cert.DxgRefIdeal.nD Cert.DxgRefIdeal.τ Cert.DxgRefIdeal.sig) → Buf (Elt Ideal) ℓ) : Prop :=
  True

def Pre_Dxu (m : (ℓ : Loc Cert.Dxu.nD Cert.Dxu.τ Cert.Dxu.sig) → Buf (Elt Bits) ℓ) : Prop :=
  True

def Pre_DxuIdeal (m : (ℓ : Loc Cert.DxuIdeal.nD Cert.DxuIdeal.τ Cert.DxuIdeal.sig) → Buf (Elt Ideal) ℓ) : Prop :=
  True

def Pre_DxuRefIdeal (m : (ℓ : Loc Cert.DxuRefIdeal.nD Cert.DxuRefIdeal.τ Cert.DxuRefIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_InQkv (m : (ℓ : Loc Cert.InQkv.nD Cert.InQkv.τ Cert.InQkv.sig) → Buf (Elt Bits) ℓ) : Prop :=
  True

def Pre_InQkvIdeal (m : (ℓ : Loc Cert.InQkvIdeal.nD Cert.InQkvIdeal.τ Cert.InQkvIdeal.sig) → Buf (Elt Ideal) ℓ) : Prop :=
  True

def Pre_InQkvRefIdeal (m : (ℓ : Loc Cert.InQkvRefIdeal.nD Cert.InQkvRefIdeal.τ Cert.InQkvRefIdeal.sig) → Buf (Elt Ideal) ℓ) : Prop :=
  True

def Pre_InGates (m : (ℓ : Loc Cert.InGates.nD Cert.InGates.τ Cert.InGates.sig) → Buf (Elt Bits) ℓ) : Prop :=
  True

def Pre_InGatesIdeal (m : (ℓ : Loc Cert.InGatesIdeal.nD Cert.InGatesIdeal.τ Cert.InGatesIdeal.sig) → Buf (Elt Ideal) ℓ) : Prop :=
  True

def Pre_InGatesRefIdeal (m : (ℓ : Loc Cert.InGatesRefIdeal.nD Cert.InGatesRefIdeal.τ Cert.InGatesRefIdeal.sig) → Buf (Elt Ideal) ℓ) : Prop :=
  True

def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_InZRefIdeal (m : (ℓ : Loc Cert.InZRefIdeal.nD Cert.InZRefIdeal.τ Cert.InZRefIdeal.sig) → Buf (Elt Ideal) ℓ) : Prop :=
  True

def Pre_InAb (m : (ℓ : Loc Cert.InAb.nD Cert.InAb.τ Cert.InAb.sig) → Buf (Elt Bits) ℓ) : Prop :=
  True

def Pre_InAbIdeal (m : (ℓ : Loc Cert.InAbIdeal.nD Cert.InAbIdeal.τ Cert.InAbIdeal.sig) → Buf (Elt Ideal) ℓ) : Prop :=
  True

def Pre_InAbRefIdeal (m : (ℓ : Loc Cert.InAbRefIdeal.nD Cert.InAbRefIdeal.τ Cert.InAbRefIdeal.sig) → Buf (Elt Ideal) ℓ) : Prop :=
  True

def Pre_InDwA (m : (ℓ : Loc Cert.InDwA.nD Cert.InDwA.τ Cert.InDwA.sig) → Buf (Elt Bits) ℓ) : Prop :=
  True

def Pre_InDwAIdeal (m : (ℓ : Loc Cert.InDwAIdeal.nD Cert.InDwAIdeal.τ Cert.InDwAIdeal.sig) → Buf (Elt Ideal) ℓ) : Prop :=
  True

def Pre_InDwARefIdeal (m : (ℓ : Loc Cert.InDwARefIdeal.nD Cert.InDwARefIdeal.τ Cert.InDwARefIdeal.sig) → Buf (Elt Ideal) ℓ) : Prop :=
  True

def Pre_InDwB (m : (ℓ : Loc Cert.InDwB.nD Cert.InDwB.τ Cert.InDwB.sig) → Buf (Elt Bits) ℓ) : Prop :=
  True

def Pre_InDwBIdeal (m : (ℓ : Loc Cert.InDwBIdeal.nD Cert.InDwBIdeal.τ Cert.InDwBIdeal.sig) → Buf (Elt Ideal) ℓ) : Prop :=
  True

def Pre_InDwBRefIdeal (m : (ℓ : Loc Cert.InDwBRefIdeal.nD Cert.InDwBRefIdeal.τ Cert.InDwBRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_QueryDw (m : (ℓ : Loc Cert.QueryDw.nD Cert.QueryDw.τ Cert.QueryDw.sig) → Buf (Elt Bits) ℓ) : Prop :=
  True

def Pre_QueryDwIdeal (m : (ℓ : Loc Cert.QueryDwIdeal.nD Cert.QueryDwIdeal.τ Cert.QueryDwIdeal.sig) → Buf (Elt Ideal) ℓ) : Prop :=
  True

def Pre_QueryDwRefIdeal (m : (ℓ : Loc Cert.QueryDwRefIdeal.nD Cert.QueryDwRefIdeal.τ Cert.QueryDwRefIdeal.sig) → Buf (Elt Ideal) ℓ) : Prop :=
  True

def Pre_QueryDx (m : (ℓ : Loc Cert.QueryDx.nD Cert.QueryDx.τ Cert.QueryDx.sig) → Buf (Elt Bits) ℓ) : Prop :=
  True

def Pre_QueryDxIdeal (m : (ℓ : Loc Cert.QueryDxIdeal.nD Cert.QueryDxIdeal.τ Cert.QueryDxIdeal.sig) → Buf (Elt Ideal) ℓ) : Prop :=
  True

def Pre_QueryDxRefIdeal (m : (ℓ : Loc Cert.QueryDxRefIdeal.nD Cert.QueryDxRefIdeal.τ Cert.QueryDxRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemDw (m : (ℓ : Loc Cert.MemDw.nD Cert.MemDw.τ Cert.MemDw.sig) → Buf (Elt Bits) ℓ) : Prop :=
  True

def Pre_MemDwIdeal (m : (ℓ : Loc Cert.MemDwIdeal.nD Cert.MemDwIdeal.τ Cert.MemDwIdeal.sig) → Buf (Elt Ideal) ℓ) : Prop :=
  True

def Pre_MemDwRefIdeal (m : (ℓ : Loc Cert.MemDwRefIdeal.nD Cert.MemDwRefIdeal.τ Cert.MemDwRefIdeal.sig) → Buf (Elt Ideal) ℓ) : Prop :=
  True

def Pre_MemDk (m : (ℓ : Loc Cert.MemDk.nD Cert.MemDk.τ Cert.MemDk.sig) → Buf (Elt Bits) ℓ) : Prop :=
  True

def Pre_MemDkIdeal (m : (ℓ : Loc Cert.MemDkIdeal.nD Cert.MemDkIdeal.τ Cert.MemDkIdeal.sig) → Buf (Elt Ideal) ℓ) : Prop :=
  True

def Pre_MemDkRefIdeal (m : (ℓ : Loc Cert.MemDkRefIdeal.nD Cert.MemDkRefIdeal.τ Cert.MemDkRefIdeal.sig) → Buf (Elt Ideal) ℓ) : Prop :=
  True

def Pre_MemDv (m : (ℓ : Loc Cert.MemDv.nD Cert.MemDv.τ Cert.MemDv.sig) → Buf (Elt Bits) ℓ) : Prop :=
  True

def Pre_MemDvIdeal (m : (ℓ : Loc Cert.MemDvIdeal.nD Cert.MemDvIdeal.τ Cert.MemDvIdeal.sig) → Buf (Elt Ideal) ℓ) : Prop :=
  True

def Pre_MemDvRefIdeal (m : (ℓ : Loc Cert.MemDvRefIdeal.nD Cert.MemDvRefIdeal.τ Cert.MemDvRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamLn (m : (ℓ : Loc Cert.AdamLn.nD Cert.AdamLn.τ Cert.AdamLn.sig) → Buf (Elt Bits) ℓ) : Prop :=
  True

def Pre_AdamLnIdeal (m : (ℓ : Loc Cert.AdamLnIdeal.nD Cert.AdamLnIdeal.τ Cert.AdamLnIdeal.sig) → Buf (Elt Ideal) ℓ) : Prop :=
  True

def Pre_AdamLnRefIdeal (m : (ℓ : Loc Cert.AdamLnRefIdeal.nD Cert.AdamLnRefIdeal.τ Cert.AdamLnRefIdeal.sig) → Buf (Elt Ideal) ℓ) : Prop :=
  True

def Pre_AdamScale (m : (ℓ : Loc Cert.AdamScale.nD Cert.AdamScale.τ Cert.AdamScale.sig) → Buf (Elt Bits) ℓ) : Prop :=
  True

def Pre_AdamScaleIdeal (m : (ℓ : Loc Cert.AdamScaleIdeal.nD Cert.AdamScaleIdeal.τ Cert.AdamScaleIdeal.sig) → Buf (Elt Ideal) ℓ) : Prop :=
  True

def Pre_AdamScaleRefIdeal (m : (ℓ : Loc Cert.AdamScaleRefIdeal.nD Cert.AdamScaleRefIdeal.τ Cert.AdamScaleRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadRefIdeal (m : (ℓ : Loc Cert.AdamHeadRefIdeal.nD Cert.AdamHeadRefIdeal.τ Cert.AdamHeadRefIdeal.sig) → Buf (Elt Ideal) ℓ) : Prop :=
  True

def Pre_SumGate (m : (ℓ : Loc Cert.SumGate.nD Cert.SumGate.τ Cert.SumGate.sig) → Buf (Elt Bits) ℓ) : Prop :=
  True

def Pre_SumGateIdeal (m : (ℓ : Loc Cert.SumGateIdeal.nD Cert.SumGateIdeal.τ Cert.SumGateIdeal.sig) → Buf (Elt Ideal) ℓ) : Prop :=
  True

def Pre_SumGateRefIdeal (m : (ℓ : Loc Cert.SumGateRefIdeal.nD Cert.SumGateRefIdeal.τ Cert.SumGateRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def Pre_SumFfn (m : (ℓ : Loc Cert.SumFfn.nD Cert.SumFfn.τ Cert.SumFfn.sig) → Buf (Elt Bits) ℓ) : Prop :=
  True

def Pre_SumFfnIdeal (m : (ℓ : Loc Cert.SumFfnIdeal.nD Cert.SumFfnIdeal.τ Cert.SumFfnIdeal.sig) → Buf (Elt Ideal) ℓ) : Prop :=
  True

def Pre_SumFfnRefIdeal (m : (ℓ : Loc Cert.SumFfnRefIdeal.nD Cert.SumFfnRefIdeal.τ Cert.SumFfnRefIdeal.sig) → Buf (Elt Ideal) ℓ) : Prop :=
  True

def Pre_SumMixer (m : (ℓ : Loc Cert.SumMixer.nD Cert.SumMixer.τ Cert.SumMixer.sig) → Buf (Elt Bits) ℓ) : Prop :=
  True

def Pre_SumMixerIdeal (m : (ℓ : Loc Cert.SumMixerIdeal.nD Cert.SumMixerIdeal.τ Cert.SumMixerIdeal.sig) → Buf (Elt Ideal) ℓ) : Prop :=
  True

def Pre_SumMixerRefIdeal (m : (ℓ : Loc Cert.SumMixerRefIdeal.nD Cert.SumMixerRefIdeal.τ Cert.SumMixerRefIdeal.sig) → Buf (Elt Ideal) ℓ) : Prop :=
  True

def Pre_SumXa (m : (ℓ : Loc Cert.SumXa.nD Cert.SumXa.τ Cert.SumXa.sig) → Buf (Elt Bits) ℓ) : Prop :=
  True

def Pre_SumXaIdeal (m : (ℓ : Loc Cert.SumXaIdeal.nD Cert.SumXaIdeal.τ Cert.SumXaIdeal.sig) → Buf (Elt Ideal) ℓ) : Prop :=
  True

def Pre_SumXaRefIdeal (m : (ℓ : Loc Cert.SumXaRefIdeal.nD Cert.SumXaRefIdeal.τ Cert.SumXaRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendRefIdeal (m : (ℓ : Loc Cert.AttendRefIdeal.nD Cert.AttendRefIdeal.τ Cert.AttendRefIdeal.sig) → Buf (Elt Ideal) ℓ) : Prop :=
  True

def Pre_AttendBack (m : (ℓ : Loc Cert.AttendBack.nD Cert.AttendBack.τ Cert.AttendBack.sig) → Buf (Elt Bits) ℓ) : Prop :=
  True

def Pre_AttendBackIdeal (m : (ℓ : Loc Cert.AttendBackIdeal.nD Cert.AttendBackIdeal.τ Cert.AttendBackIdeal.sig) → Buf (Elt Ideal) ℓ) : Prop :=
  True

def Pre_AttendBackIdeal_finite_attend [hPre_finite_attend : Cert.Pre_finite_attend.Facts] (m : (ℓ : Loc Cert.AttendBackIdeal.nD Cert.AttendBackIdeal.τ Cert.AttendBackIdeal.sig) → Buf (Elt Ideal) ℓ) : Prop :=
  ∀ c : Dev Cert.AttendBackIdeal.nD,
    (Cert.Pre_finite_attend.fn (F := Ideal) (m ((c.tc : Thread Cert.AttendBackIdeal.nD Cert.AttendBackIdeal.τ).loc Cert.AttendBackIdeal.main_arg0)) (m ((c.tc : Thread Cert.AttendBackIdeal.nD Cert.AttendBackIdeal.τ).loc Cert.AttendBackIdeal.main_arg1)) (m ((c.tc : Thread Cert.AttendBackIdeal.nD Cert.AttendBackIdeal.τ).loc Cert.AttendBackIdeal.main_arg2)) (m ((c.tc : Thread Cert.AttendBackIdeal.nD Cert.AttendBackIdeal.τ).loc Cert.AttendBackIdeal.main_arg3))).1 = (fun _ => 1#1)
    ∧ (Cert.Pre_finite_attend.fn (F := Ideal) (m ((c.tc : Thread Cert.AttendBackIdeal.nD Cert.AttendBackIdeal.τ).loc Cert.AttendBackIdeal.main_arg0)) (m ((c.tc : Thread Cert.AttendBackIdeal.nD Cert.AttendBackIdeal.τ).loc Cert.AttendBackIdeal.main_arg1)) (m ((c.tc : Thread Cert.AttendBackIdeal.nD Cert.AttendBackIdeal.τ).loc Cert.AttendBackIdeal.main_arg2)) (m ((c.tc : Thread Cert.AttendBackIdeal.nD Cert.AttendBackIdeal.τ).loc Cert.AttendBackIdeal.main_arg3))).2 = (fun _ => 1#1)

def Pre_AttendBackRefIdeal (m : (ℓ : Loc Cert.AttendBackRefIdeal.nD Cert.AttendBackRefIdeal.τ Cert.AttendBackRefIdeal.sig) → Buf (Elt Ideal) ℓ) : Prop :=
  True

def Pre_AttendBackRefIdeal_finite_attend [hPre_finite_attend : Cert.Pre_finite_attend.Facts] (m : (ℓ : Loc Cert.AttendBackRefIdeal.nD Cert.AttendBackRefIdeal.τ Cert.AttendBackRefIdeal.sig) → Buf (Elt Ideal) ℓ) : Prop :=
  ∀ c : Dev Cert.AttendBackRefIdeal.nD,
    (Cert.Pre_finite_attend.fn (F := Ideal) (m ((c.tc : Thread Cert.AttendBackRefIdeal.nD Cert.AttendBackRefIdeal.τ).loc Cert.AttendBackRefIdeal.main_arg0)) (m ((c.tc : Thread Cert.AttendBackRefIdeal.nD Cert.AttendBackRefIdeal.τ).loc Cert.AttendBackRefIdeal.main_arg1)) (m ((c.tc : Thread Cert.AttendBackRefIdeal.nD Cert.AttendBackRefIdeal.τ).loc Cert.AttendBackRefIdeal.main_arg2)) (m ((c.tc : Thread Cert.AttendBackRefIdeal.nD Cert.AttendBackRefIdeal.τ).loc Cert.AttendBackRefIdeal.main_arg3))).1 = (fun _ => 1#1)
    ∧ (Cert.Pre_finite_attend.fn (F := Ideal) (m ((c.tc : Thread Cert.AttendBackRefIdeal.nD Cert.AttendBackRefIdeal.τ).loc Cert.AttendBackRefIdeal.main_arg0)) (m ((c.tc : Thread Cert.AttendBackRefIdeal.nD Cert.AttendBackRefIdeal.τ).loc Cert.AttendBackRefIdeal.main_arg1)) (m ((c.tc : Thread Cert.AttendBackRefIdeal.nD Cert.AttendBackRefIdeal.τ).loc Cert.AttendBackRefIdeal.main_arg2)) (m ((c.tc : Thread Cert.AttendBackRefIdeal.nD Cert.AttendBackRefIdeal.τ).loc Cert.AttendBackRefIdeal.main_arg3))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeBack (m : (ℓ : Loc Cert.MergeBack.nD Cert.MergeBack.τ Cert.MergeBack.sig) → Buf (Elt Bits) ℓ) : Prop :=
  True

def Pre_MergeBackIdeal (m : (ℓ : Loc Cert.MergeBackIdeal.nD Cert.MergeBackIdeal.τ Cert.MergeBackIdeal.sig) → Buf (Elt Ideal) ℓ) : Prop :=
  True

def Pre_MergeBackRefIdeal (m : (ℓ : Loc Cert.MergeBackRefIdeal.nD Cert.MergeBackRefIdeal.τ Cert.MergeBackRefIdeal.sig) → Buf (Elt Ideal) ℓ) : Prop :=
  True

def Pre_LnHalf (m : (ℓ : Loc Cert.LnHalf.nD Cert.LnHalf.τ Cert.LnHalf.sig) → Buf (Elt Bits) ℓ) : Prop :=
  True

def Pre_LnHalfIdeal (m : (ℓ : Loc Cert.LnHalfIdeal.nD Cert.LnHalfIdeal.τ Cert.LnHalfIdeal.sig) → Buf (Elt Ideal) ℓ) : Prop :=
  True

def Pre_LnHalfRefIdeal (m : (ℓ : Loc Cert.LnHalfRefIdeal.nD Cert.LnHalfRefIdeal.τ Cert.LnHalfRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnRefIdeal (m : (ℓ : Loc Cert.LnRefIdeal.nD Cert.LnRefIdeal.τ Cert.LnRefIdeal.sig) → Buf (Elt Ideal) ℓ) : Prop :=
  True

def Pre_LnBack (m : (ℓ : Loc Cert.LnBack.nD Cert.LnBack.τ Cert.LnBack.sig) → Buf (Elt Bits) ℓ) : Prop :=
  True

def Pre_LnBackIdeal (m : (ℓ : Loc Cert.LnBackIdeal.nD Cert.LnBackIdeal.τ Cert.LnBackIdeal.sig) → Buf (Elt Ideal) ℓ) : Prop :=
  True

def Pre_LnBackIdeal_finite_ln [hPre_finite_ln : Cert.Pre_finite_ln.Facts] (m : (ℓ : Loc Cert.LnBackIdeal.nD Cert.LnBackIdeal.τ Cert.LnBackIdeal.sig) → Buf (Elt Ideal) ℓ) : Prop :=
  ∀ c : Dev Cert.LnBackIdeal.nD,
    (Cert.Pre_finite_ln.fn (F := Ideal) (m ((c.tc : Thread Cert.LnBackIdeal.nD Cert.LnBackIdeal.τ).loc Cert.LnBackIdeal.main_arg0)) (m ((c.tc : Thread Cert.LnBackIdeal.nD Cert.LnBackIdeal.τ).loc Cert.LnBackIdeal.main_arg1)) (m ((c.tc : Thread Cert.LnBackIdeal.nD Cert.LnBackIdeal.τ).loc Cert.LnBackIdeal.main_arg2)) (m ((c.tc : Thread Cert.LnBackIdeal.nD Cert.LnBackIdeal.τ).loc Cert.LnBackIdeal.main_arg3))).1 = (fun _ => 1#1)
    ∧ (Cert.Pre_finite_ln.fn (F := Ideal) (m ((c.tc : Thread Cert.LnBackIdeal.nD Cert.LnBackIdeal.τ).loc Cert.LnBackIdeal.main_arg0)) (m ((c.tc : Thread Cert.LnBackIdeal.nD Cert.LnBackIdeal.τ).loc Cert.LnBackIdeal.main_arg1)) (m ((c.tc : Thread Cert.LnBackIdeal.nD Cert.LnBackIdeal.τ).loc Cert.LnBackIdeal.main_arg2)) (m ((c.tc : Thread Cert.LnBackIdeal.nD Cert.LnBackIdeal.τ).loc Cert.LnBackIdeal.main_arg3))).2.1 = (fun _ => 1#1)
    ∧ (Cert.Pre_finite_ln.fn (F := Ideal) (m ((c.tc : Thread Cert.LnBackIdeal.nD Cert.LnBackIdeal.τ).loc Cert.LnBackIdeal.main_arg0)) (m ((c.tc : Thread Cert.LnBackIdeal.nD Cert.LnBackIdeal.τ).loc Cert.LnBackIdeal.main_arg1)) (m ((c.tc : Thread Cert.LnBackIdeal.nD Cert.LnBackIdeal.τ).loc Cert.LnBackIdeal.main_arg2)) (m ((c.tc : Thread Cert.LnBackIdeal.nD Cert.LnBackIdeal.τ).loc Cert.LnBackIdeal.main_arg3))).2.2 = (fun _ => 1#1)

def Pre_LnBackRefIdeal (m : (ℓ : Loc Cert.LnBackRefIdeal.nD Cert.LnBackRefIdeal.τ Cert.LnBackRefIdeal.sig) → Buf (Elt Ideal) ℓ) : Prop :=
  True

def Pre_LnBackRefIdeal_finite_ln [hPre_finite_ln : Cert.Pre_finite_ln.Facts] (m : (ℓ : Loc Cert.LnBackRefIdeal.nD Cert.LnBackRefIdeal.τ Cert.LnBackRefIdeal.sig) → Buf (Elt Ideal) ℓ) : Prop :=
  ∀ c : Dev Cert.LnBackRefIdeal.nD,
    (Cert.Pre_finite_ln.fn (F := Ideal) (m ((c.tc : Thread Cert.LnBackRefIdeal.nD Cert.LnBackRefIdeal.τ).loc Cert.LnBackRefIdeal.main_arg0)) (m ((c.tc : Thread Cert.LnBackRefIdeal.nD Cert.LnBackRefIdeal.τ).loc Cert.LnBackRefIdeal.main_arg1)) (m ((c.tc : Thread Cert.LnBackRefIdeal.nD Cert.LnBackRefIdeal.τ).loc Cert.LnBackRefIdeal.main_arg2)) (m ((c.tc : Thread Cert.LnBackRefIdeal.nD Cert.LnBackRefIdeal.τ).loc Cert.LnBackRefIdeal.main_arg3))).1 = (fun _ => 1#1)
    ∧ (Cert.Pre_finite_ln.fn (F := Ideal) (m ((c.tc : Thread Cert.LnBackRefIdeal.nD Cert.LnBackRefIdeal.τ).loc Cert.LnBackRefIdeal.main_arg0)) (m ((c.tc : Thread Cert.LnBackRefIdeal.nD Cert.LnBackRefIdeal.τ).loc Cert.LnBackRefIdeal.main_arg1)) (m ((c.tc : Thread Cert.LnBackRefIdeal.nD Cert.LnBackRefIdeal.τ).loc Cert.LnBackRefIdeal.main_arg2)) (m ((c.tc : Thread Cert.LnBackRefIdeal.nD Cert.LnBackRefIdeal.τ).loc Cert.LnBackRefIdeal.main_arg3))).2.1 = (fun _ => 1#1)
    ∧ (Cert.Pre_finite_ln.fn (F := Ideal) (m ((c.tc : Thread Cert.LnBackRefIdeal.nD Cert.LnBackRefIdeal.τ).loc Cert.LnBackRefIdeal.main_arg0)) (m ((c.tc : Thread Cert.LnBackRefIdeal.nD Cert.LnBackRefIdeal.τ).loc Cert.LnBackRefIdeal.main_arg1)) (m ((c.tc : Thread Cert.LnBackRefIdeal.nD Cert.LnBackRefIdeal.τ).loc Cert.LnBackRefIdeal.main_arg2)) (m ((c.tc : Thread Cert.LnBackRefIdeal.nD Cert.LnBackRefIdeal.τ).loc Cert.LnBackRefIdeal.main_arg3))).2.2 = (fun _ => 1#1)

def Pre_LnLast (m : (ℓ : Loc Cert.LnLast.nD Cert.LnLast.τ Cert.LnLast.sig) → Buf (Elt Bits) ℓ) : Prop :=
  True

def Pre_LnLastIdeal (m : (ℓ : Loc Cert.LnLastIdeal.nD Cert.LnLastIdeal.τ Cert.LnLastIdeal.sig) → Buf (Elt Ideal) ℓ) : Prop :=
  True

def Pre_LnLastIdeal_finite_last [hPre_finite_last : Cert.Pre_finite_last.Facts] (m : (ℓ : Loc Cert.LnLastIdeal.nD Cert.LnLastIdeal.τ Cert.LnLastIdeal.sig) → Buf (Elt Ideal) ℓ) : Prop :=
  ∀ c : Dev Cert.LnLastIdeal.nD,
    (Cert.Pre_finite_last.fn (F := Ideal) (m ((c.tc : Thread Cert.LnLastIdeal.nD Cert.LnLastIdeal.τ).loc Cert.LnLastIdeal.main_arg0)) (m ((c.tc : Thread Cert.LnLastIdeal.nD Cert.LnLastIdeal.τ).loc Cert.LnLastIdeal.main_arg1)) (m ((c.tc : Thread Cert.LnLastIdeal.nD Cert.LnLastIdeal.τ).loc Cert.LnLastIdeal.main_arg2))).1 = (fun _ => 1#1)
    ∧ (Cert.Pre_finite_last.fn (F := Ideal) (m ((c.tc : Thread Cert.LnLastIdeal.nD Cert.LnLastIdeal.τ).loc Cert.LnLastIdeal.main_arg0)) (m ((c.tc : Thread Cert.LnLastIdeal.nD Cert.LnLastIdeal.τ).loc Cert.LnLastIdeal.main_arg1)) (m ((c.tc : Thread Cert.LnLastIdeal.nD Cert.LnLastIdeal.τ).loc Cert.LnLastIdeal.main_arg2))).2 = (fun _ => 1#1)

def Pre_LnLastRefIdeal (m : (ℓ : Loc Cert.LnLastRefIdeal.nD Cert.LnLastRefIdeal.τ Cert.LnLastRefIdeal.sig) → Buf (Elt Ideal) ℓ) : Prop :=
  True

def Pre_LnLastRefIdeal_finite_last [hPre_finite_last : Cert.Pre_finite_last.Facts] (m : (ℓ : Loc Cert.LnLastRefIdeal.nD Cert.LnLastRefIdeal.τ Cert.LnLastRefIdeal.sig) → Buf (Elt Ideal) ℓ) : Prop :=
  ∀ c : Dev Cert.LnLastRefIdeal.nD,
    (Cert.Pre_finite_last.fn (F := Ideal) (m ((c.tc : Thread Cert.LnLastRefIdeal.nD Cert.LnLastRefIdeal.τ).loc Cert.LnLastRefIdeal.main_arg0)) (m ((c.tc : Thread Cert.LnLastRefIdeal.nD Cert.LnLastRefIdeal.τ).loc Cert.LnLastRefIdeal.main_arg1)) (m ((c.tc : Thread Cert.LnLastRefIdeal.nD Cert.LnLastRefIdeal.τ).loc Cert.LnLastRefIdeal.main_arg2))).1 = (fun _ => 1#1)
    ∧ (Cert.Pre_finite_last.fn (F := Ideal) (m ((c.tc : Thread Cert.LnLastRefIdeal.nD Cert.LnLastRefIdeal.τ).loc Cert.LnLastRefIdeal.main_arg0)) (m ((c.tc : Thread Cert.LnLastRefIdeal.nD Cert.LnLastRefIdeal.τ).loc Cert.LnLastRefIdeal.main_arg1)) (m ((c.tc : Thread Cert.LnLastRefIdeal.nD Cert.LnLastRefIdeal.τ).loc Cert.LnLastRefIdeal.main_arg2))).2 = (fun _ => 1#1)

def Pre_LnMem (m : (ℓ : Loc Cert.LnMem.nD Cert.LnMem.τ Cert.LnMem.sig) → Buf (Elt Bits) ℓ) : Prop :=
  True

def Pre_LnMemIdeal (m : (ℓ : Loc Cert.LnMemIdeal.nD Cert.LnMemIdeal.τ Cert.LnMemIdeal.sig) → Buf (Elt Ideal) ℓ) : Prop :=
  True

def Pre_LnMemRefIdeal (m : (ℓ : Loc Cert.LnMemRefIdeal.nD Cert.LnMemRefIdeal.τ Cert.LnMemRefIdeal.sig) → Buf (Elt Ideal) ℓ) : Prop :=
  True

def Pre_LnMemBack (m : (ℓ : Loc Cert.LnMemBack.nD Cert.LnMemBack.τ Cert.LnMemBack.sig) → Buf (Elt Bits) ℓ) : Prop :=
  True

def Pre_LnMemBackIdeal (m : (ℓ : Loc Cert.LnMemBackIdeal.nD Cert.LnMemBackIdeal.τ Cert.LnMemBackIdeal.sig) → Buf (Elt Ideal) ℓ) : Prop :=
  True

def Pre_LnMemBackIdeal_finite_mem [hPre_finite_mem : Cert.Pre_finite_mem.Facts] (m : (ℓ : Loc Cert.LnMemBackIdeal.nD Cert.LnMemBackIdeal.τ Cert.LnMemBackIdeal.sig) → Buf (Elt Ideal) ℓ) : Prop :=
  ∀ c : Dev Cert.LnMemBackIdeal.nD,
    (Cert.Pre_finite_mem.fn (F := Ideal) (m ((c.tc : Thread Cert.LnMemBackIdeal.nD Cert.LnMemBackIdeal.τ).loc Cert.LnMemBackIdeal.main_arg0)) (m ((c.tc : Thread Cert.LnMemBackIdeal.nD Cert.LnMemBackIdeal.τ).loc Cert.LnMemBackIdeal.main_arg1)) (m ((c.tc : Thread Cert.LnMemBackIdeal.nD Cert.LnMemBackIdeal.τ).loc Cert.LnMemBackIdeal.main_arg2))).1 = (fun _ => 1#1)
    ∧ (Cert.Pre_finite_mem.fn (F := Ideal) (m ((c.tc : Thread Cert.LnMemBackIdeal.nD Cert.LnMemBackIdeal.τ).loc Cert.LnMemBackIdeal.main_arg0)) (m ((c.tc : Thread Cert.LnMemBackIdeal.nD Cert.LnMemBackIdeal.τ).loc Cert.LnMemBackIdeal.main_arg1)) (m ((c.tc : Thread Cert.LnMemBackIdeal.nD Cert.LnMemBackIdeal.τ).loc Cert.LnMemBackIdeal.main_arg2))).2 = (fun _ => 1#1)

def Pre_LnMemBackRefIdeal (m : (ℓ : Loc Cert.LnMemBackRefIdeal.nD Cert.LnMemBackRefIdeal.τ Cert.LnMemBackRefIdeal.sig) → Buf (Elt Ideal) ℓ) : Prop :=
  True

def Pre_LnMemBackRefIdeal_finite_mem [hPre_finite_mem : Cert.Pre_finite_mem.Facts] (m : (ℓ : Loc Cert.LnMemBackRefIdeal.nD Cert.LnMemBackRefIdeal.τ Cert.LnMemBackRefIdeal.sig) → Buf (Elt Ideal) ℓ) : Prop :=
  ∀ c : Dev Cert.LnMemBackRefIdeal.nD,
    (Cert.Pre_finite_mem.fn (F := Ideal) (m ((c.tc : Thread Cert.LnMemBackRefIdeal.nD Cert.LnMemBackRefIdeal.τ).loc Cert.LnMemBackRefIdeal.main_arg0)) (m ((c.tc : Thread Cert.LnMemBackRefIdeal.nD Cert.LnMemBackRefIdeal.τ).loc Cert.LnMemBackRefIdeal.main_arg1)) (m ((c.tc : Thread Cert.LnMemBackRefIdeal.nD Cert.LnMemBackRefIdeal.τ).loc Cert.LnMemBackRefIdeal.main_arg2))).1 = (fun _ => 1#1)
    ∧ (Cert.Pre_finite_mem.fn (F := Ideal) (m ((c.tc : Thread Cert.LnMemBackRefIdeal.nD Cert.LnMemBackRefIdeal.τ).loc Cert.LnMemBackRefIdeal.main_arg0)) (m ((c.tc : Thread Cert.LnMemBackRefIdeal.nD Cert.LnMemBackRefIdeal.τ).loc Cert.LnMemBackRefIdeal.main_arg1)) (m ((c.tc : Thread Cert.LnMemBackRefIdeal.nD Cert.LnMemBackRefIdeal.τ).loc Cert.LnMemBackRefIdeal.main_arg2))).2 = (fun _ => 1#1)

def Pre_HeadNorm (m : (ℓ : Loc Cert.HeadNorm.nD Cert.HeadNorm.τ Cert.HeadNorm.sig) → Buf (Elt Bits) ℓ) : Prop :=
  True

def Pre_HeadNormIdeal (m : (ℓ : Loc Cert.HeadNormIdeal.nD Cert.HeadNormIdeal.τ Cert.HeadNormIdeal.sig) → Buf (Elt Ideal) ℓ) : Prop :=
  True

def Pre_HeadNormRefIdeal (m : (ℓ : Loc Cert.HeadNormRefIdeal.nD Cert.HeadNormRefIdeal.τ Cert.HeadNormRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2)
      ∧ r.2.mem ((c.tc : Thread Cert.Dact.nD Cert.Dact.τ).loc Cert.Dact.main_arg3) = m ((c.tc : Thread Cert.Dact.nD Cert.Dact.τ).loc Cert.Dact.main_arg3))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactIdeal_pre_finite_dact [hDactIdeal : Cert.DactIdeal.Facts] [hPre_finite_dact : Cert.Pre_finite_dact.Facts] : Prop :=
  ∀ (m : (ℓ : Loc Cert.DactIdeal.nD Cert.DactIdeal.τ Cert.DactIdeal.sig) → Buf (Elt Ideal) ℓ) (g : Dev Cert.DactIdeal.nD → PrngReg), Pre_DactIdeal_finite_dact m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
      ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_DactRefIdeal_pre_finite_dact [hDactRefIdeal : Cert.DactRefIdeal.Facts] [hPre_finite_dact : Cert.Pre_finite_dact.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_finite_dact m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2)
      ∧ r.2.mem ((c.tc : Thread Cert.DactRefIdeal.nD Cert.DactRefIdeal.τ).loc Cert.DactRefIdeal.main_arg3) = m ((c.tc : Thread Cert.DactRefIdeal.nD Cert.DactRefIdeal.τ).loc Cert.DactRefIdeal.main_arg3))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ r.2.sem = fun _ => 0)

def quiescent_DwdRefIdeal [hDwdRefIdeal : Cert.DwdRefIdeal.Facts] : Prop :=
  ∀ (m : (ℓ : Loc Cert.DwdRefIdeal.nD Cert.DwdRefIdeal.τ Cert.DwdRefIdeal.sig) → Buf (Elt Ideal) ℓ) (g : Dev Cert.DwdRefIdeal.nD → PrngReg), Pre_DwdRefIdeal m →
    θ_run (Cert.DwdRefIdeal.defs (F := Ideal)) (onTc (τ := Cert.DwdRefIdeal.τ) (Cert.DwdRefIdeal.main (F := Ideal))) ⟨m, fun _ => 0, g⟩ (fun r => (∀ c : Dev Cert.DwdRefIdeal.nD,
      r.2.mem ((c.tc : Thread Cert.DwdRefIdeal.nD Cert.DwdRefIdeal.τ).loc Cert.DwdRefIdeal.main_arg0) = m ((c.tc : Thread Cert.DwdRefIdeal.nD Cert.DwdRefIdeal.τ).loc Cert.DwdRefIdeal.main_arg0)
      ∧ r.2.mem ((c.tc : Thread Cert.DwdRefIdeal.nD Cert.DwdRefIdeal.τ).loc Cert.DwdRefIdeal.main_arg1) = m ((c.tc : Thread Cert.DwdRefIdeal.nD Cert.DwdRefIdeal.τ).loc Cert.DwdRefIdeal.main_arg1))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_Dxg [hDxg : Cert.Dxg.Facts] : Prop :=
  ∀ (m : (ℓ : Loc Cert.Dxg.nD Cert.Dxg.τ Cert.Dxg.sig) → Buf (Elt Bits) ℓ) (g : Dev Cert.Dxg.nD → PrngReg), Pre_Dxg m →
    θ_run (Cert.Dxg.defs (F := Bits)) (onTc (τ := Cert.Dxg.τ) (Cert.Dxg.main (F := Bits))) ⟨m, fun _ => 0, g⟩ (fun r => (∀ c : Dev Cert.Dxg.nD,
      r.2.mem ((c.tc : Thread Cert.Dxg.nD Cert.Dxg.τ).loc Cert.Dxg.main_arg0) = m ((c.tc : Thread Cert.Dxg.nD Cert.Dxg.τ).loc Cert.Dxg.main_arg0)
      ∧ r.2.mem ((c.tc : Thread Cert.Dxg.nD Cert.Dxg.τ).loc Cert.Dxg.main_arg1) = m ((c.tc : Thread Cert.Dxg.nD Cert.Dxg.τ).loc Cert.Dxg.main_arg1))
      ∧ r.2.sem = fun _ => 0)

def quiescent_DxgIdeal [hDxgIdeal : Cert.DxgIdeal.Facts] : Prop :=
  ∀ (m : (ℓ : Loc Cert.DxgIdeal.nD Cert.DxgIdeal.τ Cert.DxgIdeal.sig) → Buf (Elt Ideal) ℓ) (g : Dev Cert.DxgIdeal.nD → PrngReg), Pre_DxgIdeal m →
    θ_run (Cert.DxgIdeal.defs (F := Ideal)) (onTc (τ := Cert.DxgIdeal.τ) (Cert.DxgIdeal.main (F := Ideal))) ⟨m, fun _ => 0, g⟩ (fun r => (∀ c : Dev Cert.DxgIdeal.nD,
      r.2.mem ((c.tc : Thread Cert.DxgIdeal.nD Cert.DxgIdeal.τ).loc Cert.DxgIdeal.main_arg0) = m ((c.tc : Thread Cert.DxgIdeal.nD Cert.DxgIdeal.τ).loc Cert.DxgIdeal.main_arg0)
      ∧ r.2.mem ((c.tc : Thread Cert.DxgIdeal.nD Cert.DxgIdeal.τ).loc Cert.DxgIdeal.main_arg1) = m ((c.tc : Thread Cert.DxgIdeal.nD Cert.DxgIdeal.τ).loc Cert.DxgIdeal.main_arg1))
      ∧ r.2.sem = fun _ => 0)

def quiescent_DxgRefIdeal [hDxgRefIdeal : Cert.DxgRefIdeal.Facts] : Prop :=
  ∀ (m : (ℓ : Loc Cert.DxgRefIdeal.nD Cert.DxgRefIdeal.τ Cert.DxgRefIdeal.sig) → Buf (Elt Ideal) ℓ) (g : Dev Cert.DxgRefIdeal.nD → PrngReg), Pre_DxgRefIdeal m →
    θ_run (Cert.DxgRefIdeal.defs (F := Ideal)) (onTc (τ := Cert.DxgRefIdeal.τ) (Cert.DxgRefIdeal.main (F := Ideal))) ⟨m, fun _ => 0, g⟩ (fun r => (∀ c : Dev Cert.DxgRefIdeal.nD,
      r.2.mem ((c.tc : Thread Cert.DxgRefIdeal.nD Cert.DxgRefIdeal.τ).loc Cert.DxgRefIdeal.main_arg0) = m ((c.tc : Thread Cert.DxgRefIdeal.nD Cert.DxgRefIdeal.τ).loc Cert.DxgRefIdeal.main_arg0)
      ∧ r.2.mem ((c.tc : Thread Cert.DxgRefIdeal.nD Cert.DxgRefIdeal.τ).loc Cert.DxgRefIdeal.main_arg1) = m ((c.tc : Thread Cert.DxgRefIdeal.nD Cert.DxgRefIdeal.τ).loc Cert.DxgRefIdeal.main_arg1))
      ∧ r.2.sem = fun _ => 0)

def quiescent_Dxu [hDxu : Cert.Dxu.Facts] : Prop :=
  ∀ (m : (ℓ : Loc Cert.Dxu.nD Cert.Dxu.τ Cert.Dxu.sig) → Buf (Elt Bits) ℓ) (g : Dev Cert.Dxu.nD → PrngReg), Pre_Dxu m →
    θ_run (Cert.Dxu.defs (F := Bits)) (onTc (τ := Cert.Dxu.τ) (Cert.Dxu.main (F := Bits))) ⟨m, fun _ => 0, g⟩ (fun r => (∀ c : Dev Cert.Dxu.nD,
      r.2.mem ((c.tc : Thread Cert.Dxu.nD Cert.Dxu.τ).loc Cert.Dxu.main_arg0) = m ((c.tc : Thread Cert.Dxu.nD Cert.Dxu.τ).loc Cert.Dxu.main_arg0)
      ∧ r.2.mem ((c.tc : Thread Cert.Dxu.nD Cert.Dxu.τ).loc Cert.Dxu.main_arg1) = m ((c.tc : Thread Cert.Dxu.nD Cert.Dxu.τ).loc Cert.Dxu.main_arg1)
      ∧ r.2.mem ((c.tc : Thread Cert.Dxu.nD Cert.Dxu.τ).loc Cert.Dxu.main_arg2) = m ((c.tc : Thread Cert.Dxu.nD Cert.Dxu.τ).loc Cert.Dxu.main_arg2)
      ∧ r.2.mem ((c.tc : Thread Cert.Dxu.nD Cert.Dxu.τ).loc Cert.Dxu.main_arg3) = m ((c.tc : Thread Cert.Dxu.nD Cert.Dxu.τ).loc Cert.Dxu.main_arg3))
      ∧ r.2.sem = fun _ => 0)

def quiescent_DxuIdeal [hDxuIdeal : Cert.DxuIdeal.Facts] : Prop :=
  ∀ (m : (ℓ : Loc Cert.DxuIdeal.nD Cert.DxuIdeal.τ Cert.DxuIdeal.sig) → Buf (Elt Ideal) ℓ) (g : Dev Cert.DxuIdeal.nD → PrngReg), Pre_DxuIdeal m →
    θ_run (Cert.DxuIdeal.defs (F := Ideal)) (onTc (τ := Cert.DxuIdeal.τ) (Cert.DxuIdeal.main (F := Ideal))) ⟨m, fun _ => 0, g⟩ (fun r => (∀ c : Dev Cert.DxuIdeal.nD,
      r.2.mem ((c.tc : Thread Cert.DxuIdeal.nD Cert.DxuIdeal.τ).loc Cert.DxuIdeal.main_arg0) = m ((c.tc : Thread Cert.DxuIdeal.nD Cert.DxuIdeal.τ).loc Cert.DxuIdeal.main_arg0)
      ∧ r.2.mem ((c.tc : Thread Cert.DxuIdeal.nD Cert.DxuIdeal.τ).loc Cert.DxuIdeal.main_arg1) = m ((c.tc : Thread Cert.DxuIdeal.nD Cert.DxuIdeal.τ).loc Cert.DxuIdeal.main_arg1)
      ∧ r.2.mem ((c.tc : Thread Cert.DxuIdeal.nD Cert.DxuIdeal.τ).loc Cert.DxuIdeal.main_arg2) = m ((c.tc : Thread Cert.DxuIdeal.nD Cert.DxuIdeal.τ).loc Cert.DxuIdeal.main_arg2)
      ∧ r.2.mem ((c.tc : Thread Cert.DxuIdeal.nD Cert.DxuIdeal.τ).loc Cert.DxuIdeal.main_arg3) = m ((c.tc : Thread Cert.DxuIdeal.nD Cert.DxuIdeal.τ).loc Cert.DxuIdeal.main_arg3))
      ∧ r.2.sem = fun _ => 0)

def quiescent_DxuRefIdeal [hDxuRefIdeal : Cert.DxuRefIdeal.Facts] : Prop :=
  ∀ (m : (ℓ : Loc Cert.DxuRefIdeal.nD Cert.DxuRefIdeal.τ Cert.DxuRefIdeal.sig) → Buf (Elt Ideal) ℓ) (g : Dev Cert.DxuRefIdeal.nD → PrngReg), Pre_DxuRefIdeal m →
    θ_run (Cert.DxuRefIdeal.defs (F := Ideal)) (onTc (τ := Cert.DxuRefIdeal.τ) (Cert.DxuRefIdeal.main (F := Ideal))) ⟨m, fun _ => 0, g⟩ (fun r => (∀ c : Dev Cert.DxuRefIdeal.nD,
      r.2.mem ((c.tc : Thread Cert.DxuRefIdeal.nD Cert.DxuRefIdeal.τ).loc Cert.DxuRefIdeal.main_arg0) = m ((c.tc : Thread Cert.DxuRefIdeal.nD Cert.DxuRefIdeal.τ).loc Cert.DxuRefIdeal.main_arg0)
      ∧ r.2.mem ((c.tc : Thread Cert.DxuRefIdeal.nD Cert.DxuRefIdeal.τ).loc Cert.DxuRefIdeal.main_arg1) = m ((c.tc : Thread Cert.DxuRefIdeal.nD Cert.DxuRefIdeal.τ).loc Cert.DxuRefIdeal.main_arg1)
      ∧ r.2.mem ((c.tc : Thread Cert.DxuRefIdeal.nD Cert.DxuRefIdeal.τ).loc Cert.DxuRefIdeal.main_arg2) = m ((c.tc : Thread Cert.DxuRefIdeal.nD Cert.DxuRefIdeal.τ).loc Cert.DxuRefIdeal.main_arg2)
      ∧ r.2.mem ((c.tc : Thread Cert.DxuRefIdeal.nD Cert.DxuRefIdeal.τ).loc Cert.DxuRefIdeal.main_arg3) = m ((c.tc : Thread Cert.DxuRefIdeal.nD Cert.DxuRefIdeal.τ).loc Cert.DxuRefIdeal.main_arg3))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1)
      ∧ r.2.mem ((c.tc : Thread Cert.Gu.nD Cert.Gu.τ).loc Cert.Gu.main_arg2) = m ((c.tc : Thread Cert.Gu.nD Cert.Gu.τ).loc Cert.Gu.main_arg2))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
      ∧ r.2.mem ((c.tc : Thread Cert.GuIdeal.nD Cert.GuIdeal.τ).loc Cert.GuIdeal.main_arg2) = m ((c.tc : Thread Cert.GuIdeal.nD Cert.GuIdeal.τ).loc Cert.GuIdeal.main_arg2))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1)
      ∧ r.2.mem ((c.tc : Thread Cert.GuRefIdeal.nD Cert.GuRefIdeal.τ).loc Cert.GuRefIdeal.main_arg2) = m ((c.tc : Thread Cert.GuRefIdeal.nD Cert.GuRefIdeal.τ).loc Cert.GuRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_InQkv [hInQkv : Cert.InQkv.Facts] : Prop :=
  ∀ (m : (ℓ : Loc Cert.InQkv.nD Cert.InQkv.τ Cert.InQkv.sig) → Buf (Elt Bits) ℓ) (g : Dev Cert.InQkv.nD → PrngReg), Pre_InQkv m →
    θ_run (Cert.InQkv.defs (F := Bits)) (onTc (τ := Cert.InQkv.τ) (Cert.InQkv.main (F := Bits))) ⟨m, fun _ => 0, g⟩ (fun r => (∀ c : Dev Cert.InQkv.nD,
      r.2.mem ((c.tc : Thread Cert.InQkv.nD Cert.InQkv.τ).loc Cert.InQkv.main_arg0) = m ((c.tc : Thread Cert.InQkv.nD Cert.InQkv.τ).loc Cert.InQkv.main_arg0)
      ∧ r.2.mem ((c.tc : Thread Cert.InQkv.nD Cert.InQkv.τ).loc Cert.InQkv.main_arg1) = m ((c.tc : Thread Cert.InQkv.nD Cert.InQkv.τ).loc Cert.InQkv.main_arg1))
      ∧ r.2.sem = fun _ => 0)

def quiescent_InQkvIdeal [hInQkvIdeal : Cert.InQkvIdeal.Facts] : Prop :=
  ∀ (m : (ℓ : Loc Cert.InQkvIdeal.nD Cert.InQkvIdeal.τ Cert.InQkvIdeal.sig) → Buf (Elt Ideal) ℓ) (g : Dev Cert.InQkvIdeal.nD → PrngReg), Pre_InQkvIdeal m →
    θ_run (Cert.InQkvIdeal.defs (F := Ideal)) (onTc (τ := Cert.InQkvIdeal.τ) (Cert.InQkvIdeal.main (F := Ideal))) ⟨m, fun _ => 0, g⟩ (fun r => (∀ c : Dev Cert.InQkvIdeal.nD,
      r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
      ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ r.2.sem = fun _ => 0)

def quiescent_InQkvRefIdeal [hInQkvRefIdeal : Cert.InQkvRefIdeal.Facts] : Prop :=
  ∀ (m : (ℓ : Loc Cert.InQkvRefIdeal.nD Cert.InQkvRefIdeal.τ Cert.InQkvRefIdeal.sig) → Buf (Elt Ideal) ℓ) (g : Dev Cert.InQkvRefIdeal.nD → PrngReg), Pre_InQkvRefIdeal m →
    θ_run (Cert.InQkvRefIdeal.defs (F := Ideal)) (onTc (τ := Cert.InQkvRefIdeal.τ) (Cert.InQkvRefIdeal.main (F := Ideal))) ⟨m, fun _ => 0, g⟩ (fun r => (∀ c : Dev Cert.InQkvRefIdeal.nD,
      r.2.mem ((c.tc : Thread Cert.InQkvRefIdeal.nD Cert.InQkvRefIdeal.τ).loc Cert.InQkvRefIdeal.main_arg0) = m ((c.tc : Thread Cert.InQkvRefIdeal.nD Cert.InQkvRefIdeal.τ).loc Cert.InQkvRefIdeal.main_arg0)
      ∧ r.2.mem ((c.tc : Thread Cert.InQkvRefIdeal.nD Cert.InQkvRefIdeal.τ).loc Cert.InQkvRefIdeal.main_arg1) = m ((c.tc : Thread Cert.InQkvRefIdeal.nD Cert.InQkvRefIdeal.τ).loc Cert.InQkvRefIdeal.main_arg1))
      ∧ r.2.sem = fun _ => 0)

def quiescent_InGates [hInGates : Cert.InGates.Facts] : Prop :=
  ∀ (m : (ℓ : Loc Cert.InGates.nD Cert.InGates.τ Cert.InGates.sig) → Buf (Elt Bits) ℓ) (g : Dev Cert.InGates.nD → PrngReg), Pre_InGates m →
    θ_run (Cert.InGates.defs (F := Bits)) (onTc (τ := Cert.InGates.τ) (Cert.InGates.main (F := Bits))) ⟨m, fun _ => 0, g⟩ (fun r => (∀ c : Dev Cert.InGates.nD,
      r.2.mem ((c.tc : Thread Cert.InGates.nD Cert.InGates.τ).loc Cert.InGates.main_arg0) = m ((c.tc : Thread Cert.InGates.nD Cert.InGates.τ).loc Cert.InGates.main_arg0)
      ∧ r.2.mem ((c.tc : Thread Cert.InGates.nD Cert.InGates.τ).loc Cert.InGates.main_arg1) = m ((c.tc : Thread Cert.InGates.nD Cert.InGates.τ).loc Cert.InGates.main_arg1))
      ∧ r.2.sem = fun _ => 0)

def quiescent_InGatesIdeal [hInGatesIdeal : Cert.InGatesIdeal.Facts] : Prop :=
  ∀ (m : (ℓ : Loc Cert.InGatesIdeal.nD Cert.InGatesIdeal.τ Cert.InGatesIdeal.sig) → Buf (Elt Ideal) ℓ) (g : Dev Cert.InGatesIdeal.nD → PrngReg), Pre_InGatesIdeal m →
    θ_run (Cert.InGatesIdeal.defs (F := Ideal)) (onTc (τ := Cert.InGatesIdeal.τ) (Cert.InGatesIdeal.main (F := Ideal))) ⟨m, fun _ => 0, g⟩ (fun r => (∀ c : Dev Cert.InGatesIdeal.nD,
      r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
      ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ r.2.sem = fun _ => 0)

def quiescent_InGatesRefIdeal [hInGatesRefIdeal : Cert.InGatesRefIdeal.Facts] : Prop :=
  ∀ (m : (ℓ : Loc Cert.InGatesRefIdeal.nD Cert.InGatesRefIdeal.τ Cert.InGatesRefIdeal.sig) → Buf (Elt Ideal) ℓ) (g : Dev Cert.InGatesRefIdeal.nD → PrngReg), Pre_InGatesRefIdeal m →
    θ_run (Cert.InGatesRefIdeal.defs (F := Ideal)) (onTc (τ := Cert.InGatesRefIdeal.τ) (Cert.InGatesRefIdeal.main (F := Ideal))) ⟨m, fun _ => 0, g⟩ (fun r => (∀ c : Dev Cert.InGatesRefIdeal.nD,
      r.2.mem ((c.tc : Thread Cert.InGatesRefIdeal.nD Cert.InGatesRefIdeal.τ).loc Cert.InGatesRefIdeal.main_arg0) = m ((c.tc : Thread Cert.InGatesRefIdeal.nD Cert.InGatesRefIdeal.τ).loc Cert.InGatesRefIdeal.main_arg0)
      ∧ r.2.mem ((c.tc : Thread Cert.InGatesRefIdeal.nD Cert.InGatesRefIdeal.τ).loc Cert.InGatesRefIdeal.main_arg1) = m ((c.tc : Thread Cert.InGatesRefIdeal.nD Cert.InGatesRefIdeal.τ).loc Cert.InGatesRefIdeal.main_arg1))
      ∧ r.2.sem = fun _ => 0)

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ r.2.sem = fun _ => 0)

def quiescent_InZRefIdeal [hInZRefIdeal : Cert.InZRefIdeal.Facts] : Prop :=
  ∀ (m : (ℓ : Loc Cert.InZRefIdeal.nD Cert.InZRefIdeal.τ Cert.InZRefIdeal.sig) → Buf (Elt Ideal) ℓ) (g : Dev Cert.InZRefIdeal.nD → PrngReg), Pre_InZRefIdeal m →
    θ_run (Cert.InZRefIdeal.defs (F := Ideal)) (onTc (τ := Cert.InZRefIdeal.τ) (Cert.InZRefIdeal.main (F := Ideal))) ⟨m, fun _ => 0, g⟩ (fun r => (∀ c : Dev Cert.InZRefIdeal.nD,
      r.2.mem ((c.tc : Thread Cert.InZRefIdeal.nD Cert.InZRefIdeal.τ).loc Cert.InZRefIdeal.main_arg0) = m ((c.tc : Thread Cert.InZRefIdeal.nD Cert.InZRefIdeal.τ).loc Cert.InZRefIdeal.main_arg0)
      ∧ r.2.mem ((c.tc : Thread Cert.InZRefIdeal.nD Cert.InZRefIdeal.τ).loc Cert.InZRefIdeal.main_arg1) = m ((c.tc : Thread Cert.InZRefIdeal.nD Cert.InZRefIdeal.τ).loc Cert.InZRefIdeal.main_arg1))
      ∧ r.2.sem = fun _ => 0)

def quiescent_InAb [hInAb : Cert.InAb.Facts] : Prop :=
  ∀ (m : (ℓ : Loc Cert.InAb.nD Cert.InAb.τ Cert.InAb.sig) → Buf (Elt Bits) ℓ) (g : Dev Cert.InAb.nD → PrngReg), Pre_InAb m →
    θ_run (Cert.InAb.defs (F := Bits)) (onTc (τ := Cert.InAb.τ) (Cert.InAb.main (F := Bits))) ⟨m, fun _ => 0, g⟩ (fun r => (∀ c : Dev Cert.InAb.nD,
      r.2.mem ((c.tc : Thread Cert.InAb.nD Cert.InAb.τ).loc Cert.InAb.main_arg0) = m ((c.tc : Thread Cert.InAb.nD Cert.InAb.τ).loc Cert.InAb.main_arg0)
      ∧ r.2.mem ((c.tc : Thread Cert.InAb.nD Cert.InAb.τ).loc Cert.InAb.main_arg1) = m ((c.tc : Thread Cert.InAb.nD Cert.InAb.τ).loc Cert.InAb.main_arg1))
      ∧ r.2.sem = fun _ => 0)

def quiescent_InAbIdeal [hInAbIdeal : Cert.InAbIdeal.Facts] : Prop :=
  ∀ (m : (ℓ : Loc Cert.InAbIdeal.nD Cert.InAbIdeal.τ Cert.InAbIdeal.sig) → Buf (Elt Ideal) ℓ) (g : Dev Cert.InAbIdeal.nD → PrngReg), Pre_InAbIdeal m →
    θ_run (Cert.InAbIdeal.defs (F := Ideal)) (onTc (τ := Cert.InAbIdeal.τ) (Cert.InAbIdeal.main (F := Ideal))) ⟨m, fun _ => 0, g⟩ (fun r => (∀ c : Dev Cert.InAbIdeal.nD,
      r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
      ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1))
      ∧ r.2.sem = fun _ => 0)

def quiescent_InAbRefIdeal [hInAbRefIdeal : Cert.InAbRefIdeal.Facts] : Prop :=
  ∀ (m : (ℓ : Loc Cert.InAbRefIdeal.nD Cert.InAbRefIdeal.τ Cert.InAbRefIdeal.sig) → Buf (Elt Ideal) ℓ) (g : Dev Cert.InAbRefIdeal.nD → PrngReg), Pre_InAbRefIdeal m →
    θ_run (Cert.InAbRefIdeal.defs (F := Ideal)) (onTc (τ := Cert.InAbRefIdeal.τ) (Cert.InAbRefIdeal.main (F := Ideal))) ⟨m, fun _ => 0, g⟩ (fun r => (∀ c : Dev Cert.InAbRefIdeal.nD,
      r.2.mem ((c.tc : Thread Cert.InAbRefIdeal.nD Cert.InAbRefIdeal.τ).loc Cert.InAbRefIdeal.main_arg0) = m ((c.tc : Thread Cert.InAbRefIdeal.nD Cert.InAbRefIdeal.τ).loc Cert.InAbRefIdeal.main_arg0)
      ∧ r.2.mem ((c.tc : Thread Cert.InAbRefIdeal.nD Cert.InAbRefIdeal.τ).loc Cert.InAbRefIdeal.main_arg1) = m ((c.tc : Thread Cert.InAbRefIdeal.nD Cert.InAbRefIdeal.τ).loc Cert.InAbRefIdeal.main_arg1))
      ∧ r.2.sem = fun _ => 0)

def quiescent_InDwA [hInDwA : Cert.InDwA.Facts] : Prop :=
  ∀ (m : (ℓ : Loc Cert.InDwA.nD Cert.InDwA.τ Cert.InDwA.sig) → Buf (Elt Bits) ℓ) (g : Dev Cert.InDwA.nD → PrngReg), Pre_InDwA m →
    θ_run (Cert.InDwA.defs (F := Bits)) (onTc (τ := Cert.InDwA.τ) (Cert.InDwA.main (F := Bits))) ⟨m, fun _ => 0, g⟩ (fun r => (∀ c : Dev Cert.InDwA.nD,
      r.2.mem ((c.tc : Thread Cert.InDwA.nD Cert.InDwA.τ).loc Cert.InDwA.main_arg0) = m ((c.tc : Thread Cert.InDwA.nD Cert.InDwA.τ).loc Cert.InDwA.main_arg0)
      ∧ r.2.mem ((c.tc : Thread Cert.InDwA.nD Cert.InDwA.τ).loc Cert.InDwA.main_arg1) = m ((c.tc : Thread Cert.InDwA.nD Cert.InDwA.τ).loc Cert.InDwA.main_arg1)
      ∧ r.2.mem ((c.tc : Thread Cert.InDwA.nD Cert.InDwA.τ).loc Cert.InDwA.main_arg2) = m ((c.tc : Thread Cert.InDwA.nD Cert.InDwA.τ).loc Cert.InDwA.main_arg2)
      ∧ r.2.mem ((c.tc : Thread Cert.InDwA.nD Cert.InDwA.τ).loc Cert.InDwA.main_arg3) = m ((c.tc : Thread Cert.InDwA.nD Cert.InDwA.τ).loc Cert.InDwA.main_arg3))
      ∧ r.2.sem = fun _ => 0)

def quiescent_InDwAIdeal [hInDwAIdeal : Cert.InDwAIdeal.Facts] : Prop :=
  ∀ (m : (ℓ : Loc Cert.InDwAIdeal.nD Cert.InDwAIdeal.τ Cert.InDwAIdeal.sig) → Buf (Elt Ideal) ℓ) (g : Dev Cert.InDwAIdeal.nD → PrngReg), Pre_InDwAIdeal m →
    θ_run (Cert.InDwAIdeal.defs (F := Ideal)) (onTc (τ := Cert.InDwAIdeal.τ) (Cert.InDwAIdeal.main (F := Ideal))) ⟨m, fun _ => 0, g⟩ (fun r => (∀ c : Dev Cert.InDwAIdeal.nD,
      r.2.mem ((c.tc : Thread Cert.InDwAIdeal.nD Cert.InDwAIdeal.τ).loc Cert.InDwAIdeal.main_arg0) = m ((c.tc : Thread Cert.InDwAIdeal.nD Cert.InDwAIdeal.τ).loc Cert.InDwAIdeal.main_arg0)
      ∧ r.2.mem ((c.tc : Thread Cert.InDwAIdeal.nD Cert.InDwAIdeal.τ).loc Cert.InDwAIdeal.main_arg1) = m ((c.tc : Thread Cert.InDwAIdeal.nD Cert.InDwAIdeal.τ).loc Cert.InDwAIdeal.main_arg1)
      ∧ r.2.mem ((c.tc : Thread Cert.InDwAIdeal.nD Cert.InDwAIdeal.τ).loc Cert.InDwAIdeal.main_arg2) = m ((c.tc : Thread Cert.InDwAIdeal.nD Cert.InDwAIdeal.τ).loc Cert.InDwAIdeal.main_arg2)
      ∧ r.2.mem ((c.tc : Thread Cert.InDwAIdeal.nD Cert.InDwAIdeal.τ).loc Cert.InDwAIdeal.main_arg3) = m ((c.tc : Thread Cert.InDwAIdeal.nD Cert.InDwAIdeal.τ).loc Cert.InDwAIdeal.main_arg3))
      ∧ r.2.sem = fun _ => 0)

def quiescent_InDwARefIdeal [hInDwARefIdeal : Cert.InDwARefIdeal.Facts] : Prop :=
  ∀ (m : (ℓ : Loc Cert.InDwARefIdeal.nD Cert.InDwARefIdeal.τ Cert.InDwARefIdeal.sig) → Buf (Elt Ideal) ℓ) (g : Dev Cert.InDwARefIdeal.nD → PrngReg), Pre_InDwARefIdeal m →
    θ_run (Cert.InDwARefIdeal.defs (F := Ideal)) (onTc (τ := Cert.InDwARefIdeal.τ) (Cert.InDwARefIdeal.main (F := Ideal))) ⟨m, fun _ => 0, g⟩ (fun r => (∀ c : Dev Cert.InDwARefIdeal.nD,
      r.2.mem ((c.tc : Thread Cert.InDwARefIdeal.nD Cert.InDwARefIdeal.τ).loc Cert.InDwARefIdeal.main_arg0) = m ((c.tc : Thread Cert.InDwARefIdeal.nD Cert.InDwARefIdeal.τ).loc Cert.InDwARefIdeal.main_arg0)
      ∧ r.2.mem ((c.tc : Thread Cert.InDwARefIdeal.nD Cert.InDwARefIdeal.τ).loc Cert.InDwARefIdeal.main_arg1) = m ((c.tc : Thread Cert.InDwARefIdeal.nD Cert.InDwARefIdeal.τ).loc Cert.InDwARefIdeal.main_arg1)
      ∧ r.2.mem ((c.tc : Thread Cert.InDwARefIdeal.nD Cert.InDwARefIdeal.τ).loc Cert.InDwARefIdeal.main_arg2) = m ((c.tc : Thread Cert.InDwARefIdeal.nD Cert.InDwARefIdeal.τ).loc Cert.InDwARefIdeal.main_arg2)
      ∧ r.2.mem ((c.tc : Thread Cert.InDwARefIdeal.nD Cert.InDwARefIdeal.τ).loc Cert.InDwARefIdeal.main_arg3) = m ((c.tc : Thread Cert.InDwARefIdeal.nD Cert.InDwARefIdeal.τ).loc Cert.InDwARefIdeal.main_arg3))
      ∧ r.2.sem = fun _ => 0)

def quiescent_InDwB [hInDwB : Cert.InDwB.Facts] : Prop :=
  ∀ (m : (ℓ : Loc Cert.InDwB.nD Cert.InDwB.τ Cert.InDwB.sig) → Buf (Elt Bits) ℓ) (g : Dev Cert.InDwB.nD → PrngReg), Pre_InDwB m →
    θ_run (Cert.InDwB.defs (F := Bits)) (onTc (τ := Cert.InDwB.τ) (Cert.InDwB.main (F := Bits))) ⟨m, fun _ => 0, g⟩ (fun r => (∀ c : Dev Cert.InDwB.nD,
      r.2.mem ((c.tc : Thread Cert.InDwB.nD Cert.InDwB.τ).loc Cert.InDwB.main_arg0) = m ((c.tc : Thread Cert.InDwB.nD Cert.InDwB.τ).loc Cert.InDwB.main_arg0)
      ∧ r.2.mem ((c.tc : Thread Cert.InDwB.nD Cert.InDwB.τ).loc Cert.InDwB.main_arg1) = m ((c.tc : Thread Cert.InDwB.nD Cert.InDwB.τ).loc Cert.InDwB.main_arg1)
      ∧ r.2.mem ((c.tc : Thread Cert.InDwB.nD Cert.InDwB.τ).loc Cert.InDwB.main_arg2) = m ((c.tc : Thread Cert.InDwB.nD Cert.InDwB.τ).loc Cert.InDwB.main_arg2))
      ∧ r.2.sem = fun _ => 0)

def quiescent_InDwBIdeal [hInDwBIdeal : Cert.InDwBIdeal.Facts] : Prop :=
  ∀ (m : (ℓ : Loc Cert.InDwBIdeal.nD Cert.InDwBIdeal.τ Cert.InDwBIdeal.sig) → Buf (Elt Ideal) ℓ) (g : Dev Cert.InDwBIdeal.nD → PrngReg), Pre_InDwBIdeal m →
    θ_run (Cert.InDwBIdeal.defs (F := Ideal)) (onTc (τ := Cert.InDwBIdeal.τ) (Cert.InDwBIdeal.main (F := Ideal))) ⟨m, fun _ => 0, g⟩ (fun r => (∀ c : Dev Cert.InDwBIdeal.nD,
      r.2.mem ((c.tc : Thread Cert.InDwBIdeal.nD Cert.InDwBIdeal.τ).loc Cert.InDwBIdeal.main_arg0) = m ((c.tc : Thread Cert.InDwBIdeal.nD Cert.InDwBIdeal.τ).loc Cert.InDwBIdeal.main_arg0)
      ∧ r.2.mem ((c.tc : Thread Cert.InDwBIdeal.nD Cert.InDwBIdeal.τ).loc Cert.InDwBIdeal.main_arg1) = m ((c.tc : Thread Cert.InDwBIdeal.nD Cert.InDwBIdeal.τ).loc Cert.InDwBIdeal.main_arg1)
      ∧ r.2.mem ((c.tc : Thread Cert.InDwBIdeal.nD Cert.InDwBIdeal.τ).loc Cert.InDwBIdeal.main_arg2) = m ((c.tc : Thread Cert.InDwBIdeal.nD Cert.InDwBIdeal.τ).loc Cert.InDwBIdeal.main_arg2))
      ∧ r.2.sem = fun _ => 0)

def quiescent_InDwBRefIdeal [hInDwBRefIdeal : Cert.InDwBRefIdeal.Facts] : Prop :=
  ∀ (m : (ℓ : Loc Cert.InDwBRefIdeal.nD Cert.InDwBRefIdeal.τ Cert.InDwBRefIdeal.sig) → Buf (Elt Ideal) ℓ) (g : Dev Cert.InDwBRefIdeal.nD → PrngReg), Pre_InDwBRefIdeal m →
    θ_run (Cert.InDwBRefIdeal.defs (F := Ideal)) (onTc (τ := Cert.InDwBRefIdeal.τ) (Cert.InDwBRefIdeal.main (F := Ideal))) ⟨m, fun _ => 0, g⟩ (fun r => (∀ c : Dev Cert.InDwBRefIdeal.nD,
      r.2.mem ((c.tc : Thread Cert.InDwBRefIdeal.nD Cert.InDwBRefIdeal.τ).loc Cert.InDwBRefIdeal.main_arg0) = m ((c.tc : Thread Cert.InDwBRefIdeal.nD Cert.InDwBRefIdeal.τ).loc Cert.InDwBRefIdeal.main_arg0)
      ∧ r.2.mem ((c.tc : Thread Cert.InDwBRefIdeal.nD Cert.InDwBRefIdeal.τ).loc Cert.InDwBRefIdeal.main_arg1) = m ((c.tc : Thread Cert.InDwBRefIdeal.nD Cert.InDwBRefIdeal.τ).loc Cert.InDwBRefIdeal.main_arg1)
      ∧ r.2.mem ((c.tc : Thread Cert.InDwBRefIdeal.nD Cert.InDwBRefIdeal.τ).loc Cert.InDwBRefIdeal.main_arg2) = m ((c.tc : Thread Cert.InDwBRefIdeal.nD Cert.InDwBRefIdeal.τ).loc Cert.InDwBRefIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5)
      ∧ r.2.mem ((c.tc : Thread Cert.InDx.nD Cert.InDx.τ).loc Cert.InDx.main_arg6) = m ((c.tc : Thread Cert.InDx.nD Cert.InDx.τ).loc Cert.InDx.main_arg6)
      ∧ r.2.mem ((c.tc : Thread Cert.InDx.nD Cert.InDx.τ).loc Cert.InDx.main_arg7) = m ((c.tc : Thread Cert.InDx.nD Cert.InDx.τ).loc Cert.InDx.main_arg7)
      ∧ r.2.mem ((c.tc : Thread Cert.InDx.nD Cert.InDx.τ).loc Cert.InDx.main_arg8) = m ((c.tc : Thread Cert.InDx.nD Cert.InDx.τ).loc Cert.InDx.main_arg8)
      ∧ r.2.mem ((c.tc : Thread Cert.InDx.nD Cert.InDx.τ).loc Cert.InDx.main_arg9) = m ((c.tc : Thread Cert.InDx.nD Cert.InDx.τ).loc Cert.InDx.main_arg9))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
      ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7)
      ∧ r.2.mem ((c.tc : Thread Cert.InDxIdeal.nD Cert.InDxIdeal.τ).loc Cert.InDxIdeal.main_arg8) = m ((c.tc : Thread Cert.InDxIdeal.nD Cert.InDxIdeal.τ).loc Cert.InDxIdeal.main_arg8)
      ∧ r.2.mem ((c.tc : Thread Cert.InDxIdeal.nD Cert.InDxIdeal.τ).loc Cert.InDxIdeal.main_arg9) = m ((c.tc : Thread Cert.InDxIdeal.nD Cert.InDxIdeal.τ).loc Cert.InDxIdeal.main_arg9))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5)
      ∧ r.2.mem ((c.tc : Thread Cert.InDxRefIdeal.nD Cert.InDxRefIdeal.τ).loc Cert.InDxRefIdeal.main_arg6) = m ((c.tc : Thread Cert.InDxRefIdeal.nD Cert.InDxRefIdeal.τ).loc Cert.InDxRefIdeal.main_arg6)
      ∧ r.2.mem ((c.tc : Thread Cert.InDxRefIdeal.nD Cert.InDxRefIdeal.τ).loc Cert.InDxRefIdeal.main_arg7) = m ((c.tc : Thread Cert.InDxRefIdeal.nD Cert.InDxRefIdeal.τ).loc Cert.InDxRefIdeal.main_arg7)
      ∧ r.2.mem ((c.tc : Thread Cert.InDxRefIdeal.nD Cert.InDxRefIdeal.τ).loc Cert.InDxRefIdeal.main_arg8) = m ((c.tc : Thread Cert.InDxRefIdeal.nD Cert.InDxRefIdeal.τ).loc Cert.InDxRefIdeal.main_arg8)
      ∧ r.2.mem ((c.tc : Thread Cert.InDxRefIdeal.nD Cert.InDxRefIdeal.τ).loc Cert.InDxRefIdeal.main_arg9) = m ((c.tc : Thread Cert.InDxRefIdeal.nD Cert.InDxRefIdeal.τ).loc Cert.InDxRefIdeal.main_arg9))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_QueryDw [hQueryDw : Cert.QueryDw.Facts] : Prop :=
  ∀ (m : (ℓ : Loc Cert.QueryDw.nD Cert.QueryDw.τ Cert.QueryDw.sig) → Buf (Elt Bits) ℓ) (g : Dev Cert.QueryDw.nD → PrngReg), Pre_QueryDw m →
    θ_run (Cert.QueryDw.defs (F := Bits)) (onTc (τ := Cert.QueryDw.τ) (Cert.QueryDw.main (F := Bits))) ⟨m, fun _ => 0, g⟩ (fun r => (∀ c : Dev Cert.QueryDw.nD,
      r.2.mem ((c.tc : Thread Cert.QueryDw.nD Cert.QueryDw.τ).loc Cert.QueryDw.main_arg0) = m ((c.tc : Thread Cert.QueryDw.nD Cert.QueryDw.τ).loc Cert.QueryDw.main_arg0)
      ∧ r.2.mem ((c.tc : Thread Cert.QueryDw.nD Cert.QueryDw.τ).loc Cert.QueryDw.main_arg1) = m ((c.tc : Thread Cert.QueryDw.nD Cert.QueryDw.τ).loc Cert.QueryDw.main_arg1))
      ∧ r.2.sem = fun _ => 0)

def quiescent_QueryDwIdeal [hQueryDwIdeal : Cert.QueryDwIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg), Pre_QueryDwIdeal m →
    θ_run (Cert.QueryDwIdeal.defs (F := Ideal)) (onTc (τ := Cert.QueryDwIdeal.τ) (Cert.QueryDwIdeal.main (F := Ideal))) ⟨m, fun _ => 0, g⟩ (fun r => (∀ c : Dev Cert.QueryDwIdeal.nD,
      r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
      ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1))
      ∧ r.2.sem = fun _ => 0)

def quiescent_QueryDwRefIdeal [hQueryDwRefIdeal : Cert.QueryDwRefIdeal.Facts] : Prop :=
  ∀ (m : (ℓ : Loc Cert.QueryDwRefIdeal.nD Cert.QueryDwRefIdeal.τ Cert.QueryDwRefIdeal.sig) → Buf (Elt Ideal) ℓ) (g : Dev Cert.QueryDwRefIdeal.nD → PrngReg), Pre_QueryDwRefIdeal m →
    θ_run (Cert.QueryDwRefIdeal.defs (F := Ideal)) (onTc (τ := Cert.QueryDwRefIdeal.τ) (Cert.QueryDwRefIdeal.main (F := Ideal))) ⟨m, fun _ => 0, g⟩ (fun r => (∀ c : Dev Cert.QueryDwRefIdeal.nD,
      r.2.mem ((c.tc : Thread Cert.QueryDwRefIdeal.nD Cert.QueryDwRefIdeal.τ).loc Cert.QueryDwRefIdeal.main_arg0) = m ((c.tc : Thread Cert.QueryDwRefIdeal.nD Cert.QueryDwRefIdeal.τ).loc Cert.QueryDwRefIdeal.main_arg0)
      ∧ r.2.mem ((c.tc : Thread Cert.QueryDwRefIdeal.nD Cert.QueryDwRefIdeal.τ).loc Cert.QueryDwRefIdeal.main_arg1) = m ((c.tc : Thread Cert.QueryDwRefIdeal.nD Cert.QueryDwRefIdeal.τ).loc Cert.QueryDwRefIdeal.main_arg1))
      ∧ r.2.sem = fun _ => 0)

def quiescent_QueryDx [hQueryDx : Cert.QueryDx.Facts] : Prop :=
  ∀ (m : (ℓ : Loc Cert.QueryDx.nD Cert.QueryDx.τ Cert.QueryDx.sig) → Buf (Elt Bits) ℓ) (g : Dev Cert.QueryDx.nD → PrngReg), Pre_QueryDx m →
    θ_run (Cert.QueryDx.defs (F := Bits)) (onTc (τ := Cert.QueryDx.τ) (Cert.QueryDx.main (F := Bits))) ⟨m, fun _ => 0, g⟩ (fun r => (∀ c : Dev Cert.QueryDx.nD,
      r.2.mem ((c.tc : Thread Cert.QueryDx.nD Cert.QueryDx.τ).loc Cert.QueryDx.main_arg0) = m ((c.tc : Thread Cert.QueryDx.nD Cert.QueryDx.τ).loc Cert.QueryDx.main_arg0)
      ∧ r.2.mem ((c.tc : Thread Cert.QueryDx.nD Cert.QueryDx.τ).loc Cert.QueryDx.main_arg1) = m ((c.tc : Thread Cert.QueryDx.nD Cert.QueryDx.τ).loc Cert.QueryDx.main_arg1))
      ∧ r.2.sem = fun _ => 0)

def quiescent_QueryDxIdeal [hQueryDxIdeal : Cert.QueryDxIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg), Pre_QueryDxIdeal m →
    θ_run (Cert.QueryDxIdeal.defs (F := Ideal)) (onTc (τ := Cert.QueryDxIdeal.τ) (Cert.QueryDxIdeal.main (F := Ideal))) ⟨m, fun _ => 0, g⟩ (fun r => (∀ c : Dev Cert.QueryDxIdeal.nD,
      r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
      ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1))
      ∧ r.2.sem = fun _ => 0)

def quiescent_QueryDxRefIdeal [hQueryDxRefIdeal : Cert.QueryDxRefIdeal.Facts] : Prop :=
  ∀ (m : (ℓ : Loc Cert.QueryDxRefIdeal.nD Cert.QueryDxRefIdeal.τ Cert.QueryDxRefIdeal.sig) → Buf (Elt Ideal) ℓ) (g : Dev Cert.QueryDxRefIdeal.nD → PrngReg), Pre_QueryDxRefIdeal m →
    θ_run (Cert.QueryDxRefIdeal.defs (F := Ideal)) (onTc (τ := Cert.QueryDxRefIdeal.τ) (Cert.QueryDxRefIdeal.main (F := Ideal))) ⟨m, fun _ => 0, g⟩ (fun r => (∀ c : Dev Cert.QueryDxRefIdeal.nD,
      r.2.mem ((c.tc : Thread Cert.QueryDxRefIdeal.nD Cert.QueryDxRefIdeal.τ).loc Cert.QueryDxRefIdeal.main_arg0) = m ((c.tc : Thread Cert.QueryDxRefIdeal.nD Cert.QueryDxRefIdeal.τ).loc Cert.QueryDxRefIdeal.main_arg0)
      ∧ r.2.mem ((c.tc : Thread Cert.QueryDxRefIdeal.nD Cert.QueryDxRefIdeal.τ).loc Cert.QueryDxRefIdeal.main_arg1) = m ((c.tc : Thread Cert.QueryDxRefIdeal.nD Cert.QueryDxRefIdeal.τ).loc Cert.QueryDxRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_MemDw [hMemDw : Cert.MemDw.Facts] : Prop :=
  ∀ (m : (ℓ : Loc Cert.MemDw.nD Cert.MemDw.τ Cert.MemDw.sig) → Buf (Elt Bits) ℓ) (g : Dev Cert.MemDw.nD → PrngReg), Pre_MemDw m →
    θ_run (Cert.MemDw.defs (F := Bits)) (onTc (τ := Cert.MemDw.τ) (Cert.MemDw.main (F := Bits))) ⟨m, fun _ => 0, g⟩ (fun r => (∀ c : Dev Cert.MemDw.nD,
      r.2.mem ((c.tc : Thread Cert.MemDw.nD Cert.MemDw.τ).loc Cert.MemDw.main_arg0) = m ((c.tc : Thread Cert.MemDw.nD Cert.MemDw.τ).loc Cert.MemDw.main_arg0)
      ∧ r.2.mem ((c.tc : Thread Cert.MemDw.nD Cert.MemDw.τ).loc Cert.MemDw.main_arg1) = m ((c.tc : Thread Cert.MemDw.nD Cert.MemDw.τ).loc Cert.MemDw.main_arg1))
      ∧ r.2.sem = fun _ => 0)

def quiescent_MemDwIdeal [hMemDwIdeal : Cert.MemDwIdeal.Facts] : Prop :=
  ∀ (m : (ℓ : Loc Cert.MemDwIdeal.nD Cert.MemDwIdeal.τ Cert.MemDwIdeal.sig) → Buf (Elt Ideal) ℓ) (g : Dev Cert.MemDwIdeal.nD → PrngReg), Pre_MemDwIdeal m →
    θ_run (Cert.MemDwIdeal.defs (F := Ideal)) (onTc (τ := Cert.MemDwIdeal.τ) (Cert.MemDwIdeal.main (F := Ideal))) ⟨m, fun _ => 0, g⟩ (fun r => (∀ c : Dev Cert.MemDwIdeal.nD,
      r.2.mem ((c.tc : Thread Cert.MemDwIdeal.nD Cert.MemDwIdeal.τ).loc Cert.MemDwIdeal.main_arg0) = m ((c.tc : Thread Cert.MemDwIdeal.nD Cert.MemDwIdeal.τ).loc Cert.MemDwIdeal.main_arg0)
      ∧ r.2.mem ((c.tc : Thread Cert.MemDwIdeal.nD Cert.MemDwIdeal.τ).loc Cert.MemDwIdeal.main_arg1) = m ((c.tc : Thread Cert.MemDwIdeal.nD Cert.MemDwIdeal.τ).loc Cert.MemDwIdeal.main_arg1))
      ∧ r.2.sem = fun _ => 0)

def quiescent_MemDwRefIdeal [hMemDwRefIdeal : Cert.MemDwRefIdeal.Facts] : Prop :=
  ∀ (m : (ℓ : Loc Cert.MemDwRefIdeal.nD Cert.MemDwRefIdeal.τ Cert.MemDwRefIdeal.sig) → Buf (Elt Ideal) ℓ) (g : Dev Cert.MemDwRefIdeal.nD → PrngReg), Pre_MemDwRefIdeal m →
    θ_run (Cert.MemDwRefIdeal.defs (F := Ideal)) (onTc (τ := Cert.MemDwRefIdeal.τ) (Cert.MemDwRefIdeal.main (F := Ideal))) ⟨m, fun _ => 0, g⟩ (fun r => (∀ c : Dev Cert.MemDwRefIdeal.nD,
      r.2.mem ((c.tc : Thread Cert.MemDwRefIdeal.nD Cert.MemDwRefIdeal.τ).loc Cert.MemDwRefIdeal.main_arg0) = m ((c.tc : Thread Cert.MemDwRefIdeal.nD Cert.MemDwRefIdeal.τ).loc Cert.MemDwRefIdeal.main_arg0)
      ∧ r.2.mem ((c.tc : Thread Cert.MemDwRefIdeal.nD Cert.MemDwRefIdeal.τ).loc Cert.MemDwRefIdeal.main_arg1) = m ((c.tc : Thread Cert.MemDwRefIdeal.nD Cert.MemDwRefIdeal.τ).loc Cert.MemDwRefIdeal.main_arg1))
      ∧ r.2.sem = fun _ => 0)

def quiescent_MemDk [hMemDk : Cert.MemDk.Facts] : Prop :=
  ∀ (m : (ℓ : Loc Cert.MemDk.nD Cert.MemDk.τ Cert.MemDk.sig) → Buf (Elt Bits) ℓ) (g : Dev Cert.MemDk.nD → PrngReg), Pre_MemDk m →
    θ_run (Cert.MemDk.defs (F := Bits)) (onTc (τ := Cert.MemDk.τ) (Cert.MemDk.main (F := Bits))) ⟨m, fun _ => 0, g⟩ (fun r => (∀ c : Dev Cert.MemDk.nD,
      r.2.mem ((c.tc : Thread Cert.MemDk.nD Cert.MemDk.τ).loc Cert.MemDk.main_arg0) = m ((c.tc : Thread Cert.MemDk.nD Cert.MemDk.τ).loc Cert.MemDk.main_arg0)
      ∧ r.2.mem ((c.tc : Thread Cert.MemDk.nD Cert.MemDk.τ).loc Cert.MemDk.main_arg1) = m ((c.tc : Thread Cert.MemDk.nD Cert.MemDk.τ).loc Cert.MemDk.main_arg1))
      ∧ r.2.sem = fun _ => 0)

def quiescent_MemDkIdeal [hMemDkIdeal : Cert.MemDkIdeal.Facts] : Prop :=
  ∀ (m : (ℓ : Loc Cert.MemDkIdeal.nD Cert.MemDkIdeal.τ Cert.MemDkIdeal.sig) → Buf (Elt Ideal) ℓ) (g : Dev Cert.MemDkIdeal.nD → PrngReg), Pre_MemDkIdeal m →
    θ_run (Cert.MemDkIdeal.defs (F := Ideal)) (onTc (τ := Cert.MemDkIdeal.τ) (Cert.MemDkIdeal.main (F := Ideal))) ⟨m, fun _ => 0, g⟩ (fun r => (∀ c : Dev Cert.MemDkIdeal.nD,
      r.2.mem ((c.tc : Thread Cert.MemDkIdeal.nD Cert.MemDkIdeal.τ).loc Cert.MemDkIdeal.main_arg0) = m ((c.tc : Thread Cert.MemDkIdeal.nD Cert.MemDkIdeal.τ).loc Cert.MemDkIdeal.main_arg0)
      ∧ r.2.mem ((c.tc : Thread Cert.MemDkIdeal.nD Cert.MemDkIdeal.τ).loc Cert.MemDkIdeal.main_arg1) = m ((c.tc : Thread Cert.MemDkIdeal.nD Cert.MemDkIdeal.τ).loc Cert.MemDkIdeal.main_arg1))
      ∧ r.2.sem = fun _ => 0)

def quiescent_MemDkRefIdeal [hMemDkRefIdeal : Cert.MemDkRefIdeal.Facts] : Prop :=
  ∀ (m : (ℓ : Loc Cert.MemDkRefIdeal.nD Cert.MemDkRefIdeal.τ Cert.MemDkRefIdeal.sig) → Buf (Elt Ideal) ℓ) (g : Dev Cert.MemDkRefIdeal.nD → PrngReg), Pre_MemDkRefIdeal m →
    θ_run (Cert.MemDkRefIdeal.defs (F := Ideal)) (onTc (τ := Cert.MemDkRefIdeal.τ) (Cert.MemDkRefIdeal.main (F := Ideal))) ⟨m, fun _ => 0, g⟩ (fun r => (∀ c : Dev Cert.MemDkRefIdeal.nD,
      r.2.mem ((c.tc : Thread Cert.MemDkRefIdeal.nD Cert.MemDkRefIdeal.τ).loc Cert.MemDkRefIdeal.main_arg0) = m ((c.tc : Thread Cert.MemDkRefIdeal.nD Cert.MemDkRefIdeal.τ).loc Cert.MemDkRefIdeal.main_arg0)
      ∧ r.2.mem ((c.tc : Thread Cert.MemDkRefIdeal.nD Cert.MemDkRefIdeal.τ).loc Cert.MemDkRefIdeal.main_arg1) = m ((c.tc : Thread Cert.MemDkRefIdeal.nD Cert.MemDkRefIdeal.τ).loc Cert.MemDkRefIdeal.main_arg1))
      ∧ r.2.sem = fun _ => 0)

def quiescent_MemDv [hMemDv : Cert.MemDv.Facts] : Prop :=
  ∀ (m : (ℓ : Loc Cert.MemDv.nD Cert.MemDv.τ Cert.MemDv.sig) → Buf (Elt Bits) ℓ) (g : Dev Cert.MemDv.nD → PrngReg), Pre_MemDv m →
    θ_run (Cert.MemDv.defs (F := Bits)) (onTc (τ := Cert.MemDv.τ) (Cert.MemDv.main (F := Bits))) ⟨m, fun _ => 0, g⟩ (fun r => (∀ c : Dev Cert.MemDv.nD,
      r.2.mem ((c.tc : Thread Cert.MemDv.nD Cert.MemDv.τ).loc Cert.MemDv.main_arg0) = m ((c.tc : Thread Cert.MemDv.nD Cert.MemDv.τ).loc Cert.MemDv.main_arg0)
      ∧ r.2.mem ((c.tc : Thread Cert.MemDv.nD Cert.MemDv.τ).loc Cert.MemDv.main_arg1) = m ((c.tc : Thread Cert.MemDv.nD Cert.MemDv.τ).loc Cert.MemDv.main_arg1)
      ∧ r.2.mem ((c.tc : Thread Cert.MemDv.nD Cert.MemDv.τ).loc Cert.MemDv.main_arg2) = m ((c.tc : Thread Cert.MemDv.nD Cert.MemDv.τ).loc Cert.MemDv.main_arg2))
      ∧ r.2.sem = fun _ => 0)

def quiescent_MemDvIdeal [hMemDvIdeal : Cert.MemDvIdeal.Facts] : Prop :=
  ∀ (m : (ℓ : Loc Cert.MemDvIdeal.nD Cert.MemDvIdeal.τ Cert.MemDvIdeal.sig) → Buf (Elt Ideal) ℓ) (g : Dev Cert.MemDvIdeal.nD → PrngReg), Pre_MemDvIdeal m →
    θ_run (Cert.MemDvIdeal.defs (F := Ideal)) (onTc (τ := Cert.MemDvIdeal.τ) (Cert.MemDvIdeal.main (F := Ideal))) ⟨m, fun _ => 0, g⟩ (fun r => (∀ c : Dev Cert.MemDvIdeal.nD,
      r.2.mem ((c.tc : Thread Cert.MemDvIdeal.nD Cert.MemDvIdeal.τ).loc Cert.MemDvIdeal.main_arg0) = m ((c.tc : Thread Cert.MemDvIdeal.nD Cert.MemDvIdeal.τ).loc Cert.MemDvIdeal.main_arg0)
      ∧ r.2.mem ((c.tc : Thread Cert.MemDvIdeal.nD Cert.MemDvIdeal.τ).loc Cert.MemDvIdeal.main_arg1) = m ((c.tc : Thread Cert.MemDvIdeal.nD Cert.MemDvIdeal.τ).loc Cert.MemDvIdeal.main_arg1)
      ∧ r.2.mem ((c.tc : Thread Cert.MemDvIdeal.nD Cert.MemDvIdeal.τ).loc Cert.MemDvIdeal.main_arg2) = m ((c.tc : Thread Cert.MemDvIdeal.nD Cert.MemDvIdeal.τ).loc Cert.MemDvIdeal.main_arg2))
      ∧ r.2.sem = fun _ => 0)

def quiescent_MemDvRefIdeal [hMemDvRefIdeal : Cert.MemDvRefIdeal.Facts] : Prop :=
  ∀ (m : (ℓ : Loc Cert.MemDvRefIdeal.nD Cert.MemDvRefIdeal.τ Cert.MemDvRefIdeal.sig) → Buf (Elt Ideal) ℓ) (g : Dev Cert.MemDvRefIdeal.nD → PrngReg), Pre_MemDvRefIdeal m →
    θ_run (Cert.MemDvRefIdeal.defs (F := Ideal)) (onTc (τ := Cert.MemDvRefIdeal.τ) (Cert.MemDvRefIdeal.main (F := Ideal))) ⟨m, fun _ => 0, g⟩ (fun r => (∀ c : Dev Cert.MemDvRefIdeal.nD,
      r.2.mem ((c.tc : Thread Cert.MemDvRefIdeal.nD Cert.MemDvRefIdeal.τ).loc Cert.MemDvRefIdeal.main_arg0) = m ((c.tc : Thread Cert.MemDvRefIdeal.nD Cert.MemDvRefIdeal.τ).loc Cert.MemDvRefIdeal.main_arg0)
      ∧ r.2.mem ((c.tc : Thread Cert.MemDvRefIdeal.nD Cert.MemDvRefIdeal.τ).loc Cert.MemDvRefIdeal.main_arg1) = m ((c.tc : Thread Cert.MemDvRefIdeal.nD Cert.MemDvRefIdeal.τ).loc Cert.MemDvRefIdeal.main_arg1)
      ∧ r.2.mem ((c.tc : Thread Cert.MemDvRefIdeal.nD Cert.MemDvRefIdeal.τ).loc Cert.MemDvRefIdeal.main_arg2) = m ((c.tc : Thread Cert.MemDvRefIdeal.nD Cert.MemDvRefIdeal.τ).loc Cert.MemDvRefIdeal.main_arg2))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamLn [hAdamLn : Cert.AdamLn.Facts] : Prop :=
  ∀ (m : (ℓ : Loc Cert.AdamLn.nD Cert.AdamLn.τ Cert.AdamLn.sig) → Buf (Elt Bits) ℓ) (g : Dev Cert.AdamLn.nD → PrngReg), Pre_AdamLn m →
    θ_run (Cert.AdamLn.defs (F := Bits)) (onTc (τ := Cert.AdamLn.τ) (Cert.AdamLn.main (F := Bits))) ⟨m, fun _ => 0, g⟩ (fun r => (∀ c : Dev Cert.AdamLn.nD,
      r.2.mem ((c.tc : Thread Cert.AdamLn.nD Cert.AdamLn.τ).loc Cert.AdamLn.main_arg0) = m ((c.tc : Thread Cert.AdamLn.nD Cert.AdamLn.τ).loc Cert.AdamLn.main_arg0)
      ∧ r.2.mem ((c.tc : Thread Cert.AdamLn.nD Cert.AdamLn.τ).loc Cert.AdamLn.main_arg1) = m ((c.tc : Thread Cert.AdamLn.nD Cert.AdamLn.τ).loc Cert.AdamLn.main_arg1)
      ∧ r.2.mem ((c.tc : Thread Cert.AdamLn.nD Cert.AdamLn.τ).loc Cert.AdamLn.main_arg2) = m ((c.tc : Thread Cert.AdamLn.nD Cert.AdamLn.τ).loc Cert.AdamLn.main_arg2)
      ∧ r.2.mem ((c.tc : Thread Cert.AdamLn.nD Cert.AdamLn.τ).loc Cert.AdamLn.main_arg3) = m ((c.tc : Thread Cert.AdamLn.nD Cert.AdamLn.τ).loc Cert.AdamLn.main_arg3))
      ∧ r.2.sem = fun _ => 0)

def quiescent_AdamLnIdeal [hAdamLnIdeal : Cert.AdamLnIdeal.Facts] : Prop :=
  ∀ (m : (ℓ : Loc Cert.AdamLnIdeal.nD Cert.AdamLnIdeal.τ Cert.AdamLnIdeal.sig) → Buf (Elt Ideal) ℓ) (g : Dev Cert.AdamLnIdeal.nD → PrngReg), Pre_AdamLnIdeal m →
    θ_run (Cert.AdamLnIdeal.defs (F := Ideal)) (onTc (τ := Cert.AdamLnIdeal.τ) (Cert.AdamLnIdeal.main (F := Ideal))) ⟨m, fun _ => 0, g⟩ (fun r => (∀ c : Dev Cert.AdamLnIdeal.nD,
      r.2.mem ((c.tc : Thread Cert.AdamLnIdeal.nD Cert.AdamLnIdeal.τ).loc Cert.AdamLnIdeal.main_arg0) = m ((c.tc : Thread Cert.AdamLnIdeal.nD Cert.AdamLnIdeal.τ).loc Cert.AdamLnIdeal.main_arg0)
      ∧ r.2.mem ((c.tc : Thread Cert.AdamLnIdeal.nD Cert.AdamLnIdeal.τ).loc Cert.AdamLnIdeal.main_arg1) = m ((c.tc : Thread Cert.AdamLnIdeal.nD Cert.AdamLnIdeal.τ).loc Cert.AdamLnIdeal.main_arg1)
      ∧ r.2.mem ((c.tc : Thread Cert.AdamLnIdeal.nD Cert.AdamLnIdeal.τ).loc Cert.AdamLnIdeal.main_arg2) = m ((c.tc : Thread Cert.AdamLnIdeal.nD Cert.AdamLnIdeal.τ).loc Cert.AdamLnIdeal.main_arg2)
      ∧ r.2.mem ((c.tc : Thread Cert.AdamLnIdeal.nD Cert.AdamLnIdeal.τ).loc Cert.AdamLnIdeal.main_arg3) = m ((c.tc : Thread Cert.AdamLnIdeal.nD Cert.AdamLnIdeal.τ).loc Cert.AdamLnIdeal.main_arg3))
      ∧ r.2.sem = fun _ => 0)

def quiescent_AdamLnRefIdeal [hAdamLnRefIdeal : Cert.AdamLnRefIdeal.Facts] : Prop :=
  ∀ (m : (ℓ : Loc Cert.AdamLnRefIdeal.nD Cert.AdamLnRefIdeal.τ Cert.AdamLnRefIdeal.sig) → Buf (Elt Ideal) ℓ) (g : Dev Cert.AdamLnRefIdeal.nD → PrngReg), Pre_AdamLnRefIdeal m →
    θ_run (Cert.AdamLnRefIdeal.defs (F := Ideal)) (onTc (τ := Cert.AdamLnRefIdeal.τ) (Cert.AdamLnRefIdeal.main (F := Ideal))) ⟨m, fun _ => 0, g⟩ (fun r => (∀ c : Dev Cert.AdamLnRefIdeal.nD,
      r.2.mem ((c.tc : Thread Cert.AdamLnRefIdeal.nD Cert.AdamLnRefIdeal.τ).loc Cert.AdamLnRefIdeal.main_arg0) = m ((c.tc : Thread Cert.AdamLnRefIdeal.nD Cert.AdamLnRefIdeal.τ).loc Cert.AdamLnRefIdeal.main_arg0)
      ∧ r.2.mem ((c.tc : Thread Cert.AdamLnRefIdeal.nD Cert.AdamLnRefIdeal.τ).loc Cert.AdamLnRefIdeal.main_arg1) = m ((c.tc : Thread Cert.AdamLnRefIdeal.nD Cert.AdamLnRefIdeal.τ).loc Cert.AdamLnRefIdeal.main_arg1)
      ∧ r.2.mem ((c.tc : Thread Cert.AdamLnRefIdeal.nD Cert.AdamLnRefIdeal.τ).loc Cert.AdamLnRefIdeal.main_arg2) = m ((c.tc : Thread Cert.AdamLnRefIdeal.nD Cert.AdamLnRefIdeal.τ).loc Cert.AdamLnRefIdeal.main_arg2)
      ∧ r.2.mem ((c.tc : Thread Cert.AdamLnRefIdeal.nD Cert.AdamLnRefIdeal.τ).loc Cert.AdamLnRefIdeal.main_arg3) = m ((c.tc : Thread Cert.AdamLnRefIdeal.nD Cert.AdamLnRefIdeal.τ).loc Cert.AdamLnRefIdeal.main_arg3))
      ∧ r.2.sem = fun _ => 0)

def quiescent_AdamScale [hAdamScale : Cert.AdamScale.Facts] : Prop :=
  ∀ (m : (ℓ : Loc Cert.AdamScale.nD Cert.AdamScale.τ Cert.AdamScale.sig) → Buf (Elt Bits) ℓ) (g : Dev Cert.AdamScale.nD → PrngReg), Pre_AdamScale m →
    θ_run (Cert.AdamScale.defs (F := Bits)) (onTc (τ := Cert.AdamScale.τ) (Cert.AdamScale.main (F := Bits))) ⟨m, fun _ => 0, g⟩ (fun r => (∀ c : Dev Cert.AdamScale.nD,
      r.2.mem ((c.tc : Thread Cert.AdamScale.nD Cert.AdamScale.τ).loc Cert.AdamScale.main_arg0) = m ((c.tc : Thread Cert.AdamScale.nD Cert.AdamScale.τ).loc Cert.AdamScale.main_arg0)
      ∧ r.2.mem ((c.tc : Thread Cert.AdamScale.nD Cert.AdamScale.τ).loc Cert.AdamScale.main_arg1) = m ((c.tc : Thread Cert.AdamScale.nD Cert.AdamScale.τ).loc Cert.AdamScale.main_arg1)
      ∧ r.2.mem ((c.tc : Thread Cert.AdamScale.nD Cert.AdamScale.τ).loc Cert.AdamScale.main_arg2) = m ((c.tc : Thread Cert.AdamScale.nD Cert.AdamScale.τ).loc Cert.AdamScale.main_arg2)
      ∧ r.2.mem ((c.tc : Thread Cert.AdamScale.nD Cert.AdamScale.τ).loc Cert.AdamScale.main_arg3) = m ((c.tc : Thread Cert.AdamScale.nD Cert.AdamScale.τ).loc Cert.AdamScale.main_arg3))
      ∧ r.2.sem = fun _ => 0)

def quiescent_AdamScaleIdeal [hAdamScaleIdeal : Cert.AdamScaleIdeal.Facts] : Prop :=
  ∀ (m : (ℓ : Loc Cert.AdamScaleIdeal.nD Cert.AdamScaleIdeal.τ Cert.AdamScaleIdeal.sig) → Buf (Elt Ideal) ℓ) (g : Dev Cert.AdamScaleIdeal.nD → PrngReg), Pre_AdamScaleIdeal m →
    θ_run (Cert.AdamScaleIdeal.defs (F := Ideal)) (onTc (τ := Cert.AdamScaleIdeal.τ) (Cert.AdamScaleIdeal.main (F := Ideal))) ⟨m, fun _ => 0, g⟩ (fun r => (∀ c : Dev Cert.AdamScaleIdeal.nD,
      r.2.mem ((c.tc : Thread Cert.AdamScaleIdeal.nD Cert.AdamScaleIdeal.τ).loc Cert.AdamScaleIdeal.main_arg0) = m ((c.tc : Thread Cert.AdamScaleIdeal.nD Cert.AdamScaleIdeal.τ).loc Cert.AdamScaleIdeal.main_arg0)
      ∧ r.2.mem ((c.tc : Thread Cert.AdamScaleIdeal.nD Cert.AdamScaleIdeal.τ).loc Cert.AdamScaleIdeal.main_arg1) = m ((c.tc : Thread Cert.AdamScaleIdeal.nD Cert.AdamScaleIdeal.τ).loc Cert.AdamScaleIdeal.main_arg1)
      ∧ r.2.mem ((c.tc : Thread Cert.AdamScaleIdeal.nD Cert.AdamScaleIdeal.τ).loc Cert.AdamScaleIdeal.main_arg2) = m ((c.tc : Thread Cert.AdamScaleIdeal.nD Cert.AdamScaleIdeal.τ).loc Cert.AdamScaleIdeal.main_arg2)
      ∧ r.2.mem ((c.tc : Thread Cert.AdamScaleIdeal.nD Cert.AdamScaleIdeal.τ).loc Cert.AdamScaleIdeal.main_arg3) = m ((c.tc : Thread Cert.AdamScaleIdeal.nD Cert.AdamScaleIdeal.τ).loc Cert.AdamScaleIdeal.main_arg3))
      ∧ r.2.sem = fun _ => 0)

def quiescent_AdamScaleRefIdeal [hAdamScaleRefIdeal : Cert.AdamScaleRefIdeal.Facts] : Prop :=
  ∀ (m : (ℓ : Loc Cert.AdamScaleRefIdeal.nD Cert.AdamScaleRefIdeal.τ Cert.AdamScaleRefIdeal.sig) → Buf (Elt Ideal) ℓ) (g : Dev Cert.AdamScaleRefIdeal.nD → PrngReg), Pre_AdamScaleRefIdeal m →
    θ_run (Cert.AdamScaleRefIdeal.defs (F := Ideal)) (onTc (τ := Cert.AdamScaleRefIdeal.τ) (Cert.AdamScaleRefIdeal.main (F := Ideal))) ⟨m, fun _ => 0, g⟩ (fun r => (∀ c : Dev Cert.AdamScaleRefIdeal.nD,
      r.2.mem ((c.tc : Thread Cert.AdamScaleRefIdeal.nD Cert.AdamScaleRefIdeal.τ).loc Cert.AdamScaleRefIdeal.main_arg0) = m ((c.tc : Thread Cert.AdamScaleRefIdeal.nD Cert.AdamScaleRefIdeal.τ).loc Cert.AdamScaleRefIdeal.main_arg0)
      ∧ r.2.mem ((c.tc : Thread Cert.AdamScaleRefIdeal.nD Cert.AdamScaleRefIdeal.τ).loc Cert.AdamScaleRefIdeal.main_arg1) = m ((c.tc : Thread Cert.AdamScaleRefIdeal.nD Cert.AdamScaleRefIdeal.τ).loc Cert.AdamScaleRefIdeal.main_arg1)
      ∧ r.2.mem ((c.tc : Thread Cert.AdamScaleRefIdeal.nD Cert.AdamScaleRefIdeal.τ).loc Cert.AdamScaleRefIdeal.main_arg2) = m ((c.tc : Thread Cert.AdamScaleRefIdeal.nD Cert.AdamScaleRefIdeal.τ).loc Cert.AdamScaleRefIdeal.main_arg2)
      ∧ r.2.mem ((c.tc : Thread Cert.AdamScaleRefIdeal.nD Cert.AdamScaleRefIdeal.τ).loc Cert.AdamScaleRefIdeal.main_arg3) = m ((c.tc : Thread Cert.AdamScaleRefIdeal.nD Cert.AdamScaleRefIdeal.τ).loc Cert.AdamScaleRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_AdamHeadRefIdeal [hAdamHeadRefIdeal : Cert.AdamHeadRefIdeal.Facts] : Prop :=
  ∀ (m : (ℓ : Loc Cert.AdamHeadRefIdeal.nD Cert.AdamHeadRefIdeal.τ Cert.AdamHeadRefIdeal.sig) → Buf (Elt Ideal) ℓ) (g : Dev Cert.AdamHeadRefIdeal.nD → PrngReg), Pre_AdamHeadRefIdeal m →
    θ_run (Cert.AdamHeadRefIdeal.defs (F := Ideal)) (onTc (τ := Cert.AdamHeadRefIdeal.τ) (Cert.AdamHeadRefIdeal.main (F := Ideal))) ⟨m, fun _ => 0, g⟩ (fun r => (∀ c : Dev Cert.AdamHeadRefIdeal.nD,
      r.2.mem ((c.tc : Thread Cert.AdamHeadRefIdeal.nD Cert.AdamHeadRefIdeal.τ).loc Cert.AdamHeadRefIdeal.main_arg0) = m ((c.tc : Thread Cert.AdamHeadRefIdeal.nD Cert.AdamHeadRefIdeal.τ).loc Cert.AdamHeadRefIdeal.main_arg0)
      ∧ r.2.mem ((c.tc : Thread Cert.AdamHeadRefIdeal.nD Cert.AdamHeadRefIdeal.τ).loc Cert.AdamHeadRefIdeal.main_arg1) = m ((c.tc : Thread Cert.AdamHeadRefIdeal.nD Cert.AdamHeadRefIdeal.τ).loc Cert.AdamHeadRefIdeal.main_arg1)
      ∧ r.2.mem ((c.tc : Thread Cert.AdamHeadRefIdeal.nD Cert.AdamHeadRefIdeal.τ).loc Cert.AdamHeadRefIdeal.main_arg2) = m ((c.tc : Thread Cert.AdamHeadRefIdeal.nD Cert.AdamHeadRefIdeal.τ).loc Cert.AdamHeadRefIdeal.main_arg2)
      ∧ r.2.mem ((c.tc : Thread Cert.AdamHeadRefIdeal.nD Cert.AdamHeadRefIdeal.τ).loc Cert.AdamHeadRefIdeal.main_arg3) = m ((c.tc : Thread Cert.AdamHeadRefIdeal.nD Cert.AdamHeadRefIdeal.τ).loc Cert.AdamHeadRefIdeal.main_arg3))
      ∧ r.2.sem = fun _ => 0)

def quiescent_SumGate [hSumGate : Cert.SumGate.Facts] : Prop :=
  ∀ (m : (ℓ : Loc Cert.SumGate.nD Cert.SumGate.τ Cert.SumGate.sig) → Buf (Elt Bits) ℓ) (g : Dev Cert.SumGate.nD → PrngReg), Pre_SumGate m →
    θ_run (Cert.SumGate.defs (F := Bits)) (onTc (τ := Cert.SumGate.τ) (Cert.SumGate.main (F := Bits))) ⟨m, fun _ => 0, g⟩ (fun r => (∀ c : Dev Cert.SumGate.nD,
      r.2.mem ((c.tc : Thread Cert.SumGate.nD Cert.SumGate.τ).loc Cert.SumGate.main_arg0) = m ((c.tc : Thread Cert.SumGate.nD Cert.SumGate.τ).loc Cert.SumGate.main_arg0)
      ∧ r.2.mem ((c.tc : Thread Cert.SumGate.nD Cert.SumGate.τ).loc Cert.SumGate.main_arg1) = m ((c.tc : Thread Cert.SumGate.nD Cert.SumGate.τ).loc Cert.SumGate.main_arg1))
      ∧ r.2.sem = fun _ => 0)

def quiescent_SumGateIdeal [hSumGateIdeal : Cert.SumGateIdeal.Facts] : Prop :=
  ∀ (m : (ℓ : Loc Cert.SumGateIdeal.nD Cert.SumGateIdeal.τ Cert.SumGateIdeal.sig) → Buf (Elt Ideal) ℓ) (g : Dev Cert.SumGateIdeal.nD → PrngReg), Pre_SumGateIdeal m →
    θ_run (Cert.SumGateIdeal.defs (F := Ideal)) (onTc (τ := Cert.SumGateIdeal.τ) (Cert.SumGateIdeal.main (F := Ideal))) ⟨m, fun _ => 0, g⟩ (fun r => (∀ c : Dev Cert.SumGateIdeal.nD,
      r.2.mem ((c.tc : Thread Cert.SumGateIdeal.nD Cert.SumGateIdeal.τ).loc Cert.SumGateIdeal.main_arg0) = m ((c.tc : Thread Cert.SumGateIdeal.nD Cert.SumGateIdeal.τ).loc Cert.SumGateIdeal.main_arg0)
      ∧ r.2.mem ((c.tc : Thread Cert.SumGateIdeal.nD Cert.SumGateIdeal.τ).loc Cert.SumGateIdeal.main_arg1) = m ((c.tc : Thread Cert.SumGateIdeal.nD Cert.SumGateIdeal.τ).loc Cert.SumGateIdeal.main_arg1))
      ∧ r.2.sem = fun _ => 0)

def quiescent_SumGateRefIdeal [hSumGateRefIdeal : Cert.SumGateRefIdeal.Facts] : Prop :=
  ∀ (m : (ℓ : Loc Cert.SumGateRefIdeal.nD Cert.SumGateRefIdeal.τ Cert.SumGateRefIdeal.sig) → Buf (Elt Ideal) ℓ) (g : Dev Cert.SumGateRefIdeal.nD → PrngReg), Pre_SumGateRefIdeal m →
    θ_run (Cert.SumGateRefIdeal.defs (F := Ideal)) (onTc (τ := Cert.SumGateRefIdeal.τ) (Cert.SumGateRefIdeal.main (F := Ideal))) ⟨m, fun _ => 0, g⟩ (fun r => (∀ c : Dev Cert.SumGateRefIdeal.nD,
      r.2.mem ((c.tc : Thread Cert.SumGateRefIdeal.nD Cert.SumGateRefIdeal.τ).loc Cert.SumGateRefIdeal.main_arg0) = m ((c.tc : Thread Cert.SumGateRefIdeal.nD Cert.SumGateRefIdeal.τ).loc Cert.SumGateRefIdeal.main_arg0)
      ∧ r.2.mem ((c.tc : Thread Cert.SumGateRefIdeal.nD Cert.SumGateRefIdeal.τ).loc Cert.SumGateRefIdeal.main_arg1) = m ((c.tc : Thread Cert.SumGateRefIdeal.nD Cert.SumGateRefIdeal.τ).loc Cert.SumGateRefIdeal.main_arg1))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0)
      ∧ r.2.mem ((c.tc : Thread Cert.SumDown.nD Cert.SumDown.τ).loc Cert.SumDown.main_arg1) = m ((c.tc : Thread Cert.SumDown.nD Cert.SumDown.τ).loc Cert.SumDown.main_arg1))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0)
      ∧ r.2.mem ((c.tc : Thread Cert.SumDownIdeal.nD Cert.SumDownIdeal.τ).loc Cert.SumDownIdeal.main_arg1) = m ((c.tc : Thread Cert.SumDownIdeal.nD Cert.SumDownIdeal.τ).loc Cert.SumDownIdeal.main_arg1))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0)
      ∧ r.2.mem ((c.tc : Thread Cert.SumDownRefIdeal.nD Cert.SumDownRefIdeal.τ).loc Cert.SumDownRefIdeal.main_arg1) = m ((c.tc : Thread Cert.SumDownRefIdeal.nD Cert.SumDownRefIdeal.τ).loc Cert.SumDownRefIdeal.main_arg1))
      ∧ r.2.sem = fun _ => 0)

def quiescent_SumFfn [hSumFfn : Cert.SumFfn.Facts] : Prop :=
  ∀ (m : (ℓ : Loc Cert.SumFfn.nD Cert.SumFfn.τ Cert.SumFfn.sig) → Buf (Elt Bits) ℓ) (g : Dev Cert.SumFfn.nD → PrngReg), Pre_SumFfn m →
    θ_run (Cert.SumFfn.defs (F := Bits)) (onTc (τ := Cert.SumFfn.τ) (Cert.SumFfn.main (F := Bits))) ⟨m, fun _ => 0, g⟩ (fun r => (∀ c : Dev Cert.SumFfn.nD,
      r.2.mem ((c.tc : Thread Cert.SumFfn.nD Cert.SumFfn.τ).loc Cert.SumFfn.main_arg0) = m ((c.tc : Thread Cert.SumFfn.nD Cert.SumFfn.τ).loc Cert.SumFfn.main_arg0)
      ∧ r.2.mem ((c.tc : Thread Cert.SumFfn.nD Cert.SumFfn.τ).loc Cert.SumFfn.main_arg1) = m ((c.tc : Thread Cert.SumFfn.nD Cert.SumFfn.τ).loc Cert.SumFfn.main_arg1))
      ∧ r.2.sem = fun _ => 0)

def quiescent_SumFfnIdeal [hSumFfnIdeal : Cert.SumFfnIdeal.Facts] : Prop :=
  ∀ (m : (ℓ : Loc Cert.SumFfnIdeal.nD Cert.SumFfnIdeal.τ Cert.SumFfnIdeal.sig) → Buf (Elt Ideal) ℓ) (g : Dev Cert.SumFfnIdeal.nD → PrngReg), Pre_SumFfnIdeal m →
    θ_run (Cert.SumFfnIdeal.defs (F := Ideal)) (onTc (τ := Cert.SumFfnIdeal.τ) (Cert.SumFfnIdeal.main (F := Ideal))) ⟨m, fun _ => 0, g⟩ (fun r => (∀ c : Dev Cert.SumFfnIdeal.nD,
      r.2.mem ((c.tc : Thread Cert.SumFfnIdeal.nD Cert.SumFfnIdeal.τ).loc Cert.SumFfnIdeal.main_arg0) = m ((c.tc : Thread Cert.SumFfnIdeal.nD Cert.SumFfnIdeal.τ).loc Cert.SumFfnIdeal.main_arg0)
      ∧ r.2.mem ((c.tc : Thread Cert.SumFfnIdeal.nD Cert.SumFfnIdeal.τ).loc Cert.SumFfnIdeal.main_arg1) = m ((c.tc : Thread Cert.SumFfnIdeal.nD Cert.SumFfnIdeal.τ).loc Cert.SumFfnIdeal.main_arg1))
      ∧ r.2.sem = fun _ => 0)

def quiescent_SumFfnRefIdeal [hSumFfnRefIdeal : Cert.SumFfnRefIdeal.Facts] : Prop :=
  ∀ (m : (ℓ : Loc Cert.SumFfnRefIdeal.nD Cert.SumFfnRefIdeal.τ Cert.SumFfnRefIdeal.sig) → Buf (Elt Ideal) ℓ) (g : Dev Cert.SumFfnRefIdeal.nD → PrngReg), Pre_SumFfnRefIdeal m →
    θ_run (Cert.SumFfnRefIdeal.defs (F := Ideal)) (onTc (τ := Cert.SumFfnRefIdeal.τ) (Cert.SumFfnRefIdeal.main (F := Ideal))) ⟨m, fun _ => 0, g⟩ (fun r => (∀ c : Dev Cert.SumFfnRefIdeal.nD,
      r.2.mem ((c.tc : Thread Cert.SumFfnRefIdeal.nD Cert.SumFfnRefIdeal.τ).loc Cert.SumFfnRefIdeal.main_arg0) = m ((c.tc : Thread Cert.SumFfnRefIdeal.nD Cert.SumFfnRefIdeal.τ).loc Cert.SumFfnRefIdeal.main_arg0)
      ∧ r.2.mem ((c.tc : Thread Cert.SumFfnRefIdeal.nD Cert.SumFfnRefIdeal.τ).loc Cert.SumFfnRefIdeal.main_arg1) = m ((c.tc : Thread Cert.SumFfnRefIdeal.nD Cert.SumFfnRefIdeal.τ).loc Cert.SumFfnRefIdeal.main_arg1))
      ∧ r.2.sem = fun _ => 0)

def quiescent_SumMixer [hSumMixer : Cert.SumMixer.Facts] : Prop :=
  ∀ (m : (ℓ : Loc Cert.SumMixer.nD Cert.SumMixer.τ Cert.SumMixer.sig) → Buf (Elt Bits) ℓ) (g : Dev Cert.SumMixer.nD → PrngReg), Pre_SumMixer m →
    θ_run (Cert.SumMixer.defs (F := Bits)) (onTc (τ := Cert.SumMixer.τ) (Cert.SumMixer.main (F := Bits))) ⟨m, fun _ => 0, g⟩ (fun r => (∀ c : Dev Cert.SumMixer.nD,
      r.2.mem ((c.tc : Thread Cert.SumMixer.nD Cert.SumMixer.τ).loc Cert.SumMixer.main_arg0) = m ((c.tc : Thread Cert.SumMixer.nD Cert.SumMixer.τ).loc Cert.SumMixer.main_arg0)
      ∧ r.2.mem ((c.tc : Thread Cert.SumMixer.nD Cert.SumMixer.τ).loc Cert.SumMixer.main_arg1) = m ((c.tc : Thread Cert.SumMixer.nD Cert.SumMixer.τ).loc Cert.SumMixer.main_arg1))
      ∧ r.2.sem = fun _ => 0)

def quiescent_SumMixerIdeal [hSumMixerIdeal : Cert.SumMixerIdeal.Facts] : Prop :=
  ∀ (m : (ℓ : Loc Cert.SumMixerIdeal.nD Cert.SumMixerIdeal.τ Cert.SumMixerIdeal.sig) → Buf (Elt Ideal) ℓ) (g : Dev Cert.SumMixerIdeal.nD → PrngReg), Pre_SumMixerIdeal m →
    θ_run (Cert.SumMixerIdeal.defs (F := Ideal)) (onTc (τ := Cert.SumMixerIdeal.τ) (Cert.SumMixerIdeal.main (F := Ideal))) ⟨m, fun _ => 0, g⟩ (fun r => (∀ c : Dev Cert.SumMixerIdeal.nD,
      r.2.mem ((c.tc : Thread Cert.SumMixerIdeal.nD Cert.SumMixerIdeal.τ).loc Cert.SumMixerIdeal.main_arg0) = m ((c.tc : Thread Cert.SumMixerIdeal.nD Cert.SumMixerIdeal.τ).loc Cert.SumMixerIdeal.main_arg0)
      ∧ r.2.mem ((c.tc : Thread Cert.SumMixerIdeal.nD Cert.SumMixerIdeal.τ).loc Cert.SumMixerIdeal.main_arg1) = m ((c.tc : Thread Cert.SumMixerIdeal.nD Cert.SumMixerIdeal.τ).loc Cert.SumMixerIdeal.main_arg1))
      ∧ r.2.sem = fun _ => 0)

def quiescent_SumMixerRefIdeal [hSumMixerRefIdeal : Cert.SumMixerRefIdeal.Facts] : Prop :=
  ∀ (m : (ℓ : Loc Cert.SumMixerRefIdeal.nD Cert.SumMixerRefIdeal.τ Cert.SumMixerRefIdeal.sig) → Buf (Elt Ideal) ℓ) (g : Dev Cert.SumMixerRefIdeal.nD → PrngReg), Pre_SumMixerRefIdeal m →
    θ_run (Cert.SumMixerRefIdeal.defs (F := Ideal)) (onTc (τ := Cert.SumMixerRefIdeal.τ) (Cert.SumMixerRefIdeal.main (F := Ideal))) ⟨m, fun _ => 0, g⟩ (fun r => (∀ c : Dev Cert.SumMixerRefIdeal.nD,
      r.2.mem ((c.tc : Thread Cert.SumMixerRefIdeal.nD Cert.SumMixerRefIdeal.τ).loc Cert.SumMixerRefIdeal.main_arg0) = m ((c.tc : Thread Cert.SumMixerRefIdeal.nD Cert.SumMixerRefIdeal.τ).loc Cert.SumMixerRefIdeal.main_arg0)
      ∧ r.2.mem ((c.tc : Thread Cert.SumMixerRefIdeal.nD Cert.SumMixerRefIdeal.τ).loc Cert.SumMixerRefIdeal.main_arg1) = m ((c.tc : Thread Cert.SumMixerRefIdeal.nD Cert.SumMixerRefIdeal.τ).loc Cert.SumMixerRefIdeal.main_arg1))
      ∧ r.2.sem = fun _ => 0)

def quiescent_SumXa [hSumXa : Cert.SumXa.Facts] : Prop :=
  ∀ (m : (ℓ : Loc Cert.SumXa.nD Cert.SumXa.τ Cert.SumXa.sig) → Buf (Elt Bits) ℓ) (g : Dev Cert.SumXa.nD → PrngReg), Pre_SumXa m →
    θ_run (Cert.SumXa.defs (F := Bits)) (onTc (τ := Cert.SumXa.τ) (Cert.SumXa.main (F := Bits))) ⟨m, fun _ => 0, g⟩ (fun r => (∀ c : Dev Cert.SumXa.nD,
      r.2.mem ((c.tc : Thread Cert.SumXa.nD Cert.SumXa.τ).loc Cert.SumXa.main_arg0) = m ((c.tc : Thread Cert.SumXa.nD Cert.SumXa.τ).loc Cert.SumXa.main_arg0)
      ∧ r.2.mem ((c.tc : Thread Cert.SumXa.nD Cert.SumXa.τ).loc Cert.SumXa.main_arg1) = m ((c.tc : Thread Cert.SumXa.nD Cert.SumXa.τ).loc Cert.SumXa.main_arg1))
      ∧ r.2.sem = fun _ => 0)

def quiescent_SumXaIdeal [hSumXaIdeal : Cert.SumXaIdeal.Facts] : Prop :=
  ∀ (m : (ℓ : Loc Cert.SumXaIdeal.nD Cert.SumXaIdeal.τ Cert.SumXaIdeal.sig) → Buf (Elt Ideal) ℓ) (g : Dev Cert.SumXaIdeal.nD → PrngReg), Pre_SumXaIdeal m →
    θ_run (Cert.SumXaIdeal.defs (F := Ideal)) (onTc (τ := Cert.SumXaIdeal.τ) (Cert.SumXaIdeal.main (F := Ideal))) ⟨m, fun _ => 0, g⟩ (fun r => (∀ c : Dev Cert.SumXaIdeal.nD,
      r.2.mem ((c.tc : Thread Cert.SumXaIdeal.nD Cert.SumXaIdeal.τ).loc Cert.SumXaIdeal.main_arg0) = m ((c.tc : Thread Cert.SumXaIdeal.nD Cert.SumXaIdeal.τ).loc Cert.SumXaIdeal.main_arg0)
      ∧ r.2.mem ((c.tc : Thread Cert.SumXaIdeal.nD Cert.SumXaIdeal.τ).loc Cert.SumXaIdeal.main_arg1) = m ((c.tc : Thread Cert.SumXaIdeal.nD Cert.SumXaIdeal.τ).loc Cert.SumXaIdeal.main_arg1))
      ∧ r.2.sem = fun _ => 0)

def quiescent_SumXaRefIdeal [hSumXaRefIdeal : Cert.SumXaRefIdeal.Facts] : Prop :=
  ∀ (m : (ℓ : Loc Cert.SumXaRefIdeal.nD Cert.SumXaRefIdeal.τ Cert.SumXaRefIdeal.sig) → Buf (Elt Ideal) ℓ) (g : Dev Cert.SumXaRefIdeal.nD → PrngReg), Pre_SumXaRefIdeal m →
    θ_run (Cert.SumXaRefIdeal.defs (F := Ideal)) (onTc (τ := Cert.SumXaRefIdeal.τ) (Cert.SumXaRefIdeal.main (F := Ideal))) ⟨m, fun _ => 0, g⟩ (fun r => (∀ c : Dev Cert.SumXaRefIdeal.nD,
      r.2.mem ((c.tc : Thread Cert.SumXaRefIdeal.nD Cert.SumXaRefIdeal.τ).loc Cert.SumXaRefIdeal.main_arg0) = m ((c.tc : Thread Cert.SumXaRefIdeal.nD Cert.SumXaRefIdeal.τ).loc Cert.SumXaRefIdeal.main_arg0)
      ∧ r.2.mem ((c.tc : Thread Cert.SumXaRefIdeal.nD Cert.SumXaRefIdeal.τ).loc Cert.SumXaRefIdeal.main_arg1) = m ((c.tc : Thread Cert.SumXaRefIdeal.nD Cert.SumXaRefIdeal.τ).loc Cert.SumXaRefIdeal.main_arg1))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0)
      ∧ r.2.mem ((c.tc : Thread Cert.Attend.nD Cert.Attend.τ).loc Cert.Attend.main_arg1) = m ((c.tc : Thread Cert.Attend.nD Cert.Attend.τ).loc Cert.Attend.main_arg1)
      ∧ r.2.mem ((c.tc : Thread Cert.Attend.nD Cert.Attend.τ).loc Cert.Attend.main_arg2) = m ((c.tc : Thread Cert.Attend.nD Cert.Attend.τ).loc Cert.Attend.main_arg2))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
      ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
      ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ r.2.sem = fun _ => 0)

def quiescent_AttendRefIdeal [hAttendRefIdeal : Cert.AttendRefIdeal.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2))
      ∧ r.2.sem = fun _ => 0)

def quiescent_AttendBack [hAttendBack : Cert.AttendBack.Facts] : Prop :=
  ∀ (m : (ℓ : Loc Cert.AttendBack.nD Cert.AttendBack.τ Cert.AttendBack.sig) → Buf (Elt Bits) ℓ) (g : Dev Cert.AttendBack.nD → PrngReg), Pre_AttendBack m →
    θ_run (Cert.AttendBack.defs (F := Bits)) (onTc (τ := Cert.AttendBack.τ) (Cert.AttendBack.main (F := Bits))) ⟨m, fun _ => 0, g⟩ (fun r => (∀ c : Dev Cert.AttendBack.nD,
      r.2.mem ((c.tc : Thread Cert.AttendBack.nD Cert.AttendBack.τ).loc Cert.AttendBack.main_arg0) = m ((c.tc : Thread Cert.AttendBack.nD Cert.AttendBack.τ).loc Cert.AttendBack.main_arg0)
      ∧ r.2.mem ((c.tc : Thread Cert.AttendBack.nD Cert.AttendBack.τ).loc Cert.AttendBack.main_arg1) = m ((c.tc : Thread Cert.AttendBack.nD Cert.AttendBack.τ).loc Cert.AttendBack.main_arg1)
      ∧ r.2.mem ((c.tc : Thread Cert.AttendBack.nD Cert.AttendBack.τ).loc Cert.AttendBack.main_arg2) = m ((c.tc : Thread Cert.AttendBack.nD Cert.AttendBack.τ).loc Cert.AttendBack.main_arg2)
      ∧ r.2.mem ((c.tc : Thread Cert.AttendBack.nD Cert.AttendBack.τ).loc Cert.AttendBack.main_arg3) = m ((c.tc : Thread Cert.AttendBack.nD Cert.AttendBack.τ).loc Cert.AttendBack.main_arg3))
      ∧ r.2.sem = fun _ => 0)

def quiescent_AttendBackIdeal [hAttendBackIdeal : Cert.AttendBackIdeal.Facts] : Prop :=
  ∀ (m : (ℓ : Loc Cert.AttendBackIdeal.nD Cert.AttendBackIdeal.τ Cert.AttendBackIdeal.sig) → Buf (Elt Ideal) ℓ) (g : Dev Cert.AttendBackIdeal.nD → PrngReg), Pre_AttendBackIdeal m →
    θ_run (Cert.AttendBackIdeal.defs (F := Ideal)) (onTc (τ := Cert.AttendBackIdeal.τ) (Cert.AttendBackIdeal.main (F := Ideal))) ⟨m, fun _ => 0, g⟩ (fun r => (∀ c : Dev Cert.AttendBackIdeal.nD,
      r.2.mem ((c.tc : Thread Cert.AttendBackIdeal.nD Cert.AttendBackIdeal.τ).loc Cert.AttendBackIdeal.main_arg0) = m ((c.tc : Thread Cert.AttendBackIdeal.nD Cert.AttendBackIdeal.τ).loc Cert.AttendBackIdeal.main_arg0)
      ∧ r.2.mem ((c.tc : Thread Cert.AttendBackIdeal.nD Cert.AttendBackIdeal.τ).loc Cert.AttendBackIdeal.main_arg1) = m ((c.tc : Thread Cert.AttendBackIdeal.nD Cert.AttendBackIdeal.τ).loc Cert.AttendBackIdeal.main_arg1)
      ∧ r.2.mem ((c.tc : Thread Cert.AttendBackIdeal.nD Cert.AttendBackIdeal.τ).loc Cert.AttendBackIdeal.main_arg2) = m ((c.tc : Thread Cert.AttendBackIdeal.nD Cert.AttendBackIdeal.τ).loc Cert.AttendBackIdeal.main_arg2)
      ∧ r.2.mem ((c.tc : Thread Cert.AttendBackIdeal.nD Cert.AttendBackIdeal.τ).loc Cert.AttendBackIdeal.main_arg3) = m ((c.tc : Thread Cert.AttendBackIdeal.nD Cert.AttendBackIdeal.τ).loc Cert.AttendBackIdeal.main_arg3))
      ∧ r.2.sem = fun _ => 0)

def quiescent_AttendBackIdeal_pre_finite_attend [hAttendBackIdeal : Cert.AttendBackIdeal.Facts] [hPre_finite_attend : Cert.Pre_finite_attend.Facts] : Prop :=
  ∀ (m : (ℓ : Loc Cert.AttendBackIdeal.nD Cert.AttendBackIdeal.τ Cert.AttendBackIdeal.sig) → Buf (Elt Ideal) ℓ) (g : Dev Cert.AttendBackIdeal.nD → PrngReg), Pre_AttendBackIdeal_finite_attend m →
    θ_run (Cert.AttendBackIdeal.defs (F := Ideal)) (onTc (τ := Cert.AttendBackIdeal.τ) (Cert.AttendBackIdeal.main (F := Ideal))) ⟨m, fun _ => 0, g⟩ (fun r => (∀ c : Dev Cert.AttendBackIdeal.nD,
      r.2.mem ((c.tc : Thread Cert.AttendBackIdeal.nD Cert.AttendBackIdeal.τ).loc Cert.AttendBackIdeal.main_arg0) = m ((c.tc : Thread Cert.AttendBackIdeal.nD Cert.AttendBackIdeal.τ).loc Cert.AttendBackIdeal.main_arg0)
      ∧ r.2.mem ((c.tc : Thread Cert.AttendBackIdeal.nD Cert.AttendBackIdeal.τ).loc Cert.AttendBackIdeal.main_arg1) = m ((c.tc : Thread Cert.AttendBackIdeal.nD Cert.AttendBackIdeal.τ).loc Cert.AttendBackIdeal.main_arg1)
      ∧ r.2.mem ((c.tc : Thread Cert.AttendBackIdeal.nD Cert.AttendBackIdeal.τ).loc Cert.AttendBackIdeal.main_arg2) = m ((c.tc : Thread Cert.AttendBackIdeal.nD Cert.AttendBackIdeal.τ).loc Cert.AttendBackIdeal.main_arg2)
      ∧ r.2.mem ((c.tc : Thread Cert.AttendBackIdeal.nD Cert.AttendBackIdeal.τ).loc Cert.AttendBackIdeal.main_arg3) = m ((c.tc : Thread Cert.AttendBackIdeal.nD Cert.AttendBackIdeal.τ).loc Cert.AttendBackIdeal.main_arg3))
      ∧ r.2.sem = fun _ => 0)

def quiescent_AttendBackRefIdeal [hAttendBackRefIdeal : Cert.AttendBackRefIdeal.Facts] : Prop :=
  ∀ (m : (ℓ : Loc Cert.AttendBackRefIdeal.nD Cert.AttendBackRefIdeal.τ Cert.AttendBackRefIdeal.sig) → Buf (Elt Ideal) ℓ) (g : Dev Cert.AttendBackRefIdeal.nD → PrngReg), Pre_AttendBackRefIdeal m →
    θ_run (Cert.AttendBackRefIdeal.defs (F := Ideal)) (onTc (τ := Cert.AttendBackRefIdeal.τ) (Cert.AttendBackRefIdeal.main (F := Ideal))) ⟨m, fun _ => 0, g⟩ (fun r => (∀ c : Dev Cert.AttendBackRefIdeal.nD,
      r.2.mem ((c.tc : Thread Cert.AttendBackRefIdeal.nD Cert.AttendBackRefIdeal.τ).loc Cert.AttendBackRefIdeal.main_arg0) = m ((c.tc : Thread Cert.AttendBackRefIdeal.nD Cert.AttendBackRefIdeal.τ).loc Cert.AttendBackRefIdeal.main_arg0)
      ∧ r.2.mem ((c.tc : Thread Cert.AttendBackRefIdeal.nD Cert.AttendBackRefIdeal.τ).loc Cert.AttendBackRefIdeal.main_arg1) = m ((c.tc : Thread Cert.AttendBackRefIdeal.nD Cert.AttendBackRefIdeal.τ).loc Cert.AttendBackRefIdeal.main_arg1)
      ∧ r.2.mem ((c.tc : Thread Cert.AttendBackRefIdeal.nD Cert.AttendBackRefIdeal.τ).loc Cert.AttendBackRefIdeal.main_arg2) = m ((c.tc : Thread Cert.AttendBackRefIdeal.nD Cert.AttendBackRefIdeal.τ).loc Cert.AttendBackRefIdeal.main_arg2)
      ∧ r.2.mem ((c.tc : Thread Cert.AttendBackRefIdeal.nD Cert.AttendBackRefIdeal.τ).loc Cert.AttendBackRefIdeal.main_arg3) = m ((c.tc : Thread Cert.AttendBackRefIdeal.nD Cert.AttendBackRefIdeal.τ).loc Cert.AttendBackRefIdeal.main_arg3))
      ∧ r.2.sem = fun _ => 0)

def quiescent_AttendBackRefIdeal_pre_finite_attend [hAttendBackRefIdeal : Cert.AttendBackRefIdeal.Facts] [hPre_finite_attend : Cert.Pre_finite_attend.Facts] : Prop :=
  ∀ (m : (ℓ : Loc Cert.AttendBackRefIdeal.nD Cert.AttendBackRefIdeal.τ Cert.AttendBackRefIdeal.sig) → Buf (Elt Ideal) ℓ) (g : Dev Cert.AttendBackRefIdeal.nD → PrngReg), Pre_AttendBackRefIdeal_finite_attend m →
    θ_run (Cert.AttendBackRefIdeal.defs (F := Ideal)) (onTc (τ := Cert.AttendBackRefIdeal.τ) (Cert.AttendBackRefIdeal.main (F := Ideal))) ⟨m, fun _ => 0, g⟩ (fun r => (∀ c : Dev Cert.AttendBackRefIdeal.nD,
      r.2.mem ((c.tc : Thread Cert.AttendBackRefIdeal.nD Cert.AttendBackRefIdeal.τ).loc Cert.AttendBackRefIdeal.main_arg0) = m ((c.tc : Thread Cert.AttendBackRefIdeal.nD Cert.AttendBackRefIdeal.τ).loc Cert.AttendBackRefIdeal.main_arg0)
      ∧ r.2.mem ((c.tc : Thread Cert.AttendBackRefIdeal.nD Cert.AttendBackRefIdeal.τ).loc Cert.AttendBackRefIdeal.main_arg1) = m ((c.tc : Thread Cert.AttendBackRefIdeal.nD Cert.AttendBackRefIdeal.τ).loc Cert.AttendBackRefIdeal.main_arg1)
      ∧ r.2.mem ((c.tc : Thread Cert.AttendBackRefIdeal.nD Cert.AttendBackRefIdeal.τ).loc Cert.AttendBackRefIdeal.main_arg2) = m ((c.tc : Thread Cert.AttendBackRefIdeal.nD Cert.AttendBackRefIdeal.τ).loc Cert.AttendBackRefIdeal.main_arg2)
      ∧ r.2.mem ((c.tc : Thread Cert.AttendBackRefIdeal.nD Cert.AttendBackRefIdeal.τ).loc Cert.AttendBackRefIdeal.main_arg3) = m ((c.tc : Thread Cert.AttendBackRefIdeal.nD Cert.AttendBackRefIdeal.τ).loc Cert.AttendBackRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_MergeBack [hMergeBack : Cert.MergeBack.Facts] : Prop :=
  ∀ (m : (ℓ : Loc Cert.MergeBack.nD Cert.MergeBack.τ Cert.MergeBack.sig) → Buf (Elt Bits) ℓ) (g : Dev Cert.MergeBack.nD → PrngReg), Pre_MergeBack m →
    θ_run (Cert.MergeBack.defs (F := Bits)) (onTc (τ := Cert.MergeBack.τ) (Cert.MergeBack.main (F := Bits))) ⟨m, fun _ => 0, g⟩ (fun r => (∀ c : Dev Cert.MergeBack.nD,
      r.2.mem ((c.tc : Thread Cert.MergeBack.nD Cert.MergeBack.τ).loc Cert.MergeBack.main_arg0) = m ((c.tc : Thread Cert.MergeBack.nD Cert.MergeBack.τ).loc Cert.MergeBack.main_arg0)
      ∧ r.2.mem ((c.tc : Thread Cert.MergeBack.nD Cert.MergeBack.τ).loc Cert.MergeBack.main_arg1) = m ((c.tc : Thread Cert.MergeBack.nD Cert.MergeBack.τ).loc Cert.MergeBack.main_arg1)
      ∧ r.2.mem ((c.tc : Thread Cert.MergeBack.nD Cert.MergeBack.τ).loc Cert.MergeBack.main_arg2) = m ((c.tc : Thread Cert.MergeBack.nD Cert.MergeBack.τ).loc Cert.MergeBack.main_arg2)
      ∧ r.2.mem ((c.tc : Thread Cert.MergeBack.nD Cert.MergeBack.τ).loc Cert.MergeBack.main_arg3) = m ((c.tc : Thread Cert.MergeBack.nD Cert.MergeBack.τ).loc Cert.MergeBack.main_arg3))
      ∧ r.2.sem = fun _ => 0)

def quiescent_MergeBackIdeal [hMergeBackIdeal : Cert.MergeBackIdeal.Facts] : Prop :=
  ∀ (m : (ℓ : Loc Cert.MergeBackIdeal.nD Cert.MergeBackIdeal.τ Cert.MergeBackIdeal.sig) → Buf (Elt Ideal) ℓ) (g : Dev Cert.MergeBackIdeal.nD → PrngReg), Pre_MergeBackIdeal m →
    θ_run (Cert.MergeBackIdeal.defs (F := Ideal)) (onTc (τ := Cert.MergeBackIdeal.τ) (Cert.MergeBackIdeal.main (F := Ideal))) ⟨m, fun _ => 0, g⟩ (fun r => (∀ c : Dev Cert.MergeBackIdeal.nD,
      r.2.mem ((c.tc : Thread Cert.MergeBackIdeal.nD Cert.MergeBackIdeal.τ).loc Cert.MergeBackIdeal.main_arg0) = m ((c.tc : Thread Cert.MergeBackIdeal.nD Cert.MergeBackIdeal.τ).loc Cert.MergeBackIdeal.main_arg0)
      ∧ r.2.mem ((c.tc : Thread Cert.MergeBackIdeal.nD Cert.MergeBackIdeal.τ).loc Cert.MergeBackIdeal.main_arg1) = m ((c.tc : Thread Cert.MergeBackIdeal.nD Cert.MergeBackIdeal.τ).loc Cert.MergeBackIdeal.main_arg1)
      ∧ r.2.mem ((c.tc : Thread Cert.MergeBackIdeal.nD Cert.MergeBackIdeal.τ).loc Cert.MergeBackIdeal.main_arg2) = m ((c.tc : Thread Cert.MergeBackIdeal.nD Cert.MergeBackIdeal.τ).loc Cert.MergeBackIdeal.main_arg2)
      ∧ r.2.mem ((c.tc : Thread Cert.MergeBackIdeal.nD Cert.MergeBackIdeal.τ).loc Cert.MergeBackIdeal.main_arg3) = m ((c.tc : Thread Cert.MergeBackIdeal.nD Cert.MergeBackIdeal.τ).loc Cert.MergeBackIdeal.main_arg3))
      ∧ r.2.sem = fun _ => 0)

def quiescent_MergeBackRefIdeal [hMergeBackRefIdeal : Cert.MergeBackRefIdeal.Facts] : Prop :=
  ∀ (m : (ℓ : Loc Cert.MergeBackRefIdeal.nD Cert.MergeBackRefIdeal.τ Cert.MergeBackRefIdeal.sig) → Buf (Elt Ideal) ℓ) (g : Dev Cert.MergeBackRefIdeal.nD → PrngReg), Pre_MergeBackRefIdeal m →
    θ_run (Cert.MergeBackRefIdeal.defs (F := Ideal)) (onTc (τ := Cert.MergeBackRefIdeal.τ) (Cert.MergeBackRefIdeal.main (F := Ideal))) ⟨m, fun _ => 0, g⟩ (fun r => (∀ c : Dev Cert.MergeBackRefIdeal.nD,
      r.2.mem ((c.tc : Thread Cert.MergeBackRefIdeal.nD Cert.MergeBackRefIdeal.τ).loc Cert.MergeBackRefIdeal.main_arg0) = m ((c.tc : Thread Cert.MergeBackRefIdeal.nD Cert.MergeBackRefIdeal.τ).loc Cert.MergeBackRefIdeal.main_arg0)
      ∧ r.2.mem ((c.tc : Thread Cert.MergeBackRefIdeal.nD Cert.MergeBackRefIdeal.τ).loc Cert.MergeBackRefIdeal.main_arg1) = m ((c.tc : Thread Cert.MergeBackRefIdeal.nD Cert.MergeBackRefIdeal.τ).loc Cert.MergeBackRefIdeal.main_arg1)
      ∧ r.2.mem ((c.tc : Thread Cert.MergeBackRefIdeal.nD Cert.MergeBackRefIdeal.τ).loc Cert.MergeBackRefIdeal.main_arg2) = m ((c.tc : Thread Cert.MergeBackRefIdeal.nD Cert.MergeBackRefIdeal.τ).loc Cert.MergeBackRefIdeal.main_arg2)
      ∧ r.2.mem ((c.tc : Thread Cert.MergeBackRefIdeal.nD Cert.MergeBackRefIdeal.τ).loc Cert.MergeBackRefIdeal.main_arg3) = m ((c.tc : Thread Cert.MergeBackRefIdeal.nD Cert.MergeBackRefIdeal.τ).loc Cert.MergeBackRefIdeal.main_arg3))
      ∧ r.2.sem = fun _ => 0)

def quiescent_LnHalf [hLnHalf : Cert.LnHalf.Facts] : Prop :=
  ∀ (m : (ℓ : Loc Cert.LnHalf.nD Cert.LnHalf.τ Cert.LnHalf.sig) → Buf (Elt Bits) ℓ) (g : Dev Cert.LnHalf.nD → PrngReg), Pre_LnHalf m →
    θ_run (Cert.LnHalf.defs (F := Bits)) (onTc (τ := Cert.LnHalf.τ) (Cert.LnHalf.main (F := Bits))) ⟨m, fun _ => 0, g⟩ (fun r => (∀ c : Dev Cert.LnHalf.nD,
      r.2.mem ((c.tc : Thread Cert.LnHalf.nD Cert.LnHalf.τ).loc Cert.LnHalf.main_arg0) = m ((c.tc : Thread Cert.LnHalf.nD Cert.LnHalf.τ).loc Cert.LnHalf.main_arg0)
      ∧ r.2.mem ((c.tc : Thread Cert.LnHalf.nD Cert.LnHalf.τ).loc Cert.LnHalf.main_arg1) = m ((c.tc : Thread Cert.LnHalf.nD Cert.LnHalf.τ).loc Cert.LnHalf.main_arg1)
      ∧ r.2.mem ((c.tc : Thread Cert.LnHalf.nD Cert.LnHalf.τ).loc Cert.LnHalf.main_arg2) = m ((c.tc : Thread Cert.LnHalf.nD Cert.LnHalf.τ).loc Cert.LnHalf.main_arg2)
      ∧ r.2.mem ((c.tc : Thread Cert.LnHalf.nD Cert.LnHalf.τ).loc Cert.LnHalf.main_arg3) = m ((c.tc : Thread Cert.LnHalf.nD Cert.LnHalf.τ).loc Cert.LnHalf.main_arg3))
      ∧ r.2.sem = fun _ => 0)

def quiescent_LnHalfIdeal [hLnHalfIdeal : Cert.LnHalfIdeal.Facts] : Prop :=
  ∀ (m : (ℓ : Loc Cert.LnHalfIdeal.nD Cert.LnHalfIdeal.τ Cert.LnHalfIdeal.sig) → Buf (Elt Ideal) ℓ) (g : Dev Cert.LnHalfIdeal.nD → PrngReg), Pre_LnHalfIdeal m →
    θ_run (Cert.LnHalfIdeal.defs (F := Ideal)) (onTc (τ := Cert.LnHalfIdeal.τ) (Cert.LnHalfIdeal.main (F := Ideal))) ⟨m, fun _ => 0, g⟩ (fun r => (∀ c : Dev Cert.LnHalfIdeal.nD,
      r.2.mem ((c.tc : Thread Cert.LnHalfIdeal.nD Cert.LnHalfIdeal.τ).loc Cert.LnHalfIdeal.main_arg0) = m ((c.tc : Thread Cert.LnHalfIdeal.nD Cert.LnHalfIdeal.τ).loc Cert.LnHalfIdeal.main_arg0)
      ∧ r.2.mem ((c.tc : Thread Cert.LnHalfIdeal.nD Cert.LnHalfIdeal.τ).loc Cert.LnHalfIdeal.main_arg1) = m ((c.tc : Thread Cert.LnHalfIdeal.nD Cert.LnHalfIdeal.τ).loc Cert.LnHalfIdeal.main_arg1)
      ∧ r.2.mem ((c.tc : Thread Cert.LnHalfIdeal.nD Cert.LnHalfIdeal.τ).loc Cert.LnHalfIdeal.main_arg2) = m ((c.tc : Thread Cert.LnHalfIdeal.nD Cert.LnHalfIdeal.τ).loc Cert.LnHalfIdeal.main_arg2)
      ∧ r.2.mem ((c.tc : Thread Cert.LnHalfIdeal.nD Cert.LnHalfIdeal.τ).loc Cert.LnHalfIdeal.main_arg3) = m ((c.tc : Thread Cert.LnHalfIdeal.nD Cert.LnHalfIdeal.τ).loc Cert.LnHalfIdeal.main_arg3))
      ∧ r.2.sem = fun _ => 0)

def quiescent_LnHalfRefIdeal [hLnHalfRefIdeal : Cert.LnHalfRefIdeal.Facts] : Prop :=
  ∀ (m : (ℓ : Loc Cert.LnHalfRefIdeal.nD Cert.LnHalfRefIdeal.τ Cert.LnHalfRefIdeal.sig) → Buf (Elt Ideal) ℓ) (g : Dev Cert.LnHalfRefIdeal.nD → PrngReg), Pre_LnHalfRefIdeal m →
    θ_run (Cert.LnHalfRefIdeal.defs (F := Ideal)) (onTc (τ := Cert.LnHalfRefIdeal.τ) (Cert.LnHalfRefIdeal.main (F := Ideal))) ⟨m, fun _ => 0, g⟩ (fun r => (∀ c : Dev Cert.LnHalfRefIdeal.nD,
      r.2.mem ((c.tc : Thread Cert.LnHalfRefIdeal.nD Cert.LnHalfRefIdeal.τ).loc Cert.LnHalfRefIdeal.main_arg0) = m ((c.tc : Thread Cert.LnHalfRefIdeal.nD Cert.LnHalfRefIdeal.τ).loc Cert.LnHalfRefIdeal.main_arg0)
      ∧ r.2.mem ((c.tc : Thread Cert.LnHalfRefIdeal.nD Cert.LnHalfRefIdeal.τ).loc Cert.LnHalfRefIdeal.main_arg1) = m ((c.tc : Thread Cert.LnHalfRefIdeal.nD Cert.LnHalfRefIdeal.τ).loc Cert.LnHalfRefIdeal.main_arg1)
      ∧ r.2.mem ((c.tc : Thread Cert.LnHalfRefIdeal.nD Cert.LnHalfRefIdeal.τ).loc Cert.LnHalfRefIdeal.main_arg2) = m ((c.tc : Thread Cert.LnHalfRefIdeal.nD Cert.LnHalfRefIdeal.τ).loc Cert.LnHalfRefIdeal.main_arg2)
      ∧ r.2.mem ((c.tc : Thread Cert.LnHalfRefIdeal.nD Cert.LnHalfRefIdeal.τ).loc Cert.LnHalfRefIdeal.main_arg3) = m ((c.tc : Thread Cert.LnHalfRefIdeal.nD Cert.LnHalfRefIdeal.τ).loc Cert.LnHalfRefIdeal.main_arg3))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3))
      ∧ r.2.sem = fun _ => 0)

def quiescent_LnBack [hLnBack : Cert.LnBack.Facts] : Prop :=
  ∀ (m : (ℓ : Loc Cert.LnBack.nD Cert.LnBack.τ Cert.LnBack.sig) → Buf (Elt Bits) ℓ) (g : Dev Cert.LnBack.nD → PrngReg), Pre_LnBack m →
    θ_run (Cert.LnBack.defs (F := Bits)) (onTc (τ := Cert.LnBack.τ) (Cert.LnBack.main (F := Bits))) ⟨m, fun _ => 0, g⟩ (fun r => (∀ c : Dev Cert.LnBack.nD,
      r.2.mem ((c.tc : Thread Cert.LnBack.nD Cert.LnBack.τ).loc Cert.LnBack.main_arg0) = m ((c.tc : Thread Cert.LnBack.nD Cert.LnBack.τ).loc Cert.LnBack.main_arg0)
      ∧ r.2.mem ((c.tc : Thread Cert.LnBack.nD Cert.LnBack.τ).loc Cert.LnBack.main_arg1) = m ((c.tc : Thread Cert.LnBack.nD Cert.LnBack.τ).loc Cert.LnBack.main_arg1)
      ∧ r.2.mem ((c.tc : Thread Cert.LnBack.nD Cert.LnBack.τ).loc Cert.LnBack.main_arg2) = m ((c.tc : Thread Cert.LnBack.nD Cert.LnBack.τ).loc Cert.LnBack.main_arg2)
      ∧ r.2.mem ((c.tc : Thread Cert.LnBack.nD Cert.LnBack.τ).loc Cert.LnBack.main_arg3) = m ((c.tc : Thread Cert.LnBack.nD Cert.LnBack.τ).loc Cert.LnBack.main_arg3))
      ∧ r.2.sem = fun _ => 0)

def quiescent_LnBackIdeal [hLnBackIdeal : Cert.LnBackIdeal.Facts] : Prop :=
  ∀ (m : (ℓ : Loc Cert.LnBackIdeal.nD Cert.LnBackIdeal.τ Cert.LnBackIdeal.sig) → Buf (Elt Ideal) ℓ) (g : Dev Cert.LnBackIdeal.nD → PrngReg), Pre_LnBackIdeal m →
    θ_run (Cert.LnBackIdeal.defs (F := Ideal)) (onTc (τ := Cert.LnBackIdeal.τ) (Cert.LnBackIdeal.main (F := Ideal))) ⟨m, fun _ => 0, g⟩ (fun r => (∀ c : Dev Cert.LnBackIdeal.nD,
      r.2.mem ((c.tc : Thread Cert.LnBackIdeal.nD Cert.LnBackIdeal.τ).loc Cert.LnBackIdeal.main_arg0) = m ((c.tc : Thread Cert.LnBackIdeal.nD Cert.LnBackIdeal.τ).loc Cert.LnBackIdeal.main_arg0)
      ∧ r.2.mem ((c.tc : Thread Cert.LnBackIdeal.nD Cert.LnBackIdeal.τ).loc Cert.LnBackIdeal.main_arg1) = m ((c.tc : Thread Cert.LnBackIdeal.nD Cert.LnBackIdeal.τ).loc Cert.LnBackIdeal.main_arg1)
      ∧ r.2.mem ((c.tc : Thread Cert.LnBackIdeal.nD Cert.LnBackIdeal.τ).loc Cert.LnBackIdeal.main_arg2) = m ((c.tc : Thread Cert.LnBackIdeal.nD Cert.LnBackIdeal.τ).loc Cert.LnBackIdeal.main_arg2)
      ∧ r.2.mem ((c.tc : Thread Cert.LnBackIdeal.nD Cert.LnBackIdeal.τ).loc Cert.LnBackIdeal.main_arg3) = m ((c.tc : Thread Cert.LnBackIdeal.nD Cert.LnBackIdeal.τ).loc Cert.LnBackIdeal.main_arg3))
      ∧ r.2.sem = fun _ => 0)

def quiescent_LnBackIdeal_pre_finite_ln [hLnBackIdeal : Cert.LnBackIdeal.Facts] [hPre_finite_ln : Cert.Pre_finite_ln.Facts] : Prop :=
  ∀ (m : (ℓ : Loc Cert.LnBackIdeal.nD Cert.LnBackIdeal.τ Cert.LnBackIdeal.sig) → Buf (Elt Ideal) ℓ) (g : Dev Cert.LnBackIdeal.nD → PrngReg), Pre_LnBackIdeal_finite_ln m →
    θ_run (Cert.LnBackIdeal.defs (F := Ideal)) (onTc (τ := Cert.LnBackIdeal.τ) (Cert.LnBackIdeal.main (F := Ideal))) ⟨m, fun _ => 0, g⟩ (fun r => (∀ c : Dev Cert.LnBackIdeal.nD,
      r.2.mem ((c.tc : Thread Cert.LnBackIdeal.nD Cert.LnBackIdeal.τ).loc Cert.LnBackIdeal.main_arg0) = m ((c.tc : Thread Cert.LnBackIdeal.nD Cert.LnBackIdeal.τ).loc Cert.LnBackIdeal.main_arg0)
      ∧ r.2.mem ((c.tc : Thread Cert.LnBackIdeal.nD Cert.LnBackIdeal.τ).loc Cert.LnBackIdeal.main_arg1) = m ((c.tc : Thread Cert.LnBackIdeal.nD Cert.LnBackIdeal.τ).loc Cert.LnBackIdeal.main_arg1)
      ∧ r.2.mem ((c.tc : Thread Cert.LnBackIdeal.nD Cert.LnBackIdeal.τ).loc Cert.LnBackIdeal.main_arg2) = m ((c.tc : Thread Cert.LnBackIdeal.nD Cert.LnBackIdeal.τ).loc Cert.LnBackIdeal.main_arg2)
      ∧ r.2.mem ((c.tc : Thread Cert.LnBackIdeal.nD Cert.LnBackIdeal.τ).loc Cert.LnBackIdeal.main_arg3) = m ((c.tc : Thread Cert.LnBackIdeal.nD Cert.LnBackIdeal.τ).loc Cert.LnBackIdeal.main_arg3))
      ∧ r.2.sem = fun _ => 0)

def quiescent_LnBackRefIdeal [hLnBackRefIdeal : Cert.LnBackRefIdeal.Facts] : Prop :=
  ∀ (m : (ℓ : Loc Cert.LnBackRefIdeal.nD Cert.LnBackRefIdeal.τ Cert.LnBackRefIdeal.sig) → Buf (Elt Ideal) ℓ) (g : Dev Cert.LnBackRefIdeal.nD → PrngReg), Pre_LnBackRefIdeal m →
    θ_run (Cert.LnBackRefIdeal.defs (F := Ideal)) (onTc (τ := Cert.LnBackRefIdeal.τ) (Cert.LnBackRefIdeal.main (F := Ideal))) ⟨m, fun _ => 0, g⟩ (fun r => (∀ c : Dev Cert.LnBackRefIdeal.nD,
      r.2.mem ((c.tc : Thread Cert.LnBackRefIdeal.nD Cert.LnBackRefIdeal.τ).loc Cert.LnBackRefIdeal.main_arg0) = m ((c.tc : Thread Cert.LnBackRefIdeal.nD Cert.LnBackRefIdeal.τ).loc Cert.LnBackRefIdeal.main_arg0)
      ∧ r.2.mem ((c.tc : Thread Cert.LnBackRefIdeal.nD Cert.LnBackRefIdeal.τ).loc Cert.LnBackRefIdeal.main_arg1) = m ((c.tc : Thread Cert.LnBackRefIdeal.nD Cert.LnBackRefIdeal.τ).loc Cert.LnBackRefIdeal.main_arg1)
      ∧ r.2.mem ((c.tc : Thread Cert.LnBackRefIdeal.nD Cert.LnBackRefIdeal.τ).loc Cert.LnBackRefIdeal.main_arg2) = m ((c.tc : Thread Cert.LnBackRefIdeal.nD Cert.LnBackRefIdeal.τ).loc Cert.LnBackRefIdeal.main_arg2)
      ∧ r.2.mem ((c.tc : Thread Cert.LnBackRefIdeal.nD Cert.LnBackRefIdeal.τ).loc Cert.LnBackRefIdeal.main_arg3) = m ((c.tc : Thread Cert.LnBackRefIdeal.nD Cert.LnBackRefIdeal.τ).loc Cert.LnBackRefIdeal.main_arg3))
      ∧ r.2.sem = fun _ => 0)

def quiescent_LnBackRefIdeal_pre_finite_ln [hLnBackRefIdeal : Cert.LnBackRefIdeal.Facts] [hPre_finite_ln : Cert.Pre_finite_ln.Facts] : Prop :=
  ∀ (m : (ℓ : Loc Cert.LnBackRefIdeal.nD Cert.LnBackRefIdeal.τ Cert.LnBackRefIdeal.sig) → Buf (Elt Ideal) ℓ) (g : Dev Cert.LnBackRefIdeal.nD → PrngReg), Pre_LnBackRefIdeal_finite_ln m →
    θ_run (Cert.LnBackRefIdeal.defs (F := Ideal)) (onTc (τ := Cert.LnBackRefIdeal.τ) (Cert.LnBackRefIdeal.main (F := Ideal))) ⟨m, fun _ => 0, g⟩ (fun r => (∀ c : Dev Cert.LnBackRefIdeal.nD,
      r.2.mem ((c.tc : Thread Cert.LnBackRefIdeal.nD Cert.LnBackRefIdeal.τ).loc Cert.LnBackRefIdeal.main_arg0) = m ((c.tc : Thread Cert.LnBackRefIdeal.nD Cert.LnBackRefIdeal.τ).loc Cert.LnBackRefIdeal.main_arg0)
      ∧ r.2.mem ((c.tc : Thread Cert.LnBackRefIdeal.nD Cert.LnBackRefIdeal.τ).loc Cert.LnBackRefIdeal.main_arg1) = m ((c.tc : Thread Cert.LnBackRefIdeal.nD Cert.LnBackRefIdeal.τ).loc Cert.LnBackRefIdeal.main_arg1)
      ∧ r.2.mem ((c.tc : Thread Cert.LnBackRefIdeal.nD Cert.LnBackRefIdeal.τ).loc Cert.LnBackRefIdeal.main_arg2) = m ((c.tc : Thread Cert.LnBackRefIdeal.nD Cert.LnBackRefIdeal.τ).loc Cert.LnBackRefIdeal.main_arg2)
      ∧ r.2.mem ((c.tc : Thread Cert.LnBackRefIdeal.nD Cert.LnBackRefIdeal.τ).loc Cert.LnBackRefIdeal.main_arg3) = m ((c.tc : Thread Cert.LnBackRefIdeal.nD Cert.LnBackRefIdeal.τ).loc Cert.LnBackRefIdeal.main_arg3))
      ∧ r.2.sem = fun _ => 0)

def quiescent_LnLast [hLnLast : Cert.LnLast.Facts] : Prop :=
  ∀ (m : (ℓ : Loc Cert.LnLast.nD Cert.LnLast.τ Cert.LnLast.sig) → Buf (Elt Bits) ℓ) (g : Dev Cert.LnLast.nD → PrngReg), Pre_LnLast m →
    θ_run (Cert.LnLast.defs (F := Bits)) (onTc (τ := Cert.LnLast.τ) (Cert.LnLast.main (F := Bits))) ⟨m, fun _ => 0, g⟩ (fun r => (∀ c : Dev Cert.LnLast.nD,
      r.2.mem ((c.tc : Thread Cert.LnLast.nD Cert.LnLast.τ).loc Cert.LnLast.main_arg0) = m ((c.tc : Thread Cert.LnLast.nD Cert.LnLast.τ).loc Cert.LnLast.main_arg0)
      ∧ r.2.mem ((c.tc : Thread Cert.LnLast.nD Cert.LnLast.τ).loc Cert.LnLast.main_arg1) = m ((c.tc : Thread Cert.LnLast.nD Cert.LnLast.τ).loc Cert.LnLast.main_arg1)
      ∧ r.2.mem ((c.tc : Thread Cert.LnLast.nD Cert.LnLast.τ).loc Cert.LnLast.main_arg2) = m ((c.tc : Thread Cert.LnLast.nD Cert.LnLast.τ).loc Cert.LnLast.main_arg2))
      ∧ r.2.sem = fun _ => 0)

def quiescent_LnLastIdeal [hLnLastIdeal : Cert.LnLastIdeal.Facts] : Prop :=
  ∀ (m : (ℓ : Loc Cert.LnLastIdeal.nD Cert.LnLastIdeal.τ Cert.LnLastIdeal.sig) → Buf (Elt Ideal) ℓ) (g : Dev Cert.LnLastIdeal.nD → PrngReg), Pre_LnLastIdeal m →
    θ_run (Cert.LnLastIdeal.defs (F := Ideal)) (onTc (τ := Cert.LnLastIdeal.τ) (Cert.LnLastIdeal.main (F := Ideal))) ⟨m, fun _ => 0, g⟩ (fun r => (∀ c : Dev Cert.LnLastIdeal.nD,
      r.2.mem ((c.tc : Thread Cert.LnLastIdeal.nD Cert.LnLastIdeal.τ).loc Cert.LnLastIdeal.main_arg0) = m ((c.tc : Thread Cert.LnLastIdeal.nD Cert.LnLastIdeal.τ).loc Cert.LnLastIdeal.main_arg0)
      ∧ r.2.mem ((c.tc : Thread Cert.LnLastIdeal.nD Cert.LnLastIdeal.τ).loc Cert.LnLastIdeal.main_arg1) = m ((c.tc : Thread Cert.LnLastIdeal.nD Cert.LnLastIdeal.τ).loc Cert.LnLastIdeal.main_arg1)
      ∧ r.2.mem ((c.tc : Thread Cert.LnLastIdeal.nD Cert.LnLastIdeal.τ).loc Cert.LnLastIdeal.main_arg2) = m ((c.tc : Thread Cert.LnLastIdeal.nD Cert.LnLastIdeal.τ).loc Cert.LnLastIdeal.main_arg2))
      ∧ r.2.sem = fun _ => 0)

def quiescent_LnLastIdeal_pre_finite_last [hLnLastIdeal : Cert.LnLastIdeal.Facts] [hPre_finite_last : Cert.Pre_finite_last.Facts] : Prop :=
  ∀ (m : (ℓ : Loc Cert.LnLastIdeal.nD Cert.LnLastIdeal.τ Cert.LnLastIdeal.sig) → Buf (Elt Ideal) ℓ) (g : Dev Cert.LnLastIdeal.nD → PrngReg), Pre_LnLastIdeal_finite_last m →
    θ_run (Cert.LnLastIdeal.defs (F := Ideal)) (onTc (τ := Cert.LnLastIdeal.τ) (Cert.LnLastIdeal.main (F := Ideal))) ⟨m, fun _ => 0, g⟩ (fun r => (∀ c : Dev Cert.LnLastIdeal.nD,
      r.2.mem ((c.tc : Thread Cert.LnLastIdeal.nD Cert.LnLastIdeal.τ).loc Cert.LnLastIdeal.main_arg0) = m ((c.tc : Thread Cert.LnLastIdeal.nD Cert.LnLastIdeal.τ).loc Cert.LnLastIdeal.main_arg0)
      ∧ r.2.mem ((c.tc : Thread Cert.LnLastIdeal.nD Cert.LnLastIdeal.τ).loc Cert.LnLastIdeal.main_arg1) = m ((c.tc : Thread Cert.LnLastIdeal.nD Cert.LnLastIdeal.τ).loc Cert.LnLastIdeal.main_arg1)
      ∧ r.2.mem ((c.tc : Thread Cert.LnLastIdeal.nD Cert.LnLastIdeal.τ).loc Cert.LnLastIdeal.main_arg2) = m ((c.tc : Thread Cert.LnLastIdeal.nD Cert.LnLastIdeal.τ).loc Cert.LnLastIdeal.main_arg2))
      ∧ r.2.sem = fun _ => 0)

def quiescent_LnLastRefIdeal [hLnLastRefIdeal : Cert.LnLastRefIdeal.Facts] : Prop :=
  ∀ (m : (ℓ : Loc Cert.LnLastRefIdeal.nD Cert.LnLastRefIdeal.τ Cert.LnLastRefIdeal.sig) → Buf (Elt Ideal) ℓ) (g : Dev Cert.LnLastRefIdeal.nD → PrngReg), Pre_LnLastRefIdeal m →
    θ_run (Cert.LnLastRefIdeal.defs (F := Ideal)) (onTc (τ := Cert.LnLastRefIdeal.τ) (Cert.LnLastRefIdeal.main (F := Ideal))) ⟨m, fun _ => 0, g⟩ (fun r => (∀ c : Dev Cert.LnLastRefIdeal.nD,
      r.2.mem ((c.tc : Thread Cert.LnLastRefIdeal.nD Cert.LnLastRefIdeal.τ).loc Cert.LnLastRefIdeal.main_arg0) = m ((c.tc : Thread Cert.LnLastRefIdeal.nD Cert.LnLastRefIdeal.τ).loc Cert.LnLastRefIdeal.main_arg0)
      ∧ r.2.mem ((c.tc : Thread Cert.LnLastRefIdeal.nD Cert.LnLastRefIdeal.τ).loc Cert.LnLastRefIdeal.main_arg1) = m ((c.tc : Thread Cert.LnLastRefIdeal.nD Cert.LnLastRefIdeal.τ).loc Cert.LnLastRefIdeal.main_arg1)
      ∧ r.2.mem ((c.tc : Thread Cert.LnLastRefIdeal.nD Cert.LnLastRefIdeal.τ).loc Cert.LnLastRefIdeal.main_arg2) = m ((c.tc : Thread Cert.LnLastRefIdeal.nD Cert.LnLastRefIdeal.τ).loc Cert.LnLastRefIdeal.main_arg2))
      ∧ r.2.sem = fun _ => 0)

def quiescent_LnLastRefIdeal_pre_finite_last [hLnLastRefIdeal : Cert.LnLastRefIdeal.Facts] [hPre_finite_last : Cert.Pre_finite_last.Facts] : Prop :=
  ∀ (m : (ℓ : Loc Cert.LnLastRefIdeal.nD Cert.LnLastRefIdeal.τ Cert.LnLastRefIdeal.sig) → Buf (Elt Ideal) ℓ) (g : Dev Cert.LnLastRefIdeal.nD → PrngReg), Pre_LnLastRefIdeal_finite_last m →
    θ_run (Cert.LnLastRefIdeal.defs (F := Ideal)) (onTc (τ := Cert.LnLastRefIdeal.τ) (Cert.LnLastRefIdeal.main (F := Ideal))) ⟨m, fun _ => 0, g⟩ (fun r => (∀ c : Dev Cert.LnLastRefIdeal.nD,
      r.2.mem ((c.tc : Thread Cert.LnLastRefIdeal.nD Cert.LnLastRefIdeal.τ).loc Cert.LnLastRefIdeal.main_arg0) = m ((c.tc : Thread Cert.LnLastRefIdeal.nD Cert.LnLastRefIdeal.τ).loc Cert.LnLastRefIdeal.main_arg0)
      ∧ r.2.mem ((c.tc : Thread Cert.LnLastRefIdeal.nD Cert.LnLastRefIdeal.τ).loc Cert.LnLastRefIdeal.main_arg1) = m ((c.tc : Thread Cert.LnLastRefIdeal.nD Cert.LnLastRefIdeal.τ).loc Cert.LnLastRefIdeal.main_arg1)
      ∧ r.2.mem ((c.tc : Thread Cert.LnLastRefIdeal.nD Cert.LnLastRefIdeal.τ).loc Cert.LnLastRefIdeal.main_arg2) = m ((c.tc : Thread Cert.LnLastRefIdeal.nD Cert.LnLastRefIdeal.τ).loc Cert.LnLastRefIdeal.main_arg2))
      ∧ r.2.sem = fun _ => 0)

def quiescent_LnMem [hLnMem : Cert.LnMem.Facts] : Prop :=
  ∀ (m : (ℓ : Loc Cert.LnMem.nD Cert.LnMem.τ Cert.LnMem.sig) → Buf (Elt Bits) ℓ) (g : Dev Cert.LnMem.nD → PrngReg), Pre_LnMem m →
    θ_run (Cert.LnMem.defs (F := Bits)) (onTc (τ := Cert.LnMem.τ) (Cert.LnMem.main (F := Bits))) ⟨m, fun _ => 0, g⟩ (fun r => (∀ c : Dev Cert.LnMem.nD,
      r.2.mem ((c.tc : Thread Cert.LnMem.nD Cert.LnMem.τ).loc Cert.LnMem.main_arg0) = m ((c.tc : Thread Cert.LnMem.nD Cert.LnMem.τ).loc Cert.LnMem.main_arg0)
      ∧ r.2.mem ((c.tc : Thread Cert.LnMem.nD Cert.LnMem.τ).loc Cert.LnMem.main_arg1) = m ((c.tc : Thread Cert.LnMem.nD Cert.LnMem.τ).loc Cert.LnMem.main_arg1)
      ∧ r.2.mem ((c.tc : Thread Cert.LnMem.nD Cert.LnMem.τ).loc Cert.LnMem.main_arg2) = m ((c.tc : Thread Cert.LnMem.nD Cert.LnMem.τ).loc Cert.LnMem.main_arg2))
      ∧ r.2.sem = fun _ => 0)

def quiescent_LnMemIdeal [hLnMemIdeal : Cert.LnMemIdeal.Facts] : Prop :=
  ∀ (m : (ℓ : Loc Cert.LnMemIdeal.nD Cert.LnMemIdeal.τ Cert.LnMemIdeal.sig) → Buf (Elt Ideal) ℓ) (g : Dev Cert.LnMemIdeal.nD → PrngReg), Pre_LnMemIdeal m →
    θ_run (Cert.LnMemIdeal.defs (F := Ideal)) (onTc (τ := Cert.LnMemIdeal.τ) (Cert.LnMemIdeal.main (F := Ideal))) ⟨m, fun _ => 0, g⟩ (fun r => (∀ c : Dev Cert.LnMemIdeal.nD,
      r.2.mem ((c.tc : Thread Cert.LnMemIdeal.nD Cert.LnMemIdeal.τ).loc Cert.LnMemIdeal.main_arg0) = m ((c.tc : Thread Cert.LnMemIdeal.nD Cert.LnMemIdeal.τ).loc Cert.LnMemIdeal.main_arg0)
      ∧ r.2.mem ((c.tc : Thread Cert.LnMemIdeal.nD Cert.LnMemIdeal.τ).loc Cert.LnMemIdeal.main_arg1) = m ((c.tc : Thread Cert.LnMemIdeal.nD Cert.LnMemIdeal.τ).loc Cert.LnMemIdeal.main_arg1)
      ∧ r.2.mem ((c.tc : Thread Cert.LnMemIdeal.nD Cert.LnMemIdeal.τ).loc Cert.LnMemIdeal.main_arg2) = m ((c.tc : Thread Cert.LnMemIdeal.nD Cert.LnMemIdeal.τ).loc Cert.LnMemIdeal.main_arg2))
      ∧ r.2.sem = fun _ => 0)

def quiescent_LnMemRefIdeal [hLnMemRefIdeal : Cert.LnMemRefIdeal.Facts] : Prop :=
  ∀ (m : (ℓ : Loc Cert.LnMemRefIdeal.nD Cert.LnMemRefIdeal.τ Cert.LnMemRefIdeal.sig) → Buf (Elt Ideal) ℓ) (g : Dev Cert.LnMemRefIdeal.nD → PrngReg), Pre_LnMemRefIdeal m →
    θ_run (Cert.LnMemRefIdeal.defs (F := Ideal)) (onTc (τ := Cert.LnMemRefIdeal.τ) (Cert.LnMemRefIdeal.main (F := Ideal))) ⟨m, fun _ => 0, g⟩ (fun r => (∀ c : Dev Cert.LnMemRefIdeal.nD,
      r.2.mem ((c.tc : Thread Cert.LnMemRefIdeal.nD Cert.LnMemRefIdeal.τ).loc Cert.LnMemRefIdeal.main_arg0) = m ((c.tc : Thread Cert.LnMemRefIdeal.nD Cert.LnMemRefIdeal.τ).loc Cert.LnMemRefIdeal.main_arg0)
      ∧ r.2.mem ((c.tc : Thread Cert.LnMemRefIdeal.nD Cert.LnMemRefIdeal.τ).loc Cert.LnMemRefIdeal.main_arg1) = m ((c.tc : Thread Cert.LnMemRefIdeal.nD Cert.LnMemRefIdeal.τ).loc Cert.LnMemRefIdeal.main_arg1)
      ∧ r.2.mem ((c.tc : Thread Cert.LnMemRefIdeal.nD Cert.LnMemRefIdeal.τ).loc Cert.LnMemRefIdeal.main_arg2) = m ((c.tc : Thread Cert.LnMemRefIdeal.nD Cert.LnMemRefIdeal.τ).loc Cert.LnMemRefIdeal.main_arg2))
      ∧ r.2.sem = fun _ => 0)

def quiescent_LnMemBack [hLnMemBack : Cert.LnMemBack.Facts] : Prop :=
  ∀ (m : (ℓ : Loc Cert.LnMemBack.nD Cert.LnMemBack.τ Cert.LnMemBack.sig) → Buf (Elt Bits) ℓ) (g : Dev Cert.LnMemBack.nD → PrngReg), Pre_LnMemBack m →
    θ_run (Cert.LnMemBack.defs (F := Bits)) (onTc (τ := Cert.LnMemBack.τ) (Cert.LnMemBack.main (F := Bits))) ⟨m, fun _ => 0, g⟩ (fun r => (∀ c : Dev Cert.LnMemBack.nD,
      r.2.mem ((c.tc : Thread Cert.LnMemBack.nD Cert.LnMemBack.τ).loc Cert.LnMemBack.main_arg0) = m ((c.tc : Thread Cert.LnMemBack.nD Cert.LnMemBack.τ).loc Cert.LnMemBack.main_arg0)
      ∧ r.2.mem ((c.tc : Thread Cert.LnMemBack.nD Cert.LnMemBack.τ).loc Cert.LnMemBack.main_arg1) = m ((c.tc : Thread Cert.LnMemBack.nD Cert.LnMemBack.τ).loc Cert.LnMemBack.main_arg1)
      ∧ r.2.mem ((c.tc : Thread Cert.LnMemBack.nD Cert.LnMemBack.τ).loc Cert.LnMemBack.main_arg2) = m ((c.tc : Thread Cert.LnMemBack.nD Cert.LnMemBack.τ).loc Cert.LnMemBack.main_arg2))
      ∧ r.2.sem = fun _ => 0)

def quiescent_LnMemBackIdeal [hLnMemBackIdeal : Cert.LnMemBackIdeal.Facts] : Prop :=
  ∀ (m : (ℓ : Loc Cert.LnMemBackIdeal.nD Cert.LnMemBackIdeal.τ Cert.LnMemBackIdeal.sig) → Buf (Elt Ideal) ℓ) (g : Dev Cert.LnMemBackIdeal.nD → PrngReg), Pre_LnMemBackIdeal m →
    θ_run (Cert.LnMemBackIdeal.defs (F := Ideal)) (onTc (τ := Cert.LnMemBackIdeal.τ) (Cert.LnMemBackIdeal.main (F := Ideal))) ⟨m, fun _ => 0, g⟩ (fun r => (∀ c : Dev Cert.LnMemBackIdeal.nD,
      r.2.mem ((c.tc : Thread Cert.LnMemBackIdeal.nD Cert.LnMemBackIdeal.τ).loc Cert.LnMemBackIdeal.main_arg0) = m ((c.tc : Thread Cert.LnMemBackIdeal.nD Cert.LnMemBackIdeal.τ).loc Cert.LnMemBackIdeal.main_arg0)
      ∧ r.2.mem ((c.tc : Thread Cert.LnMemBackIdeal.nD Cert.LnMemBackIdeal.τ).loc Cert.LnMemBackIdeal.main_arg1) = m ((c.tc : Thread Cert.LnMemBackIdeal.nD Cert.LnMemBackIdeal.τ).loc Cert.LnMemBackIdeal.main_arg1)
      ∧ r.2.mem ((c.tc : Thread Cert.LnMemBackIdeal.nD Cert.LnMemBackIdeal.τ).loc Cert.LnMemBackIdeal.main_arg2) = m ((c.tc : Thread Cert.LnMemBackIdeal.nD Cert.LnMemBackIdeal.τ).loc Cert.LnMemBackIdeal.main_arg2))
      ∧ r.2.sem = fun _ => 0)

def quiescent_LnMemBackIdeal_pre_finite_mem [hLnMemBackIdeal : Cert.LnMemBackIdeal.Facts] [hPre_finite_mem : Cert.Pre_finite_mem.Facts] : Prop :=
  ∀ (m : (ℓ : Loc Cert.LnMemBackIdeal.nD Cert.LnMemBackIdeal.τ Cert.LnMemBackIdeal.sig) → Buf (Elt Ideal) ℓ) (g : Dev Cert.LnMemBackIdeal.nD → PrngReg), Pre_LnMemBackIdeal_finite_mem m →
    θ_run (Cert.LnMemBackIdeal.defs (F := Ideal)) (onTc (τ := Cert.LnMemBackIdeal.τ) (Cert.LnMemBackIdeal.main (F := Ideal))) ⟨m, fun _ => 0, g⟩ (fun r => (∀ c : Dev Cert.LnMemBackIdeal.nD,
      r.2.mem ((c.tc : Thread Cert.LnMemBackIdeal.nD Cert.LnMemBackIdeal.τ).loc Cert.LnMemBackIdeal.main_arg0) = m ((c.tc : Thread Cert.LnMemBackIdeal.nD Cert.LnMemBackIdeal.τ).loc Cert.LnMemBackIdeal.main_arg0)
      ∧ r.2.mem ((c.tc : Thread Cert.LnMemBackIdeal.nD Cert.LnMemBackIdeal.τ).loc Cert.LnMemBackIdeal.main_arg1) = m ((c.tc : Thread Cert.LnMemBackIdeal.nD Cert.LnMemBackIdeal.τ).loc Cert.LnMemBackIdeal.main_arg1)
      ∧ r.2.mem ((c.tc : Thread Cert.LnMemBackIdeal.nD Cert.LnMemBackIdeal.τ).loc Cert.LnMemBackIdeal.main_arg2) = m ((c.tc : Thread Cert.LnMemBackIdeal.nD Cert.LnMemBackIdeal.τ).loc Cert.LnMemBackIdeal.main_arg2))
      ∧ r.2.sem = fun _ => 0)

def quiescent_LnMemBackRefIdeal [hLnMemBackRefIdeal : Cert.LnMemBackRefIdeal.Facts] : Prop :=
  ∀ (m : (ℓ : Loc Cert.LnMemBackRefIdeal.nD Cert.LnMemBackRefIdeal.τ Cert.LnMemBackRefIdeal.sig) → Buf (Elt Ideal) ℓ) (g : Dev Cert.LnMemBackRefIdeal.nD → PrngReg), Pre_LnMemBackRefIdeal m →
    θ_run (Cert.LnMemBackRefIdeal.defs (F := Ideal)) (onTc (τ := Cert.LnMemBackRefIdeal.τ) (Cert.LnMemBackRefIdeal.main (F := Ideal))) ⟨m, fun _ => 0, g⟩ (fun r => (∀ c : Dev Cert.LnMemBackRefIdeal.nD,
      r.2.mem ((c.tc : Thread Cert.LnMemBackRefIdeal.nD Cert.LnMemBackRefIdeal.τ).loc Cert.LnMemBackRefIdeal.main_arg0) = m ((c.tc : Thread Cert.LnMemBackRefIdeal.nD Cert.LnMemBackRefIdeal.τ).loc Cert.LnMemBackRefIdeal.main_arg0)
      ∧ r.2.mem ((c.tc : Thread Cert.LnMemBackRefIdeal.nD Cert.LnMemBackRefIdeal.τ).loc Cert.LnMemBackRefIdeal.main_arg1) = m ((c.tc : Thread Cert.LnMemBackRefIdeal.nD Cert.LnMemBackRefIdeal.τ).loc Cert.LnMemBackRefIdeal.main_arg1)
      ∧ r.2.mem ((c.tc : Thread Cert.LnMemBackRefIdeal.nD Cert.LnMemBackRefIdeal.τ).loc Cert.LnMemBackRefIdeal.main_arg2) = m ((c.tc : Thread Cert.LnMemBackRefIdeal.nD Cert.LnMemBackRefIdeal.τ).loc Cert.LnMemBackRefIdeal.main_arg2))
      ∧ r.2.sem = fun _ => 0)

def quiescent_LnMemBackRefIdeal_pre_finite_mem [hLnMemBackRefIdeal : Cert.LnMemBackRefIdeal.Facts] [hPre_finite_mem : Cert.Pre_finite_mem.Facts] : Prop :=
  ∀ (m : (ℓ : Loc Cert.LnMemBackRefIdeal.nD Cert.LnMemBackRefIdeal.τ Cert.LnMemBackRefIdeal.sig) → Buf (Elt Ideal) ℓ) (g : Dev Cert.LnMemBackRefIdeal.nD → PrngReg), Pre_LnMemBackRefIdeal_finite_mem m →
    θ_run (Cert.LnMemBackRefIdeal.defs (F := Ideal)) (onTc (τ := Cert.LnMemBackRefIdeal.τ) (Cert.LnMemBackRefIdeal.main (F := Ideal))) ⟨m, fun _ => 0, g⟩ (fun r => (∀ c : Dev Cert.LnMemBackRefIdeal.nD,
      r.2.mem ((c.tc : Thread Cert.LnMemBackRefIdeal.nD Cert.LnMemBackRefIdeal.τ).loc Cert.LnMemBackRefIdeal.main_arg0) = m ((c.tc : Thread Cert.LnMemBackRefIdeal.nD Cert.LnMemBackRefIdeal.τ).loc Cert.LnMemBackRefIdeal.main_arg0)
      ∧ r.2.mem ((c.tc : Thread Cert.LnMemBackRefIdeal.nD Cert.LnMemBackRefIdeal.τ).loc Cert.LnMemBackRefIdeal.main_arg1) = m ((c.tc : Thread Cert.LnMemBackRefIdeal.nD Cert.LnMemBackRefIdeal.τ).loc Cert.LnMemBackRefIdeal.main_arg1)
      ∧ r.2.mem ((c.tc : Thread Cert.LnMemBackRefIdeal.nD Cert.LnMemBackRefIdeal.τ).loc Cert.LnMemBackRefIdeal.main_arg2) = m ((c.tc : Thread Cert.LnMemBackRefIdeal.nD Cert.LnMemBackRefIdeal.τ).loc Cert.LnMemBackRefIdeal.main_arg2))
      ∧ r.2.sem = fun _ => 0)

def quiescent_HeadNorm [hHeadNorm : Cert.HeadNorm.Facts] : Prop :=
  ∀ (m : (ℓ : Loc Cert.HeadNorm.nD Cert.HeadNorm.τ Cert.HeadNorm.sig) → Buf (Elt Bits) ℓ) (g : Dev Cert.HeadNorm.nD → PrngReg), Pre_HeadNorm m →
    θ_run (Cert.HeadNorm.defs (F := Bits)) (onTc (τ := Cert.HeadNorm.τ) (Cert.HeadNorm.main (F := Bits))) ⟨m, fun _ => 0, g⟩ (fun r => (∀ c : Dev Cert.HeadNorm.nD,
      r.2.mem ((c.tc : Thread Cert.HeadNorm.nD Cert.HeadNorm.τ).loc Cert.HeadNorm.main_arg0) = m ((c.tc : Thread Cert.HeadNorm.nD Cert.HeadNorm.τ).loc Cert.HeadNorm.main_arg0)
      ∧ r.2.mem ((c.tc : Thread Cert.HeadNorm.nD Cert.HeadNorm.τ).loc Cert.HeadNorm.main_arg1) = m ((c.tc : Thread Cert.HeadNorm.nD Cert.HeadNorm.τ).loc Cert.HeadNorm.main_arg1)
      ∧ r.2.mem ((c.tc : Thread Cert.HeadNorm.nD Cert.HeadNorm.τ).loc Cert.HeadNorm.main_arg2) = m ((c.tc : Thread Cert.HeadNorm.nD Cert.HeadNorm.τ).loc Cert.HeadNorm.main_arg2))
      ∧ r.2.sem = fun _ => 0)

def quiescent_HeadNormIdeal [hHeadNormIdeal : Cert.HeadNormIdeal.Facts] : Prop :=
  ∀ (m : (ℓ : Loc Cert.HeadNormIdeal.nD Cert.HeadNormIdeal.τ Cert.HeadNormIdeal.sig) → Buf (Elt Ideal) ℓ) (g : Dev Cert.HeadNormIdeal.nD → PrngReg), Pre_HeadNormIdeal m →
    θ_run (Cert.HeadNormIdeal.defs (F := Ideal)) (onTc (τ := Cert.HeadNormIdeal.τ) (Cert.HeadNormIdeal.main (F := Ideal))) ⟨m, fun _ => 0, g⟩ (fun r => (∀ c : Dev Cert.HeadNormIdeal.nD,
      r.2.mem ((c.tc : Thread Cert.HeadNormIdeal.nD Cert.HeadNormIdeal.τ).loc Cert.HeadNormIdeal.main_arg0) = m ((c.tc : Thread Cert.HeadNormIdeal.nD Cert.HeadNormIdeal.τ).loc Cert.HeadNormIdeal.main_arg0)
      ∧ r.2.mem ((c.tc : Thread Cert.HeadNormIdeal.nD Cert.HeadNormIdeal.τ).loc Cert.HeadNormIdeal.main_arg1) = m ((c.tc : Thread Cert.HeadNormIdeal.nD Cert.HeadNormIdeal.τ).loc Cert.HeadNormIdeal.main_arg1)
      ∧ r.2.mem ((c.tc : Thread Cert.HeadNormIdeal.nD Cert.HeadNormIdeal.τ).loc Cert.HeadNormIdeal.main_arg2) = m ((c.tc : Thread Cert.HeadNormIdeal.nD Cert.HeadNormIdeal.τ).loc Cert.HeadNormIdeal.main_arg2))
      ∧ r.2.sem = fun _ => 0)

def quiescent_HeadNormRefIdeal [hHeadNormRefIdeal : Cert.HeadNormRefIdeal.Facts] : Prop :=
  ∀ (m : (ℓ : Loc Cert.HeadNormRefIdeal.nD Cert.HeadNormRefIdeal.τ Cert.HeadNormRefIdeal.sig) → Buf (Elt Ideal) ℓ) (g : Dev Cert.HeadNormRefIdeal.nD → PrngReg), Pre_HeadNormRefIdeal m →
    θ_run (Cert.HeadNormRefIdeal.defs (F := Ideal)) (onTc (τ := Cert.HeadNormRefIdeal.τ) (Cert.HeadNormRefIdeal.main (F := Ideal))) ⟨m, fun _ => 0, g⟩ (fun r => (∀ c : Dev Cert.HeadNormRefIdeal.nD,
      r.2.mem ((c.tc : Thread Cert.HeadNormRefIdeal.nD Cert.HeadNormRefIdeal.τ).loc Cert.HeadNormRefIdeal.main_arg0) = m ((c.tc : Thread Cert.HeadNormRefIdeal.nD Cert.HeadNormRefIdeal.τ).loc Cert.HeadNormRefIdeal.main_arg0)
      ∧ r.2.mem ((c.tc : Thread Cert.HeadNormRefIdeal.nD Cert.HeadNormRefIdeal.τ).loc Cert.HeadNormRefIdeal.main_arg1) = m ((c.tc : Thread Cert.HeadNormRefIdeal.nD Cert.HeadNormRefIdeal.τ).loc Cert.HeadNormRefIdeal.main_arg1)
      ∧ r.2.mem ((c.tc : Thread Cert.HeadNormRefIdeal.nD Cert.HeadNormRefIdeal.τ).loc Cert.HeadNormRefIdeal.main_arg2) = m ((c.tc : Thread Cert.HeadNormRefIdeal.nD Cert.HeadNormRefIdeal.τ).loc Cert.HeadNormRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_v40) = v4 c
          ∧ r.2.mem ((c.tc : Thread Cert.ReferenceIdeal.nD Cert.ReferenceIdeal.τ).loc Cert.ReferenceIdeal.main_v29) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Dact_DactIdeal : Prop :=
  True

def algebraic_DactIdeal_DactRefIdeal_pre_finite_dact [hDactIdeal : Cert.DactIdeal.Facts] [hDactRefIdeal : Cert.DactRefIdeal.Facts] [hPre_finite_dact : Cert.Pre_finite_dact.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_finite_dact m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)
      ∧ m' ((c.tc : Thread Cert.DactRefIdeal.nD Cert.DactRefIdeal.τ).loc Cert.DactRefIdeal.main_arg3) = m ((c.tc : Thread Cert.DactIdeal.nD Cert.DactIdeal.τ).loc Cert.DactIdeal.main_arg3)) →
    ∃ (v0 : (c : Dev Cert.DactIdeal.nD) → Buf (Elt Ideal) ((c.tc : Thread Cert.DactIdeal.nD Cert.DactIdeal.τ).loc Cert.DactIdeal.main_v1_0)) (v1 : (c : Dev Cert.DactIdeal.nD) → Buf (Elt Ideal) ((c.tc : Thread Cert.DactIdeal.nD Cert.DactIdeal.τ).loc Cert.DactIdeal.main_v1_1)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v1_0) = v0 c
          ∧ r.2.mem ((c.tc : Thread Cert.DactIdeal.nD Cert.DactIdeal.τ).loc Cert.DactIdeal.main_v1_1) = v1 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2)
          ∧ r.2.mem ((c.tc : Thread Cert.DactIdeal.nD Cert.DactIdeal.τ).loc Cert.DactIdeal.main_arg3) = m ((c.tc : Thread Cert.DactIdeal.nD Cert.DactIdeal.τ).loc Cert.DactIdeal.main_arg3))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v11) = v0 c
          ∧ r.2.mem ((c.tc : Thread Cert.DactRefIdeal.nD Cert.DactRefIdeal.τ).loc Cert.DactRefIdeal.main_v12) = v1 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)
          ∧ r.2.mem ((c.tc : Thread Cert.DactRefIdeal.nD Cert.DactRefIdeal.τ).loc Cert.DactRefIdeal.main_arg3) = m' ((c.tc : Thread Cert.DactRefIdeal.nD Cert.DactRefIdeal.τ).loc Cert.DactRefIdeal.main_arg3))

def preserves_Dwd_DwdIdeal : Prop :=
  True

def algebraic_DwdIdeal_DwdRefIdeal [hDwdIdeal : Cert.DwdIdeal.Facts] [hDwdRefIdeal : Cert.DwdRefIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdRefIdeal.nD Cert.DwdRefIdeal.τ Cert.DwdRefIdeal.sig) → Buf (Elt Ideal) ℓ) (g' : Dev Cert.DwdRefIdeal.nD → PrngReg), Pre_DwdIdeal m →
    (∀ c : Dev Cert.DwdIdeal.nD,
      m' ((c.tc : Thread Cert.DwdRefIdeal.nD Cert.DwdRefIdeal.τ).loc Cert.DwdRefIdeal.main_arg0) = m ((c.tc : Thread Cert.DwdIdeal.nD Cert.DwdIdeal.τ).loc Cert.DwdIdeal.main_arg0)
      ∧ m' ((c.tc : Thread Cert.DwdRefIdeal.nD Cert.DwdRefIdeal.τ).loc Cert.DwdRefIdeal.main_arg1) = m ((c.tc : Thread Cert.DwdIdeal.nD Cert.DwdIdeal.τ).loc Cert.DwdIdeal.main_arg1)) →
    ∃ (v0 : (c : Dev Cert.DwdIdeal.nD) → Buf (Elt Ideal) ((c.tc : Thread Cert.DwdIdeal.nD Cert.DwdIdeal.τ).loc Cert.DwdIdeal.main_v1)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v1) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ θ_run (Cert.DwdRefIdeal.defs (F := Ideal)) (onTc (τ := Cert.DwdRefIdeal.τ) (Cert.DwdRefIdeal.main (F := Ideal))) ⟨m', fun _ => 0, g'⟩ (fun r => ∀ c : Dev Cert.DwdRefIdeal.nD,
          r.2.mem ((c.tc : Thread Cert.DwdRefIdeal.nD Cert.DwdRefIdeal.τ).loc Cert.DwdRefIdeal.main_v7) = v0 c
          ∧ r.2.mem ((c.tc : Thread Cert.DwdRefIdeal.nD Cert.DwdRefIdeal.τ).loc Cert.DwdRefIdeal.main_arg0) = m' ((c.tc : Thread Cert.DwdRefIdeal.nD Cert.DwdRefIdeal.τ).loc Cert.DwdRefIdeal.main_arg0)
          ∧ r.2.mem ((c.tc : Thread Cert.DwdRefIdeal.nD Cert.DwdRefIdeal.τ).loc Cert.DwdRefIdeal.main_arg1) = m' ((c.tc : Thread Cert.DwdRefIdeal.nD Cert.DwdRefIdeal.τ).loc Cert.DwdRefIdeal.main_arg1))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v1)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v1) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v4) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_Dxg_DxgIdeal : Prop :=
  True

def algebraic_DxgIdeal_DxgRefIdeal [hDxgIdeal : Cert.DxgIdeal.Facts] [hDxgRefIdeal : Cert.DxgRefIdeal.Facts] : Prop :=
  ∀ (m : (ℓ : Loc Cert.DxgIdeal.nD Cert.DxgIdeal.τ Cert.DxgIdeal.sig) → Buf (Elt Ideal) ℓ) (g : Dev Cert.DxgIdeal.nD → PrngReg)
    (m' : (ℓ : Loc Cert.DxgRefIdeal.nD Cert.DxgRefIdeal.τ Cert.DxgRefIdeal.sig) → Buf (Elt Ideal) ℓ) (g' : Dev Cert.DxgRefIdeal.nD → PrngReg), Pre_DxgIdeal m →
    (∀ c : Dev Cert.DxgIdeal.nD,
      m' ((c.tc : Thread Cert.DxgRefIdeal.nD Cert.DxgRefIdeal.τ).loc Cert.DxgRefIdeal.main_arg0) = m ((c.tc : Thread Cert.DxgIdeal.nD Cert.DxgIdeal.τ).loc Cert.DxgIdeal.main_arg0)
      ∧ m' ((c.tc : Thread Cert.DxgRefIdeal.nD Cert.DxgRefIdeal.τ).loc Cert.DxgRefIdeal.main_arg1) = m ((c.tc : Thread Cert.DxgIdeal.nD Cert.DxgIdeal.τ).loc Cert.DxgIdeal.main_arg1)) →
    ∃ (v0 : (c : Dev Cert.DxgIdeal.nD) → Buf (Elt Ideal) ((c.tc : Thread Cert.DxgIdeal.nD Cert.DxgIdeal.τ).loc Cert.DxgIdeal.main_v2)),
      θ_run (Cert.DxgIdeal.defs (F := Ideal)) (onTc (τ := Cert.DxgIdeal.τ) (Cert.DxgIdeal.main (F := Ideal))) ⟨m, fun _ => 0, g⟩ (fun r => ∀ c : Dev Cert.DxgIdeal.nD,
          r.2.mem ((c.tc : Thread Cert.DxgIdeal.nD Cert.DxgIdeal.τ).loc Cert.DxgIdeal.main_v2) = v0 c
          ∧ r.2.mem ((c.tc : Thread Cert.DxgIdeal.nD Cert.DxgIdeal.τ).loc Cert.DxgIdeal.main_arg0) = m ((c.tc : Thread Cert.DxgIdeal.nD Cert.DxgIdeal.τ).loc Cert.DxgIdeal.main_arg0)
          ∧ r.2.mem ((c.tc : Thread Cert.DxgIdeal.nD Cert.DxgIdeal.τ).loc Cert.DxgIdeal.main_arg1) = m ((c.tc : Thread Cert.DxgIdeal.nD Cert.DxgIdeal.τ).loc Cert.DxgIdeal.main_arg1))
      ∧ θ_run (Cert.DxgRefIdeal.defs (F := Ideal)) (onTc (τ := Cert.DxgRefIdeal.τ) (Cert.DxgRefIdeal.main (F := Ideal))) ⟨m', fun _ => 0, g'⟩ (fun r => ∀ c : Dev Cert.DxgRefIdeal.nD,
          r.2.mem ((c.tc : Thread Cert.DxgRefIdeal.nD Cert.DxgRefIdeal.τ).loc Cert.DxgRefIdeal.main_v3) = v0 c
          ∧ r.2.mem ((c.tc : Thread Cert.DxgRefIdeal.nD Cert.DxgRefIdeal.τ).loc Cert.DxgRefIdeal.main_arg0) = m' ((c.tc : Thread Cert.DxgRefIdeal.nD Cert.DxgRefIdeal.τ).loc Cert.DxgRefIdeal.main_arg0)
          ∧ r.2.mem ((c.tc : Thread Cert.DxgRefIdeal.nD Cert.DxgRefIdeal.τ).loc Cert.DxgRefIdeal.main_arg1) = m' ((c.tc : Thread Cert.DxgRefIdeal.nD Cert.DxgRefIdeal.τ).loc Cert.DxgRefIdeal.main_arg1))

def preserves_Dxu_DxuIdeal : Prop :=
  True

def algebraic_DxuIdeal_DxuRefIdeal [hDxuIdeal : Cert.DxuIdeal.Facts] [hDxuRefIdeal : Cert.DxuRefIdeal.Facts] : Prop :=
  ∀ (m : (ℓ : Loc Cert.DxuIdeal.nD Cert.DxuIdeal.τ Cert.DxuIdeal.sig) → Buf (Elt Ideal) ℓ) (g : Dev Cert.DxuIdeal.nD → PrngReg)
    (m' : (ℓ : Loc Cert.DxuRefIdeal.nD Cert.DxuRefIdeal.τ Cert.DxuRefIdeal.sig) → Buf (Elt Ideal) ℓ) (g' : Dev Cert.DxuRefIdeal.nD → PrngReg), Pre_DxuIdeal m →
    (∀ c : Dev Cert.DxuIdeal.nD,
      m' ((c.tc : Thread Cert.DxuRefIdeal.nD Cert.DxuRefIdeal.τ).loc Cert.DxuRefIdeal.main_arg0) = m ((c.tc : Thread Cert.DxuIdeal.nD Cert.DxuIdeal.τ).loc Cert.DxuIdeal.main_arg0)
      ∧ m' ((c.tc : Thread Cert.DxuRefIdeal.nD Cert.DxuRefIdeal.τ).loc Cert.DxuRefIdeal.main_arg1) = m ((c.tc : Thread Cert.DxuIdeal.nD Cert.DxuIdeal.τ).loc Cert.DxuIdeal.main_arg1)
      ∧ m' ((c.tc : Thread Cert.DxuRefIdeal.nD Cert.DxuRefIdeal.τ).loc Cert.DxuRefIdeal.main_arg2) = m ((c.tc : Thread Cert.DxuIdeal.nD Cert.DxuIdeal.τ).loc Cert.DxuIdeal.main_arg2)
      ∧ m' ((c.tc : Thread Cert.DxuRefIdeal.nD Cert.DxuRefIdeal.τ).loc Cert.DxuRefIdeal.main_arg3) = m ((c.tc : Thread Cert.DxuIdeal.nD Cert.DxuIdeal.τ).loc Cert.DxuIdeal.main_arg3)) →
    ∃ (v0 : (c : Dev Cert.DxuIdeal.nD) → Buf (Elt Ideal) ((c.tc : Thread Cert.DxuIdeal.nD Cert.DxuIdeal.τ).loc Cert.DxuIdeal.main_v2)),
      θ_run (Cert.DxuIdeal.defs (F := Ideal)) (onTc (τ := Cert.DxuIdeal.τ) (Cert.DxuIdeal.main (F := Ideal))) ⟨m, fun _ => 0, g⟩ (fun r => ∀ c : Dev Cert.DxuIdeal.nD,
          r.2.mem ((c.tc : Thread Cert.DxuIdeal.nD Cert.DxuIdeal.τ).loc Cert.DxuIdeal.main_v2) = v0 c
          ∧ r.2.mem ((c.tc : Thread Cert.DxuIdeal.nD Cert.DxuIdeal.τ).loc Cert.DxuIdeal.main_arg0) = m ((c.tc : Thread Cert.DxuIdeal.nD Cert.DxuIdeal.τ).loc Cert.DxuIdeal.main_arg0)
          ∧ r.2.mem ((c.tc : Thread Cert.DxuIdeal.nD Cert.DxuIdeal.τ).loc Cert.DxuIdeal.main_arg1) = m ((c.tc : Thread Cert.DxuIdeal.nD Cert.DxuIdeal.τ).loc Cert.DxuIdeal.main_arg1)
          ∧ r.2.mem ((c.tc : Thread Cert.DxuIdeal.nD Cert.DxuIdeal.τ).loc Cert.DxuIdeal.main_arg2) = m ((c.tc : Thread Cert.DxuIdeal.nD Cert.DxuIdeal.τ).loc Cert.DxuIdeal.main_arg2)
          ∧ r.2.mem ((c.tc : Thread Cert.DxuIdeal.nD Cert.DxuIdeal.τ).loc Cert.DxuIdeal.main_arg3) = m ((c.tc : Thread Cert.DxuIdeal.nD Cert.DxuIdeal.τ).loc Cert.DxuIdeal.main_arg3))
      ∧ θ_run (Cert.DxuRefIdeal.defs (F := Ideal)) (onTc (τ := Cert.DxuRefIdeal.τ) (Cert.DxuRefIdeal.main (F := Ideal))) ⟨m', fun _ => 0, g'⟩ (fun r => ∀ c : Dev Cert.DxuRefIdeal.nD,
          r.2.mem ((c.tc : Thread Cert.DxuRefIdeal.nD Cert.DxuRefIdeal.τ).loc Cert.DxuRefIdeal.main_v7) = v0 c
          ∧ r.2.mem ((c.tc : Thread Cert.DxuRefIdeal.nD Cert.DxuRefIdeal.τ).loc Cert.DxuRefIdeal.main_arg0) = m' ((c.tc : Thread Cert.DxuRefIdeal.nD Cert.DxuRefIdeal.τ).loc Cert.DxuRefIdeal.main_arg0)
          ∧ r.2.mem ((c.tc : Thread Cert.DxuRefIdeal.nD Cert.DxuRefIdeal.τ).loc Cert.DxuRefIdeal.main_arg1) = m' ((c.tc : Thread Cert.DxuRefIdeal.nD Cert.DxuRefIdeal.τ).loc Cert.DxuRefIdeal.main_arg1)
          ∧ r.2.mem ((c.tc : Thread Cert.DxuRefIdeal.nD Cert.DxuRefIdeal.τ).loc Cert.DxuRefIdeal.main_arg2) = m' ((c.tc : Thread Cert.DxuRefIdeal.nD Cert.DxuRefIdeal.τ).loc Cert.DxuRefIdeal.main_arg2)
          ∧ r.2.mem ((c.tc : Thread Cert.DxuRefIdeal.nD Cert.DxuRefIdeal.τ).loc Cert.DxuRefIdeal.main_arg3) = m' ((c.tc : Thread Cert.DxuRefIdeal.nD Cert.DxuRefIdeal.τ).loc Cert.DxuRefIdeal.main_arg3))

def preserves_Gu_GuIdeal : Prop :=
  True

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)
      ∧ m' ((c.tc : Thread Cert.GuRefIdeal.nD Cert.GuRefIdeal.τ).loc Cert.GuRefIdeal.main_arg2) = m ((c.tc : Thread Cert.GuIdeal.nD Cert.GuIdeal.τ).loc Cert.GuIdeal.main_arg2)) →
    ∃ (v0 : (c : Dev Cert.GuIdeal.nD) → Buf (Elt Ideal) ((c.tc : Thread Cert.GuIdeal.nD Cert.GuIdeal.τ).loc Cert.GuIdeal.main_v2_0)) (v1 : (c : Dev Cert.GuIdeal.nD) → Buf (Elt Ideal) ((c.tc : Thread Cert.GuIdeal.nD Cert.GuIdeal.τ).loc Cert.GuIdeal.main_v2_1)) (v2 : (c : Dev Cert.GuIdeal.nD) → Buf (Elt Ideal) ((c.tc : Thread Cert.GuIdeal.nD Cert.GuIdeal.τ).loc Cert.GuIdeal.main_v2_2)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v2_0) = v0 c
          ∧ r.2.mem ((c.tc : Thread Cert.GuIdeal.nD Cert.GuIdeal.τ).loc Cert.GuIdeal.main_v2_1) = v1 c
          ∧ r.2.mem ((c.tc : Thread Cert.GuIdeal.nD Cert.GuIdeal.τ).loc Cert.GuIdeal.main_v2_2) = v2 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
          ∧ r.2.mem ((c.tc : Thread Cert.GuIdeal.nD Cert.GuIdeal.τ).loc Cert.GuIdeal.main_arg2) = m ((c.tc : Thread Cert.GuIdeal.nD Cert.GuIdeal.τ).loc Cert.GuIdeal.main_arg2))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v1) = v0 c
          ∧ r.2.mem ((c.tc : Thread Cert.GuRefIdeal.nD Cert.GuRefIdeal.τ).loc Cert.GuRefIdeal.main_v3) = v1 c
          ∧ r.2.mem ((c.tc : Thread Cert.GuRefIdeal.nD Cert.GuRefIdeal.τ).loc Cert.GuRefIdeal.main_v6) = v2 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1)
          ∧ r.2.mem ((c.tc : Thread Cert.GuRefIdeal.nD Cert.GuRefIdeal.τ).loc Cert.GuRefIdeal.main_arg2) = m' ((c.tc : Thread Cert.GuRefIdeal.nD Cert.GuRefIdeal.τ).loc Cert.GuRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_InQkv_InQkvIdeal : Prop :=
  True

def algebraic_InQkvIdeal_InQkvRefIdeal [hInQkvIdeal : Cert.InQkvIdeal.Facts] [hInQkvRefIdeal : Cert.InQkvRefIdeal.Facts] : Prop :=
  ∀ (m : (ℓ : Loc Cert.InQkvIdeal.nD Cert.InQkvIdeal.τ Cert.InQkvIdeal.sig) → Buf (Elt Ideal) ℓ) (g : Dev Cert.InQkvIdeal.nD → PrngReg)
    (m' : (ℓ : Loc Cert.InQkvRefIdeal.nD Cert.InQkvRefIdeal.τ Cert.InQkvRefIdeal.sig) → Buf (Elt Ideal) ℓ) (g' : Dev Cert.InQkvRefIdeal.nD → PrngReg), Pre_InQkvIdeal m →
    (∀ c : Dev Cert.InQkvIdeal.nD,
      m' ((c.tc : Thread Cert.InQkvRefIdeal.nD Cert.InQkvRefIdeal.τ).loc Cert.InQkvRefIdeal.main_arg0) = m ((c.tc : Thread Cert.InQkvIdeal.nD Cert.InQkvIdeal.τ).loc Cert.InQkvIdeal.main_arg0)
      ∧ m' ((c.tc : Thread Cert.InQkvRefIdeal.nD Cert.InQkvRefIdeal.τ).loc Cert.InQkvRefIdeal.main_arg1) = m ((c.tc : Thread Cert.InQkvIdeal.nD Cert.InQkvIdeal.τ).loc Cert.InQkvIdeal.main_arg1)) →
    ∃ (v0 : (c : Dev Cert.InQkvIdeal.nD) → Buf (Elt Ideal) ((c.tc : Thread Cert.InQkvIdeal.nD Cert.InQkvIdeal.τ).loc Cert.InQkvIdeal.main_v2)),
      θ_run (Cert.InQkvIdeal.defs (F := Ideal)) (onTc (τ := Cert.InQkvIdeal.τ) (Cert.InQkvIdeal.main (F := Ideal))) ⟨m, fun _ => 0, g⟩ (fun r => ∀ c : Dev Cert.InQkvIdeal.nD,
          r.2.mem ((c.tc : Thread Cert.InQkvIdeal.nD Cert.InQkvIdeal.τ).loc Cert.InQkvIdeal.main_v2) = v0 c
          ∧ r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
          ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ θ_run (Cert.InQkvRefIdeal.defs (F := Ideal)) (onTc (τ := Cert.InQkvRefIdeal.τ) (Cert.InQkvRefIdeal.main (F := Ideal))) ⟨m', fun _ => 0, g'⟩ (fun r => ∀ c : Dev Cert.InQkvRefIdeal.nD,
          r.2.mem ((c.tc : Thread Cert.InQkvRefIdeal.nD Cert.InQkvRefIdeal.τ).loc Cert.InQkvRefIdeal.main_v1) = v0 c
          ∧ r.2.mem ((c.tc : Thread Cert.InQkvRefIdeal.nD Cert.InQkvRefIdeal.τ).loc Cert.InQkvRefIdeal.main_arg0) = m' ((c.tc : Thread Cert.InQkvRefIdeal.nD Cert.InQkvRefIdeal.τ).loc Cert.InQkvRefIdeal.main_arg0)
          ∧ r.2.mem ((c.tc : Thread Cert.InQkvRefIdeal.nD Cert.InQkvRefIdeal.τ).loc Cert.InQkvRefIdeal.main_arg1) = m' ((c.tc : Thread Cert.InQkvRefIdeal.nD Cert.InQkvRefIdeal.τ).loc Cert.InQkvRefIdeal.main_arg1))

def preserves_InGates_InGatesIdeal : Prop :=
  True

def algebraic_InGatesIdeal_InGatesRefIdeal [hInGatesIdeal : Cert.InGatesIdeal.Facts] [hInGatesRefIdeal : Cert.InGatesRefIdeal.Facts] : Prop :=
  ∀ (m : (ℓ : Loc Cert.InGatesIdeal.nD Cert.InGatesIdeal.τ Cert.InGatesIdeal.sig) → Buf (Elt Ideal) ℓ) (g : Dev Cert.InGatesIdeal.nD → PrngReg)
    (m' : (ℓ : Loc Cert.InGatesRefIdeal.nD Cert.InGatesRefIdeal.τ Cert.InGatesRefIdeal.sig) → Buf (Elt Ideal) ℓ) (g' : Dev Cert.InGatesRefIdeal.nD → PrngReg), Pre_InGatesIdeal m →
    (∀ c : Dev Cert.InGatesIdeal.nD,
      m' ((c.tc : Thread Cert.InGatesRefIdeal.nD Cert.InGatesRefIdeal.τ).loc Cert.InGatesRefIdeal.main_arg0) = m ((c.tc : Thread Cert.InGatesIdeal.nD Cert.InGatesIdeal.τ).loc Cert.InGatesIdeal.main_arg0)
      ∧ m' ((c.tc : Thread Cert.InGatesRefIdeal.nD Cert.InGatesRefIdeal.τ).loc Cert.InGatesRefIdeal.main_arg1) = m ((c.tc : Thread Cert.InGatesIdeal.nD Cert.InGatesIdeal.τ).loc Cert.InGatesIdeal.main_arg1)) →
    ∃ (v0 : (c : Dev Cert.InGatesIdeal.nD) → Buf (Elt Ideal) ((c.tc : Thread Cert.InGatesIdeal.nD Cert.InGatesIdeal.τ).loc Cert.InGatesIdeal.main_v2)),
      θ_run (Cert.InGatesIdeal.defs (F := Ideal)) (onTc (τ := Cert.InGatesIdeal.τ) (Cert.InGatesIdeal.main (F := Ideal))) ⟨m, fun _ => 0, g⟩ (fun r => ∀ c : Dev Cert.InGatesIdeal.nD,
          r.2.mem ((c.tc : Thread Cert.InGatesIdeal.nD Cert.InGatesIdeal.τ).loc Cert.InGatesIdeal.main_v2) = v0 c
          ∧ r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
          ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ θ_run (Cert.InGatesRefIdeal.defs (F := Ideal)) (onTc (τ := Cert.InGatesRefIdeal.τ) (Cert.InGatesRefIdeal.main (F := Ideal))) ⟨m', fun _ => 0, g'⟩ (fun r => ∀ c : Dev Cert.InGatesRefIdeal.nD,
          r.2.mem ((c.tc : Thread Cert.InGatesRefIdeal.nD Cert.InGatesRefIdeal.τ).loc Cert.InGatesRefIdeal.main_v1) = v0 c
          ∧ r.2.mem ((c.tc : Thread Cert.InGatesRefIdeal.nD Cert.InGatesRefIdeal.τ).loc Cert.InGatesRefIdeal.main_arg0) = m' ((c.tc : Thread Cert.InGatesRefIdeal.nD Cert.InGatesRefIdeal.τ).loc Cert.InGatesRefIdeal.main_arg0)
          ∧ r.2.mem ((c.tc : Thread Cert.InGatesRefIdeal.nD Cert.InGatesRefIdeal.τ).loc Cert.InGatesRefIdeal.main_arg1) = m' ((c.tc : Thread Cert.InGatesRefIdeal.nD Cert.InGatesRefIdeal.τ).loc Cert.InGatesRefIdeal.main_arg1))

def preserves_InZ_InZIdeal : Prop :=
  True

def algebraic_InZIdeal_InZRefIdeal [hInZIdeal : Cert.InZIdeal.Facts] [hInZRefIdeal : Cert.InZRefIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.InZRefIdeal.nD Cert.InZRefIdeal.τ Cert.InZRefIdeal.sig) → Buf (Elt Ideal) ℓ) (g' : Dev Cert.InZRefIdeal.nD → PrngReg), Pre_InZIdeal m →
    (∀ c : Dev Cert.InZIdeal.nD,
      m' ((c.tc : Thread Cert.InZRefIdeal.nD Cert.InZRefIdeal.τ).loc Cert.InZRefIdeal.main_arg0) = m ((c.tc : Thread Cert.InZIdeal.nD Cert.InZIdeal.τ).loc Cert.InZIdeal.main_arg0)
      ∧ m' ((c.tc : Thread Cert.InZRefIdeal.nD Cert.InZRefIdeal.τ).loc Cert.InZRefIdeal.main_arg1) = m ((c.tc : Thread Cert.InZIdeal.nD Cert.InZIdeal.τ).loc Cert.InZIdeal.main_arg1)) →
    ∃ (v0 : (c : Dev Cert.InZIdeal.nD) → Buf (Elt Ideal) ((c.tc : Thread Cert.InZIdeal.nD Cert.InZIdeal.τ).loc Cert.InZIdeal.main_v2)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v2) = v0 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ θ_run (Cert.InZRefIdeal.defs (F := Ideal)) (onTc (τ := Cert.InZRefIdeal.τ) (Cert.InZRefIdeal.main (F := Ideal))) ⟨m', fun _ => 0, g'⟩ (fun r => ∀ c : Dev Cert.InZRefIdeal.nD,
          r.2.mem ((c.tc : Thread Cert.InZRefIdeal.nD Cert.InZRefIdeal.τ).loc Cert.InZRefIdeal.main_v1) = v0 c
          ∧ r.2.mem ((c.tc : Thread Cert.InZRefIdeal.nD Cert.InZRefIdeal.τ).loc Cert.InZRefIdeal.main_arg0) = m' ((c.tc : Thread Cert.InZRefIdeal.nD Cert.InZRefIdeal.τ).loc Cert.InZRefIdeal.main_arg0)
          ∧ r.2.mem ((c.tc : Thread Cert.InZRefIdeal.nD Cert.InZRefIdeal.τ).loc Cert.InZRefIdeal.main_arg1) = m' ((c.tc : Thread Cert.InZRefIdeal.nD Cert.InZRefIdeal.τ).loc Cert.InZRefIdeal.main_arg1))

def preserves_InAb_InAbIdeal : Prop :=
  True

def algebraic_InAbIdeal_InAbRefIdeal [hInAbIdeal : Cert.InAbIdeal.Facts] [hInAbRefIdeal : Cert.InAbRefIdeal.Facts] : Prop :=
  ∀ (m : (ℓ : Loc Cert.InAbIdeal.nD Cert.InAbIdeal.τ Cert.InAbIdeal.sig) → Buf (Elt Ideal) ℓ) (g : Dev Cert.InAbIdeal.nD → PrngReg)
    (m' : (ℓ : Loc Cert.InAbRefIdeal.nD Cert.InAbRefIdeal.τ Cert.InAbRefIdeal.sig) → Buf (Elt Ideal) ℓ) (g' : Dev Cert.InAbRefIdeal.nD → PrngReg), Pre_InAbIdeal m →
    (∀ c : Dev Cert.InAbIdeal.nD,
      m' ((c.tc : Thread Cert.InAbRefIdeal.nD Cert.InAbRefIdeal.τ).loc Cert.InAbRefIdeal.main_arg0) = m ((c.tc : Thread Cert.InAbIdeal.nD Cert.InAbIdeal.τ).loc Cert.InAbIdeal.main_arg0)
      ∧ m' ((c.tc : Thread Cert.InAbRefIdeal.nD Cert.InAbRefIdeal.τ).loc Cert.InAbRefIdeal.main_arg1) = m ((c.tc : Thread Cert.InAbIdeal.nD Cert.InAbIdeal.τ).loc Cert.InAbIdeal.main_arg1)) →
    ∃ (v0 : (c : Dev Cert.InAbIdeal.nD) → Buf (Elt Ideal) ((c.tc : Thread Cert.InAbIdeal.nD Cert.InAbIdeal.τ).loc Cert.InAbIdeal.main_v2)),
      θ_run (Cert.InAbIdeal.defs (F := Ideal)) (onTc (τ := Cert.InAbIdeal.τ) (Cert.InAbIdeal.main (F := Ideal))) ⟨m, fun _ => 0, g⟩ (fun r => ∀ c : Dev Cert.InAbIdeal.nD,
          r.2.mem ((c.tc : Thread Cert.InAbIdeal.nD Cert.InAbIdeal.τ).loc Cert.InAbIdeal.main_v2) = v0 c
          ∧ r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
          ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1))
      ∧ θ_run (Cert.InAbRefIdeal.defs (F := Ideal)) (onTc (τ := Cert.InAbRefIdeal.τ) (Cert.InAbRefIdeal.main (F := Ideal))) ⟨m', fun _ => 0, g'⟩ (fun r => ∀ c : Dev Cert.InAbRefIdeal.nD,
          r.2.mem ((c.tc : Thread Cert.InAbRefIdeal.nD Cert.InAbRefIdeal.τ).loc Cert.InAbRefIdeal.main_v1) = v0 c
          ∧ r.2.mem ((c.tc : Thread Cert.InAbRefIdeal.nD Cert.InAbRefIdeal.τ).loc Cert.InAbRefIdeal.main_arg0) = m' ((c.tc : Thread Cert.InAbRefIdeal.nD Cert.InAbRefIdeal.τ).loc Cert.InAbRefIdeal.main_arg0)
          ∧ r.2.mem ((c.tc : Thread Cert.InAbRefIdeal.nD Cert.InAbRefIdeal.τ).loc Cert.InAbRefIdeal.main_arg1) = m' ((c.tc : Thread Cert.InAbRefIdeal.nD Cert.InAbRefIdeal.τ).loc Cert.InAbRefIdeal.main_arg1))

def preserves_InDwA_InDwAIdeal : Prop :=
  True

def algebraic_InDwAIdeal_InDwARefIdeal [hInDwAIdeal : Cert.InDwAIdeal.Facts] [hInDwARefIdeal : Cert.InDwARefIdeal.Facts] : Prop :=
  ∀ (m : (ℓ : Loc Cert.InDwAIdeal.nD Cert.InDwAIdeal.τ Cert.InDwAIdeal.sig) → Buf (Elt Ideal) ℓ) (g : Dev Cert.InDwAIdeal.nD → PrngReg)
    (m' : (ℓ : Loc Cert.InDwARefIdeal.nD Cert.InDwARefIdeal.τ Cert.InDwARefIdeal.sig) → Buf (Elt Ideal) ℓ) (g' : Dev Cert.InDwARefIdeal.nD → PrngReg), Pre_InDwAIdeal m →
    (∀ c : Dev Cert.InDwAIdeal.nD,
      m' ((c.tc : Thread Cert.InDwARefIdeal.nD Cert.InDwARefIdeal.τ).loc Cert.InDwARefIdeal.main_arg0) = m ((c.tc : Thread Cert.InDwAIdeal.nD Cert.InDwAIdeal.τ).loc Cert.InDwAIdeal.main_arg0)
      ∧ m' ((c.tc : Thread Cert.InDwARefIdeal.nD Cert.InDwARefIdeal.τ).loc Cert.InDwARefIdeal.main_arg1) = m ((c.tc : Thread Cert.InDwAIdeal.nD Cert.InDwAIdeal.τ).loc Cert.InDwAIdeal.main_arg1)
      ∧ m' ((c.tc : Thread Cert.InDwARefIdeal.nD Cert.InDwARefIdeal.τ).loc Cert.InDwARefIdeal.main_arg2) = m ((c.tc : Thread Cert.InDwAIdeal.nD Cert.InDwAIdeal.τ).loc Cert.InDwAIdeal.main_arg2)
      ∧ m' ((c.tc : Thread Cert.InDwARefIdeal.nD Cert.InDwARefIdeal.τ).loc Cert.InDwARefIdeal.main_arg3) = m ((c.tc : Thread Cert.InDwAIdeal.nD Cert.InDwAIdeal.τ).loc Cert.InDwAIdeal.main_arg3)) →
    ∃ (v0 : (c : Dev Cert.InDwAIdeal.nD) → Buf (Elt Ideal) ((c.tc : Thread Cert.InDwAIdeal.nD Cert.InDwAIdeal.τ).loc Cert.InDwAIdeal.main_v4_0)) (v1 : (c : Dev Cert.InDwAIdeal.nD) → Buf (Elt Ideal) ((c.tc : Thread Cert.InDwAIdeal.nD Cert.InDwAIdeal.τ).loc Cert.InDwAIdeal.main_v4_1)) (v2 : (c : Dev Cert.InDwAIdeal.nD) → Buf (Elt Ideal) ((c.tc : Thread Cert.InDwAIdeal.nD Cert.InDwAIdeal.τ).loc Cert.InDwAIdeal.main_v4_2)),
      θ_run (Cert.InDwAIdeal.defs (F := Ideal)) (onTc (τ := Cert.InDwAIdeal.τ) (Cert.InDwAIdeal.main (F := Ideal))) ⟨m, fun _ => 0, g⟩ (fun r => ∀ c : Dev Cert.InDwAIdeal.nD,
          r.2.mem ((c.tc : Thread Cert.InDwAIdeal.nD Cert.InDwAIdeal.τ).loc Cert.InDwAIdeal.main_v4_0) = v0 c
          ∧ r.2.mem ((c.tc : Thread Cert.InDwAIdeal.nD Cert.InDwAIdeal.τ).loc Cert.InDwAIdeal.main_v4_1) = v1 c
          ∧ r.2.mem ((c.tc : Thread Cert.InDwAIdeal.nD Cert.InDwAIdeal.τ).loc Cert.InDwAIdeal.main_v4_2) = v2 c
          ∧ r.2.mem ((c.tc : Thread Cert.InDwAIdeal.nD Cert.InDwAIdeal.τ).loc Cert.InDwAIdeal.main_arg0) = m ((c.tc : Thread Cert.InDwAIdeal.nD Cert.InDwAIdeal.τ).loc Cert.InDwAIdeal.main_arg0)
          ∧ r.2.mem ((c.tc : Thread Cert.InDwAIdeal.nD Cert.InDwAIdeal.τ).loc Cert.InDwAIdeal.main_arg1) = m ((c.tc : Thread Cert.InDwAIdeal.nD Cert.InDwAIdeal.τ).loc Cert.InDwAIdeal.main_arg1)
          ∧ r.2.mem ((c.tc : Thread Cert.InDwAIdeal.nD Cert.InDwAIdeal.τ).loc Cert.InDwAIdeal.main_arg2) = m ((c.tc : Thread Cert.InDwAIdeal.nD Cert.InDwAIdeal.τ).loc Cert.InDwAIdeal.main_arg2)
          ∧ r.2.mem ((c.tc : Thread Cert.InDwAIdeal.nD Cert.InDwAIdeal.τ).loc Cert.InDwAIdeal.main_arg3) = m ((c.tc : Thread Cert.InDwAIdeal.nD Cert.InDwAIdeal.τ).loc Cert.InDwAIdeal.main_arg3))
      ∧ θ_run (Cert.InDwARefIdeal.defs (F := Ideal)) (onTc (τ := Cert.InDwARefIdeal.τ) (Cert.InDwARefIdeal.main (F := Ideal))) ⟨m', fun _ => 0, g'⟩ (fun r => ∀ c : Dev Cert.InDwARefIdeal.nD,
          r.2.mem ((c.tc : Thread Cert.InDwARefIdeal.nD Cert.InDwARefIdeal.τ).loc Cert.InDwARefIdeal.main_v17) = v0 c
          ∧ r.2.mem ((c.tc : Thread Cert.InDwARefIdeal.nD Cert.InDwARefIdeal.τ).loc Cert.InDwARefIdeal.main_v14) = v1 c
          ∧ r.2.mem ((c.tc : Thread Cert.InDwARefIdeal.nD Cert.InDwARefIdeal.τ).loc Cert.InDwARefIdeal.main_v11) = v2 c
          ∧ r.2.mem ((c.tc : Thread Cert.InDwARefIdeal.nD Cert.InDwARefIdeal.τ).loc Cert.InDwARefIdeal.main_arg0) = m' ((c.tc : Thread Cert.InDwARefIdeal.nD Cert.InDwARefIdeal.τ).loc Cert.InDwARefIdeal.main_arg0)
          ∧ r.2.mem ((c.tc : Thread Cert.InDwARefIdeal.nD Cert.InDwARefIdeal.τ).loc Cert.InDwARefIdeal.main_arg1) = m' ((c.tc : Thread Cert.InDwARefIdeal.nD Cert.InDwARefIdeal.τ).loc Cert.InDwARefIdeal.main_arg1)
          ∧ r.2.mem ((c.tc : Thread Cert.InDwARefIdeal.nD Cert.InDwARefIdeal.τ).loc Cert.InDwARefIdeal.main_arg2) = m' ((c.tc : Thread Cert.InDwARefIdeal.nD Cert.InDwARefIdeal.τ).loc Cert.InDwARefIdeal.main_arg2)
          ∧ r.2.mem ((c.tc : Thread Cert.InDwARefIdeal.nD Cert.InDwARefIdeal.τ).loc Cert.InDwARefIdeal.main_arg3) = m' ((c.tc : Thread Cert.InDwARefIdeal.nD Cert.InDwARefIdeal.τ).loc Cert.InDwARefIdeal.main_arg3))

def preserves_InDwB_InDwBIdeal : Prop :=
  True

def algebraic_InDwBIdeal_InDwBRefIdeal [hInDwBIdeal : Cert.InDwBIdeal.Facts] [hInDwBRefIdeal : Cert.InDwBRefIdeal.Facts] : Prop :=
  ∀ (m : (ℓ : Loc Cert.InDwBIdeal.nD Cert.InDwBIdeal.τ Cert.InDwBIdeal.sig) → Buf (Elt Ideal) ℓ) (g : Dev Cert.InDwBIdeal.nD → PrngReg)
    (m' : (ℓ : Loc Cert.InDwBRefIdeal.nD Cert.InDwBRefIdeal.τ Cert.InDwBRefIdeal.sig) → Buf (Elt Ideal) ℓ) (g' : Dev Cert.InDwBRefIdeal.nD → PrngReg), Pre_InDwBIdeal m →
    (∀ c : Dev Cert.InDwBIdeal.nD,
      m' ((c.tc : Thread Cert.InDwBRefIdeal.nD Cert.InDwBRefIdeal.τ).loc Cert.InDwBRefIdeal.main_arg0) = m ((c.tc : Thread Cert.InDwBIdeal.nD Cert.InDwBIdeal.τ).loc Cert.InDwBIdeal.main_arg0)
      ∧ m' ((c.tc : Thread Cert.InDwBRefIdeal.nD Cert.InDwBRefIdeal.τ).loc Cert.InDwBRefIdeal.main_arg1) = m ((c.tc : Thread Cert.InDwBIdeal.nD Cert.InDwBIdeal.τ).loc Cert.InDwBIdeal.main_arg1)
      ∧ m' ((c.tc : Thread Cert.InDwBRefIdeal.nD Cert.InDwBRefIdeal.τ).loc Cert.InDwBRefIdeal.main_arg2) = m ((c.tc : Thread Cert.InDwBIdeal.nD Cert.InDwBIdeal.τ).loc Cert.InDwBIdeal.main_arg2)) →
    ∃ (v0 : (c : Dev Cert.InDwBIdeal.nD) → Buf (Elt Ideal) ((c.tc : Thread Cert.InDwBIdeal.nD Cert.InDwBIdeal.τ).loc Cert.InDwBIdeal.main_v3_0)) (v1 : (c : Dev Cert.InDwBIdeal.nD) → Buf (Elt Ideal) ((c.tc : Thread Cert.InDwBIdeal.nD Cert.InDwBIdeal.τ).loc Cert.InDwBIdeal.main_v3_1)),
      θ_run (Cert.InDwBIdeal.defs (F := Ideal)) (onTc (τ := Cert.InDwBIdeal.τ) (Cert.InDwBIdeal.main (F := Ideal))) ⟨m, fun _ => 0, g⟩ (fun r => ∀ c : Dev Cert.InDwBIdeal.nD,
          r.2.mem ((c.tc : Thread Cert.InDwBIdeal.nD Cert.InDwBIdeal.τ).loc Cert.InDwBIdeal.main_v3_0) = v0 c
          ∧ r.2.mem ((c.tc : Thread Cert.InDwBIdeal.nD Cert.InDwBIdeal.τ).loc Cert.InDwBIdeal.main_v3_1) = v1 c
          ∧ r.2.mem ((c.tc : Thread Cert.InDwBIdeal.nD Cert.InDwBIdeal.τ).loc Cert.InDwBIdeal.main_arg0) = m ((c.tc : Thread Cert.InDwBIdeal.nD Cert.InDwBIdeal.τ).loc Cert.InDwBIdeal.main_arg0)
          ∧ r.2.mem ((c.tc : Thread Cert.InDwBIdeal.nD Cert.InDwBIdeal.τ).loc Cert.InDwBIdeal.main_arg1) = m ((c.tc : Thread Cert.InDwBIdeal.nD Cert.InDwBIdeal.τ).loc Cert.InDwBIdeal.main_arg1)
          ∧ r.2.mem ((c.tc : Thread Cert.InDwBIdeal.nD Cert.InDwBIdeal.τ).loc Cert.InDwBIdeal.main_arg2) = m ((c.tc : Thread Cert.InDwBIdeal.nD Cert.InDwBIdeal.τ).loc Cert.InDwBIdeal.main_arg2))
      ∧ θ_run (Cert.InDwBRefIdeal.defs (F := Ideal)) (onTc (τ := Cert.InDwBRefIdeal.τ) (Cert.InDwBRefIdeal.main (F := Ideal))) ⟨m', fun _ => 0, g'⟩ (fun r => ∀ c : Dev Cert.InDwBRefIdeal.nD,
          r.2.mem ((c.tc : Thread Cert.InDwBRefIdeal.nD Cert.InDwBRefIdeal.τ).loc Cert.InDwBRefIdeal.main_v11) = v0 c
          ∧ r.2.mem ((c.tc : Thread Cert.InDwBRefIdeal.nD Cert.InDwBRefIdeal.τ).loc Cert.InDwBRefIdeal.main_v8) = v1 c
          ∧ r.2.mem ((c.tc : Thread Cert.InDwBRefIdeal.nD Cert.InDwBRefIdeal.τ).loc Cert.InDwBRefIdeal.main_arg0) = m' ((c.tc : Thread Cert.InDwBRefIdeal.nD Cert.InDwBRefIdeal.τ).loc Cert.InDwBRefIdeal.main_arg0)
          ∧ r.2.mem ((c.tc : Thread Cert.InDwBRefIdeal.nD Cert.InDwBRefIdeal.τ).loc Cert.InDwBRefIdeal.main_arg1) = m' ((c.tc : Thread Cert.InDwBRefIdeal.nD Cert.InDwBRefIdeal.τ).loc Cert.InDwBRefIdeal.main_arg1)
          ∧ r.2.mem ((c.tc : Thread Cert.InDwBRefIdeal.nD Cert.InDwBRefIdeal.τ).loc Cert.InDwBRefIdeal.main_arg2) = m' ((c.tc : Thread Cert.InDwBRefIdeal.nD Cert.InDwBRefIdeal.τ).loc Cert.InDwBRefIdeal.main_arg2))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)
      ∧ m' ((c.tc : Thread Cert.InDxRefIdeal.nD Cert.InDxRefIdeal.τ).loc Cert.InDxRefIdeal.main_arg5) = m ((c.tc : Thread Cert.InDxIdeal.nD Cert.InDxIdeal.τ).loc Cert.InDxIdeal.main_arg5)
      ∧ m' ((c.tc : Thread Cert.InDxRefIdeal.nD Cert.InDxRefIdeal.τ).loc Cert.InDxRefIdeal.main_arg6) = m ((c.tc : Thread Cert.InDxIdeal.nD Cert.InDxIdeal.τ).loc Cert.InDxIdeal.main_arg6)
      ∧ m' ((c.tc : Thread Cert.InDxRefIdeal.nD Cert.InDxRefIdeal.τ).loc Cert.InDxRefIdeal.main_arg7) = m ((c.tc : Thread Cert.InDxIdeal.nD Cert.InDxIdeal.τ).loc Cert.InDxIdeal.main_arg7)
      ∧ m' ((c.tc : Thread Cert.InDxRefIdeal.nD Cert.InDxRefIdeal.τ).loc Cert.InDxRefIdeal.main_arg8) = m ((c.tc : Thread Cert.InDxIdeal.nD Cert.InDxIdeal.τ).loc Cert.InDxIdeal.main_arg8)
      ∧ m' ((c.tc : Thread Cert.InDxRefIdeal.nD Cert.InDxRefIdeal.τ).loc Cert.InDxRefIdeal.main_arg9) = m ((c.tc : Thread Cert.InDxIdeal.nD Cert.InDxIdeal.τ).loc Cert.InDxIdeal.main_arg9)) →
    ∃ (v0 : (c : Dev Cert.InDxIdeal.nD) → Buf (Elt Ideal) ((c.tc : Thread Cert.InDxIdeal.nD Cert.InDxIdeal.τ).loc Cert.InDxIdeal.main_v10)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v10) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
          ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
          ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7)
          ∧ r.2.mem ((c.tc : Thread Cert.InDxIdeal.nD Cert.InDxIdeal.τ).loc Cert.InDxIdeal.main_arg8) = m ((c.tc : Thread Cert.InDxIdeal.nD Cert.InDxIdeal.τ).loc Cert.InDxIdeal.main_arg8)
          ∧ r.2.mem ((c.tc : Thread Cert.InDxIdeal.nD Cert.InDxIdeal.τ).loc Cert.InDxIdeal.main_arg9) = m ((c.tc : Thread Cert.InDxIdeal.nD Cert.InDxIdeal.τ).loc Cert.InDxIdeal.main_arg9))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v19) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4)
          ∧ r.2.mem ((c.tc : Thread Cert.InDxRefIdeal.nD Cert.InDxRefIdeal.τ).loc Cert.InDxRefIdeal.main_arg5) = m' ((c.tc : Thread Cert.InDxRefIdeal.nD Cert.InDxRefIdeal.τ).loc Cert.InDxRefIdeal.main_arg5)
          ∧ r.2.mem ((c.tc : Thread Cert.InDxRefIdeal.nD Cert.InDxRefIdeal.τ).loc Cert.InDxRefIdeal.main_arg6) = m' ((c.tc : Thread Cert.InDxRefIdeal.nD Cert.InDxRefIdeal.τ).loc Cert.InDxRefIdeal.main_arg6)
          ∧ r.2.mem ((c.tc : Thread Cert.InDxRefIdeal.nD Cert.InDxRefIdeal.τ).loc Cert.InDxRefIdeal.main_arg7) = m' ((c.tc : Thread Cert.InDxRefIdeal.nD Cert.InDxRefIdeal.τ).loc Cert.InDxRefIdeal.main_arg7)
          ∧ r.2.mem ((c.tc : Thread Cert.InDxRefIdeal.nD Cert.InDxRefIdeal.τ).loc Cert.InDxRefIdeal.main_arg8) = m' ((c.tc : Thread Cert.InDxRefIdeal.nD Cert.InDxRefIdeal.τ).loc Cert.InDxRefIdeal.main_arg8)
          ∧ r.2.mem ((c.tc : Thread Cert.InDxRefIdeal.nD Cert.InDxRefIdeal.τ).loc Cert.InDxRefIdeal.main_arg9) = m' ((c.tc : Thread Cert.InDxRefIdeal.nD Cert.InDxRefIdeal.τ).loc Cert.InDxRefIdeal.main_arg9))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v2)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v2) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v1) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v2)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v2) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v5) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v2)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v2) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v3) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v1)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v1) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v3) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v1)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v1) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v2) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_QueryDw_QueryDwIdeal : Prop :=
  True

def algebraic_QueryDwIdeal_QueryDwRefIdeal [hQueryDwIdeal : Cert.QueryDwIdeal.Facts] [hQueryDwRefIdeal : Cert.QueryDwRefIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg)
    (m' : (ℓ : Loc Cert.QueryDwRefIdeal.nD Cert.QueryDwRefIdeal.τ Cert.QueryDwRefIdeal.sig) → Buf (Elt Ideal) ℓ) (g' : Dev Cert.QueryDwRefIdeal.nD → PrngReg), Pre_QueryDwIdeal m →
    (∀ c : Dev Cert.QueryDwIdeal.nD,
      m' ((c.tc : Thread Cert.QueryDwRefIdeal.nD Cert.QueryDwRefIdeal.τ).loc Cert.QueryDwRefIdeal.main_arg0) = m ((c.tc : Thread Cert.QueryDwIdeal.nD Cert.QueryDwIdeal.τ).loc Cert.QueryDwIdeal.main_arg0)
      ∧ m' ((c.tc : Thread Cert.QueryDwRefIdeal.nD Cert.QueryDwRefIdeal.τ).loc Cert.QueryDwRefIdeal.main_arg1) = m ((c.tc : Thread Cert.QueryDwIdeal.nD Cert.QueryDwIdeal.τ).loc Cert.QueryDwIdeal.main_arg1)) →
    ∃ (v0 : (c : Dev Cert.QueryDwIdeal.nD) → Buf (Elt Ideal) ((c.tc : Thread Cert.QueryDwIdeal.nD Cert.QueryDwIdeal.τ).loc Cert.QueryDwIdeal.main_v2)),
      θ_run (Cert.QueryDwIdeal.defs (F := Ideal)) (onTc (τ := Cert.QueryDwIdeal.τ) (Cert.QueryDwIdeal.main (F := Ideal))) ⟨m, fun _ => 0, g⟩ (fun r => ∀ c : Dev Cert.QueryDwIdeal.nD,
          r.2.mem ((c.tc : Thread Cert.QueryDwIdeal.nD Cert.QueryDwIdeal.τ).loc Cert.QueryDwIdeal.main_v2) = v0 c
          ∧ r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
          ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1))
      ∧ θ_run (Cert.QueryDwRefIdeal.defs (F := Ideal)) (onTc (τ := Cert.QueryDwRefIdeal.τ) (Cert.QueryDwRefIdeal.main (F := Ideal))) ⟨m', fun _ => 0, g'⟩ (fun r => ∀ c : Dev Cert.QueryDwRefIdeal.nD,
          r.2.mem ((c.tc : Thread Cert.QueryDwRefIdeal.nD Cert.QueryDwRefIdeal.τ).loc Cert.QueryDwRefIdeal.main_v3) = v0 c
          ∧ r.2.mem ((c.tc : Thread Cert.QueryDwRefIdeal.nD Cert.QueryDwRefIdeal.τ).loc Cert.QueryDwRefIdeal.main_arg0) = m' ((c.tc : Thread Cert.QueryDwRefIdeal.nD Cert.QueryDwRefIdeal.τ).loc Cert.QueryDwRefIdeal.main_arg0)
          ∧ r.2.mem ((c.tc : Thread Cert.QueryDwRefIdeal.nD Cert.QueryDwRefIdeal.τ).loc Cert.QueryDwRefIdeal.main_arg1) = m' ((c.tc : Thread Cert.QueryDwRefIdeal.nD Cert.QueryDwRefIdeal.τ).loc Cert.QueryDwRefIdeal.main_arg1))

def preserves_QueryDx_QueryDxIdeal : Prop :=
  True

def algebraic_QueryDxIdeal_QueryDxRefIdeal [hQueryDxIdeal : Cert.QueryDxIdeal.Facts] [hQueryDxRefIdeal : Cert.QueryDxRefIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg)
    (m' : (ℓ : Loc Cert.QueryDxRefIdeal.nD Cert.QueryDxRefIdeal.τ Cert.QueryDxRefIdeal.sig) → Buf (Elt Ideal) ℓ) (g' : Dev Cert.QueryDxRefIdeal.nD → PrngReg), Pre_QueryDxIdeal m →
    (∀ c : Dev Cert.QueryDxIdeal.nD,
      m' ((c.tc : Thread Cert.QueryDxRefIdeal.nD Cert.QueryDxRefIdeal.τ).loc Cert.QueryDxRefIdeal.main_arg0) = m ((c.tc : Thread Cert.QueryDxIdeal.nD Cert.QueryDxIdeal.τ).loc Cert.QueryDxIdeal.main_arg0)
      ∧ m' ((c.tc : Thread Cert.QueryDxRefIdeal.nD Cert.QueryDxRefIdeal.τ).loc Cert.QueryDxRefIdeal.main_arg1) = m ((c.tc : Thread Cert.QueryDxIdeal.nD Cert.QueryDxIdeal.τ).loc Cert.QueryDxIdeal.main_arg1)) →
    ∃ (v0 : (c : Dev Cert.QueryDxIdeal.nD) → Buf (Elt Ideal) ((c.tc : Thread Cert.QueryDxIdeal.nD Cert.QueryDxIdeal.τ).loc Cert.QueryDxIdeal.main_v2)),
      θ_run (Cert.QueryDxIdeal.defs (F := Ideal)) (onTc (τ := Cert.QueryDxIdeal.τ) (Cert.QueryDxIdeal.main (F := Ideal))) ⟨m, fun _ => 0, g⟩ (fun r => ∀ c : Dev Cert.QueryDxIdeal.nD,
          r.2.mem ((c.tc : Thread Cert.QueryDxIdeal.nD Cert.QueryDxIdeal.τ).loc Cert.QueryDxIdeal.main_v2) = v0 c
          ∧ r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
          ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1))
      ∧ θ_run (Cert.QueryDxRefIdeal.defs (F := Ideal)) (onTc (τ := Cert.QueryDxRefIdeal.τ) (Cert.QueryDxRefIdeal.main (F := Ideal))) ⟨m', fun _ => 0, g'⟩ (fun r => ∀ c : Dev Cert.QueryDxRefIdeal.nD,
          r.2.mem ((c.tc : Thread Cert.QueryDxRefIdeal.nD Cert.QueryDxRefIdeal.τ).loc Cert.QueryDxRefIdeal.main_v2) = v0 c
          ∧ r.2.mem ((c.tc : Thread Cert.QueryDxRefIdeal.nD Cert.QueryDxRefIdeal.τ).loc Cert.QueryDxRefIdeal.main_arg0) = m' ((c.tc : Thread Cert.QueryDxRefIdeal.nD Cert.QueryDxRefIdeal.τ).loc Cert.QueryDxRefIdeal.main_arg0)
          ∧ r.2.mem ((c.tc : Thread Cert.QueryDxRefIdeal.nD Cert.QueryDxRefIdeal.τ).loc Cert.QueryDxRefIdeal.main_arg1) = m' ((c.tc : Thread Cert.QueryDxRefIdeal.nD Cert.QueryDxRefIdeal.τ).loc Cert.QueryDxRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v1) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v0) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_MemDw_MemDwIdeal : Prop :=
  True

def algebraic_MemDwIdeal_MemDwRefIdeal [hMemDwIdeal : Cert.MemDwIdeal.Facts] [hMemDwRefIdeal : Cert.MemDwRefIdeal.Facts] : Prop :=
  ∀ (m : (ℓ : Loc Cert.MemDwIdeal.nD Cert.MemDwIdeal.τ Cert.MemDwIdeal.sig) → Buf (Elt Ideal) ℓ) (g : Dev Cert.MemDwIdeal.nD → PrngReg)
    (m' : (ℓ : Loc Cert.MemDwRefIdeal.nD Cert.MemDwRefIdeal.τ Cert.MemDwRefIdeal.sig) → Buf (Elt Ideal) ℓ) (g' : Dev Cert.MemDwRefIdeal.nD → PrngReg), Pre_MemDwIdeal m →
    (∀ c : Dev Cert.MemDwIdeal.nD,
      m' ((c.tc : Thread Cert.MemDwRefIdeal.nD Cert.MemDwRefIdeal.τ).loc Cert.MemDwRefIdeal.main_arg0) = m ((c.tc : Thread Cert.MemDwIdeal.nD Cert.MemDwIdeal.τ).loc Cert.MemDwIdeal.main_arg0)
      ∧ m' ((c.tc : Thread Cert.MemDwRefIdeal.nD Cert.MemDwRefIdeal.τ).loc Cert.MemDwRefIdeal.main_arg1) = m ((c.tc : Thread Cert.MemDwIdeal.nD Cert.MemDwIdeal.τ).loc Cert.MemDwIdeal.main_arg1)) →
    ∃ (v0 : (c : Dev Cert.MemDwIdeal.nD) → Buf (Elt Ideal) ((c.tc : Thread Cert.MemDwIdeal.nD Cert.MemDwIdeal.τ).loc Cert.MemDwIdeal.main_v0)),
      θ_run (Cert.MemDwIdeal.defs (F := Ideal)) (onTc (τ := Cert.MemDwIdeal.τ) (Cert.MemDwIdeal.main (F := Ideal))) ⟨m, fun _ => 0, g⟩ (fun r => ∀ c : Dev Cert.MemDwIdeal.nD,
          r.2.mem ((c.tc : Thread Cert.MemDwIdeal.nD Cert.MemDwIdeal.τ).loc Cert.MemDwIdeal.main_v0) = v0 c
          ∧ r.2.mem ((c.tc : Thread Cert.MemDwIdeal.nD Cert.MemDwIdeal.τ).loc Cert.MemDwIdeal.main_arg0) = m ((c.tc : Thread Cert.MemDwIdeal.nD Cert.MemDwIdeal.τ).loc Cert.MemDwIdeal.main_arg0)
          ∧ r.2.mem ((c.tc : Thread Cert.MemDwIdeal.nD Cert.MemDwIdeal.τ).loc Cert.MemDwIdeal.main_arg1) = m ((c.tc : Thread Cert.MemDwIdeal.nD Cert.MemDwIdeal.τ).loc Cert.MemDwIdeal.main_arg1))
      ∧ θ_run (Cert.MemDwRefIdeal.defs (F := Ideal)) (onTc (τ := Cert.MemDwRefIdeal.τ) (Cert.MemDwRefIdeal.main (F := Ideal))) ⟨m', fun _ => 0, g'⟩ (fun r => ∀ c : Dev Cert.MemDwRefIdeal.nD,
          r.2.mem ((c.tc : Thread Cert.MemDwRefIdeal.nD Cert.MemDwRefIdeal.τ).loc Cert.MemDwRefIdeal.main_v3) = v0 c
          ∧ r.2.mem ((c.tc : Thread Cert.MemDwRefIdeal.nD Cert.MemDwRefIdeal.τ).loc Cert.MemDwRefIdeal.main_arg0) = m' ((c.tc : Thread Cert.MemDwRefIdeal.nD Cert.MemDwRefIdeal.τ).loc Cert.MemDwRefIdeal.main_arg0)
          ∧ r.2.mem ((c.tc : Thread Cert.MemDwRefIdeal.nD Cert.MemDwRefIdeal.τ).loc Cert.MemDwRefIdeal.main_arg1) = m' ((c.tc : Thread Cert.MemDwRefIdeal.nD Cert.MemDwRefIdeal.τ).loc Cert.MemDwRefIdeal.main_arg1))

def preserves_MemDk_MemDkIdeal : Prop :=
  True

def algebraic_MemDkIdeal_MemDkRefIdeal [hMemDkIdeal : Cert.MemDkIdeal.Facts] [hMemDkRefIdeal : Cert.MemDkRefIdeal.Facts] : Prop :=
  ∀ (m : (ℓ : Loc Cert.MemDkIdeal.nD Cert.MemDkIdeal.τ Cert.MemDkIdeal.sig) → Buf (Elt Ideal) ℓ) (g : Dev Cert.MemDkIdeal.nD → PrngReg)
    (m' : (ℓ : Loc Cert.MemDkRefIdeal.nD Cert.MemDkRefIdeal.τ Cert.MemDkRefIdeal.sig) → Buf (Elt Ideal) ℓ) (g' : Dev Cert.MemDkRefIdeal.nD → PrngReg), Pre_MemDkIdeal m →
    (∀ c : Dev Cert.MemDkIdeal.nD,
      m' ((c.tc : Thread Cert.MemDkRefIdeal.nD Cert.MemDkRefIdeal.τ).loc Cert.MemDkRefIdeal.main_arg0) = m ((c.tc : Thread Cert.MemDkIdeal.nD Cert.MemDkIdeal.τ).loc Cert.MemDkIdeal.main_arg0)
      ∧ m' ((c.tc : Thread Cert.MemDkRefIdeal.nD Cert.MemDkRefIdeal.τ).loc Cert.MemDkRefIdeal.main_arg1) = m ((c.tc : Thread Cert.MemDkIdeal.nD Cert.MemDkIdeal.τ).loc Cert.MemDkIdeal.main_arg1)) →
    ∃ (v0 : (c : Dev Cert.MemDkIdeal.nD) → Buf (Elt Ideal) ((c.tc : Thread Cert.MemDkIdeal.nD Cert.MemDkIdeal.τ).loc Cert.MemDkIdeal.main_v1)),
      θ_run (Cert.MemDkIdeal.defs (F := Ideal)) (onTc (τ := Cert.MemDkIdeal.τ) (Cert.MemDkIdeal.main (F := Ideal))) ⟨m, fun _ => 0, g⟩ (fun r => ∀ c : Dev Cert.MemDkIdeal.nD,
          r.2.mem ((c.tc : Thread Cert.MemDkIdeal.nD Cert.MemDkIdeal.τ).loc Cert.MemDkIdeal.main_v1) = v0 c
          ∧ r.2.mem ((c.tc : Thread Cert.MemDkIdeal.nD Cert.MemDkIdeal.τ).loc Cert.MemDkIdeal.main_arg0) = m ((c.tc : Thread Cert.MemDkIdeal.nD Cert.MemDkIdeal.τ).loc Cert.MemDkIdeal.main_arg0)
          ∧ r.2.mem ((c.tc : Thread Cert.MemDkIdeal.nD Cert.MemDkIdeal.τ).loc Cert.MemDkIdeal.main_arg1) = m ((c.tc : Thread Cert.MemDkIdeal.nD Cert.MemDkIdeal.τ).loc Cert.MemDkIdeal.main_arg1))
      ∧ θ_run (Cert.MemDkRefIdeal.defs (F := Ideal)) (onTc (τ := Cert.MemDkRefIdeal.τ) (Cert.MemDkRefIdeal.main (F := Ideal))) ⟨m', fun _ => 0, g'⟩ (fun r => ∀ c : Dev Cert.MemDkRefIdeal.nD,
          r.2.mem ((c.tc : Thread Cert.MemDkRefIdeal.nD Cert.MemDkRefIdeal.τ).loc Cert.MemDkRefIdeal.main_v2) = v0 c
          ∧ r.2.mem ((c.tc : Thread Cert.MemDkRefIdeal.nD Cert.MemDkRefIdeal.τ).loc Cert.MemDkRefIdeal.main_arg0) = m' ((c.tc : Thread Cert.MemDkRefIdeal.nD Cert.MemDkRefIdeal.τ).loc Cert.MemDkRefIdeal.main_arg0)
          ∧ r.2.mem ((c.tc : Thread Cert.MemDkRefIdeal.nD Cert.MemDkRefIdeal.τ).loc Cert.MemDkRefIdeal.main_arg1) = m' ((c.tc : Thread Cert.MemDkRefIdeal.nD Cert.MemDkRefIdeal.τ).loc Cert.MemDkRefIdeal.main_arg1))

def preserves_MemDv_MemDvIdeal : Prop :=
  True

def algebraic_MemDvIdeal_MemDvRefIdeal [hMemDvIdeal : Cert.MemDvIdeal.Facts] [hMemDvRefIdeal : Cert.MemDvRefIdeal.Facts] : Prop :=
  ∀ (m : (ℓ : Loc Cert.MemDvIdeal.nD Cert.MemDvIdeal.τ Cert.MemDvIdeal.sig) → Buf (Elt Ideal) ℓ) (g : Dev Cert.MemDvIdeal.nD → PrngReg)
    (m' : (ℓ : Loc Cert.MemDvRefIdeal.nD Cert.MemDvRefIdeal.τ Cert.MemDvRefIdeal.sig) → Buf (Elt Ideal) ℓ) (g' : Dev Cert.MemDvRefIdeal.nD → PrngReg), Pre_MemDvIdeal m →
    (∀ c : Dev Cert.MemDvIdeal.nD,
      m' ((c.tc : Thread Cert.MemDvRefIdeal.nD Cert.MemDvRefIdeal.τ).loc Cert.MemDvRefIdeal.main_arg0) = m ((c.tc : Thread Cert.MemDvIdeal.nD Cert.MemDvIdeal.τ).loc Cert.MemDvIdeal.main_arg0)
      ∧ m' ((c.tc : Thread Cert.MemDvRefIdeal.nD Cert.MemDvRefIdeal.τ).loc Cert.MemDvRefIdeal.main_arg1) = m ((c.tc : Thread Cert.MemDvIdeal.nD Cert.MemDvIdeal.τ).loc Cert.MemDvIdeal.main_arg1)
      ∧ m' ((c.tc : Thread Cert.MemDvRefIdeal.nD Cert.MemDvRefIdeal.τ).loc Cert.MemDvRefIdeal.main_arg2) = m ((c.tc : Thread Cert.MemDvIdeal.nD Cert.MemDvIdeal.τ).loc Cert.MemDvIdeal.main_arg2)) →
    ∃ (v0 : (c : Dev Cert.MemDvIdeal.nD) → Buf (Elt Ideal) ((c.tc : Thread Cert.MemDvIdeal.nD Cert.MemDvIdeal.τ).loc Cert.MemDvIdeal.main_v1)),
      θ_run (Cert.MemDvIdeal.defs (F := Ideal)) (onTc (τ := Cert.MemDvIdeal.τ) (Cert.MemDvIdeal.main (F := Ideal))) ⟨m, fun _ => 0, g⟩ (fun r => ∀ c : Dev Cert.MemDvIdeal.nD,
          r.2.mem ((c.tc : Thread Cert.MemDvIdeal.nD Cert.MemDvIdeal.τ).loc Cert.MemDvIdeal.main_v1) = v0 c
          ∧ r.2.mem ((c.tc : Thread Cert.MemDvIdeal.nD Cert.MemDvIdeal.τ).loc Cert.MemDvIdeal.main_arg0) = m ((c.tc : Thread Cert.MemDvIdeal.nD Cert.MemDvIdeal.τ).loc Cert.MemDvIdeal.main_arg0)
          ∧ r.2.mem ((c.tc : Thread Cert.MemDvIdeal.nD Cert.MemDvIdeal.τ).loc Cert.MemDvIdeal.main_arg1) = m ((c.tc : Thread Cert.MemDvIdeal.nD Cert.MemDvIdeal.τ).loc Cert.MemDvIdeal.main_arg1)
          ∧ r.2.mem ((c.tc : Thread Cert.MemDvIdeal.nD Cert.MemDvIdeal.τ).loc Cert.MemDvIdeal.main_arg2) = m ((c.tc : Thread Cert.MemDvIdeal.nD Cert.MemDvIdeal.τ).loc Cert.MemDvIdeal.main_arg2))
      ∧ θ_run (Cert.MemDvRefIdeal.defs (F := Ideal)) (onTc (τ := Cert.MemDvRefIdeal.τ) (Cert.MemDvRefIdeal.main (F := Ideal))) ⟨m', fun _ => 0, g'⟩ (fun r => ∀ c : Dev Cert.MemDvRefIdeal.nD,
          r.2.mem ((c.tc : Thread Cert.MemDvRefIdeal.nD Cert.MemDvRefIdeal.τ).loc Cert.MemDvRefIdeal.main_v3) = v0 c
          ∧ r.2.mem ((c.tc : Thread Cert.MemDvRefIdeal.nD Cert.MemDvRefIdeal.τ).loc Cert.MemDvRefIdeal.main_arg0) = m' ((c.tc : Thread Cert.MemDvRefIdeal.nD Cert.MemDvRefIdeal.τ).loc Cert.MemDvRefIdeal.main_arg0)
          ∧ r.2.mem ((c.tc : Thread Cert.MemDvRefIdeal.nD Cert.MemDvRefIdeal.τ).loc Cert.MemDvRefIdeal.main_arg1) = m' ((c.tc : Thread Cert.MemDvRefIdeal.nD Cert.MemDvRefIdeal.τ).loc Cert.MemDvRefIdeal.main_arg1)
          ∧ r.2.mem ((c.tc : Thread Cert.MemDvRefIdeal.nD Cert.MemDvRefIdeal.τ).loc Cert.MemDvRefIdeal.main_arg2) = m' ((c.tc : Thread Cert.MemDvRefIdeal.nD Cert.MemDvRefIdeal.τ).loc Cert.MemDvRefIdeal.main_arg2))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v23) = v0 c
          ∧ r.2.mem ((c.tc : Thread Cert.AdamFfnRefIdeal.nD Cert.AdamFfnRefIdeal.τ).loc Cert.AdamFfnRefIdeal.main_v4) = v1 c
          ∧ r.2.mem ((c.tc : Thread Cert.AdamFfnRefIdeal.nD Cert.AdamFfnRefIdeal.τ).loc Cert.AdamFfnRefIdeal.main_v10) = v2 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v23) = v0 c
          ∧ r.2.mem ((c.tc : Thread Cert.AdamBranchRefIdeal.nD Cert.AdamBranchRefIdeal.τ).loc Cert.AdamBranchRefIdeal.main_v4) = v1 c
          ∧ r.2.mem ((c.tc : Thread Cert.AdamBranchRefIdeal.nD Cert.AdamBranchRefIdeal.τ).loc Cert.AdamBranchRefIdeal.main_v10) = v2 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v23) = v0 c
          ∧ r.2.mem ((c.tc : Thread Cert.AdamSquareRefIdeal.nD Cert.AdamSquareRefIdeal.τ).loc Cert.AdamSquareRefIdeal.main_v4) = v1 c
          ∧ r.2.mem ((c.tc : Thread Cert.AdamSquareRefIdeal.nD Cert.AdamSquareRefIdeal.τ).loc Cert.AdamSquareRefIdeal.main_v10) = v2 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamLn_AdamLnIdeal : Prop :=
  True

def algebraic_AdamLnIdeal_AdamLnRefIdeal [hAdamLnIdeal : Cert.AdamLnIdeal.Facts] [hAdamLnRefIdeal : Cert.AdamLnRefIdeal.Facts] : Prop :=
  ∀ (m : (ℓ : Loc Cert.AdamLnIdeal.nD Cert.AdamLnIdeal.τ Cert.AdamLnIdeal.sig) → Buf (Elt Ideal) ℓ) (g : Dev Cert.AdamLnIdeal.nD → PrngReg)
    (m' : (ℓ : Loc Cert.AdamLnRefIdeal.nD Cert.AdamLnRefIdeal.τ Cert.AdamLnRefIdeal.sig) → Buf (Elt Ideal) ℓ) (g' : Dev Cert.AdamLnRefIdeal.nD → PrngReg), Pre_AdamLnIdeal m →
    (∀ c : Dev Cert.AdamLnIdeal.nD,
      m' ((c.tc : Thread Cert.AdamLnRefIdeal.nD Cert.AdamLnRefIdeal.τ).loc Cert.AdamLnRefIdeal.main_arg0) = m ((c.tc : Thread Cert.AdamLnIdeal.nD Cert.AdamLnIdeal.τ).loc Cert.AdamLnIdeal.main_arg0)
      ∧ m' ((c.tc : Thread Cert.AdamLnRefIdeal.nD Cert.AdamLnRefIdeal.τ).loc Cert.AdamLnRefIdeal.main_arg1) = m ((c.tc : Thread Cert.AdamLnIdeal.nD Cert.AdamLnIdeal.τ).loc Cert.AdamLnIdeal.main_arg1)
      ∧ m' ((c.tc : Thread Cert.AdamLnRefIdeal.nD Cert.AdamLnRefIdeal.τ).loc Cert.AdamLnRefIdeal.main_arg2) = m ((c.tc : Thread Cert.AdamLnIdeal.nD Cert.AdamLnIdeal.τ).loc Cert.AdamLnIdeal.main_arg2)
      ∧ m' ((c.tc : Thread Cert.AdamLnRefIdeal.nD Cert.AdamLnRefIdeal.τ).loc Cert.AdamLnRefIdeal.main_arg3) = m ((c.tc : Thread Cert.AdamLnIdeal.nD Cert.AdamLnIdeal.τ).loc Cert.AdamLnIdeal.main_arg3)) →
    ∃ (v0 : (c : Dev Cert.AdamLnIdeal.nD) → Buf (Elt Ideal) ((c.tc : Thread Cert.AdamLnIdeal.nD Cert.AdamLnIdeal.τ).loc Cert.AdamLnIdeal.main_v0_0)) (v1 : (c : Dev Cert.AdamLnIdeal.nD) → Buf (Elt Ideal) ((c.tc : Thread Cert.AdamLnIdeal.nD Cert.AdamLnIdeal.τ).loc Cert.AdamLnIdeal.main_v0_1)) (v2 : (c : Dev Cert.AdamLnIdeal.nD) → Buf (Elt Ideal) ((c.tc : Thread Cert.AdamLnIdeal.nD Cert.AdamLnIdeal.τ).loc Cert.AdamLnIdeal.main_v0_2)),
      θ_run (Cert.AdamLnIdeal.defs (F := Ideal)) (onTc (τ := Cert.AdamLnIdeal.τ) (Cert.AdamLnIdeal.main (F := Ideal))) ⟨m, fun _ => 0, g⟩ (fun r => ∀ c : Dev Cert.AdamLnIdeal.nD,
          r.2.mem ((c.tc : Thread Cert.AdamLnIdeal.nD Cert.AdamLnIdeal.τ).loc Cert.AdamLnIdeal.main_v0_0) = v0 c
          ∧ r.2.mem ((c.tc : Thread Cert.AdamLnIdeal.nD Cert.AdamLnIdeal.τ).loc Cert.AdamLnIdeal.main_v0_1) = v1 c
          ∧ r.2.mem ((c.tc : Thread Cert.AdamLnIdeal.nD Cert.AdamLnIdeal.τ).loc Cert.AdamLnIdeal.main_v0_2) = v2 c
          ∧ r.2.mem ((c.tc : Thread Cert.AdamLnIdeal.nD Cert.AdamLnIdeal.τ).loc Cert.AdamLnIdeal.main_arg0) = m ((c.tc : Thread Cert.AdamLnIdeal.nD Cert.AdamLnIdeal.τ).loc Cert.AdamLnIdeal.main_arg0)
          ∧ r.2.mem ((c.tc : Thread Cert.AdamLnIdeal.nD Cert.AdamLnIdeal.τ).loc Cert.AdamLnIdeal.main_arg1) = m ((c.tc : Thread Cert.AdamLnIdeal.nD Cert.AdamLnIdeal.τ).loc Cert.AdamLnIdeal.main_arg1)
          ∧ r.2.mem ((c.tc : Thread Cert.AdamLnIdeal.nD Cert.AdamLnIdeal.τ).loc Cert.AdamLnIdeal.main_arg2) = m ((c.tc : Thread Cert.AdamLnIdeal.nD Cert.AdamLnIdeal.τ).loc Cert.AdamLnIdeal.main_arg2)
          ∧ r.2.mem ((c.tc : Thread Cert.AdamLnIdeal.nD Cert.AdamLnIdeal.τ).loc Cert.AdamLnIdeal.main_arg3) = m ((c.tc : Thread Cert.AdamLnIdeal.nD Cert.AdamLnIdeal.τ).loc Cert.AdamLnIdeal.main_arg3))
      ∧ θ_run (Cert.AdamLnRefIdeal.defs (F := Ideal)) (onTc (τ := Cert.AdamLnRefIdeal.τ) (Cert.AdamLnRefIdeal.main (F := Ideal))) ⟨m', fun _ => 0, g'⟩ (fun r => ∀ c : Dev Cert.AdamLnRefIdeal.nD,
          r.2.mem ((c.tc : Thread Cert.AdamLnRefIdeal.nD Cert.AdamLnRefIdeal.τ).loc Cert.AdamLnRefIdeal.main_v23) = v0 c
          ∧ r.2.mem ((c.tc : Thread Cert.AdamLnRefIdeal.nD Cert.AdamLnRefIdeal.τ).loc Cert.AdamLnRefIdeal.main_v4) = v1 c
          ∧ r.2.mem ((c.tc : Thread Cert.AdamLnRefIdeal.nD Cert.AdamLnRefIdeal.τ).loc Cert.AdamLnRefIdeal.main_v10) = v2 c
          ∧ r.2.mem ((c.tc : Thread Cert.AdamLnRefIdeal.nD Cert.AdamLnRefIdeal.τ).loc Cert.AdamLnRefIdeal.main_arg0) = m' ((c.tc : Thread Cert.AdamLnRefIdeal.nD Cert.AdamLnRefIdeal.τ).loc Cert.AdamLnRefIdeal.main_arg0)
          ∧ r.2.mem ((c.tc : Thread Cert.AdamLnRefIdeal.nD Cert.AdamLnRefIdeal.τ).loc Cert.AdamLnRefIdeal.main_arg1) = m' ((c.tc : Thread Cert.AdamLnRefIdeal.nD Cert.AdamLnRefIdeal.τ).loc Cert.AdamLnRefIdeal.main_arg1)
          ∧ r.2.mem ((c.tc : Thread Cert.AdamLnRefIdeal.nD Cert.AdamLnRefIdeal.τ).loc Cert.AdamLnRefIdeal.main_arg2) = m' ((c.tc : Thread Cert.AdamLnRefIdeal.nD Cert.AdamLnRefIdeal.τ).loc Cert.AdamLnRefIdeal.main_arg2)
          ∧ r.2.mem ((c.tc : Thread Cert.AdamLnRefIdeal.nD Cert.AdamLnRefIdeal.τ).loc Cert.AdamLnRefIdeal.main_arg3) = m' ((c.tc : Thread Cert.AdamLnRefIdeal.nD Cert.AdamLnRefIdeal.τ).loc Cert.AdamLnRefIdeal.main_arg3))

def preserves_AdamScale_AdamScaleIdeal : Prop :=
  True

def algebraic_AdamScaleIdeal_AdamScaleRefIdeal [hAdamScaleIdeal : Cert.AdamScaleIdeal.Facts] [hAdamScaleRefIdeal : Cert.AdamScaleRefIdeal.Facts] : Prop :=
  ∀ (m : (ℓ : Loc Cert.AdamScaleIdeal.nD Cert.AdamScaleIdeal.τ Cert.AdamScaleIdeal.sig) → Buf (Elt Ideal) ℓ) (g : Dev Cert.AdamScaleIdeal.nD → PrngReg)
    (m' : (ℓ : Loc Cert.AdamScaleRefIdeal.nD Cert.AdamScaleRefIdeal.τ Cert.AdamScaleRefIdeal.sig) → Buf (Elt Ideal) ℓ) (g' : Dev Cert.AdamScaleRefIdeal.nD → PrngReg), Pre_AdamScaleIdeal m →
    (∀ c : Dev Cert.AdamScaleIdeal.nD,
      m' ((c.tc : Thread Cert.AdamScaleRefIdeal.nD Cert.AdamScaleRefIdeal.τ).loc Cert.AdamScaleRefIdeal.main_arg0) = m ((c.tc : Thread Cert.AdamScaleIdeal.nD Cert.AdamScaleIdeal.τ).loc Cert.AdamScaleIdeal.main_arg0)
      ∧ m' ((c.tc : Thread Cert.AdamScaleRefIdeal.nD Cert.AdamScaleRefIdeal.τ).loc Cert.AdamScaleRefIdeal.main_arg1) = m ((c.tc : Thread Cert.AdamScaleIdeal.nD Cert.AdamScaleIdeal.τ).loc Cert.AdamScaleIdeal.main_arg1)
      ∧ m' ((c.tc : Thread Cert.AdamScaleRefIdeal.nD Cert.AdamScaleRefIdeal.τ).loc Cert.AdamScaleRefIdeal.main_arg2) = m ((c.tc : Thread Cert.AdamScaleIdeal.nD Cert.AdamScaleIdeal.τ).loc Cert.AdamScaleIdeal.main_arg2)
      ∧ m' ((c.tc : Thread Cert.AdamScaleRefIdeal.nD Cert.AdamScaleRefIdeal.τ).loc Cert.AdamScaleRefIdeal.main_arg3) = m ((c.tc : Thread Cert.AdamScaleIdeal.nD Cert.AdamScaleIdeal.τ).loc Cert.AdamScaleIdeal.main_arg3)) →
    ∃ (v0 : (c : Dev Cert.AdamScaleIdeal.nD) → Buf (Elt Ideal) ((c.tc : Thread Cert.AdamScaleIdeal.nD Cert.AdamScaleIdeal.τ).loc Cert.AdamScaleIdeal.main_v0_0)) (v1 : (c : Dev Cert.AdamScaleIdeal.nD) → Buf (Elt Ideal) ((c.tc : Thread Cert.AdamScaleIdeal.nD Cert.AdamScaleIdeal.τ).loc Cert.AdamScaleIdeal.main_v0_1)) (v2 : (c : Dev Cert.AdamScaleIdeal.nD) → Buf (Elt Ideal) ((c.tc : Thread Cert.AdamScaleIdeal.nD Cert.AdamScaleIdeal.τ).loc Cert.AdamScaleIdeal.main_v0_2)),
      θ_run (Cert.AdamScaleIdeal.defs (F := Ideal)) (onTc (τ := Cert.AdamScaleIdeal.τ) (Cert.AdamScaleIdeal.main (F := Ideal))) ⟨m, fun _ => 0, g⟩ (fun r => ∀ c : Dev Cert.AdamScaleIdeal.nD,
          r.2.mem ((c.tc : Thread Cert.AdamScaleIdeal.nD Cert.AdamScaleIdeal.τ).loc Cert.AdamScaleIdeal.main_v0_0) = v0 c
          ∧ r.2.mem ((c.tc : Thread Cert.AdamScaleIdeal.nD Cert.AdamScaleIdeal.τ).loc Cert.AdamScaleIdeal.main_v0_1) = v1 c
          ∧ r.2.mem ((c.tc : Thread Cert.AdamScaleIdeal.nD Cert.AdamScaleIdeal.τ).loc Cert.AdamScaleIdeal.main_v0_2) = v2 c
          ∧ r.2.mem ((c.tc : Thread Cert.AdamScaleIdeal.nD Cert.AdamScaleIdeal.τ).loc Cert.AdamScaleIdeal.main_arg0) = m ((c.tc : Thread Cert.AdamScaleIdeal.nD Cert.AdamScaleIdeal.τ).loc Cert.AdamScaleIdeal.main_arg0)
          ∧ r.2.mem ((c.tc : Thread Cert.AdamScaleIdeal.nD Cert.AdamScaleIdeal.τ).loc Cert.AdamScaleIdeal.main_arg1) = m ((c.tc : Thread Cert.AdamScaleIdeal.nD Cert.AdamScaleIdeal.τ).loc Cert.AdamScaleIdeal.main_arg1)
          ∧ r.2.mem ((c.tc : Thread Cert.AdamScaleIdeal.nD Cert.AdamScaleIdeal.τ).loc Cert.AdamScaleIdeal.main_arg2) = m ((c.tc : Thread Cert.AdamScaleIdeal.nD Cert.AdamScaleIdeal.τ).loc Cert.AdamScaleIdeal.main_arg2)
          ∧ r.2.mem ((c.tc : Thread Cert.AdamScaleIdeal.nD Cert.AdamScaleIdeal.τ).loc Cert.AdamScaleIdeal.main_arg3) = m ((c.tc : Thread Cert.AdamScaleIdeal.nD Cert.AdamScaleIdeal.τ).loc Cert.AdamScaleIdeal.main_arg3))
      ∧ θ_run (Cert.AdamScaleRefIdeal.defs (F := Ideal)) (onTc (τ := Cert.AdamScaleRefIdeal.τ) (Cert.AdamScaleRefIdeal.main (F := Ideal))) ⟨m', fun _ => 0, g'⟩ (fun r => ∀ c : Dev Cert.AdamScaleRefIdeal.nD,
          r.2.mem ((c.tc : Thread Cert.AdamScaleRefIdeal.nD Cert.AdamScaleRefIdeal.τ).loc Cert.AdamScaleRefIdeal.main_v23) = v0 c
          ∧ r.2.mem ((c.tc : Thread Cert.AdamScaleRefIdeal.nD Cert.AdamScaleRefIdeal.τ).loc Cert.AdamScaleRefIdeal.main_v4) = v1 c
          ∧ r.2.mem ((c.tc : Thread Cert.AdamScaleRefIdeal.nD Cert.AdamScaleRefIdeal.τ).loc Cert.AdamScaleRefIdeal.main_v10) = v2 c
          ∧ r.2.mem ((c.tc : Thread Cert.AdamScaleRefIdeal.nD Cert.AdamScaleRefIdeal.τ).loc Cert.AdamScaleRefIdeal.main_arg0) = m' ((c.tc : Thread Cert.AdamScaleRefIdeal.nD Cert.AdamScaleRefIdeal.τ).loc Cert.AdamScaleRefIdeal.main_arg0)
          ∧ r.2.mem ((c.tc : Thread Cert.AdamScaleRefIdeal.nD Cert.AdamScaleRefIdeal.τ).loc Cert.AdamScaleRefIdeal.main_arg1) = m' ((c.tc : Thread Cert.AdamScaleRefIdeal.nD Cert.AdamScaleRefIdeal.τ).loc Cert.AdamScaleRefIdeal.main_arg1)
          ∧ r.2.mem ((c.tc : Thread Cert.AdamScaleRefIdeal.nD Cert.AdamScaleRefIdeal.τ).loc Cert.AdamScaleRefIdeal.main_arg2) = m' ((c.tc : Thread Cert.AdamScaleRefIdeal.nD Cert.AdamScaleRefIdeal.τ).loc Cert.AdamScaleRefIdeal.main_arg2)
          ∧ r.2.mem ((c.tc : Thread Cert.AdamScaleRefIdeal.nD Cert.AdamScaleRefIdeal.τ).loc Cert.AdamScaleRefIdeal.main_arg3) = m' ((c.tc : Thread Cert.AdamScaleRefIdeal.nD Cert.AdamScaleRefIdeal.τ).loc Cert.AdamScaleRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamHead_AdamHeadIdeal : Prop :=
  True

def algebraic_AdamHeadIdeal_AdamHeadRefIdeal [hAdamHeadIdeal : Cert.AdamHeadIdeal.Facts] [hAdamHeadRefIdeal : Cert.AdamHeadRefIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadRefIdeal.nD Cert.AdamHeadRefIdeal.τ Cert.AdamHeadRefIdeal.sig) → Buf (Elt Ideal) ℓ) (g' : Dev Cert.AdamHeadRefIdeal.nD → PrngReg), Pre_AdamHeadIdeal m →
    (∀ c : Dev Cert.AdamHeadIdeal.nD,
      m' ((c.tc : Thread Cert.AdamHeadRefIdeal.nD Cert.AdamHeadRefIdeal.τ).loc Cert.AdamHeadRefIdeal.main_arg0) = m ((c.tc : Thread Cert.AdamHeadIdeal.nD Cert.AdamHeadIdeal.τ).loc Cert.AdamHeadIdeal.main_arg0)
      ∧ m' ((c.tc : Thread Cert.AdamHeadRefIdeal.nD Cert.AdamHeadRefIdeal.τ).loc Cert.AdamHeadRefIdeal.main_arg1) = m ((c.tc : Thread Cert.AdamHeadIdeal.nD Cert.AdamHeadIdeal.τ).loc Cert.AdamHeadIdeal.main_arg1)
      ∧ m' ((c.tc : Thread Cert.AdamHeadRefIdeal.nD Cert.AdamHeadRefIdeal.τ).loc Cert.AdamHeadRefIdeal.main_arg2) = m ((c.tc : Thread Cert.AdamHeadIdeal.nD Cert.AdamHeadIdeal.τ).loc Cert.AdamHeadIdeal.main_arg2)
      ∧ m' ((c.tc : Thread Cert.AdamHeadRefIdeal.nD Cert.AdamHeadRefIdeal.τ).loc Cert.AdamHeadRefIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.AdamHeadRefIdeal.defs (F := Ideal)) (onTc (τ := Cert.AdamHeadRefIdeal.τ) (Cert.AdamHeadRefIdeal.main (F := Ideal))) ⟨m', fun _ => 0, g'⟩ (fun r => ∀ c : Dev Cert.AdamHeadRefIdeal.nD,
          r.2.mem ((c.tc : Thread Cert.AdamHeadRefIdeal.nD Cert.AdamHeadRefIdeal.τ).loc Cert.AdamHeadRefIdeal.main_v23) = v0 c
          ∧ r.2.mem ((c.tc : Thread Cert.AdamHeadRefIdeal.nD Cert.AdamHeadRefIdeal.τ).loc Cert.AdamHeadRefIdeal.main_v4) = v1 c
          ∧ r.2.mem ((c.tc : Thread Cert.AdamHeadRefIdeal.nD Cert.AdamHeadRefIdeal.τ).loc Cert.AdamHeadRefIdeal.main_v10) = v2 c
          ∧ r.2.mem ((c.tc : Thread Cert.AdamHeadRefIdeal.nD Cert.AdamHeadRefIdeal.τ).loc Cert.AdamHeadRefIdeal.main_arg0) = m' ((c.tc : Thread Cert.AdamHeadRefIdeal.nD Cert.AdamHeadRefIdeal.τ).loc Cert.AdamHeadRefIdeal.main_arg0)
          ∧ r.2.mem ((c.tc : Thread Cert.AdamHeadRefIdeal.nD Cert.AdamHeadRefIdeal.τ).loc Cert.AdamHeadRefIdeal.main_arg1) = m' ((c.tc : Thread Cert.AdamHeadRefIdeal.nD Cert.AdamHeadRefIdeal.τ).loc Cert.AdamHeadRefIdeal.main_arg1)
          ∧ r.2.mem ((c.tc : Thread Cert.AdamHeadRefIdeal.nD Cert.AdamHeadRefIdeal.τ).loc Cert.AdamHeadRefIdeal.main_arg2) = m' ((c.tc : Thread Cert.AdamHeadRefIdeal.nD Cert.AdamHeadRefIdeal.τ).loc Cert.AdamHeadRefIdeal.main_arg2)
          ∧ r.2.mem ((c.tc : Thread Cert.AdamHeadRefIdeal.nD Cert.AdamHeadRefIdeal.τ).loc Cert.AdamHeadRefIdeal.main_arg3) = m' ((c.tc : Thread Cert.AdamHeadRefIdeal.nD Cert.AdamHeadRefIdeal.τ).loc Cert.AdamHeadRefIdeal.main_arg3))

def preserves_SumGate_SumGateIdeal : Prop :=
  True

def algebraic_SumGateIdeal_SumGateRefIdeal [hSumGateIdeal : Cert.SumGateIdeal.Facts] [hSumGateRefIdeal : Cert.SumGateRefIdeal.Facts] : Prop :=
  ∀ (m : (ℓ : Loc Cert.SumGateIdeal.nD Cert.SumGateIdeal.τ Cert.SumGateIdeal.sig) → Buf (Elt Ideal) ℓ) (g : Dev Cert.SumGateIdeal.nD → PrngReg)
    (m' : (ℓ : Loc Cert.SumGateRefIdeal.nD Cert.SumGateRefIdeal.τ Cert.SumGateRefIdeal.sig) → Buf (Elt Ideal) ℓ) (g' : Dev Cert.SumGateRefIdeal.nD → PrngReg), Pre_SumGateIdeal m →
    (∀ c : Dev Cert.SumGateIdeal.nD,
      m' ((c.tc : Thread Cert.SumGateRefIdeal.nD Cert.SumGateRefIdeal.τ).loc Cert.SumGateRefIdeal.main_arg0) = m ((c.tc : Thread Cert.SumGateIdeal.nD Cert.SumGateIdeal.τ).loc Cert.SumGateIdeal.main_arg0)
      ∧ m' ((c.tc : Thread Cert.SumGateRefIdeal.nD Cert.SumGateRefIdeal.τ).loc Cert.SumGateRefIdeal.main_arg1) = m ((c.tc : Thread Cert.SumGateIdeal.nD Cert.SumGateIdeal.τ).loc Cert.SumGateIdeal.main_arg1)) →
    ∃ (v0 : (c : Dev Cert.SumGateIdeal.nD) → Buf (Elt Ideal) ((c.tc : Thread Cert.SumGateIdeal.nD Cert.SumGateIdeal.τ).loc Cert.SumGateIdeal.main_v3)),
      θ_run (Cert.SumGateIdeal.defs (F := Ideal)) (onTc (τ := Cert.SumGateIdeal.τ) (Cert.SumGateIdeal.main (F := Ideal))) ⟨m, fun _ => 0, g⟩ (fun r => ∀ c : Dev Cert.SumGateIdeal.nD,
          r.2.mem ((c.tc : Thread Cert.SumGateIdeal.nD Cert.SumGateIdeal.τ).loc Cert.SumGateIdeal.main_v3) = v0 c
          ∧ r.2.mem ((c.tc : Thread Cert.SumGateIdeal.nD Cert.SumGateIdeal.τ).loc Cert.SumGateIdeal.main_arg0) = m ((c.tc : Thread Cert.SumGateIdeal.nD Cert.SumGateIdeal.τ).loc Cert.SumGateIdeal.main_arg0)
          ∧ r.2.mem ((c.tc : Thread Cert.SumGateIdeal.nD Cert.SumGateIdeal.τ).loc Cert.SumGateIdeal.main_arg1) = m ((c.tc : Thread Cert.SumGateIdeal.nD Cert.SumGateIdeal.τ).loc Cert.SumGateIdeal.main_arg1))
      ∧ θ_run (Cert.SumGateRefIdeal.defs (F := Ideal)) (onTc (τ := Cert.SumGateRefIdeal.τ) (Cert.SumGateRefIdeal.main (F := Ideal))) ⟨m', fun _ => 0, g'⟩ (fun r => ∀ c : Dev Cert.SumGateRefIdeal.nD,
          r.2.mem ((c.tc : Thread Cert.SumGateRefIdeal.nD Cert.SumGateRefIdeal.τ).loc Cert.SumGateRefIdeal.main_v3) = v0 c
          ∧ r.2.mem ((c.tc : Thread Cert.SumGateRefIdeal.nD Cert.SumGateRefIdeal.τ).loc Cert.SumGateRefIdeal.main_arg0) = m' ((c.tc : Thread Cert.SumGateRefIdeal.nD Cert.SumGateRefIdeal.τ).loc Cert.SumGateRefIdeal.main_arg0)
          ∧ r.2.mem ((c.tc : Thread Cert.SumGateRefIdeal.nD Cert.SumGateRefIdeal.τ).loc Cert.SumGateRefIdeal.main_arg1) = m' ((c.tc : Thread Cert.SumGateRefIdeal.nD Cert.SumGateRefIdeal.τ).loc Cert.SumGateRefIdeal.main_arg1))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)
      ∧ m' ((c.tc : Thread Cert.SumDownRefIdeal.nD Cert.SumDownRefIdeal.τ).loc Cert.SumDownRefIdeal.main_arg1) = m ((c.tc : Thread Cert.SumDownIdeal.nD Cert.SumDownIdeal.τ).loc Cert.SumDownIdeal.main_arg1)) →
    ∃ (v0 : (c : Dev Cert.SumDownIdeal.nD) → Buf (Elt Ideal) ((c.tc : Thread Cert.SumDownIdeal.nD Cert.SumDownIdeal.τ).loc Cert.SumDownIdeal.main_v2)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v2) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0)
          ∧ r.2.mem ((c.tc : Thread Cert.SumDownIdeal.nD Cert.SumDownIdeal.τ).loc Cert.SumDownIdeal.main_arg1) = m ((c.tc : Thread Cert.SumDownIdeal.nD Cert.SumDownIdeal.τ).loc Cert.SumDownIdeal.main_arg1))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v2) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0)
          ∧ r.2.mem ((c.tc : Thread Cert.SumDownRefIdeal.nD Cert.SumDownRefIdeal.τ).loc Cert.SumDownRefIdeal.main_arg1) = m' ((c.tc : Thread Cert.SumDownRefIdeal.nD Cert.SumDownRefIdeal.τ).loc Cert.SumDownRefIdeal.main_arg1))

def preserves_SumFfn_SumFfnIdeal : Prop :=
  True

def algebraic_SumFfnIdeal_SumFfnRefIdeal [hSumFfnIdeal : Cert.SumFfnIdeal.Facts] [hSumFfnRefIdeal : Cert.SumFfnRefIdeal.Facts] : Prop :=
  ∀ (m : (ℓ : Loc Cert.SumFfnIdeal.nD Cert.SumFfnIdeal.τ Cert.SumFfnIdeal.sig) → Buf (Elt Ideal) ℓ) (g : Dev Cert.SumFfnIdeal.nD → PrngReg)
    (m' : (ℓ : Loc Cert.SumFfnRefIdeal.nD Cert.SumFfnRefIdeal.τ Cert.SumFfnRefIdeal.sig) → Buf (Elt Ideal) ℓ) (g' : Dev Cert.SumFfnRefIdeal.nD → PrngReg), Pre_SumFfnIdeal m →
    (∀ c : Dev Cert.SumFfnIdeal.nD,
      m' ((c.tc : Thread Cert.SumFfnRefIdeal.nD Cert.SumFfnRefIdeal.τ).loc Cert.SumFfnRefIdeal.main_arg0) = m ((c.tc : Thread Cert.SumFfnIdeal.nD Cert.SumFfnIdeal.τ).loc Cert.SumFfnIdeal.main_arg0)
      ∧ m' ((c.tc : Thread Cert.SumFfnRefIdeal.nD Cert.SumFfnRefIdeal.τ).loc Cert.SumFfnRefIdeal.main_arg1) = m ((c.tc : Thread Cert.SumFfnIdeal.nD Cert.SumFfnIdeal.τ).loc Cert.SumFfnIdeal.main_arg1)) →
    ∃ (v0 : (c : Dev Cert.SumFfnIdeal.nD) → Buf (Elt Ideal) ((c.tc : Thread Cert.SumFfnIdeal.nD Cert.SumFfnIdeal.τ).loc Cert.SumFfnIdeal.main_v4)) (v1 : (c : Dev Cert.SumFfnIdeal.nD) → Buf (Elt Ideal) ((c.tc : Thread Cert.SumFfnIdeal.nD Cert.SumFfnIdeal.τ).loc Cert.SumFfnIdeal.main_v7)) (v2 : (c : Dev Cert.SumFfnIdeal.nD) → Buf (Elt Ideal) ((c.tc : Thread Cert.SumFfnIdeal.nD Cert.SumFfnIdeal.τ).loc Cert.SumFfnIdeal.main_v9)),
      θ_run (Cert.SumFfnIdeal.defs (F := Ideal)) (onTc (τ := Cert.SumFfnIdeal.τ) (Cert.SumFfnIdeal.main (F := Ideal))) ⟨m, fun _ => 0, g⟩ (fun r => ∀ c : Dev Cert.SumFfnIdeal.nD,
          r.2.mem ((c.tc : Thread Cert.SumFfnIdeal.nD Cert.SumFfnIdeal.τ).loc Cert.SumFfnIdeal.main_v4) = v0 c
          ∧ r.2.mem ((c.tc : Thread Cert.SumFfnIdeal.nD Cert.SumFfnIdeal.τ).loc Cert.SumFfnIdeal.main_v7) = v1 c
          ∧ r.2.mem ((c.tc : Thread Cert.SumFfnIdeal.nD Cert.SumFfnIdeal.τ).loc Cert.SumFfnIdeal.main_v9) = v2 c
          ∧ r.2.mem ((c.tc : Thread Cert.SumFfnIdeal.nD Cert.SumFfnIdeal.τ).loc Cert.SumFfnIdeal.main_arg0) = m ((c.tc : Thread Cert.SumFfnIdeal.nD Cert.SumFfnIdeal.τ).loc Cert.SumFfnIdeal.main_arg0)
          ∧ r.2.mem ((c.tc : Thread Cert.SumFfnIdeal.nD Cert.SumFfnIdeal.τ).loc Cert.SumFfnIdeal.main_arg1) = m ((c.tc : Thread Cert.SumFfnIdeal.nD Cert.SumFfnIdeal.τ).loc Cert.SumFfnIdeal.main_arg1))
      ∧ θ_run (Cert.SumFfnRefIdeal.defs (F := Ideal)) (onTc (τ := Cert.SumFfnRefIdeal.τ) (Cert.SumFfnRefIdeal.main (F := Ideal))) ⟨m', fun _ => 0, g'⟩ (fun r => ∀ c : Dev Cert.SumFfnRefIdeal.nD,
          r.2.mem ((c.tc : Thread Cert.SumFfnRefIdeal.nD Cert.SumFfnRefIdeal.τ).loc Cert.SumFfnRefIdeal.main_v4) = v0 c
          ∧ r.2.mem ((c.tc : Thread Cert.SumFfnRefIdeal.nD Cert.SumFfnRefIdeal.τ).loc Cert.SumFfnRefIdeal.main_v7) = v1 c
          ∧ r.2.mem ((c.tc : Thread Cert.SumFfnRefIdeal.nD Cert.SumFfnRefIdeal.τ).loc Cert.SumFfnRefIdeal.main_v9) = v2 c
          ∧ r.2.mem ((c.tc : Thread Cert.SumFfnRefIdeal.nD Cert.SumFfnRefIdeal.τ).loc Cert.SumFfnRefIdeal.main_arg0) = m' ((c.tc : Thread Cert.SumFfnRefIdeal.nD Cert.SumFfnRefIdeal.τ).loc Cert.SumFfnRefIdeal.main_arg0)
          ∧ r.2.mem ((c.tc : Thread Cert.SumFfnRefIdeal.nD Cert.SumFfnRefIdeal.τ).loc Cert.SumFfnRefIdeal.main_arg1) = m' ((c.tc : Thread Cert.SumFfnRefIdeal.nD Cert.SumFfnRefIdeal.τ).loc Cert.SumFfnRefIdeal.main_arg1))

def preserves_SumMixer_SumMixerIdeal : Prop :=
  True

def algebraic_SumMixerIdeal_SumMixerRefIdeal [hSumMixerIdeal : Cert.SumMixerIdeal.Facts] [hSumMixerRefIdeal : Cert.SumMixerRefIdeal.Facts] : Prop :=
  ∀ (m : (ℓ : Loc Cert.SumMixerIdeal.nD Cert.SumMixerIdeal.τ Cert.SumMixerIdeal.sig) → Buf (Elt Ideal) ℓ) (g : Dev Cert.SumMixerIdeal.nD → PrngReg)
    (m' : (ℓ : Loc Cert.SumMixerRefIdeal.nD Cert.SumMixerRefIdeal.τ Cert.SumMixerRefIdeal.sig) → Buf (Elt Ideal) ℓ) (g' : Dev Cert.SumMixerRefIdeal.nD → PrngReg), Pre_SumMixerIdeal m →
    (∀ c : Dev Cert.SumMixerIdeal.nD,
      m' ((c.tc : Thread Cert.SumMixerRefIdeal.nD Cert.SumMixerRefIdeal.τ).loc Cert.SumMixerRefIdeal.main_arg0) = m ((c.tc : Thread Cert.SumMixerIdeal.nD Cert.SumMixerIdeal.τ).loc Cert.SumMixerIdeal.main_arg0)
      ∧ m' ((c.tc : Thread Cert.SumMixerRefIdeal.nD Cert.SumMixerRefIdeal.τ).loc Cert.SumMixerRefIdeal.main_arg1) = m ((c.tc : Thread Cert.SumMixerIdeal.nD Cert.SumMixerIdeal.τ).loc Cert.SumMixerIdeal.main_arg1)) →
    ∃ (v0 : (c : Dev Cert.SumMixerIdeal.nD) → Buf (Elt Ideal) ((c.tc : Thread Cert.SumMixerIdeal.nD Cert.SumMixerIdeal.τ).loc Cert.SumMixerIdeal.main_v4)) (v1 : (c : Dev Cert.SumMixerIdeal.nD) → Buf (Elt Ideal) ((c.tc : Thread Cert.SumMixerIdeal.nD Cert.SumMixerIdeal.τ).loc Cert.SumMixerIdeal.main_v8)) (v2 : (c : Dev Cert.SumMixerIdeal.nD) → Buf (Elt Ideal) ((c.tc : Thread Cert.SumMixerIdeal.nD Cert.SumMixerIdeal.τ).loc Cert.SumMixerIdeal.main_v11)) (v3 : (c : Dev Cert.SumMixerIdeal.nD) → Buf (Elt Ideal) ((c.tc : Thread Cert.SumMixerIdeal.nD Cert.SumMixerIdeal.τ).loc Cert.SumMixerIdeal.main_v14)) (v4 : (c : Dev Cert.SumMixerIdeal.nD) → Buf (Elt Ideal) ((c.tc : Thread Cert.SumMixerIdeal.nD Cert.SumMixerIdeal.τ).loc Cert.SumMixerIdeal.main_v16)),
      θ_run (Cert.SumMixerIdeal.defs (F := Ideal)) (onTc (τ := Cert.SumMixerIdeal.τ) (Cert.SumMixerIdeal.main (F := Ideal))) ⟨m, fun _ => 0, g⟩ (fun r => ∀ c : Dev Cert.SumMixerIdeal.nD,
          r.2.mem ((c.tc : Thread Cert.SumMixerIdeal.nD Cert.SumMixerIdeal.τ).loc Cert.SumMixerIdeal.main_v4) = v0 c
          ∧ r.2.mem ((c.tc : Thread Cert.SumMixerIdeal.nD Cert.SumMixerIdeal.τ).loc Cert.SumMixerIdeal.main_v8) = v1 c
          ∧ r.2.mem ((c.tc : Thread Cert.SumMixerIdeal.nD Cert.SumMixerIdeal.τ).loc Cert.SumMixerIdeal.main_v11) = v2 c
          ∧ r.2.mem ((c.tc : Thread Cert.SumMixerIdeal.nD Cert.SumMixerIdeal.τ).loc Cert.SumMixerIdeal.main_v14) = v3 c
          ∧ r.2.mem ((c.tc : Thread Cert.SumMixerIdeal.nD Cert.SumMixerIdeal.τ).loc Cert.SumMixerIdeal.main_v16) = v4 c
          ∧ r.2.mem ((c.tc : Thread Cert.SumMixerIdeal.nD Cert.SumMixerIdeal.τ).loc Cert.SumMixerIdeal.main_arg0) = m ((c.tc : Thread Cert.SumMixerIdeal.nD Cert.SumMixerIdeal.τ).loc Cert.SumMixerIdeal.main_arg0)
          ∧ r.2.mem ((c.tc : Thread Cert.SumMixerIdeal.nD Cert.SumMixerIdeal.τ).loc Cert.SumMixerIdeal.main_arg1) = m ((c.tc : Thread Cert.SumMixerIdeal.nD Cert.SumMixerIdeal.τ).loc Cert.SumMixerIdeal.main_arg1))
      ∧ θ_run (Cert.SumMixerRefIdeal.defs (F := Ideal)) (onTc (τ := Cert.SumMixerRefIdeal.τ) (Cert.SumMixerRefIdeal.main (F := Ideal))) ⟨m', fun _ => 0, g'⟩ (fun r => ∀ c : Dev Cert.SumMixerRefIdeal.nD,
          r.2.mem ((c.tc : Thread Cert.SumMixerRefIdeal.nD Cert.SumMixerRefIdeal.τ).loc Cert.SumMixerRefIdeal.main_v4) = v0 c
          ∧ r.2.mem ((c.tc : Thread Cert.SumMixerRefIdeal.nD Cert.SumMixerRefIdeal.τ).loc Cert.SumMixerRefIdeal.main_v8) = v1 c
          ∧ r.2.mem ((c.tc : Thread Cert.SumMixerRefIdeal.nD Cert.SumMixerRefIdeal.τ).loc Cert.SumMixerRefIdeal.main_v11) = v2 c
          ∧ r.2.mem ((c.tc : Thread Cert.SumMixerRefIdeal.nD Cert.SumMixerRefIdeal.τ).loc Cert.SumMixerRefIdeal.main_v14) = v3 c
          ∧ r.2.mem ((c.tc : Thread Cert.SumMixerRefIdeal.nD Cert.SumMixerRefIdeal.τ).loc Cert.SumMixerRefIdeal.main_v16) = v4 c
          ∧ r.2.mem ((c.tc : Thread Cert.SumMixerRefIdeal.nD Cert.SumMixerRefIdeal.τ).loc Cert.SumMixerRefIdeal.main_arg0) = m' ((c.tc : Thread Cert.SumMixerRefIdeal.nD Cert.SumMixerRefIdeal.τ).loc Cert.SumMixerRefIdeal.main_arg0)
          ∧ r.2.mem ((c.tc : Thread Cert.SumMixerRefIdeal.nD Cert.SumMixerRefIdeal.τ).loc Cert.SumMixerRefIdeal.main_arg1) = m' ((c.tc : Thread Cert.SumMixerRefIdeal.nD Cert.SumMixerRefIdeal.τ).loc Cert.SumMixerRefIdeal.main_arg1))

def preserves_SumXa_SumXaIdeal : Prop :=
  True

def algebraic_SumXaIdeal_SumXaRefIdeal [hSumXaIdeal : Cert.SumXaIdeal.Facts] [hSumXaRefIdeal : Cert.SumXaRefIdeal.Facts] : Prop :=
  ∀ (m : (ℓ : Loc Cert.SumXaIdeal.nD Cert.SumXaIdeal.τ Cert.SumXaIdeal.sig) → Buf (Elt Ideal) ℓ) (g : Dev Cert.SumXaIdeal.nD → PrngReg)
    (m' : (ℓ : Loc Cert.SumXaRefIdeal.nD Cert.SumXaRefIdeal.τ Cert.SumXaRefIdeal.sig) → Buf (Elt Ideal) ℓ) (g' : Dev Cert.SumXaRefIdeal.nD → PrngReg), Pre_SumXaIdeal m →
    (∀ c : Dev Cert.SumXaIdeal.nD,
      m' ((c.tc : Thread Cert.SumXaRefIdeal.nD Cert.SumXaRefIdeal.τ).loc Cert.SumXaRefIdeal.main_arg0) = m ((c.tc : Thread Cert.SumXaIdeal.nD Cert.SumXaIdeal.τ).loc Cert.SumXaIdeal.main_arg0)
      ∧ m' ((c.tc : Thread Cert.SumXaRefIdeal.nD Cert.SumXaRefIdeal.τ).loc Cert.SumXaRefIdeal.main_arg1) = m ((c.tc : Thread Cert.SumXaIdeal.nD Cert.SumXaIdeal.τ).loc Cert.SumXaIdeal.main_arg1)) →
    ∃ (v0 : (c : Dev Cert.SumXaIdeal.nD) → Buf (Elt Ideal) ((c.tc : Thread Cert.SumXaIdeal.nD Cert.SumXaIdeal.τ).loc Cert.SumXaIdeal.main_v3)) (v1 : (c : Dev Cert.SumXaIdeal.nD) → Buf (Elt Ideal) ((c.tc : Thread Cert.SumXaIdeal.nD Cert.SumXaIdeal.τ).loc Cert.SumXaIdeal.main_v5)) (v2 : (c : Dev Cert.SumXaIdeal.nD) → Buf (Elt Ideal) ((c.tc : Thread Cert.SumXaIdeal.nD Cert.SumXaIdeal.τ).loc Cert.SumXaIdeal.main_v7)) (v3 : (c : Dev Cert.SumXaIdeal.nD) → Buf (Elt Ideal) ((c.tc : Thread Cert.SumXaIdeal.nD Cert.SumXaIdeal.τ).loc Cert.SumXaIdeal.main_v9)),
      θ_run (Cert.SumXaIdeal.defs (F := Ideal)) (onTc (τ := Cert.SumXaIdeal.τ) (Cert.SumXaIdeal.main (F := Ideal))) ⟨m, fun _ => 0, g⟩ (fun r => ∀ c : Dev Cert.SumXaIdeal.nD,
          r.2.mem ((c.tc : Thread Cert.SumXaIdeal.nD Cert.SumXaIdeal.τ).loc Cert.SumXaIdeal.main_v3) = v0 c
          ∧ r.2.mem ((c.tc : Thread Cert.SumXaIdeal.nD Cert.SumXaIdeal.τ).loc Cert.SumXaIdeal.main_v5) = v1 c
          ∧ r.2.mem ((c.tc : Thread Cert.SumXaIdeal.nD Cert.SumXaIdeal.τ).loc Cert.SumXaIdeal.main_v7) = v2 c
          ∧ r.2.mem ((c.tc : Thread Cert.SumXaIdeal.nD Cert.SumXaIdeal.τ).loc Cert.SumXaIdeal.main_v9) = v3 c
          ∧ r.2.mem ((c.tc : Thread Cert.SumXaIdeal.nD Cert.SumXaIdeal.τ).loc Cert.SumXaIdeal.main_arg0) = m ((c.tc : Thread Cert.SumXaIdeal.nD Cert.SumXaIdeal.τ).loc Cert.SumXaIdeal.main_arg0)
          ∧ r.2.mem ((c.tc : Thread Cert.SumXaIdeal.nD Cert.SumXaIdeal.τ).loc Cert.SumXaIdeal.main_arg1) = m ((c.tc : Thread Cert.SumXaIdeal.nD Cert.SumXaIdeal.τ).loc Cert.SumXaIdeal.main_arg1))
      ∧ θ_run (Cert.SumXaRefIdeal.defs (F := Ideal)) (onTc (τ := Cert.SumXaRefIdeal.τ) (Cert.SumXaRefIdeal.main (F := Ideal))) ⟨m', fun _ => 0, g'⟩ (fun r => ∀ c : Dev Cert.SumXaRefIdeal.nD,
          r.2.mem ((c.tc : Thread Cert.SumXaRefIdeal.nD Cert.SumXaRefIdeal.τ).loc Cert.SumXaRefIdeal.main_v3) = v0 c
          ∧ r.2.mem ((c.tc : Thread Cert.SumXaRefIdeal.nD Cert.SumXaRefIdeal.τ).loc Cert.SumXaRefIdeal.main_v5) = v1 c
          ∧ r.2.mem ((c.tc : Thread Cert.SumXaRefIdeal.nD Cert.SumXaRefIdeal.τ).loc Cert.SumXaRefIdeal.main_v7) = v2 c
          ∧ r.2.mem ((c.tc : Thread Cert.SumXaRefIdeal.nD Cert.SumXaRefIdeal.τ).loc Cert.SumXaRefIdeal.main_v9) = v3 c
          ∧ r.2.mem ((c.tc : Thread Cert.SumXaRefIdeal.nD Cert.SumXaRefIdeal.τ).loc Cert.SumXaRefIdeal.main_arg0) = m' ((c.tc : Thread Cert.SumXaRefIdeal.nD Cert.SumXaRefIdeal.τ).loc Cert.SumXaRefIdeal.main_arg0)
          ∧ r.2.mem ((c.tc : Thread Cert.SumXaRefIdeal.nD Cert.SumXaRefIdeal.τ).loc Cert.SumXaRefIdeal.main_arg1) = m' ((c.tc : Thread Cert.SumXaRefIdeal.nD Cert.SumXaRefIdeal.τ).loc Cert.SumXaRefIdeal.main_arg1))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v3)) (v1 : (c : Dev Cert.SumSmallIdeal.nD) → Buf (Elt Ideal) ((c.tc : Thread Cert.SumSmallIdeal.nD Cert.SumSmallIdeal.τ).loc Cert.SumSmallIdeal.main_v6)) (v2 : (c : Dev Cert.SumSmallIdeal.nD) → Buf (Elt Ideal) ((c.tc : Thread Cert.SumSmallIdeal.nD Cert.SumSmallIdeal.τ).loc Cert.SumSmallIdeal.main_v9)) (v3 : (c : Dev Cert.SumSmallIdeal.nD) → Buf (Elt Ideal) ((c.tc : Thread Cert.SumSmallIdeal.nD Cert.SumSmallIdeal.τ).loc Cert.SumSmallIdeal.main_v12)) (v4 : (c : Dev Cert.SumSmallIdeal.nD) → Buf (Elt Ideal) ((c.tc : Thread Cert.SumSmallIdeal.nD Cert.SumSmallIdeal.τ).loc Cert.SumSmallIdeal.main_v15)) (v5 : (c : Dev Cert.SumSmallIdeal.nD) → Buf (Elt Ideal) ((c.tc : Thread Cert.SumSmallIdeal.nD Cert.SumSmallIdeal.τ).loc Cert.SumSmallIdeal.main_v18)) (v6 : (c : Dev Cert.SumSmallIdeal.nD) → Buf (Elt Ideal) ((c.tc : Thread Cert.SumSmallIdeal.nD Cert.SumSmallIdeal.τ).loc Cert.SumSmallIdeal.main_v21)) (v7 : (c : Dev Cert.SumSmallIdeal.nD) → Buf (Elt Ideal) ((c.tc : Thread Cert.SumSmallIdeal.nD Cert.SumSmallIdeal.τ).loc Cert.SumSmallIdeal.main_v24)) (v8 : (c : Dev Cert.SumSmallIdeal.nD) → Buf (Elt Ideal) ((c.tc : Thread Cert.SumSmallIdeal.nD Cert.SumSmallIdeal.τ).loc Cert.SumSmallIdeal.main_v27)) (v9 : (c : Dev Cert.SumSmallIdeal.nD) → Buf (Elt Ideal) ((c.tc : Thread Cert.SumSmallIdeal.nD Cert.SumSmallIdeal.τ).loc Cert.SumSmallIdeal.main_v30)) (v10 : (c : Dev Cert.SumSmallIdeal.nD) → Buf (Elt Ideal) ((c.tc : Thread Cert.SumSmallIdeal.nD Cert.SumSmallIdeal.τ).loc Cert.SumSmallIdeal.main_v33)) (v11 : (c : Dev Cert.SumSmallIdeal.nD) → Buf (Elt Ideal) ((c.tc : Thread Cert.SumSmallIdeal.nD Cert.SumSmallIdeal.τ).loc Cert.SumSmallIdeal.main_v36)) (v12 : (c : Dev Cert.SumSmallIdeal.nD) → Buf (Elt Ideal) ((c.tc : Thread Cert.SumSmallIdeal.nD Cert.SumSmallIdeal.τ).loc Cert.SumSmallIdeal.main_v39)) (v13 : (c : Dev Cert.SumSmallIdeal.nD) → Buf (Elt Ideal) ((c.tc : Thread Cert.SumSmallIdeal.nD Cert.SumSmallIdeal.τ).loc Cert.SumSmallIdeal.main_v42)) (v14 : (c : Dev Cert.SumSmallIdeal.nD) → Buf (Elt Ideal) ((c.tc : Thread Cert.SumSmallIdeal.nD Cert.SumSmallIdeal.τ).loc Cert.SumSmallIdeal.main_v45)) (v15 : (c : Dev Cert.SumSmallIdeal.nD) → Buf (Elt Ideal) ((c.tc : Thread Cert.SumSmallIdeal.nD Cert.SumSmallIdeal.τ).loc Cert.SumSmallIdeal.main_v48)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v3) = v0 c
          ∧ r.2.mem ((c.tc : Thread Cert.SumSmallIdeal.nD Cert.SumSmallIdeal.τ).loc Cert.SumSmallIdeal.main_v6) = v1 c
          ∧ r.2.mem ((c.tc : Thread Cert.SumSmallIdeal.nD Cert.SumSmallIdeal.τ).loc Cert.SumSmallIdeal.main_v9) = v2 c
          ∧ r.2.mem ((c.tc : Thread Cert.SumSmallIdeal.nD Cert.SumSmallIdeal.τ).loc Cert.SumSmallIdeal.main_v12) = v3 c
          ∧ r.2.mem ((c.tc : Thread Cert.SumSmallIdeal.nD Cert.SumSmallIdeal.τ).loc Cert.SumSmallIdeal.main_v15) = v4 c
          ∧ r.2.mem ((c.tc : Thread Cert.SumSmallIdeal.nD Cert.SumSmallIdeal.τ).loc Cert.SumSmallIdeal.main_v18) = v5 c
          ∧ r.2.mem ((c.tc : Thread Cert.SumSmallIdeal.nD Cert.SumSmallIdeal.τ).loc Cert.SumSmallIdeal.main_v21) = v6 c
          ∧ r.2.mem ((c.tc : Thread Cert.SumSmallIdeal.nD Cert.SumSmallIdeal.τ).loc Cert.SumSmallIdeal.main_v24) = v7 c
          ∧ r.2.mem ((c.tc : Thread Cert.SumSmallIdeal.nD Cert.SumSmallIdeal.τ).loc Cert.SumSmallIdeal.main_v27) = v8 c
          ∧ r.2.mem ((c.tc : Thread Cert.SumSmallIdeal.nD Cert.SumSmallIdeal.τ).loc Cert.SumSmallIdeal.main_v30) = v9 c
          ∧ r.2.mem ((c.tc : Thread Cert.SumSmallIdeal.nD Cert.SumSmallIdeal.τ).loc Cert.SumSmallIdeal.main_v33) = v10 c
          ∧ r.2.mem ((c.tc : Thread Cert.SumSmallIdeal.nD Cert.SumSmallIdeal.τ).loc Cert.SumSmallIdeal.main_v36) = v11 c
          ∧ r.2.mem ((c.tc : Thread Cert.SumSmallIdeal.nD Cert.SumSmallIdeal.τ).loc Cert.SumSmallIdeal.main_v39) = v12 c
          ∧ r.2.mem ((c.tc : Thread Cert.SumSmallIdeal.nD Cert.SumSmallIdeal.τ).loc Cert.SumSmallIdeal.main_v42) = v13 c
          ∧ r.2.mem ((c.tc : Thread Cert.SumSmallIdeal.nD Cert.SumSmallIdeal.τ).loc Cert.SumSmallIdeal.main_v45) = v14 c
          ∧ r.2.mem ((c.tc : Thread Cert.SumSmallIdeal.nD Cert.SumSmallIdeal.τ).loc Cert.SumSmallIdeal.main_v48) = v15 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v3) = v0 c
          ∧ r.2.mem ((c.tc : Thread Cert.SumSmallRefIdeal.nD Cert.SumSmallRefIdeal.τ).loc Cert.SumSmallRefIdeal.main_v6) = v1 c
          ∧ r.2.mem ((c.tc : Thread Cert.SumSmallRefIdeal.nD Cert.SumSmallRefIdeal.τ).loc Cert.SumSmallRefIdeal.main_v9) = v2 c
          ∧ r.2.mem ((c.tc : Thread Cert.SumSmallRefIdeal.nD Cert.SumSmallRefIdeal.τ).loc Cert.SumSmallRefIdeal.main_v12) = v3 c
          ∧ r.2.mem ((c.tc : Thread Cert.SumSmallRefIdeal.nD Cert.SumSmallRefIdeal.τ).loc Cert.SumSmallRefIdeal.main_v15) = v4 c
          ∧ r.2.mem ((c.tc : Thread Cert.SumSmallRefIdeal.nD Cert.SumSmallRefIdeal.τ).loc Cert.SumSmallRefIdeal.main_v18) = v5 c
          ∧ r.2.mem ((c.tc : Thread Cert.SumSmallRefIdeal.nD Cert.SumSmallRefIdeal.τ).loc Cert.SumSmallRefIdeal.main_v21) = v6 c
          ∧ r.2.mem ((c.tc : Thread Cert.SumSmallRefIdeal.nD Cert.SumSmallRefIdeal.τ).loc Cert.SumSmallRefIdeal.main_v24) = v7 c
          ∧ r.2.mem ((c.tc : Thread Cert.SumSmallRefIdeal.nD Cert.SumSmallRefIdeal.τ).loc Cert.SumSmallRefIdeal.main_v27) = v8 c
          ∧ r.2.mem ((c.tc : Thread Cert.SumSmallRefIdeal.nD Cert.SumSmallRefIdeal.τ).loc Cert.SumSmallRefIdeal.main_v30) = v9 c
          ∧ r.2.mem ((c.tc : Thread Cert.SumSmallRefIdeal.nD Cert.SumSmallRefIdeal.τ).loc Cert.SumSmallRefIdeal.main_v33) = v10 c
          ∧ r.2.mem ((c.tc : Thread Cert.SumSmallRefIdeal.nD Cert.SumSmallRefIdeal.τ).loc Cert.SumSmallRefIdeal.main_v36) = v11 c
          ∧ r.2.mem ((c.tc : Thread Cert.SumSmallRefIdeal.nD Cert.SumSmallRefIdeal.τ).loc Cert.SumSmallRefIdeal.main_v39) = v12 c
          ∧ r.2.mem ((c.tc : Thread Cert.SumSmallRefIdeal.nD Cert.SumSmallRefIdeal.τ).loc Cert.SumSmallRefIdeal.main_v42) = v13 c
          ∧ r.2.mem ((c.tc : Thread Cert.SumSmallRefIdeal.nD Cert.SumSmallRefIdeal.τ).loc Cert.SumSmallRefIdeal.main_v45) = v14 c
          ∧ r.2.mem ((c.tc : Thread Cert.SumSmallRefIdeal.nD Cert.SumSmallRefIdeal.τ).loc Cert.SumSmallRefIdeal.main_v48) = v15 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_Attend_AttendIdeal : Prop :=
  True

def algebraic_AttendIdeal_AttendRefIdeal [hAttendIdeal : Cert.AttendIdeal.Facts] [hAttendRefIdeal : Cert.AttendRefIdeal.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendRefIdeal.nD Cert.AttendRefIdeal.τ Cert.AttendRefIdeal.sig) → Buf (Elt Ideal) ℓ) (g' : Dev Cert.AttendRefIdeal.nD → PrngReg), Pre_AttendIdeal m →
    (∀ c : Dev Cert.AttendIdeal.nD,
      m' ((c.tc : Thread Cert.AttendRefIdeal.nD Cert.AttendRefIdeal.τ).loc Cert.AttendRefIdeal.main_arg0) = m ((c.tc : Thread Cert.AttendIdeal.nD Cert.AttendIdeal.τ).loc Cert.AttendIdeal.main_arg0)
      ∧ m' ((c.tc : Thread Cert.AttendRefIdeal.nD Cert.AttendRefIdeal.τ).loc Cert.AttendRefIdeal.main_arg1) = m ((c.tc : Thread Cert.AttendIdeal.nD Cert.AttendIdeal.τ).loc Cert.AttendIdeal.main_arg1)
      ∧ m' ((c.tc : Thread Cert.AttendRefIdeal.nD Cert.AttendRefIdeal.τ).loc Cert.AttendRefIdeal.main_arg2) = m ((c.tc : Thread Cert.AttendIdeal.nD Cert.AttendIdeal.τ).loc Cert.AttendIdeal.main_arg2)) →
    ∃ (v0 : (c : Dev Cert.AttendIdeal.nD) → Buf (Elt Ideal) ((c.tc : Thread Cert.AttendIdeal.nD Cert.AttendIdeal.τ).loc Cert.AttendIdeal.main_v0)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v0) = v0 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0)
          ∧ r.2.mem ((c.tc : Thread Cert.AttendIdeal.nD Cert.AttendIdeal.τ).loc Cert.AttendIdeal.main_arg1) = m ((c.tc : Thread Cert.AttendIdeal.nD Cert.AttendIdeal.τ).loc Cert.AttendIdeal.main_arg1)
          ∧ r.2.mem ((c.tc : Thread Cert.AttendIdeal.nD Cert.AttendIdeal.τ).loc Cert.AttendIdeal.main_arg2) = m ((c.tc : Thread Cert.AttendIdeal.nD Cert.AttendIdeal.τ).loc Cert.AttendIdeal.main_arg2))
      ∧ θ_run (Cert.AttendRefIdeal.defs (F := Ideal)) (onTc (τ := Cert.AttendRefIdeal.τ) (Cert.AttendRefIdeal.main (F := Ideal))) ⟨m', fun _ => 0, g'⟩ (fun r => ∀ c : Dev Cert.AttendRefIdeal.nD,
          r.2.mem ((c.tc : Thread Cert.AttendRefIdeal.nD Cert.AttendRefIdeal.τ).loc Cert.AttendRefIdeal.main_v20) = v0 c
          ∧ r.2.mem ((c.tc : Thread Cert.AttendRefIdeal.nD Cert.AttendRefIdeal.τ).loc Cert.AttendRefIdeal.main_arg0) = m' ((c.tc : Thread Cert.AttendRefIdeal.nD Cert.AttendRefIdeal.τ).loc Cert.AttendRefIdeal.main_arg0)
          ∧ r.2.mem ((c.tc : Thread Cert.AttendRefIdeal.nD Cert.AttendRefIdeal.τ).loc Cert.AttendRefIdeal.main_arg1) = m' ((c.tc : Thread Cert.AttendRefIdeal.nD Cert.AttendRefIdeal.τ).loc Cert.AttendRefIdeal.main_arg1)
          ∧ r.2.mem ((c.tc : Thread Cert.AttendRefIdeal.nD Cert.AttendRefIdeal.τ).loc Cert.AttendRefIdeal.main_arg2) = m' ((c.tc : Thread Cert.AttendRefIdeal.nD Cert.AttendRefIdeal.τ).loc Cert.AttendRefIdeal.main_arg2))

def preserves_AttendBack_AttendBackIdeal : Prop :=
  True

def algebraic_AttendBackIdeal_AttendBackRefIdeal_pre_finite_attend [hAttendBackIdeal : Cert.AttendBackIdeal.Facts] [hAttendBackRefIdeal : Cert.AttendBackRefIdeal.Facts] [hPre_finite_attend : Cert.Pre_finite_attend.Facts] : Prop :=
  ∀ (m : (ℓ : Loc Cert.AttendBackIdeal.nD Cert.AttendBackIdeal.τ Cert.AttendBackIdeal.sig) → Buf (Elt Ideal) ℓ) (g : Dev Cert.AttendBackIdeal.nD → PrngReg)
    (m' : (ℓ : Loc Cert.AttendBackRefIdeal.nD Cert.AttendBackRefIdeal.τ Cert.AttendBackRefIdeal.sig) → Buf (Elt Ideal) ℓ) (g' : Dev Cert.AttendBackRefIdeal.nD → PrngReg), Pre_AttendBackIdeal_finite_attend m →
    (∀ c : Dev Cert.AttendBackIdeal.nD,
      m' ((c.tc : Thread Cert.AttendBackRefIdeal.nD Cert.AttendBackRefIdeal.τ).loc Cert.AttendBackRefIdeal.main_arg0) = m ((c.tc : Thread Cert.AttendBackIdeal.nD Cert.AttendBackIdeal.τ).loc Cert.AttendBackIdeal.main_arg0)
      ∧ m' ((c.tc : Thread Cert.AttendBackRefIdeal.nD Cert.AttendBackRefIdeal.τ).loc Cert.AttendBackRefIdeal.main_arg1) = m ((c.tc : Thread Cert.AttendBackIdeal.nD Cert.AttendBackIdeal.τ).loc Cert.AttendBackIdeal.main_arg1)
      ∧ m' ((c.tc : Thread Cert.AttendBackRefIdeal.nD Cert.AttendBackRefIdeal.τ).loc Cert.AttendBackRefIdeal.main_arg2) = m ((c.tc : Thread Cert.AttendBackIdeal.nD Cert.AttendBackIdeal.τ).loc Cert.AttendBackIdeal.main_arg2)
      ∧ m' ((c.tc : Thread Cert.AttendBackRefIdeal.nD Cert.AttendBackRefIdeal.τ).loc Cert.AttendBackRefIdeal.main_arg3) = m ((c.tc : Thread Cert.AttendBackIdeal.nD Cert.AttendBackIdeal.τ).loc Cert.AttendBackIdeal.main_arg3)) →
    ∃ (v0 : (c : Dev Cert.AttendBackIdeal.nD) → Buf (Elt Ideal) ((c.tc : Thread Cert.AttendBackIdeal.nD Cert.AttendBackIdeal.τ).loc Cert.AttendBackIdeal.main_v0_0)) (v1 : (c : Dev Cert.AttendBackIdeal.nD) → Buf (Elt Ideal) ((c.tc : Thread Cert.AttendBackIdeal.nD Cert.AttendBackIdeal.τ).loc Cert.AttendBackIdeal.main_v0_1)) (v2 : (c : Dev Cert.AttendBackIdeal.nD) → Buf (Elt Ideal) ((c.tc : Thread Cert.AttendBackIdeal.nD Cert.AttendBackIdeal.τ).loc Cert.AttendBackIdeal.main_v0_2)),
      θ_run (Cert.AttendBackIdeal.defs (F := Ideal)) (onTc (τ := Cert.AttendBackIdeal.τ) (Cert.AttendBackIdeal.main (F := Ideal))) ⟨m, fun _ => 0, g⟩ (fun r => ∀ c : Dev Cert.AttendBackIdeal.nD,
          r.2.mem ((c.tc : Thread Cert.AttendBackIdeal.nD Cert.AttendBackIdeal.τ).loc Cert.AttendBackIdeal.main_v0_0) = v0 c
          ∧ r.2.mem ((c.tc : Thread Cert.AttendBackIdeal.nD Cert.AttendBackIdeal.τ).loc Cert.AttendBackIdeal.main_v0_1) = v1 c
          ∧ r.2.mem ((c.tc : Thread Cert.AttendBackIdeal.nD Cert.AttendBackIdeal.τ).loc Cert.AttendBackIdeal.main_v0_2) = v2 c
          ∧ r.2.mem ((c.tc : Thread Cert.AttendBackIdeal.nD Cert.AttendBackIdeal.τ).loc Cert.AttendBackIdeal.main_arg0) = m ((c.tc : Thread Cert.AttendBackIdeal.nD Cert.AttendBackIdeal.τ).loc Cert.AttendBackIdeal.main_arg0)
          ∧ r.2.mem ((c.tc : Thread Cert.AttendBackIdeal.nD Cert.AttendBackIdeal.τ).loc Cert.AttendBackIdeal.main_arg1) = m ((c.tc : Thread Cert.AttendBackIdeal.nD Cert.AttendBackIdeal.τ).loc Cert.AttendBackIdeal.main_arg1)
          ∧ r.2.mem ((c.tc : Thread Cert.AttendBackIdeal.nD Cert.AttendBackIdeal.τ).loc Cert.AttendBackIdeal.main_arg2) = m ((c.tc : Thread Cert.AttendBackIdeal.nD Cert.AttendBackIdeal.τ).loc Cert.AttendBackIdeal.main_arg2)
          ∧ r.2.mem ((c.tc : Thread Cert.AttendBackIdeal.nD Cert.AttendBackIdeal.τ).loc Cert.AttendBackIdeal.main_arg3) = m ((c.tc : Thread Cert.AttendBackIdeal.nD Cert.AttendBackIdeal.τ).loc Cert.AttendBackIdeal.main_arg3))
      ∧ θ_run (Cert.AttendBackRefIdeal.defs (F := Ideal)) (onTc (τ := Cert.AttendBackRefIdeal.τ) (Cert.AttendBackRefIdeal.main (F := Ideal))) ⟨m', fun _ => 0, g'⟩ (fun r => ∀ c : Dev Cert.AttendBackRefIdeal.nD,
          r.2.mem ((c.tc : Thread Cert.AttendBackRefIdeal.nD Cert.AttendBackRefIdeal.τ).loc Cert.AttendBackRefIdeal.main_v64) = v0 c
          ∧ r.2.mem ((c.tc : Thread Cert.AttendBackRefIdeal.nD Cert.AttendBackRefIdeal.τ).loc Cert.AttendBackRefIdeal.main_v62) = v1 c
          ∧ r.2.mem ((c.tc : Thread Cert.AttendBackRefIdeal.nD Cert.AttendBackRefIdeal.τ).loc Cert.AttendBackRefIdeal.main_v61) = v2 c
          ∧ r.2.mem ((c.tc : Thread Cert.AttendBackRefIdeal.nD Cert.AttendBackRefIdeal.τ).loc Cert.AttendBackRefIdeal.main_arg0) = m' ((c.tc : Thread Cert.AttendBackRefIdeal.nD Cert.AttendBackRefIdeal.τ).loc Cert.AttendBackRefIdeal.main_arg0)
          ∧ r.2.mem ((c.tc : Thread Cert.AttendBackRefIdeal.nD Cert.AttendBackRefIdeal.τ).loc Cert.AttendBackRefIdeal.main_arg1) = m' ((c.tc : Thread Cert.AttendBackRefIdeal.nD Cert.AttendBackRefIdeal.τ).loc Cert.AttendBackRefIdeal.main_arg1)
          ∧ r.2.mem ((c.tc : Thread Cert.AttendBackRefIdeal.nD Cert.AttendBackRefIdeal.τ).loc Cert.AttendBackRefIdeal.main_arg2) = m' ((c.tc : Thread Cert.AttendBackRefIdeal.nD Cert.AttendBackRefIdeal.τ).loc Cert.AttendBackRefIdeal.main_arg2)
          ∧ r.2.mem ((c.tc : Thread Cert.AttendBackRefIdeal.nD Cert.AttendBackRefIdeal.τ).loc Cert.AttendBackRefIdeal.main_arg3) = m' ((c.tc : Thread Cert.AttendBackRefIdeal.nD Cert.AttendBackRefIdeal.τ).loc Cert.AttendBackRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v17) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_MergeBack_MergeBackIdeal : Prop :=
  True

def algebraic_MergeBackIdeal_MergeBackRefIdeal [hMergeBackIdeal : Cert.MergeBackIdeal.Facts] [hMergeBackRefIdeal : Cert.MergeBackRefIdeal.Facts] : Prop :=
  ∀ (m : (ℓ : Loc Cert.MergeBackIdeal.nD Cert.MergeBackIdeal.τ Cert.MergeBackIdeal.sig) → Buf (Elt Ideal) ℓ) (g : Dev Cert.MergeBackIdeal.nD → PrngReg)
    (m' : (ℓ : Loc Cert.MergeBackRefIdeal.nD Cert.MergeBackRefIdeal.τ Cert.MergeBackRefIdeal.sig) → Buf (Elt Ideal) ℓ) (g' : Dev Cert.MergeBackRefIdeal.nD → PrngReg), Pre_MergeBackIdeal m →
    (∀ c : Dev Cert.MergeBackIdeal.nD,
      m' ((c.tc : Thread Cert.MergeBackRefIdeal.nD Cert.MergeBackRefIdeal.τ).loc Cert.MergeBackRefIdeal.main_arg0) = m ((c.tc : Thread Cert.MergeBackIdeal.nD Cert.MergeBackIdeal.τ).loc Cert.MergeBackIdeal.main_arg0)
      ∧ m' ((c.tc : Thread Cert.MergeBackRefIdeal.nD Cert.MergeBackRefIdeal.τ).loc Cert.MergeBackRefIdeal.main_arg1) = m ((c.tc : Thread Cert.MergeBackIdeal.nD Cert.MergeBackIdeal.τ).loc Cert.MergeBackIdeal.main_arg1)
      ∧ m' ((c.tc : Thread Cert.MergeBackRefIdeal.nD Cert.MergeBackRefIdeal.τ).loc Cert.MergeBackRefIdeal.main_arg2) = m ((c.tc : Thread Cert.MergeBackIdeal.nD Cert.MergeBackIdeal.τ).loc Cert.MergeBackIdeal.main_arg2)
      ∧ m' ((c.tc : Thread Cert.MergeBackRefIdeal.nD Cert.MergeBackRefIdeal.τ).loc Cert.MergeBackRefIdeal.main_arg3) = m ((c.tc : Thread Cert.MergeBackIdeal.nD Cert.MergeBackIdeal.τ).loc Cert.MergeBackIdeal.main_arg3)) →
    ∃ (v0 : (c : Dev Cert.MergeBackIdeal.nD) → Buf (Elt Ideal) ((c.tc : Thread Cert.MergeBackIdeal.nD Cert.MergeBackIdeal.τ).loc Cert.MergeBackIdeal.main_v0_0)) (v1 : (c : Dev Cert.MergeBackIdeal.nD) → Buf (Elt Ideal) ((c.tc : Thread Cert.MergeBackIdeal.nD Cert.MergeBackIdeal.τ).loc Cert.MergeBackIdeal.main_v0_1)) (v2 : (c : Dev Cert.MergeBackIdeal.nD) → Buf (Elt Ideal) ((c.tc : Thread Cert.MergeBackIdeal.nD Cert.MergeBackIdeal.τ).loc Cert.MergeBackIdeal.main_v0_2)),
      θ_run (Cert.MergeBackIdeal.defs (F := Ideal)) (onTc (τ := Cert.MergeBackIdeal.τ) (Cert.MergeBackIdeal.main (F := Ideal))) ⟨m, fun _ => 0, g⟩ (fun r => ∀ c : Dev Cert.MergeBackIdeal.nD,
          r.2.mem ((c.tc : Thread Cert.MergeBackIdeal.nD Cert.MergeBackIdeal.τ).loc Cert.MergeBackIdeal.main_v0_0) = v0 c
          ∧ r.2.mem ((c.tc : Thread Cert.MergeBackIdeal.nD Cert.MergeBackIdeal.τ).loc Cert.MergeBackIdeal.main_v0_1) = v1 c
          ∧ r.2.mem ((c.tc : Thread Cert.MergeBackIdeal.nD Cert.MergeBackIdeal.τ).loc Cert.MergeBackIdeal.main_v0_2) = v2 c
          ∧ r.2.mem ((c.tc : Thread Cert.MergeBackIdeal.nD Cert.MergeBackIdeal.τ).loc Cert.MergeBackIdeal.main_arg0) = m ((c.tc : Thread Cert.MergeBackIdeal.nD Cert.MergeBackIdeal.τ).loc Cert.MergeBackIdeal.main_arg0)
          ∧ r.2.mem ((c.tc : Thread Cert.MergeBackIdeal.nD Cert.MergeBackIdeal.τ).loc Cert.MergeBackIdeal.main_arg1) = m ((c.tc : Thread Cert.MergeBackIdeal.nD Cert.MergeBackIdeal.τ).loc Cert.MergeBackIdeal.main_arg1)
          ∧ r.2.mem ((c.tc : Thread Cert.MergeBackIdeal.nD Cert.MergeBackIdeal.τ).loc Cert.MergeBackIdeal.main_arg2) = m ((c.tc : Thread Cert.MergeBackIdeal.nD Cert.MergeBackIdeal.τ).loc Cert.MergeBackIdeal.main_arg2)
          ∧ r.2.mem ((c.tc : Thread Cert.MergeBackIdeal.nD Cert.MergeBackIdeal.τ).loc Cert.MergeBackIdeal.main_arg3) = m ((c.tc : Thread Cert.MergeBackIdeal.nD Cert.MergeBackIdeal.τ).loc Cert.MergeBackIdeal.main_arg3))
      ∧ θ_run (Cert.MergeBackRefIdeal.defs (F := Ideal)) (onTc (τ := Cert.MergeBackRefIdeal.τ) (Cert.MergeBackRefIdeal.main (F := Ideal))) ⟨m', fun _ => 0, g'⟩ (fun r => ∀ c : Dev Cert.MergeBackRefIdeal.nD,
          r.2.mem ((c.tc : Thread Cert.MergeBackRefIdeal.nD Cert.MergeBackRefIdeal.τ).loc Cert.MergeBackRefIdeal.main_v31) = v0 c
          ∧ r.2.mem ((c.tc : Thread Cert.MergeBackRefIdeal.nD Cert.MergeBackRefIdeal.τ).loc Cert.MergeBackRefIdeal.main_v32) = v1 c
          ∧ r.2.mem ((c.tc : Thread Cert.MergeBackRefIdeal.nD Cert.MergeBackRefIdeal.τ).loc Cert.MergeBackRefIdeal.main_v34) = v2 c
          ∧ r.2.mem ((c.tc : Thread Cert.MergeBackRefIdeal.nD Cert.MergeBackRefIdeal.τ).loc Cert.MergeBackRefIdeal.main_arg0) = m' ((c.tc : Thread Cert.MergeBackRefIdeal.nD Cert.MergeBackRefIdeal.τ).loc Cert.MergeBackRefIdeal.main_arg0)
          ∧ r.2.mem ((c.tc : Thread Cert.MergeBackRefIdeal.nD Cert.MergeBackRefIdeal.τ).loc Cert.MergeBackRefIdeal.main_arg1) = m' ((c.tc : Thread Cert.MergeBackRefIdeal.nD Cert.MergeBackRefIdeal.τ).loc Cert.MergeBackRefIdeal.main_arg1)
          ∧ r.2.mem ((c.tc : Thread Cert.MergeBackRefIdeal.nD Cert.MergeBackRefIdeal.τ).loc Cert.MergeBackRefIdeal.main_arg2) = m' ((c.tc : Thread Cert.MergeBackRefIdeal.nD Cert.MergeBackRefIdeal.τ).loc Cert.MergeBackRefIdeal.main_arg2)
          ∧ r.2.mem ((c.tc : Thread Cert.MergeBackRefIdeal.nD Cert.MergeBackRefIdeal.τ).loc Cert.MergeBackRefIdeal.main_arg3) = m' ((c.tc : Thread Cert.MergeBackRefIdeal.nD Cert.MergeBackRefIdeal.τ).loc Cert.MergeBackRefIdeal.main_arg3))

def preserves_LnHalf_LnHalfIdeal : Prop :=
  True

def algebraic_LnHalfIdeal_LnHalfRefIdeal [hLnHalfIdeal : Cert.LnHalfIdeal.Facts] [hLnHalfRefIdeal : Cert.LnHalfRefIdeal.Facts] : Prop :=
  ∀ (m : (ℓ : Loc Cert.LnHalfIdeal.nD Cert.LnHalfIdeal.τ Cert.LnHalfIdeal.sig) → Buf (Elt Ideal) ℓ) (g : Dev Cert.LnHalfIdeal.nD → PrngReg)
    (m' : (ℓ : Loc Cert.LnHalfRefIdeal.nD Cert.LnHalfRefIdeal.τ Cert.LnHalfRefIdeal.sig) → Buf (Elt Ideal) ℓ) (g' : Dev Cert.LnHalfRefIdeal.nD → PrngReg), Pre_LnHalfIdeal m →
    (∀ c : Dev Cert.LnHalfIdeal.nD,
      m' ((c.tc : Thread Cert.LnHalfRefIdeal.nD Cert.LnHalfRefIdeal.τ).loc Cert.LnHalfRefIdeal.main_arg0) = m ((c.tc : Thread Cert.LnHalfIdeal.nD Cert.LnHalfIdeal.τ).loc Cert.LnHalfIdeal.main_arg0)
      ∧ m' ((c.tc : Thread Cert.LnHalfRefIdeal.nD Cert.LnHalfRefIdeal.τ).loc Cert.LnHalfRefIdeal.main_arg1) = m ((c.tc : Thread Cert.LnHalfIdeal.nD Cert.LnHalfIdeal.τ).loc Cert.LnHalfIdeal.main_arg1)
      ∧ m' ((c.tc : Thread Cert.LnHalfRefIdeal.nD Cert.LnHalfRefIdeal.τ).loc Cert.LnHalfRefIdeal.main_arg2) = m ((c.tc : Thread Cert.LnHalfIdeal.nD Cert.LnHalfIdeal.τ).loc Cert.LnHalfIdeal.main_arg2)
      ∧ m' ((c.tc : Thread Cert.LnHalfRefIdeal.nD Cert.LnHalfRefIdeal.τ).loc Cert.LnHalfRefIdeal.main_arg3) = m ((c.tc : Thread Cert.LnHalfIdeal.nD Cert.LnHalfIdeal.τ).loc Cert.LnHalfIdeal.main_arg3)) →
    ∃ (v0 : (c : Dev Cert.LnHalfIdeal.nD) → Buf (Elt Ideal) ((c.tc : Thread Cert.LnHalfIdeal.nD Cert.LnHalfIdeal.τ).loc Cert.LnHalfIdeal.main_v0_0)) (v1 : (c : Dev Cert.LnHalfIdeal.nD) → Buf (Elt Ideal) ((c.tc : Thread Cert.LnHalfIdeal.nD Cert.LnHalfIdeal.τ).loc Cert.LnHalfIdeal.main_v0_1)) (v2 : (c : Dev Cert.LnHalfIdeal.nD) → Buf (Elt Ideal) ((c.tc : Thread Cert.LnHalfIdeal.nD Cert.LnHalfIdeal.τ).loc Cert.LnHalfIdeal.main_v0_2)),
      θ_run (Cert.LnHalfIdeal.defs (F := Ideal)) (onTc (τ := Cert.LnHalfIdeal.τ) (Cert.LnHalfIdeal.main (F := Ideal))) ⟨m, fun _ => 0, g⟩ (fun r => ∀ c : Dev Cert.LnHalfIdeal.nD,
          r.2.mem ((c.tc : Thread Cert.LnHalfIdeal.nD Cert.LnHalfIdeal.τ).loc Cert.LnHalfIdeal.main_v0_0) = v0 c
          ∧ r.2.mem ((c.tc : Thread Cert.LnHalfIdeal.nD Cert.LnHalfIdeal.τ).loc Cert.LnHalfIdeal.main_v0_1) = v1 c
          ∧ r.2.mem ((c.tc : Thread Cert.LnHalfIdeal.nD Cert.LnHalfIdeal.τ).loc Cert.LnHalfIdeal.main_v0_2) = v2 c
          ∧ r.2.mem ((c.tc : Thread Cert.LnHalfIdeal.nD Cert.LnHalfIdeal.τ).loc Cert.LnHalfIdeal.main_arg0) = m ((c.tc : Thread Cert.LnHalfIdeal.nD Cert.LnHalfIdeal.τ).loc Cert.LnHalfIdeal.main_arg0)
          ∧ r.2.mem ((c.tc : Thread Cert.LnHalfIdeal.nD Cert.LnHalfIdeal.τ).loc Cert.LnHalfIdeal.main_arg1) = m ((c.tc : Thread Cert.LnHalfIdeal.nD Cert.LnHalfIdeal.τ).loc Cert.LnHalfIdeal.main_arg1)
          ∧ r.2.mem ((c.tc : Thread Cert.LnHalfIdeal.nD Cert.LnHalfIdeal.τ).loc Cert.LnHalfIdeal.main_arg2) = m ((c.tc : Thread Cert.LnHalfIdeal.nD Cert.LnHalfIdeal.τ).loc Cert.LnHalfIdeal.main_arg2)
          ∧ r.2.mem ((c.tc : Thread Cert.LnHalfIdeal.nD Cert.LnHalfIdeal.τ).loc Cert.LnHalfIdeal.main_arg3) = m ((c.tc : Thread Cert.LnHalfIdeal.nD Cert.LnHalfIdeal.τ).loc Cert.LnHalfIdeal.main_arg3))
      ∧ θ_run (Cert.LnHalfRefIdeal.defs (F := Ideal)) (onTc (τ := Cert.LnHalfRefIdeal.τ) (Cert.LnHalfRefIdeal.main (F := Ideal))) ⟨m', fun _ => 0, g'⟩ (fun r => ∀ c : Dev Cert.LnHalfRefIdeal.nD,
          r.2.mem ((c.tc : Thread Cert.LnHalfRefIdeal.nD Cert.LnHalfRefIdeal.τ).loc Cert.LnHalfRefIdeal.main_v26) = v0 c
          ∧ r.2.mem ((c.tc : Thread Cert.LnHalfRefIdeal.nD Cert.LnHalfRefIdeal.τ).loc Cert.LnHalfRefIdeal.main_v4) = v1 c
          ∧ r.2.mem ((c.tc : Thread Cert.LnHalfRefIdeal.nD Cert.LnHalfRefIdeal.τ).loc Cert.LnHalfRefIdeal.main_v27) = v2 c
          ∧ r.2.mem ((c.tc : Thread Cert.LnHalfRefIdeal.nD Cert.LnHalfRefIdeal.τ).loc Cert.LnHalfRefIdeal.main_arg0) = m' ((c.tc : Thread Cert.LnHalfRefIdeal.nD Cert.LnHalfRefIdeal.τ).loc Cert.LnHalfRefIdeal.main_arg0)
          ∧ r.2.mem ((c.tc : Thread Cert.LnHalfRefIdeal.nD Cert.LnHalfRefIdeal.τ).loc Cert.LnHalfRefIdeal.main_arg1) = m' ((c.tc : Thread Cert.LnHalfRefIdeal.nD Cert.LnHalfRefIdeal.τ).loc Cert.LnHalfRefIdeal.main_arg1)
          ∧ r.2.mem ((c.tc : Thread Cert.LnHalfRefIdeal.nD Cert.LnHalfRefIdeal.τ).loc Cert.LnHalfRefIdeal.main_arg2) = m' ((c.tc : Thread Cert.LnHalfRefIdeal.nD Cert.LnHalfRefIdeal.τ).loc Cert.LnHalfRefIdeal.main_arg2)
          ∧ r.2.mem ((c.tc : Thread Cert.LnHalfRefIdeal.nD Cert.LnHalfRefIdeal.τ).loc Cert.LnHalfRefIdeal.main_arg3) = m' ((c.tc : Thread Cert.LnHalfRefIdeal.nD Cert.LnHalfRefIdeal.τ).loc Cert.LnHalfRefIdeal.main_arg3))

def preserves_Ln_LnIdeal : Prop :=
  True

def algebraic_LnIdeal_LnRefIdeal [hLnIdeal : Cert.LnIdeal.Facts] [hLnRefIdeal : Cert.LnRefIdeal.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)) →
    ∃ (v0 : (c : Dev Cert.LnIdeal.nD) → Buf (Elt Ideal) ((c.tc : Thread Cert.LnIdeal.nD Cert.LnIdeal.τ).loc Cert.LnIdeal.main_v0_0)) (v1 : (c : Dev Cert.LnIdeal.nD) → Buf (Elt Ideal) ((c.tc : Thread Cert.LnIdeal.nD Cert.LnIdeal.τ).loc Cert.LnIdeal.main_v0_1)) (v2 : (c : Dev Cert.LnIdeal.nD) → Buf (Elt Ideal) ((c.tc : Thread Cert.LnIdeal.nD Cert.LnIdeal.τ).loc Cert.LnIdeal.main_v0_2)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v0_0) = v0 c
          ∧ r.2.mem ((c.tc : Thread Cert.LnIdeal.nD Cert.LnIdeal.τ).loc Cert.LnIdeal.main_v0_1) = v1 c
          ∧ r.2.mem ((c.tc : Thread Cert.LnIdeal.nD Cert.LnIdeal.τ).loc Cert.LnIdeal.main_v0_2) = v2 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v24) = v0 c
          ∧ r.2.mem ((c.tc : Thread Cert.LnRefIdeal.nD Cert.LnRefIdeal.τ).loc Cert.LnRefIdeal.main_v2) = v1 c
          ∧ r.2.mem ((c.tc : Thread Cert.LnRefIdeal.nD Cert.LnRefIdeal.τ).loc Cert.LnRefIdeal.main_v25) = v2 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3))

def preserves_LnBack_LnBackIdeal : Prop :=
  True

def algebraic_LnBackIdeal_LnBackRefIdeal_pre_finite_ln [hLnBackIdeal : Cert.LnBackIdeal.Facts] [hLnBackRefIdeal : Cert.LnBackRefIdeal.Facts] [hPre_finite_ln : Cert.Pre_finite_ln.Facts] : Prop :=
  ∀ (m : (ℓ : Loc Cert.LnBackIdeal.nD Cert.LnBackIdeal.τ Cert.LnBackIdeal.sig) → Buf (Elt Ideal) ℓ) (g : Dev Cert.LnBackIdeal.nD → PrngReg)
    (m' : (ℓ : Loc Cert.LnBackRefIdeal.nD Cert.LnBackRefIdeal.τ Cert.LnBackRefIdeal.sig) → Buf (Elt Ideal) ℓ) (g' : Dev Cert.LnBackRefIdeal.nD → PrngReg), Pre_LnBackIdeal_finite_ln m →
    (∀ c : Dev Cert.LnBackIdeal.nD,
      m' ((c.tc : Thread Cert.LnBackRefIdeal.nD Cert.LnBackRefIdeal.τ).loc Cert.LnBackRefIdeal.main_arg0) = m ((c.tc : Thread Cert.LnBackIdeal.nD Cert.LnBackIdeal.τ).loc Cert.LnBackIdeal.main_arg0)
      ∧ m' ((c.tc : Thread Cert.LnBackRefIdeal.nD Cert.LnBackRefIdeal.τ).loc Cert.LnBackRefIdeal.main_arg1) = m ((c.tc : Thread Cert.LnBackIdeal.nD Cert.LnBackIdeal.τ).loc Cert.LnBackIdeal.main_arg1)
      ∧ m' ((c.tc : Thread Cert.LnBackRefIdeal.nD Cert.LnBackRefIdeal.τ).loc Cert.LnBackRefIdeal.main_arg2) = m ((c.tc : Thread Cert.LnBackIdeal.nD Cert.LnBackIdeal.τ).loc Cert.LnBackIdeal.main_arg2)
      ∧ m' ((c.tc : Thread Cert.LnBackRefIdeal.nD Cert.LnBackRefIdeal.τ).loc Cert.LnBackRefIdeal.main_arg3) = m ((c.tc : Thread Cert.LnBackIdeal.nD Cert.LnBackIdeal.τ).loc Cert.LnBackIdeal.main_arg3)) →
    ∃ (v0 : (c : Dev Cert.LnBackIdeal.nD) → Buf (Elt Ideal) ((c.tc : Thread Cert.LnBackIdeal.nD Cert.LnBackIdeal.τ).loc Cert.LnBackIdeal.main_v0_0)) (v1 : (c : Dev Cert.LnBackIdeal.nD) → Buf (Elt Ideal) ((c.tc : Thread Cert.LnBackIdeal.nD Cert.LnBackIdeal.τ).loc Cert.LnBackIdeal.main_v0_1)) (v2 : (c : Dev Cert.LnBackIdeal.nD) → Buf (Elt Ideal) ((c.tc : Thread Cert.LnBackIdeal.nD Cert.LnBackIdeal.τ).loc Cert.LnBackIdeal.main_v0_2)),
      θ_run (Cert.LnBackIdeal.defs (F := Ideal)) (onTc (τ := Cert.LnBackIdeal.τ) (Cert.LnBackIdeal.main (F := Ideal))) ⟨m, fun _ => 0, g⟩ (fun r => ∀ c : Dev Cert.LnBackIdeal.nD,
          r.2.mem ((c.tc : Thread Cert.LnBackIdeal.nD Cert.LnBackIdeal.τ).loc Cert.LnBackIdeal.main_v0_0) = v0 c
          ∧ r.2.mem ((c.tc : Thread Cert.LnBackIdeal.nD Cert.LnBackIdeal.τ).loc Cert.LnBackIdeal.main_v0_1) = v1 c
          ∧ r.2.mem ((c.tc : Thread Cert.LnBackIdeal.nD Cert.LnBackIdeal.τ).loc Cert.LnBackIdeal.main_v0_2) = v2 c
          ∧ r.2.mem ((c.tc : Thread Cert.LnBackIdeal.nD Cert.LnBackIdeal.τ).loc Cert.LnBackIdeal.main_arg0) = m ((c.tc : Thread Cert.LnBackIdeal.nD Cert.LnBackIdeal.τ).loc Cert.LnBackIdeal.main_arg0)
          ∧ r.2.mem ((c.tc : Thread Cert.LnBackIdeal.nD Cert.LnBackIdeal.τ).loc Cert.LnBackIdeal.main_arg1) = m ((c.tc : Thread Cert.LnBackIdeal.nD Cert.LnBackIdeal.τ).loc Cert.LnBackIdeal.main_arg1)
          ∧ r.2.mem ((c.tc : Thread Cert.LnBackIdeal.nD Cert.LnBackIdeal.τ).loc Cert.LnBackIdeal.main_arg2) = m ((c.tc : Thread Cert.LnBackIdeal.nD Cert.LnBackIdeal.τ).loc Cert.LnBackIdeal.main_arg2)
          ∧ r.2.mem ((c.tc : Thread Cert.LnBackIdeal.nD Cert.LnBackIdeal.τ).loc Cert.LnBackIdeal.main_arg3) = m ((c.tc : Thread Cert.LnBackIdeal.nD Cert.LnBackIdeal.τ).loc Cert.LnBackIdeal.main_arg3))
      ∧ θ_run (Cert.LnBackRefIdeal.defs (F := Ideal)) (onTc (τ := Cert.LnBackRefIdeal.τ) (Cert.LnBackRefIdeal.main (F := Ideal))) ⟨m', fun _ => 0, g'⟩ (fun r => ∀ c : Dev Cert.LnBackRefIdeal.nD,
          r.2.mem ((c.tc : Thread Cert.LnBackRefIdeal.nD Cert.LnBackRefIdeal.τ).loc Cert.LnBackRefIdeal.main_v61) = v0 c
          ∧ r.2.mem ((c.tc : Thread Cert.LnBackRefIdeal.nD Cert.LnBackRefIdeal.τ).loc Cert.LnBackRefIdeal.main_v35) = v1 c
          ∧ r.2.mem ((c.tc : Thread Cert.LnBackRefIdeal.nD Cert.LnBackRefIdeal.τ).loc Cert.LnBackRefIdeal.main_v32) = v2 c
          ∧ r.2.mem ((c.tc : Thread Cert.LnBackRefIdeal.nD Cert.LnBackRefIdeal.τ).loc Cert.LnBackRefIdeal.main_arg0) = m' ((c.tc : Thread Cert.LnBackRefIdeal.nD Cert.LnBackRefIdeal.τ).loc Cert.LnBackRefIdeal.main_arg0)
          ∧ r.2.mem ((c.tc : Thread Cert.LnBackRefIdeal.nD Cert.LnBackRefIdeal.τ).loc Cert.LnBackRefIdeal.main_arg1) = m' ((c.tc : Thread Cert.LnBackRefIdeal.nD Cert.LnBackRefIdeal.τ).loc Cert.LnBackRefIdeal.main_arg1)
          ∧ r.2.mem ((c.tc : Thread Cert.LnBackRefIdeal.nD Cert.LnBackRefIdeal.τ).loc Cert.LnBackRefIdeal.main_arg2) = m' ((c.tc : Thread Cert.LnBackRefIdeal.nD Cert.LnBackRefIdeal.τ).loc Cert.LnBackRefIdeal.main_arg2)
          ∧ r.2.mem ((c.tc : Thread Cert.LnBackRefIdeal.nD Cert.LnBackRefIdeal.τ).loc Cert.LnBackRefIdeal.main_arg3) = m' ((c.tc : Thread Cert.LnBackRefIdeal.nD Cert.LnBackRefIdeal.τ).loc Cert.LnBackRefIdeal.main_arg3))

def preserves_LnLast_LnLastIdeal : Prop :=
  True

def algebraic_LnLastIdeal_LnLastRefIdeal_pre_finite_last [hLnLastIdeal : Cert.LnLastIdeal.Facts] [hLnLastRefIdeal : Cert.LnLastRefIdeal.Facts] [hPre_finite_last : Cert.Pre_finite_last.Facts] : Prop :=
  ∀ (m : (ℓ : Loc Cert.LnLastIdeal.nD Cert.LnLastIdeal.τ Cert.LnLastIdeal.sig) → Buf (Elt Ideal) ℓ) (g : Dev Cert.LnLastIdeal.nD → PrngReg)
    (m' : (ℓ : Loc Cert.LnLastRefIdeal.nD Cert.LnLastRefIdeal.τ Cert.LnLastRefIdeal.sig) → Buf (Elt Ideal) ℓ) (g' : Dev Cert.LnLastRefIdeal.nD → PrngReg), Pre_LnLastIdeal_finite_last m →
    (∀ c : Dev Cert.LnLastIdeal.nD,
      m' ((c.tc : Thread Cert.LnLastRefIdeal.nD Cert.LnLastRefIdeal.τ).loc Cert.LnLastRefIdeal.main_arg0) = m ((c.tc : Thread Cert.LnLastIdeal.nD Cert.LnLastIdeal.τ).loc Cert.LnLastIdeal.main_arg0)
      ∧ m' ((c.tc : Thread Cert.LnLastRefIdeal.nD Cert.LnLastRefIdeal.τ).loc Cert.LnLastRefIdeal.main_arg1) = m ((c.tc : Thread Cert.LnLastIdeal.nD Cert.LnLastIdeal.τ).loc Cert.LnLastIdeal.main_arg1)
      ∧ m' ((c.tc : Thread Cert.LnLastRefIdeal.nD Cert.LnLastRefIdeal.τ).loc Cert.LnLastRefIdeal.main_arg2) = m ((c.tc : Thread Cert.LnLastIdeal.nD Cert.LnLastIdeal.τ).loc Cert.LnLastIdeal.main_arg2)) →
    ∃ (v0 : (c : Dev Cert.LnLastIdeal.nD) → Buf (Elt Ideal) ((c.tc : Thread Cert.LnLastIdeal.nD Cert.LnLastIdeal.τ).loc Cert.LnLastIdeal.main_v0_0)) (v1 : (c : Dev Cert.LnLastIdeal.nD) → Buf (Elt Ideal) ((c.tc : Thread Cert.LnLastIdeal.nD Cert.LnLastIdeal.τ).loc Cert.LnLastIdeal.main_v0_1)) (v2 : (c : Dev Cert.LnLastIdeal.nD) → Buf (Elt Ideal) ((c.tc : Thread Cert.LnLastIdeal.nD Cert.LnLastIdeal.τ).loc Cert.LnLastIdeal.main_v0_2)),
      θ_run (Cert.LnLastIdeal.defs (F := Ideal)) (onTc (τ := Cert.LnLastIdeal.τ) (Cert.LnLastIdeal.main (F := Ideal))) ⟨m, fun _ => 0, g⟩ (fun r => ∀ c : Dev Cert.LnLastIdeal.nD,
          r.2.mem ((c.tc : Thread Cert.LnLastIdeal.nD Cert.LnLastIdeal.τ).loc Cert.LnLastIdeal.main_v0_0) = v0 c
          ∧ r.2.mem ((c.tc : Thread Cert.LnLastIdeal.nD Cert.LnLastIdeal.τ).loc Cert.LnLastIdeal.main_v0_1) = v1 c
          ∧ r.2.mem ((c.tc : Thread Cert.LnLastIdeal.nD Cert.LnLastIdeal.τ).loc Cert.LnLastIdeal.main_v0_2) = v2 c
          ∧ r.2.mem ((c.tc : Thread Cert.LnLastIdeal.nD Cert.LnLastIdeal.τ).loc Cert.LnLastIdeal.main_arg0) = m ((c.tc : Thread Cert.LnLastIdeal.nD Cert.LnLastIdeal.τ).loc Cert.LnLastIdeal.main_arg0)
          ∧ r.2.mem ((c.tc : Thread Cert.LnLastIdeal.nD Cert.LnLastIdeal.τ).loc Cert.LnLastIdeal.main_arg1) = m ((c.tc : Thread Cert.LnLastIdeal.nD Cert.LnLastIdeal.τ).loc Cert.LnLastIdeal.main_arg1)
          ∧ r.2.mem ((c.tc : Thread Cert.LnLastIdeal.nD Cert.LnLastIdeal.τ).loc Cert.LnLastIdeal.main_arg2) = m ((c.tc : Thread Cert.LnLastIdeal.nD Cert.LnLastIdeal.τ).loc Cert.LnLastIdeal.main_arg2))
      ∧ θ_run (Cert.LnLastRefIdeal.defs (F := Ideal)) (onTc (τ := Cert.LnLastRefIdeal.τ) (Cert.LnLastRefIdeal.main (F := Ideal))) ⟨m', fun _ => 0, g'⟩ (fun r => ∀ c : Dev Cert.LnLastRefIdeal.nD,
          r.2.mem ((c.tc : Thread Cert.LnLastRefIdeal.nD Cert.LnLastRefIdeal.τ).loc Cert.LnLastRefIdeal.main_v59) = v0 c
          ∧ r.2.mem ((c.tc : Thread Cert.LnLastRefIdeal.nD Cert.LnLastRefIdeal.τ).loc Cert.LnLastRefIdeal.main_v33) = v1 c
          ∧ r.2.mem ((c.tc : Thread Cert.LnLastRefIdeal.nD Cert.LnLastRefIdeal.τ).loc Cert.LnLastRefIdeal.main_v30) = v2 c
          ∧ r.2.mem ((c.tc : Thread Cert.LnLastRefIdeal.nD Cert.LnLastRefIdeal.τ).loc Cert.LnLastRefIdeal.main_arg0) = m' ((c.tc : Thread Cert.LnLastRefIdeal.nD Cert.LnLastRefIdeal.τ).loc Cert.LnLastRefIdeal.main_arg0)
          ∧ r.2.mem ((c.tc : Thread Cert.LnLastRefIdeal.nD Cert.LnLastRefIdeal.τ).loc Cert.LnLastRefIdeal.main_arg1) = m' ((c.tc : Thread Cert.LnLastRefIdeal.nD Cert.LnLastRefIdeal.τ).loc Cert.LnLastRefIdeal.main_arg1)
          ∧ r.2.mem ((c.tc : Thread Cert.LnLastRefIdeal.nD Cert.LnLastRefIdeal.τ).loc Cert.LnLastRefIdeal.main_arg2) = m' ((c.tc : Thread Cert.LnLastRefIdeal.nD Cert.LnLastRefIdeal.τ).loc Cert.LnLastRefIdeal.main_arg2))

def preserves_LnMem_LnMemIdeal : Prop :=
  True

def algebraic_LnMemIdeal_LnMemRefIdeal [hLnMemIdeal : Cert.LnMemIdeal.Facts] [hLnMemRefIdeal : Cert.LnMemRefIdeal.Facts] : Prop :=
  ∀ (m : (ℓ : Loc Cert.LnMemIdeal.nD Cert.LnMemIdeal.τ Cert.LnMemIdeal.sig) → Buf (Elt Ideal) ℓ) (g : Dev Cert.LnMemIdeal.nD → PrngReg)
    (m' : (ℓ : Loc Cert.LnMemRefIdeal.nD Cert.LnMemRefIdeal.τ Cert.LnMemRefIdeal.sig) → Buf (Elt Ideal) ℓ) (g' : Dev Cert.LnMemRefIdeal.nD → PrngReg), Pre_LnMemIdeal m →
    (∀ c : Dev Cert.LnMemIdeal.nD,
      m' ((c.tc : Thread Cert.LnMemRefIdeal.nD Cert.LnMemRefIdeal.τ).loc Cert.LnMemRefIdeal.main_arg0) = m ((c.tc : Thread Cert.LnMemIdeal.nD Cert.LnMemIdeal.τ).loc Cert.LnMemIdeal.main_arg0)
      ∧ m' ((c.tc : Thread Cert.LnMemRefIdeal.nD Cert.LnMemRefIdeal.τ).loc Cert.LnMemRefIdeal.main_arg1) = m ((c.tc : Thread Cert.LnMemIdeal.nD Cert.LnMemIdeal.τ).loc Cert.LnMemIdeal.main_arg1)
      ∧ m' ((c.tc : Thread Cert.LnMemRefIdeal.nD Cert.LnMemRefIdeal.τ).loc Cert.LnMemRefIdeal.main_arg2) = m ((c.tc : Thread Cert.LnMemIdeal.nD Cert.LnMemIdeal.τ).loc Cert.LnMemIdeal.main_arg2)) →
    ∃ (v0 : (c : Dev Cert.LnMemIdeal.nD) → Buf (Elt Ideal) ((c.tc : Thread Cert.LnMemIdeal.nD Cert.LnMemIdeal.τ).loc Cert.LnMemIdeal.main_v0_0)) (v1 : (c : Dev Cert.LnMemIdeal.nD) → Buf (Elt Ideal) ((c.tc : Thread Cert.LnMemIdeal.nD Cert.LnMemIdeal.τ).loc Cert.LnMemIdeal.main_v0_1)) (v2 : (c : Dev Cert.LnMemIdeal.nD) → Buf (Elt Ideal) ((c.tc : Thread Cert.LnMemIdeal.nD Cert.LnMemIdeal.τ).loc Cert.LnMemIdeal.main_v0_2)),
      θ_run (Cert.LnMemIdeal.defs (F := Ideal)) (onTc (τ := Cert.LnMemIdeal.τ) (Cert.LnMemIdeal.main (F := Ideal))) ⟨m, fun _ => 0, g⟩ (fun r => ∀ c : Dev Cert.LnMemIdeal.nD,
          r.2.mem ((c.tc : Thread Cert.LnMemIdeal.nD Cert.LnMemIdeal.τ).loc Cert.LnMemIdeal.main_v0_0) = v0 c
          ∧ r.2.mem ((c.tc : Thread Cert.LnMemIdeal.nD Cert.LnMemIdeal.τ).loc Cert.LnMemIdeal.main_v0_1) = v1 c
          ∧ r.2.mem ((c.tc : Thread Cert.LnMemIdeal.nD Cert.LnMemIdeal.τ).loc Cert.LnMemIdeal.main_v0_2) = v2 c
          ∧ r.2.mem ((c.tc : Thread Cert.LnMemIdeal.nD Cert.LnMemIdeal.τ).loc Cert.LnMemIdeal.main_arg0) = m ((c.tc : Thread Cert.LnMemIdeal.nD Cert.LnMemIdeal.τ).loc Cert.LnMemIdeal.main_arg0)
          ∧ r.2.mem ((c.tc : Thread Cert.LnMemIdeal.nD Cert.LnMemIdeal.τ).loc Cert.LnMemIdeal.main_arg1) = m ((c.tc : Thread Cert.LnMemIdeal.nD Cert.LnMemIdeal.τ).loc Cert.LnMemIdeal.main_arg1)
          ∧ r.2.mem ((c.tc : Thread Cert.LnMemIdeal.nD Cert.LnMemIdeal.τ).loc Cert.LnMemIdeal.main_arg2) = m ((c.tc : Thread Cert.LnMemIdeal.nD Cert.LnMemIdeal.τ).loc Cert.LnMemIdeal.main_arg2))
      ∧ θ_run (Cert.LnMemRefIdeal.defs (F := Ideal)) (onTc (τ := Cert.LnMemRefIdeal.τ) (Cert.LnMemRefIdeal.main (F := Ideal))) ⟨m', fun _ => 0, g'⟩ (fun r => ∀ c : Dev Cert.LnMemRefIdeal.nD,
          r.2.mem ((c.tc : Thread Cert.LnMemRefIdeal.nD Cert.LnMemRefIdeal.τ).loc Cert.LnMemRefIdeal.main_v21) = v0 c
          ∧ r.2.mem ((c.tc : Thread Cert.LnMemRefIdeal.nD Cert.LnMemRefIdeal.τ).loc Cert.LnMemRefIdeal.main_arg0) = v1 c
          ∧ r.2.mem ((c.tc : Thread Cert.LnMemRefIdeal.nD Cert.LnMemRefIdeal.τ).loc Cert.LnMemRefIdeal.main_v22) = v2 c
          ∧ r.2.mem ((c.tc : Thread Cert.LnMemRefIdeal.nD Cert.LnMemRefIdeal.τ).loc Cert.LnMemRefIdeal.main_arg0) = m' ((c.tc : Thread Cert.LnMemRefIdeal.nD Cert.LnMemRefIdeal.τ).loc Cert.LnMemRefIdeal.main_arg0)
          ∧ r.2.mem ((c.tc : Thread Cert.LnMemRefIdeal.nD Cert.LnMemRefIdeal.τ).loc Cert.LnMemRefIdeal.main_arg1) = m' ((c.tc : Thread Cert.LnMemRefIdeal.nD Cert.LnMemRefIdeal.τ).loc Cert.LnMemRefIdeal.main_arg1)
          ∧ r.2.mem ((c.tc : Thread Cert.LnMemRefIdeal.nD Cert.LnMemRefIdeal.τ).loc Cert.LnMemRefIdeal.main_arg2) = m' ((c.tc : Thread Cert.LnMemRefIdeal.nD Cert.LnMemRefIdeal.τ).loc Cert.LnMemRefIdeal.main_arg2))

def preserves_LnMemBack_LnMemBackIdeal : Prop :=
  True

def algebraic_LnMemBackIdeal_LnMemBackRefIdeal_pre_finite_mem [hLnMemBackIdeal : Cert.LnMemBackIdeal.Facts] [hLnMemBackRefIdeal : Cert.LnMemBackRefIdeal.Facts] [hPre_finite_mem : Cert.Pre_finite_mem.Facts] : Prop :=
  ∀ (m : (ℓ : Loc Cert.LnMemBackIdeal.nD Cert.LnMemBackIdeal.τ Cert.LnMemBackIdeal.sig) → Buf (Elt Ideal) ℓ) (g : Dev Cert.LnMemBackIdeal.nD → PrngReg)
    (m' : (ℓ : Loc Cert.LnMemBackRefIdeal.nD Cert.LnMemBackRefIdeal.τ Cert.LnMemBackRefIdeal.sig) → Buf (Elt Ideal) ℓ) (g' : Dev Cert.LnMemBackRefIdeal.nD → PrngReg), Pre_LnMemBackIdeal_finite_mem m →
    (∀ c : Dev Cert.LnMemBackIdeal.nD,
      m' ((c.tc : Thread Cert.LnMemBackRefIdeal.nD Cert.LnMemBackRefIdeal.τ).loc Cert.LnMemBackRefIdeal.main_arg0) = m ((c.tc : Thread Cert.LnMemBackIdeal.nD Cert.LnMemBackIdeal.τ).loc Cert.LnMemBackIdeal.main_arg0)
      ∧ m' ((c.tc : Thread Cert.LnMemBackRefIdeal.nD Cert.LnMemBackRefIdeal.τ).loc Cert.LnMemBackRefIdeal.main_arg1) = m ((c.tc : Thread Cert.LnMemBackIdeal.nD Cert.LnMemBackIdeal.τ).loc Cert.LnMemBackIdeal.main_arg1)
      ∧ m' ((c.tc : Thread Cert.LnMemBackRefIdeal.nD Cert.LnMemBackRefIdeal.τ).loc Cert.LnMemBackRefIdeal.main_arg2) = m ((c.tc : Thread Cert.LnMemBackIdeal.nD Cert.LnMemBackIdeal.τ).loc Cert.LnMemBackIdeal.main_arg2)) →
    ∃ (v0 : (c : Dev Cert.LnMemBackIdeal.nD) → Buf (Elt Ideal) ((c.tc : Thread Cert.LnMemBackIdeal.nD Cert.LnMemBackIdeal.τ).loc Cert.LnMemBackIdeal.main_v0_0)) (v1 : (c : Dev Cert.LnMemBackIdeal.nD) → Buf (Elt Ideal) ((c.tc : Thread Cert.LnMemBackIdeal.nD Cert.LnMemBackIdeal.τ).loc Cert.LnMemBackIdeal.main_v0_1)) (v2 : (c : Dev Cert.LnMemBackIdeal.nD) → Buf (Elt Ideal) ((c.tc : Thread Cert.LnMemBackIdeal.nD Cert.LnMemBackIdeal.τ).loc Cert.LnMemBackIdeal.main_v0_2)),
      θ_run (Cert.LnMemBackIdeal.defs (F := Ideal)) (onTc (τ := Cert.LnMemBackIdeal.τ) (Cert.LnMemBackIdeal.main (F := Ideal))) ⟨m, fun _ => 0, g⟩ (fun r => ∀ c : Dev Cert.LnMemBackIdeal.nD,
          r.2.mem ((c.tc : Thread Cert.LnMemBackIdeal.nD Cert.LnMemBackIdeal.τ).loc Cert.LnMemBackIdeal.main_v0_0) = v0 c
          ∧ r.2.mem ((c.tc : Thread Cert.LnMemBackIdeal.nD Cert.LnMemBackIdeal.τ).loc Cert.LnMemBackIdeal.main_v0_1) = v1 c
          ∧ r.2.mem ((c.tc : Thread Cert.LnMemBackIdeal.nD Cert.LnMemBackIdeal.τ).loc Cert.LnMemBackIdeal.main_v0_2) = v2 c
          ∧ r.2.mem ((c.tc : Thread Cert.LnMemBackIdeal.nD Cert.LnMemBackIdeal.τ).loc Cert.LnMemBackIdeal.main_arg0) = m ((c.tc : Thread Cert.LnMemBackIdeal.nD Cert.LnMemBackIdeal.τ).loc Cert.LnMemBackIdeal.main_arg0)
          ∧ r.2.mem ((c.tc : Thread Cert.LnMemBackIdeal.nD Cert.LnMemBackIdeal.τ).loc Cert.LnMemBackIdeal.main_arg1) = m ((c.tc : Thread Cert.LnMemBackIdeal.nD Cert.LnMemBackIdeal.τ).loc Cert.LnMemBackIdeal.main_arg1)
          ∧ r.2.mem ((c.tc : Thread Cert.LnMemBackIdeal.nD Cert.LnMemBackIdeal.τ).loc Cert.LnMemBackIdeal.main_arg2) = m ((c.tc : Thread Cert.LnMemBackIdeal.nD Cert.LnMemBackIdeal.τ).loc Cert.LnMemBackIdeal.main_arg2))
      ∧ θ_run (Cert.LnMemBackRefIdeal.defs (F := Ideal)) (onTc (τ := Cert.LnMemBackRefIdeal.τ) (Cert.LnMemBackRefIdeal.main (F := Ideal))) ⟨m', fun _ => 0, g'⟩ (fun r => ∀ c : Dev Cert.LnMemBackRefIdeal.nD,
          r.2.mem ((c.tc : Thread Cert.LnMemBackRefIdeal.nD Cert.LnMemBackRefIdeal.τ).loc Cert.LnMemBackRefIdeal.main_v59) = v0 c
          ∧ r.2.mem ((c.tc : Thread Cert.LnMemBackRefIdeal.nD Cert.LnMemBackRefIdeal.τ).loc Cert.LnMemBackRefIdeal.main_v33) = v1 c
          ∧ r.2.mem ((c.tc : Thread Cert.LnMemBackRefIdeal.nD Cert.LnMemBackRefIdeal.τ).loc Cert.LnMemBackRefIdeal.main_v30) = v2 c
          ∧ r.2.mem ((c.tc : Thread Cert.LnMemBackRefIdeal.nD Cert.LnMemBackRefIdeal.τ).loc Cert.LnMemBackRefIdeal.main_arg0) = m' ((c.tc : Thread Cert.LnMemBackRefIdeal.nD Cert.LnMemBackRefIdeal.τ).loc Cert.LnMemBackRefIdeal.main_arg0)
          ∧ r.2.mem ((c.tc : Thread Cert.LnMemBackRefIdeal.nD Cert.LnMemBackRefIdeal.τ).loc Cert.LnMemBackRefIdeal.main_arg1) = m' ((c.tc : Thread Cert.LnMemBackRefIdeal.nD Cert.LnMemBackRefIdeal.τ).loc Cert.LnMemBackRefIdeal.main_arg1)
          ∧ r.2.mem ((c.tc : Thread Cert.LnMemBackRefIdeal.nD Cert.LnMemBackRefIdeal.τ).loc Cert.LnMemBackRefIdeal.main_arg2) = m' ((c.tc : Thread Cert.LnMemBackRefIdeal.nD Cert.LnMemBackRefIdeal.τ).loc Cert.LnMemBackRefIdeal.main_arg2))

def preserves_HeadNorm_HeadNormIdeal : Prop :=
  True

def algebraic_HeadNormIdeal_HeadNormRefIdeal [hHeadNormIdeal : Cert.HeadNormIdeal.Facts] [hHeadNormRefIdeal : Cert.HeadNormRefIdeal.Facts] : Prop :=
  ∀ (m : (ℓ : Loc Cert.HeadNormIdeal.nD Cert.HeadNormIdeal.τ Cert.HeadNormIdeal.sig) → Buf (Elt Ideal) ℓ) (g : Dev Cert.HeadNormIdeal.nD → PrngReg)
    (m' : (ℓ : Loc Cert.HeadNormRefIdeal.nD Cert.HeadNormRefIdeal.τ Cert.HeadNormRefIdeal.sig) → Buf (Elt Ideal) ℓ) (g' : Dev Cert.HeadNormRefIdeal.nD → PrngReg), Pre_HeadNormIdeal m →
    (∀ c : Dev Cert.HeadNormIdeal.nD,
      m' ((c.tc : Thread Cert.HeadNormRefIdeal.nD Cert.HeadNormRefIdeal.τ).loc Cert.HeadNormRefIdeal.main_arg0) = m ((c.tc : Thread Cert.HeadNormIdeal.nD Cert.HeadNormIdeal.τ).loc Cert.HeadNormIdeal.main_arg0)
      ∧ m' ((c.tc : Thread Cert.HeadNormRefIdeal.nD Cert.HeadNormRefIdeal.τ).loc Cert.HeadNormRefIdeal.main_arg1) = m ((c.tc : Thread Cert.HeadNormIdeal.nD Cert.HeadNormIdeal.τ).loc Cert.HeadNormIdeal.main_arg1)
      ∧ m' ((c.tc : Thread Cert.HeadNormRefIdeal.nD Cert.HeadNormRefIdeal.τ).loc Cert.HeadNormRefIdeal.main_arg2) = m ((c.tc : Thread Cert.HeadNormIdeal.nD Cert.HeadNormIdeal.τ).loc Cert.HeadNormIdeal.main_arg2)) →
    ∃ (v0 : (c : Dev Cert.HeadNormIdeal.nD) → Buf (Elt Ideal) ((c.tc : Thread Cert.HeadNormIdeal.nD Cert.HeadNormIdeal.τ).loc Cert.HeadNormIdeal.main_v0)),
      θ_run (Cert.HeadNormIdeal.defs (F := Ideal)) (onTc (τ := Cert.HeadNormIdeal.τ) (Cert.HeadNormIdeal.main (F := Ideal))) ⟨m, fun _ => 0, g⟩ (fun r => ∀ c : Dev Cert.HeadNormIdeal.nD,
          r.2.mem ((c.tc : Thread Cert.HeadNormIdeal.nD Cert.HeadNormIdeal.τ).loc Cert.HeadNormIdeal.main_v0) = v0 c
          ∧ r.2.mem ((c.tc : Thread Cert.HeadNormIdeal.nD Cert.HeadNormIdeal.τ).loc Cert.HeadNormIdeal.main_arg0) = m ((c.tc : Thread Cert.HeadNormIdeal.nD Cert.HeadNormIdeal.τ).loc Cert.HeadNormIdeal.main_arg0)
          ∧ r.2.mem ((c.tc : Thread Cert.HeadNormIdeal.nD Cert.HeadNormIdeal.τ).loc Cert.HeadNormIdeal.main_arg1) = m ((c.tc : Thread Cert.HeadNormIdeal.nD Cert.HeadNormIdeal.τ).loc Cert.HeadNormIdeal.main_arg1)
          ∧ r.2.mem ((c.tc : Thread Cert.HeadNormIdeal.nD Cert.HeadNormIdeal.τ).loc Cert.HeadNormIdeal.main_arg2) = m ((c.tc : Thread Cert.HeadNormIdeal.nD Cert.HeadNormIdeal.τ).loc Cert.HeadNormIdeal.main_arg2))
      ∧ θ_run (Cert.HeadNormRefIdeal.defs (F := Ideal)) (onTc (τ := Cert.HeadNormRefIdeal.τ) (Cert.HeadNormRefIdeal.main (F := Ideal))) ⟨m', fun _ => 0, g'⟩ (fun r => ∀ c : Dev Cert.HeadNormRefIdeal.nD,
          r.2.mem ((c.tc : Thread Cert.HeadNormRefIdeal.nD Cert.HeadNormRefIdeal.τ).loc Cert.HeadNormRefIdeal.main_v18) = v0 c
          ∧ r.2.mem ((c.tc : Thread Cert.HeadNormRefIdeal.nD Cert.HeadNormRefIdeal.τ).loc Cert.HeadNormRefIdeal.main_arg0) = m' ((c.tc : Thread Cert.HeadNormRefIdeal.nD Cert.HeadNormRefIdeal.τ).loc Cert.HeadNormRefIdeal.main_arg0)
          ∧ r.2.mem ((c.tc : Thread Cert.HeadNormRefIdeal.nD Cert.HeadNormRefIdeal.τ).loc Cert.HeadNormRefIdeal.main_arg1) = m' ((c.tc : Thread Cert.HeadNormRefIdeal.nD Cert.HeadNormRefIdeal.τ).loc Cert.HeadNormRefIdeal.main_arg1)
          ∧ r.2.mem ((c.tc : Thread Cert.HeadNormRefIdeal.nD Cert.HeadNormRefIdeal.τ).loc Cert.HeadNormRefIdeal.main_arg2) = m' ((c.tc : Thread Cert.HeadNormRefIdeal.nD Cert.HeadNormRefIdeal.τ).loc Cert.HeadNormRefIdeal.main_arg2))

def Claim : Prop :=
  ∃ (hKernel : Cert.Kernel.Facts) (hKernelIdeal : Cert.KernelIdeal.Facts) (hReferenceIdeal : Cert.ReferenceIdeal.Facts) (hDact : Cert.Dact.Facts) (hDactIdeal : Cert.DactIdeal.Facts) (hDactRefIdeal : Cert.DactRefIdeal.Facts) (hDwd : Cert.Dwd.Facts) (hDwdIdeal : Cert.DwdIdeal.Facts) (hDwdRefIdeal : Cert.DwdRefIdeal.Facts) (hDw : Cert.Dw.Facts) (hDwIdeal : Cert.DwIdeal.Facts) (hDwRefIdeal : Cert.DwRefIdeal.Facts) (hDxg : Cert.Dxg.Facts) (hDxgIdeal : Cert.DxgIdeal.Facts) (hDxgRefIdeal : Cert.DxgRefIdeal.Facts) (hDxu : Cert.Dxu.Facts) (hDxuIdeal : Cert.DxuIdeal.Facts) (hDxuRefIdeal : Cert.DxuRefIdeal.Facts) (hGu : Cert.Gu.Facts) (hGuIdeal : Cert.GuIdeal.Facts) (hGuRefIdeal : Cert.GuRefIdeal.Facts) (hDown : Cert.Down.Facts) (hDownIdeal : Cert.DownIdeal.Facts) (hDownRefIdeal : Cert.DownRefIdeal.Facts) (hInQkv : Cert.InQkv.Facts) (hInQkvIdeal : Cert.InQkvIdeal.Facts) (hInQkvRefIdeal : Cert.InQkvRefIdeal.Facts) (hInGates : Cert.InGates.Facts) (hInGatesIdeal : Cert.InGatesIdeal.Facts) (hInGatesRefIdeal : Cert.InGatesRefIdeal.Facts) (hInZ : Cert.InZ.Facts) (hInZIdeal : Cert.InZIdeal.Facts) (hInZRefIdeal : Cert.InZRefIdeal.Facts) (hInAb : Cert.InAb.Facts) (hInAbIdeal : Cert.InAbIdeal.Facts) (hInAbRefIdeal : Cert.InAbRefIdeal.Facts) (hInDwA : Cert.InDwA.Facts) (hInDwAIdeal : Cert.InDwAIdeal.Facts) (hInDwARefIdeal : Cert.InDwARefIdeal.Facts) (hInDwB : Cert.InDwB.Facts) (hInDwBIdeal : Cert.InDwBIdeal.Facts) (hInDwBRefIdeal : Cert.InDwBRefIdeal.Facts) (hInDx : Cert.InDx.Facts) (hInDxIdeal : Cert.InDxIdeal.Facts) (hInDxRefIdeal : Cert.InDxRefIdeal.Facts) (hBranch : Cert.Branch.Facts) (hBranchIdeal : Cert.BranchIdeal.Facts) (hBranchRefIdeal : Cert.BranchRefIdeal.Facts) (hBranchDw : Cert.BranchDw.Facts) (hBranchDwIdeal : Cert.BranchDwIdeal.Facts) (hBranchDwRefIdeal : Cert.BranchDwRefIdeal.Facts) (hBranchDx : Cert.BranchDx.Facts) (hBranchDxIdeal : Cert.BranchDxIdeal.Facts) (hBranchDxRefIdeal : Cert.BranchDxRefIdeal.Facts) (hOut : Cert.Out.Facts) (hOutIdeal : Cert.OutIdeal.Facts) (hOutRefIdeal : Cert.OutRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hQueryDw : Cert.QueryDw.Facts) (hQueryDwIdeal : Cert.QueryDwIdeal.Facts) (hQueryDwRefIdeal : Cert.QueryDwRefIdeal.Facts) (hQueryDx : Cert.QueryDx.Facts) (hQueryDxIdeal : Cert.QueryDxIdeal.Facts) (hQueryDxRefIdeal : Cert.QueryDxRefIdeal.Facts) (hMemKv : Cert.MemKv.Facts) (hMemKvIdeal : Cert.MemKvIdeal.Facts) (hMemKvRefIdeal : Cert.MemKvRefIdeal.Facts) (hMemDw : Cert.MemDw.Facts) (hMemDwIdeal : Cert.MemDwIdeal.Facts) (hMemDwRefIdeal : Cert.MemDwRefIdeal.Facts) (hMemDk : Cert.MemDk.Facts) (hMemDkIdeal : Cert.MemDkIdeal.Facts) (hMemDkRefIdeal : Cert.MemDkRefIdeal.Facts) (hMemDv : Cert.MemDv.Facts) (hMemDvIdeal : Cert.MemDvIdeal.Facts) (hMemDvRefIdeal : Cert.MemDvRefIdeal.Facts) (hAdamFfn : Cert.AdamFfn.Facts) (hAdamFfnIdeal : Cert.AdamFfnIdeal.Facts) (hAdamFfnRefIdeal : Cert.AdamFfnRefIdeal.Facts) (hAdamIn : Cert.AdamIn.Facts) (hAdamInIdeal : Cert.AdamInIdeal.Facts) (hAdamInRefIdeal : Cert.AdamInRefIdeal.Facts) (hAdamConv : Cert.AdamConv.Facts) (hAdamConvIdeal : Cert.AdamConvIdeal.Facts) (hAdamConvRefIdeal : Cert.AdamConvRefIdeal.Facts) (hAdamBranch : Cert.AdamBranch.Facts) (hAdamBranchIdeal : Cert.AdamBranchIdeal.Facts) (hAdamBranchRefIdeal : Cert.AdamBranchRefIdeal.Facts) (hAdamSquare : Cert.AdamSquare.Facts) (hAdamSquareIdeal : Cert.AdamSquareIdeal.Facts) (hAdamSquareRefIdeal : Cert.AdamSquareRefIdeal.Facts) (hAdamLn : Cert.AdamLn.Facts) (hAdamLnIdeal : Cert.AdamLnIdeal.Facts) (hAdamLnRefIdeal : Cert.AdamLnRefIdeal.Facts) (hAdamScale : Cert.AdamScale.Facts) (hAdamScaleIdeal : Cert.AdamScaleIdeal.Facts) (hAdamScaleRefIdeal : Cert.AdamScaleRefIdeal.Facts) (hAdamNorm : Cert.AdamNorm.Facts) (hAdamNormIdeal : Cert.AdamNormIdeal.Facts) (hAdamNormRefIdeal : Cert.AdamNormRefIdeal.Facts) (hAdamHead : Cert.AdamHead.Facts) (hAdamHeadIdeal : Cert.AdamHeadIdeal.Facts) (hAdamHeadRefIdeal : Cert.AdamHeadRefIdeal.Facts) (hSumGate : Cert.SumGate.Facts) (hSumGateIdeal : Cert.SumGateIdeal.Facts) (hSumGateRefIdeal : Cert.SumGateRefIdeal.Facts) (hSumDown : Cert.SumDown.Facts) (hSumDownIdeal : Cert.SumDownIdeal.Facts) (hSumDownRefIdeal : Cert.SumDownRefIdeal.Facts) (hSumFfn : Cert.SumFfn.Facts) (hSumFfnIdeal : Cert.SumFfnIdeal.Facts) (hSumFfnRefIdeal : Cert.SumFfnRefIdeal.Facts) (hSumMixer : Cert.SumMixer.Facts) (hSumMixerIdeal : Cert.SumMixerIdeal.Facts) (hSumMixerRefIdeal : Cert.SumMixerRefIdeal.Facts) (hSumXa : Cert.SumXa.Facts) (hSumXaIdeal : Cert.SumXaIdeal.Facts) (hSumXaRefIdeal : Cert.SumXaRefIdeal.Facts) (hSumSmall : Cert.SumSmall.Facts) (hSumSmallIdeal : Cert.SumSmallIdeal.Facts) (hSumSmallRefIdeal : Cert.SumSmallRefIdeal.Facts) (hAttend : Cert.Attend.Facts) (hAttendIdeal : Cert.AttendIdeal.Facts) (hAttendRefIdeal : Cert.AttendRefIdeal.Facts) (hAttendBack : Cert.AttendBack.Facts) (hAttendBackIdeal : Cert.AttendBackIdeal.Facts) (hAttendBackRefIdeal : Cert.AttendBackRefIdeal.Facts) (hMerge : Cert.Merge.Facts) (hMergeIdeal : Cert.MergeIdeal.Facts) (hMergeRefIdeal : Cert.MergeRefIdeal.Facts) (hMergeBack : Cert.MergeBack.Facts) (hMergeBackIdeal : Cert.MergeBackIdeal.Facts) (hMergeBackRefIdeal : Cert.MergeBackRefIdeal.Facts) (hLnHalf : Cert.LnHalf.Facts) (hLnHalfIdeal : Cert.LnHalfIdeal.Facts) (hLnHalfRefIdeal : Cert.LnHalfRefIdeal.Facts) (hLn : Cert.Ln.Facts) (hLnIdeal : Cert.LnIdeal.Facts) (hLnRefIdeal : Cert.LnRefIdeal.Facts) (hLnBack : Cert.LnBack.Facts) (hLnBackIdeal : Cert.LnBackIdeal.Facts) (hLnBackRefIdeal : Cert.LnBackRefIdeal.Facts) (hLnLast : Cert.LnLast.Facts) (hLnLastIdeal : Cert.LnLastIdeal.Facts) (hLnLastRefIdeal : Cert.LnLastRefIdeal.Facts) (hLnMem : Cert.LnMem.Facts) (hLnMemIdeal : Cert.LnMemIdeal.Facts) (hLnMemRefIdeal : Cert.LnMemRefIdeal.Facts) (hLnMemBack : Cert.LnMemBack.Facts) (hLnMemBackIdeal : Cert.LnMemBackIdeal.Facts) (hLnMemBackRefIdeal : Cert.LnMemBackRefIdeal.Facts) (hHeadNorm : Cert.HeadNorm.Facts) (hHeadNormIdeal : Cert.HeadNormIdeal.Facts) (hHeadNormRefIdeal : Cert.HeadNormRefIdeal.Facts) (hPre_finite : Cert.Pre_finite.Facts) (hPre_finite_dact : Cert.Pre_finite_dact.Facts) (hPre_finite_attend : Cert.Pre_finite_attend.Facts) (hPre_finite_ln : Cert.Pre_finite_ln.Facts) (hPre_finite_last : Cert.Pre_finite_last.Facts) (hPre_finite_mem : Cert.Pre_finite_mem.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dact (hDact := hDact)
    ∧ quiescent_DactIdeal (hDactIdeal := hDactIdeal)
    ∧ quiescent_DactIdeal_pre_finite_dact (hDactIdeal := hDactIdeal) (hPre_finite_dact := hPre_finite_dact)
    ∧ quiescent_DactRefIdeal (hDactRefIdeal := hDactRefIdeal)
    ∧ quiescent_DactRefIdeal_pre_finite_dact (hDactRefIdeal := hDactRefIdeal) (hPre_finite_dact := hPre_finite_dact)
    ∧ quiescent_Dwd (hDwd := hDwd)
    ∧ quiescent_DwdIdeal (hDwdIdeal := hDwdIdeal)
    ∧ quiescent_DwdRefIdeal (hDwdRefIdeal := hDwdRefIdeal)
    ∧ quiescent_Dw (hDw := hDw)
    ∧ quiescent_DwIdeal (hDwIdeal := hDwIdeal)
    ∧ quiescent_DwRefIdeal (hDwRefIdeal := hDwRefIdeal)
    ∧ quiescent_Dxg (hDxg := hDxg)
    ∧ quiescent_DxgIdeal (hDxgIdeal := hDxgIdeal)
    ∧ quiescent_DxgRefIdeal (hDxgRefIdeal := hDxgRefIdeal)
    ∧ quiescent_Dxu (hDxu := hDxu)
    ∧ quiescent_DxuIdeal (hDxuIdeal := hDxuIdeal)
    ∧ quiescent_DxuRefIdeal (hDxuRefIdeal := hDxuRefIdeal)
    ∧ quiescent_Gu (hGu := hGu)
    ∧ quiescent_GuIdeal (hGuIdeal := hGuIdeal)
    ∧ quiescent_GuRefIdeal (hGuRefIdeal := hGuRefIdeal)
    ∧ quiescent_Down (hDown := hDown)
    ∧ quiescent_DownIdeal (hDownIdeal := hDownIdeal)
    ∧ quiescent_DownRefIdeal (hDownRefIdeal := hDownRefIdeal)
    ∧ quiescent_InQkv (hInQkv := hInQkv)
    ∧ quiescent_InQkvIdeal (hInQkvIdeal := hInQkvIdeal)
    ∧ quiescent_InQkvRefIdeal (hInQkvRefIdeal := hInQkvRefIdeal)
    ∧ quiescent_InGates (hInGates := hInGates)
    ∧ quiescent_InGatesIdeal (hInGatesIdeal := hInGatesIdeal)
    ∧ quiescent_InGatesRefIdeal (hInGatesRefIdeal := hInGatesRefIdeal)
    ∧ quiescent_InZ (hInZ := hInZ)
    ∧ quiescent_InZIdeal (hInZIdeal := hInZIdeal)
    ∧ quiescent_InZRefIdeal (hInZRefIdeal := hInZRefIdeal)
    ∧ quiescent_InAb (hInAb := hInAb)
    ∧ quiescent_InAbIdeal (hInAbIdeal := hInAbIdeal)
    ∧ quiescent_InAbRefIdeal (hInAbRefIdeal := hInAbRefIdeal)
    ∧ quiescent_InDwA (hInDwA := hInDwA)
    ∧ quiescent_InDwAIdeal (hInDwAIdeal := hInDwAIdeal)
    ∧ quiescent_InDwARefIdeal (hInDwARefIdeal := hInDwARefIdeal)
    ∧ quiescent_InDwB (hInDwB := hInDwB)
    ∧ quiescent_InDwBIdeal (hInDwBIdeal := hInDwBIdeal)
    ∧ quiescent_InDwBRefIdeal (hInDwBRefIdeal := hInDwBRefIdeal)
    ∧ quiescent_InDx (hInDx := hInDx)
    ∧ quiescent_InDxIdeal (hInDxIdeal := hInDxIdeal)
    ∧ quiescent_InDxRefIdeal (hInDxRefIdeal := hInDxRefIdeal)
    ∧ quiescent_Branch (hBranch := hBranch)
    ∧ quiescent_BranchIdeal (hBranchIdeal := hBranchIdeal)
    ∧ quiescent_BranchRefIdeal (hBranchRefIdeal := hBranchRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_Out (hOut := hOut)
    ∧ quiescent_OutIdeal (hOutIdeal := hOutIdeal)
    ∧ quiescent_OutRefIdeal (hOutRefIdeal := hOutRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_QueryDw (hQueryDw := hQueryDw)
    ∧ quiescent_QueryDwIdeal (hQueryDwIdeal := hQueryDwIdeal)
    ∧ quiescent_QueryDwRefIdeal (hQueryDwRefIdeal := hQueryDwRefIdeal)
    ∧ quiescent_QueryDx (hQueryDx := hQueryDx)
    ∧ quiescent_QueryDxIdeal (hQueryDxIdeal := hQueryDxIdeal)
    ∧ quiescent_QueryDxRefIdeal (hQueryDxRefIdeal := hQueryDxRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemDw (hMemDw := hMemDw)
    ∧ quiescent_MemDwIdeal (hMemDwIdeal := hMemDwIdeal)
    ∧ quiescent_MemDwRefIdeal (hMemDwRefIdeal := hMemDwRefIdeal)
    ∧ quiescent_MemDk (hMemDk := hMemDk)
    ∧ quiescent_MemDkIdeal (hMemDkIdeal := hMemDkIdeal)
    ∧ quiescent_MemDkRefIdeal (hMemDkRefIdeal := hMemDkRefIdeal)
    ∧ quiescent_MemDv (hMemDv := hMemDv)
    ∧ quiescent_MemDvIdeal (hMemDvIdeal := hMemDvIdeal)
    ∧ quiescent_MemDvRefIdeal (hMemDvRefIdeal := hMemDvRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamLn (hAdamLn := hAdamLn)
    ∧ quiescent_AdamLnIdeal (hAdamLnIdeal := hAdamLnIdeal)
    ∧ quiescent_AdamLnRefIdeal (hAdamLnRefIdeal := hAdamLnRefIdeal)
    ∧ quiescent_AdamScale (hAdamScale := hAdamScale)
    ∧ quiescent_AdamScaleIdeal (hAdamScaleIdeal := hAdamScaleIdeal)
    ∧ quiescent_AdamScaleRefIdeal (hAdamScaleRefIdeal := hAdamScaleRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamHead (hAdamHead := hAdamHead)
    ∧ quiescent_AdamHeadIdeal (hAdamHeadIdeal := hAdamHeadIdeal)
    ∧ quiescent_AdamHeadRefIdeal (hAdamHeadRefIdeal := hAdamHeadRefIdeal)
    ∧ quiescent_SumGate (hSumGate := hSumGate)
    ∧ quiescent_SumGateIdeal (hSumGateIdeal := hSumGateIdeal)
    ∧ quiescent_SumGateRefIdeal (hSumGateRefIdeal := hSumGateRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ quiescent_SumFfn (hSumFfn := hSumFfn)
    ∧ quiescent_SumFfnIdeal (hSumFfnIdeal := hSumFfnIdeal)
    ∧ quiescent_SumFfnRefIdeal (hSumFfnRefIdeal := hSumFfnRefIdeal)
    ∧ quiescent_SumMixer (hSumMixer := hSumMixer)
    ∧ quiescent_SumMixerIdeal (hSumMixerIdeal := hSumMixerIdeal)
    ∧ quiescent_SumMixerRefIdeal (hSumMixerRefIdeal := hSumMixerRefIdeal)
    ∧ quiescent_SumXa (hSumXa := hSumXa)
    ∧ quiescent_SumXaIdeal (hSumXaIdeal := hSumXaIdeal)
    ∧ quiescent_SumXaRefIdeal (hSumXaRefIdeal := hSumXaRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_Attend (hAttend := hAttend)
    ∧ quiescent_AttendIdeal (hAttendIdeal := hAttendIdeal)
    ∧ quiescent_AttendRefIdeal (hAttendRefIdeal := hAttendRefIdeal)
    ∧ quiescent_AttendBack (hAttendBack := hAttendBack)
    ∧ quiescent_AttendBackIdeal (hAttendBackIdeal := hAttendBackIdeal)
    ∧ quiescent_AttendBackIdeal_pre_finite_attend (hAttendBackIdeal := hAttendBackIdeal) (hPre_finite_attend := hPre_finite_attend)
    ∧ quiescent_AttendBackRefIdeal (hAttendBackRefIdeal := hAttendBackRefIdeal)
    ∧ quiescent_AttendBackRefIdeal_pre_finite_attend (hAttendBackRefIdeal := hAttendBackRefIdeal) (hPre_finite_attend := hPre_finite_attend)
    ∧ quiescent_Merge (hMerge := hMerge)
    ∧ quiescent_MergeIdeal (hMergeIdeal := hMergeIdeal)
    ∧ quiescent_MergeRefIdeal (hMergeRefIdeal := hMergeRefIdeal)
    ∧ quiescent_MergeBack (hMergeBack := hMergeBack)
    ∧ quiescent_MergeBackIdeal (hMergeBackIdeal := hMergeBackIdeal)
    ∧ quiescent_MergeBackRefIdeal (hMergeBackRefIdeal := hMergeBackRefIdeal)
    ∧ quiescent_LnHalf (hLnHalf := hLnHalf)
    ∧ quiescent_LnHalfIdeal (hLnHalfIdeal := hLnHalfIdeal)
    ∧ quiescent_LnHalfRefIdeal (hLnHalfRefIdeal := hLnHalfRefIdeal)
    ∧ quiescent_Ln (hLn := hLn)
    ∧ quiescent_LnIdeal (hLnIdeal := hLnIdeal)
    ∧ quiescent_LnRefIdeal (hLnRefIdeal := hLnRefIdeal)
    ∧ quiescent_LnBack (hLnBack := hLnBack)
    ∧ quiescent_LnBackIdeal (hLnBackIdeal := hLnBackIdeal)
    ∧ quiescent_LnBackIdeal_pre_finite_ln (hLnBackIdeal := hLnBackIdeal) (hPre_finite_ln := hPre_finite_ln)
    ∧ quiescent_LnBackRefIdeal (hLnBackRefIdeal := hLnBackRefIdeal)
    ∧ quiescent_LnBackRefIdeal_pre_finite_ln (hLnBackRefIdeal := hLnBackRefIdeal) (hPre_finite_ln := hPre_finite_ln)
    ∧ quiescent_LnLast (hLnLast := hLnLast)
    ∧ quiescent_LnLastIdeal (hLnLastIdeal := hLnLastIdeal)
    ∧ quiescent_LnLastIdeal_pre_finite_last (hLnLastIdeal := hLnLastIdeal) (hPre_finite_last := hPre_finite_last)
    ∧ quiescent_LnLastRefIdeal (hLnLastRefIdeal := hLnLastRefIdeal)
    ∧ quiescent_LnLastRefIdeal_pre_finite_last (hLnLastRefIdeal := hLnLastRefIdeal) (hPre_finite_last := hPre_finite_last)
    ∧ quiescent_LnMem (hLnMem := hLnMem)
    ∧ quiescent_LnMemIdeal (hLnMemIdeal := hLnMemIdeal)
    ∧ quiescent_LnMemRefIdeal (hLnMemRefIdeal := hLnMemRefIdeal)
    ∧ quiescent_LnMemBack (hLnMemBack := hLnMemBack)
    ∧ quiescent_LnMemBackIdeal (hLnMemBackIdeal := hLnMemBackIdeal)
    ∧ quiescent_LnMemBackIdeal_pre_finite_mem (hLnMemBackIdeal := hLnMemBackIdeal) (hPre_finite_mem := hPre_finite_mem)
    ∧ quiescent_LnMemBackRefIdeal (hLnMemBackRefIdeal := hLnMemBackRefIdeal)
    ∧ quiescent_LnMemBackRefIdeal_pre_finite_mem (hLnMemBackRefIdeal := hLnMemBackRefIdeal) (hPre_finite_mem := hPre_finite_mem)
    ∧ quiescent_HeadNorm (hHeadNorm := hHeadNorm)
    ∧ quiescent_HeadNormIdeal (hHeadNormIdeal := hHeadNormIdeal)
    ∧ quiescent_HeadNormRefIdeal (hHeadNormRefIdeal := hHeadNormRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dact_DactIdeal
    ∧ algebraic_DactIdeal_DactRefIdeal_pre_finite_dact (hDactIdeal := hDactIdeal) (hDactRefIdeal := hDactRefIdeal) (hPre_finite_dact := hPre_finite_dact)
    ∧ preserves_Dwd_DwdIdeal
    ∧ algebraic_DwdIdeal_DwdRefIdeal (hDwdIdeal := hDwdIdeal) (hDwdRefIdeal := hDwdRefIdeal)
    ∧ preserves_Dw_DwIdeal
    ∧ algebraic_DwIdeal_DwRefIdeal (hDwIdeal := hDwIdeal) (hDwRefIdeal := hDwRefIdeal)
    ∧ preserves_Dxg_DxgIdeal
    ∧ algebraic_DxgIdeal_DxgRefIdeal (hDxgIdeal := hDxgIdeal) (hDxgRefIdeal := hDxgRefIdeal)
    ∧ preserves_Dxu_DxuIdeal
    ∧ algebraic_DxuIdeal_DxuRefIdeal (hDxuIdeal := hDxuIdeal) (hDxuRefIdeal := hDxuRefIdeal)
    ∧ preserves_Gu_GuIdeal
    ∧ algebraic_GuIdeal_GuRefIdeal (hGuIdeal := hGuIdeal) (hGuRefIdeal := hGuRefIdeal)
    ∧ preserves_Down_DownIdeal
    ∧ algebraic_DownIdeal_DownRefIdeal (hDownIdeal := hDownIdeal) (hDownRefIdeal := hDownRefIdeal)
    ∧ preserves_InQkv_InQkvIdeal
    ∧ algebraic_InQkvIdeal_InQkvRefIdeal (hInQkvIdeal := hInQkvIdeal) (hInQkvRefIdeal := hInQkvRefIdeal)
    ∧ preserves_InGates_InGatesIdeal
    ∧ algebraic_InGatesIdeal_InGatesRefIdeal (hInGatesIdeal := hInGatesIdeal) (hInGatesRefIdeal := hInGatesRefIdeal)
    ∧ preserves_InZ_InZIdeal
    ∧ algebraic_InZIdeal_InZRefIdeal (hInZIdeal := hInZIdeal) (hInZRefIdeal := hInZRefIdeal)
    ∧ preserves_InAb_InAbIdeal
    ∧ algebraic_InAbIdeal_InAbRefIdeal (hInAbIdeal := hInAbIdeal) (hInAbRefIdeal := hInAbRefIdeal)
    ∧ preserves_InDwA_InDwAIdeal
    ∧ algebraic_InDwAIdeal_InDwARefIdeal (hInDwAIdeal := hInDwAIdeal) (hInDwARefIdeal := hInDwARefIdeal)
    ∧ preserves_InDwB_InDwBIdeal
    ∧ algebraic_InDwBIdeal_InDwBRefIdeal (hInDwBIdeal := hInDwBIdeal) (hInDwBRefIdeal := hInDwBRefIdeal)
    ∧ preserves_InDx_InDxIdeal
    ∧ algebraic_InDxIdeal_InDxRefIdeal (hInDxIdeal := hInDxIdeal) (hInDxRefIdeal := hInDxRefIdeal)
    ∧ preserves_Branch_BranchIdeal
    ∧ algebraic_BranchIdeal_BranchRefIdeal (hBranchIdeal := hBranchIdeal) (hBranchRefIdeal := hBranchRefIdeal)
    ∧ preserves_BranchDw_BranchDwIdeal
    ∧ algebraic_BranchDwIdeal_BranchDwRefIdeal (hBranchDwIdeal := hBranchDwIdeal) (hBranchDwRefIdeal := hBranchDwRefIdeal)
    ∧ preserves_BranchDx_BranchDxIdeal
    ∧ algebraic_BranchDxIdeal_BranchDxRefIdeal (hBranchDxIdeal := hBranchDxIdeal) (hBranchDxRefIdeal := hBranchDxRefIdeal)
    ∧ preserves_Out_OutIdeal
    ∧ algebraic_OutIdeal_OutRefIdeal (hOutIdeal := hOutIdeal) (hOutRefIdeal := hOutRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_QueryDw_QueryDwIdeal
    ∧ algebraic_QueryDwIdeal_QueryDwRefIdeal (hQueryDwIdeal := hQueryDwIdeal) (hQueryDwRefIdeal := hQueryDwRefIdeal)
    ∧ preserves_QueryDx_QueryDxIdeal
    ∧ algebraic_QueryDxIdeal_QueryDxRefIdeal (hQueryDxIdeal := hQueryDxIdeal) (hQueryDxRefIdeal := hQueryDxRefIdeal)
    ∧ preserves_MemKv_MemKvIdeal
    ∧ algebraic_MemKvIdeal_MemKvRefIdeal (hMemKvIdeal := hMemKvIdeal) (hMemKvRefIdeal := hMemKvRefIdeal)
    ∧ preserves_MemDw_MemDwIdeal
    ∧ algebraic_MemDwIdeal_MemDwRefIdeal (hMemDwIdeal := hMemDwIdeal) (hMemDwRefIdeal := hMemDwRefIdeal)
    ∧ preserves_MemDk_MemDkIdeal
    ∧ algebraic_MemDkIdeal_MemDkRefIdeal (hMemDkIdeal := hMemDkIdeal) (hMemDkRefIdeal := hMemDkRefIdeal)
    ∧ preserves_MemDv_MemDvIdeal
    ∧ algebraic_MemDvIdeal_MemDvRefIdeal (hMemDvIdeal := hMemDvIdeal) (hMemDvRefIdeal := hMemDvRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamIn_AdamInIdeal
    ∧ algebraic_AdamInIdeal_AdamInRefIdeal (hAdamInIdeal := hAdamInIdeal) (hAdamInRefIdeal := hAdamInRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamLn_AdamLnIdeal
    ∧ algebraic_AdamLnIdeal_AdamLnRefIdeal (hAdamLnIdeal := hAdamLnIdeal) (hAdamLnRefIdeal := hAdamLnRefIdeal)
    ∧ preserves_AdamScale_AdamScaleIdeal
    ∧ algebraic_AdamScaleIdeal_AdamScaleRefIdeal (hAdamScaleIdeal := hAdamScaleIdeal) (hAdamScaleRefIdeal := hAdamScaleRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamHead_AdamHeadIdeal
    ∧ algebraic_AdamHeadIdeal_AdamHeadRefIdeal (hAdamHeadIdeal := hAdamHeadIdeal) (hAdamHeadRefIdeal := hAdamHeadRefIdeal)
    ∧ preserves_SumGate_SumGateIdeal
    ∧ algebraic_SumGateIdeal_SumGateRefIdeal (hSumGateIdeal := hSumGateIdeal) (hSumGateRefIdeal := hSumGateRefIdeal)
    ∧ preserves_SumDown_SumDownIdeal
    ∧ algebraic_SumDownIdeal_SumDownRefIdeal (hSumDownIdeal := hSumDownIdeal) (hSumDownRefIdeal := hSumDownRefIdeal)
    ∧ preserves_SumFfn_SumFfnIdeal
    ∧ algebraic_SumFfnIdeal_SumFfnRefIdeal (hSumFfnIdeal := hSumFfnIdeal) (hSumFfnRefIdeal := hSumFfnRefIdeal)
    ∧ preserves_SumMixer_SumMixerIdeal
    ∧ algebraic_SumMixerIdeal_SumMixerRefIdeal (hSumMixerIdeal := hSumMixerIdeal) (hSumMixerRefIdeal := hSumMixerRefIdeal)
    ∧ preserves_SumXa_SumXaIdeal
    ∧ algebraic_SumXaIdeal_SumXaRefIdeal (hSumXaIdeal := hSumXaIdeal) (hSumXaRefIdeal := hSumXaRefIdeal)
    ∧ preserves_SumSmall_SumSmallIdeal
    ∧ algebraic_SumSmallIdeal_SumSmallRefIdeal (hSumSmallIdeal := hSumSmallIdeal) (hSumSmallRefIdeal := hSumSmallRefIdeal)
    ∧ preserves_Attend_AttendIdeal
    ∧ algebraic_AttendIdeal_AttendRefIdeal (hAttendIdeal := hAttendIdeal) (hAttendRefIdeal := hAttendRefIdeal)
    ∧ preserves_AttendBack_AttendBackIdeal
    ∧ algebraic_AttendBackIdeal_AttendBackRefIdeal_pre_finite_attend (hAttendBackIdeal := hAttendBackIdeal) (hAttendBackRefIdeal := hAttendBackRefIdeal) (hPre_finite_attend := hPre_finite_attend)
    ∧ preserves_Merge_MergeIdeal
    ∧ algebraic_MergeIdeal_MergeRefIdeal (hMergeIdeal := hMergeIdeal) (hMergeRefIdeal := hMergeRefIdeal)
    ∧ preserves_MergeBack_MergeBackIdeal
    ∧ algebraic_MergeBackIdeal_MergeBackRefIdeal (hMergeBackIdeal := hMergeBackIdeal) (hMergeBackRefIdeal := hMergeBackRefIdeal)
    ∧ preserves_LnHalf_LnHalfIdeal
    ∧ algebraic_LnHalfIdeal_LnHalfRefIdeal (hLnHalfIdeal := hLnHalfIdeal) (hLnHalfRefIdeal := hLnHalfRefIdeal)
    ∧ preserves_Ln_LnIdeal
    ∧ algebraic_LnIdeal_LnRefIdeal (hLnIdeal := hLnIdeal) (hLnRefIdeal := hLnRefIdeal)
    ∧ preserves_LnBack_LnBackIdeal
    ∧ algebraic_LnBackIdeal_LnBackRefIdeal_pre_finite_ln (hLnBackIdeal := hLnBackIdeal) (hLnBackRefIdeal := hLnBackRefIdeal) (hPre_finite_ln := hPre_finite_ln)
    ∧ preserves_LnLast_LnLastIdeal
    ∧ algebraic_LnLastIdeal_LnLastRefIdeal_pre_finite_last (hLnLastIdeal := hLnLastIdeal) (hLnLastRefIdeal := hLnLastRefIdeal) (hPre_finite_last := hPre_finite_last)
    ∧ preserves_LnMem_LnMemIdeal
    ∧ algebraic_LnMemIdeal_LnMemRefIdeal (hLnMemIdeal := hLnMemIdeal) (hLnMemRefIdeal := hLnMemRefIdeal)
    ∧ preserves_LnMemBack_LnMemBackIdeal
    ∧ algebraic_LnMemBackIdeal_LnMemBackRefIdeal_pre_finite_mem (hLnMemBackIdeal := hLnMemBackIdeal) (hLnMemBackRefIdeal := hLnMemBackRefIdeal) (hPre_finite_mem := hPre_finite_mem)
    ∧ preserves_HeadNorm_HeadNormIdeal
    ∧ algebraic_HeadNormIdeal_HeadNormRefIdeal (hHeadNormIdeal := hHeadNormIdeal) (hHeadNormRefIdeal := hHeadNormRefIdeal)
-- ==== Pre_finite.lean ====
abbrev S4096x512 : Shape := ⟨2, ![4096, 512]⟩
abbrev S4x4096x64 : Shape := ⟨3, ![4, 4096, 64]⟩
abbrev S64x4x128x128 : Shape := ⟨4, ![64, 4, 128, 128]⟩
abbrev S4096x4 : Shape := ⟨2, ![4096, 4]⟩
abbrev S_ : Shape := ⟨0, ![]⟩

class Facts : Prop where
  bcast_S_S4096x512 : S_.BroadcastsInDim S4096x512 (![] : Fin 0 → Fin S4096x512.rank)
  bcast_S_S4x4096x64 : S_.BroadcastsInDim S4x4096x64 (![] : Fin 0 → Fin S4x4096x64.rank)
  bcast_S_S64x4x128x128 : S_.BroadcastsInDim S64x4x128x128 (![] : Fin 0 → Fin S64x4x128x128.rank)
  bcast_S_S4096x4 : S_.BroadcastsInDim S4096x4 (![] : Fin 0 → Fin S4096x4.rank)

variable [Facts]

def fn_part1 {F : FTy → Type} [FloatOps F] (main_arg6 : FVec F S64x4x128x128 .f32) (main_arg7 : FVec F S4096x4 .f32) (main_v2 : IVec S4096x512 1) (main_v5 : IVec S4096x512 1) (main_v8 : IVec S4096x512 1) (main_v11 : IVec S4096x512 1) (main_v14 : IVec S4096x512 1) (main_v17 : IVec S4x4096x64 1) : IVec S4096x512 1 × IVec S4096x512 1 × IVec S4096x512 1 × IVec S4096x512 1 × IVec S4096x512 1 × IVec S4x4096x64 1 × IVec S64x4x128x128 1 × IVec S4096x4 1 :=
  let main_v18 : FVec F S64x4x128x128 .f32 := Host.absf main_arg6
  let main_cst_5 : FVec F S_ .f32 := constant S_ .f32 0x7F800000#32
  let main_v19 : FVec F S64x4x128x128 .f32 := broadcastInDim S64x4x128x128 ![] bcast_S_S64x4x128x128 main_cst_5
  let main_v20 : IVec S64x4x128x128 1 := cmpf .olt main_v18 main_v19
  let main_v21 : FVec F S4096x4 .f32 := Host.absf main_arg7
  let main_cst_6 : FVec F S_ .f32 := constant S_ .f32 0x7F800000#32
  let main_v22 : FVec F S4096x4 .f32 := broadcastInDim S4096x4 ![] bcast_S_S4096x4 main_cst_6
  let main_v23 : IVec S4096x4 1 := cmpf .olt main_v21 main_v22
  (main_v2, main_v5, main_v8, main_v11, main_v14, main_v17, main_v20, main_v23)

def fn {F : FTy → Type} [FloatOps F] (main_arg0 : FVec F S4096x512 .f32) (main_arg1 : FVec F S4096x512 .f32) (main_arg2 : FVec F S4096x512 .f32) (main_arg3 : FVec F S4096x512 .f32) (main_arg4 : FVec F S4096x512 .f32) (main_arg5 : FVec F S4x4096x64 .f32) (main_arg6 : FVec F S64x4x128x128 .f32) (main_arg7 : FVec F S4096x4 .f32) : IVec S4096x512 1 × IVec S4096x512 1 × IVec S4096x512 1 × IVec S4096x512 1 × IVec S4096x512 1 × IVec S4x4096x64 1 × IVec S64x4x128x128 1 × IVec S4096x4 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  let main_v15 : FVec F S4x4096x64 .f32 := Host.absf main_arg5
  let main_cst_4 : FVec F S_ .f32 := constant S_ .f32 0x7F800000#32
  let main_v16 : FVec F S4x4096x64 .f32 := broadcastInDim S4x4096x64 ![] bcast_S_S4x4096x64 main_cst_4
  let main_v17 : IVec S4x4096x64 1 := cmpf .olt main_v15 main_v16
  fn_part1 (F := F) main_arg6 main_arg7 main_v2 main_v5 main_v8 main_v11 main_v14 main_v17
-- ==== Pre_finite_attend.lean ====
abbrev S4096x1024 : Shape := ⟨2, ![4096, 1024]⟩
abbrev S256x1024 : Shape := ⟨2, ![256, 1024]⟩
abbrev S_ : Shape := ⟨0, ![]⟩

class Facts : Prop where
  bcast_S_S4096x1024 : S_.BroadcastsInDim S4096x1024 (![] : Fin 0 → Fin S4096x1024.rank)
  bcast_S_S256x1024 : S_.BroadcastsInDim S256x1024 (![] : Fin 0 → Fin S256x1024.rank)

variable [Facts]

def fn {F : FTy → Type} [FloatOps F] (main_arg0 : FVec F S4096x1024 .f32) (main_arg1 : FVec F S4096x1024 .f32) (main_arg2 : FVec F S256x1024 .f32) (main_arg3 : FVec F S256x1024 .f32) : IVec S4096x1024 1 × IVec S256x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S256x1024 .f32 := Host.absf main_arg2
  let main_cst_0 : FVec F S_ .f32 := constant S_ .f32 0x7F800000#32
  let main_v4 : FVec F S256x1024 .f32 := broadcastInDim S256x1024 ![] bcast_S_S256x1024 main_cst_0
  let main_v5 : IVec S256x1024 1 := cmpf .olt main_v3 main_v4
  (main_v2, main_v5)
-- ==== Pre_finite_dact.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S4096x2816 : S_.BroadcastsInDim S4096x2816 (![] : Fin 0 → Fin S4096x2816.rank)

variable [Facts]

def fn {F : FTy → Type} [FloatOps F] (main_arg0 : FVec F S4096x1024 .f32) (main_arg1 : FVec F S2816x1024 .f32) (main_arg2 : FVec F S4096x2816 .f32) (main_arg3 : FVec F S4096x2816 .f32) : IVec S4096x1024 1 × IVec S2816x1024 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x2816 .f32 := Host.absf main_arg3
  let main_cst_1 : FVec F S_ .f32 := constant S_ .f32 0x7F800000#32
  let main_v7 : FVec F S4096x2816 .f32 := broadcastInDim S4096x2816 ![] bcast_S_S4096x2816 main_cst_1
  let main_v8 : IVec S4096x2816 1 := cmpf .olt main_v6 main_v7
  (main_v2, main_v5, main_v8)
-- ==== Pre_finite_last.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .f32) (main_arg2 : FVec F S1x1024 .f32) : IVec S4096x1024 1 × IVec S1x1024 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  (main_v2, main_v5)
-- ==== Pre_finite_ln.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .f32) (main_arg2 : FVec F S4096x1024 .f32) (main_arg3 : FVec F S1x1024 .f32) : IVec S4096x1024 1 × IVec S4096x1024 1 × IVec S1x1024 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg2
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg3
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  (main_v2, main_v5, main_v8)
-- ==== Pre_finite_mem.lean ====
abbrev S256x1024 : Shape := ⟨2, ![256, 1024]⟩
abbrev S1x1024 : Shape := ⟨2, ![1, 1024]⟩
abbrev S_ : Shape := ⟨0, ![]⟩

class Facts : Prop where
  bcast_S_S256x1024 : S_.BroadcastsInDim S256x1024 (![] : Fin 0 → Fin S256x1024.rank)
  bcast_S_S1x1024 : S_.BroadcastsInDim S1x1024 (![] : Fin 0 → Fin S1x1024.rank)

variable [Facts]

def fn {F : FTy → Type} [FloatOps F] (main_arg0 : FVec F S256x1024 .f32) (main_arg1 : FVec F S256x1024 .f32) (main_arg2 : FVec F S1x1024 .f32) : IVec S256x1024 1 × IVec S1x1024 1 :=
  let main_v0 : FVec F S256x1024 .f32 := Host.absf main_arg1
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  (main_v2, main_v5)
-- ==== Kernel.lean ====
abbrev S4096x512 : Shape := ⟨2, ![4096, 512]⟩
abbrev S4x4096x64 : Shape := ⟨3, ![4, 4096, 64]⟩
abbrev S64x4x128x128 : Shape := ⟨4, ![64, 4, 128, 128]⟩
abbrev S4096x4 : Shape := ⟨2, ![4096, 4]⟩
abbrev S64x64x4x128 : Shape := ⟨4, ![64, 64, 4, 128]⟩
abbrev S64x4x128x64 : Shape := ⟨4, ![64, 4, 128, 64]⟩
abbrev S4096x4x128 : Shape := ⟨3, ![4096, 4, 128]⟩
abbrev S512x512 : Shape := ⟨2, ![512, 512]⟩
abbrev S4x512x64 : Shape := ⟨3, ![4, 512, 64]⟩
abbrev S8x4x128x128 : Shape := ⟨4, ![8, 4, 128, 128]⟩
abbrev S64x512 : Shape := ⟨2, ![64, 512]⟩
abbrev S4x128x128 : Shape := ⟨3, ![4, 128, 128]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S1x64x64 : Shape := ⟨3, ![1, 64, 64]⟩
abbrev S64x64 : Shape := ⟨2, ![64, 64]⟩
abbrev S1x128 : Shape := ⟨2, ![1, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S8x128 : Shape := ⟨2, ![8, 128]⟩

abbrev nBuf : Space → Nat
  | .hbm => 21
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4x4096x64, .f32⟩
  | .hbm, ⟨6, _⟩ => ⟨S64x4x128x128, .f32⟩
  | .hbm, ⟨7, _⟩ => ⟨S4096x4, .f32⟩
  | .hbm, ⟨8, _⟩ => ⟨S64x64x4x128, .f32⟩
  | .hbm, ⟨9, _⟩ => ⟨S64x4x128x64, .f32⟩
  | .hbm, ⟨10, _⟩ => ⟨S64x64x4x128, .f32⟩
  | .hbm, ⟨11, _⟩ => ⟨S4096x512, .f32⟩
  | .hbm, ⟨12, _⟩ => ⟨S4096x512, .f32⟩
  | .hbm, ⟨13, _⟩ => ⟨S4096x4x128, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S4x4096x64, .f32⟩
  | .hbm, ⟨20, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S4x512x64, .f32⟩
  | .local _ .vmem, ⟨9, _⟩ => ⟨S4x512x64, .f32⟩
  | .local _ .vmem, ⟨10, _⟩ => ⟨S512x512, .f32⟩
  | .local _ .vmem, ⟨11, _⟩ => ⟨S512x512, .f32⟩
  | .local _ .vmem, ⟨12, _⟩ => ⟨S8x4x128x128, .f32⟩
  | .local _ .vmem, ⟨13, _⟩ => ⟨S8x4x128x128, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S4x512x64, .f32⟩
  | .local _ .vmem, ⟨25, _⟩ => ⟨S4x512x64, .f32⟩
  | .local _ .vmem, ⟨26, _⟩ => ⟨S64x512, .f32⟩
  | .local _ .vmem, ⟨27, _⟩ => ⟨S64x512, .f32⟩
  | .local _ .vmem, ⟨28, _⟩ => ⟨S4x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4096x512 : Shape := ⟨2, ![4096, 512]⟩
abbrev S4x4096x64 : Shape := ⟨3, ![4, 4096, 64]⟩
abbrev S64x4x128x128 : Shape := ⟨4, ![64, 4, 128, 128]⟩
abbrev S4096x4 : Shape := ⟨2, ![4096, 4]⟩
abbrev S_ : Shape := ⟨0, ![]⟩
abbrev S1x4x128x128 : Shape := ⟨4, ![1, 4, 128, 128]⟩
abbrev S4x64x64x64 : Shape := ⟨4, ![4, 64, 64, 64]⟩
abbrev S64x4x64x64 : Shape := ⟨4, ![64, 4, 64, 64]⟩
abbrev S64x1x4x64x64 : Shape := ⟨5, ![64, 1, 4, 64, 64]⟩
abbrev S1x64x64x4 : Shape := ⟨4, ![1, 64, 64, 4]⟩
abbrev S64x1x4x64 : Shape := ⟨4, ![64, 1, 4, 64]⟩
abbrev S64x1x4x1 : Shape := ⟨4, ![64, 1, 4, 1]⟩
abbrev S64x1x4 : Shape := ⟨3, ![64, 1, 4]⟩
abbrev S64x1x4x1x1 : Shape := ⟨5, ![64, 1, 4, 1, 1]⟩
abbrev S1x64x64x4x128 : Shape := ⟨5, ![1, 64, 64, 4, 128]⟩
abbrev S64x1x4x64x128 : Shape := ⟨5, ![64, 1, 4, 64, 128]⟩
abbrev S64x1x4x128x128 : Shape := ⟨5, ![64, 1, 4, 128, 128]⟩
abbrev S1x1x4x64x128 : Shape := ⟨5, ![1, 1, 4, 64, 128]⟩
abbrev S1x4x64x128 : Shape := ⟨4, ![1, 4, 64, 128]⟩
abbrev S1x1x4x64x64 : Shape := ⟨5, ![1, 1, 4, 64, 64]⟩
abbrev S1x4x64x64 : Shape := ⟨4, ![1, 4, 64, 64]⟩
abbrev S1x1x4x1x1 : Shape := ⟨5, ![1, 1, 4, 1, 1]⟩
abbrev S1x4x1x1 : Shape := ⟨4, ![1, 4, 1, 1]⟩
abbrev S1x1x4x128x128 : Shape := ⟨5, ![1, 1, 4, 128, 128]⟩
abbrev S1x4x128x64 : Shape := ⟨4, ![1, 4, 128, 64]⟩
abbrev S1x4 : Shape := ⟨2, ![1, 4]⟩
abbrev S64x8x4x128 : Shape := ⟨4, ![64, 8, 4, 128]⟩
abbrev S512x512 : Shape := ⟨2, ![512, 512]⟩

abbrev nBuf : Space → Nat
  | .hbm => 198
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S4x4096x64, .f32⟩
  | 6 => ⟨S64x4x128x128, .f32⟩
  | 7 => ⟨S4096x4, .f32⟩
  | 8 => ⟨S_, .f32⟩
  | 9 => ⟨S1x4x128x128, .f32⟩
  | 10 => ⟨S4x64x64x64, .f32⟩
  | 11 => ⟨S64x4x64x64, .f32⟩
  | 12 => ⟨S64x1x4x64x64, .f32⟩
  | 13 => ⟨S1x64x64x4, .f32⟩
  | 14 => ⟨S64x1x4x64, .f32⟩
  | 15 => ⟨S64x1x4x1, .f32⟩
  | 16 => ⟨S64x1x4, .f32⟩
  | 17 => ⟨S64x1x4x1x1, .f32⟩
  | 18 => ⟨S1x64x64x4x128, .f32⟩
  | 19 => ⟨S64x1x4x64x128, .f32⟩
  | 20 => ⟨S1x64x64x4x128, .f32⟩
  | 21 => ⟨S64x1x4x64x128, .f32⟩
  | 22 => ⟨S1x64x64x4x128, .f32⟩
  | 23 => ⟨S64x1x4x64x128, .f32⟩
  | 24 => ⟨S1x64x64x4x128, .f32⟩
  | 25 => ⟨S64x1x4x64x128, .f32⟩
  | 26 => ⟨S64x1x4x128x128, .f32⟩
  | 27 => ⟨S1x64x64x4x128, .f32⟩
  | 28 => ⟨S64x1x4x64x128, .f32⟩
  | 29 => ⟨S_, .f32⟩
  | 30 => ⟨S64x1x4x64x128, .f32⟩
  | 31 => ⟨S_, .f32⟩
  | 32 => ⟨S64x1x4x64x128, .f32⟩
  | 33 => ⟨S_, .f32⟩
  | 34 => ⟨S64x1x4x64x128, .f32⟩
  | 35 => ⟨S_, .f32⟩
  | 36 => ⟨S64x1x4x64x128, .f32⟩
  | 37 => ⟨S_, .f32⟩
  | 38 => ⟨S64x1x4x64x64, .f32⟩
  | 39 => ⟨S_, .f32⟩
  | 40 => ⟨S64x1x4x1x1, .f32⟩
  | 41 => ⟨S_, .i32⟩
  | 42 => ⟨S64x1x4x64x128, .f32⟩
  | 43 => ⟨S64x1x4x64x128, .f32⟩
  | 44 => ⟨S64x1x4x64x128, .f32⟩
  | 45 => ⟨S64x1x4x64x128, .f32⟩
  | 46 => ⟨S64x1x4x64x64, .f32⟩
  | 47 => ⟨S64x1x4x1x1, .f32⟩
  | 48 => ⟨S64x1x4x128x128, .f32⟩
  | 49 => ⟨S64x1x4x64x128, .f32⟩
  | 50 => ⟨S_, .i32⟩
  | 51 => ⟨S1x4x128x128, .f32⟩
  | 52 => ⟨S64x1x4x64x128, .f32⟩
  | 53 => ⟨S64x1x4x64x128, .f32⟩
  | 54 => ⟨S64x1x4x64x128, .f32⟩
  | 55 => ⟨S64x1x4x64x128, .f32⟩
  | 56 => ⟨S64x1x4x64x64, .f32⟩
  | 57 => ⟨S64x1x4x1x1, .f32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S1x1x4x64x128, .f32⟩
  | 69 => ⟨S1x4x64x128, .f32⟩
  | 70 => ⟨S_, .i32⟩
  | 71 => ⟨S_, .i32⟩
  | 72 => ⟨S_, .i32⟩
  | 73 => ⟨S_, .i32⟩
  | 74 => ⟨S1x1x4x64x128, .f32⟩
  | 75 => ⟨S1x4x64x128, .f32⟩
  | 76 => ⟨S_, .i32⟩
  | 77 => ⟨S_, .i32⟩
  | 78 => ⟨S_, .i32⟩
  | 79 => ⟨S_, .i32⟩
  | 80 => ⟨S1x1x4x64x128, .f32⟩
  | 81 => ⟨S1x4x64x128, .f32⟩
  | 82 => ⟨S_, .i32⟩
  | 83 => ⟨S_, .i32⟩
  | 84 => ⟨S_, .i32⟩
  | 85 => ⟨S_, .i32⟩
  | 86 => ⟨S1x1x4x64x128, .f32⟩
  | 87 => ⟨S1x4x64x128, .f32⟩
  | 88 => ⟨S_, .i32⟩
  | 89 => ⟨S_, .i32⟩
  | 90 => ⟨S_, .i32⟩
  | 91 => ⟨S_, .i32⟩
  | 92 => ⟨S1x1x4x64x64, .f32⟩
  | 93 => ⟨S1x4x64x64, .f32⟩
  | 94 => ⟨S_, .i32⟩
  | 95 => ⟨S_, .i32⟩
  | 96 => ⟨S_, .i32⟩
  | 97 => ⟨S_, .i32⟩
  | 98 => ⟨S1x1x4x1x1, .f32⟩
  | 99 => ⟨S1x4x1x1, .f32⟩
  | 100 => ⟨S_, .i32⟩
  | 101 => ⟨S_, .i32⟩
  | 102 => ⟨S_, .i32⟩
  | 103 => ⟨S_, .i32⟩
  | 104 => ⟨S1x1x4x128x128, .f32⟩
  | 105 => ⟨S1x4x128x128, .f32⟩
  | 106 => ⟨S_, .i32⟩
  | 107 => ⟨S_, .i32⟩
  | 108 => ⟨S_, .i32⟩
  | 109 => ⟨S_, .i32⟩
  | 110 => ⟨S1x1x4x64x128, .f32⟩
  | 111 => ⟨S1x4x64x128, .f32⟩
  | 112 => ⟨S1x4x64x128, .f32⟩
  | 113 => ⟨S1x4x64x128, .f32⟩
  | 114 => ⟨S1x4x64x128, .f32⟩
  | 115 => ⟨S1x4x64x128, .f32⟩
  | 116 => ⟨S1x4x64x128, .f32⟩
  | 117 => ⟨S1x4x1x1, .f32⟩
  | 118 => ⟨S1x4x128x128, .f32⟩
  | 119 => ⟨S1x4x128x128, .f32⟩
  | 120 => ⟨S1x4x128x128, .f32⟩
  | 121 => ⟨S1x4x128x128, .f32⟩
  | 122 => ⟨S1x4x128x64, .f32⟩
  | 123 => ⟨S1x4x64x128, .f32⟩
  | 124 => ⟨S1x4x128x64, .f32⟩
  | 125 => ⟨S1x4x64x128, .f32⟩
  | 126 => ⟨S1x4x128x128, .f32⟩
  | 127 => ⟨S_, .f32⟩
  | _ => ⟨S4096x512, .f32⟩

abbrev hbmTy0_1 (i : Nat) : BufTy := match i % 128 with
  | 0 => ⟨S1x4, .f32⟩
  | 1 => ⟨S1x4x1x1, .f32⟩
  | 2 => ⟨S1x4x128x128, .f32⟩
  | 3 => ⟨S1x4x128x128, .f32⟩
  | 4 => ⟨S1x4x1x1, .f32⟩
  | 5 => ⟨S1x4x128x64, .f32⟩
  | 6 => ⟨S1x4x64x128, .f32⟩
  | 7 => ⟨S1x4x64x128, .f32⟩
  | 8 => ⟨S1x4x64x64, .f32⟩
  | 9 => ⟨S1x4x128x128, .f32⟩
  | 10 => ⟨S1x4x128x128, .f32⟩
  | 11 => ⟨S1x4x128x128, .f32⟩
  | 12 => ⟨S1x4x64x128, .f32⟩
  | 13 => ⟨S1x4x64x128, .f32⟩
  | 14 => ⟨S1x4x128x128, .f32⟩
  | 15 => ⟨S1x4x128x128, .f32⟩
  | 16 => ⟨S1x4x128x128, .f32⟩
  | 17 => ⟨S1x4x64x128, .f32⟩
  | 18 => ⟨S1x1x4x64x128, .f32⟩
  | 19 => ⟨S_, .i32⟩
  | 20 => ⟨S_, .i32⟩
  | 21 => ⟨S_, .i32⟩
  | 22 => ⟨S_, .i32⟩
  | 23 => ⟨S64x1x4x64x128, .f32⟩
  | 24 => ⟨S1x1x4x64x128, .f32⟩
  | 25 => ⟨S_, .i32⟩
  | 26 => ⟨S_, .i32⟩
  | 27 => ⟨S_, .i32⟩
  | 28 => ⟨S_, .i32⟩
  | 29 => ⟨S64x1x4x64x128, .f32⟩
  | 30 => ⟨S1x1x4x64x128, .f32⟩
  | 31 => ⟨S_, .i32⟩
  | 32 => ⟨S_, .i32⟩
  | 33 => ⟨S_, .i32⟩
  | 34 => ⟨S_, .i32⟩
  | 35 => ⟨S64x1x4x64x128, .f32⟩
  | 36 => ⟨S1x1x4x64x128, .f32⟩
  | 37 => ⟨S_, .i32⟩
  | 38 => ⟨S_, .i32⟩
  | 39 => ⟨S_, .i32⟩
  | 40 => ⟨S_, .i32⟩
  | 41 => ⟨S64x1x4x64x128, .f32⟩
  | 42 => ⟨S1x1x4x64x64, .f32⟩
  | 43 => ⟨S_, .i32⟩
  | 44 => ⟨S_, .i32⟩
  | 45 => ⟨S_, .i32⟩
  | 46 => ⟨S_, .i32⟩
  | 47 => ⟨S64x1x4x64x64, .f32⟩
  | 48 => ⟨S1x1x4x1x1, .f32⟩
  | 49 => ⟨S_, .i32⟩
  | 50 => ⟨S_, .i32⟩
  | 51 => ⟨S_, .i32⟩
  | 52 => ⟨S_, .i32⟩
  | 53 => ⟨S64x1x4x1x1, .f32⟩
  | 54 => ⟨S_, .i32⟩
  | 55 => ⟨S_, .i32⟩
  | 56 => ⟨S64x1x4x1, .f32⟩
  | 57 => ⟨S64x8x4x128, .f32⟩
  | 58 => ⟨S512x512, .f32⟩
  | 59 => ⟨S1x64x64x4x128, .f32⟩
  | 60 => ⟨S4096x512, .f32⟩
  | 61 => ⟨S1x64x64x4x128, .f32⟩
  | 62 => ⟨S4096x512, .f32⟩
  | 63 => ⟨S1x64x64x4x128, .f32⟩
  | 64 => ⟨S4096x512, .f32⟩
  | 65 => ⟨S1x64x64x4x128, .f32⟩
  | 66 => ⟨S4096x512, .f32⟩
  | 67 => ⟨S64x4x64x64, .f32⟩
  | 68 => ⟨S4x64x64x64, .f32⟩
  | 69 => ⟨S4x4096x64, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_c : Ref sig .tc := ⟨.hbm, 41, rfl⟩
abbrev main_v26_0 : Ref sig .tc := ⟨.hbm, 42, rfl⟩
abbrev main_v26_1 : Ref sig .tc := ⟨.hbm, 43, rfl⟩
abbrev main_v26_2 : Ref sig .tc := ⟨.hbm, 44, rfl⟩
abbrev main_v26_3 : Ref sig .tc := ⟨.hbm, 45, rfl⟩
abbrev main_v26_4 : Ref sig .tc := ⟨.hbm, 46, rfl⟩
abbrev main_v26_5 : Ref sig .tc := ⟨.hbm, 47, rfl⟩
abbrev main_v26_6 : Ref sig .tc := ⟨.hbm, 48, rfl⟩
abbrev main_v26_7 : Ref sig .tc := ⟨.hbm, 49, rfl⟩
abbrev main_v26_8 : Ref sig .tc := ⟨.hbm, 50, rfl⟩
abbrev main_v26_9 : Ref sig .tc := ⟨.hbm, 51, rfl⟩
abbrev main_v26_10 : Ref sig .tc := ⟨.hbm, 52, rfl⟩
abbrev main_v26_11 : Ref sig .tc := ⟨.hbm, 53, rfl⟩
abbrev main_v26_12 : Ref sig .tc := ⟨.hbm, 54, rfl⟩
abbrev main_v26_13 : Ref sig .tc := ⟨.hbm, 55, rfl⟩
abbrev main_v26_14 : Ref sig .tc := ⟨.hbm, 56, rfl⟩
abbrev main_v26_15 : Ref sig .tc := ⟨.hbm, 57, rfl⟩
abbrev main_while0c_c_21 : Ref sig .tc := ⟨.hbm, 58, rfl⟩
abbrev main_while0c_v41 : Ref sig .tc := ⟨.hbm, 59, rfl⟩
abbrev main_while0b_c_21 : Ref sig .tc := ⟨.hbm, 60, rfl⟩
abbrev main_while0b_v41 : Ref sig .tc := ⟨.hbm, 61, rfl⟩
abbrev main_while0b_c_22 : Ref sig .tc := ⟨.hbm, 62, rfl⟩
abbrev main_while0b_v42 : Ref sig .tc := ⟨.hbm, 63, rfl⟩
abbrev main_while0b_call0_c : Ref sig .tc := ⟨.hbm, 64, rfl⟩
abbrev main_while0b_call0_c_0 : Ref sig .tc := ⟨.hbm, 65, rfl⟩
abbrev main_while0b_call0_c_1 : Ref sig .tc := ⟨.hbm, 66, rfl⟩
abbrev main_while0b_call0_c_2 : Ref sig .tc := ⟨.hbm, 67, rfl⟩
abbrev main_while0b_call0_v0 : Ref sig .tc := ⟨.hbm, 68, rfl⟩
abbrev main_while0b_v43 : Ref sig .tc := ⟨.hbm, 69, rfl⟩
abbrev main_while0b_call1_c : Ref sig .tc := ⟨.hbm, 70, rfl⟩
abbrev main_while0b_call1_c_0 : Ref sig .tc := ⟨.hbm, 71, rfl⟩
abbrev main_while0b_call1_c_1 : Ref sig .tc := ⟨.hbm, 72, rfl⟩
abbrev main_while0b_call1_c_2 : Ref sig .tc := ⟨.hbm, 73, rfl⟩
abbrev main_while0b_call1_v0 : Ref sig .tc := ⟨.hbm, 74, rfl⟩
abbrev main_while0b_v44 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_call2_c_1 : Ref sig .tc := ⟨.hbm, 78, rfl⟩
abbrev main_while0b_call2_c_2 : Ref sig .tc := ⟨.hbm, 79, rfl⟩
abbrev main_while0b_call2_v0 : Ref sig .tc := ⟨.hbm, 80, rfl⟩
abbrev main_while0b_v45 : Ref sig .tc := ⟨.hbm, 81, rfl⟩
abbrev main_while0b_call3_c : Ref sig .tc := ⟨.hbm, 82, rfl⟩
abbrev main_while0b_call3_c_0 : Ref sig .tc := ⟨.hbm, 83, rfl⟩
abbrev main_while0b_call3_c_1 : Ref sig .tc := ⟨.hbm, 84, rfl⟩
abbrev main_while0b_call3_c_2 : Ref sig .tc := ⟨.hbm, 85, rfl⟩
abbrev main_while0b_call3_v0 : Ref sig .tc := ⟨.hbm, 86, rfl⟩
abbrev main_while0b_v46 : Ref sig .tc := ⟨.hbm, 87, rfl⟩
abbrev main_while0b_call4_c : Ref sig .tc := ⟨.hbm, 88, rfl⟩
abbrev main_while0b_call4_c_0 : Ref sig .tc := ⟨.hbm, 89, rfl⟩
abbrev main_while0b_call4_c_1 : Ref sig .tc := ⟨.hbm, 90, rfl⟩
abbrev main_while0b_call4_c_2 : Ref sig .tc := ⟨.hbm, 91, rfl⟩
abbrev main_while0b_call4_v0 : Ref sig .tc := ⟨.hbm, 92, rfl⟩
abbrev main_while0b_v47 : Ref sig .tc := ⟨.hbm, 93, rfl⟩
abbrev main_while0b_call5_c : Ref sig .tc := ⟨.hbm, 94, rfl⟩
abbrev main_while0b_call5_c_0 : Ref sig .tc := ⟨.hbm, 95, rfl⟩
abbrev main_while0b_call5_c_1 : Ref sig .tc := ⟨.hbm, 96, rfl⟩
abbrev main_while0b_call5_c_2 : Ref sig .tc := ⟨.hbm, 97, rfl⟩
abbrev main_while0b_call5_v0 : Ref sig .tc := ⟨.hbm, 98, rfl⟩
abbrev main_while0b_v48 : Ref sig .tc := ⟨.hbm, 99, rfl⟩
abbrev main_while0b_call6_c : Ref sig .tc := ⟨.hbm, 100, rfl⟩
abbrev main_while0b_call6_c_0 : Ref sig .tc := ⟨.hbm, 101, rfl⟩
abbrev main_while0b_call6_c_1 : Ref sig .tc := ⟨.hbm, 102, rfl⟩
abbrev main_while0b_call6_c_2 : Ref sig .tc := ⟨.hbm, 103, rfl⟩
abbrev main_while0b_call6_v0 : Ref sig .tc := ⟨.hbm, 104, rfl⟩
abbrev main_while0b_v49 : Ref sig .tc := ⟨.hbm, 105, rfl⟩
abbrev main_while0b_call7_c : Ref sig .tc := ⟨.hbm, 106, rfl⟩
abbrev main_while0b_call7_c_0 : Ref sig .tc := ⟨.hbm, 107, rfl⟩
abbrev main_while0b_call7_c_1 : Ref sig .tc := ⟨.hbm, 108, rfl⟩
abbrev main_while0b_call7_c_2 : Ref sig .tc := ⟨.hbm, 109, rfl⟩
abbrev main_while0b_call7_v0 : Ref sig .tc := ⟨.hbm, 110, rfl⟩
abbrev main_while0b_v50 : Ref sig .tc := ⟨.hbm, 111, rfl⟩
abbrev main_while0b_v51 : Ref sig .tc := ⟨.hbm, 112, rfl⟩
abbrev main_while0b_v52 : Ref sig .tc := ⟨.hbm, 113, rfl⟩
abbrev main_while0b_v53 : Ref sig .tc := ⟨.hbm, 114, rfl⟩
abbrev main_while0b_v54 : Ref sig .tc := ⟨.hbm, 115, rfl⟩
abbrev main_while0b_v55 : Ref sig .tc := ⟨.hbm, 116, rfl⟩
abbrev main_while0b_v56 : Ref sig .tc := ⟨.hbm, 117, rfl⟩
abbrev main_while0b_v57 : Ref sig .tc := ⟨.hbm, 118, rfl⟩
abbrev main_while0b_v58 : Ref sig .tc := ⟨.hbm, 119, rfl⟩
abbrev main_while0b_v59 : Ref sig .tc := ⟨.hbm, 120, rfl⟩
abbrev main_while0b_v60 : Ref sig .tc := ⟨.hbm, 121, rfl⟩
abbrev main_while0b_v61 : Ref sig .tc := ⟨.hbm, 122, rfl⟩
abbrev main_while0b_v62 : Ref sig .tc := ⟨.hbm, 123, rfl⟩
abbrev main_while0b_v63 : Ref sig .tc := ⟨.hbm, 124, rfl⟩
abbrev main_while0b_v64 : Ref sig .tc := ⟨.hbm, 125, rfl⟩
abbrev main_while0b_v65 : Ref sig .tc := ⟨.hbm, 126, rfl⟩
abbrev main_while0b_cst_23 : Ref sig .tc := ⟨.hbm, 127, rfl⟩
abbrev main_while0b_v66 : Ref sig .tc := ⟨.hbm, 128, rfl⟩
abbrev main_while0b_v67 : Ref sig .tc := ⟨.hbm, 129, rfl⟩
abbrev main_while0b_v68 : Ref sig .tc := ⟨.hbm, 130, rfl⟩
abbrev main_while0b_v69 : Ref sig .tc := ⟨.hbm, 131, rfl⟩
abbrev main_while0b_v70 : Ref sig .tc := ⟨.hbm, 132, rfl⟩
abbrev main_while0b_v71 : Ref sig .tc := ⟨.hbm, 133, rfl⟩
abbrev main_while0b_v72 : Ref sig .tc := ⟨.hbm, 134, rfl⟩
abbrev main_while0b_v73 : Ref sig .tc := ⟨.hbm, 135, rfl⟩
abbrev main_while0b_v74 : Ref sig .tc := ⟨.hbm, 136, rfl⟩
abbrev main_while0b_v75 : Ref sig .tc := ⟨.hbm, 137, rfl⟩
abbrev main_while0b_v76 : Ref sig .tc := ⟨.hbm, 138, rfl⟩
abbrev main_while0b_v77 : Ref sig .tc := ⟨.hbm, 139, rfl⟩
abbrev main_while0b_v78 : Ref sig .tc := ⟨.hbm, 140, rfl⟩
abbrev main_while0b_v79 : Ref sig .tc := ⟨.hbm, 141, rfl⟩
abbrev main_while0b_v80 : Ref sig .tc := ⟨.hbm, 142, rfl⟩
abbrev main_while0b_v81 : Ref sig .tc := ⟨.hbm, 143, rfl⟩
abbrev main_while0b_v82 : Ref sig .tc := ⟨.hbm, 144, rfl⟩
abbrev main_while0b_v83 : Ref sig .tc := ⟨.hbm, 145, rfl⟩
abbrev main_while0b_call8_v0 : Ref sig .tc := ⟨.hbm, 146, rfl⟩
abbrev main_while0b_call8_c : Ref sig .tc := ⟨.hbm, 147, rfl⟩
abbrev main_while0b_call8_c_0 : Ref sig .tc := ⟨.hbm, 148, rfl⟩
abbrev main_while0b_call8_c_1 : Ref sig .tc := ⟨.hbm, 149, rfl⟩
abbrev main_while0b_call8_c_2 : Ref sig .tc := ⟨.hbm, 150, rfl⟩
abbrev main_while0b_v84 : Ref sig .tc := ⟨.hbm, 151, rfl⟩
abbrev main_while0b_call9_v0 : Ref sig .tc := ⟨.hbm, 152, rfl⟩
abbrev main_while0b_call9_c : Ref sig .tc := ⟨.hbm, 153, rfl⟩
abbrev main_while0b_call9_c_0 : Ref sig .tc := ⟨.hbm, 154, rfl⟩
abbrev main_while0b_call9_c_1 : Ref sig .tc := ⟨.hbm, 155, rfl⟩
abbrev main_while0b_call9_c_2 : Ref sig .tc := ⟨.hbm, 156, rfl⟩
abbrev main_while0b_v85 : Ref sig .tc := ⟨.hbm, 157, rfl⟩
abbrev main_while0b_call10_v0 : Ref sig .tc := ⟨.hbm, 158, rfl⟩
abbrev main_while0b_call10_c : Ref sig .tc := ⟨.hbm, 159, rfl⟩
abbrev main_while0b_call10_c_0 : Ref sig .tc := ⟨.hbm, 160, rfl⟩
abbrev main_while0b_call10_c_1 : Ref sig .tc := ⟨.hbm, 161, rfl⟩
abbrev main_while0b_call10_c_2 : Ref sig .tc := ⟨.hbm, 162, rfl⟩
abbrev main_while0b_v86 : Ref sig .tc := ⟨.hbm, 163, rfl⟩
abbrev main_while0b_call11_v0 : Ref sig .tc := ⟨.hbm, 164, rfl⟩
abbrev main_while0b_call11_c : Ref sig .tc := ⟨.hbm, 165, rfl⟩
abbrev main_while0b_call11_c_0 : Ref sig .tc := ⟨.hbm, 166, rfl⟩
abbrev main_while0b_call11_c_1 : Ref sig .tc := ⟨.hbm, 167, rfl⟩
abbrev main_while0b_call11_c_2 : Ref sig .tc := ⟨.hbm, 168, rfl⟩
abbrev main_while0b_v87 : Ref sig .tc := ⟨.hbm, 169, rfl⟩
abbrev main_while0b_call12_v0 : Ref sig .tc := ⟨.hbm, 170, rfl⟩
abbrev main_while0b_call12_c : Ref sig .tc := ⟨.hbm, 171, rfl⟩
abbrev main_while0b_call12_c_0 : Ref sig .tc := ⟨.hbm, 172, rfl⟩
abbrev main_while0b_call12_c_1 : Ref sig .tc := ⟨.hbm, 173, rfl⟩
abbrev main_while0b_call12_c_2 : Ref sig .tc := ⟨.hbm, 174, rfl⟩
abbrev main_while0b_v88 : Ref sig .tc := ⟨.hbm, 175, rfl⟩
abbrev main_while0b_call13_v0 : Ref sig .tc := ⟨.hbm, 176, rfl⟩
abbrev main_while0b_call13_c : Ref sig .tc := ⟨.hbm, 177, rfl⟩
abbrev main_while0b_call13_c_0 : Ref sig .tc := ⟨.hbm, 178, rfl⟩
abbrev main_while0b_call13_c_1 : Ref sig .tc := ⟨.hbm, 179, rfl⟩
abbrev main_while0b_call13_c_2 : Ref sig .tc := ⟨.hbm, 180, rfl⟩
abbrev main_while0b_v89 : Ref sig .tc := ⟨.hbm, 181, rfl⟩
abbrev main_while0b_c_24 : Ref sig .tc := ⟨.hbm, 182, rfl⟩
abbrev main_while0b_v90 : Ref sig .tc := ⟨.hbm, 183, rfl⟩
abbrev main_v27 : Ref sig .tc := ⟨.hbm, 184, rfl⟩
abbrev main_v28 : Ref sig .tc := ⟨.hbm, 185, rfl⟩
abbrev main_v29 : Ref sig .tc := ⟨.hbm, 186, rfl⟩
abbrev main_v30 : Ref sig .tc := ⟨.hbm, 187, rfl⟩
abbrev main_v31 : Ref sig .tc := ⟨.hbm, 188, rfl⟩
abbrev main_v32 : Ref sig .tc := ⟨.hbm, 189, rfl⟩
abbrev main_v33 : Ref sig .tc := ⟨.hbm, 190, rfl⟩
abbrev main_v34 : Ref sig .tc := ⟨.hbm, 191, rfl⟩
abbrev main_v35 : Ref sig .tc := ⟨.hbm, 192, rfl⟩
abbrev main_v36 : Ref sig .tc := ⟨.hbm, 193, rfl⟩
abbrev main_v37 : Ref sig .tc := ⟨.hbm, 194, rfl⟩
abbrev main_v38 : Ref sig .tc := ⟨.hbm, 195, rfl⟩
abbrev main_v39 : Ref sig .tc := ⟨.hbm, 196, rfl⟩
abbrev main_v40 : Ref sig .tc := ⟨.hbm, 197, rfl⟩

abbrev nD : Nat := 1
abbrev τ : Topo := Topo.v7x

variable {F : FTy → Type} [FloatOps F]

abbrev main_while0_count : Scf.Loop 32 := ⟨0#32, 64#32, 1#32⟩
-- ==== Dact.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x2816, .f32⟩
  | .hbm, ⟨3, _⟩ => ⟨S4096x2816, .f32⟩
  | .hbm, ⟨4, _⟩ => ⟨S2816x1024, .bf16⟩
  | .hbm, ⟨5, _⟩ => ⟨S4096x2816, .bf16⟩
  | .hbm, ⟨6, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DactRefIdeal.lean ====
abbrev S4096x1024 : Shape := ⟨2, ![4096, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .bf16⟩
  | .hbm, ⟨33, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩

abbrev nD : Nat := 1
abbrev τ : Topo := Topo.v7x

variable {F : FTy → Type} [FloatOps F]
-- ==== Dwd.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 13
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S1024x2816, .f32⟩
  | .hbm, ⟨12, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Dw.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dxg.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x2816, .bf16⟩
  | .hbm, ⟨3, _⟩ => ⟨S2816x1024, .bf16⟩
  | .hbm, ⟨4, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxgRefIdeal.lean ====
abbrev S4096x2816 : Shape := ⟨2, ![4096, 2816]⟩
abbrev S2816x1024 : Shape := ⟨2, ![2816, 1024]⟩
abbrev S_ : Shape := ⟨0, ![]⟩
abbrev S4096x1024 : Shape := ⟨2, ![4096, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S_, .f32⟩
  | .hbm, ⟨3, _⟩ => ⟨S4096x1024, .f32⟩
  | .hbm, ⟨4, _⟩ => ⟨S1024x2816, .f32⟩
  | .hbm, ⟨5, _⟩ => ⟨S4096x2816, .f32⟩
  | .hbm, ⟨6, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dxu.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 7
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x2816, .bf16⟩
  | .hbm, ⟨5, _⟩ => ⟨S2816x1024, .bf16⟩
  | .hbm, ⟨6, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DxuRefIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S1024x2816, .f32⟩
  | .hbm, ⟨7, _⟩ => ⟨S4096x2816, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Gu.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S2816x1024, .f32⟩
  | .hbm, ⟨3, _⟩ => ⟨S2816x1024, .bf16⟩
  | .hbm, ⟨4, _⟩ => ⟨S2816x1024, .bf16⟩
  | .hbm, ⟨5, _⟩ => ⟨S4096x2816, .f32⟩
  | .hbm, ⟨6, _⟩ => ⟨S4096x2816, .f32⟩
  | .hbm, ⟨7, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GuRefIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S2816x1024, .f32⟩
  | .hbm, ⟨3, _⟩ => ⟨S1024x2816, .f32⟩
  | .hbm, ⟨4, _⟩ => ⟨S4096x2816, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x2816, .bf16⟩
  | .hbm, ⟨3, _⟩ => ⟨S2816x1024, .bf16⟩
  | .hbm, ⟨4, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InQkv.lean ====
abbrev S4096x1024 : Shape := ⟨2, ![4096, 1024]⟩
abbrev S1536x1024 : Shape := ⟨2, ![1536, 1024]⟩
abbrev S4096x1536 : Shape := ⟨2, ![4096, 1536]⟩
abbrev S1024x1024 : Shape := ⟨2, ![1024, 1024]⟩
abbrev S1024x1536 : Shape := ⟨2, ![1024, 1536]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1536x1024, .f32⟩
  | .hbm, ⟨2, _⟩ => ⟨S4096x1024, .bf16⟩
  | .hbm, ⟨3, _⟩ => ⟨S1536x1024, .bf16⟩
  | .hbm, ⟨4, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S1536x1024, .bf16⟩
  | .local _ .vmem, ⟨3, _⟩ => ⟨S1024x1536, .f32⟩
  | .local _ .vmem, ⟨4, _⟩ => ⟨S1024x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQkvRefIdeal.lean ====
abbrev S4096x1024 : Shape := ⟨2, ![4096, 1024]⟩
abbrev S1536x1024 : Shape := ⟨2, ![1536, 1024]⟩
abbrev S1024x1536 : Shape := ⟨2, ![1024, 1536]⟩
abbrev S4096x1536 : Shape := ⟨2, ![4096, 1536]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1536x1024, .f32⟩
  | .hbm, ⟨2, _⟩ => ⟨S1024x1536, .f32⟩
  | .hbm, ⟨3, _⟩ => ⟨S4096x1536, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InGates.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S4096x1024, .bf16⟩
  | .hbm, ⟨3, _⟩ => ⟨S2048x1024, .bf16⟩
  | .hbm, ⟨4, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGatesRefIdeal.lean ====
abbrev S4096x1024 : Shape := ⟨2, ![4096, 1024]⟩
abbrev S2048x1024 : Shape := ⟨2, ![2048, 1024]⟩
abbrev S1024x2048 : Shape := ⟨2, ![1024, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S1024x2048, .f32⟩
  | .hbm, ⟨3, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InZ.lean ====
abbrev S4096x1024 : Shape := ⟨2, ![4096, 1024]⟩
abbrev S512x1024 : Shape := ⟨2, ![512, 1024]⟩
abbrev S4096x512 : Shape := ⟨2, ![4096, 512]⟩
abbrev S2048x512 : Shape := ⟨2, ![2048, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S512x1024, .f32⟩
  | .hbm, ⟨2, _⟩ => ⟨S4096x1024, .bf16⟩
  | .hbm, ⟨3, _⟩ => ⟨S512x1024, .bf16⟩
  | .hbm, ⟨4, _⟩ => ⟨S4096x512, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InZRefIdeal.lean ====
abbrev S4096x1024 : Shape := ⟨2, ![4096, 1024]⟩
abbrev S512x1024 : Shape := ⟨2, ![512, 1024]⟩
abbrev S1024x512 : Shape := ⟨2, ![1024, 512]⟩
abbrev S4096x512 : Shape := ⟨2, ![4096, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S512x1024, .f32⟩
  | .hbm, ⟨2, _⟩ => ⟨S1024x512, .f32⟩
  | .hbm, ⟨3, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InAb.lean ====
abbrev S4096x1024 : Shape := ⟨2, ![4096, 1024]⟩
abbrev S128x1024 : Shape := ⟨2, ![128, 1024]⟩
abbrev S4096x128 : Shape := ⟨2, ![4096, 128]⟩
abbrev S2048x512 : Shape := ⟨2, ![2048, 512]⟩
abbrev S128x512 : Shape := ⟨2, ![128, 512]⟩
abbrev S2048x128 : Shape := ⟨2, ![2048, 128]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S128x1024, .f32⟩
  | .hbm, ⟨2, _⟩ => ⟨S4096x1024, .bf16⟩
  | .hbm, ⟨3, _⟩ => ⟨S128x1024, .bf16⟩
  | .hbm, ⟨4, _⟩ => ⟨S4096x128, .f32⟩
  | .local _ .vmem, ⟨0, _⟩ => ⟨S2048x512, .bf16⟩
  | .local _ .vmem, ⟨1, _⟩ => ⟨S2048x512, .bf16⟩
  | .local _ .vmem, ⟨2, _⟩ => ⟨S128x512, .bf16⟩
  | .local _ .vmem, ⟨3, _⟩ => ⟨S128x512, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InAbRefIdeal.lean ====
abbrev S4096x1024 : Shape := ⟨2, ![4096, 1024]⟩
abbrev S128x1024 : Shape := ⟨2, ![128, 1024]⟩
abbrev S1024x128 : Shape := ⟨2, ![1024, 128]⟩
abbrev S4096x128 : Shape := ⟨2, ![4096, 128]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S128x1024, .f32⟩
  | .hbm, ⟨2, _⟩ => ⟨S1024x128, .f32⟩
  | .hbm, ⟨3, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InDwA.lean ====
abbrev S4096x1536 : Shape := ⟨2, ![4096, 1536]⟩
abbrev S4096x512 : Shape := ⟨2, ![4096, 512]⟩
abbrev S4096x128 : Shape := ⟨2, ![4096, 128]⟩
abbrev S4096x1024 : Shape := ⟨2, ![4096, 1024]⟩
abbrev S1536x1024 : Shape := ⟨2, ![1536, 1024]⟩
abbrev S512x1024 : Shape := ⟨2, ![512, 1024]⟩
abbrev S128x1024 : Shape := ⟨2, ![128, 1024]⟩
abbrev S512x1536 : Shape := ⟨2, ![512, 1536]⟩
abbrev S512x512 : Shape := ⟨2, ![512, 512]⟩
abbrev S512x128 : Shape := ⟨2, ![512, 128]⟩

abbrev nBuf : Space → Nat
  | .hbm => 11
  | .vmem => 11
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x128, .f32⟩
  | .hbm, ⟨3, _⟩ => ⟨S4096x1024, .f32⟩
  | .hbm, ⟨4, _⟩ => ⟨S4096x1536, .bf16⟩
  | .hbm, ⟨5, _⟩ => ⟨S4096x512, .bf16⟩
  | .hbm, ⟨6, _⟩ => ⟨S4096x128, .bf16⟩
  | .hbm, ⟨7, _⟩ => ⟨S4096x1024, .bf16⟩
  | .hbm, ⟨8, _⟩ => ⟨S1536x1024, .f32⟩
  | .hbm, ⟨9, _⟩ => ⟨S512x1024, .f32⟩
  | .hbm, ⟨10, _⟩ => ⟨S128x1024, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S512x128, .bf16⟩
  | .local _ .vmem, ⟨5, _⟩ => ⟨S512x128, .bf16⟩
  | .local _ .vmem, ⟨6, _⟩ => ⟨S512x1024, .bf16⟩
  | .local _ .vmem, ⟨7, _⟩ => ⟨S512x1024, .bf16⟩
  | .local _ .vmem, ⟨8, _⟩ => ⟨S1536x1024, .f32⟩
  | .local _ .vmem, ⟨9, _⟩ => ⟨S512x1024, .f32⟩
  | .local _ .vmem, ⟨10, _⟩ => ⟨S128x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg0 : BitVec 32 := BitVec.ofNat 32 (i 0).val
  let c0_i32_4 : BitVec 32 := 0#32
  let v8 : BitVec 1 := Scalar.cmpi .sgt arg0 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg0 : BitVec 32 := BitVec.ofNat 32 (i 0).val
  let c0_i32_9 : BitVec 32 := 0#32
  let v14 : BitVec 1 := Scalar.cmpi .eq arg0 c0_i32_9
  let v15 : BitVec 32 := Scalar.extui v14
  let c0_i32_10 : BitVec 32 := 0#32
  let v16 : BitVec 1 := Scalar.cmpi .ne v15 c0_i32_10
  v16

def k0_cond4 (i : grid0.Coords) : BitVec 1 :=
  let arg0 : BitVec 32 := BitVec.ofNat 32 (i 0).val
  let c0_i32_11 : BitVec 32 := 0#32
  let v17 : BitVec 1 := Scalar.cmpi .sgt arg0 c0_i32_11
  let v18 : BitVec 32 := Scalar.extui v17
  let c0_i32_12 : BitVec 32 := 0#32
  let v19 : BitVec 1 := Scalar.cmpi .ne v18 c0_i32_12
  v19

def k0_cond5 (i : grid0.Coords) : BitVec 1 :=
  let arg0 : BitVec 32 := BitVec.ofNat 32 (i 0).val
  let c0_i32_16 : BitVec 32 := 0#32
  let v23 : BitVec 1 := Scalar.cmpi .eq arg0 c0_i32_16
  let v24 : BitVec 32 := Scalar.extui v23
  let c0_i32_17 : BitVec 32 := 0#32
  let v25 : BitVec 1 := Scalar.cmpi .ne v24 c0_i32_17
  v25

def k0_cond6 (i : grid0.Coords) : BitVec 1 :=
  let arg0 : BitVec 32 := BitVec.ofNat 32 (i 0).val
  let c0_i32_18 : BitVec 32 := 0#32
  let v26 : BitVec 1 := Scalar.cmpi .sgt arg0 c0_i32_18
  let v27 : BitVec 32 := Scalar.extui v26
  let c0_i32_19 : BitVec 32 := 0#32
  let v28 : BitVec 1 := Scalar.cmpi .ne v27 c0_i32_19
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InDwARefIdeal.lean ====
abbrev S4096x1536 : Shape := ⟨2, ![4096, 1536]⟩
abbrev S4096x512 : Shape := ⟨2, ![4096, 512]⟩
abbrev S4096x128 : Shape := ⟨2, ![4096, 128]⟩
abbrev S4096x1024 : Shape := ⟨2, ![4096, 1024]⟩
abbrev S_ : Shape := ⟨0, ![]⟩
abbrev S1536x1024 : Shape := ⟨2, ![1536, 1024]⟩
abbrev S512x1024 : Shape := ⟨2, ![512, 1024]⟩
abbrev S128x1024 : Shape := ⟨2, ![128, 1024]⟩
abbrev S1024x1536 : Shape := ⟨2, ![1024, 1536]⟩
abbrev S1024x512 : Shape := ⟨2, ![1024, 512]⟩
abbrev S1024x128 : Shape := ⟨2, ![1024, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x128, .f32⟩
  | .hbm, ⟨3, _⟩ => ⟨S4096x1024, .f32⟩
  | .hbm, ⟨4, _⟩ => ⟨S_, .f32⟩
  | .hbm, ⟨5, _⟩ => ⟨S1536x1024, .f32⟩
  | .hbm, ⟨6, _⟩ => ⟨S_, .f32⟩
  | .hbm, ⟨7, _⟩ => ⟨S512x1024, .f32⟩
  | .hbm, ⟨8, _⟩ => ⟨S_, .f32⟩
  | .hbm, ⟨9, _⟩ => ⟨S128x1024, .f32⟩
  | .hbm, ⟨10, _⟩ => ⟨S1024x1536, .f32⟩
  | .hbm, ⟨11, _⟩ => ⟨S4096x1536, .f32⟩
  | .hbm, ⟨12, _⟩ => ⟨S1024x512, .f32⟩
  | .hbm, ⟨13, _⟩ => ⟨S4096x512, .f32⟩
  | .hbm, ⟨14, _⟩ => ⟨S1024x128, .f32⟩
  | .hbm, ⟨15, _⟩ => ⟨S4096x128, .f32⟩
  | .hbm, ⟨16, _⟩ => ⟨S128x1024, .f32⟩
  | .hbm, ⟨17, _⟩ => ⟨S1024x128, .f32⟩
  | .hbm, ⟨18, _⟩ => ⟨S128x1024, .f32⟩
  | .hbm, ⟨19, _⟩ => ⟨S512x1024, .f32⟩
  | .hbm, ⟨20, _⟩ => ⟨S1024x512, .f32⟩
  | .hbm, ⟨21, _⟩ => ⟨S512x1024, .f32⟩
  | .hbm, ⟨22, _⟩ => ⟨S1536x1024, .f32⟩
  | .hbm, ⟨23, _⟩ => ⟨S1024x1536, .f32⟩
  | .hbm, ⟨24, _⟩ => ⟨S1536x1024, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InDwB.lean ====
abbrev S4096x2048 : Shape := ⟨2, ![4096, 2048]⟩
abbrev S4096x512 : Shape := ⟨2, ![4096, 512]⟩
abbrev S4096x1024 : Shape := ⟨2, ![4096, 1024]⟩
abbrev S2048x1024 : Shape := ⟨2, ![2048, 1024]⟩
abbrev S512x1024 : Shape := ⟨2, ![512, 1024]⟩
abbrev S512x2048 : Shape := ⟨2, ![512, 2048]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x1024, .f32⟩
  | .hbm, ⟨3, _⟩ => ⟨S4096x2048, .bf16⟩
  | .hbm, ⟨4, _⟩ => ⟨S4096x512, .bf16⟩
  | .hbm, ⟨5, _⟩ => ⟨S4096x1024, .bf16⟩
  | .hbm, ⟨6, _⟩ => ⟨S2048x1024, .f32⟩
  | .hbm, ⟨7, _⟩ => ⟨S512x1024, .f32⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S2048x1024, .f32⟩
  | .local _ .vmem, ⟨7, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg0 : BitVec 32 := BitVec.ofNat 32 (i 0).val
  let c0_i32_4 : BitVec 32 := 0#32
  let v8 : BitVec 1 := Scalar.cmpi .sgt arg0 c0_i32_4
  let v9 : BitVec 32 := Scalar.extui v8
  let c0_i32_5 : BitVec 32 := 0#32
  let v10 : BitVec 1 := Scalar.cmpi .ne v9 c0_i32_5
  v10

def k0_cond3 (i : grid0.Coords) : BitVec 1 :=
  let arg0 : BitVec 32 := BitVec.ofNat 32 (i 0).val
  let c0_i32_9 : BitVec 32 := 0#32
  let v14 : BitVec 1 := Scalar.cmpi .eq arg0 c0_i32_9
  let v15 : BitVec 32 := Scalar.extui v14
  let c0_i32_10 : BitVec 32 := 0#32
  let v16 : BitVec 1 := Scalar.cmpi .ne v15 c0_i32_10
  v16

def k0_cond4 (i : grid0.Coords) : BitVec 1 :=
  let arg0 : BitVec 32 := BitVec.ofNat 32 (i 0).val
  let c0_i32_11 : BitVec 32 := 0#32
  let v17 : BitVec 1 := Scalar.cmpi .sgt arg0 c0_i32_11
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== InDwBRefIdeal.lean ====
abbrev S4096x2048 : Shape := ⟨2, ![4096, 2048]⟩
abbrev S4096x512 : Shape := ⟨2, ![4096, 512]⟩
abbrev S4096x1024 : Shape := ⟨2, ![4096, 1024]⟩
abbrev S_ : Shape := ⟨0, ![]⟩
abbrev S2048x1024 : Shape := ⟨2, ![2048, 1024]⟩
abbrev S512x1024 : Shape := ⟨2, ![512, 1024]⟩
abbrev S1024x2048 : Shape := ⟨2, ![1024, 2048]⟩
abbrev S1024x512 : Shape := ⟨2, ![1024, 512]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x1024, .f32⟩
  | .hbm, ⟨3, _⟩ => ⟨S_, .f32⟩
  | .hbm, ⟨4, _⟩ => ⟨S2048x1024, .f32⟩
  | .hbm, ⟨5, _⟩ => ⟨S_, .f32⟩
  | .hbm, ⟨6, _⟩ => ⟨S512x1024, .f32⟩
  | .hbm, ⟨7, _⟩ => ⟨S1024x2048, .f32⟩
  | .hbm, ⟨8, _⟩ => ⟨S4096x2048, .f32⟩
  | .hbm, ⟨9, _⟩ => ⟨S1024x512, .f32⟩
  | .hbm, ⟨10, _⟩ => ⟨S4096x512, .f32⟩
  | .hbm, ⟨11, _⟩ => ⟨S512x1024, .f32⟩
  | .hbm, ⟨12, _⟩ => ⟨S1024x512, .f32⟩
  | .hbm, ⟨13, _⟩ => ⟨S512x1024, .f32⟩
  | .hbm, ⟨14, _⟩ => ⟨S2048x1024, .f32⟩
  | .hbm, ⟨15, _⟩ => ⟨S1024x2048, .f32⟩
  | .hbm, ⟨16, _⟩ => ⟨S2048x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== InDx.lean ====
abbrev S4096x1536 : Shape := ⟨2, ![4096, 1536]⟩
abbrev S4096x512 : Shape := ⟨2, ![4096, 512]⟩
abbrev S4096x2048 : Shape := ⟨2, ![4096, 2048]⟩
abbrev S4096x128 : Shape := ⟨2, ![4096, 128]⟩
abbrev S1536x1024 : Shape := ⟨2, ![1536, 1024]⟩
abbrev S512x1024 : Shape := ⟨2, ![512, 1024]⟩
abbrev S2048x1024 : Shape := ⟨2, ![2048, 1024]⟩
abbrev S128x1024 : Shape := ⟨2, ![128, 1024]⟩
abbrev S4096x1024 : Shape := ⟨2, ![4096, 1024]⟩
abbrev S512x1536 : Shape := ⟨2, ![512, 1536]⟩
abbrev S512x512 : Shape := ⟨2, ![512, 512]⟩
abbrev S512x2048 : Shape := ⟨2, ![512, 2048]⟩
abbrev S512x128 : Shape := ⟨2, ![512, 128]⟩

abbrev nBuf : Space → Nat
  | .hbm => 21
  | .vmem => 17
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x2048, .f32⟩
  | .hbm, ⟨3, _⟩ => ⟨S4096x512, .f32⟩
  | .hbm, ⟨4, _⟩ => ⟨S4096x128, .f32⟩
  | .hbm, ⟨5, _⟩ => ⟨S1536x1024, .f32⟩
  | .hbm, ⟨6, _⟩ => ⟨S512x1024, .f32⟩
  | .hbm, ⟨7, _⟩ => ⟨S2048x1024, .f32⟩
  | .hbm, ⟨8, _⟩ => ⟨S512x1024, .f32⟩
  | .hbm, ⟨9, _⟩ => ⟨S128x1024, .f32⟩
  | .hbm, ⟨10, _⟩ => ⟨S4096x1536, .bf16⟩
  | .hbm, ⟨11, _⟩ => ⟨S1536x1024, .bf16⟩
  | .hbm, ⟨12, _⟩ => ⟨S4096x512, .bf16⟩
  | .hbm, ⟨13, _⟩ => ⟨S512x1024, .bf16⟩
  | .hbm, ⟨14, _⟩ => ⟨S4096x2048, .bf16⟩
  | .hbm, ⟨15, _⟩ => ⟨S2048x1024, .bf16⟩
  | .hbm, ⟨16, _⟩ => ⟨S4096x512, .bf16⟩
  | .hbm, ⟨17, _⟩ => ⟨S512x1024, .bf16⟩
  | .hbm, ⟨18, _⟩ => ⟨S4096x128, .bf16⟩
  | .hbm, ⟨19, _⟩ => ⟨S128x1024, .bf16⟩
  | .hbm, ⟨20, _⟩ => ⟨S4096x1024, .f32⟩
  | .local _ .vmem, ⟨0, _⟩ => ⟨S512x1536, .bf16⟩
  | .local _ .vmem, ⟨1, _⟩ => ⟨S512x1536, .bf16⟩
  | .local _ .vmem, ⟨2, _⟩ => ⟨S1536x1024, .bf16⟩
  | .local _ .vmem, ⟨3, _⟩ => ⟨S512x512, .bf16⟩
  | .local _ .vmem, ⟨4, _⟩ => ⟨S512x512, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S2048x1024, .bf16⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x128, .bf16⟩
  | .local _ .vmem, ⟨13, _⟩ => ⟨S512x128, .bf16⟩
  | .local _ .vmem, ⟨14, _⟩ => ⟨S128x1024, .bf16⟩
  | .local _ .vmem, ⟨15, _⟩ => ⟨S512x1024, .f32⟩
  | .local _ .vmem, ⟨16, _⟩ => ⟨S512x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InDxRefIdeal.lean ====
abbrev S4096x1536 : Shape := ⟨2, ![4096, 1536]⟩
abbrev S4096x512 : Shape := ⟨2, ![4096, 512]⟩
abbrev S4096x2048 : Shape := ⟨2, ![4096, 2048]⟩
abbrev S4096x128 : Shape := ⟨2, ![4096, 128]⟩
abbrev S1536x1024 : Shape := ⟨2, ![1536, 1024]⟩
abbrev S512x1024 : Shape := ⟨2, ![512, 1024]⟩
abbrev S2048x1024 : Shape := ⟨2, ![2048, 1024]⟩
abbrev S128x1024 : Shape := ⟨2, ![128, 1024]⟩
abbrev S_ : Shape := ⟨0, ![]⟩
abbrev S4096x1024 : Shape := ⟨2, ![4096, 1024]⟩
abbrev S1024x1536 : Shape := ⟨2, ![1024, 1536]⟩
abbrev S1024x512 : Shape := ⟨2, ![1024, 512]⟩
abbrev S1024x2048 : Shape := ⟨2, ![1024, 2048]⟩
abbrev S1024x128 : Shape := ⟨2, ![1024, 128]⟩

abbrev nBuf : Space → Nat
  | .hbm => 31
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x2048, .f32⟩
  | .hbm, ⟨3, _⟩ => ⟨S4096x512, .f32⟩
  | .hbm, ⟨4, _⟩ => ⟨S4096x128, .f32⟩
  | .hbm, ⟨5, _⟩ => ⟨S1536x1024, .f32⟩
  | .hbm, ⟨6, _⟩ => ⟨S512x1024, .f32⟩
  | .hbm, ⟨7, _⟩ => ⟨S2048x1024, .f32⟩
  | .hbm, ⟨8, _⟩ => ⟨S512x1024, .f32⟩
  | .hbm, ⟨9, _⟩ => ⟨S128x1024, .f32⟩
  | .hbm, ⟨10, _⟩ => ⟨S_, .f32⟩
  | .hbm, ⟨11, _⟩ => ⟨S4096x1024, .f32⟩
  | .hbm, ⟨12, _⟩ => ⟨S1024x1536, .f32⟩
  | .hbm, ⟨13, _⟩ => ⟨S4096x1536, .f32⟩
  | .hbm, ⟨14, _⟩ => ⟨S1024x512, .f32⟩
  | .hbm, ⟨15, _⟩ => ⟨S4096x512, .f32⟩
  | .hbm, ⟨16, _⟩ => ⟨S1024x2048, .f32⟩
  | .hbm, ⟨17, _⟩ => ⟨S4096x2048, .f32⟩
  | .hbm, ⟨18, _⟩ => ⟨S1024x512, .f32⟩
  | .hbm, ⟨19, _⟩ => ⟨S4096x512, .f32⟩
  | .hbm, ⟨20, _⟩ => ⟨S1024x128, .f32⟩
  | .hbm, ⟨21, _⟩ => ⟨S4096x128, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Branch.lean ====
abbrev S4096x512 : Shape := ⟨2, ![4096, 512]⟩
abbrev S1024x512 : Shape := ⟨2, ![1024, 512]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S1024x512, .f32⟩
  | .hbm, ⟨2, _⟩ => ⟨S4096x512, .bf16⟩
  | .hbm, ⟨3, _⟩ => ⟨S1024x512, .bf16⟩
  | .hbm, ⟨4, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S4096x512 : Shape := ⟨2, ![4096, 512]⟩
abbrev S1024x512 : Shape := ⟨2, ![1024, 512]⟩
abbrev S512x1024 : Shape := ⟨2, ![512, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1024x512, .f32⟩
  | .hbm, ⟨2, _⟩ => ⟨S512x1024, .f32⟩
  | .hbm, ⟨3, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== BranchDw.lean ====
abbrev S4096x1024 : Shape := ⟨2, ![4096, 1024]⟩
abbrev S4096x512 : Shape := ⟨2, ![4096, 512]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .bf16⟩
  | .hbm, ⟨3, _⟩ => ⟨S4096x512, .bf16⟩
  | .hbm, ⟨4, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwRefIdeal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S_, .f32⟩
  | .hbm, ⟨3, _⟩ => ⟨S1024x512, .f32⟩
  | .hbm, ⟨4, _⟩ => ⟨S512x1024, .f32⟩
  | .hbm, ⟨5, _⟩ => ⟨S4096x1024, .f32⟩
  | .hbm, ⟨6, _⟩ => ⟨S1024x512, .f32⟩
  | .hbm, ⟨7, _⟩ => ⟨S512x1024, .f32⟩
  | .hbm, ⟨8, _⟩ => ⟨S1024x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchDx.lean ====
abbrev S4096x1024 : Shape := ⟨2, ![4096, 1024]⟩
abbrev S1024x512 : Shape := ⟨2, ![1024, 512]⟩
abbrev S4096x512 : Shape := ⟨2, ![4096, 512]⟩
abbrev S2048x512 : Shape := ⟨2, ![2048, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S4096x1024, .bf16⟩
  | .hbm, ⟨3, _⟩ => ⟨S1024x512, .bf16⟩
  | .hbm, ⟨4, _⟩ => ⟨S4096x512, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S4096x1024 : Shape := ⟨2, ![4096, 1024]⟩
abbrev S1024x512 : Shape := ⟨2, ![1024, 512]⟩
abbrev S_ : Shape := ⟨0, ![]⟩
abbrev S4096x512 : Shape := ⟨2, ![4096, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x512, .f32⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S2048x512, .f32⟩
  | .local _ .vmem, ⟨1, _⟩ => ⟨S2048x512, .f32⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== QueryDw.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QueryDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QueryDx.lean ====
abbrev S4096x1024 : Shape := ⟨2, ![4096, 1024]⟩
abbrev S1024x1024 : Shape := ⟨2, ![1024, 1024]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MemKv.lean ====
abbrev S256x1024 : Shape := ⟨2, ![256, 1024]⟩
abbrev S1024x1024 : Shape := ⟨2, ![1024, 1024]⟩
abbrev S256x512 : Shape := ⟨2, ![256, 512]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .bf16⟩
  | .hbm, ⟨3, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S512x1024, .bf16⟩
  | .local _ .vmem, ⟨3, _⟩ => ⟨S512x1024, .bf16⟩
  | .local _ .vmem, ⟨4, _⟩ => ⟨S256x1024, .f32⟩
  | .local _ .vmem, ⟨5, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvRefIdeal.lean ====
abbrev S256x1024 : Shape := ⟨2, ![256, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MemDw.lean ====
abbrev S256x1024 : Shape := ⟨2, ![256, 1024]⟩
abbrev S1024x1024 : Shape := ⟨2, ![1024, 1024]⟩
abbrev S256x512 : Shape := ⟨2, ![256, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1024x1024, .f32⟩
  | .local _ .vmem, ⟨0, _⟩ => ⟨S256x1024, .f32⟩
  | .local _ .vmem, ⟨1, _⟩ => ⟨S256x512, .f32⟩
  | .local _ .vmem, ⟨2, _⟩ => ⟨S256x512, .f32⟩
  | .local _ .vmem, ⟨3, _⟩ => ⟨S1024x512, .f32⟩
  | .local _ .vmem, ⟨4, _⟩ => ⟨S1024x512, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemDwRefIdeal.lean ====
abbrev S256x1024 : Shape := ⟨2, ![256, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S_, .f32⟩
  | .hbm, ⟨3, _⟩ => ⟨S1024x1024, .f32⟩
  | .hbm, ⟨4, _⟩ => ⟨S256x1024, .f32⟩
  | .hbm, ⟨5, _⟩ => ⟨S1024x1024, .f32⟩
  | .hbm, ⟨6, _⟩ => ⟨S1024x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MemDk.lean ====
abbrev S256x1024 : Shape := ⟨2, ![256, 1024]⟩
abbrev S1024x1024 : Shape := ⟨2, ![1024, 1024]⟩
abbrev S256x512 : Shape := ⟨2, ![256, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .bf16⟩
  | .hbm, ⟨3, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S1024x512, .bf16⟩
  | .local _ .vmem, ⟨3, _⟩ => ⟨S1024x512, .bf16⟩
  | .local _ .vmem, ⟨4, _⟩ => ⟨S256x1024, .f32⟩
  | .local _ .vmem, ⟨5, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemDkRefIdeal.lean ====
abbrev S256x1024 : Shape := ⟨2, ![256, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S_, .f32⟩
  | .hbm, ⟨3, _⟩ => ⟨S256x1024, .f32⟩
  | .hbm, ⟨4, _⟩ => ⟨S256x1024, .f32⟩
  | .hbm, ⟨5, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MemDv.lean ====
abbrev S256x1024 : Shape := ⟨2, ![256, 1024]⟩
abbrev S1024x1024 : Shape := ⟨2, ![1024, 1024]⟩
abbrev S256x512 : Shape := ⟨2, ![256, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S1024x1024, .bf16⟩
  | .hbm, ⟨4, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S1024x512, .bf16⟩
  | .local _ .vmem, ⟨3, _⟩ => ⟨S1024x512, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v8 : BitVec 1 := Scalar.cmpi .eq arg2 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== MemDvRefIdeal.lean ====
abbrev S256x1024 : Shape := ⟨2, ![256, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S_, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== AdamFfn.lean ====
abbrev S352x1024 : Shape := ⟨2, ![352, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnIdeal.lean ====
abbrev S352x1024 : Shape := ⟨2, ![352, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnRefIdeal.lean ====
abbrev S352x1024 : Shape := ⟨2, ![352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S_, .f32⟩
  | .hbm, ⟨5, _⟩ => ⟨S352x1024, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S577x1024 : Shape := ⟨2, ![577, 1024]⟩

abbrev nBuf : Space → Nat
  | .hbm => 7
  | .vmem => 7
  | .smem => 0
  | _ => 0

abbrev bufTy : (tb : Table) → Fin (tcTables nBuf tb) → BufTy
  | .hbm, ⟨0, _⟩ => ⟨S577x1024, .f32⟩
  | .hbm, ⟨1, _⟩ => ⟨S577x1024, .f32⟩
  | .hbm, ⟨2, _⟩ => ⟨S577x1024, .f32⟩
  | .hbm, ⟨3, _⟩ => ⟨S577x1024, .f32⟩
  | .hbm, ⟨4, _⟩ => ⟨S577x1024, .f32⟩
  | .hbm, ⟨5, _⟩ => ⟨S577x1024, .f32⟩
  | .hbm, ⟨6, _⟩ => ⟨S577x1024, .f32⟩
  | .local _ .vmem, ⟨0, _⟩ => ⟨S577x1024, .f32⟩
  | .local _ .vmem, ⟨1, _⟩ => ⟨S577x1024, .f32⟩
  | .local _ .vmem, ⟨2, _⟩ => ⟨S577x1024, .f32⟩
  | .local _ .vmem, ⟨3, _⟩ => ⟨S577x1024, .f32⟩
  | .local _ .vmem, ⟨4, _⟩ => ⟨S577x1024, .f32⟩
  | .local _ .vmem, ⟨5, _⟩ => ⟨S577x1024, .f32⟩
  | .local _ .vmem, ⟨6, _⟩ => ⟨S577x1024, .f32⟩
  | _, _ => ⟨S577x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S577x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S577x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S577x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S577x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S577x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S577x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S577x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamInIdeal.lean ====
abbrev S577x1024 : Shape := ⟨2, ![577, 1024]⟩

abbrev nBuf : Space → Nat
  | .hbm => 7
  | .vmem => 7
  | .smem => 0
  | _ => 0

abbrev bufTy : (tb : Table) → Fin (tcTables nBuf tb) → BufTy
  | .hbm, ⟨0, _⟩ => ⟨S577x1024, .f32⟩
  | .hbm, ⟨1, _⟩ => ⟨S577x1024, .f32⟩
  | .hbm, ⟨2, _⟩ => ⟨S577x1024, .f32⟩
  | .hbm, ⟨3, _⟩ => ⟨S577x1024, .f32⟩
  | .hbm, ⟨4, _⟩ => ⟨S577x1024, .f32⟩
  | .hbm, ⟨5, _⟩ => ⟨S577x1024, .f32⟩
  | .hbm, ⟨6, _⟩ => ⟨S577x1024, .f32⟩
  | .local _ .vmem, ⟨0, _⟩ => ⟨S577x1024, .f32⟩
  | .local _ .vmem, ⟨1, _⟩ => ⟨S577x1024, .f32⟩
  | .local _ .vmem, ⟨2, _⟩ => ⟨S577x1024, .f32⟩
  | .local _ .vmem, ⟨3, _⟩ => ⟨S577x1024, .f32⟩
  | .local _ .vmem, ⟨4, _⟩ => ⟨S577x1024, .f32⟩
  | .local _ .vmem, ⟨5, _⟩ => ⟨S577x1024, .f32⟩
  | .local _ .vmem, ⟨6, _⟩ => ⟨S577x1024, .f32⟩
  | _, _ => ⟨S577x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S577x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S577x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S577x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S577x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S577x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S577x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S577x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamInRefIdeal.lean ====
abbrev S577x1024 : Shape := ⟨2, ![577, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S577x1024, .f32⟩
  | .hbm, ⟨1, _⟩ => ⟨S577x1024, .f32⟩
  | .hbm, ⟨2, _⟩ => ⟨S577x1024, .f32⟩
  | .hbm, ⟨3, _⟩ => ⟨S577x1024, .f32⟩
  | .hbm, ⟨4, _⟩ => ⟨S_, .f32⟩
  | .hbm, ⟨5, _⟩ => ⟨S577x1024, .f32⟩
  | .hbm, ⟨6, _⟩ => ⟨S577x1024, .f32⟩
  | .hbm, ⟨7, _⟩ => ⟨S_, .f32⟩
  | .hbm, ⟨8, _⟩ => ⟨S577x1024, .f32⟩
  | .hbm, ⟨9, _⟩ => ⟨S577x1024, .f32⟩
  | .hbm, ⟨10, _⟩ => ⟨S577x1024, .f32⟩
  | .hbm, ⟨11, _⟩ => ⟨S_, .f32⟩
  | .hbm, ⟨12, _⟩ => ⟨S577x1024, .f32⟩
  | .hbm, ⟨13, _⟩ => ⟨S577x1024, .f32⟩
  | .hbm, ⟨14, _⟩ => ⟨S577x1024, .f32⟩
  | .hbm, ⟨15, _⟩ => ⟨S_, .f32⟩
  | .hbm, ⟨16, _⟩ => ⟨S577x1024, .f32⟩
  | .hbm, ⟨17, _⟩ => ⟨S577x1024, .f32⟩
  | .hbm, ⟨18, _⟩ => ⟨S577x1024, .f32⟩
  | .hbm, ⟨19, _⟩ => ⟨S_, .f32⟩
  | .hbm, ⟨20, _⟩ => ⟨S577x1024, .f32⟩
  | .hbm, ⟨21, _⟩ => ⟨S577x1024, .f32⟩
  | .hbm, ⟨22, _⟩ => ⟨S_, .f32⟩
  | .hbm, ⟨23, _⟩ => ⟨S577x1024, .f32⟩
  | .hbm, ⟨24, _⟩ => ⟨S577x1024, .f32⟩
  | .hbm, ⟨25, _⟩ => ⟨S577x1024, .f32⟩
  | .hbm, ⟨26, _⟩ => ⟨S_, .f32⟩
  | .hbm, ⟨27, _⟩ => ⟨S577x1024, .f32⟩
  | .hbm, ⟨28, _⟩ => ⟨S577x1024, .f32⟩
  | .hbm, ⟨29, _⟩ => ⟨S577x1024, .f32⟩
  | .hbm, ⟨30, _⟩ => ⟨S_, .f32⟩
  | .hbm, ⟨31, _⟩ => ⟨S577x1024, .f32⟩
  | .hbm, ⟨32, _⟩ => ⟨S577x1024, .f32⟩
  | .hbm, ⟨33, _⟩ => ⟨S577x1024, .f32⟩
  | .hbm, ⟨34, _⟩ => ⟨S_, .f32⟩
  | .hbm, ⟨35, _⟩ => ⟨S577x1024, .f32⟩
  | .hbm, ⟨36, _⟩ => ⟨S577x1024, .f32⟩
  | _, _ => ⟨S577x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S4x192 : Shape := ⟨2, ![4, 192]⟩

abbrev nBuf : Space → Nat
  | .hbm => 7
  | .vmem => 7
  | .smem => 0
  | _ => 0

abbrev bufTy : (tb : Table) → Fin (tcTables nBuf tb) → BufTy
  | .hbm, ⟨0, _⟩ => ⟨S4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S4x192, .f32⟩
  | .hbm, ⟨5, _⟩ => ⟨S4x192, .f32⟩
  | .hbm, ⟨6, _⟩ => ⟨S4x192, .f32⟩
  | .local _ .vmem, ⟨0, _⟩ => ⟨S4x192, .f32⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | _, _ => ⟨S4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S4x192 : Shape := ⟨2, ![4, 192]⟩

abbrev nBuf : Space → Nat
  | .hbm => 7
  | .vmem => 7
  | .smem => 0
  | _ => 0

abbrev bufTy : (tb : Table) → Fin (tcTables nBuf tb) → BufTy
  | .hbm, ⟨0, _⟩ => ⟨S4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S4x192, .f32⟩
  | .hbm, ⟨5, _⟩ => ⟨S4x192, .f32⟩
  | .hbm, ⟨6, _⟩ => ⟨S4x192, .f32⟩
  | .local _ .vmem, ⟨0, _⟩ => ⟨S4x192, .f32⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | _, _ => ⟨S4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S4x192 : Shape := ⟨2, ![4, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S_, .f32⟩
  | .hbm, ⟨5, _⟩ => ⟨S4x192, .f32⟩
  | .hbm, ⟨6, _⟩ => ⟨S4x192, .f32⟩
  | .hbm, ⟨7, _⟩ => ⟨S_, .f32⟩
  | .hbm, ⟨8, _⟩ => ⟨S4x192, .f32⟩
  | .hbm, ⟨9, _⟩ => ⟨S4x192, .f32⟩
  | .hbm, ⟨10, _⟩ => ⟨S4x192, .f32⟩
  | .hbm, ⟨11, _⟩ => ⟨S_, .f32⟩
  | .hbm, ⟨12, _⟩ => ⟨S4x192, .f32⟩
  | .hbm, ⟨13, _⟩ => ⟨S4x192, .f32⟩
  | .hbm, ⟨14, _⟩ => ⟨S4x192, .f32⟩
  | .hbm, ⟨15, _⟩ => ⟨S_, .f32⟩
  | .hbm, ⟨16, _⟩ => ⟨S4x192, .f32⟩
  | .hbm, ⟨17, _⟩ => ⟨S4x192, .f32⟩
  | .hbm, ⟨18, _⟩ => ⟨S4x192, .f32⟩
  | .hbm, ⟨19, _⟩ => ⟨S_, .f32⟩
  | .hbm, ⟨20, _⟩ => ⟨S4x192, .f32⟩
  | .hbm, ⟨21, _⟩ => ⟨S4x192, .f32⟩
  | .hbm, ⟨22, _⟩ => ⟨S_, .f32⟩
  | .hbm, ⟨23, _⟩ => ⟨S4x192, .f32⟩
  | .hbm, ⟨24, _⟩ => ⟨S4x192, .f32⟩
  | .hbm, ⟨25, _⟩ => ⟨S4x192, .f32⟩
  | .hbm, ⟨26, _⟩ => ⟨S_, .f32⟩
  | .hbm, ⟨27, _⟩ => ⟨S4x192, .f32⟩
  | .hbm, ⟨28, _⟩ => ⟨S4x192, .f32⟩
  | .hbm, ⟨29, _⟩ => ⟨S4x192, .f32⟩
  | .hbm, ⟨30, _⟩ => ⟨S_, .f32⟩
  | .hbm, ⟨31, _⟩ => ⟨S4x192, .f32⟩
  | .hbm, ⟨32, _⟩ => ⟨S4x192, .f32⟩
  | .hbm, ⟨33, _⟩ => ⟨S4x192, .f32⟩
  | .hbm, ⟨34, _⟩ => ⟨S_, .f32⟩
  | .hbm, ⟨35, _⟩ => ⟨S4x192, .f32⟩
  | .hbm, ⟨36, _⟩ => ⟨S4x192, .f32⟩
  | _, _ => ⟨S4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBranch.lean ====
abbrev S512x128 : Shape := ⟨2, ![512, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchIdeal.lean ====
abbrev S512x128 : Shape := ⟨2, ![512, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBranchRefIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquare.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareIdeal.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSquareRefIdeal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLn.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLnIdeal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLnRefIdeal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamScale.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamScaleIdeal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamScaleRefIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRefIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHead.lean ====
abbrev S1x4 : Shape := ⟨2, ![1, 4]⟩

abbrev nBuf : Space → Nat
  | .hbm => 7
  | .vmem => 7
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x4, .f32⟩
  | .hbm, ⟨3, _⟩ => ⟨S1x4, .f32⟩
  | .hbm, ⟨4, _⟩ => ⟨S1x4, .f32⟩
  | .hbm, ⟨5, _⟩ => ⟨S1x4, .f32⟩
  | .hbm, ⟨6, _⟩ => ⟨S1x4, .f32⟩
  | .local _ .vmem, ⟨0, _⟩ => ⟨S1x4, .f32⟩
  | .local _ .vmem, ⟨1, _⟩ => ⟨S1x4, .f32⟩
  | .local _ .vmem, ⟨2, _⟩ => ⟨S1x4, .f32⟩
  | .local _ .vmem, ⟨3, _⟩ => ⟨S1x4, .f32⟩
  | .local _ .vmem, ⟨4, _⟩ => ⟨S1x4, .f32⟩
  | .local _ .vmem, ⟨5, _⟩ => ⟨S1x4, .f32⟩
  | .local _ .vmem, ⟨6, _⟩ => ⟨S1x4, .f32⟩
  | _, _ => ⟨S1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadRefIdeal.lean ====
abbrev S1x4 : Shape := ⟨2, ![1, 4]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S1x4, .f32⟩
  | .hbm, ⟨3, _⟩ => ⟨S1x4, .f32⟩
  | .hbm, ⟨4, _⟩ => ⟨S_, .f32⟩
  | .hbm, ⟨5, _⟩ => ⟨S1x4, .f32⟩
  | .hbm, ⟨6, _⟩ => ⟨S1x4, .f32⟩
  | .hbm, ⟨7, _⟩ => ⟨S_, .f32⟩
  | .hbm, ⟨8, _⟩ => ⟨S1x4, .f32⟩
  | .hbm, ⟨9, _⟩ => ⟨S1x4, .f32⟩
  | .hbm, ⟨10, _⟩ => ⟨S1x4, .f32⟩
  | .hbm, ⟨11, _⟩ => ⟨S_, .f32⟩
  | .hbm, ⟨12, _⟩ => ⟨S1x4, .f32⟩
  | .hbm, ⟨13, _⟩ => ⟨S1x4, .f32⟩
  | .hbm, ⟨14, _⟩ => ⟨S1x4, .f32⟩
  | .hbm, ⟨15, _⟩ => ⟨S_, .f32⟩
  | .hbm, ⟨16, _⟩ => ⟨S1x4, .f32⟩
  | .hbm, ⟨17, _⟩ => ⟨S1x4, .f32⟩
  | .hbm, ⟨18, _⟩ => ⟨S1x4, .f32⟩
  | .hbm, ⟨19, _⟩ => ⟨S_, .f32⟩
  | .hbm, ⟨20, _⟩ => ⟨S1x4, .f32⟩
  | .hbm, ⟨21, _⟩ => ⟨S1x4, .f32⟩
  | .hbm, ⟨22, _⟩ => ⟨S_, .f32⟩
  | .hbm, ⟨23, _⟩ => ⟨S1x4, .f32⟩
  | .hbm, ⟨24, _⟩ => ⟨S1x4, .f32⟩
  | .hbm, ⟨25, _⟩ => ⟨S1x4, .f32⟩
  | .hbm, ⟨26, _⟩ => ⟨S_, .f32⟩
  | .hbm, ⟨27, _⟩ => ⟨S1x4, .f32⟩
  | .hbm, ⟨28, _⟩ => ⟨S1x4, .f32⟩
  | .hbm, ⟨29, _⟩ => ⟨S1x4, .f32⟩
  | .hbm, ⟨30, _⟩ => ⟨S_, .f32⟩
  | .hbm, ⟨31, _⟩ => ⟨S1x4, .f32⟩
  | .hbm, ⟨32, _⟩ => ⟨S1x4, .f32⟩
  | .hbm, ⟨33, _⟩ => ⟨S1x4, .f32⟩
  | .hbm, ⟨34, _⟩ => ⟨S_, .f32⟩
  | .hbm, ⟨35, _⟩ => ⟨S1x4, .f32⟩
  | .hbm, ⟨36, _⟩ => ⟨S1x4, .f32⟩
  | _, _ => ⟨S1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumGate.lean ====
abbrev S352x1024 : Shape := ⟨2, ![352, 1024]⟩
abbrev S7x352x1024 : Shape := ⟨3, ![7, 352, 1024]⟩
abbrev S1x352x1024 : Shape := ⟨3, ![1, 352, 1024]⟩
abbrev S1024x352 : Shape := ⟨2, ![1024, 352]⟩
abbrev S1x1024x352 : Shape := ⟨3, ![1, 1024, 352]⟩

abbrev nBuf : Space → Nat
  | .hbm => 6
  | .vmem => 3
  | .smem => 0
  | _ => 0

abbrev bufTy : (tb : Table) → Fin (tcTables nBuf tb) → BufTy
  | .hbm, ⟨0, _⟩ => ⟨S352x1024, .f32⟩
  | .hbm, ⟨1, _⟩ => ⟨S7x352x1024, .f32⟩
  | .hbm, ⟨2, _⟩ => ⟨S7x352x1024, .bf16⟩
  | .hbm, ⟨3, _⟩ => ⟨S352x1024, .f32⟩
  | .hbm, ⟨4, _⟩ => ⟨S1024x352, .f32⟩
  | .hbm, ⟨5, _⟩ => ⟨S1x1024x352, .f32⟩
  | .local _ .vmem, ⟨0, _⟩ => ⟨S352x1024, .f32⟩
  | .local _ .vmem, ⟨1, _⟩ => ⟨S7x352x1024, .bf16⟩
  | .local _ .vmem, ⟨2, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumGateRefIdeal.lean ====
abbrev S352x1024 : Shape := ⟨2, ![352, 1024]⟩
abbrev S7x352x1024 : Shape := ⟨3, ![7, 352, 1024]⟩
abbrev S_ : Shape := ⟨0, ![]⟩
abbrev S1024x352 : Shape := ⟨2, ![1024, 352]⟩
abbrev S1x1024x352 : Shape := ⟨3, ![1, 1024, 352]⟩

abbrev nBuf : Space → Nat
  | .hbm => 7
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S7x352x1024, .f32⟩
  | .hbm, ⟨2, _⟩ => ⟨S_, .f32⟩
  | .hbm, ⟨3, _⟩ => ⟨S352x1024, .f32⟩
  | .hbm, ⟨4, _⟩ => ⟨S352x1024, .f32⟩
  | .hbm, ⟨5, _⟩ => ⟨S1024x352, .f32⟩
  | .hbm, ⟨6, _⟩ => ⟨S1x1024x352, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SumDown.lean ====
abbrev S352x1024 : Shape := ⟨2, ![352, 1024]⟩
abbrev S7x352x1024 : Shape := ⟨3, ![7, 352, 1024]⟩
abbrev S1x352x1024 : Shape := ⟨3, ![1, 352, 1024]⟩

abbrev nBuf : Space → Nat
  | .hbm => 5
  | .vmem => 3
  | .smem => 0
  | _ => 0

abbrev bufTy : (tb : Table) → Fin (tcTables nBuf tb) → BufTy
  | .hbm, ⟨0, _⟩ => ⟨S352x1024, .f32⟩
  | .hbm, ⟨1, _⟩ => ⟨S7x352x1024, .f32⟩
  | .hbm, ⟨2, _⟩ => ⟨S7x352x1024, .bf16⟩
  | .hbm, ⟨3, _⟩ => ⟨S352x1024, .f32⟩
  | .hbm, ⟨4, _⟩ => ⟨S1x352x1024, .f32⟩
  | .local _ .vmem, ⟨0, _⟩ => ⟨S352x1024, .f32⟩
  | .local _ .vmem, ⟨1, _⟩ => ⟨S7x352x1024, .bf16⟩
  | .local _ .vmem, ⟨2, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumDownRefIdeal.lean ====
abbrev S352x1024 : Shape := ⟨2, ![352, 1024]⟩
abbrev S7x352x1024 : Shape := ⟨3, ![7, 352, 1024]⟩
abbrev S_ : Shape := ⟨0, ![]⟩
abbrev S1x352x1024 : Shape := ⟨3, ![1, 352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S7x352x1024, .f32⟩
  | .hbm, ⟨2, _⟩ => ⟨S_, .f32⟩
  | .hbm, ⟨3, _⟩ => ⟨S352x1024, .f32⟩
  | .hbm, ⟨4, _⟩ => ⟨S352x1024, .f32⟩
  | .hbm, ⟨5, _⟩ => ⟨S1x352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumFfn.lean ====
abbrev S1056x1024 : Shape := ⟨2, ![1056, 1024]⟩
abbrev S7x1056x1024 : Shape := ⟨3, ![7, 1056, 1024]⟩
abbrev S352x1024 : Shape := ⟨2, ![352, 1024]⟩
abbrev S7x352x1024 : Shape := ⟨3, ![7, 352, 1024]⟩
abbrev S1x352x1024 : Shape := ⟨3, ![1, 352, 1024]⟩
abbrev S1024x352 : Shape := ⟨2, ![1024, 352]⟩
abbrev S1x1024x352 : Shape := ⟨3, ![1, 1024, 352]⟩

abbrev nBuf : Space → Nat
  | .hbm => 12
  | .vmem => 6
  | .smem => 0
  | _ => 0

abbrev bufTy : (tb : Table) → Fin (tcTables nBuf tb) → BufTy
  | .hbm, ⟨0, _⟩ => ⟨S1056x1024, .f32⟩
  | .hbm, ⟨1, _⟩ => ⟨S7x1056x1024, .f32⟩
  | .hbm, ⟨2, _⟩ => ⟨S7x1056x1024, .bf16⟩
  | .hbm, ⟨3, _⟩ => ⟨S1056x1024, .f32⟩
  | .hbm, ⟨4, _⟩ => ⟨S352x1024, .f32⟩
  | .hbm, ⟨5, _⟩ => ⟨S1024x352, .f32⟩
  | .hbm, ⟨6, _⟩ => ⟨S1x1024x352, .f32⟩
  | .hbm, ⟨7, _⟩ => ⟨S352x1024, .f32⟩
  | .hbm, ⟨8, _⟩ => ⟨S1024x352, .f32⟩
  | .hbm, ⟨9, _⟩ => ⟨S1x1024x352, .f32⟩
  | .hbm, ⟨10, _⟩ => ⟨S352x1024, .f32⟩
  | .hbm, ⟨11, _⟩ => ⟨S1x352x1024, .f32⟩
  | .local _ .vmem, ⟨0, _⟩ => ⟨S352x1024, .f32⟩
  | .local _ .vmem, ⟨1, _⟩ => ⟨S352x1024, .f32⟩
  | .local _ .vmem, ⟨2, _⟩ => ⟨S7x352x1024, .bf16⟩
  | .local _ .vmem, ⟨3, _⟩ => ⟨S7x352x1024, .bf16⟩
  | .local _ .vmem, ⟨4, _⟩ => ⟨S352x1024, .f32⟩
  | .local _ .vmem, ⟨5, _⟩ => ⟨S352x1024, .f32⟩
  | _, _ => ⟨S1056x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumFfnRefIdeal.lean ====
abbrev S1056x1024 : Shape := ⟨2, ![1056, 1024]⟩
abbrev S7x1056x1024 : Shape := ⟨3, ![7, 1056, 1024]⟩
abbrev S_ : Shape := ⟨0, ![]⟩
abbrev S352x1024 : Shape := ⟨2, ![352, 1024]⟩
abbrev S1024x352 : Shape := ⟨2, ![1024, 352]⟩
abbrev S1x1024x352 : Shape := ⟨3, ![1, 1024, 352]⟩
abbrev S1x352x1024 : Shape := ⟨3, ![1, 352, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1056x1024, .f32⟩
  | .hbm, ⟨1, _⟩ => ⟨S7x1056x1024, .f32⟩
  | .hbm, ⟨2, _⟩ => ⟨S_, .f32⟩
  | .hbm, ⟨3, _⟩ => ⟨S1056x1024, .f32⟩
  | .hbm, ⟨4, _⟩ => ⟨S1056x1024, .f32⟩
  | .hbm, ⟨5, _⟩ => ⟨S352x1024, .f32⟩
  | .hbm, ⟨6, _⟩ => ⟨S1024x352, .f32⟩
  | .hbm, ⟨7, _⟩ => ⟨S1x1024x352, .f32⟩
  | .hbm, ⟨8, _⟩ => ⟨S352x1024, .f32⟩
  | .hbm, ⟨9, _⟩ => ⟨S1024x352, .f32⟩
  | .hbm, ⟨10, _⟩ => ⟨S1x1024x352, .f32⟩
  | .hbm, ⟨11, _⟩ => ⟨S352x1024, .f32⟩
  | .hbm, ⟨12, _⟩ => ⟨S1x352x1024, .f32⟩
  | _, _ => ⟨S1056x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== SumMixer.lean ====
abbrev S1024x1024 : Shape := ⟨2, ![1024, 1024]⟩
abbrev S7x1024x1024 : Shape := ⟨3, ![7, 1024, 1024]⟩
abbrev S512x1024 : Shape := ⟨2, ![512, 1024]⟩
abbrev S7x512x1024 : Shape := ⟨3, ![7, 512, 1024]⟩
abbrev S1x512x1024 : Shape := ⟨3, ![1, 512, 1024]⟩
abbrev S577x1024 : Shape := ⟨2, ![577, 1024]⟩
abbrev S1024x577 : Shape := ⟨2, ![1024, 577]⟩
abbrev S1x1024x577 : Shape := ⟨3, ![1, 1024, 577]⟩
abbrev S1x768 : Shape := ⟨2, ![1, 768]⟩
abbrev S768 : Shape := ⟨1, ![768]⟩
abbrev S4x192 : Shape := ⟨2, ![4, 192]⟩
abbrev S1x4x192 : Shape := ⟨3, ![1, 4, 192]⟩
abbrev S128x512 : Shape := ⟨2, ![128, 512]⟩
abbrev S512x128 : Shape := ⟨2, ![512, 128]⟩
abbrev S1x512x128 : Shape := ⟨3, ![1, 512, 128]⟩
abbrev S128x1024 : Shape := ⟨2, ![128, 1024]⟩
abbrev S1x128x1024 : Shape := ⟨3, ![1, 128, 1024]⟩

abbrev nBuf : Space → Nat
  | .hbm => 19
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S7x1024x1024, .f32⟩
  | .hbm, ⟨2, _⟩ => ⟨S7x1024x1024, .bf16⟩
  | .hbm, ⟨3, _⟩ => ⟨S1024x1024, .f32⟩
  | .hbm, ⟨4, _⟩ => ⟨S577x1024, .f32⟩
  | .hbm, ⟨5, _⟩ => ⟨S1024x577, .f32⟩
  | .hbm, ⟨6, _⟩ => ⟨S1x1024x577, .f32⟩
  | .hbm, ⟨7, _⟩ => ⟨S1x768, .f32⟩
  | .hbm, ⟨8, _⟩ => ⟨S768, .f32⟩
  | .hbm, ⟨9, _⟩ => ⟨S4x192, .f32⟩
  | .hbm, ⟨10, _⟩ => ⟨S1x4x192, .f32⟩
  | .hbm, ⟨11, _⟩ => ⟨S128x512, .f32⟩
  | .hbm, ⟨12, _⟩ => ⟨S512x128, .f32⟩
  | .hbm, ⟨13, _⟩ => ⟨S1x512x128, .f32⟩
  | .hbm, ⟨14, _⟩ => ⟨S128x512, .f32⟩
  | .hbm, ⟨15, _⟩ => ⟨S512x128, .f32⟩
  | .hbm, ⟨16, _⟩ => ⟨S1x512x128, .f32⟩
  | .hbm, ⟨17, _⟩ => ⟨S128x1024, .f32⟩
  | .hbm, ⟨18, _⟩ => ⟨S1x128x1024, .f32⟩
  | .local _ .vmem, ⟨0, _⟩ => ⟨S512x1024, .f32⟩
  | .local _ .vmem, ⟨1, _⟩ => ⟨S512x1024, .f32⟩
  | .local _ .vmem, ⟨2, _⟩ => ⟨S7x512x1024, .bf16⟩
  | .local _ .vmem, ⟨3, _⟩ => ⟨S7x512x1024, .bf16⟩
  | .local _ .vmem, ⟨4, _⟩ => ⟨S512x1024, .f32⟩
  | .local _ .vmem, ⟨5, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumMixerRefIdeal.lean ====
abbrev S1024x1024 : Shape := ⟨2, ![1024, 1024]⟩
abbrev S7x1024x1024 : Shape := ⟨3, ![7, 1024, 1024]⟩
abbrev S_ : Shape := ⟨0, ![]⟩
abbrev S577x1024 : Shape := ⟨2, ![577, 1024]⟩
abbrev S1024x577 : Shape := ⟨2, ![1024, 577]⟩
abbrev S1x1024x577 : Shape := ⟨3, ![1, 1024, 577]⟩
abbrev S1x768 : Shape := ⟨2, ![1, 768]⟩
abbrev S768 : Shape := ⟨1, ![768]⟩
abbrev S4x192 : Shape := ⟨2, ![4, 192]⟩
abbrev S1x4x192 : Shape := ⟨3, ![1, 4, 192]⟩
abbrev S128x512 : Shape := ⟨2, ![128, 512]⟩
abbrev S512x128 : Shape := ⟨2, ![512, 128]⟩
abbrev S1x512x128 : Shape := ⟨3, ![1, 512, 128]⟩
abbrev S128x1024 : Shape := ⟨2, ![128, 1024]⟩
abbrev S1x128x1024 : Shape := ⟨3, ![1, 128, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S7x1024x1024, .f32⟩
  | .hbm, ⟨2, _⟩ => ⟨S_, .f32⟩
  | .hbm, ⟨3, _⟩ => ⟨S1024x1024, .f32⟩
  | .hbm, ⟨4, _⟩ => ⟨S1024x1024, .f32⟩
  | .hbm, ⟨5, _⟩ => ⟨S577x1024, .f32⟩
  | .hbm, ⟨6, _⟩ => ⟨S1024x577, .f32⟩
  | .hbm, ⟨7, _⟩ => ⟨S1x1024x577, .f32⟩
  | .hbm, ⟨8, _⟩ => ⟨S1x768, .f32⟩
  | .hbm, ⟨9, _⟩ => ⟨S768, .f32⟩
  | .hbm, ⟨10, _⟩ => ⟨S4x192, .f32⟩
  | .hbm, ⟨11, _⟩ => ⟨S1x4x192, .f32⟩
  | .hbm, ⟨12, _⟩ => ⟨S128x512, .f32⟩
  | .hbm, ⟨13, _⟩ => ⟨S512x128, .f32⟩
  | .hbm, ⟨14, _⟩ => ⟨S1x512x128, .f32⟩
  | .hbm, ⟨15, _⟩ => ⟨S128x512, .f32⟩
  | .hbm, ⟨16, _⟩ => ⟨S512x128, .f32⟩
  | .hbm, ⟨17, _⟩ => ⟨S1x512x128, .f32⟩
  | .hbm, ⟨18, _⟩ => ⟨S128x1024, .f32⟩
  | .hbm, ⟨19, _⟩ => ⟨S1x128x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== SumXa.lean ====
abbrev S512x1024 : Shape := ⟨2, ![512, 1024]⟩
abbrev S7x512x1024 : Shape := ⟨3, ![7, 512, 1024]⟩
abbrev S1x512x1024 : Shape := ⟨3, ![1, 512, 1024]⟩
abbrev S128x1024 : Shape := ⟨2, ![128, 1024]⟩
abbrev S1x128x1024 : Shape := ⟨3, ![1, 128, 1024]⟩

abbrev nBuf : Space → Nat
  | .hbm => 12
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S7x512x1024, .f32⟩
  | .hbm, ⟨2, _⟩ => ⟨S7x512x1024, .bf16⟩
  | .hbm, ⟨3, _⟩ => ⟨S512x1024, .f32⟩
  | .hbm, ⟨4, _⟩ => ⟨S128x1024, .f32⟩
  | .hbm, ⟨5, _⟩ => ⟨S1x128x1024, .f32⟩
  | .hbm, ⟨6, _⟩ => ⟨S128x1024, .f32⟩
  | .hbm, ⟨7, _⟩ => ⟨S1x128x1024, .f32⟩
  | .hbm, ⟨8, _⟩ => ⟨S128x1024, .f32⟩
  | .hbm, ⟨9, _⟩ => ⟨S1x128x1024, .f32⟩
  | .hbm, ⟨10, _⟩ => ⟨S128x1024, .f32⟩
  | .hbm, ⟨11, _⟩ => ⟨S1x128x1024, .f32⟩
  | .local _ .vmem, ⟨0, _⟩ => ⟨S512x1024, .f32⟩
  | .local _ .vmem, ⟨1, _⟩ => ⟨S7x512x1024, .bf16⟩
  | .local _ .vmem, ⟨2, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumXaRefIdeal.lean ====
abbrev S512x1024 : Shape := ⟨2, ![512, 1024]⟩
abbrev S7x512x1024 : Shape := ⟨3, ![7, 512, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 13
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S7x512x1024, .f32⟩
  | .hbm, ⟨2, _⟩ => ⟨S_, .f32⟩
  | .hbm, ⟨3, _⟩ => ⟨S512x1024, .f32⟩
  | .hbm, ⟨4, _⟩ => ⟨S512x1024, .f32⟩
  | .hbm, ⟨5, _⟩ => ⟨S128x1024, .f32⟩
  | .hbm, ⟨6, _⟩ => ⟨S1x128x1024, .f32⟩
  | .hbm, ⟨7, _⟩ => ⟨S128x1024, .f32⟩
  | .hbm, ⟨8, _⟩ => ⟨S1x128x1024, .f32⟩
  | .hbm, ⟨9, _⟩ => ⟨S128x1024, .f32⟩
  | .hbm, ⟨10, _⟩ => ⟨S1x128x1024, .f32⟩
  | .hbm, ⟨11, _⟩ => ⟨S128x1024, .f32⟩
  | .hbm, ⟨12, _⟩ => ⟨S1x128x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== SumSmall.lean ====
abbrev S8x184x1024 : Shape := ⟨3, ![8, 184, 1024]⟩
abbrev S184x1024 : Shape := ⟨2, ![184, 1024]⟩
abbrev S1x184x1024 : Shape := ⟨3, ![1, 184, 1024]⟩
abbrev S8x1024 : Shape := ⟨2, ![8, 1024]⟩
abbrev S8192 : Shape := ⟨1, ![8192]⟩
abbrev S1024 : Shape := ⟨1, ![1024]⟩
abbrev S4 : Shape := ⟨1, ![4]⟩
abbrev S128 : Shape := ⟨1, ![128]⟩
abbrev S64x1024 : Shape := ⟨2, ![64, 1024]⟩
abbrev S65536 : Shape := ⟨1, ![65536]⟩
abbrev S4x128x128 : Shape := ⟨3, ![4, 128, 128]⟩
abbrev S512 : Shape := ⟨1, ![512]⟩
abbrev S1 : Shape := ⟨1, ![1]⟩

abbrev nBuf : Space → Nat
  | .hbm => 50
  | .vmem => 2
  | .smem => 0
  | _ => 0

abbrev bufTy : (tb : Table) → Fin (tcTables nBuf tb) → BufTy
  | .hbm, ⟨0, _⟩ => ⟨S8x184x1024, .f32⟩
  | .hbm, ⟨1, _⟩ => ⟨S184x1024, .f32⟩
  | .hbm, ⟨2, _⟩ => ⟨S8x1024, .f32⟩
  | .hbm, ⟨3, _⟩ => ⟨S8192, .f32⟩
  | .hbm, ⟨4, _⟩ => ⟨S1024, .f32⟩
  | .hbm, ⟨5, _⟩ => ⟨S8x1024, .f32⟩
  | .hbm, ⟨6, _⟩ => ⟨S8192, .f32⟩
  | .hbm, ⟨7, _⟩ => ⟨S1024, .f32⟩
  | .hbm, ⟨8, _⟩ => ⟨S8x1024, .f32⟩
  | .hbm, ⟨9, _⟩ => ⟨S8192, .f32⟩
  | .hbm, ⟨10, _⟩ => ⟨S4, .f32⟩
  | .hbm, ⟨11, _⟩ => ⟨S8x1024, .f32⟩
  | .hbm, ⟨12, _⟩ => ⟨S8192, .f32⟩
  | .hbm, ⟨13, _⟩ => ⟨S4, .f32⟩
  | .hbm, ⟨14, _⟩ => ⟨S8x1024, .f32⟩
  | .hbm, ⟨15, _⟩ => ⟨S8192, .f32⟩
  | .hbm, ⟨16, _⟩ => ⟨S128, .f32⟩
  | .hbm, ⟨17, _⟩ => ⟨S64x1024, .f32⟩
  | .hbm, ⟨18, _⟩ => ⟨S65536, .f32⟩
  | .hbm, ⟨19, _⟩ => ⟨S4x128x128, .f32⟩
  | .hbm, ⟨20, _⟩ => ⟨S8x1024, .f32⟩
  | .hbm, ⟨21, _⟩ => ⟨S8192, .f32⟩
  | .hbm, ⟨22, _⟩ => ⟨S512, .f32⟩
  | .hbm, ⟨23, _⟩ => ⟨S8x1024, .f32⟩
  | .hbm, ⟨24, _⟩ => ⟨S8192, .f32⟩
  | .hbm, ⟨25, _⟩ => ⟨S1024, .f32⟩
  | .hbm, ⟨26, _⟩ => ⟨S8x1024, .f32⟩
  | .hbm, ⟨27, _⟩ => ⟨S8192, .f32⟩
  | .hbm, ⟨28, _⟩ => ⟨S1024, .f32⟩
  | .hbm, ⟨29, _⟩ => ⟨S8x1024, .f32⟩
  | .hbm, ⟨30, _⟩ => ⟨S8192, .f32⟩
  | .hbm, ⟨31, _⟩ => ⟨S1024, .f32⟩
  | .hbm, ⟨32, _⟩ => ⟨S8x1024, .f32⟩
  | .hbm, ⟨33, _⟩ => ⟨S8192, .f32⟩
  | .hbm, ⟨34, _⟩ => ⟨S1024, .f32⟩
  | .hbm, ⟨35, _⟩ => ⟨S8x1024, .f32⟩
  | .hbm, ⟨36, _⟩ => ⟨S8192, .f32⟩
  | .hbm, ⟨37, _⟩ => ⟨S1024, .f32⟩
  | .hbm, ⟨38, _⟩ => ⟨S8x1024, .f32⟩
  | .hbm, ⟨39, _⟩ => ⟨S8192, .f32⟩
  | .hbm, ⟨40, _⟩ => ⟨S1024, .f32⟩
  | .hbm, ⟨41, _⟩ => ⟨S8x1024, .f32⟩
  | .hbm, ⟨42, _⟩ => ⟨S8192, .f32⟩
  | .hbm, ⟨43, _⟩ => ⟨S1024, .f32⟩
  | .hbm, ⟨44, _⟩ => ⟨S8x1024, .f32⟩
  | .hbm, ⟨45, _⟩ => ⟨S8192, .f32⟩
  | .hbm, ⟨46, _⟩ => ⟨S1024, .f32⟩
  | .hbm, ⟨47, _⟩ => ⟨S8x1024, .f32⟩
  | .hbm, ⟨48, _⟩ => ⟨S8192, .f32⟩
  | .hbm, ⟨49, _⟩ => ⟨S1, .f32⟩
  | .local _ .vmem, ⟨0, _⟩ => ⟨S8x184x1024, .f32⟩
  | .local _ .vmem, ⟨1, _⟩ => ⟨S184x1024, .f32⟩
  | _, _ => ⟨S8x184x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x184x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S184x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x184x1024 : Shape := ⟨3, ![8, 184, 1024]⟩
abbrev S_ : Shape := ⟨0, ![]⟩
abbrev S184x1024 : Shape := ⟨2, ![184, 1024]⟩
abbrev S8x1024 : Shape := ⟨2, ![8, 1024]⟩
abbrev S8192 : Shape := ⟨1, ![8192]⟩
abbrev S1024 : Shape := ⟨1, ![1024]⟩
abbrev S4 : Shape := ⟨1, ![4]⟩
abbrev S128 : Shape := ⟨1, ![128]⟩
abbrev S64x1024 : Shape := ⟨2, ![64, 1024]⟩
abbrev S65536 : Shape := ⟨1, ![65536]⟩
abbrev S4x128x128 : Shape := ⟨3, ![4, 128, 128]⟩
abbrev S512 : Shape := ⟨1, ![512]⟩
abbrev S1 : Shape := ⟨1, ![1]⟩

abbrev nBuf : Space → Nat
  | .hbm => 51
  | .vmem => 0
  | .smem => 0
  | _ => 0

abbrev bufTy : (tb : Table) → Fin (tcTables nBuf tb) → BufTy
  | .hbm, ⟨0, _⟩ => ⟨S8x184x1024, .f32⟩
  | .hbm, ⟨1, _⟩ => ⟨S_, .f32⟩
  | .hbm, ⟨2, _⟩ => ⟨S184x1024, .f32⟩
  | .hbm, ⟨3, _⟩ => ⟨S8x1024, .f32⟩
  | .hbm, ⟨4, _⟩ => ⟨S8192, .f32⟩
  | .hbm, ⟨5, _⟩ => ⟨S1024, .f32⟩
  | .hbm, ⟨6, _⟩ => ⟨S8x1024, .f32⟩
  | .hbm, ⟨7, _⟩ => ⟨S8192, .f32⟩
  | .hbm, ⟨8, _⟩ => ⟨S1024, .f32⟩
  | .hbm, ⟨9, _⟩ => ⟨S8x1024, .f32⟩
  | .hbm, ⟨10, _⟩ => ⟨S8192, .f32⟩
  | .hbm, ⟨11, _⟩ => ⟨S4, .f32⟩
  | .hbm, ⟨12, _⟩ => ⟨S8x1024, .f32⟩
  | .hbm, ⟨13, _⟩ => ⟨S8192, .f32⟩
  | .hbm, ⟨14, _⟩ => ⟨S4, .f32⟩
  | .hbm, ⟨15, _⟩ => ⟨S8x1024, .f32⟩
  | .hbm, ⟨16, _⟩ => ⟨S8192, .f32⟩
  | .hbm, ⟨17, _⟩ => ⟨S128, .f32⟩
  | .hbm, ⟨18, _⟩ => ⟨S64x1024, .f32⟩
  | .hbm, ⟨19, _⟩ => ⟨S65536, .f32⟩
  | .hbm, ⟨20, _⟩ => ⟨S4x128x128, .f32⟩
  | .hbm, ⟨21, _⟩ => ⟨S8x1024, .f32⟩
  | .hbm, ⟨22, _⟩ => ⟨S8192, .f32⟩
  | .hbm, ⟨23, _⟩ => ⟨S512, .f32⟩
  | .hbm, ⟨24, _⟩ => ⟨S8x1024, .f32⟩
  | .hbm, ⟨25, _⟩ => ⟨S8192, .f32⟩
  | .hbm, ⟨26, _⟩ => ⟨S1024, .f32⟩
  | .hbm, ⟨27, _⟩ => ⟨S8x1024, .f32⟩
  | .hbm, ⟨28, _⟩ => ⟨S8192, .f32⟩
  | .hbm, ⟨29, _⟩ => ⟨S1024, .f32⟩
  | .hbm, ⟨30, _⟩ => ⟨S8x1024, .f32⟩
  | .hbm, ⟨31, _⟩ => ⟨S8192, .f32⟩
  | .hbm, ⟨32, _⟩ => ⟨S1024, .f32⟩
  | .hbm, ⟨33, _⟩ => ⟨S8x1024, .f32⟩
  | .hbm, ⟨34, _⟩ => ⟨S8192, .f32⟩
  | .hbm, ⟨35, _⟩ => ⟨S1024, .f32⟩
  | .hbm, ⟨36, _⟩ => ⟨S8x1024, .f32⟩
  | .hbm, ⟨37, _⟩ => ⟨S8192, .f32⟩
  | .hbm, ⟨38, _⟩ => ⟨S1024, .f32⟩
  | .hbm, ⟨39, _⟩ => ⟨S8x1024, .f32⟩
  | .hbm, ⟨40, _⟩ => ⟨S8192, .f32⟩
  | .hbm, ⟨41, _⟩ => ⟨S1024, .f32⟩
  | .hbm, ⟨42, _⟩ => ⟨S8x1024, .f32⟩
  | .hbm, ⟨43, _⟩ => ⟨S8192, .f32⟩
  | .hbm, ⟨44, _⟩ => ⟨S1024, .f32⟩
  | .hbm, ⟨45, _⟩ => ⟨S8x1024, .f32⟩
  | .hbm, ⟨46, _⟩ => ⟨S8192, .f32⟩
  | .hbm, ⟨47, _⟩ => ⟨S1024, .f32⟩
  | .hbm, ⟨48, _⟩ => ⟨S8x1024, .f32⟩
  | .hbm, ⟨49, _⟩ => ⟨S8192, .f32⟩
  | .hbm, ⟨50, _⟩ => ⟨S1, .f32⟩
  | _, _ => ⟨S8x184x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩

abbrev nD : Nat := 1
abbrev τ : Topo := Topo.v7x

variable {F : FTy → Type} [FloatOps F]
-- ==== Attend.lean ====
abbrev S4096x1024 : Shape := ⟨2, ![4096, 1024]⟩
abbrev S256x1024 : Shape := ⟨2, ![256, 1024]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S256x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttendRefIdeal.lean ====
abbrev S4096x1024 : Shape := ⟨2, ![4096, 1024]⟩
abbrev S256x1024 : Shape := ⟨2, ![256, 1024]⟩
abbrev S1x4096x4x256 : Shape := ⟨4, ![1, 4096, 4, 256]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S256x1024, .f32⟩
  | .hbm, ⟨3, _⟩ => ⟨S1x4096x4x256, .f32⟩
  | .hbm, ⟨4, _⟩ => ⟨S1x256x4x256, .f32⟩
  | .hbm, ⟨5, _⟩ => ⟨S1x256x4x256, .f32⟩
  | .hbm, ⟨6, _⟩ => ⟨S1x4x4096x256, .f32⟩
  | .hbm, ⟨7, _⟩ => ⟨S_, .f32⟩
  | .hbm, ⟨8, _⟩ => ⟨S1x4x4096x256, .f32⟩
  | .hbm, ⟨9, _⟩ => ⟨S1x4x4096x256, .f32⟩
  | .hbm, ⟨10, _⟩ => ⟨S_, .f32⟩
  | .hbm, ⟨11, _⟩ => ⟨S1x4x4096, .f32⟩
  | .hbm, ⟨12, _⟩ => ⟨S_, .f32⟩
  | .hbm, ⟨13, _⟩ => ⟨S1x4x4096, .f32⟩
  | .hbm, ⟨14, _⟩ => ⟨S1x4x4096, .f32⟩
  | .hbm, ⟨15, _⟩ => ⟨S1x4x4096x1, .f32⟩
  | .hbm, ⟨16, _⟩ => ⟨S1x4x4096x256, .f32⟩
  | .hbm, ⟨17, _⟩ => ⟨S1x4x4096x256, .f32⟩
  | .hbm, ⟨18, _⟩ => ⟨S1x4x4096x256, .f32⟩
  | .hbm, ⟨19, _⟩ => ⟨S_, .f32⟩
  | .hbm, ⟨20, _⟩ => ⟨S1x4x4096, .f32⟩
  | .hbm, ⟨21, _⟩ => ⟨S1x4x4096x1, .f32⟩
  | .hbm, ⟨22, _⟩ => ⟨S1x4x4096x256, .f32⟩
  | .hbm, ⟨23, _⟩ => ⟨S1x4x4096x256, .f32⟩
  | .hbm, ⟨24, _⟩ => ⟨S1x4x256x4096, .f32⟩
  | .hbm, ⟨25, _⟩ => ⟨S1x4096x4x256, .f32⟩
  | .hbm, ⟨26, _⟩ => ⟨S4096x1024, .f32⟩
  | .hbm, ⟨27, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== AttendBack.lean ====
abbrev S4096x1024 : Shape := ⟨2, ![4096, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S256x1024, .f32⟩
  | .hbm, ⟨3, _⟩ => ⟨S256x1024, .f32⟩
  | .hbm, ⟨4, _⟩ => ⟨S4096x1024, .bf16⟩
  | .hbm, ⟨5, _⟩ => ⟨S256x1024, .f32⟩
  | .hbm, ⟨6, _⟩ => ⟨S256x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S256x1024, .f32⟩
  | .local _ .vmem, ⟨5, _⟩ => ⟨S256x1024, .f32⟩
  | .local _ .vmem, ⟨6, _⟩ => ⟨S512x1024, .bf16⟩
  | .local _ .vmem, ⟨7, _⟩ => ⟨S512x1024, .bf16⟩
  | .local _ .vmem, ⟨8, _⟩ => ⟨S256x1024, .f32⟩
  | .local _ .vmem, ⟨9, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v161 : BitVec 1 := Scalar.cmpi .eq arg0 c0_i32
  let v162 : BitVec 32 := Scalar.extui v161
  let c0_i32_48 : BitVec 32 := 0#32
  let v163 : BitVec 1 := Scalar.cmpi .ne v162 c0_i32_48
  v163

def k0_cond2 (i : grid0.Coords) : BitVec 1 :=
  let arg0 : BitVec 32 := BitVec.ofNat 32 (i 0).val
  let c0_i32_49 : BitVec 32 := 0#32
  let v164 : BitVec 1 := Scalar.cmpi .sgt arg0 c0_i32_49
  let v165 : BitVec 32 := Scalar.extui v164
  let c0_i32_50 : BitVec 32 := 0#32
  let v166 : BitVec 1 := Scalar.cmpi .ne v165 c0_i32_50
  v166

def k0_cond3 (i : grid0.Coords) : BitVec 1 :=
  let arg0 : BitVec 32 := BitVec.ofNat 32 (i 0).val
  let c0_i32_51 : BitVec 32 := 0#32
  let v167 : BitVec 1 := Scalar.cmpi .eq arg0 c0_i32_51
  let v168 : BitVec 32 := Scalar.extui v167
  let c0_i32_52 : BitVec 32 := 0#32
  let v169 : BitVec 1 := Scalar.cmpi .ne v168 c0_i32_52
  v169

def k0_cond4 (i : grid0.Coords) : BitVec 1 :=
  let arg0 : BitVec 32 := BitVec.ofNat 32 (i 0).val
  let c0_i32_53 : BitVec 32 := 0#32
  let v170 : BitVec 1 := Scalar.cmpi .sgt arg0 c0_i32_53
  let v171 : BitVec 32 := Scalar.extui v170
  let c0_i32_54 : BitVec 32 := 0#32
  let v172 : BitVec 1 := Scalar.cmpi .ne v171 c0_i32_54
  v172

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttendBackRefIdeal.lean ====
abbrev S4096x1024 : Shape := ⟨2, ![4096, 1024]⟩
abbrev S256x1024 : Shape := ⟨2, ![256, 1024]⟩
abbrev S1x4096x4x256 : Shape := ⟨4, ![1, 4096, 4, 256]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩
abbrev S1x4x256x256 : Shape := ⟨4, ![1, 4, 256, 256]⟩
abbrev S4x4096 : Shape := ⟨2, ![4, 4096]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S256x1024, .f32⟩
  | .hbm, ⟨3, _⟩ => ⟨S256x1024, .f32⟩
  | .hbm, ⟨4, _⟩ => ⟨S1x4096x4x256, .f32⟩
  | .hbm, ⟨5, _⟩ => ⟨S1x256x4x256, .f32⟩
  | .hbm, ⟨6, _⟩ => ⟨S1x256x4x256, .f32⟩
  | .hbm, ⟨7, _⟩ => ⟨S1x4x4096x256, .f32⟩
  | .hbm, ⟨8, _⟩ => ⟨S_, .f32⟩
  | .hbm, ⟨9, _⟩ => ⟨S1x4x4096x256, .f32⟩
  | .hbm, ⟨10, _⟩ => ⟨S1x4x4096x256, .f32⟩
  | .hbm, ⟨11, _⟩ => ⟨S_, .f32⟩
  | .hbm, ⟨12, _⟩ => ⟨S1x4x4096, .f32⟩
  | .hbm, ⟨13, _⟩ => ⟨S1x4x4096x1, .f32⟩
  | .hbm, ⟨14, _⟩ => ⟨S1x4x4096x256, .f32⟩
  | .hbm, ⟨15, _⟩ => ⟨S1x4x4096x256, .i1⟩
  | .hbm, ⟨16, _⟩ => ⟨S1x4x4096x256, .f32⟩
  | .hbm, ⟨17, _⟩ => ⟨S_, .f32⟩
  | .hbm, ⟨18, _⟩ => ⟨S1x4x4096, .f32⟩
  | .hbm, ⟨19, _⟩ => ⟨S_, .f32⟩
  | .hbm, ⟨20, _⟩ => ⟨S1x4x4096, .f32⟩
  | .hbm, ⟨21, _⟩ => ⟨S1x4x4096, .f32⟩
  | .hbm, ⟨22, _⟩ => ⟨S_, .f32⟩
  | .hbm, ⟨23, _⟩ => ⟨S1x4x4096, .f32⟩
  | .hbm, ⟨24, _⟩ => ⟨S1x4x4096, .i1⟩
  | .hbm, ⟨25, _⟩ => ⟨S_, .f32⟩
  | .hbm, ⟨26, _⟩ => ⟨S1x4x4096, .f32⟩
  | .hbm, ⟨27, _⟩ => ⟨S1x4x4096, .i1⟩
  | .hbm, ⟨28, _⟩ => ⟨S_, .f32⟩
  | .hbm, ⟨29, _⟩ => ⟨S1x4x4096, .f32⟩
  | .hbm, ⟨30, _⟩ => ⟨S_, .f32⟩
  | .hbm, ⟨31, _⟩ => ⟨S1x4x4096, .f32⟩
  | .hbm, ⟨32, _⟩ => ⟨S_, .f32⟩
  | .hbm, ⟨33, _⟩ => ⟨S1x4x4096, .f32⟩
  | .hbm, ⟨34, _⟩ => ⟨S1x4x4096, .f32⟩
  | .hbm, ⟨35, _⟩ => ⟨S1x4x4096, .f32⟩
  | .hbm, ⟨36, _⟩ => ⟨S1x4x4096x1, .f32⟩
  | .hbm, ⟨37, _⟩ => ⟨S1x4x4096x256, .f32⟩
  | .hbm, ⟨38, _⟩ => ⟨S1x4x4096x256, .f32⟩
  | .hbm, ⟨39, _⟩ => ⟨S1x4x4096x256, .f32⟩
  | .hbm, ⟨40, _⟩ => ⟨S_, .f32⟩
  | .hbm, ⟨41, _⟩ => ⟨S1x4x4096, .f32⟩
  | .hbm, ⟨42, _⟩ => ⟨S1x4x4096x1, .f32⟩
  | .hbm, ⟨43, _⟩ => ⟨S1x4x4096x256, .f32⟩
  | .hbm, ⟨44, _⟩ => ⟨S1x4x4096x256, .f32⟩
  | .hbm, ⟨45, _⟩ => ⟨S1x4x4096x1, .f32⟩
  | .hbm, ⟨46, _⟩ => ⟨S_, .f32⟩
  | .hbm, ⟨47, _⟩ => ⟨S1x4x4096x1, .f32⟩
  | .hbm, ⟨48, _⟩ => ⟨S1x4x4096x1, .f32⟩
  | .hbm, ⟨49, _⟩ => ⟨S1x4x256x4096, .f32⟩
  | .hbm, ⟨50, _⟩ => ⟨S1x4096x4x256, .f32⟩
  | .hbm, ⟨51, _⟩ => ⟨S4096x1024, .f32⟩
  | .hbm, ⟨52, _⟩ => ⟨S1x4096x4x256, .f32⟩
  | .hbm, ⟨53, _⟩ => ⟨S1x4x256x4096, .f32⟩
  | .hbm, ⟨54, _⟩ => ⟨S1x4x4096x256, .f32⟩
  | .hbm, ⟨55, _⟩ => ⟨S1x4x256x256, .f32⟩
  | .hbm, ⟨56, _⟩ => ⟨S1x256x4x256, .f32⟩
  | .hbm, ⟨57, _⟩ => ⟨S1x4x4096x256, .f32⟩
  | .hbm, ⟨58, _⟩ => ⟨S1x4x4096x256, .f32⟩
  | .hbm, ⟨59, _⟩ => ⟨S1x4x4096x256, .f32⟩
  | .hbm, ⟨60, _⟩ => ⟨S_, .f32⟩
  | .hbm, ⟨61, _⟩ => ⟨S1x4x4096, .f32⟩
  | .hbm, ⟨62, _⟩ => ⟨S1x4x4096x1, .f32⟩
  | .hbm, ⟨63, _⟩ => ⟨S1x4x4096x1, .f32⟩
  | .hbm, ⟨64, _⟩ => ⟨S1x4x4096x256, .f32⟩
  | .hbm, ⟨65, _⟩ => ⟨S1x4x4096x256, .f32⟩
  | .hbm, ⟨66, _⟩ => ⟨S_, .f32⟩
  | .hbm, ⟨67, _⟩ => ⟨S4x4096, .f32⟩
  | .hbm, ⟨68, _⟩ => ⟨S1x4x4096, .f32⟩
  | .hbm, ⟨69, _⟩ => ⟨S1x4x4096x256, .f32⟩
  | .hbm, ⟨70, _⟩ => ⟨S1x4x4096x256, .f32⟩
  | .hbm, ⟨71, _⟩ => ⟨S1x4x4096x256, .f32⟩
  | .hbm, ⟨72, _⟩ => ⟨S_, .f32⟩
  | .hbm, ⟨73, _⟩ => ⟨S1x4x4096x256, .f32⟩
  | .hbm, ⟨74, _⟩ => ⟨S1x4x4096x256, .f32⟩
  | .hbm, ⟨75, _⟩ => ⟨S1x4x256x256, .f32⟩
  | .hbm, ⟨76, _⟩ => ⟨S1x256x4x256, .f32⟩
  | .hbm, ⟨77, _⟩ => ⟨S1x4x4096x256, .f32⟩
  | .hbm, ⟨78, _⟩ => ⟨S1x4096x4x256, .f32⟩
  | .hbm, ⟨79, _⟩ => ⟨S256x1024, .f32⟩
  | .hbm, ⟨80, _⟩ => ⟨S256x1024, .f32⟩
  | .hbm, ⟨81, _⟩ => ⟨S4096x1024, .f32⟩
  | .hbm, ⟨82, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Merge.lean ====
abbrev S4096x2048 : Shape := ⟨2, ![4096, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .bf16⟩
  | .local _ .vmem, ⟨0, _⟩ => ⟨S512x2048, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MergeRefIdeal.lean ====
abbrev S4096x2048 : Shape := ⟨2, ![4096, 2048]⟩
abbrev S4096x1024 : Shape := ⟨2, ![4096, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MergeBack.lean ====
abbrev S4096x2048 : Shape := ⟨2, ![4096, 2048]⟩
abbrev S4096x1024 : Shape := ⟨2, ![4096, 1024]⟩
abbrev S256x2048 : Shape := ⟨2, ![256, 2048]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S4096x1024, .bf16⟩
  | .hbm, ⟨6, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .bf16⟩
  | .local _ .vmem, ⟨13, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeBackRefIdeal.lean ====
abbrev S4096x2048 : Shape := ⟨2, ![4096, 2048]⟩
abbrev S4096x1024 : Shape := ⟨2, ![4096, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | .hbm, ⟨42, _⟩ => ⟨S4096x1024, .bf16⟩
  | .hbm, ⟨43, _⟩ => ⟨S4096x2048, .f32⟩
  | .hbm, ⟨44, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== LnHalf.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LnHalfRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Ln.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LnRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== LnBack.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v51 : BitVec 1 := Scalar.cmpi .eq arg0 c0_i32
  let v52 : BitVec 32 := Scalar.extui v51
  let c0_i32_22 : BitVec 32 := 0#32
  let v53 : BitVec 1 := Scalar.cmpi .ne v52 c0_i32_22
  v53

def k0_cond2 (i : grid0.Coords) : BitVec 1 :=
  let arg0 : BitVec 32 := BitVec.ofNat 32 (i 0).val
  let c0_i32_23 : BitVec 32 := 0#32
  let v54 : BitVec 1 := Scalar.cmpi .sgt arg0 c0_i32_23
  let v55 : BitVec 32 := Scalar.extui v54
  let c0_i32_24 : BitVec 32 := 0#32
  let v56 : BitVec 1 := Scalar.cmpi .ne v55 c0_i32_24
  v56

def k0_cond3 (i : grid0.Coords) : BitVec 1 :=
  let arg0 : BitVec 32 := BitVec.ofNat 32 (i 0).val
  let c0_i32_25 : BitVec 32 := 0#32
  let v57 : BitVec 1 := Scalar.cmpi .eq arg0 c0_i32_25
  let v58 : BitVec 32 := Scalar.extui v57
  let c0_i32_26 : BitVec 32 := 0#32
  let v59 : BitVec 1 := Scalar.cmpi .ne v58 c0_i32_26
  v59

def k0_cond4 (i : grid0.Coords) : BitVec 1 :=
  let arg0 : BitVec 32 := BitVec.ofNat 32 (i 0).val
  let c0_i32_27 : BitVec 32 := 0#32
  let v60 : BitVec 1 := Scalar.cmpi .sgt arg0 c0_i32_27
  let v61 : BitVec 32 := Scalar.extui v60
  let c0_i32_28 : BitVec 32 := 0#32
  let v62 : BitVec 1 := Scalar.cmpi .ne v61 c0_i32_28
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnBackRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_cst_13 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_v58 : Ref sig .tc := ⟨.hbm, 79, rfl⟩
abbrev main_cst_16 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== LnLast.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S1x1024, .f32⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_19 : BitVec 32 := 0#32
  let v49 : BitVec 1 := Scalar.cmpi .ne v48 c0_i32_19
  v49

def k0_cond2 (i : grid0.Coords) : BitVec 1 :=
  let arg0 : BitVec 32 := BitVec.ofNat 32 (i 0).val
  let c0_i32_20 : BitVec 32 := 0#32
  let v50 : BitVec 1 := Scalar.cmpi .sgt arg0 c0_i32_20
  let v51 : BitVec 32 := Scalar.extui v50
  let c0_i32_21 : BitVec 32 := 0#32
  let v52 : BitVec 1 := Scalar.cmpi .ne v51 c0_i32_21
  v52

def k0_cond3 (i : grid0.Coords) : BitVec 1 :=
  let arg0 : BitVec 32 := BitVec.ofNat 32 (i 0).val
  let c0_i32_22 : BitVec 32 := 0#32
  let v53 : BitVec 1 := Scalar.cmpi .eq arg0 c0_i32_22
  let v54 : BitVec 32 := Scalar.extui v53
  let c0_i32_23 : BitVec 32 := 0#32
  let v55 : BitVec 1 := Scalar.cmpi .ne v54 c0_i32_23
  v55

def k0_cond4 (i : grid0.Coords) : BitVec 1 :=
  let arg0 : BitVec 32 := BitVec.ofNat 32 (i 0).val
  let c0_i32_24 : BitVec 32 := 0#32
  let v56 : BitVec 1 := Scalar.cmpi .sgt arg0 c0_i32_24
  let v57 : BitVec 32 := Scalar.extui v56
  let c0_i32_25 : BitVec 32 := 0#32
  let v58 : BitVec 1 := Scalar.cmpi .ne v57 c0_i32_25
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LnLastRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_cst_15 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== LnMem.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S256x1024, .f32⟩
  | .hbm, ⟨4, _⟩ => ⟨S256x1024, .f32⟩
  | .hbm, ⟨5, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== LnMemRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 31
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S256x1, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== LnMemBack.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1024, .f32⟩
  | .hbm, ⟨3, _⟩ => ⟨S256x1024, .f32⟩
  | .hbm, ⟨4, _⟩ => ⟨S1x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_19 : BitVec 32 := 0#32
  let v49 : BitVec 1 := Scalar.cmpi .ne v48 c0_i32_19
  v49

def k0_cond2 (i : grid0.Coords) : BitVec 1 :=
  let arg0 : BitVec 32 := BitVec.ofNat 32 (i 0).val
  let c0_i32_20 : BitVec 32 := 0#32
  let v50 : BitVec 1 := Scalar.cmpi .sgt arg0 c0_i32_20
  let v51 : BitVec 32 := Scalar.extui v50
  let c0_i32_21 : BitVec 32 := 0#32
  let v52 : BitVec 1 := Scalar.cmpi .ne v51 c0_i32_21
  v52

def k0_cond3 (i : grid0.Coords) : BitVec 1 :=
  let arg0 : BitVec 32 := BitVec.ofNat 32 (i 0).val
  let c0_i32_22 : BitVec 32 := 0#32
  let v53 : BitVec 1 := Scalar.cmpi .eq arg0 c0_i32_22
  let v54 : BitVec 32 := Scalar.extui v53
  let c0_i32_23 : BitVec 32 := 0#32
  let v55 : BitVec 1 := Scalar.cmpi .ne v54 c0_i32_23
  v55

def k0_cond4 (i : grid0.Coords) : BitVec 1 :=
  let arg0 : BitVec 32 := BitVec.ofNat 32 (i 0).val
  let c0_i32_24 : BitVec 32 := 0#32
  let v56 : BitVec 1 := Scalar.cmpi .sgt arg0 c0_i32_24
  let v57 : BitVec 32 := Scalar.extui v56
  let c0_i32_25 : BitVec 32 := 0#32
  let v58 : BitVec 1 := Scalar.cmpi .ne v57 c0_i32_25
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LnMemBackRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1, .f32⟩
  | .hbm, ⟨27, _⟩ => ⟨S256x1, .f32⟩
  | .hbm, ⟨28, _⟩ => ⟨S256x1, .f32⟩
  | .hbm, ⟨29, _⟩ => ⟨S256x1, .f32⟩
  | .hbm, ⟨30, _⟩ => ⟨S_, .f32⟩
  | .hbm, ⟨31, _⟩ => ⟨S256x1, .f32⟩
  | .hbm, ⟨32, _⟩ => ⟨S256x1, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S256x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S_, .f32⟩
  | .hbm, ⟨51, _⟩ => ⟨S256, .f32⟩
  | .hbm, ⟨52, _⟩ => ⟨S256x1, .f32⟩
  | .hbm, ⟨53, _⟩ => ⟨S256x1024, .f32⟩
  | .hbm, ⟨54, _⟩ => ⟨S256x1024, .f32⟩
  | .hbm, ⟨55, _⟩ => ⟨S256x1, .f32⟩
  | .hbm, ⟨56, _⟩ => ⟨S256x1024, .f32⟩
  | .hbm, ⟨57, _⟩ => ⟨S_, .f32⟩
  | .hbm, ⟨58, _⟩ => ⟨S256, .f32⟩
  | .hbm, ⟨59, _⟩ => ⟨S256x1, .f32⟩
  | .hbm, ⟨60, _⟩ => ⟨S_, .f32⟩
  | .hbm, ⟨61, _⟩ => ⟨S256x1, .f32⟩
  | .hbm, ⟨62, _⟩ => ⟨S256x1, .f32⟩
  | .hbm, ⟨63, _⟩ => ⟨S_, .f32⟩
  | .hbm, ⟨64, _⟩ => ⟨S256, .f32⟩
  | .hbm, ⟨65, _⟩ => ⟨S256x1024, .f32⟩
  | .hbm, ⟨66, _⟩ => ⟨S256x1024, .f32⟩
  | .hbm, ⟨67, _⟩ => ⟨S256x1024, .f32⟩
  | .hbm, ⟨68, _⟩ => ⟨S_, .f32⟩
  | .hbm, ⟨69, _⟩ => ⟨S256, .f32⟩
  | .hbm, ⟨70, _⟩ => ⟨S256x1, .f32⟩
  | .hbm, ⟨71, _⟩ => ⟨S256x1024, .f32⟩
  | .hbm, ⟨72, _⟩ => ⟨S256x1, .f32⟩
  | .hbm, ⟨73, _⟩ => ⟨S_, .f32⟩
  | .hbm, ⟨74, _⟩ => ⟨S256x1, .f32⟩
  | .hbm, ⟨75, _⟩ => ⟨S256x1, .f32⟩
  | .hbm, ⟨76, _⟩ => ⟨S_, .f32⟩
  | .hbm, ⟨77, _⟩ => ⟨S256, .f32⟩
  | .hbm, ⟨78, _⟩ => ⟨S256x1024, .f32⟩
  | .hbm, ⟨79, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_cst_15 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]
-- ==== HeadNorm.lean ====
abbrev S4096x512 : Shape := ⟨2, ![4096, 512]⟩
abbrev S1x128 : Shape := ⟨2, ![1, 128]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x128, .f32⟩
  | .hbm, ⟨3, _⟩ => ⟨S4096x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x128, .f32⟩
  | .local _ .vmem, ⟨5, _⟩ => ⟨S1024x512, .bf16⟩
  | .local _ .vmem, ⟨6, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== HeadNormRefIdeal.lean ====
abbrev S4096x512 : Shape := ⟨2, ![4096, 512]⟩
abbrev S1x128 : Shape := ⟨2, ![1, 128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1x128, .f32⟩
  | .hbm, ⟨3, _⟩ => ⟨S4096x4x128, .f32⟩
  | .hbm, ⟨4, _⟩ => ⟨S4096x4x128, .f32⟩
  | .hbm, ⟨5, _⟩ => ⟨S_, .f32⟩
  | .hbm, ⟨6, _⟩ => ⟨S4096x4, .f32⟩
  | .hbm, ⟨7, _⟩ => ⟨S4096x4x1, .f32⟩
  | .hbm, ⟨8, _⟩ => ⟨S_, .f32⟩
  | .hbm, ⟨9, _⟩ => ⟨S4096x4x1, .f32⟩
  | .hbm, ⟨10, _⟩ => ⟨S4096x4x1, .f32⟩
  | .hbm, ⟨11, _⟩ => ⟨S_, .f32⟩
  | .hbm, ⟨12, _⟩ => ⟨S4096x4x1, .f32⟩
  | .hbm, ⟨13, _⟩ => ⟨S4096x4x1, .f32⟩
  | .hbm, ⟨14, _⟩ => ⟨S4096x4x1, .f32⟩
  | .hbm, ⟨15, _⟩ => ⟨S4096x4x128, .f32⟩
  | .hbm, ⟨16, _⟩ => ⟨S4096x4x128, .f32⟩
  | .hbm, ⟨17, _⟩ => ⟨S1x1x128, .f32⟩
  | .hbm, ⟨18, _⟩ => ⟨S4096x4x128, .f32⟩
  | .hbm, ⟨19, _⟩ => ⟨S4096x4x128, .f32⟩
  | .hbm, ⟨20, _⟩ => ⟨S4096x4x128, .f32⟩
  | .hbm, ⟨21, _⟩ => ⟨S4096x4x128, .f32⟩
  | .hbm, ⟨22, _⟩ => ⟨S4096x4x128, .f32⟩
  | .hbm, ⟨23, _⟩ => ⟨S_, .f32⟩
  | .hbm, ⟨24, _⟩ => ⟨S4096x4x128, .f32⟩
  | .hbm, ⟨25, _⟩ => ⟨S4096x4x128, .f32⟩
  | .hbm, ⟨26, _⟩ => ⟨S_, .f32⟩
  | .hbm, ⟨27, _⟩ => ⟨S4096x4x128, .f32⟩
  | .hbm, ⟨28, _⟩ => ⟨S4096x4x128, .f32⟩
  | .hbm, ⟨29, _⟩ => ⟨S4096x4x128, .f32⟩
  | .hbm, ⟨30, _⟩ => ⟨S4096x4x128, .f32⟩
  | .hbm, ⟨31, _⟩ => ⟨S4096x512, .f32⟩
  | .hbm, ⟨32, _⟩ => ⟨S4096x512, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Proof.BackChunk.lean ====
/-
  One chunk of the backward scan, as vector operations: what the kernel's body computes, head by head, from the
  64-row slices it loads and from the gradient of the state after the chunk. The body unrolls eight chunks and four
  heads; every stored piece is one of the functions below at its chunk and head.
-/
module

public import proofs.«01_k».proof.Proof.Gen.KernelIdeal.Value
public import Idealize.ShloMosaic.PureOps.Ideal

@[expose] public section

noncomputable section

namespace Cert.ScanBack

open Idealize.ShloMosaic Cert.KernelIdeal Cert.KernelIdeal.Gen

variable {F : FTy → Type} [FloatOps F]

/-! ## The products of the body, their operands rounded as the kernel rounds them -/

/-- Rows of 128 times a 128 by 128 matrix. -/
def dotNN (a : FVec F S64x128 .f32) (s : FVec F S128x128 .f32) : FVec F S64x128 .f32 :=
  matmul dot_S64x128_S128x128_S64x128_1_0_0_1_n_n none (truncf .bf16 a bitsLt_bf16_f32) (truncf .bf16 s bitsLt_bf16_f32)
    (constant S64x128 .f32 0x00000000#32)

/-- Rows of 128 times the transpose of a 128 by 128 matrix. -/
def dotNT (a : FVec F S64x128 .f32) (s : FVec F S128x128 .f32) : FVec F S64x128 .f32 :=
  matmul dot_S64x128_S128x128_S64x128_1_1_0_0_n_n none (truncf .bf16 a bitsLt_bf16_f32) (truncf .bf16 s bitsLt_bf16_f32)
    (constant S64x128 .f32 0x00000000#32)

/-- The 128 by 128 product of two chunks over their rows. -/
def dotTN (a b : FVec F S64x128 .f32) : FVec F S128x128 .f32 :=
  matmul dot_S64x128_S64x128_S128x128_0_0_1_1_n_n none (truncf .bf16 a bitsLt_bf16_f32) (truncf .bf16 b bitsLt_bf16_f32)
    (constant S128x128 .f32 0x00000000#32)

/-- The 64 by 64 product of two chunks over their lanes. -/
def dotRows (a b : FVec F S64x128 .f32) : FVec F S64x64 .f32 :=
  matmul dot_S64x128_S64x128_S64x64_1_1_0_0_n_n none (truncf .bf16 a bitsLt_bf16_f32) (truncf .bf16 b bitsLt_bf16_f32)
    (constant S64x64 .f32 0x00000000#32)

/-- The transpose of the chunk's attention times a chunk. -/
def dotAtt (a : FVec F S1x64x64 .f32) (d : FVec F S64x128 .f32) : FVec F S64x128 .f32 :=
  matmul dot_S64x64_S64x128_S64x128_0_0_1_1_n_n none
    (truncf .bf16 (shapeCast S64x64 a shapeCasts_S1x64x64_S64x64) bitsLt_bf16_f32) (truncf .bf16 d bitsLt_bf16_f32)
    (constant S64x128 .f32 0x00000000#32)

/-! ## One chunk -/

/-- The decay of the chunk, on the 128 lanes of the head. -/
def decay (g : FVec F S1x128 .f32) : FVec F S1x128 .f32 := exp (shapeCast S1x128 g shapeCasts_S1x128_S1x128)

/-- The gradient of the chunk's new values. -/
def dNew (a : FVec F S1x64x64 .f32) (d k : FVec F S64x128 .f32) (ds : FVec F S128x128 .f32) : FVec F S64x128 .f32 :=
  addf (dotAtt a d) (dotNN k ds)

/-- The gradient of the chunk's attention. -/
def dAtt (d v : FVec F S64x128 .f32) : FVec F S1x64x64 .f32 :=
  shapeCast S1x64x64 (dotRows d (shapeCast S64x128 v shapeCasts_S64x128_S64x128)) shapeCasts_S64x64_S1x64x64

/-- The gradient of the chunk's decayed queries. -/
def dQuery (d : FVec F S64x128 .f32) (s : FVec F S1x1x128x128 .f32) : FVec F S64x128 .f32 :=
  dotNT d (shapeCast S128x128 s shapeCasts_S1x1x128x128_S128x128)

/-- The gradient of the chunk's decayed keys. -/
def dKey (v : FVec F S64x128 .f32) (ds : FVec F S128x128 .f32) : FVec F S64x128 .f32 :=
  dotNT (shapeCast S64x128 v shapeCasts_S64x128_S64x128) ds

/-- The gradient of the chunk's `w`. -/
def dWeight (dn : FVec F S64x128 .f32) (s : FVec F S1x1x128x128 .f32) : FVec F S64x128 .f32 :=
  subf (broadcast S64x128 (Scalar.ofBits .f32 0x00000000#32))
    (dotNT dn (shapeCast S128x128 s shapeCasts_S1x1x128x128_S128x128))

/-- The gradient of the chunk's last gate, on eight rows and 128 lanes. -/
def dGate (ds : FVec F S128x128 .f32) (s : FVec F S1x1x128x128 .f32) (g : FVec F S1x128 .f32) : FVec F S8x128 .f32 :=
  broadcastTo S8x128
    (shapeCast S1x128
      (mulf
        (broadcastTo S1x128
          (shapeCast S1x1
            (multiReduction .add [0] S1
              (shapeCast S128x1
                (multiReduction .add [1] S128 (mulf ds (shapeCast S128x128 s shapeCasts_S1x1x128x128_S128x128))
                  0x00000000#32 reduces_S128x128_S128 (.inl rfl) rfl) shapeCasts_S128_S128x1)
              0x00000000#32 reduces_S128x1_S1 (.inl rfl) rfl) shapeCasts_S1_S1x1) broadcasts_S1x1_S1x128)
        (decay g)) shapeCasts_S1x128_S1x128) broadcasts_S1x128_S8x128

/-- The gradient of the state before the chunk, from the one after it. -/
def dState (ds : FVec F S128x128 .f32) (g : FVec F S1x128 .f32) (q d w dn : FVec F S64x128 .f32) : FVec F S128x128 .f32 :=
  subf (addf (mulf ds (broadcastTo S128x128 (decay g) broadcasts_S1x128_S128x128)) (dotTN q d)) (dotTN w dn)

/-! ## The slices the body loads from the blocks -/

/-- The rectangle of a chunk's rows and a head's lanes. -/
abbrev rowRect (ci : Fin 8) (h : Fin 4) : Rect S512x512 :=
  Rect.unit ![64 * ci.val, 128 * h.val] S64x128.size (fun a => by
    have := ci.isLt; have := h.isLt
    fin_cases a <;> simp [S64x128, S512x512] <;> omega)

/-- The rectangle of a chunk's attention of a head. -/
abbrev attRect (ci : Fin 8) (h : Fin 4) : Rect S4x512x64 :=
  Rect.unit ![h.val, 64 * ci.val, 0] S1x64x64.size (fun a => by
    have := ci.isLt; have := h.isLt
    fin_cases a <;> simp [S1x64x64, S4x512x64] <;> omega)

/-- The rectangle of a chunk's saved state of a head. -/
abbrev stRect (ci : Fin 8) (h : Fin 4) : Rect S8x4x128x128 :=
  Rect.unit ![ci.val, h.val, 0, 0] S1x1x128x128.size (fun a => by
    have := ci.isLt; have := h.isLt
    fin_cases a <;> simp [S1x1x128x128, S8x4x128x128] <;> omega)

/-- The last row of a chunk, on a head's lanes. -/
abbrev lastRect (ci : Fin 8) (h : Fin 4) : Rect S512x512 :=
  Rect.unit ![64 * ci.val + 63, 128 * h.val] S1x128.size (fun a => by
    have := ci.isLt; have := h.isLt
    fin_cases a <;> simp [S1x128, S512x512] <;> omega)

/-- The eight rows of a chunk's gate gradient, on a head's lanes. -/
abbrev gateRect (ci : Fin 8) (h : Fin 4) : Rect S64x512 :=
  Rect.unit ![8 * ci.val, 128 * h.val] S8x128.size (fun a => by
    have := ci.isLt; have := h.isLt
    fin_cases a <;> simp [S8x128, S64x512] <;> omega)

/-- The rectangle of a head's state in the scratch. -/
abbrev headRect (h : Fin 4) : Rect S4x128x128 :=
  Rect.unit ![h.val, 0, 0] S1x128x128.size (fun a => by
    have := h.isLt
    fin_cases a <;> simp [S1x128x128, S4x128x128] <;> omega)

/-- A chunk's rows of a head. -/
abbrev row (X : FVec F S512x512 .f32) (ci : Fin 8) (h : Fin 4) : FVec F S64x128 .f32 := View.ld (Val := Elt F) (e' := .f32) X (rowRect ci h)
/-- A chunk's attention of a head. -/
abbrev att (X : FVec F S4x512x64 .f32) (ci : Fin 8) (h : Fin 4) : FVec F S1x64x64 .f32 := View.ld (Val := Elt F) (e' := .f32) X (attRect ci h)
/-- A chunk's saved state of a head. -/
abbrev sta (X : FVec F S8x4x128x128 .f32) (ci : Fin 8) (h : Fin 4) : FVec F S1x1x128x128 .f32 := View.ld (Val := Elt F) (e' := .f32) X (stRect ci h)
/-- A chunk's last gate row of a head. -/
abbrev lastRow (X : FVec F S512x512 .f32) (ci : Fin 8) (h : Fin 4) : FVec F S1x128 .f32 := View.ld (Val := Elt F) (e' := .f32) X (lastRect ci h)

/-! ## The eight chunks of a block, last to first -/

/-- The gradient of the state after the chunk `7 - n` of the block, from the one after the block's last chunk. -/
def grads (X0 X1 X2 X3 : FVec F S512x512 .f32) (X4 : FVec F S4x512x64 .f32) (X7 : FVec F S512x512 .f32) (h : Fin 4)
    (s0 : FVec F S128x128 .f32) : ℕ → FVec F S128x128 .f32
  | 0 => s0
  | n + 1 =>
    dState (grads X0 X1 X2 X3 X4 X7 h s0 n) (lastRow X7 (Fin.ofNat 8 (7 - n)) h) (row X1 (Fin.ofNat 8 (7 - n)) h)
      (row X0 (Fin.ofNat 8 (7 - n)) h) (row X3 (Fin.ofNat 8 (7 - n)) h)
      (dNew (att X4 (Fin.ofNat 8 (7 - n)) h) (row X0 (Fin.ofNat 8 (7 - n)) h) (row X2 (Fin.ofNat 8 (7 - n)) h)
        (grads X0 X1 X2 X3 X4 X7 h s0 n))

/-- The chunk and head of each stored piece, last stored first. -/
def order : List (Fin 8 × Fin 4) :=
  [(0, 3), (0, 2), (0, 1), (0, 0), (1, 3), (1, 2), (1, 1), (1, 0), (2, 3), (2, 2), (2, 1), (2, 0),
   (3, 3), (3, 2), (3, 1), (3, 0), (4, 3), (4, 2), (4, 1), (4, 0), (5, 3), (5, 2), (5, 1), (5, 0),
   (6, 3), (6, 2), (6, 1), (6, 0), (7, 3), (7, 2), (7, 1), (7, 0)]

/-- The pieces of an output of rows: one per chunk and head. -/
def rowPieces (v : Fin 8 → Fin 4 → FVec F S64x128 .f32) : List (View.Piece (Elt F) S512x512 .f32) :=
  order.map fun p => ⟨rowRect p.1 p.2, v p.1 p.2⟩

end Cert.ScanBack
-- ==== Proof.BackBlock.lean ====
/-
  What one run of the backward scan's body stores: every piece is a chunk function of the slices loaded and of the
  gradient of the state, which runs through the block's eight chunks from the last to the first. The first point of the
  grid starts from a state gradient of zeros, the others from the scratch.
-/
module

public import proofs.«01_k».proof.Proof.BackChunk

@[expose] public section

noncomputable section

namespace Cert.ScanBack

open Idealize.ShloMosaic Idealize.ShloMosaic.TcCoe Cert.KernelIdeal Cert.KernelIdeal.Gen

variable {F : FTy → Type} [FloatOps F]

/-- The pieces of the gate gradient: eight rows per chunk, last stored first. -/
def gatePieces (v : Fin 8 → Fin 4 → FVec F S8x128 .f32) : List (View.Piece (Elt F) S64x512 .f32) :=
  order.map fun p => ⟨gateRect p.1 p.2, v p.1 p.2⟩

/-- The pieces of the attention's gradient, last stored first. -/
def attPieces (v : Fin 8 → Fin 4 → FVec F S1x64x64 .f32) : List (View.Piece (Elt F) S4x512x64 .f32) :=
  order.map fun p => ⟨attRect p.1 p.2, v p.1 p.2⟩

/-- The pieces of the scratch: one per head, last stored first. -/
def headPieces (v : Fin 4 → FVec F S128x128 .f32) : List (View.Piece (Elt F) S4x128x128 .f32) :=
  [3, 2, 1, 0].map fun h : Fin 4 => ⟨headRect h, shapeCast S1x128x128 (v h) shapeCasts_S128x128_S1x128x128⟩

/-- The gradient of the state after chunk `ci` of the block. -/
def after (X0 X1 X2 X3 : FVec F S512x512 .f32) (X4 : FVec F S4x512x64 .f32) (X7 : FVec F S512x512 .f32)
    (s0 : Fin 4 → FVec F S128x128 .f32) (ci : Fin 8) (h : Fin 4) : FVec F S128x128 .f32 :=
  grads X0 X1 X2 X3 X4 X7 h (s0 h) (7 - ci.val)

/-- The gradient of the new values of chunk `ci` of the block. -/
def newAt (X0 X1 X2 X3 : FVec F S512x512 .f32) (X4 : FVec F S4x512x64 .f32) (X7 : FVec F S512x512 .f32)
    (s0 : Fin 4 → FVec F S128x128 .f32) (ci : Fin 8) (h : Fin 4) : FVec F S64x128 .f32 :=
  dNew (att X4 ci h) (row X0 ci h) (row X2 ci h) (after X0 X1 X2 X3 X4 X7 s0 ci h)

/-- A head's part of the scratch. -/
def headOf (S : FVec F S4x128x128 .f32) (h : Fin 4) : FVec F S128x128 .f32 :=
  shapeCast S128x128 (View.ld (Val := Elt F) (e' := .f32) S (headRect h)) shapeCasts_S1x128x128_S128x128

/-- The zeros the first point stores into the scratch. -/
def zeros : FVec F S4x128x128 .f32 :=
  shapeCast S4x128x128 (broadcast S4x128x128 (Scalar.ofBits .f32 0x00000000#32)) shapeCasts_S4x128x128_S4x128x128

section Runs

variable (c : Dev nD) (i : grid0.Coords)
  (arg1 : Memref sig .tc .vmem S512x512 .f32) (harg1 : arg1.IsWhole)
  (arg2 : Memref sig .tc .vmem S512x512 .f32) (harg2 : arg2.IsWhole)
  (arg3 : Memref sig .tc .vmem S512x512 .f32) (harg3 : arg3.IsWhole)
  (arg4 : Memref sig .tc .vmem S512x512 .f32) (harg4 : arg4.IsWhole)
  (arg5 : Memref sig .tc .vmem S4x512x64 .f32) (harg5 : arg5.IsWhole)
  (arg6 : Memref sig .tc .vmem S512x512 .f32) (harg6 : arg6.IsWhole)
  (arg7 : Memref sig .tc .vmem S8x4x128x128 .f32) (harg7 : arg7.IsWhole)
  (arg8 : Memref sig .tc .vmem S512x512 .f32) (harg8 : arg8.IsWhole)
  (arg9 : Memref sig .tc .vmem S512x512 .f32) (harg9 : arg9.IsWhole)
  (arg10 : Memref sig .tc .vmem S512x512 .f32) (harg10 : arg10.IsWhole)
  (arg11 : Memref sig .tc .vmem S512x512 .f32) (harg11 : arg11.IsWhole)
  (arg12 : Memref sig .tc .vmem S512x512 .f32) (harg12 : arg12.IsWhole)
  (arg13 : Memref sig .tc .vmem S4x512x64 .f32) (harg13 : arg13.IsWhole)
  (arg14 : Memref sig .tc .vmem S64x512 .f32) (harg14 : arg14.IsWhole)
  (arg15 : Memref sig .tc .vmem S4x128x128 .f32) (harg15 : arg15.IsWhole)
  (x0 x1 x2 x3 : FVec F S512x512 .f32) (x4 : FVec F S4x512x64 .f32) (x5 : FVec F S512x512 .f32) (x6 : FVec F S8x4x128x128 .f32) (x7 : FVec F S512x512 .f32)

/-- The pieces of the gradient of the decayed queries, at the first point. -/
theorem runA_dq (hc0 : cond0_0 i)  :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 ).1 =
      rowPieces fun ci h => dQuery (row (arg1.view.read (Elt F) (harg1.unread x0)) ci h) (sta (arg7.view.read (Elt F) (harg7.unread x6)) ci h) := by
  sl_kernel_rfl

/-- The pieces of the gradient of the decayed keys, at the first point. -/
theorem runA_dk (hc0 : cond0_0 i)  :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 ).2.1 =
      rowPieces fun ci h => dKey (row (arg6.view.read (Elt F) (harg6.unread x5)) ci h) (after (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg8.view.read (Elt F) (harg8.unread x7)) (fun h => shapeCast S128x128 (arg15.view.readCov (Val := Elt F) [⟨Rect.unit ![0, 0, 0] S4x128x128.size inb_S4x128x128_S4x128x128_0_0_0, zeros⟩] (headRect h).toLoadRect) shapeCasts_S1x128x128_S128x128) ci h) := by
  sl_kernel_rfl

/-- The pieces of the gradient of the new values, at the first point. -/
theorem runA_du (hc0 : cond0_0 i)  :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 ).2.2.1 =
      rowPieces fun ci h => newAt (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg8.view.read (Elt F) (harg8.unread x7)) (fun h => shapeCast S128x128 (arg15.view.readCov (Val := Elt F) [⟨Rect.unit ![0, 0, 0] S4x128x128.size inb_S4x128x128_S4x128x128_0_0_0, zeros⟩] (headRect h).toLoadRect) shapeCasts_S1x128x128_S128x128) ci h := by
  sl_kernel_rfl

/-- The pieces of the gradient of the `w`, at the first point. -/
theorem runA_dw (hc0 : cond0_0 i)  :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 ).2.2.2.1 =
      rowPieces fun ci h => dWeight (newAt (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg8.view.read (Elt F) (harg8.unread x7)) (fun h => shapeCast S128x128 (arg15.view.readCov (Val := Elt F) [⟨Rect.unit ![0, 0, 0] S4x128x128.size inb_S4x128x128_S4x128x128_0_0_0, zeros⟩] (headRect h).toLoadRect) shapeCasts_S1x128x128_S128x128) ci h) (sta (arg7.view.read (Elt F) (harg7.unread x6)) ci h) := by
  sl_kernel_rfl

/-- The pieces of the gradient of the attention, at the first point. -/
theorem runA_da (hc0 : cond0_0 i)  :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 ).2.2.2.2.1 =
      attPieces fun ci h => dAtt (row (arg1.view.read (Elt F) (harg1.unread x0)) ci h) (row (arg6.view.read (Elt F) (harg6.unread x5)) ci h) := by
  sl_kernel_rfl

/-- The pieces of the gradient of the last gate, at the first point. -/
theorem runA_dg (hc0 : cond0_0 i)  :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 ).2.2.2.2.2.1 =
      gatePieces fun ci h => dGate (after (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg8.view.read (Elt F) (harg8.unread x7)) (fun h => shapeCast S128x128 (arg15.view.readCov (Val := Elt F) [⟨Rect.unit ![0, 0, 0] S4x128x128.size inb_S4x128x128_S4x128x128_0_0_0, zeros⟩] (headRect h).toLoadRect) shapeCasts_S1x128x128_S128x128) ci h) (sta (arg7.view.read (Elt F) (harg7.unread x6)) ci h) (lastRow (arg8.view.read (Elt F) (harg8.unread x7)) ci h) := by
  sl_kernel_rfl

/-- The pieces of the gradient of the state (the scratch), at the first point. -/
theorem runA_ds (hc0 : cond0_0 i)  :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 ).2.2.2.2.2.2.1 =
      (headPieces fun h => grads (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg8.view.read (Elt F) (harg8.unread x7)) h ((fun h => shapeCast S128x128 (arg15.view.readCov (Val := Elt F) [⟨Rect.unit ![0, 0, 0] S4x128x128.size inb_S4x128x128_S4x128x128_0_0_0, zeros⟩] (headRect h).toLoadRect) shapeCasts_S1x128x128_S128x128) h) 8) ++ [⟨Rect.unit ![0, 0, 0] S4x128x128.size inb_S4x128x128_S4x128x128_0_0_0, zeros⟩] := by
  sl_kernel_rfl

/-- The pieces of the gradient of the decayed queries, at a later point. -/
theorem runB_dq (hc0 : ¬cond0_0 i) (xs : FVec F S4x128x128 .f32) :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).1 =
      rowPieces fun ci h => dQuery (row (arg1.view.read (Elt F) (harg1.unread x0)) ci h) (sta (arg7.view.read (Elt F) (harg7.unread x6)) ci h) := by
  sl_kernel_rfl

/-- The pieces of the gradient of the decayed keys, at a later point. -/
theorem runB_dk (hc0 : ¬cond0_0 i) (xs : FVec F S4x128x128 .f32) :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.1 =
      rowPieces fun ci h => dKey (row (arg6.view.read (Elt F) (harg6.unread x5)) ci h) (after (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg8.view.read (Elt F) (harg8.unread x7)) (headOf (arg15.view.read (Elt F) (harg15.unread xs))) ci h) := by
  sl_kernel_rfl

/-- The pieces of the gradient of the new values, at a later point. -/
theorem runB_du (hc0 : ¬cond0_0 i) (xs : FVec F S4x128x128 .f32) :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.1 =
      rowPieces fun ci h => newAt (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg8.view.read (Elt F) (harg8.unread x7)) (headOf (arg15.view.read (Elt F) (harg15.unread xs))) ci h := by
  sl_kernel_rfl

/-- The pieces of the gradient of the `w`, at a later point. -/
theorem runB_dw (hc0 : ¬cond0_0 i) (xs : FVec F S4x128x128 .f32) :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.2.1 =
      rowPieces fun ci h => dWeight (newAt (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg8.view.read (Elt F) (harg8.unread x7)) (headOf (arg15.view.read (Elt F) (harg15.unread xs))) ci h) (sta (arg7.view.read (Elt F) (harg7.unread x6)) ci h) := by
  sl_kernel_rfl

/-- The pieces of the gradient of the attention, at a later point. -/
theorem runB_da (hc0 : ¬cond0_0 i) (xs : FVec F S4x128x128 .f32) :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.2.2.1 =
      attPieces fun ci h => dAtt (row (arg1.view.read (Elt F) (harg1.unread x0)) ci h) (row (arg6.view.read (Elt F) (harg6.unread x5)) ci h) := by
  sl_kernel_rfl

/-- The pieces of the gradient of the last gate, at a later point. -/
theorem runB_dg (hc0 : ¬cond0_0 i) (xs : FVec F S4x128x128 .f32) :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.2.2.2.1 =
      gatePieces fun ci h => dGate (after (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg8.view.read (Elt F) (harg8.unread x7)) (headOf (arg15.view.read (Elt F) (harg15.unread xs))) ci h) (sta (arg7.view.read (Elt F) (harg7.unread x6)) ci h) (lastRow (arg8.view.read (Elt F) (harg8.unread x7)) ci h) := by
  sl_kernel_rfl

/-- The pieces of the gradient of the state (the scratch), at a later point. -/
theorem runB_ds (hc0 : ¬cond0_0 i) (xs : FVec F S4x128x128 .f32) :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs).2.2.2.2.2.2.1 =
      headPieces fun h => grads (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg8.view.read (Elt F) (harg8.unread x7)) h ((headOf (arg15.view.read (Elt F) (harg15.unread xs))) h) 8 := by
  sl_kernel_rfl

end Runs

end Cert.ScanBack
-- ==== Proof.BackArray.lean ====
/-
  From the pieces one run stores to the six result arrays of the backward scan: each array, at an index, is a chunk
  function at the index's chunk and head, of slices of the whole argument arrays and of the gradient of the state, which
  runs through the sixty-four chunks from the last to the first.
-/
module

public import proofs.«01_k».proof.Proof.BackBlock
public import Idealize.ShloMosaic.Lib.Pipeline.Value
public import Idealize.ShloMosaic.Lib.ValueIdxCore
public import Idealize.ShloMosaic.Lib.Tactic

@[expose] public section

noncomputable section

namespace Cert.ScanBack

open Idealize.ShloMosaic Idealize.ShloMosaic.TcCoe Idealize.ShloMosaic.ValueIdx Cert.KernelIdeal Cert.KernelIdeal.Gen

variable {F : FTy → Type} [FloatOps F]

/-! ## An array made of chunks -/

/-- A chunk function's value depends on the values of its chunk, head and index only. -/
theorem chunk_congr {K H : ℕ} {S : Shape} {α : Type} (v : Fin K → Fin H → S.Idx → α) {n n' : Fin K} {h h' : Fin H}
    {i i' : S.Idx} (e1 : n.val = n'.val) (e2 : h.val = h'.val) (e3 : ∀ a, (i a).val = (i' a).val) : v n h i = v n' h' i' := by
  obtain rfl := Fin.ext e1
  obtain rfl := Fin.ext e2
  obtain rfl : i = i' := funext fun a => Fin.ext (e3 a)
  rfl

/-- The block of rows whose chunk `ci` and head `h` is `v ci h`. -/
def blockRows (v : Fin 8 → Fin 4 → FVec F S64x128 .f32) : FVec F S512x512 .f32 := fun y =>
  v ⟨(y 0).val / 64, by have : (y 0).val < 512 := (y 0).isLt; omega⟩
    ⟨(y 1).val / 128, by have : (y 1).val < 512 := (y 1).isLt; omega⟩
    (ix2 ⟨(y 0).val % 64, by omega⟩ ⟨(y 1).val % 128, by omega⟩)

/-- The array of rows whose chunk `n` and head `h` is `v n h`. -/
def arrRows (v : Fin 64 → Fin 4 → FVec F S64x128 .f32) : FVec F S4096x512 .f32 := fun y =>
  v ⟨(y 0).val / 64, by have : (y 0).val < 4096 := (y 0).isLt; omega⟩
    ⟨(y 1).val / 128, by have : (y 1).val < 512 := (y 1).isLt; omega⟩
    (ix2 ⟨(y 0).val % 64, by omega⟩ ⟨(y 1).val % 128, by omega⟩)

/-- The block of attentions whose chunk `ci` and head `h` is `v ci h`. -/
def blockAtts (v : Fin 8 → Fin 4 → FVec F S1x64x64 .f32) : FVec F S4x512x64 .f32 := fun y =>
  v ⟨(y 1).val / 64, by have : (y 1).val < 512 := (y 1).isLt; omega⟩ ⟨(y 0).val, (y 0).isLt⟩
    (ix3 0 ⟨(y 1).val % 64, by omega⟩ ⟨(y 2).val, (y 2).isLt⟩)

/-- The array of attentions whose chunk `n` and head `h` is `v n h`. -/
def arrAtts (v : Fin 64 → Fin 4 → FVec F S1x64x64 .f32) : FVec F S4x4096x64 .f32 := fun y =>
  v ⟨(y 1).val / 64, by have : (y 1).val < 4096 := (y 1).isLt; omega⟩ ⟨(y 0).val, (y 0).isLt⟩
    (ix3 0 ⟨(y 1).val % 64, by omega⟩ ⟨(y 2).val, (y 2).isLt⟩)

/-- The block of gate gradients whose chunk `ci` and head `h` is `v ci h`. -/
def blockGates (v : Fin 8 → Fin 4 → FVec F S8x128 .f32) : FVec F S64x512 .f32 := fun y =>
  v ⟨(y 0).val / 8, by have : (y 0).val < 64 := (y 0).isLt; omega⟩
    ⟨(y 1).val / 128, by have : (y 1).val < 512 := (y 1).isLt; omega⟩
    (ix2 ⟨(y 0).val % 8, by omega⟩ ⟨(y 1).val % 128, by omega⟩)

/-- The array of gate gradients whose chunk `n` and head `h` is `v n h`. -/
def arrGates (v : Fin 64 → Fin 4 → FVec F S8x128 .f32) : FVec F S512x512 .f32 := fun y =>
  v ⟨(y 0).val / 8, by have : (y 0).val < 512 := (y 0).isLt; omega⟩
    ⟨(y 1).val / 128, by have : (y 1).val < 512 := (y 1).isLt; omega⟩
    (ix2 ⟨(y 0).val % 8, by omega⟩ ⟨(y 1).val % 128, by omega⟩)

/-- Every chunk and head is stored. -/
theorem mem_order : ∀ (ci : Fin 8) (h : Fin 4), (ci, h) ∈ order := by decide

/-- The pieces of rows, read back, are the block of rows. -/
theorem canon_rows (v : Fin 8 → Fin 4 → FVec F S64x128 .f32) : View.canon (rowPieces v) = blockRows v := by
  funext y
  refine View.canon_apply_of_pieces _ _ ?_ y ?_
  · intro p hp x
    obtain ⟨⟨ci, h⟩, -, rfl⟩ := List.mem_map.mp hp
    have hx0 : (x 0).val < 64 := (x 0).isLt
    have hx1 : (x 1).val < 128 := (x 1).isLt
    refine chunk_congr v ?_ ?_ fun a => ?_
    · show ci.val = (64 * ci.val + 1 * (x 0).val) / 64; omega
    · show h.val = (128 * h.val + 1 * (x 1).val) / 128; omega
    · match a with
      | ⟨0, _⟩ => show (x 0).val = (64 * ci.val + 1 * (x 0).val) % 64; omega
      | ⟨1, _⟩ => show (x 1).val = (128 * h.val + 1 * (x 1).val) % 128; omega
  · have h0 : (y 0).val < 512 := (y 0).isLt
    have h1 : (y 1).val < 512 := (y 1).isLt
    refine ⟨_, List.mem_map.mpr ⟨(⟨(y 0).val / 64, by omega⟩, ⟨(y 1).val / 128, by omega⟩), mem_order _ _, rfl⟩, ?_⟩
    rw [Rect.mem_set_unit]
    intro a
    match a with
    | ⟨0, _⟩ => show 64 * ((y 0).val / 64) ≤ (y 0).val ∧ (y 0).val < 64 * ((y 0).val / 64) + 64; omega
    | ⟨1, _⟩ => show 128 * ((y 1).val / 128) ≤ (y 1).val ∧ (y 1).val < 128 * ((y 1).val / 128) + 128; omega

/-- The pieces of attentions, read back, are the block of attentions. -/
theorem canon_atts (v : Fin 8 → Fin 4 → FVec F S1x64x64 .f32) : View.canon (attPieces v) = blockAtts v := by
  funext y
  refine View.canon_apply_of_pieces _ _ ?_ y ?_
  · intro p hp x
    obtain ⟨⟨ci, h⟩, -, rfl⟩ := List.mem_map.mp hp
    have hx0 : (x 0).val < 1 := (x 0).isLt
    have hx1 : (x 1).val < 64 := (x 1).isLt
    refine chunk_congr v ?_ ?_ fun a => ?_
    · show ci.val = (64 * ci.val + 1 * (x 1).val) / 64; omega
    · show h.val = h.val + 1 * (x 0).val; omega
    · match a with
      | ⟨0, _⟩ => show (x 0).val = 0; omega
      | ⟨1, _⟩ => show (x 1).val = (64 * ci.val + 1 * (x 1).val) % 64; omega
      | ⟨2, _⟩ => show (x 2).val = 0 + 1 * (x 2).val; omega
  · have h0 : (y 0).val < 4 := (y 0).isLt
    have h1 : (y 1).val < 512 := (y 1).isLt
    have h2 : (y 2).val < 64 := (y 2).isLt
    refine ⟨_, List.mem_map.mpr ⟨(⟨(y 1).val / 64, by omega⟩, ⟨(y 0).val, h0⟩), mem_order _ _, rfl⟩, ?_⟩
    rw [Rect.mem_set_unit]
    intro a
    match a with
    | ⟨0, _⟩ => show (y 0).val ≤ (y 0).val ∧ (y 0).val < (y 0).val + 1; omega
    | ⟨1, _⟩ => show 64 * ((y 1).val / 64) ≤ (y 1).val ∧ (y 1).val < 64 * ((y 1).val / 64) + 64; omega
    | ⟨2, _⟩ => show 0 ≤ (y 2).val ∧ (y 2).val < 0 + 64; omega

/-- The pieces of gate gradients, read back, are the block of gate gradients. -/
theorem canon_gates (v : Fin 8 → Fin 4 → FVec F S8x128 .f32) : View.canon (gatePieces v) = blockGates v := by
  funext y
  refine View.canon_apply_of_pieces _ _ ?_ y ?_
  · intro p hp x
    obtain ⟨⟨ci, h⟩, -, rfl⟩ := List.mem_map.mp hp
    have hx0 : (x 0).val < 8 := (x 0).isLt
    have hx1 : (x 1).val < 128 := (x 1).isLt
    refine chunk_congr v ?_ ?_ fun a => ?_
    · show ci.val = (8 * ci.val + 1 * (x 0).val) / 8; omega
    · show h.val = (128 * h.val + 1 * (x 1).val) / 128; omega
    · match a with
      | ⟨0, _⟩ => show (x 0).val = (8 * ci.val + 1 * (x 0).val) % 8; omega
      | ⟨1, _⟩ => show (x 1).val = (128 * h.val + 1 * (x 1).val) % 128; omega
  · have h0 : (y 0).val < 64 := (y 0).isLt
    have h1 : (y 1).val < 512 := (y 1).isLt
    refine ⟨_, List.mem_map.mpr ⟨(⟨(y 0).val / 8, by omega⟩, ⟨(y 1).val / 128, by omega⟩), mem_order _ _, rfl⟩, ?_⟩
    rw [Rect.mem_set_unit]
    intro a
    match a with
    | ⟨0, _⟩ => show 8 * ((y 0).val / 8) ≤ (y 0).val ∧ (y 0).val < 8 * ((y 0).val / 8) + 8; omega
    | ⟨1, _⟩ => show 128 * ((y 1).val / 128) ≤ (y 1).val ∧ (y 1).val < 128 * ((y 1).val / 128) + 128; omega

/-! ## The scratch -/

/-- Pieces that agree with one function where they cover decide what is read there, whatever was stored before them. -/
theorem canon_append {S : Shape} (G : S.Idx → Elt F .f32) (L' : List (View.Piece (Elt F) S .f32)) :
    ∀ (L : List (View.Piece (Elt F) S .f32)) (_ : ∀ p ∈ L, ∀ x : p.1.shape.Idx, p.2 x = G (p.1.emb x)) (y : S.Idx)
      (_ : ∃ p ∈ L, y ∈ p.1.set), View.canon (L ++ L') y = G y
  | [], _, _, hy => by obtain ⟨p, hp, _⟩ := hy; simp at hp
  | p :: L, hL, y, hy => by
    rw [List.cons_append]
    by_cases hm : y ∈ p.1.set
    · obtain ⟨x, rfl⟩ := p.1.exists_idx_of_mem hm
      rw [show p.1.idx x = p.1.emb x from rfl, View.canon_cons_emb]
      exact hL p (by simp) x
    · rw [View.canon_cons_of_not_mem _ _ hm]
      refine canon_append G L' L (fun q hq => hL q (by simp [hq])) y ?_
      obtain ⟨q, hq, hyq⟩ := hy
      rcases List.mem_cons.mp hq with rfl | hq'
      · exact absurd hyq hm
      · exact ⟨q, hq', hyq⟩

/-- A head of the scratch, read through its rectangle and reshaped, at an index. -/
theorem headOf_apply (S : FVec F S4x128x128 .f32) (h : Fin 4) (x : S128x128.Idx) :
    headOf S h x = S (ix3 h (x 0) (x 1)) := by
  unfold headOf
  refine (shapeCast_apply (View.ld (Val := Elt F) (e' := .f32) S (headRect h)) shapeCasts_S1x128x128_S128x128 x
    (ix3 (0 : Fin 1) (x 0) (x 1) : S1x128x128.Idx) ?_).trans ?_
  · refine (Shape.rowMajor_val_three (d := ![1, 128, 128]) (ix3 (0 : Fin 1) (x 0) (x 1))).trans
      (Eq.trans ?_ (Shape.rowMajor_val_two (d := ![128, 128]) x).symm)
    show (0 * 128 + (x 0).val) * 128 + (x 1).val = (x 0).val * 128 + (x 1).val
    omega
  · refine congrArg S (funext fun a => Fin.ext ?_)
    match a with
    | ⟨0, _⟩ => show h.val + 1 * 0 = h.val; omega
    | ⟨1, _⟩ => show 0 + 1 * (x 0).val = (x 0).val; omega
    | ⟨2, _⟩ => show 0 + 1 * (x 1).val = (x 1).val; omega

/-- What four heads' pieces leave in the scratch, whatever was stored before, head by head. -/
theorem headOf_canon (v : Fin 4 → FVec F S128x128 .f32) (L : List (View.Piece (Elt F) S4x128x128 .f32)) (h : Fin 4) :
    headOf (View.canon (headPieces v ++ L)) h = v h := by
  funext x
  rw [headOf_apply]
  refine (canon_append (fun y : S4x128x128.Idx => v (y 0) (ix2 (y 1) (y 2))) L (headPieces v) ?_ (ix3 h (x 0) (x 1)) ?_).trans ?_
  · intro p hp z
    obtain ⟨k, -, rfl⟩ := List.mem_map.mp hp
    have hz0 : (z 0).val < 1 := (z 0).isLt
    have hz1 : (z 1).val < 128 := (z 1).isLt
    have hz2 : (z 2).val < 128 := (z 2).isLt
    refine (shapeCast_apply (v k) shapeCasts_S128x128_S1x128x128 z
      (ix2 (⟨(z 1).val, hz1⟩ : Fin 128) (⟨(z 2).val, hz2⟩ : Fin 128) : S128x128.Idx) ?_).trans ?_
    · refine (Shape.rowMajor_val_two (d := ![128, 128]) _).trans
        (Eq.trans ?_ (Shape.rowMajor_val_three (d := ![1, 128, 128]) z).symm)
      show (z 1).val * 128 + (z 2).val = ((z 0).val * 128 + (z 1).val) * 128 + (z 2).val
      omega
    · have e0 : (((headRect k).emb z : S4x128x128.Idx) 0) = k := Fin.ext (by show k.val + 1 * (z 0).val = k.val; omega)
      show v k _ = v (((headRect k).emb z : S4x128x128.Idx) 0) _
      rw [e0]
      refine congrArg (v k) (funext fun a => Fin.ext ?_)
      match a with
      | ⟨0, _⟩ => show (z 1).val = 0 + 1 * (z 1).val; omega
      | ⟨1, _⟩ => show (z 2).val = 0 + 1 * (z 2).val; omega
  · have h1 : (x 0).val < 128 := (x 0).isLt
    have h2 : (x 1).val < 128 := (x 1).isLt
    refine ⟨_, List.mem_map.mpr ⟨h, by revert h; decide, rfl⟩, ?_⟩
    rw [Rect.mem_set_unit]
    intro a
    match a with
    | ⟨0, _⟩ => show h.val ≤ h.val ∧ h.val < h.val + 1; omega
    | ⟨1, _⟩ => show 0 ≤ (x 0).val ∧ (x 0).val < 0 + 128; omega
    | ⟨2, _⟩ => show 0 ≤ (x 1).val ∧ (x 1).val < 0 + 128; omega
  · exact congrArg (v h) (eq_ix2 x).symm

/-- The zeros, head by head. -/
theorem headOf_zeros (h : Fin 4) : headOf (zeros (F := F)) h = constant S128x128 .f32 0x00000000#32 := by
  funext x
  rfl

end Cert.ScanBack
-- ==== Proof.BackRead.lean ====
/-
  What one run of the backward scan's body leaves in each output's buffer and in the scratch: the pieces, read back, as
  blocks of chunk functions of the blocks the run was given.
-/
module

public import proofs.«01_k».proof.Proof.BackArray

@[expose] public section

noncomputable section

namespace Cert.ScanBack

open Idealize.ShloMosaic Idealize.ShloMosaic.TcCoe Cert.KernelIdeal Cert.KernelIdeal.Gen

variable {F : FTy → Type} [FloatOps F]

/-- The state gradient the first point starts from. -/
abbrev start : Fin 4 → FVec F S128x128 .f32 := fun _ => constant S128x128 .f32 0x00000000#32

/-- The scratch read back right after the zeros were stored is the zeros. -/
theorem readCov_zeros (v : View sig .tc .vmem S4x128x128 .f32) (h : Fin 4) :
    shapeCast S128x128 (v.readCov (Val := Elt F) [⟨Rect.unit ![0,0,0] S4x128x128.size inb_S4x128x128_S4x128x128_0_0_0, zeros⟩] (headRect h).toLoadRect) shapeCasts_S1x128x128_S128x128 = start h := by
  have hz : (![0, 0, 0] : Fin 3 → Nat) = fun _ => 0 := funext fun a => by fin_cases a <;> rfl
  have e : v.readCov (Val := Elt F) [⟨Rect.unit ![0,0,0] S4x128x128.size inb_S4x128x128_S4x128x128_0_0_0, zeros⟩] (headRect h).toLoadRect
      = View.ld (Val := Elt F) (e' := .f32) (zeros (F := F)) (headRect h) := by
    rw [View.readCov_eq_canon_ld]
    · rw [View.canon_unit_zero hz]
    · intro y
      refine ⟨_, List.mem_singleton.mpr rfl, ?_⟩
      rw [Rect.mem_set_unit]
      intro a
      have := (y a).isLt
      fin_cases a <;> exact ⟨Nat.zero_le _, by simpa using this⟩
  rw [e]
  exact headOf_zeros h

/-- … for every head. -/
theorem readCov_start (v : View sig .tc .vmem S4x128x128 .f32) :
    (fun h : Fin 4 => shapeCast S128x128 (v.readCov (Val := Elt F) [⟨Rect.unit ![0,0,0] S4x128x128.size inb_S4x128x128_S4x128x128_0_0_0, zeros⟩] (headRect h).toLoadRect) shapeCasts_S1x128x128_S128x128) = start :=
  funext (readCov_zeros v)

section Reads

variable (c : Dev nD) (i : grid0.Coords)
  (arg1 : Memref sig .tc .vmem S512x512 .f32) (harg1 : arg1.IsWhole)
  (arg2 : Memref sig .tc .vmem S512x512 .f32) (harg2 : arg2.IsWhole)
  (arg3 : Memref sig .tc .vmem S512x512 .f32) (harg3 : arg3.IsWhole)
  (arg4 : Memref sig .tc .vmem S512x512 .f32) (harg4 : arg4.IsWhole)
  (arg5 : Memref sig .tc .vmem S4x512x64 .f32) (harg5 : arg5.IsWhole)
  (arg6 : Memref sig .tc .vmem S512x512 .f32) (harg6 : arg6.IsWhole)
  (arg7 : Memref sig .tc .vmem S8x4x128x128 .f32) (harg7 : arg7.IsWhole)
  (arg8 : Memref sig .tc .vmem S512x512 .f32) (harg8 : arg8.IsWhole)
  (arg9 : Memref sig .tc .vmem S512x512 .f32) (harg9 : arg9.IsWhole)
  (arg10 : Memref sig .tc .vmem S512x512 .f32) (harg10 : arg10.IsWhole)
  (arg11 : Memref sig .tc .vmem S512x512 .f32) (harg11 : arg11.IsWhole)
  (arg12 : Memref sig .tc .vmem S512x512 .f32) (harg12 : arg12.IsWhole)
  (arg13 : Memref sig .tc .vmem S4x512x64 .f32) (harg13 : arg13.IsWhole)
  (arg14 : Memref sig .tc .vmem S64x512 .f32) (harg14 : arg14.IsWhole)
  (arg15 : Memref sig .tc .vmem S4x128x128 .f32) (harg15 : arg15.IsWhole)
  (x0 x1 x2 x3 : FVec F S512x512 .f32) (x4 : FVec F S4x512x64 .f32) (x5 : FVec F S512x512 .f32) (x6 : FVec F S8x4x128x128 .f32) (x7 : FVec F S512x512 .f32)

/-- The gradient of the decayed queries a first point leaves. -/
theorem outA_dq (hc0 : cond0_0 i) :
    out0_A_8 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = blockRows fun ci h => dQuery (row x0 ci h) (sta x6 ci h) := by
  have e := (runA_dq (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0)
  simp only [Memref.IsWhole.read_unread] at e
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7), e, canon_rows]

/-- The gradient of the decayed keys a first point leaves. -/
theorem outA_dk (hc0 : cond0_0 i) :
    out0_A_9 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = blockRows fun ci h => dKey (row x5 ci h) (after x0 x1 x2 x3 x4 x7 start ci h) := by
  have e := (runA_dk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0).trans (congrArg (fun s0 : Fin 4 → FVec F S128x128 .f32 => rowPieces fun ci h => dKey (row (arg6.view.read (Elt F) (harg6.unread x5)) ci h) (after (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg8.view.read (Elt F) (harg8.unread x7)) s0 ci h)) (readCov_start arg15.view))
  simp only [Memref.IsWhole.read_unread] at e
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7), e, canon_rows]

/-- The gradient of the new values a first point leaves. -/
theorem outA_du (hc0 : cond0_0 i) :
    out0_A_10 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = blockRows fun ci h => newAt x0 x1 x2 x3 x4 x7 start ci h := by
  have e := (runA_du (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0).trans (congrArg (fun s0 : Fin 4 → FVec F S128x128 .f32 => rowPieces fun ci h => newAt (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg8.view.read (Elt F) (harg8.unread x7)) s0 ci h) (readCov_start arg15.view))
  simp only [Memref.IsWhole.read_unread] at e
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7), e, canon_rows]

/-- The gradient of the `w` a first point leaves. -/
theorem outA_dw (hc0 : cond0_0 i) :
    out0_A_11 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = blockRows fun ci h => dWeight (newAt x0 x1 x2 x3 x4 x7 start ci h) (sta x6 ci h) := by
  have e := (runA_dw (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0).trans (congrArg (fun s0 : Fin 4 → FVec F S128x128 .f32 => rowPieces fun ci h => dWeight (newAt (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg8.view.read (Elt F) (harg8.unread x7)) s0 ci h) (sta (arg7.view.read (Elt F) (harg7.unread x6)) ci h)) (readCov_start arg15.view))
  simp only [Memref.IsWhole.read_unread] at e
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7), e, canon_rows]

/-- The gradient of the attention a first point leaves. -/
theorem outA_da (hc0 : cond0_0 i) :
    out0_A_12 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = blockAtts fun ci h => dAtt (row x0 ci h) (row x5 ci h) := by
  have e := (runA_da (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0)
  simp only [Memref.IsWhole.read_unread] at e
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7), e, canon_atts]

/-- The gradient of the last gate a first point leaves. -/
theorem outA_dg (hc0 : cond0_0 i) :
    out0_A_13 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = blockGates fun ci h => dGate (after x0 x1 x2 x3 x4 x7 start ci h) (sta x6 ci h) (lastRow x7 ci h) := by
  have e := (runA_dg (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0).trans (congrArg (fun s0 : Fin 4 → FVec F S128x128 .f32 => gatePieces fun ci h => dGate (after (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg8.view.read (Elt F) (harg8.unread x7)) s0 ci h) (sta (arg7.view.read (Elt F) (harg7.unread x6)) ci h) (lastRow (arg8.view.read (Elt F) (harg8.unread x7)) ci h)) (readCov_start arg15.view))
  simp only [Memref.IsWhole.read_unread] at e
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7), e, canon_gates]

/-- The gradient of the state a first point leaves in the scratch, head by head. -/
theorem outA_ds (hc0 : cond0_0 i) (h : Fin 4) :
    headOf (sout0_A_0 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) h = grads x0 x1 x2 x3 x4 x7 h (start h) 8 := by
  have e := (runA_ds (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0).trans (congrArg (fun s0 : Fin 4 → FVec F S128x128 .f32 => (headPieces fun h => grads (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg8.view.read (Elt F) (harg8.unread x7)) h (s0 h) 8) ++ [⟨Rect.unit ![0,0,0] S4x128x128.size inb_S4x128x128_S4x128x128_0_0_0, zeros⟩]) (readCov_start arg15.view))
  simp only [Memref.IsWhole.read_unread] at e
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7), e]
  exact headOf_canon _ _ h

/-- The gradient of the decayed queries a later point leaves. -/
theorem outB_dq (hc0 : ¬cond0_0 i) (xs : FVec F S4x128x128 .f32) :
    out0_B_8 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs = blockRows fun ci h => dQuery (row x0 ci h) (sta x6 ci h) := by
  have e := (runB_dq (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0 xs)
  simp only [Memref.IsWhole.read_unread] at e
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs), e, canon_rows]

/-- The gradient of the decayed keys a later point leaves. -/
theorem outB_dk (hc0 : ¬cond0_0 i) (xs : FVec F S4x128x128 .f32) :
    out0_B_9 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs = blockRows fun ci h => dKey (row x5 ci h) (after x0 x1 x2 x3 x4 x7 (headOf xs) ci h) := by
  have e := (runB_dk (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0 xs)
  simp only [Memref.IsWhole.read_unread] at e
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs), e, canon_rows]

/-- The gradient of the new values a later point leaves. -/
theorem outB_du (hc0 : ¬cond0_0 i) (xs : FVec F S4x128x128 .f32) :
    out0_B_10 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs = blockRows fun ci h => newAt x0 x1 x2 x3 x4 x7 (headOf xs) ci h := by
  have e := (runB_du (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0 xs)
  simp only [Memref.IsWhole.read_unread] at e
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs), e, canon_rows]

/-- The gradient of the `w` a later point leaves. -/
theorem outB_dw (hc0 : ¬cond0_0 i) (xs : FVec F S4x128x128 .f32) :
    out0_B_11 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs = blockRows fun ci h => dWeight (newAt x0 x1 x2 x3 x4 x7 (headOf xs) ci h) (sta x6 ci h) := by
  have e := (runB_dw (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0 xs)
  simp only [Memref.IsWhole.read_unread] at e
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs), e, canon_rows]

/-- The gradient of the attention a later point leaves. -/
theorem outB_da (hc0 : ¬cond0_0 i) (xs : FVec F S4x128x128 .f32) :
    out0_B_12 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs = blockAtts fun ci h => dAtt (row x0 ci h) (row x5 ci h) := by
  have e := (runB_da (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0 xs)
  simp only [Memref.IsWhole.read_unread] at e
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs), e, canon_atts]

/-- The gradient of the last gate a later point leaves. -/
theorem outB_dg (hc0 : ¬cond0_0 i) (xs : FVec F S4x128x128 .f32) :
    out0_B_13 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs = blockGates fun ci h => dGate (after x0 x1 x2 x3 x4 x7 (headOf xs) ci h) (sta x6 ci h) (lastRow x7 ci h) := by
  have e := (runB_dg (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0 xs)
  simp only [Memref.IsWhole.read_unread] at e
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs), e, canon_gates]

/-- The gradient of the state a later point leaves in the scratch, head by head. -/
theorem outB_ds (hc0 : ¬cond0_0 i) (xs : FVec F S4x128x128 .f32) (h : Fin 4) :
    headOf (sout0_B_0 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs) h = grads x0 x1 x2 x3 x4 x7 h ((headOf xs) h) 8 := by
  have e := (runB_ds (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0 xs)
  simp only [Memref.IsWhole.read_unread] at e
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs), e]
  exact (congrArg (fun L : List (View.Piece (Elt F) S4x128x128 .f32) => headOf (View.canon L) h) (List.append_nil (headPieces fun h => grads x0 x1 x2 x3 x4 x7 h (headOf xs h) 8)).symm).trans (headOf_canon _ [] h)

end Reads

end Cert.ScanBack
-- ==== Proof.BackValue.lean ====
/-
  The six result arrays of the backward scan. Each is a chunk function at every chunk and head, of slices of the whole
  argument arrays and of the gradient of the state, which runs through the sixty-four chunks from the last to the first:
  the grid's point `t` takes the block of chunks `8 * (7 - t)` to `8 * (7 - t) + 7` and hands the gradient on through the
  scratch.
-/
module

public import proofs.«01_k».proof.Proof.BackRead

@[expose] public section

noncomputable section

namespace Cert.ScanBack

open Idealize.ShloMosaic Idealize.ShloMosaic.TcCoe Idealize.ShloMosaic.ValueIdx Idealize.SL.Sem
open Cert.KernelIdeal Cert.KernelIdeal.Gen
open Idealize.ShloMosaic.Pipeline (Dat)

variable {F : FTy → Type} [FloatOps F]

/-! ## Slices of the whole arrays -/

/-- The rectangle of a chunk's rows and a head's lanes, in the whole array. -/
abbrev rowRectG (n : Fin 64) (h : Fin 4) : Rect S4096x512 :=
  Rect.unit ![64 * n.val, 128 * h.val] S64x128.size (fun a => by
    have := n.isLt; have := h.isLt
    fin_cases a <;> simp [S64x128, S4096x512] <;> omega)

/-- The rectangle of a chunk's attention of a head, in the whole array. -/
abbrev attRectG (n : Fin 64) (h : Fin 4) : Rect S4x4096x64 :=
  Rect.unit ![h.val, 64 * n.val, 0] S1x64x64.size (fun a => by
    have := n.isLt; have := h.isLt
    fin_cases a <;> simp [S1x64x64, S4x4096x64] <;> omega)

/-- The rectangle of a chunk's saved state of a head, in the whole array. -/
abbrev stRectG (n : Fin 64) (h : Fin 4) : Rect S64x4x128x128 :=
  Rect.unit ![n.val, h.val, 0, 0] S1x1x128x128.size (fun a => by
    have := n.isLt; have := h.isLt
    fin_cases a <;> simp [S1x1x128x128, S64x4x128x128] <;> omega)

/-- The last row of a chunk, on a head's lanes, in the whole array. -/
abbrev lastRectG (n : Fin 64) (h : Fin 4) : Rect S4096x512 :=
  Rect.unit ![64 * n.val + 63, 128 * h.val] S1x128.size (fun a => by
    have := n.isLt; have := h.isLt
    fin_cases a <;> simp [S1x128, S4096x512] <;> omega)

/-- A chunk's rows of a head. -/
abbrev rowG (X : FVec F S4096x512 .f32) (n : Fin 64) (h : Fin 4) : FVec F S64x128 .f32 := View.ld (Val := Elt F) (e' := .f32) X (rowRectG n h)
/-- A chunk's attention of a head. -/
abbrev attG (X : FVec F S4x4096x64 .f32) (n : Fin 64) (h : Fin 4) : FVec F S1x64x64 .f32 := View.ld (Val := Elt F) (e' := .f32) X (attRectG n h)
/-- A chunk's saved state of a head. -/
abbrev staG (X : FVec F S64x4x128x128 .f32) (n : Fin 64) (h : Fin 4) : FVec F S1x1x128x128 .f32 := View.ld (Val := Elt F) (e' := .f32) X (stRectG n h)
/-- A chunk's last gate row of a head. -/
abbrev lastG (X : FVec F S4096x512 .f32) (n : Fin 64) (h : Fin 4) : FVec F S1x128 .f32 := View.ld (Val := Elt F) (e' := .f32) X (lastRectG n h)

/-! ## The whole scan -/

/-- The gradient of the state after the chunk `63 - k`. -/
def gradsG (A0 A1 A2 A3 : FVec F S4096x512 .f32) (A4 : FVec F S4x4096x64 .f32) (A7 : FVec F S4096x512 .f32) (h : Fin 4) :
    ℕ → FVec F S128x128 .f32
  | 0 => constant S128x128 .f32 0x00000000#32
  | k + 1 =>
    dState (gradsG A0 A1 A2 A3 A4 A7 h k) (lastG A7 (Fin.ofNat 64 (63 - k)) h) (rowG A1 (Fin.ofNat 64 (63 - k)) h)
      (rowG A0 (Fin.ofNat 64 (63 - k)) h) (rowG A3 (Fin.ofNat 64 (63 - k)) h)
      (dNew (attG A4 (Fin.ofNat 64 (63 - k)) h) (rowG A0 (Fin.ofNat 64 (63 - k)) h) (rowG A2 (Fin.ofNat 64 (63 - k)) h)
        (gradsG A0 A1 A2 A3 A4 A7 h k))

/-- The gradient of the state after chunk `n`. -/
def afterG (A0 A1 A2 A3 : FVec F S4096x512 .f32) (A4 : FVec F S4x4096x64 .f32) (A7 : FVec F S4096x512 .f32) (n : Fin 64) (h : Fin 4) :
    FVec F S128x128 .f32 := gradsG A0 A1 A2 A3 A4 A7 h (63 - n.val)

/-- The gradient of the new values of chunk `n`. -/
def newG (A0 A1 A2 A3 : FVec F S4096x512 .f32) (A4 : FVec F S4x4096x64 .f32) (A7 : FVec F S4096x512 .f32) (n : Fin 64) (h : Fin 4) :
    FVec F S64x128 .f32 := dNew (attG A4 n h) (rowG A0 n h) (rowG A2 n h) (afterG A0 A1 A2 A3 A4 A7 n h)

/-! ## A block's slices are slices of the array -/

/-- The chunk `ci` of block `b`. -/
abbrev chunk (b ci : Fin 8) : Fin 64 := ⟨8 * b.val + ci.val, by have := b.isLt; have := ci.isLt; omega⟩

/-- The block `b` of an array of rows. -/
def IsRowBlock (X : FVec F S512x512 .f32) (A : FVec F S4096x512 .f32) (b : Fin 8) : Prop :=
  ∀ y : S512x512.Idx, X y = A (ix2 ⟨512 * b.val + (y 0).val, by have := b.isLt; have : (y 0).val < 512 := (y 0).isLt; omega⟩ (y 1))

/-- The block `b` of the array of attentions. -/
def IsAttBlock (X : FVec F S4x512x64 .f32) (A : FVec F S4x4096x64 .f32) (b : Fin 8) : Prop :=
  ∀ y : S4x512x64.Idx, X y = A (ix3 (y 0) ⟨512 * b.val + (y 1).val, by have := b.isLt; have : (y 1).val < 512 := (y 1).isLt; omega⟩ (y 2))

/-- The block `b` of the array of states. -/
def IsStBlock (X : FVec F S8x4x128x128 .f32) (A : FVec F S64x4x128x128 .f32) (b : Fin 8) : Prop :=
  ∀ y : S8x4x128x128.Idx, X y = A (ix4 ⟨8 * b.val + (y 0).val, by have := b.isLt; have : (y 0).val < 8 := (y 0).isLt; omega⟩ (y 1) (y 2) (y 3))

theorem row_block {X : FVec F S512x512 .f32} {A : FVec F S4096x512 .f32} {b : Fin 8} (hX : IsRowBlock X A b) (ci : Fin 8) (h : Fin 4) :
    row X ci h = rowG A (chunk b ci) h := by
  funext x
  refine (hX _).trans (congrArg A (funext fun a => Fin.ext ?_))
  match a with
  | ⟨0, _⟩ => show 512 * b.val + (64 * ci.val + 1 * (x 0).val) = 64 * (8 * b.val + ci.val) + 1 * (x 0).val; omega
  | ⟨1, _⟩ => rfl

theorem last_block {X : FVec F S512x512 .f32} {A : FVec F S4096x512 .f32} {b : Fin 8} (hX : IsRowBlock X A b) (ci : Fin 8) (h : Fin 4) :
    lastRow X ci h = lastG A (chunk b ci) h := by
  funext x
  refine (hX _).trans (congrArg A (funext fun a => Fin.ext ?_))
  match a with
  | ⟨0, _⟩ => show 512 * b.val + (64 * ci.val + 63 + 1 * (x 0).val) = 64 * (8 * b.val + ci.val) + 63 + 1 * (x 0).val; omega
  | ⟨1, _⟩ => rfl

theorem att_block {X : FVec F S4x512x64 .f32} {A : FVec F S4x4096x64 .f32} {b : Fin 8} (hX : IsAttBlock X A b) (ci : Fin 8) (h : Fin 4) :
    att X ci h = attG A (chunk b ci) h := by
  funext x
  refine (hX _).trans (congrArg A (funext fun a => Fin.ext ?_))
  match a with
  | ⟨0, _⟩ => rfl
  | ⟨1, _⟩ => show 512 * b.val + (64 * ci.val + 1 * (x 1).val) = 64 * (8 * b.val + ci.val) + 1 * (x 1).val; omega
  | ⟨2, _⟩ => rfl

theorem sta_block {X : FVec F S8x4x128x128 .f32} {A : FVec F S64x4x128x128 .f32} {b : Fin 8} (hX : IsStBlock X A b) (ci : Fin 8) (h : Fin 4) :
    sta X ci h = staG A (chunk b ci) h := by
  funext x
  refine (hX _).trans (congrArg A (funext fun a => Fin.ext ?_))
  match a with
  | ⟨0, _⟩ => show 8 * b.val + (ci.val + 1 * (x 0).val) = 8 * b.val + ci.val + 1 * (x 0).val; omega
  | ⟨1, _⟩ => rfl
  | ⟨2, _⟩ => rfl
  | ⟨3, _⟩ => rfl

section Block

variable {X0 X1 X2 X3 X7 : FVec F S512x512 .f32} {X4 : FVec F S4x512x64 .f32}
  {A0 A1 A2 A3 A7 : FVec F S4096x512 .f32} {A4 : FVec F S4x4096x64 .f32} {t : ℕ} (ht : t < 8)
  (e0 : IsRowBlock X0 A0 ⟨7 - t, by omega⟩) (e1 : IsRowBlock X1 A1 ⟨7 - t, by omega⟩) (e2 : IsRowBlock X2 A2 ⟨7 - t, by omega⟩)
  (e3 : IsRowBlock X3 A3 ⟨7 - t, by omega⟩) (e4 : IsAttBlock X4 A4 ⟨7 - t, by omega⟩) (e7 : IsRowBlock X7 A7 ⟨7 - t, by omega⟩)

include e0 e1 e2 e3 e4 e7

/-- The block's chunks are the scan's chunks from `8 * t` on. -/
theorem grads_block (h : Fin 4) : ∀ n : ℕ, n ≤ 8 →
    grads X0 X1 X2 X3 X4 X7 h (gradsG A0 A1 A2 A3 A4 A7 h (8 * t)) n = gradsG A0 A1 A2 A3 A4 A7 h (8 * t + n)
  | 0, _ => rfl
  | n + 1, hn => by
    have hc : chunk ⟨7 - t, by omega⟩ (Fin.ofNat 8 (7 - n)) = Fin.ofNat 64 (63 - (8 * t + n)) := by
      refine Fin.ext ?_
      show 8 * (7 - t) + (7 - n) % 8 = (63 - (8 * t + n)) % 64
      omega
    rw [grads, grads_block h n (by omega), row_block e0, row_block e1, row_block e2, row_block e3, att_block e4, last_block e7, hc]
    rfl

theorem after_block {s0 : Fin 4 → FVec F S128x128 .f32} (hs : ∀ h, s0 h = gradsG A0 A1 A2 A3 A4 A7 h (8 * t)) (ci : Fin 8) (h : Fin 4) :
    after X0 X1 X2 X3 X4 X7 s0 ci h = afterG A0 A1 A2 A3 A4 A7 (chunk ⟨7 - t, by omega⟩ ci) h := by
  have := ci.isLt
  unfold after afterG
  rw [hs, grads_block ht e0 e1 e2 e3 e4 e7 h _ (by omega)]
  refine congrArg _ ?_
  show 8 * t + (7 - ci.val) = 63 - (8 * (7 - t) + ci.val)
  omega

theorem newAt_block {s0 : Fin 4 → FVec F S128x128 .f32} (hs : ∀ h, s0 h = gradsG A0 A1 A2 A3 A4 A7 h (8 * t)) (ci : Fin 8) (h : Fin 4) :
    newAt X0 X1 X2 X3 X4 X7 s0 ci h = newG A0 A1 A2 A3 A4 A7 (chunk ⟨7 - t, by omega⟩ ci) h := by
  unfold newAt newG
  rw [after_block ht e0 e1 e2 e3 e4 e7 hs, row_block e0, row_block e2, att_block e4]

end Block

/-! ## The blocks of the grid's points -/

variable (m : (ℓ : Loc nD τ sig) → Buf (Elt F) ℓ) (ρ : Dev nD → PrngReg)

theorem index_0 : ∀ t : Fin grid0.N, win0_0.index t 0 = 7 - t.val ∧ win0_0.index t 1 = 0 := by decide +kernel
theorem index_1 : ∀ t : Fin grid0.N, win0_1.index t 0 = 7 - t.val ∧ win0_1.index t 1 = 0 := by decide +kernel
theorem index_2 : ∀ t : Fin grid0.N, win0_2.index t 0 = 7 - t.val ∧ win0_2.index t 1 = 0 := by decide +kernel
theorem index_3 : ∀ t : Fin grid0.N, win0_3.index t 0 = 7 - t.val ∧ win0_3.index t 1 = 0 := by decide +kernel
theorem index_4 : ∀ t : Fin grid0.N, win0_4.index t 0 = 0 ∧ win0_4.index t 1 = 7 - t.val ∧ win0_4.index t 2 = 0 := by decide +kernel
theorem index_5 : ∀ t : Fin grid0.N, win0_5.index t 0 = 7 - t.val ∧ win0_5.index t 1 = 0 := by decide +kernel
theorem index_6 : ∀ t : Fin grid0.N, win0_6.index t 0 = 7 - t.val ∧ win0_6.index t 1 = 0 ∧ win0_6.index t 2 = 0 ∧ win0_6.index t 3 = 0 := by decide +kernel
theorem index_7 : ∀ t : Fin grid0.N, win0_7.index t 0 = 7 - t.val ∧ win0_7.index t 1 = 0 := by decide +kernel
theorem index_8 : ∀ t : Fin grid0.N, win0_8.index t 0 = 7 - t.val ∧ win0_8.index t 1 = 0 := by decide +kernel
theorem index_9 : ∀ t : Fin grid0.N, win0_9.index t 0 = 7 - t.val ∧ win0_9.index t 1 = 0 := by decide +kernel
theorem index_10 : ∀ t : Fin grid0.N, win0_10.index t 0 = 7 - t.val ∧ win0_10.index t 1 = 0 := by decide +kernel
theorem index_11 : ∀ t : Fin grid0.N, win0_11.index t 0 = 7 - t.val ∧ win0_11.index t 1 = 0 := by decide +kernel
theorem index_12 : ∀ t : Fin grid0.N, win0_12.index t 0 = 0 ∧ win0_12.index t 1 = 7 - t.val ∧ win0_12.index t 2 = 0 := by decide +kernel
theorem index_13 : ∀ t : Fin grid0.N, win0_13.index t 0 = 7 - t.val ∧ win0_13.index t 1 = 0 := by decide +kernel

/-- Window 0's block at point `t`. -/
theorem iblk_0 (c : Dev nD) (t : Fin cfg0.N) : IsRowBlock (F := F) (iblk m c 0 t) (V m c main_arg0) ⟨7 - t.val, by omega⟩ := by
  intro y
  refine congrArg (V m c main_arg0) (funext fun a => Fin.ext ?_)
  have e := index_0 t
  match a with
  | ⟨0, _⟩ => show win0_0.index t 0 * 512 + 1 * (y 0).val = 512 * (7 - t.val) + (y 0).val; rw [e.1]; omega
  | ⟨1, _⟩ => show win0_0.index t 1 * 512 + 1 * (y 1).val = (y 1).val; rw [e.2]; omega

/-- Window 1's block at point `t`. -/
theorem iblk_1 (c : Dev nD) (t : Fin cfg0.N) : IsRowBlock (F := F) (iblk m c 1 t) (V m c main_arg1) ⟨7 - t.val, by omega⟩ := by
  intro y
  refine congrArg (V m c main_arg1) (funext fun a => Fin.ext ?_)
  have e := index_1 t
  match a with
  | ⟨0, _⟩ => show win0_1.index t 0 * 512 + 1 * (y 0).val = 512 * (7 - t.val) + (y 0).val; rw [e.1]; omega
  | ⟨1, _⟩ => show win0_1.index t 1 * 512 + 1 * (y 1).val = (y 1).val; rw [e.2]; omega

/-- Window 2's block at point `t`. -/
theorem iblk_2 (c : Dev nD) (t : Fin cfg0.N) : IsRowBlock (F := F) (iblk m c 2 t) (V m c main_arg2) ⟨7 - t.val, by omega⟩ := by
  intro y
  refine congrArg (V m c main_arg2) (funext fun a => Fin.ext ?_)
  have e := index_2 t
  match a with
  | ⟨0, _⟩ => show win0_2.index t 0 * 512 + 1 * (y 0).val = 512 * (7 - t.val) + (y 0).val; rw [e.1]; omega
  | ⟨1, _⟩ => show win0_2.index t 1 * 512 + 1 * (y 1).val = (y 1).val; rw [e.2]; omega

/-- Window 3's block at point `t`. -/
theorem iblk_3 (c : Dev nD) (t : Fin cfg0.N) : IsRowBlock (F := F) (iblk m c 3 t) (V m c main_arg4) ⟨7 - t.val, by omega⟩ := by
  intro y
  refine congrArg (V m c main_arg4) (funext fun a => Fin.ext ?_)
  have e := index_3 t
  match a with
  | ⟨0, _⟩ => show win0_3.index t 0 * 512 + 1 * (y 0).val = 512 * (7 - t.val) + (y 0).val; rw [e.1]; omega
  | ⟨1, _⟩ => show win0_3.index t 1 * 512 + 1 * (y 1).val = (y 1).val; rw [e.2]; omega

/-- Window 4's block at point `t`. -/
theorem iblk_4 (c : Dev nD) (t : Fin cfg0.N) : IsAttBlock (F := F) (iblk m c 4 t) (V m c main_arg5) ⟨7 - t.val, by omega⟩ := by
  intro y
  refine congrArg (V m c main_arg5) (funext fun a => Fin.ext ?_)
  have e := index_4 t
  match a with
  | ⟨0, _⟩ => show win0_4.index t 0 * 4 + 1 * (y 0).val = (y 0).val; rw [e.1]; omega
  | ⟨1, _⟩ => show win0_4.index t 1 * 512 + 1 * (y 1).val = 512 * (7 - t.val) + (y 1).val; rw [e.2.1]; omega
  | ⟨2, _⟩ => show win0_4.index t 2 * 64 + 1 * (y 2).val = (y 2).val; rw [e.2.2]; omega

/-- Window 5's block at point `t`. -/
theorem iblk_5 (c : Dev nD) (t : Fin cfg0.N) : IsRowBlock (F := F) (iblk m c 5 t) (V m c main_v4) ⟨7 - t.val, by omega⟩ := by
  intro y
  refine congrArg (V m c main_v4) (funext fun a => Fin.ext ?_)
  have e := index_5 t
  match a with
  | ⟨0, _⟩ => show win0_5.index t 0 * 512 + 1 * (y 0).val = 512 * (7 - t.val) + (y 0).val; rw [e.1]; omega
  | ⟨1, _⟩ => show win0_5.index t 1 * 512 + 1 * (y 1).val = (y 1).val; rw [e.2]; omega

/-- Window 6's block at point `t`. -/
theorem iblk_6 (c : Dev nD) (t : Fin cfg0.N) : IsStBlock (F := F) (iblk m c 6 t) (V m c main_arg6) ⟨7 - t.val, by omega⟩ := by
  intro y
  refine congrArg (V m c main_arg6) (funext fun a => Fin.ext ?_)
  have e := index_6 t
  match a with
  | ⟨0, _⟩ => show win0_6.index t 0 * 8 + 1 * (y 0).val = 8 * (7 - t.val) + (y 0).val; rw [e.1]; omega
  | ⟨1, _⟩ => show win0_6.index t 1 * 4 + 1 * (y 1).val = (y 1).val; rw [e.2.1]; omega
  | ⟨2, _⟩ => show win0_6.index t 2 * 128 + 1 * (y 2).val = (y 2).val; rw [e.2.2.1]; omega
  | ⟨3, _⟩ => show win0_6.index t 3 * 128 + 1 * (y 3).val = (y 3).val; rw [e.2.2.2]; omega

/-- Window 7's block at point `t`. -/
theorem iblk_7 (c : Dev nD) (t : Fin cfg0.N) : IsRowBlock (F := F) (iblk m c 7 t) (V m c main_v6) ⟨7 - t.val, by omega⟩ := by
  intro y
  refine congrArg (V m c main_v6) (funext fun a => Fin.ext ?_)
  have e := index_7 t
  match a with
  | ⟨0, _⟩ => show win0_7.index t 0 * 512 + 1 * (y 0).val = 512 * (7 - t.val) + (y 0).val; rw [e.1]; omega
  | ⟨1, _⟩ => show win0_7.index t 1 * 512 + 1 * (y 1).val = (y 1).val; rw [e.2]; omega

/-- The gradient of the state after the chunk `63 - k`, of the launch's arrays. -/
abbrev gradsM (c : Dev nD) (h : Fin 4) (k : ℕ) : FVec F S128x128 .f32 :=
  gradsG (V m c main_arg0) (V m c main_arg1) (V m c main_arg2) (V m c main_arg4) (V m c main_arg5) (V m c main_v6) h k

/-- The scratch after point `n` holds the gradient of the state before the point's block. -/
theorem scratch (c : Dev nD) : ∀ (n : ℕ) (hn : n < cfg0.N) (h : Fin 4),
    headOf (outsAt0 m c n hn).2.2.2.2.2.2 h = gradsM m c h (8 * (n + 1))
  | 0, hn, h => by
    rw [outsAt0_A m c ⟨0, hn⟩ rfl]
    dsimp only
    rw [outA_ds]
    exact grads_block (t := 0) (by omega) (iblk_0 m c ⟨0, hn⟩) (iblk_1 m c ⟨0, hn⟩) (iblk_2 m c ⟨0, hn⟩) (iblk_3 m c ⟨0, hn⟩)
      (iblk_4 m c ⟨0, hn⟩) (iblk_7 m c ⟨0, hn⟩) h 8 le_rfl
  | n + 1, hn, h => by
    have hN : n + 1 < 8 := lt_of_lt_of_eq hn N_0
    have e := outsAt0_B m c ⟨n + 1, hn⟩ (by show ¬(n + 1) % 8 = 0; omega)
    rw [e]
    dsimp only
    rw [outB_ds]
    have hs : headOf (outsAt0 m c (n + 1 - 1) (Nat.lt_of_succ_lt hn)).2.2.2.2.2.2 h = gradsM m c h (8 * (n + 1)) := scratch c n _ h
    rw [hs]
    exact grads_block (t := n + 1) hN (iblk_0 m c ⟨n + 1, hn⟩) (iblk_1 m c ⟨n + 1, hn⟩) (iblk_2 m c ⟨n + 1, hn⟩)
      (iblk_3 m c ⟨n + 1, hn⟩) (iblk_4 m c ⟨n + 1, hn⟩) (iblk_7 m c ⟨n + 1, hn⟩) h 8 le_rfl

/-- The gradient of the decayed queries, chunk by chunk. -/
def dqG (c : Dev nD) (n : Fin 64) (h : Fin 4) : FVec F S64x128 .f32 :=
  dQuery (rowG (V m c main_arg0) n h) (staG (V m c main_arg6) n h)

/-- What point `n` leaves of it is its block. -/
theorem left_dq (c : Dev nD) : ∀ (n : ℕ) (hn : n < cfg0.N),
    (outsAt0 m c n hn).1 = blockRows fun ci h => dqG m c (chunk ⟨7 - n, by omega⟩ ci) h
  | 0, hn => by
    rw [outsAt0_A m c ⟨0, hn⟩ rfl]
    dsimp only
    rw [outA_dq]
    refine congrArg _ (funext fun ci => funext fun h => ?_)
    rw [row_block (iblk_0 m c ⟨0, hn⟩), sta_block (iblk_6 m c ⟨0, hn⟩)]
    rfl
  | n + 1, hn => by
    have hN : n + 1 < 8 := lt_of_lt_of_eq hn N_0
    have e := outsAt0_B m c ⟨n + 1, hn⟩ (by show ¬(n + 1) % 8 = 0; omega)
    rw [e]
    dsimp only
    rw [outB_dq]
    have hs : ∀ h, headOf (outsAt0 m c (n + 1 - 1) (Nat.lt_of_succ_lt hn)).2.2.2.2.2.2 h = gradsM m c h (8 * (n + 1)) := fun h => scratch m c n _ h
    refine congrArg _ (funext fun ci => funext fun h => ?_)
    rw [row_block (iblk_0 m c ⟨n + 1, hn⟩), sta_block (iblk_6 m c ⟨n + 1, hn⟩)]
    rfl

/-- The gradient of the decayed keys, chunk by chunk. -/
def dkG (c : Dev nD) (n : Fin 64) (h : Fin 4) : FVec F S64x128 .f32 :=
  dKey (rowG (V m c main_v4) n h) (afterG (V m c main_arg0) (V m c main_arg1) (V m c main_arg2) (V m c main_arg4) (V m c main_arg5) (V m c main_v6) n h)

/-- What point `n` leaves of it is its block. -/
theorem left_dk (c : Dev nD) : ∀ (n : ℕ) (hn : n < cfg0.N),
    (outsAt0 m c n hn).2.1 = blockRows fun ci h => dkG m c (chunk ⟨7 - n, by omega⟩ ci) h
  | 0, hn => by
    rw [outsAt0_A m c ⟨0, hn⟩ rfl]
    dsimp only
    rw [outA_dk]
    refine congrArg _ (funext fun ci => funext fun h => ?_)
    rw [row_block (iblk_5 m c ⟨0, hn⟩), after_block (t := 0) (by omega) (iblk_0 m c ⟨0, hn⟩) (iblk_1 m c ⟨0, hn⟩) (iblk_2 m c ⟨0, hn⟩) (iblk_3 m c ⟨0, hn⟩) (iblk_4 m c ⟨0, hn⟩) (iblk_7 m c ⟨0, hn⟩) (s0 := start) (fun _ => rfl)]
    rfl
  | n + 1, hn => by
    have hN : n + 1 < 8 := lt_of_lt_of_eq hn N_0
    have e := outsAt0_B m c ⟨n + 1, hn⟩ (by show ¬(n + 1) % 8 = 0; omega)
    rw [e]
    dsimp only
    rw [outB_dk]
    have hs : ∀ h, headOf (outsAt0 m c (n + 1 - 1) (Nat.lt_of_succ_lt hn)).2.2.2.2.2.2 h = gradsM m c h (8 * (n + 1)) := fun h => scratch m c n _ h
    refine congrArg _ (funext fun ci => funext fun h => ?_)
    rw [row_block (iblk_5 m c ⟨n + 1, hn⟩), after_block (t := n + 1) (by omega) (iblk_0 m c ⟨n + 1, hn⟩) (iblk_1 m c ⟨n + 1, hn⟩) (iblk_2 m c ⟨n + 1, hn⟩) (iblk_3 m c ⟨n + 1, hn⟩) (iblk_4 m c ⟨n + 1, hn⟩) (iblk_7 m c ⟨n + 1, hn⟩) hs]
    rfl

/-- The gradient of the new values, chunk by chunk. -/
def duG (c : Dev nD) (n : Fin 64) (h : Fin 4) : FVec F S64x128 .f32 :=
  newG (V m c main_arg0) (V m c main_arg1) (V m c main_arg2) (V m c main_arg4) (V m c main_arg5) (V m c main_v6) n h

/-- What point `n` leaves of it is its block. -/
theorem left_du (c : Dev nD) : ∀ (n : ℕ) (hn : n < cfg0.N),
    (outsAt0 m c n hn).2.2.1 = blockRows fun ci h => duG m c (chunk ⟨7 - n, by omega⟩ ci) h
  | 0, hn => by
    rw [outsAt0_A m c ⟨0, hn⟩ rfl]
    dsimp only
    rw [outA_du]
    refine congrArg _ (funext fun ci => funext fun h => ?_)
    rw [newAt_block (t := 0) (by omega) (iblk_0 m c ⟨0, hn⟩) (iblk_1 m c ⟨0, hn⟩) (iblk_2 m c ⟨0, hn⟩) (iblk_3 m c ⟨0, hn⟩) (iblk_4 m c ⟨0, hn⟩) (iblk_7 m c ⟨0, hn⟩) (s0 := start) (fun _ => rfl)]
    rfl
  | n + 1, hn => by
    have hN : n + 1 < 8 := lt_of_lt_of_eq hn N_0
    have e := outsAt0_B m c ⟨n + 1, hn⟩ (by show ¬(n + 1) % 8 = 0; omega)
    rw [e]
    dsimp only
    rw [outB_du]
    have hs : ∀ h, headOf (outsAt0 m c (n + 1 - 1) (Nat.lt_of_succ_lt hn)).2.2.2.2.2.2 h = gradsM m c h (8 * (n + 1)) := fun h => scratch m c n _ h
    refine congrArg _ (funext fun ci => funext fun h => ?_)
    rw [newAt_block (t := n + 1) (by omega) (iblk_0 m c ⟨n + 1, hn⟩) (iblk_1 m c ⟨n + 1, hn⟩) (iblk_2 m c ⟨n + 1, hn⟩) (iblk_3 m c ⟨n + 1, hn⟩) (iblk_4 m c ⟨n + 1, hn⟩) (iblk_7 m c ⟨n + 1, hn⟩) hs]
    rfl

/-- The gradient of the `w`, chunk by chunk. -/
def dwG (c : Dev nD) (n : Fin 64) (h : Fin 4) : FVec F S64x128 .f32 :=
  dWeight (newG (V m c main_arg0) (V m c main_arg1) (V m c main_arg2) (V m c main_arg4) (V m c main_arg5) (V m c main_v6) n h) (staG (V m c main_arg6) n h)

/-- What point `n` leaves of it is its block. -/
theorem left_dw (c : Dev nD) : ∀ (n : ℕ) (hn : n < cfg0.N),
    (outsAt0 m c n hn).2.2.2.1 = blockRows fun ci h => dwG m c (chunk ⟨7 - n, by omega⟩ ci) h
  | 0, hn => by
    rw [outsAt0_A m c ⟨0, hn⟩ rfl]
    dsimp only
    rw [outA_dw]
    refine congrArg _ (funext fun ci => funext fun h => ?_)
    rw [newAt_block (t := 0) (by omega) (iblk_0 m c ⟨0, hn⟩) (iblk_1 m c ⟨0, hn⟩) (iblk_2 m c ⟨0, hn⟩) (iblk_3 m c ⟨0, hn⟩) (iblk_4 m c ⟨0, hn⟩) (iblk_7 m c ⟨0, hn⟩) (s0 := start) (fun _ => rfl), sta_block (iblk_6 m c ⟨0, hn⟩)]
    rfl
  | n + 1, hn => by
    have hN : n + 1 < 8 := lt_of_lt_of_eq hn N_0
    have e := outsAt0_B m c ⟨n + 1, hn⟩ (by show ¬(n + 1) % 8 = 0; omega)
    rw [e]
    dsimp only
    rw [outB_dw]
    have hs : ∀ h, headOf (outsAt0 m c (n + 1 - 1) (Nat.lt_of_succ_lt hn)).2.2.2.2.2.2 h = gradsM m c h (8 * (n + 1)) := fun h => scratch m c n _ h
    refine congrArg _ (funext fun ci => funext fun h => ?_)
    rw [newAt_block (t := n + 1) (by omega) (iblk_0 m c ⟨n + 1, hn⟩) (iblk_1 m c ⟨n + 1, hn⟩) (iblk_2 m c ⟨n + 1, hn⟩) (iblk_3 m c ⟨n + 1, hn⟩) (iblk_4 m c ⟨n + 1, hn⟩) (iblk_7 m c ⟨n + 1, hn⟩) hs, sta_block (iblk_6 m c ⟨n + 1, hn⟩)]
    rfl

/-- The gradient of the attention, chunk by chunk. -/
def daG (c : Dev nD) (n : Fin 64) (h : Fin 4) : FVec F S1x64x64 .f32 :=
  dAtt (rowG (V m c main_arg0) n h) (rowG (V m c main_v4) n h)

/-- What point `n` leaves of it is its block. -/
theorem left_da (c : Dev nD) : ∀ (n : ℕ) (hn : n < cfg0.N),
    (outsAt0 m c n hn).2.2.2.2.1 = blockAtts fun ci h => daG m c (chunk ⟨7 - n, by omega⟩ ci) h
  | 0, hn => by
    rw [outsAt0_A m c ⟨0, hn⟩ rfl]
    dsimp only
    rw [outA_da]
    refine congrArg _ (funext fun ci => funext fun h => ?_)
    rw [row_block (iblk_0 m c ⟨0, hn⟩), row_block (iblk_5 m c ⟨0, hn⟩)]
    rfl
  | n + 1, hn => by
    have hN : n + 1 < 8 := lt_of_lt_of_eq hn N_0
    have e := outsAt0_B m c ⟨n + 1, hn⟩ (by show ¬(n + 1) % 8 = 0; omega)
    rw [e]
    dsimp only
    rw [outB_da]
    have hs : ∀ h, headOf (outsAt0 m c (n + 1 - 1) (Nat.lt_of_succ_lt hn)).2.2.2.2.2.2 h = gradsM m c h (8 * (n + 1)) := fun h => scratch m c n _ h
    refine congrArg _ (funext fun ci => funext fun h => ?_)
    rw [row_block (iblk_0 m c ⟨n + 1, hn⟩), row_block (iblk_5 m c ⟨n + 1, hn⟩)]
    rfl

/-- The gradient of the last gate, chunk by chunk. -/
def dgG (c : Dev nD) (n : Fin 64) (h : Fin 4) : FVec F S8x128 .f32 :=
  dGate (afterG (V m c main_arg0) (V m c main_arg1) (V m c main_arg2) (V m c main_arg4) (V m c main_arg5) (V m c main_v6) n h) (staG (V m c main_arg6) n h) (lastG (V m c main_v6) n h)

/-- What point `n` leaves of it is its block. -/
theorem left_dg (c : Dev nD) : ∀ (n : ℕ) (hn : n < cfg0.N),
    (outsAt0 m c n hn).2.2.2.2.2.1 = blockGates fun ci h => dgG m c (chunk ⟨7 - n, by omega⟩ ci) h
  | 0, hn => by
    rw [outsAt0_A m c ⟨0, hn⟩ rfl]
    dsimp only
    rw [outA_dg]
    refine congrArg _ (funext fun ci => funext fun h => ?_)
    rw [after_block (t := 0) (by omega) (iblk_0 m c ⟨0, hn⟩) (iblk_1 m c ⟨0, hn⟩) (iblk_2 m c ⟨0, hn⟩) (iblk_3 m c ⟨0, hn⟩) (iblk_4 m c ⟨0, hn⟩) (iblk_7 m c ⟨0, hn⟩) (s0 := start) (fun _ => rfl), sta_block (iblk_6 m c ⟨0, hn⟩), last_block (iblk_7 m c ⟨0, hn⟩)]
    rfl
  | n + 1, hn => by
    have hN : n + 1 < 8 := lt_of_lt_of_eq hn N_0
    have e := outsAt0_B m c ⟨n + 1, hn⟩ (by show ¬(n + 1) % 8 = 0; omega)
    rw [e]
    dsimp only
    rw [outB_dg]
    have hs : ∀ h, headOf (outsAt0 m c (n + 1 - 1) (Nat.lt_of_succ_lt hn)).2.2.2.2.2.2 h = gradsM m c h (8 * (n + 1)) := fun h => scratch m c n _ h
    refine congrArg _ (funext fun ci => funext fun h => ?_)
    rw [after_block (t := n + 1) (by omega) (iblk_0 m c ⟨n + 1, hn⟩) (iblk_1 m c ⟨n + 1, hn⟩) (iblk_2 m c ⟨n + 1, hn⟩) (iblk_3 m c ⟨n + 1, hn⟩) (iblk_4 m c ⟨n + 1, hn⟩) (iblk_7 m c ⟨n + 1, hn⟩) hs, sta_block (iblk_6 m c ⟨n + 1, hn⟩), last_block (iblk_7 m c ⟨n + 1, hn⟩)]
    rfl

end Cert.ScanBack
-- ==== Proof.BackIdeal.lean ====
/-
  The chunk functions of the backward scan over the extended reals, read at an index.
-/
module

public import proofs.«01_k».proof.Proof.BackChunk
public import Idealize.ShloMosaic.Lib.Pointwise

@[expose] public section

set_option maxRecDepth 16384

noncomputable section

namespace Cert.ScanBack

open Idealize.ShloMosaic Cert.KernelIdeal Cert.KernelIdeal.Gen

theorem dotNN_at (a : FVec Ideal S64x128 .f32) (s : FVec Ideal S128x128 .f32) (c : Fin 64) (e : Fin 128) :
    dotNN a s (ix2 c e) = ∑ k : Fin 128, a (ix2 c k) * s (ix2 k e) := by
  pointwise [dotNN]

theorem dotNT_at (a : FVec Ideal S64x128 .f32) (s : FVec Ideal S128x128 .f32) (c : Fin 64) (e : Fin 128) :
    dotNT a s (ix2 c e) = ∑ k : Fin 128, a (ix2 c k) * s (ix2 e k) := by
  pointwise [dotNT]

theorem dotTN_at (a b : FVec Ideal S64x128 .f32) (d e : Fin 128) :
    dotTN a b (ix2 d e) = ∑ k : Fin 64, a (ix2 k d) * b (ix2 k e) := by
  pointwise [dotTN]

theorem dNew_at (a : FVec Ideal S1x64x64 .f32) (d k : FVec Ideal S64x128 .f32) (ds : FVec Ideal S128x128 .f32) (c : Fin 64) (e : Fin 128) :
    dNew a d k ds (ix2 c e) = (∑ x : Fin 64, a (ix3 0 x c) * d (ix2 x e)) + ∑ x : Fin 128, k (ix2 c x) * ds (ix2 x e) := by
  pointwise [dNew, dotAtt, dotNN]

theorem dAtt_at (d v : FVec Ideal S64x128 .f32) (x y : Fin 64) :
    dAtt d v (ix3 0 x y) = ∑ k : Fin 128, d (ix2 x k) * v (ix2 y k) := by
  pointwise [dAtt, dotRows]

theorem dQuery_at (d : FVec Ideal S64x128 .f32) (s : FVec Ideal S1x1x128x128 .f32) (c : Fin 64) (e : Fin 128) :
    dQuery d s (ix2 c e) = ∑ k : Fin 128, d (ix2 c k) * s (ix4 0 0 e k) := by
  pointwise [dQuery, dotNT]

theorem dKey_at (v : FVec Ideal S64x128 .f32) (ds : FVec Ideal S128x128 .f32) (c : Fin 64) (e : Fin 128) :
    dKey v ds (ix2 c e) = ∑ k : Fin 128, v (ix2 c k) * ds (ix2 e k) := by
  pointwise [dKey, dotNT]

theorem dWeight_at (dn : FVec Ideal S64x128 .f32) (s : FVec Ideal S1x1x128x128 .f32) (c : Fin 64) (e : Fin 128) :
    dWeight dn s (ix2 c e) = 0 - ∑ k : Fin 128, dn (ix2 c k) * s (ix4 0 0 e k) := by
  pointwise [dWeight, dotNT]

theorem dGate_at (ds : FVec Ideal S128x128 .f32) (s : FVec Ideal S1x1x128x128 .f32) (g : FVec Ideal S1x128 .f32) (r : Fin 8) (l : Fin 128) :
    dGate ds s g (ix2 r l) = (∑ d : Fin 128, ∑ e : Fin 128, ds (ix2 d e) * s (ix4 0 0 d e)) * Ideal.exp (g (ix2 0 l)) := by
  pointwise [dGate, decay]

theorem dState_at (ds : FVec Ideal S128x128 .f32) (g : FVec Ideal S1x128 .f32) (q d w dn : FVec Ideal S64x128 .f32) (x y : Fin 128) :
    dState ds g q d w dn (ix2 x y)
      = (ds (ix2 x y) * Ideal.exp (g (ix2 0 y)) + ∑ k : Fin 64, q (ix2 k x) * d (ix2 k y)) - ∑ k : Fin 64, w (ix2 k x) * dn (ix2 k y) := by
  pointwise [dState, decay, dotTN]

end Cert.ScanBack
-- ==== Proof.Chunks.lean ====
/-
  Facts that both scans use: one chunk cut out of an array of sixty-four chunks, one chunk written into it, and sums of
  real numbers inside the extended reals.
-/
module

public import Idealize.ShloMosaic.Lib.Pointwise
public import Idealize.ShloMosaic.PureOps.Ideal

@[expose] public section

noncomputable section

namespace Cert.Scan

open Idealize.ShloMosaic

/-- An array of sixty-four chunks of four heads. -/
abbrev Many (p q : ℕ) : Shape := ⟨5, ![64, 1, 4, p, q]⟩
/-- One of its chunks. -/
abbrev One (p q : ℕ) : Shape := ⟨5, ![1, 1, 4, p, q]⟩

/-- The start of the slice of chunk `n`. -/
def IsStart (n : Fin 64) (start : Fin 5 → ℤ) : Prop :=
  start 0 = n.val ∧ start 1 = 0 ∧ start 2 = 0 ∧ start 3 = 0 ∧ start 4 = 0

theorem clamped {p q : ℕ} {n : Fin 64} {start : Fin 5 → ℤ} (hs : IsStart n start) :
    Host.clampedStart (Many p q) (One p q) rfl start 0 = n.val ∧ Host.clampedStart (Many p q) (One p q) rfl start 1 = 0
      ∧ Host.clampedStart (Many p q) (One p q) rfl start 2 = 0 ∧ Host.clampedStart (Many p q) (One p q) rfl start 3 = 0
      ∧ Host.clampedStart (Many p q) (One p q) rfl start 4 = 0 := by
  obtain ⟨h0, h1, h2, h3, h4⟩ := hs
  have := n.isLt
  refine ⟨Host.clampedStart_of_le _ _ _ _ h0 ?_, Host.clampedStart_of_le _ _ _ 0 h1 ?_, Host.clampedStart_of_le _ _ _ 0 h2 ?_,
    Host.clampedStart_of_le _ _ _ 0 h3 ?_, Host.clampedStart_of_le _ _ _ 0 h4 ?_⟩
  · show n.val + 1 ≤ 64; omega
  · show 0 + 1 ≤ 1; omega
  · show 0 + 4 ≤ 4; omega
  · show 0 + p ≤ p; omega
  · show 0 + q ≤ q; omega

/-- The slice of chunk `n`, at an index. -/
theorem slice_chunk {α : Type} {p q : ℕ} (x : (Many p q).Idx → α) (start : Fin 5 → ℤ)
    (hf : (Many p q).Slices (fun _ => 0) (One p q)) (n : Fin 64) (hs : IsStart n start) (h : Fin 4) (c : Fin p) (e : Fin q) :
    Host.dynamicSlice (One p q) x start hf (ix5 0 0 h c e) = x (ix5 n 0 h c e) := by
  obtain ⟨e0, e1, e2, e3, e4⟩ := clamped (p := p) (q := q) hs
  rw [Host.dynamicSlice_apply]
  refine congrArg x (funext fun a => Fin.ext ?_)
  match a with
  | ⟨0, _⟩ => show Host.clampedStart (Many p q) (One p q) rfl start 0 + 0 = n.val; omega
  | ⟨1, _⟩ => show Host.clampedStart (Many p q) (One p q) rfl start 1 + 0 = 0; omega
  | ⟨2, _⟩ => show Host.clampedStart (Many p q) (One p q) rfl start 2 + h.val = h.val; omega
  | ⟨3, _⟩ => show Host.clampedStart (Many p q) (One p q) rfl start 3 + c.val = c.val; omega
  | ⟨4, _⟩ => show Host.clampedStart (Many p q) (One p q) rfl start 4 + e.val = e.val; omega

/-- An array with chunk `n` written, at an index. -/
theorem update_chunk {α : Type} {p q : ℕ} (x : (Many p q).Idx → α) (upd : (One p q).Idx → α) (start : Fin 5 → ℤ)
    (hf : (Many p q).Slices (fun _ => 0) (One p q)) (n : Fin 64) (hs : IsStart n start) (n' : Fin 64) (h : Fin 4)
    (c : Fin p) (e : Fin q) :
    Host.dynamicUpdateSlice x upd start hf (ix5 n' 0 h c e)
      = if n' = n then upd (ix5 0 0 h c e) else x (ix5 n' 0 h c e) := by
  obtain ⟨e0, e1, e2, e3, e4⟩ := clamped (p := p) (q := q) hs
  rw [Host.dynamicUpdateSlice_apply]
  by_cases hn : n' = n
  · subst hn
    rw [if_pos rfl, dif_pos]
    · refine congrArg upd (funext fun a => Fin.ext ?_)
      match a with
      | ⟨0, _⟩ => show n'.val - Host.clampedStart (Many p q) (One p q) rfl start 0 = 0; omega
      | ⟨1, _⟩ => show 0 - Host.clampedStart (Many p q) (One p q) rfl start 1 = 0; omega
      | ⟨2, _⟩ => show h.val - Host.clampedStart (Many p q) (One p q) rfl start 2 = h.val; omega
      | ⟨3, _⟩ => show c.val - Host.clampedStart (Many p q) (One p q) rfl start 3 = c.val; omega
      | ⟨4, _⟩ => show e.val - Host.clampedStart (Many p q) (One p q) rfl start 4 = e.val; omega
    · have := h.isLt; have := c.isLt; have := e.isLt
      intro a
      match a with
      | ⟨0, _⟩ =>
        show Host.clampedStart (Many p q) (One p q) rfl start 0 ≤ n'.val
          ∧ n'.val < Host.clampedStart (Many p q) (One p q) rfl start 0 + 1
        omega
      | ⟨1, _⟩ =>
        show Host.clampedStart (Many p q) (One p q) rfl start 1 ≤ 0 ∧ 0 < Host.clampedStart (Many p q) (One p q) rfl start 1 + 1
        omega
      | ⟨2, _⟩ =>
        show Host.clampedStart (Many p q) (One p q) rfl start 2 ≤ h.val
          ∧ h.val < Host.clampedStart (Many p q) (One p q) rfl start 2 + 4
        omega
      | ⟨3, _⟩ =>
        show Host.clampedStart (Many p q) (One p q) rfl start 3 ≤ c.val
          ∧ c.val < Host.clampedStart (Many p q) (One p q) rfl start 3 + p
        omega
      | ⟨4, _⟩ =>
        show Host.clampedStart (Many p q) (One p q) rfl start 4 ≤ e.val
          ∧ e.val < Host.clampedStart (Many p q) (One p q) rfl start 4 + q
        omega
  · rw [if_neg hn, dif_neg]
    intro hin
    have h0 : Host.clampedStart (Many p q) (One p q) rfl start 0 ≤ n'.val
        ∧ n'.val < Host.clampedStart (Many p q) (One p q) rfl start 0 + 1 := hin 0
    exact hn (Fin.ext (by omega))

/-! ## Rows and lanes -/

/-- Row `c` of chunk `n`. -/
def tok (n c : Fin 64) : Fin 4096 := ⟨64 * n.val + c.val, by omega⟩
/-- Lane `e` of head `h`. -/
def lane (h : Fin 4) (e : Fin 128) : Fin 512 := ⟨128 * h.val + e.val, by omega⟩

/-! ## Real numbers among the extended ones -/

/-- A real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  rw [sub_eq_add_neg]
  exact hx.add hy.neg

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.exp {x : EReal} (hx : IsReal x) : IsReal (Ideal.exp x) := by
  obtain ⟨a, rfl⟩ := hx
  exact ⟨_root_.Real.exp a, rfl⟩

theorem IsReal.sum {ι : Type} (s : Finset ι) (f : ι → EReal) (hf : ∀ i, IsReal (f i)) : IsReal (∑ i ∈ s, f i) := by
  classical
  induction s using Finset.induction_on with
  | empty => simpa using IsReal.zero
  | insert i s hi ih => rw [Finset.sum_insert hi]; exact (hf i).add ih

theorem neg_sum {ι : Type} (s : Finset ι) (f : ι → EReal) (hf : ∀ i, IsReal (f i)) : -(∑ i ∈ s, f i) = ∑ i ∈ s, -(f i) := by
  classical
  induction s using Finset.induction_on with
  | empty => simp
  | insert i s hi ih =>
    obtain ⟨a, ha⟩ := hf i
    obtain ⟨b, hb⟩ := IsReal.sum s f hf
    rw [Finset.sum_insert hi, Finset.sum_insert hi, ← ih, ha, hb, ← EReal.coe_add, ← EReal.coe_neg, ← EReal.coe_neg,
      ← EReal.coe_neg, ← EReal.coe_add, neg_add]

/-- The negation of a sum of products, the sign moved onto the first factors. -/
theorem neg_sum_mul {ι : Type} (s : Finset ι) (f g : ι → EReal) (hf : ∀ i, IsReal (f i)) (hg : ∀ i, IsReal (g i)) :
    ∑ i ∈ s, -(f i) * g i = -(∑ i ∈ s, f i * g i) := by
  rw [neg_sum s _ fun i => (hf i).mul (hg i)]
  exact Finset.sum_congr rfl fun i _ => EReal.neg_mul _ _

theorem top_bits : FloatOps.ofBits (F := Ideal) .f32 0x7F800000#32 = (⊤ : EReal) := by
  show Ideal.ofBits .f32 0x7F800000#32 = ⊤
  simp [Ideal.ofBits, Ideal.ieee]

/-- What the precondition says of one element. -/
theorem IsReal.of_lt {x : EReal} (hx : FloatOps.cmpf (F := Ideal) (φ := .f32) .olt (FloatOps.hostAbsf (F := Ideal) (φ := .f32) x)
    (FloatOps.ofBits .f32 0x7F800000#32) = 1#1) : IsReal x := by
  rw [top_bits] at hx
  have h : max x (-x) < ⊤ := by
    by_contra hc
    have : BitVec.ofBool (decide (max x (-x) < ⊤)) = 1#1 := hx
    simp [hc] at this
  induction x using EReal.rec with
  | bot => exact absurd h (by simp)
  | top => exact absurd h (by simp)
  | coe r => exact ⟨r, rfl⟩

end Cert.Scan
-- ==== Proof.BackRef.lean ====
/-
  One trip of the reference's backward loop over the extended reals, read at an index: the slices of the trip's chunk, the
  values the trip computes of them, and the arrays it writes them into.
-/
module

public import proofs.«01_k».proof.Proof.Gen.ReferenceIdeal.Step
public import proofs.«01_k».proof.Proof.Chunks

@[expose] public section

set_option maxRecDepth 16384

noncomputable section

namespace Cert.ReferenceIdeal.At

open Idealize.ShloMosaic Cert.ReferenceIdeal Cert.ReferenceIdeal.Gen Cert.ReferenceIdeal.Step Cert.Scan

/-- The chunk of trip `j`, as the loop computes it. -/
theorem start_toInt (j : ℕ) (s : State Ideal) (hj : j < 64) : (b3 j s (Shape.Idx.first h_S_)).toInt = ((63 - j : ℕ) : Int) := by
  show ((64#32 - BitVec.ofNat 32 j) - 1#32).toInt = _
  have e : (64#32 - BitVec.ofNat 32 j) - 1#32 = BitVec.ofNat 32 (63 - j) := by
    apply BitVec.eq_of_toNat_eq
    simp only [BitVec.toNat_sub, BitVec.toNat_ofNat]
    omega
  rw [e, BitVec.toInt_eq_toNat_cond, BitVec.toNat_ofNat]
  split <;> omega

section Trip

variable (j : ℕ) (s : State Ideal) (n : Fin 64) (hn : n.val = 63 - j) (hj : j < 64)

include hn hj in
theorem isStart (z1 z2 z3 z4 : (⟨S_, .i32⟩ : BufTy).Contents (Elt Ideal)) (h1 : z1 = constantI S_ 32 0#32)
    (h2 : z2 = constantI S_ 32 0#32) (h3 : z3 = constantI S_ 32 0#32) (h4 : z4 = constantI S_ 32 0#32) :
    IsStart n (fun k => (((![(b3 j s), z1, z2, z3, z4] : Fin 5 → (⟨S_, .i32⟩ : BufTy).Contents (Elt Ideal))) k (Shape.Idx.first h_S_)).toInt) := by
  subst h1 h2 h3 h4
  exact ⟨(start_toInt j s hj).trans (by rw [hn]), rfl, rfl, rfl, rfl⟩

/-! ## The slices -/

include hn hj in
theorem b9_at (h : Fin 4) (c : Fin 64) (e : Fin 128) : b9 j s (ix4 0 h c e) = s.main_v26_0 (ix5 n 0 h c e) := by
  have t := slice_chunk (s.main_v26_0) _ sliceFits_S64x1x4x64x128_S1x1x4x64x128 n
    (isStart j s n hn hj (b4 j s) (b5 j s) (b6 j s) (b7 j s) rfl rfl rfl rfl) h c e
  pointwise [b9]
  exact t

include hn hj in
theorem b15_at (h : Fin 4) (c : Fin 64) (e : Fin 128) : b15 j s (ix4 0 h c e) = s.main_v26_1 (ix5 n 0 h c e) := by
  have t := slice_chunk (s.main_v26_1) _ sliceFits_S64x1x4x64x128_S1x1x4x64x128 n
    (isStart j s n hn hj (b10 j s) (b11 j s) (b12 j s) (b13 j s) rfl rfl rfl rfl) h c e
  pointwise [b15]
  exact t

include hn hj in
theorem b21_at (h : Fin 4) (c : Fin 64) (e : Fin 128) : b21 j s (ix4 0 h c e) = s.main_v26_2 (ix5 n 0 h c e) := by
  have t := slice_chunk (s.main_v26_2) _ sliceFits_S64x1x4x64x128_S1x1x4x64x128 n
    (isStart j s n hn hj (b16 j s) (b17 j s) (b18 j s) (b19 j s) rfl rfl rfl rfl) h c e
  pointwise [b21]
  exact t

include hn hj in
theorem b27_at (h : Fin 4) (c : Fin 64) (e : Fin 128) : b27 j s (ix4 0 h c e) = s.main_v26_3 (ix5 n 0 h c e) := by
  have t := slice_chunk (s.main_v26_3) _ sliceFits_S64x1x4x64x128_S1x1x4x64x128 n
    (isStart j s n hn hj (b22 j s) (b23 j s) (b24 j s) (b25 j s) rfl rfl rfl rfl) h c e
  pointwise [b27]
  exact t

include hn hj in
theorem b33_at (h : Fin 4) (c : Fin 64) (e : Fin 64) : b33 j s (ix4 0 h c e) = s.main_v26_4 (ix5 n 0 h c e) := by
  have t := slice_chunk (s.main_v26_4) _ sliceFits_S64x1x4x64x64_S1x1x4x64x64 n
    (isStart j s n hn hj (b28 j s) (b29 j s) (b30 j s) (b31 j s) rfl rfl rfl rfl) h c e
  pointwise [b33]
  exact t

include hn hj in
theorem b39_at (h : Fin 4) (c : Fin 1) (e : Fin 1) : b39 j s (ix4 0 h c e) = s.main_v26_5 (ix5 n 0 h c e) := by
  have t := slice_chunk (s.main_v26_5) _ sliceFits_S64x1x4x1x1_S1x1x4x1x1 n
    (isStart j s n hn hj (b34 j s) (b35 j s) (b36 j s) (b37 j s) rfl rfl rfl rfl) h c e
  obtain rfl : c = 0 := Subsingleton.elim _ _
  obtain rfl : e = 0 := Subsingleton.elim _ _
  pointwise [b39]
  exact t

include hn hj in
theorem b45_at (h : Fin 4) (c : Fin 128) (e : Fin 128) : b45 j s (ix4 0 h c e) = s.main_v26_6 (ix5 n 0 h c e) := by
  have t := slice_chunk (s.main_v26_6) _ sliceFits_S64x1x4x128x128_S1x1x4x128x128 n
    (isStart j s n hn hj (b40 j s) (b41 j s) (b42 j s) (b43 j s) rfl rfl rfl rfl) h c e
  pointwise [b45]
  exact t

include hn hj in
theorem b51_at (h : Fin 4) (c : Fin 64) (e : Fin 128) : b51 j s (ix4 0 h c e) = s.main_v26_7 (ix5 n 0 h c e) := by
  have t := slice_chunk (s.main_v26_7) _ sliceFits_S64x1x4x64x128_S1x1x4x64x128 n
    (isStart j s n hn hj (b46 j s) (b47 j s) (b48 j s) (b49 j s) rfl rfl rfl rfl) h c e
  pointwise [b51]
  exact t

/-! ## The values -/

theorem b53_at (h : Fin 4) (c : Fin 64) (e : Fin 128) :
    b53 j s (ix4 0 h c e) = b21 j s (ix4 0 h c e) - ∑ k : Fin 128, b27 j s (ix4 0 h c k) * b45 j s (ix4 0 h k e) := by
  pointwise [b53, b52]

theorem b65_at (h : Fin 4) (c : Fin 64) (e : Fin 128) :
    b65 j s (ix4 0 h c e) = ∑ k : Fin 128, s.main_v26_9 (ix4 0 h e k) * b53 j s (ix4 0 h c k) := by
  pointwise [b65, b64]

theorem b72_at (h : Fin 4) :
    b72 j s (ix4 0 h 0 0)
      = (∑ d : Fin 128, ∑ e : Fin 128, b45 j s (ix4 0 h d e) * s.main_v26_9 (ix4 0 h d e)) * Ideal.exp (b39 j s (ix4 0 h 0 0)) := by
  pointwise [b72, b69, b68, b66, b67, b57]

theorem b75_at (h : Fin 4) (c : Fin 64) (e : Fin 128) :
    b75 j s (ix4 0 h c e) = (∑ x : Fin 128, s.main_v26_9 (ix4 0 h x e) * b15 j s (ix4 0 h c x))
      + ∑ x : Fin 64, b51 j s (ix4 0 h x e) * b33 j s (ix4 0 h x c) := by
  pointwise [b75, b63, b62, b74, b73]

theorem b76_at (h : Fin 4) (x y : Fin 64) :
    b76 j s (ix4 0 h x y) = ∑ k : Fin 128, b51 j s (ix4 0 h x k) * b53 j s (ix4 0 h y k) := by
  pointwise [b76]

theorem b80_at (h : Fin 4) (c : Fin 64) (e : Fin 128) :
    b80 j s (ix4 0 h c e) = ∑ k : Fin 128, b51 j s (ix4 0 h c k) * b45 j s (ix4 0 h e k) := by
  pointwise [b80]

theorem b84_at (h : Fin 4) (x y : Fin 128) :
    b84 j s (ix4 0 h x y)
      = (s.main_v26_9 (ix4 0 h x y) * Ideal.exp (b39 j s (ix4 0 h 0 0))
          + ∑ k : Fin 64, b51 j s (ix4 0 h k y) * b9 j s (ix4 0 h k x))
        + ∑ k : Fin 64, -(b75 j s (ix4 0 h k y)) * b27 j s (ix4 0 h k x) := by
  pointwise [b84, b83, b82, b81, b79, b78, b77, b71, b70, b57]

theorem b85_at (h : Fin 4) (c : Fin 64) (e : Fin 128) :
    b85 j s (ix4 0 h c e) = ∑ k : Fin 128, -(b75 j s (ix4 0 h c k)) * b45 j s (ix4 0 h e k) := by
  pointwise [b85, b81]

/-! ## The arrays the trip writes -/

include hn hj in
theorem b91_at (n' : Fin 64) (h : Fin 4) (c : Fin 64) (e : Fin 128) :
    b91 j s (ix5 n' 0 h c e) = if n' = n then b80 j s (ix4 0 h c e) else s.main_v26_10 (ix5 n' 0 h c e) := by
  have t := update_chunk (s.main_v26_10) (b86 j s) _ updateFits_S64x1x4x64x128_S1x1x4x64x128 n
    (isStart j s n hn hj (b87 j s) (b88 j s) (b89 j s) (b90 j s) rfl rfl rfl rfl) n' h c e
  have v : b86 j s (ix5 0 0 h c e) = b80 j s (ix4 0 h c e) := by
    pointwise [b86]
  rw [v] at t
  exact t

include hn hj in
theorem b97_at (n' : Fin 64) (h : Fin 4) (c : Fin 64) (e : Fin 128) :
    b97 j s (ix5 n' 0 h c e) = if n' = n then b65 j s (ix4 0 h c e) else s.main_v26_11 (ix5 n' 0 h c e) := by
  have t := update_chunk (s.main_v26_11) (b92 j s) _ updateFits_S64x1x4x64x128_S1x1x4x64x128 n
    (isStart j s n hn hj (b93 j s) (b94 j s) (b95 j s) (b96 j s) rfl rfl rfl rfl) n' h c e
  have v : b92 j s (ix5 0 0 h c e) = b65 j s (ix4 0 h c e) := by
    pointwise [b92]
  rw [v] at t
  exact t

include hn hj in
theorem b103_at (n' : Fin 64) (h : Fin 4) (c : Fin 64) (e : Fin 128) :
    b103 j s (ix5 n' 0 h c e) = if n' = n then b75 j s (ix4 0 h c e) else s.main_v26_12 (ix5 n' 0 h c e) := by
  have t := update_chunk (s.main_v26_12) (b98 j s) _ updateFits_S64x1x4x64x128_S1x1x4x64x128 n
    (isStart j s n hn hj (b99 j s) (b100 j s) (b101 j s) (b102 j s) rfl rfl rfl rfl) n' h c e
  have v : b98 j s (ix5 0 0 h c e) = b75 j s (ix4 0 h c e) := by
    pointwise [b98]
  rw [v] at t
  exact t

include hn hj in
theorem b109_at (n' : Fin 64) (h : Fin 4) (c : Fin 64) (e : Fin 128) :
    b109 j s (ix5 n' 0 h c e) = if n' = n then b85 j s (ix4 0 h c e) else s.main_v26_13 (ix5 n' 0 h c e) := by
  have t := update_chunk (s.main_v26_13) (b104 j s) _ updateFits_S64x1x4x64x128_S1x1x4x64x128 n
    (isStart j s n hn hj (b105 j s) (b106 j s) (b107 j s) (b108 j s) rfl rfl rfl rfl) n' h c e
  have v : b104 j s (ix5 0 0 h c e) = b85 j s (ix4 0 h c e) := by
    pointwise [b104]
  rw [v] at t
  exact t

include hn hj in
theorem b115_at (n' : Fin 64) (h : Fin 4) (c : Fin 64) (e : Fin 64) :
    b115 j s (ix5 n' 0 h c e) = if n' = n then b76 j s (ix4 0 h c e) else s.main_v26_14 (ix5 n' 0 h c e) := by
  have t := update_chunk (s.main_v26_14) (b110 j s) _ updateFits_S64x1x4x64x64_S1x1x4x64x64 n
    (isStart j s n hn hj (b111 j s) (b112 j s) (b113 j s) (b114 j s) rfl rfl rfl rfl) n' h c e
  have v : b110 j s (ix5 0 0 h c e) = b76 j s (ix4 0 h c e) := by
    pointwise [b110]
  rw [v] at t
  exact t

include hn hj in
theorem b121_at (n' : Fin 64) (h : Fin 4) (c : Fin 1) (e : Fin 1) :
    b121 j s (ix5 n' 0 h c e) = if n' = n then b72 j s (ix4 0 h c e) else s.main_v26_15 (ix5 n' 0 h c e) := by
  have t := update_chunk (s.main_v26_15) (b116 j s) _ updateFits_S64x1x4x1x1_S1x1x4x1x1 n
    (isStart j s n hn hj (b117 j s) (b118 j s) (b119 j s) (b120 j s) rfl rfl rfl rfl) n' h c e
  obtain rfl : c = 0 := Subsingleton.elim _ _
  obtain rfl : e = 0 := Subsingleton.elim _ _
  have v : b116 j s (ix5 0 0 h 0 0) = b72 j s (ix4 0 h 0 0) := by
    pointwise [b116]
  rw [v] at t
  exact t

end Trip

/-! ## The arrays before and after the loop -/

variable (s : State Ideal)

variable (a0 a1 a2 a3 a4 : FVec Ideal S4096x512 .f32) (a5 : FVec Ideal S4x4096x64 .f32) (a6 : FVec Ideal S64x4x128x128 .f32)
  (a7 : FVec Ideal S4096x4 .f32)

theorem tok_eq (n c : Fin 64) (hb : n.val * 64 + c.val < 4096) : (⟨n.val * 64 + c.val, hb⟩ : Fin 4096) = tok n c :=
  Fin.ext (by show n.val * 64 + c.val = 64 * n.val + c.val; omega)

theorem lane_eq (h : Fin 4) (e : Fin 128) (hb : h.val * 128 + e.val < 512) : (⟨h.val * 128 + e.val, hb⟩ : Fin 512) = lane h e :=
  Fin.ext (by show h.val * 128 + e.val = 128 * h.val + e.val; omega)

theorem A10_at (n : Fin 64) (h : Fin 4) (c : Fin 64) (e : Fin 128) :
    A_main_v10 (F := Ideal) a0 a1 a2 a3 a4 a5 a6 a7 (ix5 n 0 h c e) = a1 (ix2 (tok n c) (lane h e)) := by
  pointwise [A_main_v10, A_main_v9]
  rw [tok_eq, lane_eq]

theorem A12_at (n : Fin 64) (h : Fin 4) (c : Fin 64) (e : Fin 128) :
    A_main_v12 (F := Ideal) a0 a1 a2 a3 a4 a5 a6 a7 (ix5 n 0 h c e) = a2 (ix2 (tok n c) (lane h e)) := by
  pointwise [A_main_v12, A_main_v11]
  rw [tok_eq, lane_eq]

theorem A14_at (n : Fin 64) (h : Fin 4) (c : Fin 64) (e : Fin 128) :
    A_main_v14 (F := Ideal) a0 a1 a2 a3 a4 a5 a6 a7 (ix5 n 0 h c e) = a3 (ix2 (tok n c) (lane h e)) := by
  pointwise [A_main_v14, A_main_v13]
  rw [tok_eq, lane_eq]

theorem A16_at (n : Fin 64) (h : Fin 4) (c : Fin 64) (e : Fin 128) :
    A_main_v16 (F := Ideal) a0 a1 a2 a3 a4 a5 a6 a7 (ix5 n 0 h c e) = a4 (ix2 (tok n c) (lane h e)) := by
  pointwise [A_main_v16, A_main_v15]
  rw [tok_eq, lane_eq]

theorem A19_at (n : Fin 64) (h : Fin 4) (c : Fin 64) (e : Fin 128) :
    A_main_v19 (F := Ideal) a0 a1 a2 a3 a4 a5 a6 a7 (ix5 n 0 h c e) = a0 (ix2 (tok n c) (lane h e)) := by
  pointwise [A_main_v19, A_main_v18]
  rw [tok_eq, lane_eq]

theorem A3_at (n : Fin 64) (h : Fin 4) (x y : Fin 64) :
    A_main_v3 (F := Ideal) a0 a1 a2 a3 a4 a5 a6 a7 (ix5 n 0 h x y) = a5 (ix3 h (tok n x) y) := by
  pointwise [A_main_v3, A_main_v2, A_main_v1]
  rw [tok_eq]

theorem A8_at (n : Fin 64) (h : Fin 4) :
    A_main_v8 (F := Ideal) a0 a1 a2 a3 a4 a5 a6 a7 (ix5 n 0 h 0 0) = a7 (ix2 (tok n 63) h) := by
  pointwise [A_main_v8, A_main_v7, A_main_v6, A_main_v5, A_main_v4]
  rw [← tok_eq n 63 (by have := n.isLt; show n.val * 64 + 63 < 4096; omega)]
  rfl

theorem A17_at (n : Fin 64) (h : Fin 4) (d e : Fin 128) :
    A_main_v17 (F := Ideal) a0 a1 a2 a3 a4 a5 a6 a7 (ix5 n 0 h d e) = a6 (ix4 n h d e) := by
  pointwise [A_main_v17]

theorem R31_at (y0 : Fin 4096) (y1 : Fin 512) :
    R_main_v31 s (ix2 y0 y1) = s.main_v26_10 (ix5 ⟨y0.val / 64, by omega⟩ 0 ⟨y1.val / 128, by omega⟩ ⟨y0.val % 64, by omega⟩ ⟨y1.val % 128, by omega⟩) := by
  pointwise [R_main_v31]

theorem R33_at (y0 : Fin 4096) (y1 : Fin 512) :
    R_main_v33 s (ix2 y0 y1) = s.main_v26_11 (ix5 ⟨y0.val / 64, by omega⟩ 0 ⟨y1.val / 128, by omega⟩ ⟨y0.val % 64, by omega⟩ ⟨y1.val % 128, by omega⟩) := by
  pointwise [R_main_v33]

theorem R35_at (y0 : Fin 4096) (y1 : Fin 512) :
    R_main_v35 s (ix2 y0 y1) = s.main_v26_12 (ix5 ⟨y0.val / 64, by omega⟩ 0 ⟨y1.val / 128, by omega⟩ ⟨y0.val % 64, by omega⟩ ⟨y1.val % 128, by omega⟩) := by
  pointwise [R_main_v35]

theorem R37_at (y0 : Fin 4096) (y1 : Fin 512) :
    R_main_v37 s (ix2 y0 y1) = s.main_v26_13 (ix5 ⟨y0.val / 64, by omega⟩ 0 ⟨y1.val / 128, by omega⟩ ⟨y0.val % 64, by omega⟩ ⟨y1.val % 128, by omega⟩) := by
  pointwise [R_main_v37]

theorem R40_at (y0 : Fin 4) (y1 : Fin 4096) (y2 : Fin 64) :
    R_main_v40 s (ix3 y0 y1 y2) = s.main_v26_14 (ix5 ⟨y1.val / 64, by omega⟩ 0 y0 ⟨y1.val % 64, by omega⟩ y2) := by
  pointwise [R_main_v40]

theorem R29_at (y0 y1 : Fin 512) :
    R_main_v29 s (ix2 y0 y1) = s.main_v26_15 (ix5 ⟨y0.val / 8, by omega⟩ 0 ⟨y1.val / 128, by omega⟩ 0 0) := by
  pointwise [R_main_v29]

end Cert.ReferenceIdeal.At
-- ==== Proof.BackEq.lean ====
/-
  The kernel's chunk functions against one trip of the reference's loop, and by induction against the whole loop.
-/
module

public import proofs.«01_k».proof.Proof.BackValue
public import proofs.«01_k».proof.Proof.BackIdeal
public import proofs.«01_k».proof.Proof.BackRef

@[expose] public section

set_option maxRecDepth 16384

noncomputable section

namespace Cert.ScanEq

open Idealize.ShloMosaic Cert.KernelIdeal Cert.KernelIdeal.Gen Cert.Scan Cert.ScanBack

/-! ## The kernel's slices at an index -/

theorem rowG_at (X : FVec Ideal S4096x512 .f32) (n : Fin 64) (h : Fin 4) (c : Fin 64) (e : Fin 128) :
    rowG X n h (ix2 c e) = X (ix2 (tok n c) (lane h e)) := by
  refine congrArg X (funext fun a => Fin.ext ?_)
  match a with
  | ⟨0, _⟩ => show 64 * n.val + 1 * c.val = 64 * n.val + c.val; omega
  | ⟨1, _⟩ => show 128 * h.val + 1 * e.val = 128 * h.val + e.val; omega

theorem lastG_at (X : FVec Ideal S4096x512 .f32) (n : Fin 64) (h : Fin 4) (e : Fin 128) :
    lastG X n h (ix2 0 e) = X (ix2 (tok n 63) (lane h e)) := by
  refine congrArg X (funext fun a => Fin.ext ?_)
  match a with
  | ⟨0, _⟩ => show 64 * n.val + 63 + 1 * 0 = 64 * n.val + 63; omega
  | ⟨1, _⟩ => show 128 * h.val + 1 * e.val = 128 * h.val + e.val; omega

theorem attG_at (X : FVec Ideal S4x4096x64 .f32) (n : Fin 64) (h : Fin 4) (x y : Fin 64) :
    attG X n h (ix3 0 x y) = X (ix3 h (tok n x) y) := by
  refine congrArg X (funext fun a => Fin.ext ?_)
  match a with
  | ⟨0, _⟩ => show h.val + 1 * 0 = h.val; omega
  | ⟨1, _⟩ => show 64 * n.val + 1 * x.val = 64 * n.val + x.val; omega
  | ⟨2, _⟩ => show 0 + 1 * y.val = y.val; omega

theorem staG_at (X : FVec Ideal S64x4x128x128 .f32) (n : Fin 64) (h : Fin 4) (d e : Fin 128) :
    staG X n h (ix4 0 0 d e) = X (ix4 n h d e) := by
  refine congrArg X (funext fun a => Fin.ext ?_)
  match a with
  | ⟨0, _⟩ => show n.val + 1 * 0 = n.val; omega
  | ⟨1, _⟩ => show h.val + 1 * 0 = h.val; omega
  | ⟨2, _⟩ => show 0 + 1 * d.val = d.val; omega
  | ⟨3, _⟩ => show 0 + 1 * e.val = e.val; omega

/-! ## The arguments, the new values and the gates -/

variable (a0 a1 a2 a3 a4 : FVec Ideal S4096x512 .f32) (a5 : FVec Ideal S4x4096x64 .f32) (a6 : FVec Ideal S64x4x128x128 .f32)
  (a7 : FVec Ideal S4096x4 .f32) (vn gb : FVec Ideal S4096x512 .f32)

/-- The new values the kernel is handed, computed from the arguments. -/
def IsNew : Prop := ∀ (n : Fin 64) (h : Fin 4) (c : Fin 64) (e : Fin 128), vn (ix2 (tok n c) (lane h e))
  = a3 (ix2 (tok n c) (lane h e)) - ∑ k : Fin 128, a4 (ix2 (tok n c) (lane h k)) * a6 (ix4 n h k e)

/-- The gates the kernel is handed, spread over the lanes of their head. -/
def IsGate : Prop := ∀ (n : Fin 64) (h : Fin 4) (c : Fin 64) (e : Fin 128), gb (ix2 (tok n c) (lane h e)) = a7 (ix2 (tok n c) h)

/-- Every argument is a real number everywhere. -/
def AllReal : Prop := (∀ i, IsReal (a0 i)) ∧ (∀ i, IsReal (a1 i)) ∧ (∀ i, IsReal (a2 i)) ∧ (∀ i, IsReal (a4 i))
  ∧ (∀ i, IsReal (a5 i)) ∧ (∀ i, IsReal (a6 i)) ∧ (∀ i, IsReal (a7 i))

/-- The state's constant arrays are the arguments'. -/
def Consts (s : ReferenceIdeal.Step.State Ideal) : Prop :=
  s.main_v26_0 = ReferenceIdeal.Step.A_main_v10 (F := Ideal) a0 a1 a2 a3 a4 a5 a6 a7
  ∧ s.main_v26_1 = ReferenceIdeal.Step.A_main_v12 (F := Ideal) a0 a1 a2 a3 a4 a5 a6 a7
  ∧ s.main_v26_2 = ReferenceIdeal.Step.A_main_v14 (F := Ideal) a0 a1 a2 a3 a4 a5 a6 a7
  ∧ s.main_v26_3 = ReferenceIdeal.Step.A_main_v16 (F := Ideal) a0 a1 a2 a3 a4 a5 a6 a7
  ∧ s.main_v26_4 = ReferenceIdeal.Step.A_main_v3 (F := Ideal) a0 a1 a2 a3 a4 a5 a6 a7
  ∧ s.main_v26_5 = ReferenceIdeal.Step.A_main_v8 (F := Ideal) a0 a1 a2 a3 a4 a5 a6 a7
  ∧ s.main_v26_6 = ReferenceIdeal.Step.A_main_v17 (F := Ideal) a0 a1 a2 a3 a4 a5 a6 a7
  ∧ s.main_v26_7 = ReferenceIdeal.Step.A_main_v19 (F := Ideal) a0 a1 a2 a3 a4 a5 a6 a7

variable {a0 a1 a2 a3 a4 a5 a6 a7 vn gb}

theorem IsNew.real (hv : IsNew a3 a4 a6 vn) (h3 : ∀ i, IsReal (a3 i)) (h4 : ∀ i, IsReal (a4 i)) (h6 : ∀ i, IsReal (a6 i))
    (n : Fin 64) (h : Fin 4) (c : Fin 64) (e : Fin 128) : IsReal (vn (ix2 (tok n c) (lane h e))) := by
  rw [hv]
  exact (h3 _).sub (IsReal.sum _ _ fun k => (h4 _).mul (h6 _))

/-! ## The gradient of the state is real -/

theorem newG_real (hr : AllReal a0 a1 a2 a4 a5 a6 a7) (n : Fin 64) (h : Fin 4) (ds : FVec Ideal S128x128 .f32)
    (hds : ∀ d e : Fin 128, IsReal (ds (ix2 d e))) (c : Fin 64) (e : Fin 128) :
    IsReal (dNew (attG a5 n h) (rowG a0 n h) (rowG a2 n h) ds (ix2 c e)) := by
  obtain ⟨h0, h1, h2, h4, h5, h6, h7⟩ := hr
  rw [dNew_at]
  refine (IsReal.sum _ _ fun x => ?_).add (IsReal.sum _ _ fun x => ?_)
  · exact (h5 _).mul (h0 _)
  · exact (h2 _).mul (hds _ _)

theorem gradsG_real (hr : AllReal a0 a1 a2 a4 a5 a6 a7) (hg : IsGate a7 gb) (h : Fin 4) :
    ∀ (k : ℕ) (d e : Fin 128), IsReal (gradsG (F := Ideal) a0 a1 a2 a4 a5 gb h k (ix2 d e))
  | 0, d, e => ⟨0, by show Ideal.ofBits .f32 0x00000000#32 = _; rw [Ideal.ofBits_zero_f32]; rfl⟩
  | k + 1, d, e => by
    have ih := gradsG_real hr hg h k
    have hn := newG_real hr (Fin.ofNat 64 (63 - k)) h _ ih
    obtain ⟨h0, h1, h2, h4, h5, h6, h7⟩ := hr
    show IsReal (dState (F := Ideal) _ _ _ _ _ _ (ix2 d e))
    rw [dState_at]
    refine (((ih d e).mul (IsReal.exp ?_)).add (IsReal.sum _ _ fun x => ?_)).sub (IsReal.sum _ _ fun x => ?_)
    · rw [lastG_at, hg]; exact h7 _
    · exact (h1 _).mul (h0 _)
    · exact (h4 _).mul (hn _ _)

/-! ## One trip -/

section Trip

variable (j : ℕ) (s : ReferenceIdeal.Step.State Ideal) (n : Fin 64) (hn : n.val = 63 - j) (hj : j < 64)
  (hc : Consts a0 a1 a2 a3 a4 a5 a6 a7 s) (h : Fin 4)

include hn hj hc

theorem q_eq (c : Fin 64) (e : Fin 128) : ReferenceIdeal.Step.b9 j s (ix4 0 h c e) = rowG a1 n h (ix2 c e) := by
  rw [ReferenceIdeal.At.b9_at j s n hn hj, hc.1, ReferenceIdeal.At.A10_at, rowG_at]
theorem k_eq (c : Fin 64) (e : Fin 128) : ReferenceIdeal.Step.b15 j s (ix4 0 h c e) = rowG a2 n h (ix2 c e) := by
  rw [ReferenceIdeal.At.b15_at j s n hn hj, hc.2.1, ReferenceIdeal.At.A12_at, rowG_at]
theorem u_eq (c : Fin 64) (e : Fin 128) : ReferenceIdeal.Step.b21 j s (ix4 0 h c e) = rowG a3 n h (ix2 c e) := by
  rw [ReferenceIdeal.At.b21_at j s n hn hj, hc.2.2.1, ReferenceIdeal.At.A14_at, rowG_at]
theorem w_eq (c : Fin 64) (e : Fin 128) : ReferenceIdeal.Step.b27 j s (ix4 0 h c e) = rowG a4 n h (ix2 c e) := by
  rw [ReferenceIdeal.At.b27_at j s n hn hj, hc.2.2.2.1, ReferenceIdeal.At.A16_at, rowG_at]
theorem att_eq (x y : Fin 64) : ReferenceIdeal.Step.b33 j s (ix4 0 h x y) = attG a5 n h (ix3 0 x y) := by
  rw [ReferenceIdeal.At.b33_at j s n hn hj, hc.2.2.2.2.1, ReferenceIdeal.At.A3_at, attG_at]
theorem g_eq (hg : IsGate a7 gb) (l : Fin 128) : ReferenceIdeal.Step.b39 j s (ix4 0 h 0 0) = lastG gb n h (ix2 0 l) := by
  rw [ReferenceIdeal.At.b39_at j s n hn hj, hc.2.2.2.2.2.1, ReferenceIdeal.At.A8_at, lastG_at, hg]
theorem s_eq (d e : Fin 128) : ReferenceIdeal.Step.b45 j s (ix4 0 h d e) = staG a6 n h (ix4 0 0 d e) := by
  rw [ReferenceIdeal.At.b45_at j s n hn hj, hc.2.2.2.2.2.2.1, ReferenceIdeal.At.A17_at, staG_at]
theorem d_eq (c : Fin 64) (e : Fin 128) : ReferenceIdeal.Step.b51 j s (ix4 0 h c e) = rowG a0 n h (ix2 c e) := by
  rw [ReferenceIdeal.At.b51_at j s n hn hj, hc.2.2.2.2.2.2.2, ReferenceIdeal.At.A19_at, rowG_at]

theorem v_eq (hv : IsNew a3 a4 a6 vn) (c : Fin 64) (e : Fin 128) :
    ReferenceIdeal.Step.b53 j s (ix4 0 h c e) = rowG vn n h (ix2 c e) := by
  rw [ReferenceIdeal.At.b53_at, rowG_at, hv, u_eq j s n hn hj hc, rowG_at]
  congr 1
  refine Finset.sum_congr rfl fun k _ => ?_
  rw [w_eq j s n hn hj hc, s_eq j s n hn hj hc, rowG_at, staG_at]

variable (ds : FVec Ideal S128x128 .f32) (hds : ∀ d e : Fin 128, s.main_v26_9 (ix4 0 h d e) = ds (ix2 d e))

include hds

theorem dn_eq (c : Fin 64) (e : Fin 128) :
    ReferenceIdeal.Step.b75 j s (ix4 0 h c e) = dNew (attG a5 n h) (rowG a0 n h) (rowG a2 n h) ds (ix2 c e) := by
  rw [ReferenceIdeal.At.b75_at, dNew_at, add_comm]
  congr 1
  · refine Finset.sum_congr rfl fun x _ => ?_
    rw [d_eq j s n hn hj hc, att_eq j s n hn hj hc, mul_comm]
  · refine Finset.sum_congr rfl fun x _ => ?_
    rw [k_eq j s n hn hj hc, hds, mul_comm]

theorem dk_eq (hv : IsNew a3 a4 a6 vn) (c : Fin 64) (e : Fin 128) :
    ReferenceIdeal.Step.b65 j s (ix4 0 h c e) = dKey (rowG vn n h) ds (ix2 c e) := by
  rw [ReferenceIdeal.At.b65_at, dKey_at]
  refine Finset.sum_congr rfl fun x _ => ?_
  rw [v_eq j s n hn hj hc h hv, hds, mul_comm]

omit ds hds in
theorem da_eq (hv : IsNew a3 a4 a6 vn) (x y : Fin 64) :
    ReferenceIdeal.Step.b76 j s (ix4 0 h x y) = dAtt (rowG a0 n h) (rowG vn n h) (ix3 0 x y) := by
  rw [ReferenceIdeal.At.b76_at, dAtt_at]
  refine Finset.sum_congr rfl fun k _ => ?_
  rw [v_eq j s n hn hj hc h hv, d_eq j s n hn hj hc]

omit ds hds in
theorem dq_eq (c : Fin 64) (e : Fin 128) :
    ReferenceIdeal.Step.b80 j s (ix4 0 h c e) = dQuery (rowG a0 n h) (staG a6 n h) (ix2 c e) := by
  rw [ReferenceIdeal.At.b80_at, dQuery_at]
  refine Finset.sum_congr rfl fun k _ => ?_
  rw [s_eq j s n hn hj hc, d_eq j s n hn hj hc]

theorem dg_eq (hg : IsGate a7 gb) (r : Fin 8) (l : Fin 128) :
    ReferenceIdeal.Step.b72 j s (ix4 0 h 0 0) = dGate ds (staG a6 n h) (lastG gb n h) (ix2 r l) := by
  rw [ReferenceIdeal.At.b72_at, dGate_at, g_eq j s n hn hj hc h hg l]
  congr 1
  refine Finset.sum_congr rfl fun d _ => Finset.sum_congr rfl fun e _ => ?_
  rw [s_eq j s n hn hj hc, hds, mul_comm]

theorem dw_eq (hr : AllReal a0 a1 a2 a4 a5 a6 a7) (hdr : ∀ d e : Fin 128, IsReal (ds (ix2 d e))) (c : Fin 64) (e : Fin 128) :
    ReferenceIdeal.Step.b85 j s (ix4 0 h c e)
      = dWeight (dNew (attG a5 n h) (rowG a0 n h) (rowG a2 n h) ds) (staG a6 n h) (ix2 c e) := by
  have hnr := newG_real hr n h ds hdr
  obtain ⟨h0, h1, h2, h4, h5, h6, h7⟩ := hr
  rw [ReferenceIdeal.At.b85_at, dWeight_at, zero_sub, ← neg_sum_mul _ _ _ (fun k => hnr c k) (fun k => h6 _)]
  refine Finset.sum_congr rfl fun k _ => ?_
  rw [s_eq j s n hn hj hc, dn_eq j s n hn hj hc h ds hds]

theorem ds_eq (hr : AllReal a0 a1 a2 a4 a5 a6 a7) (hg : IsGate a7 gb) (hdr : ∀ d e : Fin 128, IsReal (ds (ix2 d e))) (x y : Fin 128) :
    ReferenceIdeal.Step.b84 j s (ix4 0 h x y)
      = dState ds (lastG gb n h) (rowG a1 n h) (rowG a0 n h) (rowG a4 n h)
          (dNew (attG a5 n h) (rowG a0 n h) (rowG a2 n h) ds) (ix2 x y) := by
  have hnr := newG_real hr n h ds hdr
  obtain ⟨h0, h1, h2, h4, h5, h6, h7⟩ := hr
  rw [ReferenceIdeal.At.b84_at, dState_at, sub_eq_add_neg, g_eq j s n hn hj hc h hg y, hds]
  congr 1
  · congr 1
    refine Finset.sum_congr rfl fun k _ => ?_
    rw [d_eq j s n hn hj hc, q_eq j s n hn hj hc, mul_comm]
  · rw [Finset.sum_congr rfl fun (k : Fin 64) _ => mul_comm (rowG a4 n h (ix2 k x)) _,
      ← neg_sum_mul _ _ _ (fun k => hnr k y) (fun k => h4 _)]
    refine Finset.sum_congr rfl fun k _ => ?_
    rw [w_eq j s n hn hj hc, dn_eq j s n hn hj hc h ds hds]

end Trip

/-! ## The whole loop -/

/-- What the loop has written after `k` trips: the chunks from `64 - k` on. -/
structure Inv (k : ℕ) (s : ReferenceIdeal.Step.State Ideal) : Prop where
  consts : Consts a0 a1 a2 a3 a4 a5 a6 a7 s
  grad : ∀ (h : Fin 4) (d e : Fin 128), s.main_v26_9 (ix4 0 h d e) = gradsG (F := Ideal) a0 a1 a2 a4 a5 gb h k (ix2 d e)
  dq : ∀ n : Fin 64, 64 ≤ n.val + k → ∀ (h : Fin 4) (c : Fin 64) (e : Fin 128),
    s.main_v26_10 (ix5 n 0 h c e) = dQuery (rowG a0 n h) (staG a6 n h) (ix2 c e)
  dk : ∀ n : Fin 64, 64 ≤ n.val + k → ∀ (h : Fin 4) (c : Fin 64) (e : Fin 128),
    s.main_v26_11 (ix5 n 0 h c e) = dKey (rowG vn n h) (afterG a0 a1 a2 a4 a5 gb n h) (ix2 c e)
  du : ∀ n : Fin 64, 64 ≤ n.val + k → ∀ (h : Fin 4) (c : Fin 64) (e : Fin 128),
    s.main_v26_12 (ix5 n 0 h c e) = newG a0 a1 a2 a4 a5 gb n h (ix2 c e)
  dw : ∀ n : Fin 64, 64 ≤ n.val + k → ∀ (h : Fin 4) (c : Fin 64) (e : Fin 128),
    s.main_v26_13 (ix5 n 0 h c e) = dWeight (newG a0 a1 a2 a4 a5 gb n h) (staG a6 n h) (ix2 c e)
  da : ∀ n : Fin 64, 64 ≤ n.val + k → ∀ (h : Fin 4) (x y : Fin 64),
    s.main_v26_14 (ix5 n 0 h x y) = dAtt (rowG a0 n h) (rowG vn n h) (ix3 0 x y)
  dg : ∀ n : Fin 64, 64 ≤ n.val + k → ∀ (h : Fin 4) (r : Fin 8) (l : Fin 128),
    s.main_v26_15 (ix5 n 0 h 0 0) = dGate (afterG a0 a1 a2 a4 a5 gb n h) (staG a6 n h) (lastG gb n h) (ix2 r l)

theorem inv_init : Inv (a0 := a0) (a1 := a1) (a2 := a2) (a3 := a3) (a4 := a4) (a5 := a5) (a7 := a7) (a6 := a6) (vn := vn) (gb := gb) 0
    (ReferenceIdeal.Step.init (F := Ideal) a0 a1 a2 a3 a4 a5 a6 a7) where
  consts := ⟨rfl, rfl, rfl, rfl, rfl, rfl, rfl, rfl⟩
  grad h d e := rfl
  dq n hn := absurd n.isLt (by omega)
  dk n hn := absurd n.isLt (by omega)
  du n hn := absurd n.isLt (by omega)
  dw n hn := absurd n.isLt (by omega)
  da n hn := absurd n.isLt (by omega)
  dg n hn := absurd n.isLt (by omega)

theorem inv_step (hr : AllReal a0 a1 a2 a4 a5 a6 a7) (hv : IsNew a3 a4 a6 vn) (hg : IsGate a7 gb) (j : ℕ) (hj : j < 64)
    (s : ReferenceIdeal.Step.State Ideal)
    (hi : Inv (a0 := a0) (a1 := a1) (a2 := a2) (a3 := a3) (a4 := a4) (a5 := a5) (a6 := a6) (a7 := a7) (vn := vn) (gb := gb) j s) :
    Inv (a0 := a0) (a1 := a1) (a2 := a2) (a3 := a3) (a4 := a4) (a5 := a5) (a6 := a6) (a7 := a7) (vn := vn) (gb := gb) (j + 1)
      (ReferenceIdeal.Step.step j s) := by
  have hc := hi.consts
  obtain ⟨n, hn⟩ : ∃ n : Fin 64, n.val = 63 - j := ⟨⟨63 - j, by omega⟩, rfl⟩
  have hN : Fin.ofNat 64 (63 - j) = n := Fin.ext (by show (63 - j) % 64 = _; omega)
  have hA : ∀ h, afterG (F := Ideal) a0 a1 a2 a4 a5 gb n h = gradsG a0 a1 a2 a4 a5 gb h j := fun h => by
    unfold afterG; congr 1; omega
  have hW : ∀ h, newG (F := Ideal) a0 a1 a2 a4 a5 gb n h
      = dNew (attG a5 n h) (rowG a0 n h) (rowG a2 n h) (gradsG a0 a1 a2 a4 a5 gb h j) := fun h => by
    unfold newG; rw [hA]
  have hrs := fun h => gradsG_real hr hg h j
  have old : ∀ n' : Fin 64, n' ≠ n → 64 ≤ n'.val + (j + 1) → 64 ≤ n'.val + j := fun n' hne hle => by
    have : n'.val ≠ n.val := fun e => hne (Fin.ext e)
    omega
  refine ⟨hc, ?_, ?_, ?_, ?_, ?_, ?_, ?_⟩
  · intro h d e
    rw [ReferenceIdeal.Step.step_main_v26_9, ds_eq j s n hn hj hc h _ (hi.grad h) hr hg (hrs h)]
    show _ = dState (F := Ideal) _ _ _ _ _ _ (ix2 d e)
    rw [hN]
  · intro n' hle h c e
    rw [ReferenceIdeal.Step.step_main_v26_10, ReferenceIdeal.At.b91_at j s n hn hj]
    split
    · next he => rw [he, dq_eq j s n hn hj hc h]
    · next he => exact hi.dq n' (old n' he hle) h c e
  · intro n' hle h c e
    rw [ReferenceIdeal.Step.step_main_v26_11, ReferenceIdeal.At.b97_at j s n hn hj]
    split
    · next he => rw [he, dk_eq j s n hn hj hc h _ (hi.grad h) hv, hA]
    · next he => exact hi.dk n' (old n' he hle) h c e
  · intro n' hle h c e
    rw [ReferenceIdeal.Step.step_main_v26_12, ReferenceIdeal.At.b103_at j s n hn hj]
    split
    · next he => rw [he, dn_eq j s n hn hj hc h _ (hi.grad h), hW]
    · next he => exact hi.du n' (old n' he hle) h c e
  · intro n' hle h c e
    rw [ReferenceIdeal.Step.step_main_v26_13, ReferenceIdeal.At.b109_at j s n hn hj]
    split
    · next he => rw [he, dw_eq j s n hn hj hc h _ (hi.grad h) hr (hrs h), hW]
    · next he => exact hi.dw n' (old n' he hle) h c e
  · intro n' hle h c e
    rw [ReferenceIdeal.Step.step_main_v26_14, ReferenceIdeal.At.b115_at j s n hn hj]
    split
    · next he => rw [he, da_eq j s n hn hj hc h hv]
    · next he => exact hi.da n' (old n' he hle) h c e
  · intro n' hle h r l
    rw [ReferenceIdeal.Step.step_main_v26_15, ReferenceIdeal.At.b121_at j s n hn hj]
    split
    · next he => rw [he, dg_eq j s n hn hj hc h _ (hi.grad h) hg r l, hA]
    · next he => exact hi.dg n' (old n' he hle) h r l

/-! ## The results -/

theorem results (s : ReferenceIdeal.Step.State Ideal)
    (hi : Inv (a0 := a0) (a1 := a1) (a2 := a2) (a3 := a3) (a4 := a4) (a5 := a5) (a6 := a6) (a7 := a7) (vn := vn) (gb := gb) 64 s) :
    ReferenceIdeal.Step.R_main_v31 s = arrRows (fun n h => dQuery (rowG a0 n h) (staG a6 n h))
    ∧ ReferenceIdeal.Step.R_main_v33 s = arrRows (fun n h => dKey (rowG vn n h) (afterG a0 a1 a2 a4 a5 gb n h))
    ∧ ReferenceIdeal.Step.R_main_v35 s = arrRows (fun n h => newG a0 a1 a2 a4 a5 gb n h)
    ∧ ReferenceIdeal.Step.R_main_v37 s = arrRows (fun n h => dWeight (newG a0 a1 a2 a4 a5 gb n h) (staG a6 n h))
    ∧ ReferenceIdeal.Step.R_main_v40 s = arrAtts (fun n h => dAtt (rowG a0 n h) (rowG vn n h))
    ∧ ReferenceIdeal.Step.R_main_v29 s
      = arrGates (fun n h => dGate (afterG a0 a1 a2 a4 a5 gb n h) (staG a6 n h) (lastG gb n h)) := by
  refine ⟨?_, ?_, ?_, ?_, ?_, ?_⟩
  · funext y
    idx_vars y
    rw [ReferenceIdeal.At.R31_at, hi.dq _ (by omega)]
    rfl
  · funext y
    idx_vars y
    rw [ReferenceIdeal.At.R33_at, hi.dk _ (by omega)]
    rfl
  · funext y
    idx_vars y
    rw [ReferenceIdeal.At.R35_at, hi.du _ (by omega)]
    rfl
  · funext y
    idx_vars y
    rw [ReferenceIdeal.At.R37_at, hi.dw _ (by omega)]
    rfl
  · funext y
    idx_vars y
    rw [ReferenceIdeal.At.R40_at, hi.da _ (by omega)]
    rfl
  · funext y
    idx_vars y
    rw [ReferenceIdeal.At.R29_at, hi.dg _ (by omega)]
    rfl

end Cert.ScanEq
-- ==== Proof.BackRun.lean ====
/-
  The backward scan's run: the six result arrays, chunk by chunk, and the arguments unchanged.
-/
module

public import proofs.«01_k».proof.Proof.BackValue
public import Idealize.ShloMosaic.Lib.Quiescent

@[expose] public section

noncomputable section

namespace Cert.ScanBack

open Idealize.ShloMosaic Idealize.ShloMosaic.TcCoe Idealize.ShloMosaic.ValueIdx Idealize.SL.Sem
open Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- What a point writes back of window 8 is its block of the array. -/
theorem flushed_dq (c : Dev nD) (t : Fin cfg0.N) :
    (dats m 0 c).flushed 8 t = ((cfg0.win 8).blk t).view.read (Elt F) (arrRows (dqG m c)) := by
  rw [Cert.KernelIdeal.Value.flushed8 m c t, left_dq]
  have hN : t.val < 8 := lt_of_lt_of_eq t.isLt N_0
  have e := index_8 t
  funext y
  have hy0 : (y 0).val < 512 := (y 0).isLt
  have hy1 : (y 1).val < 512 := (y 1).isLt
  have q0 : ((((cfg0.win 8).blk t).view.emb y : S4096x512.Idx) 0).val = 512 * (7 - t.val) + (y 0).val := by
    show win0_8.index t 0 * 512 + 1 * (y 0).val = _
    rw [e.1]; omega
  have q1 : ((((cfg0.win 8).blk t).view.emb y : S4096x512.Idx) 1).val = (y 1).val := by
    show win0_8.index t 1 * 512 + 1 * (y 1).val = _
    rw [e.2]; omega
  refine chunk_congr (dqG m c) ?_ ?_ fun a => ?_
  · show 8 * (7 - t.val) + (y 0).val / 64 = ((((cfg0.win 8).blk t).view.emb y : S4096x512.Idx) 0).val / 64
    rw [q0]; omega
  · show (y 1).val / 128 = ((((cfg0.win 8).blk t).view.emb y : S4096x512.Idx) 1).val / 128
    rw [q1]
  · match a with
    | ⟨0, _⟩ =>
      show (y 0).val % 64 = ((((cfg0.win 8).blk t).view.emb y : S4096x512.Idx) 0).val % 64
      rw [q0]; omega
    | ⟨1, _⟩ =>
      show (y 1).val % 128 = ((((cfg0.win 8).blk t).view.emb y : S4096x512.Idx) 1).val % 128
      rw [q1]

/-- The points' blocks fill the array. -/
theorem filled_dq (i : S4096x512.Idx) : ∃ t : Fin cfg0.N, (cfg0.win 8).flush t = true ∧ i ∈ ((cfg0.win 8).blk t).view.set := by
  have hi0 : (i 0).val < 4096 := (i 0).isLt
  have hi1 : (i 1).val < 512 := (i 1).isLt
  have hN : cfg0.N = 8 := N_0
  obtain ⟨T, hT⟩ : ∃ T : Fin cfg0.N, T.val = 7 - (i 0).val / 512 := ⟨⟨7 - (i 0).val / 512, by omega⟩, rfl⟩
  refine ⟨T, flush0_8 _, ?_⟩
  have e := index_8 T
  show i ∈ ((View.whole main_v7_0).slice (win0_8.rect T)).set
  rw [View.set_slice_whole, Rect.mem_set_unit]
  intro a
  match a with
  | ⟨0, _⟩ =>
    show win0_8.index T 0 * 512 ≤ (i 0).val ∧ (i 0).val < win0_8.index T 0 * 512 + 512
    rw [e.1, hT]; omega
  | ⟨1, _⟩ =>
    show win0_8.index T 1 * 512 ≤ (i 1).val ∧ (i 1).val < win0_8.index T 1 * 512 + 512
    rw [e.2]; omega

theorem final_dq (c : Dev nD) : (dats m 0 c).arrAt 8 cfg0.N = arrRows (dqG m c) :=
  (dats m 0 c).arrAt_eq_of_cover 8 (arrRows (dqG m c)) (fun t _ => flushed_dq m c t) filled_dq

/-- What a point writes back of window 9 is its block of the array. -/
theorem flushed_dk (c : Dev nD) (t : Fin cfg0.N) :
    (dats m 0 c).flushed 9 t = ((cfg0.win 9).blk t).view.read (Elt F) (arrRows (dkG m c)) := by
  rw [Cert.KernelIdeal.Value.flushed9 m c t, left_dk]
  have hN : t.val < 8 := lt_of_lt_of_eq t.isLt N_0
  have e := index_9 t
  funext y
  have hy0 : (y 0).val < 512 := (y 0).isLt
  have hy1 : (y 1).val < 512 := (y 1).isLt
  have q0 : ((((cfg0.win 9).blk t).view.emb y : S4096x512.Idx) 0).val = 512 * (7 - t.val) + (y 0).val := by
    show win0_9.index t 0 * 512 + 1 * (y 0).val = _
    rw [e.1]; omega
  have q1 : ((((cfg0.win 9).blk t).view.emb y : S4096x512.Idx) 1).val = (y 1).val := by
    show win0_9.index t 1 * 512 + 1 * (y 1).val = _
    rw [e.2]; omega
  refine chunk_congr (dkG m c) ?_ ?_ fun a => ?_
  · show 8 * (7 - t.val) + (y 0).val / 64 = ((((cfg0.win 9).blk t).view.emb y : S4096x512.Idx) 0).val / 64
    rw [q0]; omega
  · show (y 1).val / 128 = ((((cfg0.win 9).blk t).view.emb y : S4096x512.Idx) 1).val / 128
    rw [q1]
  · match a with
    | ⟨0, _⟩ =>
      show (y 0).val % 64 = ((((cfg0.win 9).blk t).view.emb y : S4096x512.Idx) 0).val % 64
      rw [q0]; omega
    | ⟨1, _⟩ =>
      show (y 1).val % 128 = ((((cfg0.win 9).blk t).view.emb y : S4096x512.Idx) 1).val % 128
      rw [q1]

/-- The points' blocks fill the array. -/
theorem filled_dk (i : S4096x512.Idx) : ∃ t : Fin cfg0.N, (cfg0.win 9).flush t = true ∧ i ∈ ((cfg0.win 9).blk t).view.set := by
  have hi0 : (i 0).val < 4096 := (i 0).isLt
  have hi1 : (i 1).val < 512 := (i 1).isLt
  have hN : cfg0.N = 8 := N_0
  obtain ⟨T, hT⟩ : ∃ T : Fin cfg0.N, T.val = 7 - (i 0).val / 512 := ⟨⟨7 - (i 0).val / 512, by omega⟩, rfl⟩
  refine ⟨T, flush0_9 _, ?_⟩
  have e := index_9 T
  show i ∈ ((View.whole main_v7_1).slice (win0_9.rect T)).set
  rw [View.set_slice_whole, Rect.mem_set_unit]
  intro a
  match a with
  | ⟨0, _⟩ =>
    show win0_9.index T 0 * 512 ≤ (i 0).val ∧ (i 0).val < win0_9.index T 0 * 512 + 512
    rw [e.1, hT]; omega
  | ⟨1, _⟩ =>
    show win0_9.index T 1 * 512 ≤ (i 1).val ∧ (i 1).val < win0_9.index T 1 * 512 + 512
    rw [e.2]; omega

theorem final_dk (c : Dev nD) : (dats m 0 c).arrAt 9 cfg0.N = arrRows (dkG m c) :=
  (dats m 0 c).arrAt_eq_of_cover 9 (arrRows (dkG m c)) (fun t _ => flushed_dk m c t) filled_dk

/-- What a point writes back of window 10 is its block of the array. -/
theorem flushed_du (c : Dev nD) (t : Fin cfg0.N) :
    (dats m 0 c).flushed 10 t = ((cfg0.win 10).blk t).view.read (Elt F) (arrRows (duG m c)) := by
  rw [Cert.KernelIdeal.Value.flushed10 m c t, left_du]
  have hN : t.val < 8 := lt_of_lt_of_eq t.isLt N_0
  have e := index_10 t
  funext y
  have hy0 : (y 0).val < 512 := (y 0).isLt
  have hy1 : (y 1).val < 512 := (y 1).isLt
  have q0 : ((((cfg0.win 10).blk t).view.emb y : S4096x512.Idx) 0).val = 512 * (7 - t.val) + (y 0).val := by
    show win0_10.index t 0 * 512 + 1 * (y 0).val = _
    rw [e.1]; omega
  have q1 : ((((cfg0.win 10).blk t).view.emb y : S4096x512.Idx) 1).val = (y 1).val := by
    show win0_10.index t 1 * 512 + 1 * (y 1).val = _
    rw [e.2]; omega
  refine chunk_congr (duG m c) ?_ ?_ fun a => ?_
  · show 8 * (7 - t.val) + (y 0).val / 64 = ((((cfg0.win 10).blk t).view.emb y : S4096x512.Idx) 0).val / 64
    rw [q0]; omega
  · show (y 1).val / 128 = ((((cfg0.win 10).blk t).view.emb y : S4096x512.Idx) 1).val / 128
    rw [q1]
  · match a with
    | ⟨0, _⟩ =>
      show (y 0).val % 64 = ((((cfg0.win 10).blk t).view.emb y : S4096x512.Idx) 0).val % 64
      rw [q0]; omega
    | ⟨1, _⟩ =>
      show (y 1).val % 128 = ((((cfg0.win 10).blk t).view.emb y : S4096x512.Idx) 1).val % 128
      rw [q1]

/-- The points' blocks fill the array. -/
theorem filled_du (i : S4096x512.Idx) : ∃ t : Fin cfg0.N, (cfg0.win 10).flush t = true ∧ i ∈ ((cfg0.win 10).blk t).view.set := by
  have hi0 : (i 0).val < 4096 := (i 0).isLt
  have hi1 : (i 1).val < 512 := (i 1).isLt
  have hN : cfg0.N = 8 := N_0
  obtain ⟨T, hT⟩ : ∃ T : Fin cfg0.N, T.val = 7 - (i 0).val / 512 := ⟨⟨7 - (i 0).val / 512, by omega⟩, rfl⟩
  refine ⟨T, flush0_10 _, ?_⟩
  have e := index_10 T
  show i ∈ ((View.whole main_v7_2).slice (win0_10.rect T)).set
  rw [View.set_slice_whole, Rect.mem_set_unit]
  intro a
  match a with
  | ⟨0, _⟩ =>
    show win0_10.index T 0 * 512 ≤ (i 0).val ∧ (i 0).val < win0_10.index T 0 * 512 + 512
    rw [e.1, hT]; omega
  | ⟨1, _⟩ =>
    show win0_10.index T 1 * 512 ≤ (i 1).val ∧ (i 1).val < win0_10.index T 1 * 512 + 512
    rw [e.2]; omega

theorem final_du (c : Dev nD) : (dats m 0 c).arrAt 10 cfg0.N = arrRows (duG m c) :=
  (dats m 0 c).arrAt_eq_of_cover 10 (arrRows (duG m c)) (fun t _ => flushed_du m c t) filled_du

/-- What a point writes back of window 11 is its block of the array. -/
theorem flushed_dw (c : Dev nD) (t : Fin cfg0.N) :
    (dats m 0 c).flushed 11 t = ((cfg0.win 11).blk t).view.read (Elt F) (arrRows (dwG m c)) := by
  rw [Cert.KernelIdeal.Value.flushed11 m c t, left_dw]
  have hN : t.val < 8 := lt_of_lt_of_eq t.isLt N_0
  have e := index_11 t
  funext y
  have hy0 : (y 0).val < 512 := (y 0).isLt
  have hy1 : (y 1).val < 512 := (y 1).isLt
  have q0 : ((((cfg0.win 11).blk t).view.emb y : S4096x512.Idx) 0).val = 512 * (7 - t.val) + (y 0).val := by
    show win0_11.index t 0 * 512 + 1 * (y 0).val = _
    rw [e.1]; omega
  have q1 : ((((cfg0.win 11).blk t).view.emb y : S4096x512.Idx) 1).val = (y 1).val := by
    show win0_11.index t 1 * 512 + 1 * (y 1).val = _
    rw [e.2]; omega
  refine chunk_congr (dwG m c) ?_ ?_ fun a => ?_
  · show 8 * (7 - t.val) + (y 0).val / 64 = ((((cfg0.win 11).blk t).view.emb y : S4096x512.Idx) 0).val / 64
    rw [q0]; omega
  · show (y 1).val / 128 = ((((cfg0.win 11).blk t).view.emb y : S4096x512.Idx) 1).val / 128
    rw [q1]
  · match a with
    | ⟨0, _⟩ =>
      show (y 0).val % 64 = ((((cfg0.win 11).blk t).view.emb y : S4096x512.Idx) 0).val % 64
      rw [q0]; omega
    | ⟨1, _⟩ =>
      show (y 1).val % 128 = ((((cfg0.win 11).blk t).view.emb y : S4096x512.Idx) 1).val % 128
      rw [q1]

/-- The points' blocks fill the array. -/
theorem filled_dw (i : S4096x512.Idx) : ∃ t : Fin cfg0.N, (cfg0.win 11).flush t = true ∧ i ∈ ((cfg0.win 11).blk t).view.set := by
  have hi0 : (i 0).val < 4096 := (i 0).isLt
  have hi1 : (i 1).val < 512 := (i 1).isLt
  have hN : cfg0.N = 8 := N_0
  obtain ⟨T, hT⟩ : ∃ T : Fin cfg0.N, T.val = 7 - (i 0).val / 512 := ⟨⟨7 - (i 0).val / 512, by omega⟩, rfl⟩
  refine ⟨T, flush0_11 _, ?_⟩
  have e := index_11 T
  show i ∈ ((View.whole main_v7_3).slice (win0_11.rect T)).set
  rw [View.set_slice_whole, Rect.mem_set_unit]
  intro a
  match a with
  | ⟨0, _⟩ =>
    show win0_11.index T 0 * 512 ≤ (i 0).val ∧ (i 0).val < win0_11.index T 0 * 512 + 512
    rw [e.1, hT]; omega
  | ⟨1, _⟩ =>
    show win0_11.index T 1 * 512 ≤ (i 1).val ∧ (i 1).val < win0_11.index T 1 * 512 + 512
    rw [e.2]; omega

theorem final_dw (c : Dev nD) : (dats m 0 c).arrAt 11 cfg0.N = arrRows (dwG m c) :=
  (dats m 0 c).arrAt_eq_of_cover 11 (arrRows (dwG m c)) (fun t _ => flushed_dw m c t) filled_dw

/-- What a point writes back of window 12 is its block of the array. -/
theorem flushed_da (c : Dev nD) (t : Fin cfg0.N) :
    (dats m 0 c).flushed 12 t = ((cfg0.win 12).blk t).view.read (Elt F) (arrAtts (daG m c)) := by
  rw [Cert.KernelIdeal.Value.flushed12 m c t, left_da]
  have hN : t.val < 8 := lt_of_lt_of_eq t.isLt N_0
  have e := index_12 t
  funext y
  have hy0 : (y 0).val < 4 := (y 0).isLt
  have hy1 : (y 1).val < 512 := (y 1).isLt
  have hy2 : (y 2).val < 64 := (y 2).isLt
  have q0 : ((((cfg0.win 12).blk t).view.emb y : S4x4096x64.Idx) 0).val = (y 0).val := by
    show win0_12.index t 0 * 4 + 1 * (y 0).val = _
    rw [e.1]; omega
  have q1 : ((((cfg0.win 12).blk t).view.emb y : S4x4096x64.Idx) 1).val = 512 * (7 - t.val) + (y 1).val := by
    show win0_12.index t 1 * 512 + 1 * (y 1).val = _
    rw [e.2.1]; omega
  have q2 : ((((cfg0.win 12).blk t).view.emb y : S4x4096x64.Idx) 2).val = (y 2).val := by
    show win0_12.index t 2 * 64 + 1 * (y 2).val = _
    rw [e.2.2]; omega
  refine chunk_congr (daG m c) ?_ ?_ fun a => ?_
  · show 8 * (7 - t.val) + (y 1).val / 64 = ((((cfg0.win 12).blk t).view.emb y : S4x4096x64.Idx) 1).val / 64
    rw [q1]; omega
  · show (y 0).val = ((((cfg0.win 12).blk t).view.emb y : S4x4096x64.Idx) 0).val
    rw [q0]
  · match a with
    | ⟨0, _⟩ => rfl
    | ⟨1, _⟩ =>
      show (y 1).val % 64 = ((((cfg0.win 12).blk t).view.emb y : S4x4096x64.Idx) 1).val % 64
      rw [q1]; omega
    | ⟨2, _⟩ =>
      show (y 2).val = ((((cfg0.win 12).blk t).view.emb y : S4x4096x64.Idx) 2).val
      rw [q2]

/-- The points' blocks fill the array. -/
theorem filled_da (i : S4x4096x64.Idx) : ∃ t : Fin cfg0.N, (cfg0.win 12).flush t = true ∧ i ∈ ((cfg0.win 12).blk t).view.set := by
  have hi0 : (i 0).val < 4 := (i 0).isLt
  have hi1 : (i 1).val < 4096 := (i 1).isLt
  have hi2 : (i 2).val < 64 := (i 2).isLt
  have hN : cfg0.N = 8 := N_0
  obtain ⟨T, hT⟩ : ∃ T : Fin cfg0.N, T.val = 7 - (i 1).val / 512 := ⟨⟨7 - (i 1).val / 512, by omega⟩, rfl⟩
  refine ⟨T, flush0_12 _, ?_⟩
  have e := index_12 T
  show i ∈ ((View.whole main_v7_4).slice (win0_12.rect T)).set
  rw [View.set_slice_whole, Rect.mem_set_unit]
  intro a
  match a with
  | ⟨0, _⟩ =>
    show win0_12.index T 0 * 4 ≤ (i 0).val ∧ (i 0).val < win0_12.index T 0 * 4 + 4
    rw [e.1]; omega
  | ⟨1, _⟩ =>
    show win0_12.index T 1 * 512 ≤ (i 1).val ∧ (i 1).val < win0_12.index T 1 * 512 + 512
    rw [e.2.1, hT]; omega
  | ⟨2, _⟩ =>
    show win0_12.index T 2 * 64 ≤ (i 2).val ∧ (i 2).val < win0_12.index T 2 * 64 + 64
    rw [e.2.2]; omega

theorem final_da (c : Dev nD) : (dats m 0 c).arrAt 12 cfg0.N = arrAtts (daG m c) :=
  (dats m 0 c).arrAt_eq_of_cover 12 (arrAtts (daG m c)) (fun t _ => flushed_da m c t) filled_da

/-- What a point writes back of window 13 is its block of the array. -/
theorem flushed_dg (c : Dev nD) (t : Fin cfg0.N) :
    (dats m 0 c).flushed 13 t = ((cfg0.win 13).blk t).view.read (Elt F) (arrGates (dgG m c)) := by
  rw [Cert.KernelIdeal.Value.flushed13 m c t, left_dg]
  have hN : t.val < 8 := lt_of_lt_of_eq t.isLt N_0
  have e := index_13 t
  funext y
  have hy0 : (y 0).val < 64 := (y 0).isLt
  have hy1 : (y 1).val < 512 := (y 1).isLt
  have q0 : ((((cfg0.win 13).blk t).view.emb y : S512x512.Idx) 0).val = 64 * (7 - t.val) + (y 0).val := by
    show win0_13.index t 0 * 64 + 1 * (y 0).val = _
    rw [e.1]; omega
  have q1 : ((((cfg0.win 13).blk t).view.emb y : S512x512.Idx) 1).val = (y 1).val := by
    show win0_13.index t 1 * 512 + 1 * (y 1).val = _
    rw [e.2]; omega
  refine chunk_congr (dgG m c) ?_ ?_ fun a => ?_
  · show 8 * (7 - t.val) + (y 0).val / 8 = ((((cfg0.win 13).blk t).view.emb y : S512x512.Idx) 0).val / 8
    rw [q0]; omega
  · show (y 1).val / 128 = ((((cfg0.win 13).blk t).view.emb y : S512x512.Idx) 1).val / 128
    rw [q1]
  · match a with
    | ⟨0, _⟩ =>
      show (y 0).val % 8 = ((((cfg0.win 13).blk t).view.emb y : S512x512.Idx) 0).val % 8
      rw [q0]; omega
    | ⟨1, _⟩ =>
      show (y 1).val % 128 = ((((cfg0.win 13).blk t).view.emb y : S512x512.Idx) 1).val % 128
      rw [q1]

/-- The points' blocks fill the array. -/
theorem filled_dg (i : S512x512.Idx) : ∃ t : Fin cfg0.N, (cfg0.win 13).flush t = true ∧ i ∈ ((cfg0.win 13).blk t).view.set := by
  have hi0 : (i 0).val < 512 := (i 0).isLt
  have hi1 : (i 1).val < 512 := (i 1).isLt
  have hN : cfg0.N = 8 := N_0
  obtain ⟨T, hT⟩ : ∃ T : Fin cfg0.N, T.val = 7 - (i 0).val / 64 := ⟨⟨7 - (i 0).val / 64, by omega⟩, rfl⟩
  refine ⟨T, flush0_13 _, ?_⟩
  have e := index_13 T
  show i ∈ ((View.whole main_v7_5).slice (win0_13.rect T)).set
  rw [View.set_slice_whole, Rect.mem_set_unit]
  intro a
  match a with
  | ⟨0, _⟩ =>
    show win0_13.index T 0 * 64 ≤ (i 0).val ∧ (i 0).val < win0_13.index T 0 * 64 + 64
    rw [e.1, hT]; omega
  | ⟨1, _⟩ =>
    show win0_13.index T 1 * 512 ≤ (i 1).val ∧ (i 1).val < win0_13.index T 1 * 512 + 512
    rw [e.2]; omega

theorem final_dg (c : Dev nD) : (dats m 0 c).arrAt 13 cfg0.N = arrGates (dgG m c) :=
  (dats m 0 c).arrAt_eq_of_cover 13 (arrGates (dgG m c)) (fun t _ => flushed_dg m c t) filled_dg

/-- The run: the six arrays, and the arguments unchanged. -/
theorem run : θ_run defs (onTc (τ := τ) (main (F := F))) ⟨m, fun _ => 0, ρ⟩ fun r => ∀ c : Dev nD,
      r.2.mem ((c : Thread nD τ).loc main_v7_0) = arrRows (dqG m c)
      ∧ r.2.mem ((c : Thread nD τ).loc main_v7_1) = arrRows (dkG m c)
      ∧ r.2.mem ((c : Thread nD τ).loc main_v7_2) = arrRows (duG m c)
      ∧ r.2.mem ((c : Thread nD τ).loc main_v7_3) = arrRows (dwG m c)
      ∧ r.2.mem ((c : Thread nD τ).loc main_v7_4) = arrAtts (daG m c)
      ∧ r.2.mem ((c : Thread nD τ).loc main_v7_5) = arrGates (dgG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => by
    obtain ⟨h0, h1, h2, h3, h4, h5, h6⟩ := h c
    exact ⟨h0.trans (final_dq m c), h1.trans (final_dk m c), h2.trans (final_du m c), h3.trans (final_dw m c),
      h4.trans (final_da m c), h5.trans (final_dg m c), h6⟩) (Cert.KernelIdeal.Value.run_blocks m ρ)

end Cert.ScanBack
-- ==== Proof.ReferenceTrips.lean ====
/- GENERATED, UNTRUSTED — DO NOT EDIT. The reference `ReferenceIdeal`'s generated run (Gen/ReferenceIdeal/Run.lean) stated over the
   step of Gen/ReferenceIdeal/Step.lean: at a valuation that HOLDS a state (the state at the carried buffers the body writes, the set-up
   values at the loop's constants, the trip's number at its counters) every value of one trip is that module's, one lemma
   each, so one application of the run's `STEP` keeps holding with `step` applied; what @main leaves before the loop holds
   `init`; and the run's results are the fields of `step` iterated from `init`. -/
module

public import proofs.«01_k».proof.Proof.Gen.ReferenceIdeal.Run
public import proofs.«01_k».proof.Proof.Gen.ReferenceIdeal.Step

@[expose] public section

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v26_9) = s.main_v26_9
  f_10 : V0 (Proc.devRef .tc main_v26_10) = s.main_v26_10
  f_11 : V0 (Proc.devRef .tc main_v26_11) = s.main_v26_11
  f_12 : V0 (Proc.devRef .tc main_v26_12) = s.main_v26_12
  f_13 : V0 (Proc.devRef .tc main_v26_13) = s.main_v26_13
  f_14 : V0 (Proc.devRef .tc main_v26_14) = s.main_v26_14
  f_15 : V0 (Proc.devRef .tc main_v26_15) = s.main_v26_15
  f_0 : V0 (Proc.devRef .tc main_v26_0) = s.main_v26_0
  f_1 : V0 (Proc.devRef .tc main_v26_1) = s.main_v26_1
  f_2 : V0 (Proc.devRef .tc main_v26_2) = s.main_v26_2
  f_3 : V0 (Proc.devRef .tc main_v26_3) = s.main_v26_3
  f_4 : V0 (Proc.devRef .tc main_v26_4) = s.main_v26_4
  f_5 : V0 (Proc.devRef .tc main_v26_5) = s.main_v26_5
  f_6 : V0 (Proc.devRef .tc main_v26_6) = s.main_v26_6
  f_7 : V0 (Proc.devRef .tc main_v26_7) = s.main_v26_7
  n_8 : V0 (Proc.devRef .tc main_v26_8) = constantI S_ 32 (BitVec.ofNat 32 j)

variable {V0 s j}

set_option maxRecDepth 8192 in
theorem al_0 (h : Holds V0 s j) : (constantI S_ 32 64#32 : (Proc.devRef .tc main_while0b_c_21 : DevRef τ sig).ty.Contents (Elt F)) = Cert.ReferenceIdeal.Step.b0 j s := by
  unfold Cert.ReferenceIdeal.Step.b0
  rfl
set_option maxRecDepth 8192 in
theorem al_1 (h : Holds V0 s j) : (subi (constantI S_ 32 64#32) (V0 (Proc.devRef .tc main_v26_8)) : (Proc.devRef .tc main_while0b_v41 : DevRef τ sig).ty.Contents (Elt F)) = Cert.ReferenceIdeal.Step.b1 j s := by
  unfold Cert.ReferenceIdeal.Step.b1
  rw [← al_0 h, h.n_8]
  try rfl
set_option maxRecDepth 8192 in
theorem al_2 (h : Holds V0 s j) : (constantI S_ 32 1#32 : (Proc.devRef .tc main_while0b_c_22 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v42 V0 : (Proc.devRef .tc main_while0b_v42 : DevRef τ sig).ty.Contents (Elt F)) = Cert.ReferenceIdeal.Step.b3 j s := by
  unfold res_main_while0b_v42 Cert.ReferenceIdeal.Step.b3
  rw [← al_1 h, ← al_2 h]
  try rfl
set_option maxRecDepth 8192 in
theorem al_4 (h : Holds V0 s j) : (constantI S_ 32 0#32 : (Proc.devRef .tc main_while0b_call0_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call0_c_0 : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call0_c_1 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call0_c_2 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x1x4x64x128 (V0 (Proc.devRef .tc main_v26_0)) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128 : (Proc.devRef .tc main_while0b_call0_v0 : DevRef τ sig).ty.Contents (Elt F)) = Cert.ReferenceIdeal.Step.b8 j s := by
  unfold Cert.ReferenceIdeal.Step.b8
  rw [← al_3 h, ← al_4 h, ← al_5 h, ← al_6 h, ← al_7 h, h.f_0]
  try rfl
set_option maxRecDepth 8192 in
theorem al_9 (h : Holds V0 s j) : (res_main_while0b_v43 V0 : (Proc.devRef .tc main_while0b_v43 : DevRef τ sig).ty.Contents (Elt F)) = Cert.ReferenceIdeal.Step.b9 j s := by
  unfold res_main_while0b_v43 Cert.ReferenceIdeal.Step.b9
  rw [← al_8 h]
  try rfl
set_option maxRecDepth 8192 in
theorem al_10 (h : Holds V0 s j) : (constantI S_ 32 0#32 : (Proc.devRef .tc main_while0b_call1_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call1_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call1_c_1 : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call1_c_2 : DevRef τ sig).ty.Contents (Elt F)) = Cert.ReferenceIdeal.Step.b13 j s := by
  unfold Cert.ReferenceIdeal.Step.b13
  rfl
set_option maxRecDepth 8192 in
theorem al_14 (h : Holds V0 s j) : (Host.dynamicSlice S1x1x4x64x128 (V0 (Proc.devRef .tc main_v26_1)) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128 : (Proc.devRef .tc main_while0b_call1_v0 : DevRef τ sig).ty.Contents (Elt F)) = Cert.ReferenceIdeal.Step.b14 j s := by
  unfold Cert.ReferenceIdeal.Step.b14
  rw [← al_3 h, ← al_10 h, ← al_11 h, ← al_12 h, ← al_13 h, h.f_1]
  try rfl
set_option maxRecDepth 8192 in
theorem al_15 (h : Holds V0 s j) : (res_main_while0b_v44 V0 : (Proc.devRef .tc main_while0b_v44 : DevRef τ sig).ty.Contents (Elt F)) = Cert.ReferenceIdeal.Step.b15 j s := by
  unfold res_main_while0b_v44 Cert.ReferenceIdeal.Step.b15
  rw [← al_14 h]
  try rfl
set_option maxRecDepth 8192 in
theorem al_16 (h : Holds V0 s j) : (constantI S_ 32 0#32 : (Proc.devRef .tc main_while0b_call2_c : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call2_c_0 : DevRef τ sig).ty.Contents (Elt F)) = Cert.ReferenceIdeal.Step.b17 j s := by
  unfold Cert.ReferenceIdeal.Step.b17
  rfl
set_option maxRecDepth 8192 in
theorem al_18 (h : Holds V0 s j) : (constantI S_ 32 0#32 : (Proc.devRef .tc main_while0b_call2_c_1 : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call2_c_2 : DevRef τ sig).ty.Contents (Elt F)) = Cert.ReferenceIdeal.Step.b19 j s := by
  unfold Cert.ReferenceIdeal.Step.b19
  rfl
set_option maxRecDepth 8192 in
theorem al_20 (h : Holds V0 s j) : (Host.dynamicSlice S1x1x4x64x128 (V0 (Proc.devRef .tc main_v26_2)) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128 : (Proc.devRef .tc main_while0b_call2_v0 : DevRef τ sig).ty.Contents (Elt F)) = Cert.ReferenceIdeal.Step.b20 j s := by
  unfold Cert.ReferenceIdeal.Step.b20
  rw [← al_3 h, ← al_16 h, ← al_17 h, ← al_18 h, ← al_19 h, h.f_2]
  try rfl
set_option maxRecDepth 8192 in
theorem al_21 (h : Holds V0 s j) : (shapeCast S1x4x64x128 (Host.dynamicSlice S1x1x4x64x128 (V0 (Proc.devRef .tc main_v26_2)) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128 : (Proc.devRef .tc main_while0b_v45 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (constantI S_ 32 0#32 : (Proc.devRef .tc main_while0b_call3_c : DevRef τ sig).ty.Contents (Elt F)) = Cert.ReferenceIdeal.Step.b22 j s := by
  unfold Cert.ReferenceIdeal.Step.b22
  rfl
set_option maxRecDepth 8192 in
theorem al_23 (h : Holds V0 s j) : (constantI S_ 32 0#32 : (Proc.devRef .tc main_while0b_call3_c_0 : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call3_c_1 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call3_c_2 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x1x4x64x128 (V0 (Proc.devRef .tc main_v26_3)) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128 : (Proc.devRef .tc main_while0b_call3_v0 : DevRef τ sig).ty.Contents (Elt F)) = Cert.ReferenceIdeal.Step.b26 j s := by
  unfold Cert.ReferenceIdeal.Step.b26
  rw [← al_3 h, ← al_22 h, ← al_23 h, ← al_24 h, ← al_25 h, h.f_3]
  try rfl
set_option maxRecDepth 8192 in
theorem al_27 (h : Holds V0 s j) : (res_main_while0b_v46 V0 : (Proc.devRef .tc main_while0b_v46 : DevRef τ sig).ty.Contents (Elt F)) = Cert.ReferenceIdeal.Step.b27 j s := by
  unfold res_main_while0b_v46 Cert.ReferenceIdeal.Step.b27
  rw [← al_26 h]
  try rfl
set_option maxRecDepth 8192 in
theorem al_28 (h : Holds V0 s j) : (constantI S_ 32 0#32 : (Proc.devRef .tc main_while0b_call4_c : DevRef τ sig).ty.Contents (Elt F)) = Cert.ReferenceIdeal.Step.b28 j s := by
  unfold Cert.ReferenceIdeal.Step.b28
  rfl
set_option maxRecDepth 8192 in
theorem al_29 (h : Holds V0 s j) : (constantI S_ 32 0#32 : (Proc.devRef .tc main_while0b_call4_c_0 : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call4_c_1 : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call4_c_2 : DevRef τ sig).ty.Contents (Elt F)) = Cert.ReferenceIdeal.Step.b31 j s := by
  unfold Cert.ReferenceIdeal.Step.b31
  rfl
set_option maxRecDepth 8192 in
theorem al_32 (h : Holds V0 s j) : (Host.dynamicSlice S1x1x4x64x64 (V0 (Proc.devRef .tc main_v26_4)) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x64_S1x1x4x64x64 : (Proc.devRef .tc main_while0b_call4_v0 : DevRef τ sig).ty.Contents (Elt F)) = Cert.ReferenceIdeal.Step.b32 j s := by
  unfold Cert.ReferenceIdeal.Step.b32
  rw [← al_3 h, ← al_28 h, ← al_29 h, ← al_30 h, ← al_31 h, h.f_4]
  try rfl
set_option maxRecDepth 8192 in
theorem al_33 (h : Holds V0 s j) : (res_main_while0b_v47 V0 : (Proc.devRef .tc main_while0b_v47 : DevRef τ sig).ty.Contents (Elt F)) = Cert.ReferenceIdeal.Step.b33 j s := by
  unfold res_main_while0b_v47 Cert.ReferenceIdeal.Step.b33
  rw [← al_32 h]
  try rfl
set_option maxRecDepth 8192 in
theorem al_34 (h : Holds V0 s j) : (constantI S_ 32 0#32 : (Proc.devRef .tc main_while0b_call5_c : DevRef τ sig).ty.Contents (Elt F)) = Cert.ReferenceIdeal.Step.b34 j s := by
  unfold Cert.ReferenceIdeal.Step.b34
  rfl
set_option maxRecDepth 8192 in
theorem al_35 (h : Holds V0 s j) : (constantI S_ 32 0#32 : (Proc.devRef .tc main_while0b_call5_c_0 : DevRef τ sig).ty.Contents (Elt F)) = Cert.ReferenceIdeal.Step.b35 j s := by
  unfold Cert.ReferenceIdeal.Step.b35
  rfl
set_option maxRecDepth 8192 in
theorem al_36 (h : Holds V0 s j) : (constantI S_ 32 0#32 : (Proc.devRef .tc main_while0b_call5_c_1 : DevRef τ sig).ty.Contents (Elt F)) = Cert.ReferenceIdeal.Step.b36 j s := by
  unfold Cert.ReferenceIdeal.Step.b36
  rfl
set_option maxRecDepth 8192 in
theorem al_37 (h : Holds V0 s j) : (constantI S_ 32 0#32 : (Proc.devRef .tc main_while0b_call5_c_2 : DevRef τ sig).ty.Contents (Elt F)) = Cert.ReferenceIdeal.Step.b37 j s := by
  unfold Cert.ReferenceIdeal.Step.b37
  rfl
set_option maxRecDepth 8192 in
theorem al_38 (h : Holds V0 s j) : (Host.dynamicSlice S1x1x4x1x1 (V0 (Proc.devRef .tc main_v26_5)) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x1x1_S1x1x4x1x1 : (Proc.devRef .tc main_while0b_call5_v0 : DevRef τ sig).ty.Contents (Elt F)) = Cert.ReferenceIdeal.Step.b38 j s := by
  unfold Cert.ReferenceIdeal.Step.b38
  rw [← al_3 h, ← al_34 h, ← al_35 h, ← al_36 h, ← al_37 h, h.f_5]
  try rfl
set_option maxRecDepth 8192 in
theorem al_39 (h : Holds V0 s j) : (shapeCast S1x4x1x1 (Host.dynamicSlice S1x1x4x1x1 (V0 (Proc.devRef .tc main_v26_5)) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x1x1_S1x1x4x1x1) shapeCasts_S1x1x4x1x1_S1x4x1x1 : (Proc.devRef .tc main_while0b_v48 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (constantI S_ 32 0#32 : (Proc.devRef .tc main_while0b_call6_c : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call6_c_0 : DevRef τ sig).ty.Contents (Elt F)) = Cert.ReferenceIdeal.Step.b41 j s := by
  unfold Cert.ReferenceIdeal.Step.b41
  rfl
set_option maxRecDepth 8192 in
theorem al_42 (h : Holds V0 s j) : (constantI S_ 32 0#32 : (Proc.devRef .tc main_while0b_call6_c_1 : DevRef τ sig).ty.Contents (Elt F)) = Cert.ReferenceIdeal.Step.b42 j s := by
  unfold Cert.ReferenceIdeal.Step.b42
  rfl
set_option maxRecDepth 8192 in
theorem al_43 (h : Holds V0 s j) : (constantI S_ 32 0#32 : (Proc.devRef .tc main_while0b_call6_c_2 : DevRef τ sig).ty.Contents (Elt F)) = Cert.ReferenceIdeal.Step.b43 j s := by
  unfold Cert.ReferenceIdeal.Step.b43
  rfl
set_option maxRecDepth 8192 in
theorem al_44 (h : Holds V0 s j) : (Host.dynamicSlice S1x1x4x128x128 (V0 (Proc.devRef .tc main_v26_6)) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x128x128_S1x1x4x128x128 : (Proc.devRef .tc main_while0b_call6_v0 : DevRef τ sig).ty.Contents (Elt F)) = Cert.ReferenceIdeal.Step.b44 j s := by
  unfold Cert.ReferenceIdeal.Step.b44
  rw [← al_3 h, ← al_40 h, ← al_41 h, ← al_42 h, ← al_43 h, h.f_6]
  try rfl
set_option maxRecDepth 8192 in
theorem al_45 (h : Holds V0 s j) : (res_main_while0b_v49 V0 : (Proc.devRef .tc main_while0b_v49 : DevRef τ sig).ty.Contents (Elt F)) = Cert.ReferenceIdeal.Step.b45 j s := by
  unfold res_main_while0b_v49 Cert.ReferenceIdeal.Step.b45
  rw [← al_44 h]
  try rfl
set_option maxRecDepth 8192 in
theorem al_46 (h : Holds V0 s j) : (constantI S_ 32 0#32 : (Proc.devRef .tc main_while0b_call7_c : DevRef τ sig).ty.Contents (Elt F)) = Cert.ReferenceIdeal.Step.b46 j s := by
  unfold Cert.ReferenceIdeal.Step.b46
  rfl
set_option maxRecDepth 8192 in
theorem al_47 (h : Holds V0 s j) : (constantI S_ 32 0#32 : (Proc.devRef .tc main_while0b_call7_c_0 : DevRef τ sig).ty.Contents (Elt F)) = Cert.ReferenceIdeal.Step.b47 j s := by
  unfold Cert.ReferenceIdeal.Step.b47
  rfl
set_option maxRecDepth 8192 in
theorem al_48 (h : Holds V0 s j) : (constantI S_ 32 0#32 : (Proc.devRef .tc main_while0b_call7_c_1 : DevRef τ sig).ty.Contents (Elt F)) = Cert.ReferenceIdeal.Step.b48 j s := by
  unfold Cert.ReferenceIdeal.Step.b48
  rfl
set_option maxRecDepth 8192 in
theorem al_49 (h : Holds V0 s j) : (constantI S_ 32 0#32 : (Proc.devRef .tc main_while0b_call7_c_2 : DevRef τ sig).ty.Contents (Elt F)) = Cert.ReferenceIdeal.Step.b49 j s := by
  unfold Cert.ReferenceIdeal.Step.b49
  rfl
set_option maxRecDepth 8192 in
theorem al_50 (h : Holds V0 s j) : (Host.dynamicSlice S1x1x4x64x128 (V0 (Proc.devRef .tc main_v26_7)) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128 : (Proc.devRef .tc main_while0b_call7_v0 : DevRef τ sig).ty.Contents (Elt F)) = Cert.ReferenceIdeal.Step.b50 j s := by
  unfold Cert.ReferenceIdeal.Step.b50
  rw [← al_3 h, ← al_46 h, ← al_47 h, ← al_48 h, ← al_49 h, h.f_7]
  try rfl
set_option maxRecDepth 8192 in
theorem al_51 (h : Holds V0 s j) : (res_main_while0b_v50 V0 : (Proc.devRef .tc main_while0b_v50 : DevRef τ sig).ty.Contents (Elt F)) = Cert.ReferenceIdeal.Step.b51 j s := by
  unfold res_main_while0b_v50 Cert.ReferenceIdeal.Step.b51
  rw [← al_50 h]
  try rfl
set_option maxRecDepth 8192 in
theorem al_52 (h : Holds V0 s j) : (Host.dotGeneral dot_S1x4x64x128_S1x4x128x128_S1x4x64x128_3_2_2_3_01_01 none (res_main_while0b_v46 V0) (res_main_while0b_v49 V0) : (Proc.devRef .tc main_while0b_v51 : DevRef τ sig).ty.Contents (Elt F)) = Cert.ReferenceIdeal.Step.b52 j s := by
  unfold Cert.ReferenceIdeal.Step.b52
  rw [← al_27 h, ← al_45 h]
  try rfl
set_option maxRecDepth 8192 in
theorem al_53 (h : Holds V0 s j) : (res_main_while0b_v52 V0 : (Proc.devRef .tc main_while0b_v52 : DevRef τ sig).ty.Contents (Elt F)) = Cert.ReferenceIdeal.Step.b53 j s := by
  unfold res_main_while0b_v52 Cert.ReferenceIdeal.Step.b53
  rw [← al_21 h, ← al_52 h]
  try rfl
set_option maxRecDepth 8192 in
theorem al_54 (h : Holds V0 s j) : (Host.dotGeneral dot_S1x4x64x128_S1x4x128x128_S1x4x64x128_3_2_2_3_01_01 none (res_main_while0b_v43 V0) (res_main_while0b_v49 V0) : (Proc.devRef .tc main_while0b_v53 : DevRef τ sig).ty.Contents (Elt F)) = Cert.ReferenceIdeal.Step.b54 j s := by
  unfold Cert.ReferenceIdeal.Step.b54
  rw [← al_9 h, ← al_45 h]
  try rfl
set_option maxRecDepth 8192 in
theorem al_55 (h : Holds V0 s j) : (Host.dotGeneral dot_S1x4x64x64_S1x4x64x128_S1x4x64x128_3_2_2_3_01_01 none (res_main_while0b_v47 V0) (res_main_while0b_v52 V0) : (Proc.devRef .tc main_while0b_v54 : DevRef τ sig).ty.Contents (Elt F)) = Cert.ReferenceIdeal.Step.b55 j s := by
  unfold Cert.ReferenceIdeal.Step.b55
  rw [← al_33 h, ← al_53 h]
  try rfl
set_option maxRecDepth 8192 in
theorem al_56 (h : Holds V0 s j) : (addf (Host.dotGeneral dot_S1x4x64x128_S1x4x128x128_S1x4x64x128_3_2_2_3_01_01 none (res_main_while0b_v43 V0) (res_main_while0b_v49 V0)) (Host.dotGeneral dot_S1x4x64x64_S1x4x64x128_S1x4x64x128_3_2_2_3_01_01 none (res_main_while0b_v47 V0) (res_main_while0b_v52 V0)) : (Proc.devRef .tc main_while0b_v55 : DevRef τ sig).ty.Contents (Elt F)) = Cert.ReferenceIdeal.Step.b56 j s := by
  unfold Cert.ReferenceIdeal.Step.b56
  rw [← al_54 h, ← al_55 h]
  try rfl
set_option maxRecDepth 8192 in
theorem al_57 (h : Holds V0 s j) : (res_main_while0b_v56 V0 : (Proc.devRef .tc main_while0b_v56 : DevRef τ sig).ty.Contents (Elt F)) = Cert.ReferenceIdeal.Step.b57 j s := by
  unfold res_main_while0b_v56 Cert.ReferenceIdeal.Step.b57
  rw [← al_39 h]
  try rfl
set_option maxRecDepth 8192 in
theorem al_58 (h : Holds V0 s j) : (broadcastInDim S1x4x128x128 ![0, 1, 2, 3] bcast_S1x4x1x1_S1x4x128x128_0_1_2_3 (res_main_while0b_v56 V0) : (Proc.devRef .tc main_while0b_v57 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (mulf (res_main_while0b_v49 V0) (broadcastInDim S1x4x128x128 ![0, 1, 2, 3] bcast_S1x4x1x1_S1x4x128x128_0_1_2_3 (res_main_while0b_v56 V0)) : (Proc.devRef .tc main_while0b_v58 : DevRef τ sig).ty.Contents (Elt F)) = Cert.ReferenceIdeal.Step.b59 j s := by
  unfold Cert.ReferenceIdeal.Step.b59
  rw [← al_45 h, ← al_58 h]
  try rfl
set_option maxRecDepth 8192 in
theorem al_60 (h : Holds V0 s j) : (Host.dotGeneral dot_S1x4x64x128_S1x4x64x128_S1x4x128x128_2_2_3_3_01_01 none (res_main_while0b_v44 V0) (res_main_while0b_v52 V0) : (Proc.devRef .tc main_while0b_v59 : DevRef τ sig).ty.Contents (Elt F)) = Cert.ReferenceIdeal.Step.b60 j s := by
  unfold Cert.ReferenceIdeal.Step.b60
  rw [← al_15 h, ← al_53 h]
  try rfl
set_option maxRecDepth 8192 in
theorem al_61 (h : Holds V0 s j) : (addf (mulf (res_main_while0b_v49 V0) (broadcastInDim S1x4x128x128 ![0, 1, 2, 3] bcast_S1x4x1x1_S1x4x128x128_0_1_2_3 (res_main_while0b_v56 V0))) (Host.dotGeneral dot_S1x4x64x128_S1x4x64x128_S1x4x128x128_2_2_3_3_01_01 none (res_main_while0b_v44 V0) (res_main_while0b_v52 V0)) : (Proc.devRef .tc main_while0b_v60 : DevRef τ sig).ty.Contents (Elt F)) = Cert.ReferenceIdeal.Step.b61 j s := by
  unfold Cert.ReferenceIdeal.Step.b61
  rw [← al_59 h, ← al_60 h]
  try rfl
set_option maxRecDepth 8192 in
theorem al_62 (h : Holds V0 s j) : (Host.dotGeneral dot_S1x4x128x128_S1x4x64x128_S1x4x128x64_2_3_3_2_01_01 none (V0 (Proc.devRef .tc main_v26_9)) (res_main_while0b_v44 V0) : (Proc.devRef .tc main_while0b_v61 : DevRef τ sig).ty.Contents (Elt F)) = Cert.ReferenceIdeal.Step.b62 j s := by
  unfold Cert.ReferenceIdeal.Step.b62
  rw [← al_15 h, h.f_9]
  try rfl
set_option maxRecDepth 8192 in
theorem al_63 (h : Holds V0 s j) : (transpose S1x4x64x128 [0, 1, 3, 2] (Host.dotGeneral dot_S1x4x128x128_S1x4x64x128_S1x4x128x64_2_3_3_2_01_01 none (V0 (Proc.devRef .tc main_v26_9)) (res_main_while0b_v44 V0)) transposes_S1x4x128x64_S1x4x64x128_0_1_3_2 : (Proc.devRef .tc main_while0b_v62 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (Host.dotGeneral dot_S1x4x128x128_S1x4x64x128_S1x4x128x64_3_3_2_2_01_01 none (V0 (Proc.devRef .tc main_v26_9)) (res_main_while0b_v52 V0) : (Proc.devRef .tc main_while0b_v63 : DevRef τ sig).ty.Contents (Elt F)) = Cert.ReferenceIdeal.Step.b64 j s := by
  unfold Cert.ReferenceIdeal.Step.b64
  rw [← al_53 h, h.f_9]
  try rfl
set_option maxRecDepth 8192 in
theorem al_65 (h : Holds V0 s j) : (transpose S1x4x64x128 [0, 1, 3, 2] (Host.dotGeneral dot_S1x4x128x128_S1x4x64x128_S1x4x128x64_3_3_2_2_01_01 none (V0 (Proc.devRef .tc main_v26_9)) (res_main_while0b_v52 V0)) transposes_S1x4x128x64_S1x4x64x128_0_1_3_2 : (Proc.devRef .tc main_while0b_v64 : DevRef τ sig).ty.Contents (Elt F)) = Cert.ReferenceIdeal.Step.b65 j s := by
  unfold Cert.ReferenceIdeal.Step.b65
  rw [← al_64 h]
  try rfl
set_option maxRecDepth 8192 in
theorem al_66 (h : Holds V0 s j) : (mulf (res_main_while0b_v49 V0) (V0 (Proc.devRef .tc main_v26_9)) : (Proc.devRef .tc main_while0b_v65 : DevRef τ sig).ty.Contents (Elt F)) = Cert.ReferenceIdeal.Step.b66 j s := by
  unfold Cert.ReferenceIdeal.Step.b66
  rw [← al_45 h, h.f_9]
  try rfl
set_option maxRecDepth 8192 in
theorem al_67 (h : Holds V0 s j) : (constant S_ .f32 0x00000000#32 : (Proc.devRef .tc main_while0b_cst_23 : DevRef τ sig).ty.Contents (Elt F)) = Cert.ReferenceIdeal.Step.b67 j s := by
  unfold Cert.ReferenceIdeal.Step.b67
  rfl
set_option maxRecDepth 8192 in
theorem al_68 (h : Holds V0 s j) : (Host.reduceAdd (mulf (res_main_while0b_v49 V0) (V0 (Proc.devRef .tc main_v26_9))) (constant S_ .f32 0x00000000#32) reducesTo_S1x4x128x128_S1x4_d2_3 h_S_ : (Proc.devRef .tc main_while0b_v66 : DevRef τ sig).ty.Contents (Elt F)) = Cert.ReferenceIdeal.Step.b68 j s := by
  unfold Cert.ReferenceIdeal.Step.b68
  rw [← al_66 h, ← al_67 h]
  try rfl
set_option maxRecDepth 8192 in
theorem al_69 (h : Holds V0 s j) : (shapeCast S1x4x1x1 (Host.reduceAdd (mulf (res_main_while0b_v49 V0) (V0 (Proc.devRef .tc main_v26_9))) (constant S_ .f32 0x00000000#32) reducesTo_S1x4x128x128_S1x4_d2_3 h_S_) shapeCasts_S1x4_S1x4x1x1 : (Proc.devRef .tc main_while0b_v67 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (broadcastInDim S1x4x128x128 ![0, 1, 2, 3] bcast_S1x4x1x1_S1x4x128x128_0_1_2_3 (res_main_while0b_v56 V0) : (Proc.devRef .tc main_while0b_v68 : DevRef τ sig).ty.Contents (Elt F)) = Cert.ReferenceIdeal.Step.b70 j s := by
  unfold Cert.ReferenceIdeal.Step.b70
  rw [← al_57 h]
  try rfl
set_option maxRecDepth 8192 in
theorem al_71 (h : Holds V0 s j) : (mulf (V0 (Proc.devRef .tc main_v26_9)) (broadcastInDim S1x4x128x128 ![0, 1, 2, 3] bcast_S1x4x1x1_S1x4x128x128_0_1_2_3 (res_main_while0b_v56 V0)) : (Proc.devRef .tc main_while0b_v69 : DevRef τ sig).ty.Contents (Elt F)) = Cert.ReferenceIdeal.Step.b71 j s := by
  unfold Cert.ReferenceIdeal.Step.b71
  rw [← al_70 h, h.f_9]
  try rfl
set_option maxRecDepth 8192 in
theorem al_72 (h : Holds V0 s j) : (mulf (shapeCast S1x4x1x1 (Host.reduceAdd (mulf (res_main_while0b_v49 V0) (V0 (Proc.devRef .tc main_v26_9))) (constant S_ .f32 0x00000000#32) reducesTo_S1x4x128x128_S1x4_d2_3 h_S_) shapeCasts_S1x4_S1x4x1x1) (res_main_while0b_v56 V0) : (Proc.devRef .tc main_while0b_v70 : DevRef τ sig).ty.Contents (Elt F)) = Cert.ReferenceIdeal.Step.b72 j s := by
  unfold Cert.ReferenceIdeal.Step.b72
  rw [← al_69 h, ← al_57 h]
  try rfl
set_option maxRecDepth 8192 in
theorem al_73 (h : Holds V0 s j) : (Host.dotGeneral dot_S1x4x64x128_S1x4x64x64_S1x4x128x64_2_2_3_3_01_01 none (res_main_while0b_v50 V0) (res_main_while0b_v47 V0) : (Proc.devRef .tc main_while0b_v71 : DevRef τ sig).ty.Contents (Elt F)) = Cert.ReferenceIdeal.Step.b73 j s := by
  unfold Cert.ReferenceIdeal.Step.b73
  rw [← al_51 h, ← al_33 h]
  try rfl
set_option maxRecDepth 8192 in
theorem al_74 (h : Holds V0 s j) : (transpose S1x4x64x128 [0, 1, 3, 2] (Host.dotGeneral dot_S1x4x64x128_S1x4x64x64_S1x4x128x64_2_2_3_3_01_01 none (res_main_while0b_v50 V0) (res_main_while0b_v47 V0)) transposes_S1x4x128x64_S1x4x64x128_0_1_3_2 : (Proc.devRef .tc main_while0b_v72 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (res_main_while0b_v73 V0 : (Proc.devRef .tc main_while0b_v73 : DevRef τ sig).ty.Contents (Elt F)) = Cert.ReferenceIdeal.Step.b75 j s := by
  unfold res_main_while0b_v73 Cert.ReferenceIdeal.Step.b75
  rw [← al_63 h, ← al_74 h]
  try rfl
set_option maxRecDepth 8192 in
theorem al_76 (h : Holds V0 s j) : (Host.dotGeneral dot_S1x4x64x128_S1x4x64x128_S1x4x64x64_3_3_2_2_01_01 none (res_main_while0b_v50 V0) (res_main_while0b_v52 V0) : (Proc.devRef .tc main_while0b_v74 : DevRef τ sig).ty.Contents (Elt F)) = Cert.ReferenceIdeal.Step.b76 j s := by
  unfold Cert.ReferenceIdeal.Step.b76
  rw [← al_51 h, ← al_53 h]
  try rfl
set_option maxRecDepth 8192 in
theorem al_77 (h : Holds V0 s j) : (Host.dotGeneral dot_S1x4x64x128_S1x4x64x128_S1x4x128x128_2_2_3_3_01_01 none (res_main_while0b_v50 V0) (res_main_while0b_v43 V0) : (Proc.devRef .tc main_while0b_v75 : DevRef τ sig).ty.Contents (Elt F)) = Cert.ReferenceIdeal.Step.b77 j s := by
  unfold Cert.ReferenceIdeal.Step.b77
  rw [← al_51 h, ← al_9 h]
  try rfl
set_option maxRecDepth 8192 in
theorem al_78 (h : Holds V0 s j) : (transpose S1x4x128x128 [0, 1, 3, 2] (Host.dotGeneral dot_S1x4x64x128_S1x4x64x128_S1x4x128x128_2_2_3_3_01_01 none (res_main_while0b_v50 V0) (res_main_while0b_v43 V0)) transposes_S1x4x128x128_S1x4x128x128_0_1_3_2 : (Proc.devRef .tc main_while0b_v76 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (addf (mulf (V0 (Proc.devRef .tc main_v26_9)) (broadcastInDim S1x4x128x128 ![0, 1, 2, 3] bcast_S1x4x1x1_S1x4x128x128_0_1_2_3 (res_main_while0b_v56 V0))) (transpose S1x4x128x128 [0, 1, 3, 2] (Host.dotGeneral dot_S1x4x64x128_S1x4x64x128_S1x4x128x128_2_2_3_3_01_01 none (res_main_while0b_v50 V0) (res_main_while0b_v43 V0)) transposes_S1x4x128x128_S1x4x128x128_0_1_3_2) : (Proc.devRef .tc main_while0b_v77 : DevRef τ sig).ty.Contents (Elt F)) = Cert.ReferenceIdeal.Step.b79 j s := by
  unfold Cert.ReferenceIdeal.Step.b79
  rw [← al_71 h, ← al_78 h]
  try rfl
set_option maxRecDepth 8192 in
theorem al_80 (h : Holds V0 s j) : (Host.dotGeneral dot_S1x4x64x128_S1x4x128x128_S1x4x64x128_3_3_2_2_01_01 none (res_main_while0b_v50 V0) (res_main_while0b_v49 V0) : (Proc.devRef .tc main_while0b_v78 : DevRef τ sig).ty.Contents (Elt F)) = Cert.ReferenceIdeal.Step.b80 j s := by
  unfold Cert.ReferenceIdeal.Step.b80
  rw [← al_51 h, ← al_45 h]
  try rfl
set_option maxRecDepth 8192 in
theorem al_81 (h : Holds V0 s j) : (res_main_while0b_v79 V0 : (Proc.devRef .tc main_while0b_v79 : DevRef τ sig).ty.Contents (Elt F)) = Cert.ReferenceIdeal.Step.b81 j s := by
  unfold res_main_while0b_v79 Cert.ReferenceIdeal.Step.b81
  rw [← al_75 h]
  try rfl
set_option maxRecDepth 8192 in
theorem al_82 (h : Holds V0 s j) : (Host.dotGeneral dot_S1x4x64x128_S1x4x64x128_S1x4x128x128_2_2_3_3_01_01 none (res_main_while0b_v79 V0) (res_main_while0b_v46 V0) : (Proc.devRef .tc main_while0b_v80 : DevRef τ sig).ty.Contents (Elt F)) = Cert.ReferenceIdeal.Step.b82 j s := by
  unfold Cert.ReferenceIdeal.Step.b82
  rw [← al_81 h, ← al_27 h]
  try rfl
set_option maxRecDepth 8192 in
theorem al_83 (h : Holds V0 s j) : (transpose S1x4x128x128 [0, 1, 3, 2] (Host.dotGeneral dot_S1x4x64x128_S1x4x64x128_S1x4x128x128_2_2_3_3_01_01 none (res_main_while0b_v79 V0) (res_main_while0b_v46 V0)) transposes_S1x4x128x128_S1x4x128x128_0_1_3_2 : (Proc.devRef .tc main_while0b_v81 : DevRef τ sig).ty.Contents (Elt F)) = Cert.ReferenceIdeal.Step.b83 j s := by
  unfold Cert.ReferenceIdeal.Step.b83
  rw [← al_82 h]
  try rfl
set_option maxRecDepth 8192 in
theorem al_84 (h : Holds V0 s j) : (addf (addf (mulf (V0 (Proc.devRef .tc main_v26_9)) (broadcastInDim S1x4x128x128 ![0, 1, 2, 3] bcast_S1x4x1x1_S1x4x128x128_0_1_2_3 (res_main_while0b_v56 V0))) (transpose S1x4x128x128 [0, 1, 3, 2] (Host.dotGeneral dot_S1x4x64x128_S1x4x64x128_S1x4x128x128_2_2_3_3_01_01 none (res_main_while0b_v50 V0) (res_main_while0b_v43 V0)) transposes_S1x4x128x128_S1x4x128x128_0_1_3_2)) (transpose S1x4x128x128 [0, 1, 3, 2] (Host.dotGeneral dot_S1x4x64x128_S1x4x64x128_S1x4x128x128_2_2_3_3_01_01 none (res_main_while0b_v79 V0) (res_main_while0b_v46 V0)) transposes_S1x4x128x128_S1x4x128x128_0_1_3_2) : (Proc.devRef .tc main_while0b_v82 : DevRef τ sig).ty.Contents (Elt F)) = Cert.ReferenceIdeal.Step.b84 j s := by
  unfold Cert.ReferenceIdeal.Step.b84
  rw [← al_79 h, ← al_83 h]
  try rfl
set_option maxRecDepth 8192 in
theorem al_85 (h : Holds V0 s j) : (Host.dotGeneral dot_S1x4x64x128_S1x4x128x128_S1x4x64x128_3_3_2_2_01_01 none (res_main_while0b_v79 V0) (res_main_while0b_v49 V0) : (Proc.devRef .tc main_while0b_v83 : DevRef τ sig).ty.Contents (Elt F)) = Cert.ReferenceIdeal.Step.b85 j s := by
  unfold Cert.ReferenceIdeal.Step.b85
  rw [← al_81 h, ← al_45 h]
  try rfl
set_option maxRecDepth 8192 in
theorem al_86 (h : Holds V0 s j) : (broadcastInDim S1x1x4x64x128 ![1, 2, 3, 4] bcast_S1x4x64x128_S1x1x4x64x128_1_2_3_4 (Host.dotGeneral dot_S1x4x64x128_S1x4x128x128_S1x4x64x128_3_3_2_2_01_01 none (res_main_while0b_v50 V0) (res_main_while0b_v49 V0)) : (Proc.devRef .tc main_while0b_call8_v0 : DevRef τ sig).ty.Contents (Elt F)) = Cert.ReferenceIdeal.Step.b86 j s := by
  unfold Cert.ReferenceIdeal.Step.b86
  rw [← al_80 h]
  try rfl
set_option maxRecDepth 8192 in
theorem al_87 (h : Holds V0 s j) : (constantI S_ 32 0#32 : (Proc.devRef .tc main_while0b_call8_c : DevRef τ sig).ty.Contents (Elt F)) = Cert.ReferenceIdeal.Step.b87 j s := by
  unfold Cert.ReferenceIdeal.Step.b87
  rfl
set_option maxRecDepth 8192 in
theorem al_88 (h : Holds V0 s j) : (constantI S_ 32 0#32 : (Proc.devRef .tc main_while0b_call8_c_0 : DevRef τ sig).ty.Contents (Elt F)) = Cert.ReferenceIdeal.Step.b88 j s := by
  unfold Cert.ReferenceIdeal.Step.b88
  rfl
set_option maxRecDepth 8192 in
theorem al_89 (h : Holds V0 s j) : (constantI S_ 32 0#32 : (Proc.devRef .tc main_while0b_call8_c_1 : DevRef τ sig).ty.Contents (Elt F)) = Cert.ReferenceIdeal.Step.b89 j s := by
  unfold Cert.ReferenceIdeal.Step.b89
  rfl
set_option maxRecDepth 8192 in
theorem al_90 (h : Holds V0 s j) : (constantI S_ 32 0#32 : (Proc.devRef .tc main_while0b_call8_c_2 : DevRef τ sig).ty.Contents (Elt F)) = Cert.ReferenceIdeal.Step.b90 j s := by
  unfold Cert.ReferenceIdeal.Step.b90
  rfl
set_option maxRecDepth 8192 in
theorem al_91 (h : Holds V0 s j) : (Host.dynamicUpdateSlice (V0 (Proc.devRef .tc main_v26_10)) (broadcastInDim S1x1x4x64x128 ![1, 2, 3, 4] bcast_S1x4x64x128_S1x1x4x64x128_1_2_3_4 (Host.dotGeneral dot_S1x4x64x128_S1x4x128x128_S1x4x64x128_3_3_2_2_01_01 none (res_main_while0b_v50 V0) (res_main_while0b_v49 V0))) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128 : (Proc.devRef .tc main_while0b_v84 : DevRef τ sig).ty.Contents (Elt F)) = Cert.ReferenceIdeal.Step.b91 j s := by
  unfold Cert.ReferenceIdeal.Step.b91
  rw [← al_86 h, ← al_3 h, ← al_87 h, ← al_88 h, ← al_89 h, ← al_90 h, h.f_10]
  try rfl
set_option maxRecDepth 8192 in
theorem al_92 (h : Holds V0 s j) : (broadcastInDim S1x1x4x64x128 ![1, 2, 3, 4] bcast_S1x4x64x128_S1x1x4x64x128_1_2_3_4 (transpose S1x4x64x128 [0, 1, 3, 2] (Host.dotGeneral dot_S1x4x128x128_S1x4x64x128_S1x4x128x64_3_3_2_2_01_01 none (V0 (Proc.devRef .tc main_v26_9)) (res_main_while0b_v52 V0)) transposes_S1x4x128x64_S1x4x64x128_0_1_3_2) : (Proc.devRef .tc main_while0b_call9_v0 : DevRef τ sig).ty.Contents (Elt F)) = Cert.ReferenceIdeal.Step.b92 j s := by
  unfold Cert.ReferenceIdeal.Step.b92
  rw [← al_65 h]
  try rfl
set_option maxRecDepth 8192 in
theorem al_93 (h : Holds V0 s j) : (constantI S_ 32 0#32 : (Proc.devRef .tc main_while0b_call9_c : DevRef τ sig).ty.Contents (Elt F)) = Cert.ReferenceIdeal.Step.b93 j s := by
  unfold Cert.ReferenceIdeal.Step.b93
  rfl
set_option maxRecDepth 8192 in
theorem al_94 (h : Holds V0 s j) : (constantI S_ 32 0#32 : (Proc.devRef .tc main_while0b_call9_c_0 : DevRef τ sig).ty.Contents (Elt F)) = Cert.ReferenceIdeal.Step.b94 j s := by
  unfold Cert.ReferenceIdeal.Step.b94
  rfl
set_option maxRecDepth 8192 in
theorem al_95 (h : Holds V0 s j) : (constantI S_ 32 0#32 : (Proc.devRef .tc main_while0b_call9_c_1 : DevRef τ sig).ty.Contents (Elt F)) = Cert.ReferenceIdeal.Step.b95 j s := by
  unfold Cert.ReferenceIdeal.Step.b95
  rfl
set_option maxRecDepth 8192 in
theorem al_96 (h : Holds V0 s j) : (constantI S_ 32 0#32 : (Proc.devRef .tc main_while0b_call9_c_2 : DevRef τ sig).ty.Contents (Elt F)) = Cert.ReferenceIdeal.Step.b96 j s := by
  unfold Cert.ReferenceIdeal.Step.b96
  rfl
set_option maxRecDepth 8192 in
theorem al_97 (h : Holds V0 s j) : (Host.dynamicUpdateSlice (V0 (Proc.devRef .tc main_v26_11)) (broadcastInDim S1x1x4x64x128 ![1, 2, 3, 4] bcast_S1x4x64x128_S1x1x4x64x128_1_2_3_4 (transpose S1x4x64x128 [0, 1, 3, 2] (Host.dotGeneral dot_S1x4x128x128_S1x4x64x128_S1x4x128x64_3_3_2_2_01_01 none (V0 (Proc.devRef .tc main_v26_9)) (res_main_while0b_v52 V0)) transposes_S1x4x128x64_S1x4x64x128_0_1_3_2)) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128 : (Proc.devRef .tc main_while0b_v85 : DevRef τ sig).ty.Contents (Elt F)) = Cert.ReferenceIdeal.Step.b97 j s := by
  unfold Cert.ReferenceIdeal.Step.b97
  rw [← al_92 h, ← al_3 h, ← al_93 h, ← al_94 h, ← al_95 h, ← al_96 h, h.f_11]
  try rfl
set_option maxRecDepth 8192 in
theorem al_98 (h : Holds V0 s j) : (broadcastInDim S1x1x4x64x128 ![1, 2, 3, 4] bcast_S1x4x64x128_S1x1x4x64x128_1_2_3_4 (res_main_while0b_v73 V0) : (Proc.devRef .tc main_while0b_call10_v0 : DevRef τ sig).ty.Contents (Elt F)) = Cert.ReferenceIdeal.Step.b98 j s := by
  unfold Cert.ReferenceIdeal.Step.b98
  rw [← al_75 h]
  try rfl
set_option maxRecDepth 8192 in
theorem al_99 (h : Holds V0 s j) : (constantI S_ 32 0#32 : (Proc.devRef .tc main_while0b_call10_c : DevRef τ sig).ty.Contents (Elt F)) = Cert.ReferenceIdeal.Step.b99 j s := by
  unfold Cert.ReferenceIdeal.Step.b99
  rfl
set_option maxRecDepth 8192 in
theorem al_100 (h : Holds V0 s j) : (constantI S_ 32 0#32 : (Proc.devRef .tc main_while0b_call10_c_0 : DevRef τ sig).ty.Contents (Elt F)) = Cert.ReferenceIdeal.Step.b100 j s := by
  unfold Cert.ReferenceIdeal.Step.b100
  rfl
set_option maxRecDepth 8192 in
theorem al_101 (h : Holds V0 s j) : (constantI S_ 32 0#32 : (Proc.devRef .tc main_while0b_call10_c_1 : DevRef τ sig).ty.Contents (Elt F)) = Cert.ReferenceIdeal.Step.b101 j s := by
  unfold Cert.ReferenceIdeal.Step.b101
  rfl
set_option maxRecDepth 8192 in
theorem al_102 (h : Holds V0 s j) : (constantI S_ 32 0#32 : (Proc.devRef .tc main_while0b_call10_c_2 : DevRef τ sig).ty.Contents (Elt F)) = Cert.ReferenceIdeal.Step.b102 j s := by
  unfold Cert.ReferenceIdeal.Step.b102
  rfl
set_option maxRecDepth 8192 in
theorem al_103 (h : Holds V0 s j) : (Host.dynamicUpdateSlice (V0 (Proc.devRef .tc main_v26_12)) (broadcastInDim S1x1x4x64x128 ![1, 2, 3, 4] bcast_S1x4x64x128_S1x1x4x64x128_1_2_3_4 (res_main_while0b_v73 V0)) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128 : (Proc.devRef .tc main_while0b_v86 : DevRef τ sig).ty.Contents (Elt F)) = Cert.ReferenceIdeal.Step.b103 j s := by
  unfold Cert.ReferenceIdeal.Step.b103
  rw [← al_98 h, ← al_3 h, ← al_99 h, ← al_100 h, ← al_101 h, ← al_102 h, h.f_12]
  try rfl
set_option maxRecDepth 8192 in
theorem al_104 (h : Holds V0 s j) : (broadcastInDim S1x1x4x64x128 ![1, 2, 3, 4] bcast_S1x4x64x128_S1x1x4x64x128_1_2_3_4 (Host.dotGeneral dot_S1x4x64x128_S1x4x128x128_S1x4x64x128_3_3_2_2_01_01 none (res_main_while0b_v79 V0) (res_main_while0b_v49 V0)) : (Proc.devRef .tc main_while0b_call11_v0 : DevRef τ sig).ty.Contents (Elt F)) = Cert.ReferenceIdeal.Step.b104 j s := by
  unfold Cert.ReferenceIdeal.Step.b104
  rw [← al_85 h]
  try rfl
set_option maxRecDepth 8192 in
theorem al_105 (h : Holds V0 s j) : (constantI S_ 32 0#32 : (Proc.devRef .tc main_while0b_call11_c : DevRef τ sig).ty.Contents (Elt F)) = Cert.ReferenceIdeal.Step.b105 j s := by
  unfold Cert.ReferenceIdeal.Step.b105
  rfl
set_option maxRecDepth 8192 in
theorem al_106 (h : Holds V0 s j) : (constantI S_ 32 0#32 : (Proc.devRef .tc main_while0b_call11_c_0 : DevRef τ sig).ty.Contents (Elt F)) = Cert.ReferenceIdeal.Step.b106 j s := by
  unfold Cert.ReferenceIdeal.Step.b106
  rfl
set_option maxRecDepth 8192 in
theorem al_107 (h : Holds V0 s j) : (constantI S_ 32 0#32 : (Proc.devRef .tc main_while0b_call11_c_1 : DevRef τ sig).ty.Contents (Elt F)) = Cert.ReferenceIdeal.Step.b107 j s := by
  unfold Cert.ReferenceIdeal.Step.b107
  rfl
set_option maxRecDepth 8192 in
theorem al_108 (h : Holds V0 s j) : (constantI S_ 32 0#32 : (Proc.devRef .tc main_while0b_call11_c_2 : DevRef τ sig).ty.Contents (Elt F)) = Cert.ReferenceIdeal.Step.b108 j s := by
  unfold Cert.ReferenceIdeal.Step.b108
  rfl
set_option maxRecDepth 8192 in
theorem al_109 (h : Holds V0 s j) : (Host.dynamicUpdateSlice (V0 (Proc.devRef .tc main_v26_13)) (broadcastInDim S1x1x4x64x128 ![1, 2, 3, 4] bcast_S1x4x64x128_S1x1x4x64x128_1_2_3_4 (Host.dotGeneral dot_S1x4x64x128_S1x4x128x128_S1x4x64x128_3_3_2_2_01_01 none (res_main_while0b_v79 V0) (res_main_while0b_v49 V0))) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128 : (Proc.devRef .tc main_while0b_v87 : DevRef τ sig).ty.Contents (Elt F)) = Cert.ReferenceIdeal.Step.b109 j s := by
  unfold Cert.ReferenceIdeal.Step.b109
  rw [← al_104 h, ← al_3 h, ← al_105 h, ← al_106 h, ← al_107 h, ← al_108 h, h.f_13]
  try rfl
set_option maxRecDepth 8192 in
theorem al_110 (h : Holds V0 s j) : (broadcastInDim S1x1x4x64x64 ![1, 2, 3, 4] bcast_S1x4x64x64_S1x1x4x64x64_1_2_3_4 (Host.dotGeneral dot_S1x4x64x128_S1x4x64x128_S1x4x64x64_3_3_2_2_01_01 none (res_main_while0b_v50 V0) (res_main_while0b_v52 V0)) : (Proc.devRef .tc main_while0b_call12_v0 : DevRef τ sig).ty.Contents (Elt F)) = Cert.ReferenceIdeal.Step.b110 j s := by
  unfold Cert.ReferenceIdeal.Step.b110
  rw [← al_76 h]
  try rfl
set_option maxRecDepth 8192 in
theorem al_111 (h : Holds V0 s j) : (constantI S_ 32 0#32 : (Proc.devRef .tc main_while0b_call12_c : DevRef τ sig).ty.Contents (Elt F)) = Cert.ReferenceIdeal.Step.b111 j s := by
  unfold Cert.ReferenceIdeal.Step.b111
  rfl
set_option maxRecDepth 8192 in
theorem al_112 (h : Holds V0 s j) : (constantI S_ 32 0#32 : (Proc.devRef .tc main_while0b_call12_c_0 : DevRef τ sig).ty.Contents (Elt F)) = Cert.ReferenceIdeal.Step.b112 j s := by
  unfold Cert.ReferenceIdeal.Step.b112
  rfl
set_option maxRecDepth 8192 in
theorem al_113 (h : Holds V0 s j) : (constantI S_ 32 0#32 : (Proc.devRef .tc main_while0b_call12_c_1 : DevRef τ sig).ty.Contents (Elt F)) = Cert.ReferenceIdeal.Step.b113 j s := by
  unfold Cert.ReferenceIdeal.Step.b113
  rfl
set_option maxRecDepth 8192 in
theorem al_114 (h : Holds V0 s j) : (constantI S_ 32 0#32 : (Proc.devRef .tc main_while0b_call12_c_2 : DevRef τ sig).ty.Contents (Elt F)) = Cert.ReferenceIdeal.Step.b114 j s := by
  unfold Cert.ReferenceIdeal.Step.b114
  rfl
set_option maxRecDepth 8192 in
theorem al_115 (h : Holds V0 s j) : (Host.dynamicUpdateSlice (V0 (Proc.devRef .tc main_v26_14)) (broadcastInDim S1x1x4x64x64 ![1, 2, 3, 4] bcast_S1x4x64x64_S1x1x4x64x64_1_2_3_4 (Host.dotGeneral dot_S1x4x64x128_S1x4x64x128_S1x4x64x64_3_3_2_2_01_01 none (res_main_while0b_v50 V0) (res_main_while0b_v52 V0))) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x64_S1x1x4x64x64 : (Proc.devRef .tc main_while0b_v88 : DevRef τ sig).ty.Contents (Elt F)) = Cert.ReferenceIdeal.Step.b115 j s := by
  unfold Cert.ReferenceIdeal.Step.b115
  rw [← al_110 h, ← al_3 h, ← al_111 h, ← al_112 h, ← al_113 h, ← al_114 h, h.f_14]
  try rfl
set_option maxRecDepth 8192 in
theorem al_116 (h : Holds V0 s j) : (broadcastInDim S1x1x4x1x1 ![1, 2, 3, 4] bcast_S1x4x1x1_S1x1x4x1x1_1_2_3_4 (mulf (shapeCast S1x4x1x1 (Host.reduceAdd (mulf (res_main_while0b_v49 V0) (V0 (Proc.devRef .tc main_v26_9))) (constant S_ .f32 0x00000000#32) reducesTo_S1x4x128x128_S1x4_d2_3 h_S_) shapeCasts_S1x4_S1x4x1x1) (res_main_while0b_v56 V0)) : (Proc.devRef .tc main_while0b_call13_v0 : DevRef τ sig).ty.Contents (Elt F)) = Cert.ReferenceIdeal.Step.b116 j s := by
  unfold Cert.ReferenceIdeal.Step.b116
  rw [← al_72 h]
  try rfl
set_option maxRecDepth 8192 in
theorem al_117 (h : Holds V0 s j) : (constantI S_ 32 0#32 : (Proc.devRef .tc main_while0b_call13_c : DevRef τ sig).ty.Contents (Elt F)) = Cert.ReferenceIdeal.Step.b117 j s := by
  unfold Cert.ReferenceIdeal.Step.b117
  rfl
set_option maxRecDepth 8192 in
theorem al_118 (h : Holds V0 s j) : (constantI S_ 32 0#32 : (Proc.devRef .tc main_while0b_call13_c_0 : DevRef τ sig).ty.Contents (Elt F)) = Cert.ReferenceIdeal.Step.b118 j s := by
  unfold Cert.ReferenceIdeal.Step.b118
  rfl
set_option maxRecDepth 8192 in
theorem al_119 (h : Holds V0 s j) : (constantI S_ 32 0#32 : (Proc.devRef .tc main_while0b_call13_c_1 : DevRef τ sig).ty.Contents (Elt F)) = Cert.ReferenceIdeal.Step.b119 j s := by
  unfold Cert.ReferenceIdeal.Step.b119
  rfl
set_option maxRecDepth 8192 in
theorem al_120 (h : Holds V0 s j) : (constantI S_ 32 0#32 : (Proc.devRef .tc main_while0b_call13_c_2 : DevRef τ sig).ty.Contents (Elt F)) = Cert.ReferenceIdeal.Step.b120 j s := by
  unfold Cert.ReferenceIdeal.Step.b120
  rfl
set_option maxRecDepth 8192 in
theorem al_121 (h : Holds V0 s j) : (Host.dynamicUpdateSlice (V0 (Proc.devRef .tc main_v26_15)) (broadcastInDim S1x1x4x1x1 ![1, 2, 3, 4] bcast_S1x4x1x1_S1x1x4x1x1_1_2_3_4 (mulf (shapeCast S1x4x1x1 (Host.reduceAdd (mulf (res_main_while0b_v49 V0) (V0 (Proc.devRef .tc main_v26_9))) (constant S_ .f32 0x00000000#32) reducesTo_S1x4x128x128_S1x4_d2_3 h_S_) shapeCasts_S1x4_S1x4x1x1) (res_main_while0b_v56 V0))) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x1x1_S1x1x4x1x1 : (Proc.devRef .tc main_while0b_v89 : DevRef τ sig).ty.Contents (Elt F)) = Cert.ReferenceIdeal.Step.b121 j s := by
  unfold Cert.ReferenceIdeal.Step.b121
  rw [← al_116 h, ← al_3 h, ← al_117 h, ← al_118 h, ← al_119 h, ← al_120 h, h.f_15]
  try rfl

/-! One trip's step of the carried values is `step`, field by field; a counter steps to the next number. -/

theorem step_9 (h : Holds V0 s j) : step_main_v26_9 V0 = (step j s).main_v26_9 := by
  unfold step_main_v26_9 Cert.ReferenceIdeal.Step.step
  show id (addf (addf (mulf (V0 (Proc.devRef .tc main_v26_9)) (broadcastInDim S1x4x128x128 ![0, 1, 2, 3] bcast_S1x4x1x1_S1x4x128x128_0_1_2_3 (res_main_while0b_v56 V0))) (transpose S1x4x128x128 [0, 1, 3, 2] (Host.dotGeneral dot_S1x4x64x128_S1x4x64x128_S1x4x128x128_2_2_3_3_01_01 none (res_main_while0b_v50 V0) (res_main_while0b_v43 V0)) transposes_S1x4x128x128_S1x4x128x128_0_1_3_2)) (transpose S1x4x128x128 [0, 1, 3, 2] (Host.dotGeneral dot_S1x4x64x128_S1x4x64x128_S1x4x128x128_2_2_3_3_01_01 none (res_main_while0b_v79 V0) (res_main_while0b_v46 V0)) transposes_S1x4x128x128_S1x4x128x128_0_1_3_2)) = _
  exact al_84 h
theorem step_10 (h : Holds V0 s j) : step_main_v26_10 V0 = (step j s).main_v26_10 := by
  unfold step_main_v26_10 Cert.ReferenceIdeal.Step.step
  show id (Host.dynamicUpdateSlice (V0 (Proc.devRef .tc main_v26_10)) (broadcastInDim S1x1x4x64x128 ![1, 2, 3, 4] bcast_S1x4x64x128_S1x1x4x64x128_1_2_3_4 (Host.dotGeneral dot_S1x4x64x128_S1x4x128x128_S1x4x64x128_3_3_2_2_01_01 none (res_main_while0b_v50 V0) (res_main_while0b_v49 V0))) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128) = _
  exact al_91 h
theorem step_11 (h : Holds V0 s j) : step_main_v26_11 V0 = (step j s).main_v26_11 := by
  unfold step_main_v26_11 Cert.ReferenceIdeal.Step.step
  show id (Host.dynamicUpdateSlice (V0 (Proc.devRef .tc main_v26_11)) (broadcastInDim S1x1x4x64x128 ![1, 2, 3, 4] bcast_S1x4x64x128_S1x1x4x64x128_1_2_3_4 (transpose S1x4x64x128 [0, 1, 3, 2] (Host.dotGeneral dot_S1x4x128x128_S1x4x64x128_S1x4x128x64_3_3_2_2_01_01 none (V0 (Proc.devRef .tc main_v26_9)) (res_main_while0b_v52 V0)) transposes_S1x4x128x64_S1x4x64x128_0_1_3_2)) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128) = _
  exact al_97 h
theorem step_12 (h : Holds V0 s j) : step_main_v26_12 V0 = (step j s).main_v26_12 := by
  unfold step_main_v26_12 Cert.ReferenceIdeal.Step.step
  show id (Host.dynamicUpdateSlice (V0 (Proc.devRef .tc main_v26_12)) (broadcastInDim S1x1x4x64x128 ![1, 2, 3, 4] bcast_S1x4x64x128_S1x1x4x64x128_1_2_3_4 (res_main_while0b_v73 V0)) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128) = _
  exact al_103 h
theorem step_13 (h : Holds V0 s j) : step_main_v26_13 V0 = (step j s).main_v26_13 := by
  unfold step_main_v26_13 Cert.ReferenceIdeal.Step.step
  show id (Host.dynamicUpdateSlice (V0 (Proc.devRef .tc main_v26_13)) (broadcastInDim S1x1x4x64x128 ![1, 2, 3, 4] bcast_S1x4x64x128_S1x1x4x64x128_1_2_3_4 (Host.dotGeneral dot_S1x4x64x128_S1x4x128x128_S1x4x64x128_3_3_2_2_01_01 none (res_main_while0b_v79 V0) (res_main_while0b_v49 V0))) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128) = _
  exact al_109 h
theorem step_14 (h : Holds V0 s j) : step_main_v26_14 V0 = (step j s).main_v26_14 := by
  unfold step_main_v26_14 Cert.ReferenceIdeal.Step.step
  show id (Host.dynamicUpdateSlice (V0 (Proc.devRef .tc main_v26_14)) (broadcastInDim S1x1x4x64x64 ![1, 2, 3, 4] bcast_S1x4x64x64_S1x1x4x64x64_1_2_3_4 (Host.dotGeneral dot_S1x4x64x128_S1x4x64x128_S1x4x64x64_3_3_2_2_01_01 none (res_main_while0b_v50 V0) (res_main_while0b_v52 V0))) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x64_S1x1x4x64x64) = _
  exact al_115 h
theorem step_15 (h : Holds V0 s j) : step_main_v26_15 V0 = (step j s).main_v26_15 := by
  unfold step_main_v26_15 Cert.ReferenceIdeal.Step.step
  show id (Host.dynamicUpdateSlice (V0 (Proc.devRef .tc main_v26_15)) (broadcastInDim S1x1x4x1x1 ![1, 2, 3, 4] bcast_S1x4x1x1_S1x1x4x1x1_1_2_3_4 (mulf (shapeCast S1x4x1x1 (Host.reduceAdd (mulf (res_main_while0b_v49 V0) (V0 (Proc.devRef .tc main_v26_9))) (constant S_ .f32 0x00000000#32) reducesTo_S1x4x128x128_S1x4_d2_3 h_S_) shapeCasts_S1x4_S1x4x1x1) (res_main_while0b_v56 V0))) (fun k => (((![res_main_while0b_v42 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x1x1_S1x1x4x1x1) = _
  exact al_121 h
theorem step_8 (h : Holds V0 s j) : step_main_v26_8 V0 = constantI S_ 32 (BitVec.ofNat 32 (j + 1)) := by
  unfold step_main_v26_8
  rw [h.n_8]
  funext i
  show BitVec.ofNat 32 j + 1#32 = BitVec.ofNat 32 (j + 1)
  simp only [BitVec.ofNat_add]

set_option maxRecDepth 8192 in
theorem out_main_v31_holds (h : Holds V0 s j) : out_main_v31 V0 = Cert.ReferenceIdeal.Step.R_main_v31 s := by
  unfold out_main_v31 Cert.ReferenceIdeal.Step.R_main_v31
  rw [h.f_10]
  try rfl

set_option maxRecDepth 8192 in
theorem out_main_v33_holds (h : Holds V0 s j) : out_main_v33 V0 = Cert.ReferenceIdeal.Step.R_main_v33 s := by
  unfold out_main_v33 Cert.ReferenceIdeal.Step.R_main_v33
  rw [h.f_11]
  try rfl

set_option maxRecDepth 8192 in
theorem out_main_v35_holds (h : Holds V0 s j) : out_main_v35 V0 = Cert.ReferenceIdeal.Step.R_main_v35 s := by
  unfold out_main_v35 Cert.ReferenceIdeal.Step.R_main_v35
  rw [h.f_12]
  try rfl

set_option maxRecDepth 8192 in
theorem out_main_v37_holds (h : Holds V0 s j) : out_main_v37 V0 = Cert.ReferenceIdeal.Step.R_main_v37 s := by
  unfold out_main_v37 Cert.ReferenceIdeal.Step.R_main_v37
  rw [h.f_13]
  try rfl

set_option maxRecDepth 8192 in
theorem out_main_v40_holds (h : Holds V0 s j) : out_main_v40 V0 = Cert.ReferenceIdeal.Step.R_main_v40 s := by
  unfold out_main_v40 Cert.ReferenceIdeal.Step.R_main_v40
  rw [h.f_14]
  try rfl

set_option maxRecDepth 8192 in
theorem out_main_v29_holds (h : Holds V0 s j) : out_main_v29 V0 = Cert.ReferenceIdeal.Step.R_main_v29 s := by
  unfold out_main_v29 Cert.ReferenceIdeal.Step.R_main_v29
  rw [h.f_15]
  try rfl

/-- One trip keeps the valuation holding: `step` of the state, the same set-up values, the next number. -/
theorem holds_step (h : Holds V0 s j) : Holds (STEP V0) (step j s) (j + 1) where
  f_9 := (STEP_main_v26_9 V0).trans (step_9 h)
  f_10 := (STEP_main_v26_10 V0).trans (step_10 h)
  f_11 := (STEP_main_v26_11 V0).trans (step_11 h)
  f_12 := (STEP_main_v26_12 V0).trans (step_12 h)
  f_13 := (STEP_main_v26_13 V0).trans (step_13 h)
  f_14 := (STEP_main_v26_14 V0).trans (step_14 h)
  f_15 := (STEP_main_v26_15 V0).trans (step_15 h)
  n_8 := (STEP_main_v26_8 V0).trans (step_8 h)
  f_0 := (STEP_main_v26_0 V0).trans h.f_0
  f_1 := (STEP_main_v26_1 V0).trans h.f_1
  f_2 := (STEP_main_v26_2 V0).trans h.f_2
  f_3 := (STEP_main_v26_3 V0).trans h.f_3
  f_4 := (STEP_main_v26_4 V0).trans h.f_4
  f_5 := (STEP_main_v26_5 V0).trans h.f_5
  f_6 := (STEP_main_v26_6 V0).trans h.f_6
  f_7 := (STEP_main_v26_7 V0).trans h.f_7

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v31) = Cert.ReferenceIdeal.Step.R_main_v31 (it c 64)
      ∧ r.2.mem ((c.tc : Thread nD τ).loc main_v33) = Cert.ReferenceIdeal.Step.R_main_v33 (it c 64)
      ∧ r.2.mem ((c.tc : Thread nD τ).loc main_v35) = Cert.ReferenceIdeal.Step.R_main_v35 (it c 64)
      ∧ r.2.mem ((c.tc : Thread nD τ).loc main_v37) = Cert.ReferenceIdeal.Step.R_main_v37 (it c 64)
      ∧ r.2.mem ((c.tc : Thread nD τ).loc main_v40) = Cert.ReferenceIdeal.Step.R_main_v40 (it c 64)
      ∧ r.2.mem ((c.tc : Thread nD τ).loc main_v29) = Cert.ReferenceIdeal.Step.R_main_v29 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 64
    ⟨(h c).1.trans (out_main_v31_holds hk), (h c).2.1.trans (out_main_v33_holds hk), (h c).2.2.1.trans (out_main_v35_holds hk), (h c).2.2.2.1.trans (out_main_v37_holds hk), (h c).2.2.2.2.1.trans (out_main_v40_holds hk), (h c).2.2.2.2.2.1.trans (out_main_v29_holds hk), (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩) (Value.run m ρ)

end Cert.ReferenceIdeal.Trips

end
-- ==== Proof.BackHost.lean ====
/-
  What the backward kernel is handed besides its arguments: the new values and the gates spread over the lanes, which
  the host computes before the launch; and what the precondition says of the arguments.
-/
module

public import proofs.«01_k».proof.Proof.BackEq
public import proofs.«01_k».proof.Proof.BackRun
public import proofs.«01_k».proof.Proof.ReferenceTrips
public import proofs.«01_k».proof.Defs
public import proofs.«01_k».proof.Proof.Gen.Pre_finite
public import proofs.«01_k».proof.Proof.Gen.KernelIdeal.Frame.Runs
public import Idealize.ShloMosaic.Lib.StableHlo.ReadAt

@[expose] public section

set_option maxRecDepth 16384

noncomputable section

namespace Cert.ScanEq

open Idealize.ShloMosaic Idealize.ShloMosaic.TcCoe Idealize.SL.Sem Cert.KernelIdeal Cert.KernelIdeal.Gen Cert.Scan Cert.ScanBack
open Cert (Pre_KernelIdeal_finite)

variable (m : (ℓ : Loc nD τ sig) → Buf (Elt Ideal) ℓ)

theorem new_at (c : Dev nD) (a3 a4 : FVec Ideal S4096x512 .f32) (a6 : FVec Ideal S64x4x128x128 .f32) (h3 : V m c main_arg3 = a3)
    (h4 : V m c main_arg4 = a4) (h6 : V m c main_arg6 = a6) (y0 : Fin 4096) (y1 : Fin 512) :
    (V m c main_v4 : FVec Ideal S4096x512 .f32) (ix2 y0 y1)
      = a3 (ix2 y0 y1)
        - ∑ x : Fin 128, a6 (ix4 ⟨y0.val / 64, by omega⟩ ⟨y1.val / 128, by omega⟩ x ⟨y1.val % 128, by omega⟩)
          * a4 (ix2 ⟨y0.val / 64 * 64 + y0.val % 64, by omega⟩ ⟨y1.val / 128 * 128 + x.val, by omega⟩) := by
  rw [V_main_arg3] at h3
  rw [V_main_arg4] at h4
  rw [V_main_arg6] at h6
  subst h3 h4 h6
  unfold V
  after_reads_at

theorem gate_at (c : Dev nD) (y0 : Fin 4096) (y1 : Fin 512) :
    (V m c main_v6 : FVec Ideal S4096x512 .f32) (ix2 y0 y1)
      = (m ((c : Thread nD τ).loc main_arg7) : FVec Ideal S4096x4 .f32) (ix2 y0 ⟨y1.val / 128, by omega⟩) := by
  unfold V
  after_reads_at

theorem isNew (c : Dev nD) : IsNew (V m c main_arg3) (V m c main_arg4) (V m c main_arg6) (V m c main_v4) := by
  intro n h r e
  rw [new_at m c _ _ _ rfl rfl rfl]
  have hr := r.isLt
  have he := e.isLt
  refine congrArg _ (Finset.sum_congr rfl fun k _ => ?_)
  rw [mul_comm]
  have hk := k.isLt
  refine congrArg₂ (fun a b : EReal => a * b) (congrArg _ (congrArg₂ ix2 (Fin.ext ?_) (Fin.ext ?_)))
    (congrArg _ (funext fun a => Fin.ext ?_))
  · show (64 * n.val + r.val) / 64 * 64 + (64 * n.val + r.val) % 64 = 64 * n.val + r.val; omega
  · show (128 * h.val + e.val) / 128 * 128 + k.val = 128 * h.val + k.val; omega
  · match a with
    | ⟨0, _⟩ => show (64 * n.val + r.val) / 64 = n.val; omega
    | ⟨1, _⟩ => show (128 * h.val + e.val) / 128 = h.val; omega
    | ⟨2, _⟩ => rfl
    | ⟨3, _⟩ => show (128 * h.val + e.val) % 128 = e.val; omega

theorem isGate (c : Dev nD) : IsGate (V m c main_arg7) (V m c main_v6) := by
  intro n h r e
  rw [gate_at, V_main_arg7]
  have he := e.isLt
  refine congrArg _ (congrArg₂ ix2 rfl (Fin.ext ?_))
  show (128 * h.val + e.val) / 128 = h.val
  omega

/-! ## The precondition -/

theorem real_S4096x512 (x : FVec Ideal S4096x512 .f32) (h : Shape.BroadcastsInDim ⟨0, ![]⟩ S4096x512 (![] : Fin 0 → Fin S4096x512.rank))
    (hx : cmpf .olt (Host.absf x) (broadcastInDim S4096x512 ![] h (constant ⟨0, ![]⟩ .f32 0x7F800000#32)) = fun _ => 1#1) (i : S4096x512.Idx) : IsReal (x i) :=
  IsReal.of_lt (congrFun hx i)

theorem real_S4x4096x64 (x : FVec Ideal S4x4096x64 .f32) (h : Shape.BroadcastsInDim ⟨0, ![]⟩ S4x4096x64 (![] : Fin 0 → Fin S4x4096x64.rank))
    (hx : cmpf .olt (Host.absf x) (broadcastInDim S4x4096x64 ![] h (constant ⟨0, ![]⟩ .f32 0x7F800000#32)) = fun _ => 1#1) (i : S4x4096x64.Idx) : IsReal (x i) :=
  IsReal.of_lt (congrFun hx i)

theorem real_S64x4x128x128 (x : FVec Ideal S64x4x128x128 .f32) (h : Shape.BroadcastsInDim ⟨0, ![]⟩ S64x4x128x128 (![] : Fin 0 → Fin S64x4x128x128.rank))
    (hx : cmpf .olt (Host.absf x) (broadcastInDim S64x4x128x128 ![] h (constant ⟨0, ![]⟩ .f32 0x7F800000#32)) = fun _ => 1#1) (i : S64x4x128x128.Idx) : IsReal (x i) :=
  IsReal.of_lt (congrFun hx i)

theorem real_S4096x4 (x : FVec Ideal S4096x4 .f32) (h : Shape.BroadcastsInDim ⟨0, ![]⟩ S4096x4 (![] : Fin 0 → Fin S4096x4.rank))
    (hx : cmpf .olt (Host.absf x) (broadcastInDim S4096x4 ![] h (constant ⟨0, ![]⟩ .f32 0x7F800000#32)) = fun _ => 1#1) (i : S4096x4.Idx) : IsReal (x i) :=
  IsReal.of_lt (congrFun hx i)

theorem allReal (hp : Pre_KernelIdeal_finite m) (c : Dev nD) :
    AllReal (V m c main_arg0) (V m c main_arg1) (V m c main_arg2) (V m c main_arg4) (V m c main_arg5) (V m c main_arg6) (V m c main_arg7) := by
  obtain ⟨p0, p1, p2, p3, p4, p5, p6, p7⟩ := hp c
  rw [V_main_arg0, V_main_arg1, V_main_arg2, V_main_arg4, V_main_arg5, V_main_arg6, V_main_arg7]
  exact ⟨real_S4096x512 _ _ p0, real_S4096x512 _ _ p1, real_S4096x512 _ _ p2, real_S4096x512 _ _ p4, real_S4x4096x64 _ _ p5, real_S64x4x128x128 _ _ p6, real_S4096x4 _ _ p7⟩

/-! ## The loop's states -/

/-- The loop's state after `k` trips. -/
def states (s : ReferenceIdeal.Step.State Ideal) : ℕ → ReferenceIdeal.Step.State Ideal
  | 0 => s
  | k + 1 => ReferenceIdeal.Step.step k (states s k)

theorem inv_states {a0 a1 a2 a3 a4 : FVec Ideal S4096x512 .f32} {a5 : FVec Ideal S4x4096x64 .f32} {a6 : FVec Ideal S64x4x128x128 .f32}
    {a7 : FVec Ideal S4096x4 .f32} {vn gb : FVec Ideal S4096x512 .f32}
    (hr : AllReal a0 a1 a2 a4 a5 a6 a7) (hv : IsNew a3 a4 a6 vn) (hg : IsGate a7 gb) : ∀ k ≤ 64,
    Inv (a0 := a0) (a1 := a1) (a2 := a2) (a3 := a3) (a4 := a4) (a5 := a5) (a6 := a6) (a7 := a7) (vn := vn) (gb := gb) k
      (states (ReferenceIdeal.Step.init (F := Ideal) a0 a1 a2 a3 a4 a5 a6 a7) k)
  | 0, _ => inv_init
  | k + 1, hk => inv_step hr hv hg k (by omega) _ (inv_states hr hv hg k (by omega))

/-- The kernel's six arrays are the reference's. -/
theorem algebraic : algebraic_KernelIdeal_ReferenceIdeal_pre_finite := by
  intro m g m' g' hp hargs
  refine ⟨fun c => arrRows (dqG m c), fun c => arrRows (dkG m c), fun c => arrRows (duG m c), fun c => arrRows (dwG m c),
    fun c => arrAtts (daG m c), fun c => arrGates (dgG m c), run m g, ?_⟩
  refine (θ_run _ _ _).mono (fun _ h c => ?_) (ReferenceIdeal.Trips.run_iter m' g'
    (fun c => states (ReferenceIdeal.Trips.initState m' c)) (fun _ => rfl) (fun _ _ => rfl))
  have e := results _ (inv_states (allReal m hp c) (isNew m c) (isGate m c) 64 le_rfl)
  have hs : ReferenceIdeal.Step.init (F := Ideal) (V m c main_arg0) (V m c main_arg1) (V m c main_arg2) (V m c main_arg3)
      (V m c main_arg4) (V m c main_arg5) (V m c main_arg6) (V m c main_arg7) = ReferenceIdeal.Trips.initState m' c := by
    obtain ⟨e0, e1, e2, e3, e4, e5, e6, e7⟩ := hargs c
    rw [V_main_arg0, V_main_arg1, V_main_arg2, V_main_arg3, V_main_arg4, V_main_arg5, V_main_arg6, V_main_arg7,
      ← e0, ← e1, ← e2, ← e3, ← e4, ← e5, ← e6, ← e7]
  rw [hs] at e
  obtain ⟨r0, r1, r2, r3, r4, r5⟩ := e
  obtain ⟨h0, h1, h2, h3, h4, h5, h6⟩ := h c
  exact ⟨h0.trans r0, h1.trans r1, h2.trans r2, h3.trans r3, h4.trans r4, h5.trans r5, h6⟩

end Cert.ScanEq
-- ==== Proof.Products.lean ====
/-
  Products of two matrices over the extended reals, entry by entry.
-/
module

public import Idealize.ShloMosaic.Lib.Pointwise
public import proofs.«01_k».proof.Proof.Chunks
public import Idealize.ShloMosaic.PureOps.Ideal
public import Idealize.ShloMosaic.Lib.Pipeline.ValueKit

@[expose] public section

noncomputable section

namespace Cert.Products

open Idealize.ShloMosaic

/-- A matrix of extended reals. -/
abbrev Mat (p q : ℕ) := (⟨2, ![p, q]⟩ : Shape).Idx → EReal

/-- Entry `(i, j)` of the product of `a` with `b`. -/
def entry {p k q : ℕ} (a : Mat p k) (b : Mat k q) (i : Fin p) (j : Fin q) : EReal := ∑ l : Fin k, a (ix2 i l) * b (ix2 l j)

/-- Entry `(i, j)` of the product of `a` with `b`, transposed. -/
def entryR {p k q : ℕ} (a : Mat p k) (b : Mat q k) (i : Fin p) (j : Fin q) : EReal := ∑ l : Fin k, a (ix2 i l) * b (ix2 j l)

/-- Entry `(i, j)` of the product of `a`, transposed, with `b`. -/
def entryT {p k q : ℕ} (a : Mat k p) (b : Mat k q) (i : Fin p) (j : Fin q) : EReal := ∑ l : Fin k, a (ix2 l i) * b (ix2 l j)

/-- A block that each run of `J` points starts anew and adds to, the last point adding in what it hands on: the sum of
    the run's `J` terms. -/
theorem run_sum {ι : Type} {N : ℕ} (J : ℕ) [NeZero J] (f : (n : ℕ) → n < N → ι → EReal) (term : Fin N → ι → EReal)
    (hJ : 1 < J) (h0 : ∀ t : Fin N, t.val % J = 0 → ∀ i, f t.val t.isLt i = term t i)
    (hs : ∀ t : Fin N, ¬t.val % J = 0 → ¬t.val % J = J - 1 → ∀ i,
      f t.val t.isLt i = f (t.val - 1) (Nat.lt_of_le_of_lt (Nat.sub_le _ _) t.isLt) i + term t i)
    (t : Fin N) (hr : t.val % J = J - 1) (i : ι) :
    f (t.val - 1) (Nat.lt_of_le_of_lt (Nat.sub_le _ _) t.isLt) i + term t i
      = ∑ s : Fin J, term ⟨J * (t.val / J) + s.val, Pipeline.run_point_lt_of_flush t hr s⟩ i := by
  have key := Pipeline.eq_sum_fin_of_reset_step_apply_of_flush
    (fun n h i => if n % J = J - 1 then f (n - 1) (Nat.lt_of_le_of_lt (Nat.sub_le _ _) h) i + term ⟨n, h⟩ i else f n h i) J
    (fun _ => 0) term (fun u hu i => by
      rw [if_neg (by omega), h0 u hu i, zero_add])
    (fun u hu i => by
      have h1 : ¬(u.val - 1) % J = J - 1 := by
        intro h
        have h2 : u.val - 1 + 1 = u.val := Nat.sub_add_cancel (Nat.pos_of_ne_zero fun h => hu (by rw [h]; exact Nat.zero_mod _))
        refine hu ?_
        rw [← h2, Nat.add_mod, h, Nat.mod_eq_of_lt hJ, Nat.sub_add_cancel (NeZero.pos J), Nat.mod_self]
      rw [if_neg h1]
      by_cases h : u.val % J = J - 1
      · rw [if_pos h]
      · rw [if_neg h, hs u hu h i]) t hr i
  simp only [if_pos hr, zero_add] at key
  exact key

/-- A factor that is neither negative nor infinite goes inside a sum. -/
theorem sum_mul {ι : Type} (s : Finset ι) (f : ι → EReal) {r : EReal} (h0 : 0 ≤ r) (ht : r ≠ ⊤) :
    (∑ i ∈ s, f i) * r = ∑ i ∈ s, f i * r := by
  classical
  induction s using Finset.induction_on with
  | empty => simp
  | insert i s hi h => rw [Finset.sum_insert hi, Finset.sum_insert hi, EReal.right_distrib_of_nonneg_of_ne_top h0 ht, h]

theorem turn (h x y : EReal) : h * y * x = x * y * h := by
  rw [mul_comm h y, mul_assoc, mul_comm h x, ← mul_assoc, mul_comm y x]

/-- The number one half, as the arrays' words give it. -/
theorem half_eq : Ideal.ofBits .f32 0x3F000000#32 = ((1 / 2 : ℝ) : EReal) := by
  simp [Ideal.ofBits, Ideal.ieee]
  norm_num
  rw [← EReal.coe_mul]
  norm_num

theorem half : 0 ≤ Ideal.ofBits .f32 0x3F000000#32 ∧ Ideal.ofBits .f32 0x3F000000#32 ≠ ⊤ := by
  rw [half_eq]
  exact ⟨EReal.coe_nonneg.mpr (by norm_num), EReal.coe_ne_top _⟩

theorem half_real : Scan.IsReal (Ideal.ofBits .f32 0x3F000000#32) := ⟨_, half_eq⟩

/-- What the precondition says of an array: every element is a real number. -/
theorem real_of {S : Shape} (x : FVec Ideal S .f32) (h : Shape.BroadcastsInDim ⟨0, ![]⟩ S (![] : Fin 0 → Fin S.rank))
    (hx : cmpf .olt (Host.absf x) (broadcastInDim S ![] h (constant ⟨0, ![]⟩ .f32 0x7F800000#32)) = fun _ => 1#1) (i : S.Idx) :
    Scan.IsReal (x i) :=
  Scan.IsReal.of_lt (congrFun hx i)

end Cert.Products

end
-- ==== Proof.FfnDact.lean ====
/-
  The call that starts a feed-forward layer's backward pass: from the gradient that arrives, those of the gate and of the
  other factor.
-/
module

public import proofs.«01_k».proof.Defs
public import proofs.«01_k».proof.Proof.Gen.DactIdeal.Value
public import proofs.«01_k».proof.Proof.Gen.DactRefIdeal.Run
public import Idealize.ShloMosaic.Lib.Pipeline.ValueKit
public import Idealize.ShloMosaic.Lib.Pointwise
public import proofs.«01_k».proof.Proof.Gen.Pre_finite_dact
public import proofs.«01_k».proof.Proof.Products
public import Idealize.ShloMosaic.Lib.Claim
public import Idealize.ShloMosaic.Lib.StableHlo.ReadAt

@[expose] public section

set_option maxRecDepth 16384

noncomputable section

namespace Cert.FfnDact

open Idealize.ShloMosaic Idealize.ShloMosaic.TcCoe Idealize.SL.Sem Cert.DactIdeal Cert.DactIdeal.Gen Cert.Products

/-- The derivative of a number times its logistic function, as the kernel factors it and as the chain rule sums it. -/
theorem gate_factor (g d : EReal) (hd : Scan.IsReal d) :
    d * Ideal.logistic g + g * d * (Ideal.logistic g * (1 - Ideal.logistic g))
      = d * (Ideal.logistic g * (1 + g * (1 - Ideal.logistic g))) := by
  obtain ⟨d, rfl⟩ := hd
  induction g using EReal.rec with
  | bot => simp
  | top =>
    have h : (1 : EReal) - 1 = 0 := by rw [← EReal.coe_one, ← EReal.coe_sub, sub_self, EReal.coe_zero]
    simp [h]
  | coe g =>
    rw [Ideal.logistic_coe, ← EReal.coe_one]
    generalize (1 + Real.exp (-g))⁻¹ = s
    simp only [← EReal.coe_sub, ← EReal.coe_mul, ← EReal.coe_add]
    exact congrArg _ (by ring)

variable (m : (ℓ : Loc nD τ sig) → Buf (Elt Ideal) ℓ)

theorem index (t : Fin cfg0.N) : win0_0.index t = ![t.val / 2, 0] ∧ win0_1.index t = ![t.val % 2, 0]
    ∧ win0_2.index t = ![t.val / 2, t.val % 2] ∧ win0_3.index t = ![t.val / 2, t.val % 2] ∧ win0_4.index t = ![t.val / 2, t.val % 2]
    ∧ win0_5.index t = ![t.val / 2, t.val % 2] :=
  (by decide +kernel : ∀ t : Fin grid0.N, win0_0.index t = ![t.val / 2, 0] ∧ win0_1.index t = ![t.val % 2, 0]
    ∧ win0_2.index t = ![t.val / 2, t.val % 2] ∧ win0_3.index t = ![t.val / 2, t.val % 2] ∧ win0_4.index t = ![t.val / 2, t.val % 2]
    ∧ win0_5.index t = ![t.val / 2, t.val % 2]) t

/-- The gradient of the activations, of the gradient that arrives and the second weight. -/
def back (r : Mat 4096 1024) (w : Mat 2816 1024) (i : Fin 4096) (j : Fin 2816) : EReal :=
  Ideal.ofBits .f32 0x3F000000#32 * ∑ l : Fin 1024, r (ix2 i l) * w (ix2 j l)

/-- The gradient of the gate. -/
def gate (r : Mat 4096 1024) (w : Mat 2816 1024) (g u : Mat 4096 2816) : Mat 4096 2816 :=
  fun i => back r w (i 0) (i 1) * u i * (Ideal.logistic (g i) * (1 + g i * (1 - Ideal.logistic (g i))))

/-- The gradient of the other factor. -/
def up (r : Mat 4096 1024) (w : Mat 2816 1024) (g : Mat 4096 2816) : Mat 4096 2816 :=
  fun i => back r w (i 0) (i 1) * (g i * Ideal.logistic (g i))

theorem final_gate (c : Dev nD) : (dats m 0 c).arrAt 4 cfg0.N = gate (m ((c.tc : Thread nD τ).loc main_arg0))
    (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  frame_out
  obtain ⟨e0, e1, e2, e3, e4, e5⟩ := index t
  unfold gate back
  idx_vars y
  pointwise [k0_pay3, k0_pay2, k0_pay1]
  blk_point [iblk, V, e0, e1, e2, e3, e4, e5]

theorem final_up (c : Dev nD) : (dats m 0 c).arrAt 5 cfg0.N = up (m ((c.tc : Thread nD τ).loc main_arg0))
    (m ((c.tc : Thread nD τ).loc main_arg1)) (m ((c.tc : Thread nD τ).loc main_arg2)) := by
  refine (dats m 0 c).arrAt_eq_of_covers 5 _ (by decide +kernel) fun t hf y => ?_
  blk_simp
  rw [after0_5]
  frame_out
  obtain ⟨e0, e1, e2, e3, e4, e5⟩ := index t
  unfold up back
  idx_vars y
  pointwise [k0_pay4, k0_pay2, k0_pay1]
  blk_point [iblk, V, e0, e1, e2, e3, e4, e5]

/-- Half of a product is the product with half of the first factor. -/
theorem half_sum (r : Mat 4096 1024) (w : Mat 2816 1024) (i : Fin 4096) (j : Fin 2816) :
    ∑ l : Fin 1024, Ideal.ofBits .f32 0x3F000000#32 * r (ix2 i l) * w (ix2 j l) = back r w i j := by
  unfold back
  rw [mul_comm, sum_mul _ _ half.1 half.2]
  exact Finset.sum_congr rfl fun l _ => by rw [mul_assoc, mul_comm]

theorem real_back (r : Mat 4096 1024) (w : Mat 2816 1024) (hr : ∀ i, Scan.IsReal (r i)) (hw : ∀ i, Scan.IsReal (w i)) (i : Fin 4096)
    (j : Fin 2816) : Scan.IsReal (back r w i j) :=
  half_real.mul (Scan.IsReal.sum _ _ fun l => (hr _).mul (hw _))

/-- The kernel's two results are the reference's, the gradient that arrives, the weight and the other factor being finite. -/
theorem algebraic : algebraic_DactIdeal_DactRefIdeal_pre_finite_dact := by
  intro m g m' g' hp hargs
  refine ⟨_, _, (θ_run _ _ _).mono (fun r h c => ⟨(h c).1.trans (final_gate m c), (h c).2.1.trans (final_up m c), (h c).2.2⟩)
      (Value.run_blocks m g),
    (θ_run _ _ _).mono (fun r h c => ⟨(h c).1.trans ?_, (h c).2.1.trans ?_, (h c).2.2⟩)
      (DactRefIdeal.Value.run (F := Ideal) m' g')⟩
  · obtain ⟨e0, e1, e2, e3⟩ := hargs c
    obtain ⟨p0, p1, p3⟩ := hp c
    rw [e0, e1, e2, e3]
    funext y
    idx_vars y
    unfold gate
    pointwise
    rw [half_sum]
    exact gate_factor _ _ ((real_back _ _ (real_of _ _ p0) (real_of _ _ p1) y0 y1).mul (real_of _ _ p3 _))
  · obtain ⟨e0, e1, e2, e3⟩ := hargs c
    rw [e0, e1, e2]
    funext y
    idx_vars y
    unfold up
    pointwise
    rw [half_sum]
    exact mul_comm _ _

end Cert.FfnDact

end
-- ==== Proof.Weights.lean ====
/-
  The weights of an attention: the exponentials of a row's scores, less their maximum, over their sum.
-/
module

public import Idealize.ShloMosaic.Lib.Pointwise
public import Idealize.ShloMosaic.Lib.KernelVsHost
public import proofs.«01_k».proof.Proof.Products
public import Idealize.ShloMosaic.PureOps.Ideal.Laws

@[expose] public section

noncomputable section

namespace Cert.Weights

open Idealize.ShloMosaic Cert.Products

/-- The scale of the scores. -/
def scale : EReal := Ideal.ofBits .f32 0x3D800000#32

/-- A row's maximum. -/
def top (s : Fin 256 → EReal) : EReal := Finset.univ.fold max (Ideal.ofBits .f32 0xFF800000#32) s

/-- The exponential of a score, less the row's maximum. -/
def expo (s : Fin 256 → EReal) (j : Fin 256) : EReal := Ideal.exp (s j - top s)

/-- The weights of a row of scores. -/
def weight (s : Fin 256 → EReal) (j : Fin 256) : EReal := Ideal.div (expo s j) (∑ l : Fin 256, expo s l)

/-- Column `e` of head `h`. -/
def col (h : Fin 4) (e : Fin 256) : Fin 1024 := ⟨256 * h.val + e.val, by omega⟩

/-- The head of a column. -/
def hd (c : Fin 1024) : Fin 4 := ⟨c.val / 256, by omega⟩

theorem hd_col (h : Fin 4) (e : Fin 256) : hd (col h e) = h := Fin.ext (by show (256 * h.val + e.val) / 256 = h.val; omega)

/-- Every column is one of a head's. -/
theorem col_eq (j : Fin 1024) : ∃ h e, j = col h e :=
  ⟨hd j, ⟨j.val % 256, by omega⟩, Fin.ext (Nat.div_add_mod j.val 256).symm⟩

/-- The scores of row `r` in head `h`. -/
def score {n : ℕ} (q : Mat n 1024) (k : Mat 256 1024) (r : Fin n) (h : Fin 4) (j : Fin 256) : EReal :=
  (∑ d : Fin 256, q (ix2 r (col h d)) * k (ix2 j (col h d))) * scale

/-- The gradients of the weights of row `r` in head `h`. -/
def back {n : ℕ} (d : Mat n 1024) (v : Mat 256 1024) (r : Fin n) (h : Fin 4) (j : Fin 256) : EReal :=
  ∑ e : Fin 256, d (ix2 r (col h e)) * v (ix2 j (col h e))

/-- The gradients of a row's scores before the scale, of the scores and of the gradients of the weights. -/
def grade (s g : Fin 256 → EReal) (j : Fin 256) : EReal := weight s j * (g j - ∑ l : Fin 256, g l * weight s l) * scale

/-- The maximum along the rows of a matrix, at a row. -/
@[pointwise high] theorem row_max {n : ℕ} (x : FVec Ideal ⟨2, ![n, 256]⟩ .f32) (hr : (⟨2, ![n, 256]⟩ : Shape).Reduces [1] ⟨1, ![n]⟩) (i : Fin n) :
    reduceFold hr max (Ideal.ofBits .f32 0xFF800000#32) x (ix1 i) = top (fun j => x (ix2 i j)) := by
  refine (Ideal.multiReduction_maximumf_single x 0xFF800000#32 hr (.inl rfl) rfl (ix1 i)).trans ?_
  unfold top
  congr 1
  funext k
  refine congrArg x (funext fun a => ?_)
  match a with
  | ⟨0, _⟩ => rfl
  | ⟨1, _⟩ => rfl

/-- The same of the host's reduction of four heads. -/
theorem host_max (x : FVec Ideal ⟨4, ![1, 4, 4096, 256]⟩ .f32) (hr : (⟨4, ![1, 4, 4096, 256]⟩ : Shape).ReducesTo [3] ⟨3, ![1, 4, 4096]⟩)
    (hu : 0 < (⟨0, ![]⟩ : Shape).numel) (b : Fin 1) (h : Fin 4) (i : Fin 4096) :
    Host.reduce FloatOps.maximumf x (constant ⟨0, ![]⟩ .f32 0xFF800000#32) hr hu (ix3 b h i) = top (fun j => x (ix4 b h i j)) := by
  have h' : (⟨4, ![1, 4, 4096, 256]⟩ : Shape).Reduces [3] ⟨3, ![1, 4, 4096]⟩ := by decide
  refine (congrFun (hostReduce_maximumf_eq_multiReduction x 0xFF800000#32 hr hu h' (.inl rfl) rfl) _).trans
    ((Ideal.multiReduction_maximumf_single x _ h' _ _ _).trans ?_)
  unfold top
  congr 1
  funext k
  refine congrArg x (funext fun a => ?_)
  match a with
  | ⟨0, _⟩ => rfl
  | ⟨1, _⟩ => rfl
  | ⟨2, _⟩ => rfl
  | ⟨3, _⟩ => rfl

/-- Four blocks of columns side by side, at a column of head `h`. -/
theorem side {φ : FTy} {n : ℕ} (hn : n = 1024 ∨ n = 512 ∨ n = 256) (a : Fin 4 → FVec Ideal ⟨2, ![n, 256]⟩ φ) (hc : Shape.Concatenates [⟨2, ![n, 256]⟩, ⟨2, ![n, 256]⟩, ⟨2, ![n, 256]⟩, ⟨2, ![n, 256]⟩] ⟨2, ![n, 1024]⟩ 1)
    (r : Fin n) (h : Fin 4) (e : Fin 256) :
    concatenate ⟨2, ![n, 1024]⟩ 1 [⟨⟨2, ![n, 256]⟩, a 0⟩, ⟨⟨2, ![n, 256]⟩, a 1⟩, ⟨⟨2, ![n, 256]⟩, a 2⟩, ⟨⟨2, ![n, 256]⟩, a 3⟩] hc (ix2 r (col h e))
      = a h (ix2 r e) := by
  obtain rfl | rfl | rfl := hn
  all_goals
    fin_cases h
    all_goals
      pointwise [col]
      try split_ifs
      all_goals first
        | (exfalso; omega)
        | exact congrArg (a _) (congrArg (ix2 r) (Fin.ext (by dsimp only; omega)))

/-- The columns of head `h`. -/
def part {α : Type} {n : ℕ} (x : (⟨2, ![n, 1024]⟩ : Shape).Idx → α) (h : Fin 4) : (⟨2, ![n, 256]⟩ : Shape).Idx → α := fun i => x (ix2 (i 0) (col h (i 1)))

theorem slice_eq {α : Type} {n : ℕ} (x : (⟨2, ![n, 1024]⟩ : Shape).Idx → α) (h : Fin 4) (o : ℕ) (ho : o = 256 * h.val)
    (hs : (⟨2, ![n, 1024]⟩ : Shape).Slices ![0, o] ⟨2, ![n, 256]⟩) : extractStridedSlice ⟨2, ![n, 256]⟩ ![0, o] x hs = part x h := by
  subst ho
  funext i
  refine congrArg x (funext fun a => Fin.ext ?_)
  match a with
  | ⟨0, _⟩ => exact Nat.zero_add _
  | ⟨1, _⟩ => rfl

end Cert.Weights

end
-- ==== Proof.HostWeights.lean ====
/-
  The host's forms of an attention's scores and weights, element by element.
-/
module

public import Idealize.ShloMosaic.Lib.Pointwise
public import proofs.«01_k».proof.Proof.Weights
public import proofs.«01_k».proof.Proof.Gen.AttendRefIdeal

@[expose] public section

noncomputable section

namespace Cert.HostWeights

open Idealize.ShloMosaic Cert.Products Cert.Weights Cert.AttendRefIdeal Cert.AttendRefIdeal.Facts₀

/-- The scores. -/
def hostScore (q : FVec Ideal S4096x1024 .f32) (k : FVec Ideal S256x1024 .f32) : FVec Ideal S1x4x4096x256 .f32 :=
  mulf (Host.dotGeneral dot_S1x4096x4x256_S1x256x4x256_S1x4x4096x256_3_3_1_1_02_02 none (shapeCast S1x4096x4x256 q shapeCasts_S4096x1024_S1x4096x4x256)
    (shapeCast S1x256x4x256 k shapeCasts_S256x1024_S1x256x4x256)) (broadcastInDim S1x4x4096x256 ![] bcast_S_S1x4x4096x256 (constant S_ .f32 0x3D800000#32))

/-- The scores' maximum along each row. -/
def hostTop (s : FVec Ideal S1x4x4096x256 .f32) : FVec Ideal S1x4x4096 .f32 :=
  Host.reduce FloatOps.maximumf s (constant S_ .f32 0xFF800000#32) reducesTo_S1x4x4096x256_S1x4x4096_d3 h_S_

/-- The exponentials of the scores, less a number of each row. -/
def hostShift (s : FVec Ideal S1x4x4096x256 .f32) (M : FVec Ideal S1x4x4096 .f32) : FVec Ideal S1x4x4096x256 .f32 :=
  Host.exp (subf s (broadcastInDim S1x4x4096x256 ![0, 1, 2, 3] bcast_S1x4x4096x1_S1x4x4096x256_0_1_2_3
    (broadcastInDim S1x4x4096x1 ![0, 1, 2] bcast_S1x4x4096_S1x4x4096x1_0_1_2 (maximumf (broadcastInDim S1x4x4096 ![] bcast_S_S1x4x4096
      (constant S_ .f32 0xFF800000#32)) M))))

/-- Sums along the rows, spread over them. -/
def hostSum (x : FVec Ideal S1x4x4096x256 .f32) : FVec Ideal S1x4x4096x256 .f32 :=
  broadcastInDim S1x4x4096x256 ![0, 1, 2, 3] bcast_S1x4x4096x1_S1x4x4096x256_0_1_2_3
    (broadcastInDim S1x4x4096x1 ![0, 1, 2] bcast_S1x4x4096_S1x4x4096x1_0_1_2
      (Host.reduceAdd x (constant S_ .f32 0x00000000#32) reducesTo_S1x4x4096x256_S1x4x4096_d3 h_S_))

/-- Lane `e` of head `h`, of a form whose heads stand before the lanes. -/
theorem cast4 {a : ℕ} (ha : a = 4096 ∨ a = 256) (x : Mat a 1024) (hs : (⟨2, ![a, 1024]⟩ : Shape).ShapeCasts ⟨4, ![1, a, 4, 256]⟩) (b : Fin 1) (r : Fin a) (h : Fin 4) (e : Fin 256) :
    shapeCast ⟨4, ![1, a, 4, 256]⟩ x hs (ix4 b r h e) = x (ix2 r (col h e)) := by
  obtain rfl | rfl := ha
  all_goals
    pointwise [col]
    exact congrArg x (congrArg (ix2 r) (Fin.ext (congrArg (· + e.val) (mul_comm _ _))))

theorem dot_apply (q : FVec Ideal S1x4096x4x256 .f32) (k : FVec Ideal S1x256x4x256 .f32) (h : Fin 4) (r : Fin 4096) (j : Fin 256) :
    mulf (Host.dotGeneral dot_S1x4096x4x256_S1x256x4x256_S1x4x4096x256_3_3_1_1_02_02 none q k) (broadcastInDim S1x4x4096x256 ![] bcast_S_S1x4x4096x256 (constant S_ .f32 0x3D800000#32)) (ix4 0 h r j)
      = (∑ d : Fin 256, q (ix4 0 r h d) * k (ix4 0 j h d)) * scale := by
  unfold scale
  pointwise

theorem score_apply (q : FVec Ideal S4096x1024 .f32) (k : FVec Ideal S256x1024 .f32) (h : Fin 4) (r : Fin 4096) (j : Fin 256) :
    hostScore q k (ix4 0 h r j) = score q k r h j := by
  refine (dot_apply _ _ h r j).trans ?_
  unfold score
  simp only [cast4 (.inl rfl) q, cast4 (.inr rfl) k]

theorem shift_apply (s : FVec Ideal S1x4x4096x256 .f32) (M : FVec Ideal S1x4x4096 .f32) (h : Fin 4) (r : Fin 4096) (j : Fin 256) :
    hostShift s M (ix4 0 h r j) = Ideal.exp (s (ix4 0 h r j) - max (Ideal.ofBits .f32 0xFF800000#32) (M (ix3 0 h r))) := by
  unfold hostShift
  pointwise

theorem max_top (s : Fin 256 → EReal) : max (Ideal.ofBits .f32 0xFF800000#32) (top s) = top s :=
  max_eq_right ((Finset.le_fold_max _).mpr (.inl le_rfl))

theorem expo_apply (s : FVec Ideal S1x4x4096x256 .f32) (h : Fin 4) (r : Fin 4096) (j : Fin 256) :
    hostShift s (hostTop s) (ix4 0 h r j) = expo (fun l => s (ix4 0 h r l)) j := by
  rw [shift_apply, show hostTop s (ix3 0 h r) = top (fun l => s (ix4 0 h r l)) from host_max s _ _ 0 h r, max_top]
  rfl

theorem sum_apply (x : FVec Ideal S1x4x4096x256 .f32) (h : Fin 4) (r : Fin 4096) (j : Fin 256) :
    hostSum x (ix4 0 h r j) = ∑ l : Fin 256, x (ix4 0 h r l) := by
  unfold hostSum
  pointwise

/-- The weights. -/
def hostWeight (q : FVec Ideal S4096x1024 .f32) (k : FVec Ideal S256x1024 .f32) : FVec Ideal S1x4x4096x256 .f32 :=
  Host.divf (hostShift (hostScore q k) (hostTop (hostScore q k))) (hostSum (hostShift (hostScore q k) (hostTop (hostScore q k))))

theorem host_expo (q : FVec Ideal S4096x1024 .f32) (k : FVec Ideal S256x1024 .f32) (h : Fin 4) (r : Fin 4096) (j : Fin 256) :
    hostShift (hostScore q k) (hostTop (hostScore q k)) (ix4 0 h r j) = expo (score q k r h) j := by
  rw [expo_apply]
  exact congrArg (expo · j) (funext fun l => score_apply q k h r l)

theorem weight_apply (q : FVec Ideal S4096x1024 .f32) (k : FVec Ideal S256x1024 .f32) (h : Fin 4) (r : Fin 4096) (j : Fin 256) :
    hostWeight q k (ix4 0 h r j) = weight (score q k r h) j := by
  refine Eq.trans (b := Ideal.div _ _) rfl ?_
  unfold weight
  rw [host_expo, sum_apply]
  exact congrArg _ (Finset.sum_congr rfl fun l _ => host_expo q k h r l)

/-- The weighted sums of the values. -/
def hostOut (v : FVec Ideal S256x1024 .f32) (p : FVec Ideal S1x4x4096x256 .f32) : FVec Ideal S4096x1024 .f32 :=
  shapeCast S4096x1024 (transpose S1x4096x4x256 [0, 3, 1, 2] (Host.dotGeneral dot_S1x256x4x256_S1x4x4096x256_S1x4x256x4096_1_3_3_2_02_01 none
    (shapeCast S1x256x4x256 v shapeCasts_S256x1024_S1x256x4x256) p) transposes_S1x4x256x4096_S1x4096x4x256_0_3_1_2) shapeCasts_S1x4096x4x256_S4096x1024

theorem values_apply (v : FVec Ideal S1x256x4x256 .f32) (p : FVec Ideal S1x4x4096x256 .f32) (r : Fin 4096) (h : Fin 4) (e : Fin 256) :
    transpose S1x4096x4x256 [0, 3, 1, 2] (Host.dotGeneral dot_S1x256x4x256_S1x4x4096x256_S1x4x256x4096_1_3_3_2_02_01 none v p)
      transposes_S1x4x256x4096_S1x4096x4x256_0_3_1_2 (ix4 0 r h e) = ∑ j : Fin 256, v (ix4 0 j h e) * p (ix4 0 h r j) := by
  pointwise

/-- A form whose heads stand before the lanes, at column `e` of head `h`. -/
theorem cast2 {a : ℕ} (ha : a = 4096 ∨ a = 256) (x : (⟨4, ![1, a, 4, 256]⟩ : Shape).Idx → EReal) (hs : (⟨4, ![1, a, 4, 256]⟩ : Shape).ShapeCasts ⟨2, ![a, 1024]⟩)
    (r : Fin a) (h : Fin 4) (e : Fin 256) : shapeCast ⟨2, ![a, 1024]⟩ x hs (ix2 r (col h e)) = x (ix4 0 r h e) := by
  obtain rfl | rfl := ha
  all_goals
    pointwise [col]

theorem out_apply (v : FVec Ideal S256x1024 .f32) (p : FVec Ideal S1x4x4096x256 .f32) (r : Fin 4096) (h : Fin 4) (e : Fin 256) :
    hostOut v p (ix2 r (col h e)) = ∑ j : Fin 256, v (ix2 j (col h e)) * p (ix4 0 h r j) := by
  refine (cast2 (.inl rfl) _ _ r h e).trans ((values_apply _ p r h e).trans ?_)
  simp only [cast4 (.inr rfl) v]

end Cert.HostWeights

end
-- ==== Proof.AttendFwd.lean ====
/-
  The cross-attention over the memory: of each head, the weighted sums of the values, the weights being the exponentials of
  the scores over their sum.
-/
module

public import proofs.«01_k».proof.Defs
public import proofs.«01_k».proof.Proof.Gen.AttendIdeal.Value
public import proofs.«01_k».proof.Proof.Gen.AttendRefIdeal.Run
public import Idealize.ShloMosaic.Lib.Pipeline.ValueKit
public import Idealize.ShloMosaic.Lib.Pointwise
public import proofs.«01_k».proof.Proof.HostWeights
public import Idealize.ShloMosaic.Lib.Claim
public import Idealize.ShloMosaic.Lib.StableHlo.ReadAt

@[expose] public section

set_option maxRecDepth 16384

noncomputable section

namespace Cert.AttendFwd

open Idealize.ShloMosaic Idealize.ShloMosaic.TcCoe Idealize.SL.Sem Cert.AttendIdeal Cert.AttendIdeal.Gen Cert.Products Cert.Weights

variable (m : (ℓ : Loc nD τ sig) → Buf (Elt Ideal) ℓ)

/-- What the kernel forms of one head's queries, keys and values. -/
def head (q : FVec Ideal S1024x256 .f32) (k v : FVec Ideal S256x256 .f32) : FVec Ideal S1024x256 .f32 :=
  let s := mulf (matmul dot_S1024x256_S256x256_S1024x256_1_1_0_0_n_n none (truncf .bf16 q bitsLt_bf16_f32) (truncf .bf16 k bitsLt_bf16_f32)
    (constant S1024x256 .f32 0x00000000#32)) (broadcast S1024x256 (Scalar.ofBits .f32 0x3D800000#32))
  let e := exp (subf s (broadcastTo S1024x256 (shapeCast S1024x1
    (multiReduction .maximumf [1] S1024 s 0xFF800000#32 reduces_S1024x256_S1024 (.inl rfl) rfl) shapeCasts_S1024_S1024x1) broadcasts_S1024x1_S1024x256))
  let p := divf e (broadcastTo S1024x256 (shapeCast S1024x1
    (multiReduction .add [1] S1024 e 0x00000000#32 reduces_S1024x256_S1024 (.inl rfl) rfl) shapeCasts_S1024_S1024x1) broadcasts_S1024x1_S1024x256)
  matmul dot_S1024x256_S256x256_S1024x256_1_0_0_1_n_n none (truncf .bf16 p bitsLt_bf16_f32) (truncf .bf16 v bitsLt_bf16_f32)
    (constant S1024x256 .f32 0x00000000#32)

theorem head_apply (q : FVec Ideal S1024x256 .f32) (k v : FVec Ideal S256x256 .f32) (r : Fin 1024) (e : Fin 256) :
    head q k v (ix2 r e) = ∑ j : Fin 256, weight (fun l => (∑ d : Fin 256, q (ix2 r d) * k (ix2 l d)) * scale) j * v (ix2 j e) := by
  unfold head weight expo scale
  pointwise [row_max]

/-- A block of the result, from the blocks that a grid step reads. -/
theorem block (q : Vec Ideal S1024x1024 .f32) (k v : Vec Ideal S256x1024 .f32) (r : Fin 1024) (h : Fin 4) (e : Fin 256) :
    k0_pay1 (k0_pay2 q) (k0_pay3 q) (k0_pay4 k) (k0_pay5 k) (k0_pay6 v) (k0_pay7 v) (k0_pay8 v) (k0_pay9 q k v) (k0_pay10 q k)
      (k0_pay11 q k) (ix2 r (col h e)) = ∑ j : Fin 256, weight (score q k r h) j * v (ix2 j (col h e)) := by
  have hp : k0_pay1 (k0_pay2 q) (k0_pay3 q) (k0_pay4 k) (k0_pay5 k) (k0_pay6 v) (k0_pay7 v) (k0_pay8 v) (k0_pay9 q k v) (k0_pay10 q k)
      (k0_pay11 q k) = truncf .bf16 (concatenate S1024x1024 1
        [⟨S1024x256, head (extractStridedSlice S1024x256 ![0, 0] q slices_S1024x1024_o0_0_S1024x256)
          (extractStridedSlice S256x256 ![0, 0] k slices_S256x1024_o0_0_S256x256) (extractStridedSlice S256x256 ![0, 0] v slices_S256x1024_o0_0_S256x256)⟩,
         ⟨S1024x256, head (extractStridedSlice S1024x256 ![0, 256] q slices_S1024x1024_o0_256_S1024x256)
          (extractStridedSlice S256x256 ![0, 256] k slices_S256x1024_o0_256_S256x256) (extractStridedSlice S256x256 ![0, 256] v slices_S256x1024_o0_256_S256x256)⟩,
         ⟨S1024x256, head (extractStridedSlice S1024x256 ![0, 512] q slices_S1024x1024_o0_512_S1024x256)
          (extractStridedSlice S256x256 ![0, 512] k slices_S256x1024_o0_512_S256x256) (extractStridedSlice S256x256 ![0, 512] v slices_S256x1024_o0_512_S256x256)⟩,
         ⟨S1024x256, head (extractStridedSlice S1024x256 ![0, 768] q slices_S1024x1024_o0_768_S1024x256)
          (extractStridedSlice S256x256 ![0, 768] k slices_S256x1024_o0_768_S256x256) (extractStridedSlice S256x256 ![0, 768] v slices_S256x1024_o0_768_S256x256)⟩]
        concatenates_S1024x256_S1024x256_S1024x256_S1024x256_S1024x1024_d1) bitsLt_bf16_f32 := rfl
  rw [hp]
  clear hp
  rw [slice_eq q 0 0 rfl, slice_eq q 1 256 rfl, slice_eq q 2 512 rfl, slice_eq q 3 768 rfl, slice_eq k 0 0 rfl, slice_eq k 1 256 rfl,
    slice_eq k 2 512 rfl, slice_eq k 3 768 rfl, slice_eq v 0 0 rfl, slice_eq v 1 256 rfl, slice_eq v 2 512 rfl, slice_eq v 3 768 rfl]
  refine (side (.inl rfl) (fun h => head (part q h) (part k h) (part v h)) concatenates_S1024x256_S1024x256_S1024x256_S1024x256_S1024x1024_d1 r h e).trans ((head_apply _ _ _ r e).trans ?_)
  rfl

theorem index (t : Fin cfg0.N) : win0_0.index t = ![t.val, 0] ∧ win0_1.index t = ![0, 0] ∧ win0_2.index t = ![0, 0] ∧ win0_3.index t = ![t.val, 0] :=
  (by decide +kernel : ∀ t : Fin grid0.N, win0_0.index t = ![t.val, 0] ∧ win0_1.index t = ![0, 0] ∧ win0_2.index t = ![0, 0] ∧ win0_3.index t = ![t.val, 0]) t

/-- What the result ends holding. -/
def value (q : Mat 4096 1024) (k v : Mat 256 1024) : Mat 4096 1024 := fun i =>
  ∑ j : Fin 256, weight (score q k (i 0) (hd (i 1))) j * v (ix2 j (i 1))

theorem value_apply (q : Mat 4096 1024) (k v : Mat 256 1024) (r : Fin 4096) (h : Fin 4) (e : Fin 256) :
    value q k v (ix2 r (col h e)) = ∑ j : Fin 256, weight (score q k r h) j * v (ix2 j (col h e)) := by
  show ∑ j : Fin 256, weight (score q k r (hd (col h e))) j * v (ix2 j (col h e)) = _
  rw [hd_col]

theorem final (c : Dev nD) : (dats m 0 c).arrAt 3 cfg0.N = value (m ((c.tc : Thread nD τ).loc main_arg0)) (m ((c.tc : Thread nD τ).loc main_arg1))
    (m ((c.tc : Thread nD τ).loc main_arg2)) := by
  refine (dats m 0 c).arrAt_eq_of_covers 3 _ (by decide +kernel) fun t hf y => ?_
  blk_simp
  rw [after0_3]
  frame_out
  obtain ⟨e0, e1, e2, e3⟩ := index t
  idx_vars y
  obtain ⟨h, e, rfl⟩ : ∃ h e, y1 = col h e := col_eq y1
  rw [block]
  unfold value score
  blk_point [iblk, V, e0, e1, e2, e3, col, hd]

/-- The kernel's result is the reference's. -/
theorem algebraic : algebraic_AttendIdeal_AttendRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (AttendRefIdeal.Value.run (F := Ideal) m' g')⟩
  obtain ⟨e0, e1, e2⟩ := hargs c
  simp only [e0, e1, e2]
  funext y
  idx_vars y
  obtain ⟨h, e, rfl⟩ : ∃ h e, y1 = col h e := col_eq y1
  rw [value_apply]
  refine (HostWeights.out_apply (m ((c.tc : Thread nD τ).loc main_arg2)) (HostWeights.hostWeight (m ((c.tc : Thread nD τ).loc main_arg0))
    (m ((c.tc : Thread nD τ).loc main_arg1))) y0 h e).trans (Finset.sum_congr rfl fun j _ => ?_)
  rw [HostWeights.weight_apply, mul_comm]

end Cert.AttendFwd

end
-- ==== Proof.AttendBwd.lean ====
/-
  The backward kernel of the cross-attention: the gradients of the queries, block by block, and those of the keys and of
  the values, each summed over the blocks.
-/
module

public import proofs.«01_k».proof.Proof.Gen.AttendBackIdeal.Value
public import Idealize.ShloMosaic.Lib.Pipeline.ValueKit
public import Idealize.ShloMosaic.Lib.Pointwise
public import proofs.«01_k».proof.Proof.Weights
public import Idealize.ShloMosaic.Lib.Pipeline.ReadBack

@[expose] public section

set_option maxRecDepth 16384

noncomputable section

namespace Cert.AttendBwd

open Idealize.ShloMosaic Idealize.ShloMosaic.TcCoe Idealize.SL.Sem Cert.AttendBackIdeal Cert.AttendBackIdeal.Gen Cert.Products Cert.Weights

variable (m : (ℓ : Loc nD τ sig) → Buf (Elt Ideal) ℓ)

/-! ## One head -/

section head
variable (q d : FVec Ideal S512x256 .f32) (k v : FVec Ideal S256x256 .f32)

/-- The scores of one head's row. -/
def scores (r : Fin 512) (l : Fin 256) : EReal := (∑ e : Fin 256, q (ix2 r e) * k (ix2 l e)) * scale

/-- The gradients of one head's weights. -/
def backs (r : Fin 512) (l : Fin 256) : EReal := ∑ e : Fin 256, d (ix2 r e) * v (ix2 l e)

theorem weight_apply (r : Fin 512) (j : Fin 256) : k0_pay23 q k (ix2 r j) = weight (scores q k r) j := by
  unfold k0_pay23 weight expo scores scale
  pointwise

theorem slope_apply (r : Fin 512) (j : Fin 256) : k0_pay24 q d k v (ix2 r j) = grade (scores q k r) (backs d v r) j := by
  unfold grade backs scale
  pointwise [k0_pay24, weight_apply]

theorem dq_apply (r : Fin 512) (e : Fin 256) :
    k0_pay25 q d k v (ix2 r e) = ∑ j : Fin 256, grade (scores q k r) (backs d v r) j * k (ix2 j e) := by
  pointwise [k0_pay25, slope_apply]

theorem dk_apply (j e : Fin 256) :
    k0_pay26 q d k v (ix2 j e) = ∑ r : Fin 512, grade (scores q k r) (backs d v r) j * q (ix2 r e) := by
  pointwise [k0_pay26, slope_apply]

theorem dv_apply (j e : Fin 256) : k0_pay27 q d k (ix2 j e) = ∑ r : Fin 512, weight (scores q k r) j * d (ix2 r e) := by
  pointwise [k0_pay27, weight_apply]

end head

/-! ## A block -/

section block
variable (q d : Vec Ideal S512x1024 .f32) (k v : Vec Ideal S256x1024 .f32)

/-- What a grid step writes of the gradients of the queries. -/
def stepQ : FVec Ideal S512x1024 .bf16 :=
  k0_pay40 (k0_pay12 k) (k0_pay15 v) (k0_pay20 (k0_pay9 k) (k0_pay17 q d k v) k0_pay18)
    (k0_pay25 (k0_pay2 q) (k0_pay6 d) (k0_pay10 k) (k0_pay13 v))
    (k0_pay32 (k0_pay7 d) (k0_pay11 k) (k0_pay14 v) (k0_pay28 (k0_pay3 q)) (k0_pay29 (k0_pay11 k)) (constant S512x256 .f32 0x00000000#32))
    (k0_pay35 (k0_pay4 q) (k0_pay12 k)) (k0_pay36 (k0_pay8 d))

/-- What a grid step adds to the gradients of the keys. -/
def stepK : FVec Ideal S256x1024 .f32 :=
  k0_pay38 (k0_pay4 q) (k0_pay15 v) (k0_pay21 (k0_pay1 q) (k0_pay17 q d k v) k0_pay18)
    (k0_pay26 (k0_pay2 q) (k0_pay6 d) (k0_pay10 k) (k0_pay13 v))
    (k0_pay33 (k0_pay3 q) (k0_pay7 d) (k0_pay14 v) (k0_pay28 (k0_pay3 q)) (k0_pay29 (k0_pay11 k)) (constant S512x256 .f32 0x00000000#32))
    (k0_pay35 (k0_pay4 q) (k0_pay12 k)) (k0_pay36 (k0_pay8 d))

/-- What a grid step adds to the gradients of the values. -/
def stepV : FVec Ideal S256x1024 .f32 :=
  k0_pay39 (k0_pay8 d) (k0_pay22 (k0_pay5 d) (k0_pay16 q k)) (k0_pay27 (k0_pay2 q) (k0_pay6 d) (k0_pay10 k))
    (k0_pay34 (k0_pay7 d) (k0_pay28 (k0_pay3 q)) (k0_pay29 (k0_pay11 k)) (constant S512x256 .f32 0x00000000#32))
    (k0_pay35 (k0_pay4 q) (k0_pay12 k))

theorem cut (x : Vec Ideal S512x1024 .f32) : k0_pay1 x = part x 0 ∧ k0_pay2 x = part x 1 ∧ k0_pay3 x = part x 2 ∧ k0_pay4 x = part x 3 :=
  ⟨slice_eq x 0 0 rfl slices_S512x1024_o0_0_S512x256, slice_eq x 1 256 rfl slices_S512x1024_o0_256_S512x256, slice_eq x 2 512 rfl slices_S512x1024_o0_512_S512x256, slice_eq x 3 768 rfl slices_S512x1024_o0_768_S512x256⟩

theorem cutW (x : Vec Ideal S256x1024 .f32) : k0_pay9 x = part x 0 ∧ k0_pay10 x = part x 1 ∧ k0_pay11 x = part x 2 ∧ k0_pay12 x = part x 3 :=
  ⟨slice_eq x 0 0 rfl slices_S256x1024_o0_0_S256x256, slice_eq x 1 256 rfl slices_S256x1024_o0_256_S256x256, slice_eq x 2 512 rfl slices_S256x1024_o0_512_S256x256, slice_eq x 3 768 rfl slices_S256x1024_o0_768_S256x256⟩

theorem stepQ_eq : stepQ q d k v = truncf .bf16 (concatenate S512x1024 1
    [⟨S512x256, k0_pay25 (k0_pay1 q) (k0_pay1 d) (k0_pay9 k) (k0_pay9 v)⟩, ⟨S512x256, k0_pay25 (k0_pay2 q) (k0_pay2 d) (k0_pay10 k) (k0_pay10 v)⟩,
     ⟨S512x256, k0_pay25 (k0_pay3 q) (k0_pay3 d) (k0_pay11 k) (k0_pay11 v)⟩, ⟨S512x256, k0_pay25 (k0_pay4 q) (k0_pay4 d) (k0_pay12 k) (k0_pay12 v)⟩]
    concatenates_S512x256_S512x256_S512x256_S512x256_S512x1024_d1) bitsLt_bf16_f32 := rfl

theorem stepK_eq : stepK q d k v = concatenate S256x1024 1
    [⟨S256x256, k0_pay26 (k0_pay1 q) (k0_pay1 d) (k0_pay9 k) (k0_pay9 v)⟩, ⟨S256x256, k0_pay26 (k0_pay2 q) (k0_pay2 d) (k0_pay10 k) (k0_pay10 v)⟩,
     ⟨S256x256, k0_pay26 (k0_pay3 q) (k0_pay3 d) (k0_pay11 k) (k0_pay11 v)⟩, ⟨S256x256, k0_pay26 (k0_pay4 q) (k0_pay4 d) (k0_pay12 k) (k0_pay12 v)⟩]
    concatenates_S256x256_S256x256_S256x256_S256x256_S256x1024_d1 := rfl

theorem stepV_eq : stepV q d k = concatenate S256x1024 1
    [⟨S256x256, k0_pay27 (k0_pay1 q) (k0_pay1 d) (k0_pay9 k)⟩, ⟨S256x256, k0_pay27 (k0_pay2 q) (k0_pay2 d) (k0_pay10 k)⟩,
     ⟨S256x256, k0_pay27 (k0_pay3 q) (k0_pay3 d) (k0_pay11 k)⟩, ⟨S256x256, k0_pay27 (k0_pay4 q) (k0_pay4 d) (k0_pay12 k)⟩]
    concatenates_S256x256_S256x256_S256x256_S256x256_S256x1024_d1 := rfl

theorem stepQ_apply (r : Fin 512) (h : Fin 4) (e : Fin 256) :
    stepQ q d k v (ix2 r (col h e)) = ∑ j : Fin 256, grade (score q k r h) (back d v r h) j * k (ix2 j (col h e)) := by
  obtain ⟨q0, q1, q2, q3⟩ := cut q
  obtain ⟨d0, d1, d2, d3⟩ := cut d
  obtain ⟨k0, k1, k2, k3⟩ := cutW k
  obtain ⟨v0, v1, v2, v3⟩ := cutW v
  rw [stepQ_eq, q0, q1, q2, q3, d0, d1, d2, d3, k0, k1, k2, k3, v0, v1, v2, v3]
  exact (side (.inr (.inl rfl)) (fun h => k0_pay25 (part q h) (part d h) (part k h) (part v h)) concatenates_S512x256_S512x256_S512x256_S512x256_S512x1024_d1 r h e).trans
    (dq_apply _ _ _ _ r e)

theorem stepK_apply (j : Fin 256) (h : Fin 4) (e : Fin 256) :
    stepK q d k v (ix2 j (col h e)) = ∑ r : Fin 512, grade (score q k r h) (back d v r h) j * q (ix2 r (col h e)) := by
  obtain ⟨q0, q1, q2, q3⟩ := cut q
  obtain ⟨d0, d1, d2, d3⟩ := cut d
  obtain ⟨k0, k1, k2, k3⟩ := cutW k
  obtain ⟨v0, v1, v2, v3⟩ := cutW v
  rw [stepK_eq, q0, q1, q2, q3, d0, d1, d2, d3, k0, k1, k2, k3, v0, v1, v2, v3]
  exact (side (.inr (.inr rfl)) (fun h => k0_pay26 (part q h) (part d h) (part k h) (part v h)) concatenates_S256x256_S256x256_S256x256_S256x256_S256x1024_d1 j h e).trans
    (dk_apply _ _ _ _ j e)

theorem stepV_apply (j : Fin 256) (h : Fin 4) (e : Fin 256) :
    stepV q d k (ix2 j (col h e)) = ∑ r : Fin 512, weight (score q k r h) j * d (ix2 r (col h e)) := by
  obtain ⟨q0, q1, q2, q3⟩ := cut q
  obtain ⟨d0, d1, d2, d3⟩ := cut d
  obtain ⟨k0, k1, k2, k3⟩ := cutW k
  rw [stepV_eq, q0, q1, q2, q3, d0, d1, d2, d3, k0, k1, k2, k3]
  exact (side (.inr (.inr rfl)) (fun h => k0_pay27 (part q h) (part d h) (part k h)) concatenates_S256x256_S256x256_S256x256_S256x256_S256x1024_d1 j h e).trans
    (dv_apply _ _ _ j e)

end block

/-! ## The results -/

theorem index (t : Fin cfg0.N) : win0_0.index t = ![t.val, 0] ∧ win0_1.index t = ![t.val, 0] ∧ win0_2.index t = ![0, 0] ∧ win0_3.index t = ![0, 0] ∧ win0_4.index t = ![t.val, 0] ∧ win0_5.index t = ![0, 0] ∧ win0_6.index t = ![0, 0] :=
  (by decide +kernel : ∀ t : Fin grid0.N, win0_0.index t = ![t.val, 0] ∧ win0_1.index t = ![t.val, 0] ∧ win0_2.index t = ![0, 0] ∧ win0_3.index t = ![0, 0] ∧ win0_4.index t = ![t.val, 0] ∧ win0_5.index t = ![0, 0] ∧ win0_6.index t = ![0, 0]) t

theorem outQ (c : Dev nD) (t : Fin cfg0.N) (y : S512x1024.Idx) :
    (outsAt0 m c t.val t.isLt).1 y = stepQ (iblk m c 0 t) (iblk m c 1 t) (iblk m c 2 t) (iblk m c 3 t) y := by
  by_cases h : t.val % 8 = 0
  · have hN : t.val < 8 := t.isLt
    rw [outsAt0_A m c t h (by omega) (by omega) (by omega)]
    frame_out
    rfl
  · rw [outsAt0_B m c t h (by omega) (by omega) (by omega)]
    frame_out
    rfl

theorem startK (c : Dev nD) (t : Fin cfg0.N) (h : t.val % 8 = 0) (y : S256x1024.Idx) :
    (outsAt0 m c t.val t.isLt).2.1 y = stepK (iblk m c 0 t) (iblk m c 1 t) (iblk m c 2 t) (iblk m c 3 t) y := by
  have hN : t.val < 8 := t.isLt
  rw [outsAt0_A m c t h (by omega) (by omega) (by omega)]
  frame_out
  rfl

theorem nextK (c : Dev nD) (t : Fin cfg0.N) (h : ¬t.val % 8 = 0) (y : S256x1024.Idx) :
    (outsAt0 m c t.val t.isLt).2.1 y = (outsAt0 m c (t.val - 1) (Nat.lt_of_le_of_lt (Nat.sub_le _ _) t.isLt)).2.1 y
      + stepK (iblk m c 0 t) (iblk m c 1 t) (iblk m c 2 t) (iblk m c 3 t) y := by
  rw [outsAt0_B m c t h (by omega) (by omega) (by omega)]
  frame_out
  pointwise [k0_pay41]
  rfl

theorem startV (c : Dev nD) (t : Fin cfg0.N) (h : t.val % 8 = 0) (y : S256x1024.Idx) :
    (outsAt0 m c t.val t.isLt).2.2 y = stepV (iblk m c 0 t) (iblk m c 1 t) (iblk m c 2 t) y := by
  have hN : t.val < 8 := t.isLt
  rw [outsAt0_A m c t h (by omega) (by omega) (by omega)]
  frame_out
  rfl

theorem nextV (c : Dev nD) (t : Fin cfg0.N) (h : ¬t.val % 8 = 0) (y : S256x1024.Idx) :
    (outsAt0 m c t.val t.isLt).2.2 y = (outsAt0 m c (t.val - 1) (Nat.lt_of_le_of_lt (Nat.sub_le _ _) t.isLt)).2.2 y
      + stepV (iblk m c 0 t) (iblk m c 1 t) (iblk m c 2 t) y := by
  rw [outsAt0_B m c t h (by omega) (by omega) (by omega)]
  frame_out
  pointwise [k0_pay42]
  rfl

/-- What the three results end holding. -/
def valueQ (q d : Mat 4096 1024) (k v : Mat 256 1024) : Mat 4096 1024 := fun i =>
  ∑ j : Fin 256, grade (score q k (i 0) (hd (i 1))) (back d v (i 0) (hd (i 1))) j * k (ix2 j (i 1))

def valueK (q d : Mat 4096 1024) (k v : Mat 256 1024) : Mat 256 1024 := fun i =>
  ∑ r : Fin 4096, grade (score q k r (hd (i 1))) (back d v r (hd (i 1))) (i 0) * q (ix2 r (i 1))

def valueV (q d : Mat 4096 1024) (k : Mat 256 1024) : Mat 256 1024 := fun i =>
  ∑ r : Fin 4096, weight (score q k r (hd (i 1))) (i 0) * d (ix2 r (i 1))

theorem valueQ_apply (q d : Mat 4096 1024) (k v : Mat 256 1024) (r : Fin 4096) (h : Fin 4) (e : Fin 256) :
    valueQ q d k v (ix2 r (col h e)) = ∑ j : Fin 256, grade (score q k r h) (back d v r h) j * k (ix2 j (col h e)) := by
  show ∑ j : Fin 256, grade (score q k r (hd (col h e))) (back d v r (hd (col h e))) j * k (ix2 j (col h e)) = _
  rw [hd_col]

theorem valueK_apply (q d : Mat 4096 1024) (k v : Mat 256 1024) (j : Fin 256) (h : Fin 4) (e : Fin 256) :
    valueK q d k v (ix2 j (col h e)) = ∑ r : Fin 4096, grade (score q k r h) (back d v r h) j * q (ix2 r (col h e)) := by
  show ∑ r : Fin 4096, grade (score q k r (hd (col h e))) (back d v r (hd (col h e))) j * q (ix2 r (col h e)) = _
  rw [hd_col]

theorem valueV_apply (q d : Mat 4096 1024) (k : Mat 256 1024) (j : Fin 256) (h : Fin 4) (e : Fin 256) :
    valueV q d k (ix2 j (col h e)) = ∑ r : Fin 4096, weight (score q k r h) j * d (ix2 r (col h e)) := by
  show ∑ r : Fin 4096, weight (score q k r (hd (col h e))) j * d (ix2 r (col h e)) = _
  rw [hd_col]

theorem finalQ (c : Dev nD) : (dats m 0 c).arrAt 4 cfg0.N = valueQ (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 4 _ (by decide +kernel) fun t hf y => ?_
  blk_simp
  rw [after0_4, outQ]
  obtain ⟨e0, e1, e2, e3, e4, e5, e6⟩ := index t
  idx_vars y
  obtain ⟨h, e, rfl⟩ : ∃ h e, y1 = col h e := col_eq y1
  rw [stepQ_apply]
  unfold valueQ score back
  blk_point [iblk, V, e0, e1, e2, e3, e4, col, hd]

theorem finalK (c : Dev nD) : (dats m 0 c).arrAt 5 cfg0.N = valueK (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 5 _ (by decide +kernel) fun t hf y => ?_
  have ht := (flush0_5 t).mp hf
  blk_simp
  rw [after0_5, nextK m c t (by omega), run_sum 8 (fun n h => (outsAt0 m c n h).2.1)
    (fun t y => stepK (iblk m c 0 t) (iblk m c 1 t) (iblk m c 2 t) (iblk m c 3 t) y) (by decide) (startK m c)
    (fun u hu _ i => nextK m c u hu i) t ht y]
  obtain ⟨e0, e1, e2, e3, e4, e5, e6⟩ := index t
  idx_vars y
  obtain ⟨h, e, rfl⟩ : ∃ h e, y1 = col h e := col_eq y1
  simp only [stepK_apply]
  unfold valueK score back
  refine Fin.sum_mul_add_congr fun s l hl => ?_
  obtain ⟨f0, f1, f2, f3, f4, f5, f6⟩ := index ⟨8 * (t.val / 8) + s.val, Pipeline.run_point_lt_of_flush (J := 8) t ht s⟩
  blk_point [iblk, V, f0, f1, f2, f3, e5, col, hd]

theorem finalV (c : Dev nD) : (dats m 0 c).arrAt 6 cfg0.N = valueV (m ((c.tc : Thread nD τ).loc main_arg0)) (m ((c.tc : Thread nD τ).loc main_arg1))
    (m ((c.tc : Thread nD τ).loc main_arg2)) := by
  refine (dats m 0 c).arrAt_eq_of_covers 6 _ (by decide +kernel) fun t hf y => ?_
  have ht := (flush0_6 t).mp hf
  blk_simp
  rw [after0_6, nextV m c t (by omega), run_sum 8 (fun n h => (outsAt0 m c n h).2.2)
    (fun t y => stepV (iblk m c 0 t) (iblk m c 1 t) (iblk m c 2 t) y) (by decide) (startV m c)
    (fun u hu _ i => nextV m c u hu i) t ht y]
  obtain ⟨e0, e1, e2, e3, e4, e5, e6⟩ := index t
  idx_vars y
  obtain ⟨h, e, rfl⟩ : ∃ h e, y1 = col h e := col_eq y1
  simp only [stepV_apply]
  unfold valueV score
  refine Fin.sum_mul_add_congr fun s l hl => ?_
  obtain ⟨f0, f1, f2, f3, f4, f5, f6⟩ := index ⟨8 * (t.val / 8) + s.val, Pipeline.run_point_lt_of_flush (J := 8) t ht s⟩
  blk_point [iblk, V, f0, f1, f2, e6, col, hd]

end Cert.AttendBwd

end
-- ==== Proof.Grade.lean ====
/-
  The gradient through a row of weights, with the sum of the exponentials divided out at the end and at the start.
-/
module

public import proofs.«01_k».proof.Proof.Weights
public import proofs.«01_k».proof.Proof.Chunks

@[expose] public section

noncomputable section

namespace Cert.Weights

open Idealize.ShloMosaic Cert.Products Cert.Scan

theorem bot_bits : Ideal.ofBits .f32 0xFF800000#32 = ⊥ := by
  simp [Ideal.ofBits, Ideal.ieee]

theorem one_bits : Ideal.ofBits .f32 0x3F800000#32 = 1 := by
  simp [Ideal.ofBits, Ideal.ieee]
  norm_num
  rw [← EReal.coe_mul]
  norm_num

/-- The scale is a real number. -/
theorem scale_real : IsReal scale := by
  refine ⟨1 / 16, ?_⟩
  unfold scale
  simp [Ideal.ofBits, Ideal.ieee]
  norm_num
  rw [← EReal.coe_mul]
  norm_num

/-- The maximum of real scores is real. -/
theorem top_real (s : Fin 256 → EReal) (hs : ∀ j, IsReal (s j)) : IsReal (top s) := by
  have h1 : top s ≠ ⊤ := ne_of_lt (Finset.fold_max_lt _ |>.mpr ⟨by rw [bot_bits]; exact bot_lt_top, fun x _ => by
    obtain ⟨a, ha⟩ := hs x
    rw [ha]
    exact EReal.coe_lt_top a⟩)
  have h2 : top s ≠ ⊥ := by
    obtain ⟨a, ha⟩ := hs 0
    have : s 0 ≤ top s := Finset.le_fold_max _ |>.mpr (.inr ⟨0, Finset.mem_univ _, le_rfl⟩)
    intro h
    rw [h, ha] at this
    exact EReal.coe_ne_bot a (le_bot_iff.mp this)
  exact ⟨(top s).toReal, (EReal.coe_toReal h1 h2).symm⟩

/-- The exponentials of real scores are positive real numbers. -/
theorem expo_pos (s : Fin 256 → EReal) (hs : ∀ j, IsReal (s j)) (j : Fin 256) : ∃ e : ℝ, 0 < e ∧ expo s j = (e : EReal) := by
  obtain ⟨a, ha⟩ := (hs j).sub (top_real s hs)
  refine ⟨Real.exp a, Real.exp_pos a, ?_⟩
  unfold expo
  rw [ha]
  rfl

/-- A sum of positive real numbers is one. -/
theorem sum_pos {n : ℕ} [NeZero n] (f : Fin n → EReal) (hf : ∀ i, ∃ e : ℝ, 0 < e ∧ f i = (e : EReal)) : ∃ z : ℝ, 0 < z ∧ ∑ i, f i = (z : EReal) := by
  obtain ⟨z, hz⟩ := IsReal.sum Finset.univ f fun i => (hf i).imp fun _ h => h.2
  refine ⟨z, ?_, hz⟩
  have h0 : ∀ i, 0 ≤ f i := fun i => by
    obtain ⟨e, he, h⟩ := hf i
    rw [h]
    exact EReal.coe_nonneg.mpr he.le
  have h1 : f 0 ≤ ∑ i, f i := Finset.single_le_sum (fun i _ => h0 i) (Finset.mem_univ _)
  obtain ⟨e, he, h⟩ := hf 0
  rw [hz, h] at h1
  exact lt_of_lt_of_le he (EReal.coe_le_coe_iff.mp h1)

/-- The two orders of division agree at real scores. -/
theorem grade_eq (s g : Fin 256 → EReal) (hs : ∀ j, IsReal (s j)) (j : Fin 256) :
    (Ideal.div (g j) (∑ l : Fin 256, expo s l) + -(∑ l : Fin 256, g l * Ideal.div 1 ((∑ l : Fin 256, expo s l) * (∑ l : Fin 256, expo s l)) * expo s l)) * expo s j * scale
      = grade s g j := by
  obtain ⟨z, hz, ez⟩ := sum_pos (expo s) (expo_pos s hs)
  unfold grade weight
  rw [ez, ← EReal.coe_mul, Ideal.div_coe hz.ne', Ideal.div_coe hz.ne', Ideal.div_coe (mul_pos hz hz).ne', one_mul]
  have hw : 0 ≤ ((1 / z : ℝ) : EReal) := EReal.coe_nonneg.mpr (one_div_pos.mpr hz).le
  have ht : ((1 / z : ℝ) : EReal) ≠ ⊤ := EReal.coe_ne_top _
  have h1 : ∑ l : Fin 256, g l * ((1 / (z * z) : ℝ) : EReal) * expo s l = (∑ l : Fin 256, g l * Ideal.div (expo s l) z) * ((1 / z : ℝ) : EReal) := by
    rw [Products.sum_mul _ _ hw ht]
    refine Finset.sum_congr rfl fun l _ => ?_
    rw [Ideal.div_coe hz.ne', show (1 / (z * z) : ℝ) = 1 / z * (1 / z) by field_simp, EReal.coe_mul]
    simp only [mul_assoc, mul_comm, mul_left_comm]
  rw [h1, ← EReal.neg_mul, ← EReal.right_distrib_of_nonneg_of_ne_top hw ht, ← sub_eq_add_neg, mul_comm (_ * _) (expo s j), mul_comm (_ - _), ← mul_assoc]

end Cert.Weights

end
-- ==== Proof.HostBack.lean ====
/-
  The host's forms of an attention's gradients, element by element.
-/
module

public import Idealize.ShloMosaic.Lib.Pointwise
public import proofs.«01_k».proof.Proof.HostWeights
public import proofs.«01_k».proof.Proof.Grade
public import proofs.«01_k».proof.Proof.Gen.AttendBackRefIdeal

@[expose] public section

noncomputable section

namespace Cert.HostBack

open Idealize.ShloMosaic Cert.Products Cert.Weights Cert.AttendBackRefIdeal Cert.AttendBackRefIdeal.Facts₀

/-- A number of each row, as a column. -/
def column (z : FVec Ideal S1x4x4096 .f32) : FVec Ideal S1x4x4096x1 .f32 :=
  broadcastInDim S1x4x4096x1 ![0, 1, 2] bcast_S1x4x4096_S1x4x4096x1_0_1_2 z

/-- The sums along the rows. -/
def total (x : FVec Ideal S1x4x4096x256 .f32) : FVec Ideal S1x4x4096 .f32 :=
  Host.reduceAdd x (constant S_ .f32 0x00000000#32) reducesTo_S1x4x4096x256_S1x4x4096_d3 h_S_

/-- A column, spread over the rows. -/
def spread (z : FVec Ideal S1x4x4096x1 .f32) : FVec Ideal S1x4x4096x256 .f32 :=
  broadcastInDim S1x4x4096x256 ![0, 1, 2, 3] bcast_S1x4x4096x1_S1x4x4096x256_0_1_2_3 z

/-- The reciprocals of a column's squares. -/
def square (z : FVec Ideal S1x4x4096x1 .f32) : FVec Ideal S1x4x4096x1 .f32 :=
  Host.divf (broadcastInDim S1x4x4096x1 ![] bcast_S_S1x4x4096x1 (constant S_ .f32 0x3F800000#32)) (mulf z z)

/-- A number of each row, negated and spread over the rows. -/
def less (z : FVec Ideal S1x4x4096 .f32) : FVec Ideal S1x4x4096x256 .f32 :=
  broadcastInDim S1x4x4096x256 ![0, 1, 2] bcast_S1x4x4096_S1x4x4096x256_0_1_2 (broadcastInDim S1x4x4096 ![1, 2] bcast_S4x4096_S1x4x4096_1_2
    (Host.reduceAdd (Host.negf (shapeCast S1x4x4096x1 z shapeCasts_S1x4x4096_S1x4x4096x1)) (constant S_ .f32 0x00000000#32) reducesTo_S1x4x4096x1_S4x4096_d0_3 h_S_))

/-- The gradients of the scores, of the exponentials and of the gradients of the weights. -/
def hostGrade (g e : FVec Ideal S1x4x4096x256 .f32) : FVec Ideal S1x4x4096x256 .f32 :=
  mulf (mulf (addf (Host.divf g (spread (column (total e)))) (less (total (mulf (mulf g (spread (square (column (total e))))) e)))) e)
    (broadcastInDim S1x4x4096x256 ![] bcast_S_S1x4x4096x256 (constant S_ .f32 0x3D800000#32))

theorem column_apply (z : FVec Ideal S1x4x4096 .f32) (h : Fin 4) (r : Fin 4096) : column z (ix4 0 h r 0) = z (ix3 0 h r) := by
  unfold column
  pointwise

theorem total_apply (x : FVec Ideal S1x4x4096x256 .f32) (h : Fin 4) (r : Fin 4096) : total x (ix3 0 h r) = ∑ l : Fin 256, x (ix4 0 h r l) := by
  unfold total
  pointwise

theorem spread_apply (z : FVec Ideal S1x4x4096x1 .f32) (h : Fin 4) (r : Fin 4096) (j : Fin 256) : spread z (ix4 0 h r j) = z (ix4 0 h r 0) := by
  unfold spread
  pointwise

theorem square_apply (z : FVec Ideal S1x4x4096x1 .f32) (h : Fin 4) (r : Fin 4096) :
    square z (ix4 0 h r 0) = Ideal.div 1 (z (ix4 0 h r 0) * z (ix4 0 h r 0)) := by
  rw [← one_bits]
  unfold square
  pointwise

/-- The sums over two axes of one element each. -/
theorem unit_sum (x : FVec Ideal S1x4x4096x1 .f32) (h : Fin 4) (r : Fin 4096) :
    Host.reduceAdd x (constant S_ .f32 0x00000000#32) reducesTo_S1x4x4096x1_S4x4096_d0_3 h_S_ (ix2 h r) = x (ix4 0 h r 0) := by
  have hd : ∀ i : S1x4x4096x1.Idx, reducesTo_S1x4x4096x1_S4x4096_d0_3.drop i = ix2 (i 1) (i 2) := fun i => by
    funext a
    match a with
    | ⟨0, _⟩ => rfl
    | ⟨1, _⟩ => rfl
  refine Eq.trans (b := Ideal.ofBits .f32 0x00000000#32 + ∑ i ∈ Finset.univ.filter (fun i => reducesTo_S1x4x4096x1_S4x4096_d0_3.drop i = ix2 h r), x i) rfl ?_
  have hf : Finset.univ.filter (fun i => reducesTo_S1x4x4096x1_S4x4096_d0_3.drop i = ix2 h r) = {ix4 0 h r 0} := by
    ext i
    rw [Finset.mem_filter, Finset.mem_singleton, hd]
    refine ⟨fun hi => ?_, fun hi => ⟨Finset.mem_univ _, by rw [hi]; rfl⟩⟩
    have h1 : i 1 = h := congrFun hi.2 0
    have h2 : i 2 = r := congrFun hi.2 1
    funext a
    match a with
    | ⟨0, _⟩ => exact Fin.ext (by have := (i 0).isLt; show (i 0).val = 0; exact Nat.lt_one_iff.mp this)
    | ⟨1, _⟩ => exact h1
    | ⟨2, _⟩ => exact h2
    | ⟨3, _⟩ => exact Fin.ext (by have := (i 3).isLt; show (i 3).val = 0; exact Nat.lt_one_iff.mp this)
  rw [hf, Finset.sum_singleton]
  simp [Ideal.ofBits, Ideal.ieee]

theorem spread_row (y : FVec Ideal S4x4096 .f32) (h : Fin 4) (r : Fin 4096) (j : Fin 256) :
    broadcastInDim S1x4x4096x256 ![0, 1, 2] bcast_S1x4x4096_S1x4x4096x256_0_1_2 (broadcastInDim S1x4x4096 ![1, 2] bcast_S4x4096_S1x4x4096_1_2 y) (ix4 0 h r j)
      = y (ix2 h r) := by
  pointwise

theorem minus_apply (z : FVec Ideal S1x4x4096 .f32) (h : Fin 4) (r : Fin 4096) :
    Host.negf (shapeCast S1x4x4096x1 z shapeCasts_S1x4x4096_S1x4x4096x1) (ix4 0 h r 0) = -(z (ix3 0 h r)) := by
  pointwise

theorem less_apply (z : FVec Ideal S1x4x4096 .f32) (h : Fin 4) (r : Fin 4096) (j : Fin 256) : less z (ix4 0 h r j) = -(z (ix3 0 h r)) := by
  exact (spread_row _ h r j).trans ((unit_sum _ h r).trans (minus_apply z h r))

theorem grade_apply (g e : FVec Ideal S1x4x4096x256 .f32) (h : Fin 4) (r : Fin 4096) (j : Fin 256) :
    hostGrade g e (ix4 0 h r j) = (Ideal.div (g (ix4 0 h r j)) (∑ l : Fin 256, e (ix4 0 h r l))
      + -(∑ l : Fin 256, g (ix4 0 h r l) * Ideal.div 1 ((∑ l : Fin 256, e (ix4 0 h r l)) * (∑ l : Fin 256, e (ix4 0 h r l))) * e (ix4 0 h r l)))
        * e (ix4 0 h r j) * scale := by
  refine Eq.trans (b := (Ideal.div (g (ix4 0 h r j)) (spread (column (total e)) (ix4 0 h r j)) + less (total (mulf (mulf g (spread (square (column (total e))))) e)) (ix4 0 h r j))
    * e (ix4 0 h r j) * scale) rfl ?_
  rw [less_apply, total_apply, spread_apply, column_apply, total_apply]
  congr 4
  refine Finset.sum_congr rfl fun l _ => ?_
  refine Eq.trans (b := g (ix4 0 h r l) * spread (square (column (total e))) (ix4 0 h r l) * e (ix4 0 h r l)) rfl ?_
  rw [spread_apply, square_apply, column_apply, total_apply]

/-- The gradients of the weights. -/
def hostBack (d : FVec Ideal S4096x1024 .f32) (v : FVec Ideal S256x1024 .f32) : FVec Ideal S1x4x4096x256 .f32 :=
  Host.dotGeneral dot_S1x4x256x4096_S1x256x4x256_S1x4x4096x256_2_3_3_1_01_02 none
    (transpose S1x4x256x4096 [0, 2, 3, 1] (shapeCast S1x4096x4x256 d shapeCasts_S4096x1024_S1x4096x4x256) transposes_S1x4096x4x256_S1x4x256x4096_0_2_3_1)
    (shapeCast S1x256x4x256 v shapeCasts_S256x1024_S1x256x4x256)

theorem back_dot (d : FVec Ideal S1x4096x4x256 .f32) (v : FVec Ideal S1x256x4x256 .f32) (h : Fin 4) (r : Fin 4096) (j : Fin 256) :
    Host.dotGeneral dot_S1x4x256x4096_S1x256x4x256_S1x4x4096x256_2_3_3_1_01_02 none (transpose S1x4x256x4096 [0, 2, 3, 1] d transposes_S1x4096x4x256_S1x4x256x4096_0_2_3_1) v (ix4 0 h r j)
      = ∑ e : Fin 256, d (ix4 0 r h e) * v (ix4 0 j h e) := by
  pointwise

theorem back_apply (d : FVec Ideal S4096x1024 .f32) (v : FVec Ideal S256x1024 .f32) (h : Fin 4) (r : Fin 4096) (j : Fin 256) :
    hostBack d v (ix4 0 h r j) = back d v r h j := by
  refine (back_dot _ _ h r j).trans ?_
  unfold back
  simp only [HostWeights.cast4 (.inl rfl) d, HostWeights.cast4 (.inr rfl) v]

/-- The gradients of the queries, of the scores'. -/
def hostQ (k : FVec Ideal S256x1024 .f32) (g : FVec Ideal S1x4x4096x256 .f32) : FVec Ideal S4096x1024 .f32 :=
  shapeCast S4096x1024 (transpose S1x4096x4x256 [0, 2, 1, 3] (Host.dotGeneral dot_S1x4x4096x256_S1x256x4x256_S1x4x4096x256_3_1_2_3_01_02 none g
    (shapeCast S1x256x4x256 k shapeCasts_S256x1024_S1x256x4x256)) transposes_S1x4x4096x256_S1x4096x4x256_0_2_1_3) shapeCasts_S1x4096x4x256_S4096x1024

theorem dotQ (k : FVec Ideal S1x256x4x256 .f32) (g : FVec Ideal S1x4x4096x256 .f32) (r : Fin 4096) (h : Fin 4) (e : Fin 256) :
    transpose S1x4096x4x256 [0, 2, 1, 3] (Host.dotGeneral dot_S1x4x4096x256_S1x256x4x256_S1x4x4096x256_3_1_2_3_01_02 none g k)
      transposes_S1x4x4096x256_S1x4096x4x256_0_2_1_3 (ix4 0 r h e) = ∑ j : Fin 256, g (ix4 0 h r j) * k (ix4 0 j h e) := by
  pointwise

theorem applyQ (k : FVec Ideal S256x1024 .f32) (g : FVec Ideal S1x4x4096x256 .f32) (r : Fin 4096) (h : Fin 4) (e : Fin 256) :
    hostQ k g (ix2 r (col h e)) = ∑ j : Fin 256, g (ix4 0 h r j) * k (ix2 j (col h e)) := by
  refine (HostWeights.cast2 (.inl rfl) _ _ r h e).trans ((dotQ _ g r h e).trans ?_)
  simp only [HostWeights.cast4 (.inr rfl) k]

/-- The gradients of the keys, of the scores'. -/
def hostK (q : FVec Ideal S4096x1024 .f32) (g : FVec Ideal S1x4x4096x256 .f32) : FVec Ideal S256x1024 .f32 :=
  shapeCast S256x1024 (transpose S1x256x4x256 [0, 2, 1, 3] (Host.dotGeneral dot_S1x4x4096x256_S1x4096x4x256_S1x4x256x256_2_1_3_3_01_02 none g
    (shapeCast S1x4096x4x256 q shapeCasts_S4096x1024_S1x4096x4x256)) transposes_S1x4x256x256_S1x256x4x256_0_2_1_3) shapeCasts_S1x256x4x256_S256x1024

theorem dotK (q : FVec Ideal S1x4096x4x256 .f32) (g : FVec Ideal S1x4x4096x256 .f32) (j : Fin 256) (h : Fin 4) (e : Fin 256) :
    transpose S1x256x4x256 [0, 2, 1, 3] (Host.dotGeneral dot_S1x4x4096x256_S1x4096x4x256_S1x4x256x256_2_1_3_3_01_02 none g q)
      transposes_S1x4x256x256_S1x256x4x256_0_2_1_3 (ix4 0 j h e) = ∑ r : Fin 4096, g (ix4 0 h r j) * q (ix4 0 r h e) := by
  pointwise

theorem applyK (q : FVec Ideal S4096x1024 .f32) (g : FVec Ideal S1x4x4096x256 .f32) (j : Fin 256) (h : Fin 4) (e : Fin 256) :
    hostK q g (ix2 j (col h e)) = ∑ r : Fin 4096, g (ix4 0 h r j) * q (ix2 r (col h e)) := by
  refine (HostWeights.cast2 (.inr rfl) _ _ j h e).trans ((dotK _ g j h e).trans ?_)
  simp only [HostWeights.cast4 (.inl rfl) q]

/-- The gradients of the values, of the weights. -/
def hostV (d : FVec Ideal S4096x1024 .f32) (p : FVec Ideal S1x4x4096x256 .f32) : FVec Ideal S256x1024 .f32 :=
  shapeCast S256x1024 (transpose S1x256x4x256 [0, 3, 1, 2] (Host.dotGeneral dot_S1x4x256x4096_S1x4x4096x256_S1x4x256x256_3_2_2_3_01_01 none
    (transpose S1x4x256x4096 [0, 2, 3, 1] (shapeCast S1x4096x4x256 d shapeCasts_S4096x1024_S1x4096x4x256) transposes_S1x4096x4x256_S1x4x256x4096_0_2_3_1) p)
      transposes_S1x4x256x256_S1x256x4x256_0_3_1_2) shapeCasts_S1x256x4x256_S256x1024

theorem dotV (d : FVec Ideal S1x4096x4x256 .f32) (p : FVec Ideal S1x4x4096x256 .f32) (j : Fin 256) (h : Fin 4) (e : Fin 256) :
    transpose S1x256x4x256 [0, 3, 1, 2] (Host.dotGeneral dot_S1x4x256x4096_S1x4x4096x256_S1x4x256x256_3_2_2_3_01_01 none
      (transpose S1x4x256x4096 [0, 2, 3, 1] d transposes_S1x4096x4x256_S1x4x256x4096_0_2_3_1) p) transposes_S1x4x256x256_S1x256x4x256_0_3_1_2 (ix4 0 j h e)
      = ∑ r : Fin 4096, d (ix4 0 r h e) * p (ix4 0 h r j) := by
  pointwise

theorem applyV (d : FVec Ideal S4096x1024 .f32) (p : FVec Ideal S1x4x4096x256 .f32) (j : Fin 256) (h : Fin 4) (e : Fin 256) :
    hostV d p (ix2 j (col h e)) = ∑ r : Fin 4096, d (ix2 r (col h e)) * p (ix4 0 h r j) := by
  refine (HostWeights.cast2 (.inr rfl) _ _ j h e).trans ((dotV _ p j h e).trans ?_)
  simp only [HostWeights.cast4 (.inl rfl) d]

/-- The gradients of the scores, of the arrays. -/
def hostAll (q d : FVec Ideal S4096x1024 .f32) (k v : FVec Ideal S256x1024 .f32) : FVec Ideal S1x4x4096x256 .f32 :=
  hostGrade (hostBack d v) (HostWeights.hostShift (HostWeights.hostScore q k) (HostWeights.hostTop (HostWeights.hostScore q k)))

theorem all_apply (q d : FVec Ideal S4096x1024 .f32) (k v : FVec Ideal S256x1024 .f32) (hq : ∀ i, Scan.IsReal (q i)) (hk : ∀ i, Scan.IsReal (k i))
    (h : Fin 4) (r : Fin 4096) (j : Fin 256) : hostAll q d k v (ix4 0 h r j) = grade (score q k r h) (back d v r h) j := by
  rw [← grade_eq (score q k r h) (back d v r h) (fun l => (Scan.IsReal.sum _ _ fun e => (hq _).mul (hk _)).mul scale_real) j]
  refine (grade_apply _ _ h r j).trans ?_
  simp only [back_apply]
  have hE : ∀ l, HostWeights.hostShift (HostWeights.hostScore q k) (HostWeights.hostTop (HostWeights.hostScore q k)) (ix4 0 h r l) = expo (score q k r h) l :=
    fun l => HostWeights.host_expo q k h r l
  simp only [hE]

end Cert.HostBack

end
-- ==== Proof.AttendGrad.lean ====
/-
  The gradients of the cross-attention: the kernel's are the reference's.
-/
module

public import proofs.«01_k».proof.Proof.AttendBwd
public import proofs.«01_k».proof.Proof.HostBack
public import proofs.«01_k».proof.Proof.Gen.AttendBackRefIdeal.Run
public import proofs.«01_k».proof.Proof.Gen.Pre_finite_attend
public import proofs.«01_k».proof.Defs

@[expose] public section

noncomputable section

namespace Cert.AttendGrad

open Idealize.ShloMosaic Idealize.ShloMosaic.TcCoe Idealize.SL.Sem Cert.AttendBackIdeal Cert.AttendBackIdeal.Gen Cert.Products Cert.Weights Cert.HostBack Cert.AttendBwd

section reference
variable (m : (ℓ : Loc AttendBackRefIdeal.nD AttendBackRefIdeal.τ AttendBackRefIdeal.sig) → Buf (Elt Ideal) ℓ) (c : Dev AttendBackRefIdeal.nD)

/-- The reference's first two results, in the host's forms. -/
theorem refQ : AttendBackRefIdeal.Value.res_out0 m c = hostQ (m ((c.tc : Thread AttendBackRefIdeal.nD AttendBackRefIdeal.τ).loc AttendBackRefIdeal.main_arg2))
    (hostAll (m ((c.tc : Thread AttendBackRefIdeal.nD AttendBackRefIdeal.τ).loc AttendBackRefIdeal.main_arg0))
      (m ((c.tc : Thread AttendBackRefIdeal.nD AttendBackRefIdeal.τ).loc AttendBackRefIdeal.main_arg1))
      (m ((c.tc : Thread AttendBackRefIdeal.nD AttendBackRefIdeal.τ).loc AttendBackRefIdeal.main_arg2))
      (m ((c.tc : Thread AttendBackRefIdeal.nD AttendBackRefIdeal.τ).loc AttendBackRefIdeal.main_arg3))) := rfl

theorem refK : AttendBackRefIdeal.Value.res_out1 m c = hostK (m ((c.tc : Thread AttendBackRefIdeal.nD AttendBackRefIdeal.τ).loc AttendBackRefIdeal.main_arg0))
    (hostAll (m ((c.tc : Thread AttendBackRefIdeal.nD AttendBackRefIdeal.τ).loc AttendBackRefIdeal.main_arg0))
      (m ((c.tc : Thread AttendBackRefIdeal.nD AttendBackRefIdeal.τ).loc AttendBackRefIdeal.main_arg1))
      (m ((c.tc : Thread AttendBackRefIdeal.nD AttendBackRefIdeal.τ).loc AttendBackRefIdeal.main_arg2))
      (m ((c.tc : Thread AttendBackRefIdeal.nD AttendBackRefIdeal.τ).loc AttendBackRefIdeal.main_arg3))) := rfl

end reference

section sums
variable (q d : FVec Ideal AttendBackRefIdeal.S4096x1024 .f32) (k v : FVec Ideal AttendBackRefIdeal.S256x1024 .f32)

theorem sumQ (hq : ∀ i, Scan.IsReal (q i)) (hk : ∀ i, Scan.IsReal (k i)) : hostQ k (hostAll q d k v) = valueQ q d k v := by
  funext y
  idx_vars y
  obtain ⟨h, e, rfl⟩ : ∃ h e, y1 = col h e := col_eq y1
  rw [applyQ, valueQ_apply]
  exact Finset.sum_congr rfl fun j _ => by rw [all_apply q d k v hq hk]

theorem sumK (hq : ∀ i, Scan.IsReal (q i)) (hk : ∀ i, Scan.IsReal (k i)) : hostK q (hostAll q d k v) = valueK q d k v := by
  funext y
  idx_vars y
  obtain ⟨h, e, rfl⟩ : ∃ h e, y1 = col h e := col_eq y1
  rw [applyK, valueK_apply]
  exact Finset.sum_congr rfl fun r _ => by rw [all_apply q d k v hq hk]

theorem sumV : hostV d (HostWeights.hostWeight q k) = valueV q d k := by
  funext y
  idx_vars y
  obtain ⟨h, e, rfl⟩ : ∃ h e, y1 = col h e := col_eq y1
  rw [applyV, valueV_apply]
  exact Finset.sum_congr rfl fun r _ => (congrArg (d (ix2 r (col h e)) * ·) (HostWeights.weight_apply q k h r y0)).trans (mul_comm _ _)

end sums

/-- The kernel's results are the reference's. -/
theorem algebraic : algebraic_AttendBackIdeal_AttendBackRefIdeal_pre_finite_attend := by
  intro m g m' g' hp hargs
  refine ⟨_, _, _, (θ_run _ _ _).mono (fun r h c => ⟨(h c).1.trans (finalQ m c), (h c).2.1.trans (finalK m c), (h c).2.2.1.trans (finalV m c), (h c).2.2.2⟩)
      (Value.run_blocks m g),
    (θ_run _ _ _).mono (fun r h c => ⟨((h c).1.trans (refQ m' c)).trans ?_, ((h c).2.1.trans (refK m' c)).trans ?_, (h c).2.2.1.trans ?_, (h c).2.2.2⟩)
      (AttendBackRefIdeal.Value.run (F := Ideal) m' g')⟩
  all_goals
    obtain ⟨e0, e1, e2, e3⟩ := hargs c
    obtain ⟨p0, p2⟩ := hp c
    simp only [e0, e1, e2, e3]
  · exact sumQ _ _ _ _ (real_of _ _ p0) (real_of _ _ p2)
  · exact sumK _ _ _ _ (real_of _ _ p0) (real_of _ _ p2)
  · exact sumV _ _ _

end Cert.AttendGrad

end
-- ==== Proof.FfnDwd.lean ====
/-
  The call that forms the gradient of a feed-forward layer's second weight: half the product of the activations,
  transposed, with the gradient that arrives.
-/
module

public import proofs.«01_k».proof.Defs
public import proofs.«01_k».proof.Proof.Gen.DwdIdeal.Value
public import proofs.«01_k».proof.Proof.Gen.DwdRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.FfnDwd

open Idealize.ShloMosaic Idealize.ShloMosaic.TcCoe Idealize.SL.Sem Cert.DwdIdeal Cert.DwdIdeal.Gen Cert.Products

variable (m : (ℓ : Loc nD τ sig) → Buf (Elt Ideal) ℓ)

/-- What the call ends holding, of its arguments. -/
def value (a : Mat 4096 2816) (b : Mat 4096 1024) : Mat 2816 1024 :=
  fun i => entryT a b (i 0) (i 1) * FloatOps.ofBits (F := Ideal) .f32 0x3F000000#32

theorem index (t : Fin cfg0.N) : win0_0.index t = ![t.val % 4, t.val / 4] ∧ win0_1.index t = ![t.val % 4, 0]
    ∧ win0_2.index t = ![t.val / 4, 0] :=
  (by decide +kernel : ∀ t : Fin grid0.N, win0_0.index t = ![t.val % 4, t.val / 4] ∧ win0_1.index t = ![t.val % 4, 0]
    ∧ win0_2.index t = ![t.val / 4, 0]) t

/-- What point `t` adds: its stretch of the sum. -/
def part (c : Dev nD) (t : Fin cfg0.N) (y : S1408x1024.Idx) : EReal := k0_pay1 (iblk m c 0 t) (iblk m c 1 t) y

theorem sums (c : Dev nD) (t : Fin cfg0.N) (ht : t.val % 4 = 3) (y : S1408x1024.Idx) :
    (outsAt0 m c (t.val - 1) (Nat.lt_of_le_of_lt (Nat.sub_le _ _) t.isLt)).2 y + part m c t y
      = ∑ s : Fin 4, part m c ⟨4 * (t.val / 4) + s.val, Pipeline.run_point_lt_of_flush (J := 4) t ht s⟩ y :=
  run_sum 4 (fun n h => (outsAt0 m c n h).2) (part m c) (by decide)
    (fun u hu i => by
      rw [outsAt0_A m c u hu (by omega) (by omega)]
      frame_out
      pointwise [k0_pay2]
      rfl)
    (fun u hu h3 i => by
      rw [outsAt0_B m c u hu (by omega) (by omega)]
      frame_out
      simp only [read_unread_whole]
      pointwise [k0_pay3]
      rfl) t ht y

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, outsAt0_C m c t (by omega) (by omega) ht]
  frame_out
  simp only [read_unread_whole]
  obtain ⟨e0, e1, e2⟩ := index t
  have hp : ∀ acc, k0_pay4 (iblk m c 0 t) (iblk m c 1 t) acc y = (acc y + part m c t y) * FloatOps.ofBits (F := Ideal) .f32 0x3F000000#32 := by
    intro acc
    pointwise [k0_pay4]
    rfl
  rw [hp, sums m c t ht y]
  unfold value
  congr 1
  unfold entryT part
  idx_vars y
  pointwise [k0_pay1]
  refine Fin.sum_mul_add_congr fun s l hl => ?_
  obtain ⟨f0, f1, f2⟩ := index ⟨4 * (t.val / 4) + s.val, Pipeline.run_point_lt_of_flush (J := 4) t ht s⟩
  blk_point [iblk, V, f0, f1, e2]

/-- The kernel's result is the reference's. -/
theorem algebraic : algebraic_DwdIdeal_DwdRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (DwdRefIdeal.Value.run (F := Ideal) m' g')⟩
  obtain ⟨e0, e1⟩ := hargs c
  rw [e0, e1]
  funext y
  idx_vars y
  unfold value entryT
  pointwise
  rw [sum_mul _ _ half.1 half.2]
  exact Finset.sum_congr rfl fun l _ => turn _ _ _

end Cert.FfnDwd

end
-- ==== Proof.FfnDw.lean ====
/-
  The call that forms the gradient of either of a feed-forward layer's first two weights: the product of the gradient at
  that weight's output, transposed, with the layer's input.
-/
module

public import proofs.«01_k».proof.Defs
public import proofs.«01_k».proof.Proof.Gen.DwIdeal.Value
public import proofs.«01_k».proof.Proof.Gen.DwRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.FfnDw

open Idealize.ShloMosaic Idealize.ShloMosaic.TcCoe Idealize.SL.Sem Cert.DwIdeal Cert.DwIdeal.Gen Cert.Products

variable (m : (ℓ : Loc nD τ sig) → Buf (Elt Ideal) ℓ)

/-- What the call ends holding, of its arguments. -/
def value (a : Mat 4096 2816) (b : Mat 4096 1024) : Mat 2816 1024 :=
  fun i => entryT a b (i 0) (i 1)

theorem index (t : Fin cfg0.N) : win0_0.index t = ![t.val % 4, t.val / 4] ∧ win0_1.index t = ![t.val % 4, 0]
    ∧ win0_2.index t = ![t.val / 4, 0] :=
  (by decide +kernel : ∀ t : Fin grid0.N, win0_0.index t = ![t.val % 4, t.val / 4] ∧ win0_1.index t = ![t.val % 4, 0]
    ∧ win0_2.index t = ![t.val / 4, 0]) t

/-- What point `t` adds: its stretch of the sum. -/
def part (c : Dev nD) (t : Fin cfg0.N) (y : S1408x1024.Idx) : EReal := k0_pay1 (iblk m c 0 t) (iblk m c 1 t) y

theorem sums (c : Dev nD) (t : Fin cfg0.N) (ht : t.val % 4 = 3) (y : S1408x1024.Idx) :
    (outsAt0 m c (t.val - 1) (Nat.lt_of_le_of_lt (Nat.sub_le _ _) t.isLt)).2 y + part m c t y
      = ∑ s : Fin 4, part m c ⟨4 * (t.val / 4) + s.val, Pipeline.run_point_lt_of_flush (J := 4) t ht s⟩ y :=
  run_sum 4 (fun n h => (outsAt0 m c n h).2) (part m c) (by decide)
    (fun u hu i => by
      rw [outsAt0_A m c u hu (by omega) (by omega)]
      frame_out
      pointwise [k0_pay2]
      rfl)
    (fun u hu h3 i => by
      rw [outsAt0_B m c u hu (by omega) (by omega)]
      frame_out
      simp only [read_unread_whole]
      pointwise [k0_pay3]
      rfl) t ht y

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, outsAt0_C m c t (by omega) (by omega) ht]
  frame_out
  simp only [read_unread_whole]
  obtain ⟨e0, e1, e2⟩ := index t
  have hp : ∀ acc, k0_pay4 (iblk m c 0 t) (iblk m c 1 t) acc y = acc y + part m c t y := by
    intro acc
    pointwise [k0_pay4]
    rfl
  rw [hp, sums m c t ht y]
  unfold value
  unfold entryT part
  idx_vars y
  pointwise [k0_pay1]
  refine Fin.sum_mul_add_congr fun s l hl => ?_
  obtain ⟨f0, f1, f2⟩ := index ⟨4 * (t.val / 4) + s.val, Pipeline.run_point_lt_of_flush (J := 4) t ht s⟩
  blk_point [iblk, V, f0, f1, e2]

/-- The kernel's result is the reference's. -/
theorem algebraic : algebraic_DwIdeal_DwRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (DwRefIdeal.Value.run (F := Ideal) m' g')⟩
  obtain ⟨e0, e1⟩ := hargs c
  rw [e0, e1]
  funext y
  idx_vars y
  unfold value entryT
  pointwise

end Cert.FfnDw

end
-- ==== Proof.FfnDxg.lean ====
/-
  The first of the two calls that form a feed-forward layer's gradient with respect to its input: the product of the
  gradient at the gate with the gate's weight.
-/
module

public import proofs.«01_k».proof.Defs
public import proofs.«01_k».proof.Proof.Gen.DxgIdeal.Value
public import proofs.«01_k».proof.Proof.Gen.DxgRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.FfnDxg

open Idealize.ShloMosaic Idealize.ShloMosaic.TcCoe Idealize.SL.Sem Cert.DxgIdeal Cert.DxgIdeal.Gen Cert.Products

variable (m : (ℓ : Loc nD τ sig) → Buf (Elt Ideal) ℓ)

/-- What the call ends holding, of its arguments. -/
def value (a : Mat 4096 2816) (b : Mat 2816 1024) : Mat 4096 1024 :=
  fun i => entry a b (i 0) (i 1)

theorem index (t : Fin cfg0.N) : win0_0.index t = ![t.val / 2, t.val % 2] ∧ win0_1.index t = ![t.val % 2, 0]
    ∧ win0_2.index t = ![t.val / 2, 0] :=
  (by decide +kernel : ∀ t : Fin grid0.N, win0_0.index t = ![t.val / 2, t.val % 2] ∧ win0_1.index t = ![t.val % 2, 0]
    ∧ win0_2.index t = ![t.val / 2, 0]) t

/-- What point `t` adds: its stretch of the sum. -/
def part (c : Dev nD) (t : Fin cfg0.N) (y : S1024x1024.Idx) : EReal := k0_pay1 (iblk m c 0 t) (iblk m c 1 t) y

theorem sums (c : Dev nD) (t : Fin cfg0.N) (ht : t.val % 2 = 1) (y : S1024x1024.Idx) :
    (outsAt0 m c (t.val - 1) (Nat.lt_of_le_of_lt (Nat.sub_le _ _) t.isLt)).2 y + part m c t y
      = ∑ s : Fin 2, part m c ⟨2 * (t.val / 2) + s.val, Pipeline.run_point_lt_of_flush (J := 2) t ht s⟩ y :=
  run_sum 2 (fun n h => (outsAt0 m c n h).2) (part m c) (by decide)
    (fun u hu i => by
      rw [outsAt0_A m c u hu (by omega)]
      frame_out
      pointwise [k0_pay2]
      rfl)
    (fun u hu h1 i => absurd u.val.mod_two_eq_zero_or_one (by omega)) t ht y

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, outsAt0_B m c t (by omega) ht]
  frame_out
  simp only [read_unread_whole]
  obtain ⟨e0, e1, e2⟩ := index t
  have hp : ∀ acc, k0_pay3 (iblk m c 0 t) (iblk m c 1 t) acc y = acc y + part m c t y := by
    intro acc
    pointwise [k0_pay3]
    rfl
  rw [hp, sums m c t ht y]
  unfold value
  unfold entry part
  idx_vars y
  pointwise [k0_pay1]
  refine Fin.sum_mul_add_congr fun s l hl => ?_
  obtain ⟨f0, f1, f2⟩ := index ⟨2 * (t.val / 2) + s.val, Pipeline.run_point_lt_of_flush (J := 2) t ht s⟩
  blk_point [iblk, V, f0, f1, e2]

/-- The kernel's result is the reference's. -/
theorem algebraic : algebraic_DxgIdeal_DxgRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (DxgRefIdeal.Value.run (F := Ideal) m' g')⟩
  obtain ⟨e0, e1⟩ := hargs c
  rw [e0, e1]
  funext y
  idx_vars y
  unfold value entry
  pointwise

end Cert.FfnDxg

end
-- ==== Proof.FfnDxu.lean ====
/-
  The call that ends a feed-forward layer's gradient with respect to its input: one more product is added to what the
  call before it left, and to a multiple of another array.
-/
module

public import proofs.«01_k».proof.Defs
public import proofs.«01_k».proof.Proof.Gen.DxuIdeal.Value
public import proofs.«01_k».proof.Proof.Gen.DxuRefIdeal.Run
public import Idealize.ShloMosaic.Lib.Pipeline.ValueKit
public import Idealize.ShloMosaic.Lib.Pointwise
public import proofs.«01_k».proof.Proof.Products
public import Idealize.ShloMosaic.Lib.Claim
public import Idealize.ShloMosaic.Lib.StableHlo.ReadAt

@[expose] public section

set_option maxRecDepth 16384

noncomputable section

namespace Cert.FfnDxu

open Idealize.ShloMosaic Idealize.ShloMosaic.TcCoe Idealize.SL.Sem Cert.DxuIdeal Cert.DxuIdeal.Gen Cert.Products

variable (m : (ℓ : Loc nD τ sig) → Buf (Elt Ideal) ℓ)

/-- What the call ends holding, of its arguments. -/
def value (a : Mat 4096 2816) (b : Mat 2816 1024) (x y : Mat 4096 1024) : Mat 4096 1024 :=
  fun i => entry a b (i 0) (i 1) + x i + FloatOps.ofBits (F := Ideal) .f32 0x3F9837F0#32 * y i

theorem index (t : Fin cfg0.N) : win0_0.index t = ![t.val / 2, 0] ∧ win0_1.index t = ![0, t.val % 2]
    ∧ win0_2.index t = ![t.val / 2, t.val % 2] ∧ win0_3.index t = ![t.val / 2, t.val % 2] ∧ win0_4.index t = ![t.val / 2, t.val % 2] :=
  (by decide +kernel : ∀ t : Fin grid0.N, win0_0.index t = ![t.val / 2, 0] ∧ win0_1.index t = ![0, t.val % 2]
    ∧ win0_2.index t = ![t.val / 2, t.val % 2] ∧ win0_3.index t = ![t.val / 2, t.val % 2] ∧ win0_4.index t = ![t.val / 2, t.val % 2]) t

theorem final (c : Dev nD) : (dats m 0 c).arrAt 4 cfg0.N = value (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  frame_out
  obtain ⟨e0, e1, e2, e3, e4⟩ := index t
  unfold value entry
  idx_vars y
  pointwise [k0_pay1]
  blk_point [iblk, V, e0, e1, e2, e3, e4]

/-- Two products and two added arrays: the kernel's result is the reference's. -/
theorem algebraic : algebraic_DxuIdeal_DxuRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (DxuRefIdeal.Value.run (F := Ideal) m' g')⟩
  obtain ⟨e0, e1, e2, e3⟩ := hargs c
  rw [e0, e1, e2, e3]
  funext y
  idx_vars y
  unfold value entry
  pointwise

end Cert.FfnDxu

end
-- ==== Proof.FfnGu.lean ====
/-
  The call that starts a feed-forward layer: the gate and the other factor, each a product of the input with a weight, and
  the activations, the gate times its logistic function times the other factor.
-/
module

public import proofs.«01_k».proof.Defs
public import proofs.«01_k».proof.Proof.Gen.GuIdeal.Value
public import proofs.«01_k».proof.Proof.Gen.GuRefIdeal.Run
public import Idealize.ShloMosaic.Lib.Pipeline.ValueKit
public import Idealize.ShloMosaic.Lib.Pointwise
public import proofs.«01_k».proof.Proof.Products
public import Idealize.ShloMosaic.Lib.Claim
public import Idealize.ShloMosaic.Lib.StableHlo.ReadAt

@[expose] public section

set_option maxRecDepth 16384

noncomputable section

namespace Cert.FfnGu

open Idealize.ShloMosaic Idealize.ShloMosaic.TcCoe Idealize.SL.Sem Cert.GuIdeal Cert.GuIdeal.Gen Cert.Products

variable (m : (ℓ : Loc nD τ sig) → Buf (Elt Ideal) ℓ)

theorem index (t : Fin cfg0.N) : win0_0.index t = ![t.val / 2, 0] ∧ win0_1.index t = ![t.val % 2, 0]
    ∧ win0_2.index t = ![t.val % 2, 0] ∧ win0_3.index t = ![t.val / 2, t.val % 2] ∧ win0_4.index t = ![t.val / 2, t.val % 2]
    ∧ win0_5.index t = ![t.val / 2, t.val % 2] :=
  (by decide +kernel : ∀ t : Fin grid0.N, win0_0.index t = ![t.val / 2, 0] ∧ win0_1.index t = ![t.val % 2, 0]
    ∧ win0_2.index t = ![t.val % 2, 0] ∧ win0_3.index t = ![t.val / 2, t.val % 2] ∧ win0_4.index t = ![t.val / 2, t.val % 2]
    ∧ win0_5.index t = ![t.val / 2, t.val % 2]) t

/-- The gate and the other factor, of the input and a weight. -/
def factor (x : Mat 4096 1024) (w : Mat 2816 1024) : Mat 4096 2816 := fun i => ∑ l : Fin 1024, x (ix2 (i 0) l) * w (ix2 (i 1) l)

/-- The activations, of the gate and the other factor. -/
def activation (g u : Mat 4096 2816) : Mat 4096 2816 := fun i => g i * Ideal.logistic (g i) * u i

theorem final_gate (c : Dev nD) : (dats m 0 c).arrAt 3 cfg0.N = factor (m ((c.tc : Thread nD τ).loc main_arg0)) (m ((c.tc : Thread nD τ).loc main_arg1)) := by
  refine (dats m 0 c).arrAt_eq_of_covers 3 _ (by decide +kernel) fun t hf y => ?_
  blk_simp
  rw [after0_3]
  frame_out
  obtain ⟨e0, e1, e2, e3, e4, e5⟩ := index t
  unfold factor
  idx_vars y
  pointwise [k0_pay2, k0_pay1]
  blk_point [iblk, V, e0, e1, e2, e3, e4, e5]

theorem final_up (c : Dev nD) : (dats m 0 c).arrAt 4 cfg0.N = factor (m ((c.tc : Thread nD τ).loc main_arg0)) (m ((c.tc : Thread nD τ).loc main_arg2)) := by
  refine (dats m 0 c).arrAt_eq_of_covers 4 _ (by decide +kernel) fun t hf y => ?_
  blk_simp
  rw [after0_4]
  frame_out
  obtain ⟨e0, e1, e2, e3, e4, e5⟩ := index t
  unfold factor
  idx_vars y
  pointwise [k0_pay3, k0_pay1]
  blk_point [iblk, V, e0, e1, e2, e3, e4, e5]

theorem final_act (c : Dev nD) : (dats m 0 c).arrAt 5 cfg0.N = activation
    (factor (m ((c.tc : Thread nD τ).loc main_arg0)) (m ((c.tc : Thread nD τ).loc main_arg1)))
    (factor (m ((c.tc : Thread nD τ).loc main_arg0)) (m ((c.tc : Thread nD τ).loc main_arg2))) := by
  refine (dats m 0 c).arrAt_eq_of_covers 5 _ (by decide +kernel) fun t hf y => ?_
  blk_simp
  rw [after0_5]
  frame_out
  obtain ⟨e0, e1, e2, e3, e4, e5⟩ := index t
  unfold activation factor
  idx_vars y
  pointwise [k0_pay4, k0_pay3, k0_pay2, k0_pay1]
  blk_point [iblk, V, e0, e1, e2, e3, e4, e5]

/-- The kernel's three results are the reference's. -/
theorem algebraic : algebraic_GuIdeal_GuRefIdeal := by
  intro m g m' g' _ hargs
  refine ⟨_, _, _, (θ_run _ _ _).mono (fun r h c => ⟨(h c).1.trans (final_gate m c), (h c).2.1.trans (final_up m c),
      (h c).2.2.1.trans (final_act m c), (h c).2.2.2⟩) (Value.run_blocks m g),
    (θ_run _ _ _).mono (fun r h c => ⟨(h c).1.trans ?_, (h c).2.1.trans ?_, (h c).2.2.1.trans ?_, (h c).2.2.2⟩)
      (GuRefIdeal.Value.run (F := Ideal) m' g')⟩
  · obtain ⟨e0, e1, e2⟩ := hargs c
    rw [e0, e1]
    funext y
    idx_vars y
    unfold factor
    pointwise
  · obtain ⟨e0, e1, e2⟩ := hargs c
    rw [e0, e2]
    funext y
    idx_vars y
    unfold factor
    pointwise
  · obtain ⟨e0, e1, e2⟩ := hargs c
    rw [e0, e1, e2]
    funext y
    idx_vars y
    unfold activation factor
    pointwise
    rfl

end Cert.FfnGu

end
-- ==== Proof.FfnDown.lean ====
/-
  The call that ends a feed-forward layer: the product of the activations with the second weight.
-/
module

public import proofs.«01_k».proof.Defs
public import proofs.«01_k».proof.Proof.Gen.DownIdeal.Value
public import proofs.«01_k».proof.Proof.Gen.DownRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.FfnDown

open Idealize.ShloMosaic Idealize.ShloMosaic.TcCoe Idealize.SL.Sem Cert.DownIdeal Cert.DownIdeal.Gen Cert.Products

variable (m : (ℓ : Loc nD τ sig) → Buf (Elt Ideal) ℓ)

/-- What the call ends holding, of its arguments. -/
def value (a : Mat 4096 2816) (b : Mat 2816 1024) : Mat 4096 1024 :=
  fun i => entry a b (i 0) (i 1)

theorem index (t : Fin cfg0.N) : win0_0.index t = ![t.val / 2, t.val % 2] ∧ win0_1.index t = ![t.val % 2, 0]
    ∧ win0_2.index t = ![t.val / 2, 0] :=
  (by decide +kernel : ∀ t : Fin grid0.N, win0_0.index t = ![t.val / 2, t.val % 2] ∧ win0_1.index t = ![t.val % 2, 0]
    ∧ win0_2.index t = ![t.val / 2, 0]) t

/-- What point `t` adds: its stretch of the sum. -/
def part (c : Dev nD) (t : Fin cfg0.N) (y : S1024x1024.Idx) : EReal := k0_pay1 (iblk m c 0 t) (iblk m c 1 t) y

theorem sums (c : Dev nD) (t : Fin cfg0.N) (ht : t.val % 2 = 1) (y : S1024x1024.Idx) :
    (outsAt0 m c (t.val - 1) (Nat.lt_of_le_of_lt (Nat.sub_le _ _) t.isLt)).2 y + part m c t y
      = ∑ s : Fin 2, part m c ⟨2 * (t.val / 2) + s.val, Pipeline.run_point_lt_of_flush (J := 2) t ht s⟩ y :=
  run_sum 2 (fun n h => (outsAt0 m c n h).2) (part m c) (by decide)
    (fun u hu i => by
      rw [outsAt0_A m c u hu (by omega)]
      frame_out
      pointwise [k0_pay2]
      rfl)
    (fun u hu h1 i => absurd u.val.mod_two_eq_zero_or_one (by omega)) t ht y

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, outsAt0_B m c t (by omega) ht]
  frame_out
  simp only [read_unread_whole]
  obtain ⟨e0, e1, e2⟩ := index t
  have hp : ∀ acc, k0_pay3 (iblk m c 0 t) (iblk m c 1 t) acc y = acc y + part m c t y := by
    intro acc
    pointwise [k0_pay3]
    rfl
  rw [hp, sums m c t ht y]
  unfold value
  unfold entry part
  idx_vars y
  pointwise [k0_pay1]
  refine Fin.sum_mul_add_congr fun s l hl => ?_
  obtain ⟨f0, f1, f2⟩ := index ⟨2 * (t.val / 2) + s.val, Pipeline.run_point_lt_of_flush (J := 2) t ht s⟩
  blk_point [iblk, V, f0, f1, e2]

/-- The kernel's result is the reference's. -/
theorem algebraic : algebraic_DownIdeal_DownRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (DownRefIdeal.Value.run (F := Ideal) m' g')⟩
  obtain ⟨e0, e1⟩ := hargs c
  rw [e0, e1]
  funext y
  idx_vars y
  unfold value entry
  pointwise

end Cert.FfnDown

end
-- ==== Proof.MulInQkv.lean ====
/-
  The call that forms the queries, keys and values before their convolution: the layer's input times that piece of the
  input projection, transposed.
-/
module

public import proofs.«01_k».proof.Defs
public import proofs.«01_k».proof.Proof.Gen.InQkvIdeal.Value
public import proofs.«01_k».proof.Proof.Gen.InQkvRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulInQkv

open Idealize.ShloMosaic Idealize.ShloMosaic.TcCoe Idealize.SL.Sem Cert.InQkvIdeal Cert.InQkvIdeal.Gen Cert.Products

variable (m : (ℓ : Loc nD τ sig) → Buf (Elt Ideal) ℓ)

/-- What the call ends holding, of its arguments. -/
def value (a : Mat 4096 1024) (b : Mat 1536 1024) : Mat 4096 1536 :=
  fun i => entryR a b (i 0) (i 1)

theorem index (t : Fin cfg0.N) : win0_0.index t = ![t.val, 0] ∧ win0_1.index t = ![0, 0]
    ∧ win0_2.index t = ![t.val, 0] :=
  (by decide +kernel : ∀ t : Fin grid0.N, win0_0.index t = ![t.val, 0] ∧ win0_1.index t = ![0, 0]
    ∧ win0_2.index t = ![t.val, 0]) t

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨e0, e1, e2⟩ := index t
  unfold value entryR
  idx_vars y
  pointwise [k0_pay1]
  blk_point [iblk, V, e0, e1, e2]

/-- The kernel's result is the reference's. -/
theorem algebraic : algebraic_InQkvIdeal_InQkvRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (InQkvRefIdeal.Value.run (F := Ideal) m' g')⟩
  obtain ⟨e0, e1⟩ := hargs c
  rw [e0, e1]
  funext y
  idx_vars y
  unfold value entryR
  pointwise

end Cert.MulInQkv

end
-- ==== Proof.MulInGates.lean ====
/-
  The call that forms the gates of the two mixers before their sigmoid: the layer's input times that piece of the input
  projection, transposed.
-/
module

public import proofs.«01_k».proof.Defs
public import proofs.«01_k».proof.Proof.Gen.InGatesIdeal.Value
public import proofs.«01_k».proof.Proof.Gen.InGatesRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulInGates

open Idealize.ShloMosaic Idealize.ShloMosaic.TcCoe Idealize.SL.Sem Cert.InGatesIdeal Cert.InGatesIdeal.Gen Cert.Products

variable (m : (ℓ : Loc nD τ sig) → Buf (Elt Ideal) ℓ)

/-- What the call ends holding, of its arguments. -/
def value (a : Mat 4096 1024) (b : Mat 2048 1024) : Mat 4096 2048 :=
  fun i => entryR a b (i 0) (i 1)

theorem index (t : Fin cfg0.N) : win0_0.index t = ![t.val / 2, 0] ∧ win0_1.index t = ![t.val % 2, 0]
    ∧ win0_2.index t = ![t.val / 2, t.val % 2] :=
  (by decide +kernel : ∀ t : Fin grid0.N, win0_0.index t = ![t.val / 2, 0] ∧ win0_1.index t = ![t.val % 2, 0]
    ∧ win0_2.index t = ![t.val / 2, t.val % 2]) t

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨e0, e1, e2⟩ := index t
  unfold value entryR
  idx_vars y
  pointwise [k0_pay1]
  blk_point [iblk, V, e0, e1, e2]

/-- The kernel's result is the reference's. -/
theorem algebraic : algebraic_InGatesIdeal_InGatesRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (InGatesRefIdeal.Value.run (F := Ideal) m' g')⟩
  obtain ⟨e0, e1⟩ := hargs c
  rw [e0, e1]
  funext y
  idx_vars y
  unfold value entryR
  pointwise

end Cert.MulInGates

end
-- ==== Proof.MulInZ.lean ====
/-
  The call that forms the output gate of the delta rule, or the input of the pooling: the layer's input times that piece
  of the input projection, transposed.
-/
module

public import proofs.«01_k».proof.Defs
public import proofs.«01_k».proof.Proof.Gen.InZIdeal.Value
public import proofs.«01_k».proof.Proof.Gen.InZRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulInZ

open Idealize.ShloMosaic Idealize.ShloMosaic.TcCoe Idealize.SL.Sem Cert.InZIdeal Cert.InZIdeal.Gen Cert.Products

variable (m : (ℓ : Loc nD τ sig) → Buf (Elt Ideal) ℓ)

/-- What the call ends holding, of its arguments. -/
def value (a : Mat 4096 1024) (b : Mat 512 1024) : Mat 4096 512 :=
  fun i => entryR a b (i 0) (i 1)

theorem index (t : Fin cfg0.N) : win0_0.index t = ![t.val / 2, t.val % 2] ∧ win0_1.index t = ![0, t.val % 2]
    ∧ win0_2.index t = ![t.val / 2, 0] :=
  (by decide +kernel : ∀ t : Fin grid0.N, win0_0.index t = ![t.val / 2, t.val % 2] ∧ win0_1.index t = ![0, t.val % 2]
    ∧ win0_2.index t = ![t.val / 2, 0]) t

/-- What point `t` adds: its stretch of the sum. -/
def part (c : Dev nD) (t : Fin cfg0.N) (y : S2048x512.Idx) : EReal := k0_pay1 (iblk m c 0 t) (iblk m c 1 t) y

theorem sums (c : Dev nD) (t : Fin cfg0.N) (ht : t.val % 2 = 1) (y : S2048x512.Idx) :
    (outsAt0 m c (t.val - 1) (Nat.lt_of_le_of_lt (Nat.sub_le _ _) t.isLt)).2 y + part m c t y
      = ∑ s : Fin 2, part m c ⟨2 * (t.val / 2) + s.val, Pipeline.run_point_lt_of_flush (J := 2) t ht s⟩ y :=
  run_sum 2 (fun n h => (outsAt0 m c n h).2) (part m c) (by decide)
    (fun u hu i => by
      rw [outsAt0_A m c u hu (by omega)]
      frame_out
      pointwise [k0_pay2]
      rfl)
    (fun u hu h1 i => absurd u.val.mod_two_eq_zero_or_one (by omega)) t ht y

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, outsAt0_B m c t (by omega) ht]
  frame_out
  simp only [read_unread_whole]
  obtain ⟨e0, e1, e2⟩ := index t
  have hp : ∀ acc, k0_pay3 (iblk m c 0 t) (iblk m c 1 t) acc y = acc y + part m c t y := by
    intro acc
    pointwise [k0_pay3]
    rfl
  rw [hp, sums m c t ht y]
  unfold value
  unfold entryR part
  idx_vars y
  pointwise [k0_pay1]
  refine Fin.sum_mul_add_congr fun s l hl => ?_
  obtain ⟨f0, f1, f2⟩ := index ⟨2 * (t.val / 2) + s.val, Pipeline.run_point_lt_of_flush (J := 2) t ht s⟩
  blk_point [iblk, V, f0, f1, e2]

/-- The kernel's result is the reference's. -/
theorem algebraic : algebraic_InZIdeal_InZRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (InZRefIdeal.Value.run (F := Ideal) m' g')⟩
  obtain ⟨e0, e1⟩ := hargs c
  rw [e0, e1]
  funext y
  idx_vars y
  unfold value entryR
  pointwise

end Cert.MulInZ

end
-- ==== Proof.MulInAb.lean ====
/-
  The call that forms the decay and the step of the delta rule before their functions: the layer's input times that
  piece of the input projection, transposed.
-/
module

public import proofs.«01_k».proof.Defs
public import proofs.«01_k».proof.Proof.Gen.InAbIdeal.Value
public import proofs.«01_k».proof.Proof.Gen.InAbRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulInAb

open Idealize.ShloMosaic Idealize.ShloMosaic.TcCoe Idealize.SL.Sem Cert.InAbIdeal Cert.InAbIdeal.Gen Cert.Products

variable (m : (ℓ : Loc nD τ sig) → Buf (Elt Ideal) ℓ)

/-- What the call ends holding, of its arguments. -/
def value (a : Mat 4096 1024) (b : Mat 128 1024) : Mat 4096 128 :=
  fun i => entryR a b (i 0) (i 1)

theorem index (t : Fin cfg0.N) : win0_0.index t = ![t.val / 2, t.val % 2] ∧ win0_1.index t = ![0, t.val % 2]
    ∧ win0_2.index t = ![t.val / 2, 0] :=
  (by decide +kernel : ∀ t : Fin grid0.N, win0_0.index t = ![t.val / 2, t.val % 2] ∧ win0_1.index t = ![0, t.val % 2]
    ∧ win0_2.index t = ![t.val / 2, 0]) t

/-- What point `t` adds: its stretch of the sum. -/
def part (c : Dev nD) (t : Fin cfg0.N) (y : S2048x128.Idx) : EReal := k0_pay1 (iblk m c 0 t) (iblk m c 1 t) y

theorem sums (c : Dev nD) (t : Fin cfg0.N) (ht : t.val % 2 = 1) (y : S2048x128.Idx) :
    (outsAt0 m c (t.val - 1) (Nat.lt_of_le_of_lt (Nat.sub_le _ _) t.isLt)).2 y + part m c t y
      = ∑ s : Fin 2, part m c ⟨2 * (t.val / 2) + s.val, Pipeline.run_point_lt_of_flush (J := 2) t ht s⟩ y :=
  run_sum 2 (fun n h => (outsAt0 m c n h).2) (part m c) (by decide)
    (fun u hu i => by
      rw [outsAt0_A m c u hu (by omega)]
      frame_out
      pointwise [k0_pay2]
      rfl)
    (fun u hu h1 i => absurd u.val.mod_two_eq_zero_or_one (by omega)) t ht y

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, outsAt0_B m c t (by omega) ht]
  frame_out
  simp only [read_unread_whole]
  obtain ⟨e0, e1, e2⟩ := index t
  have hp : ∀ acc, k0_pay3 (iblk m c 0 t) (iblk m c 1 t) acc y = acc y + part m c t y := by
    intro acc
    pointwise [k0_pay3]
    rfl
  rw [hp, sums m c t ht y]
  unfold value
  unfold entryR part
  idx_vars y
  pointwise [k0_pay1]
  refine Fin.sum_mul_add_congr fun s l hl => ?_
  obtain ⟨f0, f1, f2⟩ := index ⟨2 * (t.val / 2) + s.val, Pipeline.run_point_lt_of_flush (J := 2) t ht s⟩
  blk_point [iblk, V, f0, f1, e2]

/-- The kernel's result is the reference's. -/
theorem algebraic : algebraic_InAbIdeal_InAbRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (InAbRefIdeal.Value.run (F := Ideal) m' g')⟩
  obtain ⟨e0, e1⟩ := hargs c
  rw [e0, e1]
  funext y
  idx_vars y
  unfold value entryR
  pointwise

end Cert.MulInAb

end
-- ==== Proof.MulInDwA.lean ====
/-
  The call that forms the gradients of three pieces of the input projection: of the queries, keys and values, of the
  output gate, and of the decay and the step.
-/
module

public import proofs.«01_k».proof.Defs
public import proofs.«01_k».proof.Proof.Gen.InDwAIdeal.Value
public import proofs.«01_k».proof.Proof.Gen.InDwARefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulInDwA

open Idealize.ShloMosaic Idealize.ShloMosaic.TcCoe Idealize.SL.Sem Cert.InDwAIdeal Cert.InDwAIdeal.Gen Cert.Products

variable (m : (ℓ : Loc nD τ sig) → Buf (Elt Ideal) ℓ)

/-- What a result ends holding, of its argument and the input. -/
def value {q : ℕ} (a : Mat 4096 q) (b : Mat 4096 1024) : Mat q 1024 :=
  fun i => entryT a b (i 0) (i 1)

theorem index (t : Fin cfg0.N) : win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0]) t

/-- What point `t` adds to result 0. -/
def part0 (c : Dev nD) (t : Fin cfg0.N) (y : S1536x1024.Idx) : EReal := k0_pay2 (iblk m c 3 t) (iblk m c 0 t) y

theorem step0 (c : Dev nD) (t : Fin cfg0.N) (h : ¬t.val % 8 = 0) (y : S1536x1024.Idx) :
    (outsAt0 m c t.val t.isLt).1 y
      = (outsAt0 m c (t.val - 1) (Nat.lt_of_le_of_lt (Nat.sub_le _ _) t.isLt)).1 y + part0 m c t y := by
  rw [outsAt0_B m c t h (by omega) (by omega) (by omega) (by omega) (by omega)]
  frame_out
  pointwise [k0_pay3]
  rfl

theorem final0 (c : Dev nD) : (dats m 0 c).arrAt 4 cfg0.N = value (m ((c.tc : Thread nD τ).loc main_arg0)) (m ((c.tc : Thread nD τ).loc main_arg3)) := by
  refine (dats m 0 c).arrAt_eq_of_covers 4 _ (by decide +kernel) fun t hf y => ?_
  have ht := (flush0_4 t).mp hf
  blk_simp
  rw [after0_4, step0 m c t (by omega), run_sum 8 (fun n h => (outsAt0 m c n h).1) (part0 m c) (by decide)
    (fun u hu i => by
      have hN : u.val < 8 := u.isLt
      rw [outsAt0_A m c u hu (by omega) (by omega) (by omega) (by omega) (by omega)]
      frame_out
      rfl)
    (fun u hu _ i => step0 m c u hu i) t ht y]
  obtain ⟨e0, e1, e2, e3, e4, e5, e6⟩ := index t
  unfold value entryT part0
  idx_vars y
  pointwise [k0_pay2, k0_pay1]
  refine Fin.sum_mul_add_congr fun s l hl => ?_
  obtain ⟨f0, f1, f2, f3, f4, f5, f6⟩ := index ⟨8 * (t.val / 8) + s.val, Pipeline.run_point_lt_of_flush (J := 8) t ht s⟩
  blk_point [iblk, V, f0, f3, e4]

/-- What point `t` adds to result 1. -/
def part1 (c : Dev nD) (t : Fin cfg0.N) (y : S512x1024.Idx) : EReal := k0_pay4 (iblk m c 3 t) (iblk m c 1 t) y

theorem step1 (c : Dev nD) (t : Fin cfg0.N) (h : ¬t.val % 8 = 0) (y : S512x1024.Idx) :
    (outsAt0 m c t.val t.isLt).2.1 y
      = (outsAt0 m c (t.val - 1) (Nat.lt_of_le_of_lt (Nat.sub_le _ _) t.isLt)).2.1 y + part1 m c t y := by
  rw [outsAt0_B m c t h (by omega) (by omega) (by omega) (by omega) (by omega)]
  frame_out
  pointwise [k0_pay5]
  rfl

theorem final1 (c : Dev nD) : (dats m 0 c).arrAt 5 cfg0.N = value (m ((c.tc : Thread nD τ).loc main_arg1)) (m ((c.tc : Thread nD τ).loc main_arg3)) := by
  refine (dats m 0 c).arrAt_eq_of_covers 5 _ (by decide +kernel) fun t hf y => ?_
  have ht := (flush0_5 t).mp hf
  blk_simp
  rw [after0_5, step1 m c t (by omega), run_sum 8 (fun n h => (outsAt0 m c n h).2.1) (part1 m c) (by decide)
    (fun u hu i => by
      have hN : u.val < 8 := u.isLt
      rw [outsAt0_A m c u hu (by omega) (by omega) (by omega) (by omega) (by omega)]
      frame_out
      rfl)
    (fun u hu _ i => step1 m c u hu i) t ht y]
  obtain ⟨e0, e1, e2, e3, e4, e5, e6⟩ := index t
  unfold value entryT part1
  idx_vars y
  pointwise [k0_pay4, k0_pay1]
  refine Fin.sum_mul_add_congr fun s l hl => ?_
  obtain ⟨f0, f1, f2, f3, f4, f5, f6⟩ := index ⟨8 * (t.val / 8) + s.val, Pipeline.run_point_lt_of_flush (J := 8) t ht s⟩
  blk_point [iblk, V, f1, f3, e5]

/-- What point `t` adds to result 2. -/
def part2 (c : Dev nD) (t : Fin cfg0.N) (y : S128x1024.Idx) : EReal := k0_pay6 (iblk m c 3 t) (iblk m c 2 t) y

theorem step2 (c : Dev nD) (t : Fin cfg0.N) (h : ¬t.val % 8 = 0) (y : S128x1024.Idx) :
    (outsAt0 m c t.val t.isLt).2.2 y
      = (outsAt0 m c (t.val - 1) (Nat.lt_of_le_of_lt (Nat.sub_le _ _) t.isLt)).2.2 y + part2 m c t y := by
  rw [outsAt0_B m c t h (by omega) (by omega) (by omega) (by omega) (by omega)]
  frame_out
  pointwise [k0_pay7]
  rfl

theorem final2 (c : Dev nD) : (dats m 0 c).arrAt 6 cfg0.N = value (m ((c.tc : Thread nD τ).loc main_arg2)) (m ((c.tc : Thread nD τ).loc main_arg3)) := by
  refine (dats m 0 c).arrAt_eq_of_covers 6 _ (by decide +kernel) fun t hf y => ?_
  have ht := (flush0_6 t).mp hf
  blk_simp
  rw [after0_6, step2 m c t (by omega), run_sum 8 (fun n h => (outsAt0 m c n h).2.2) (part2 m c) (by decide)
    (fun u hu i => by
      have hN : u.val < 8 := u.isLt
      rw [outsAt0_A m c u hu (by omega) (by omega) (by omega) (by omega) (by omega)]
      frame_out
      rfl)
    (fun u hu _ i => step2 m c u hu i) t ht y]
  obtain ⟨e0, e1, e2, e3, e4, e5, e6⟩ := index t
  unfold value entryT part2
  idx_vars y
  pointwise [k0_pay6, k0_pay1]
  refine Fin.sum_mul_add_congr fun s l hl => ?_
  obtain ⟨f0, f1, f2, f3, f4, f5, f6⟩ := index ⟨8 * (t.val / 8) + s.val, Pipeline.run_point_lt_of_flush (J := 8) t ht s⟩
  blk_point [iblk, V, f2, f3, e6]

/-- The kernel's results are the reference's. -/
theorem algebraic : algebraic_InDwAIdeal_InDwARefIdeal := by
  intro m g m' g' _ hargs
  refine ⟨_, _, _, (θ_run _ _ _).mono (fun r h c => ⟨(h c).1.trans (final0 m c), (h c).2.1.trans (final1 m c), (h c).2.2.1.trans (final2 m c), (h c).2.2.2⟩) (Value.run_blocks m g),
    (θ_run _ _ _).mono (fun r h c => ⟨(h c).1.trans ?_, (h c).2.1.trans ?_, (h c).2.2.1.trans ?_, (h c).2.2.2⟩) (InDwARefIdeal.Value.run (F := Ideal) m' g')⟩
  all_goals
    obtain ⟨e0, e1, e2, e3⟩ := hargs c
    simp only [e0, e1, e2, e3]
    funext y
    idx_vars y
    unfold value entryT
    pointwise

end Cert.MulInDwA

end
-- ==== Proof.MulInDwB.lean ====
/-
  The call that forms the gradients of the other two pieces of the input projection: of the mixers' gates and of the
  pooling's input.
-/
module

public import proofs.«01_k».proof.Defs
public import proofs.«01_k».proof.Proof.Gen.InDwBIdeal.Value
public import proofs.«01_k».proof.Proof.Gen.InDwBRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulInDwB

open Idealize.ShloMosaic Idealize.ShloMosaic.TcCoe Idealize.SL.Sem Cert.InDwBIdeal Cert.InDwBIdeal.Gen Cert.Products

variable (m : (ℓ : Loc nD τ sig) → Buf (Elt Ideal) ℓ)

/-- What a result ends holding, of its argument and the input. -/
def value {q : ℕ} (a : Mat 4096 q) (b : Mat 4096 1024) : Mat q 1024 :=
  fun i => entryT a b (i 0) (i 1)

theorem index (t : Fin cfg0.N) : win0_0.index t = ![t.val, 0] ∧ win0_1.index t = ![t.val, 0] ∧ win0_2.index t = ![t.val, 0] ∧ win0_3.index t = ![0, 0] ∧ win0_4.index t = ![0, 0] :=
  (by decide +kernel : ∀ t : Fin grid0.N, win0_0.index t = ![t.val, 0] ∧ win0_1.index t = ![t.val, 0] ∧ win0_2.index t = ![t.val, 0] ∧ win0_3.index t = ![0, 0] ∧ win0_4.index t = ![0, 0]) t

/-- What point `t` adds to result 0. -/
def part0 (c : Dev nD) (t : Fin cfg0.N) (y : S2048x1024.Idx) : EReal := k0_pay2 (iblk m c 2 t) (iblk m c 0 t) y

theorem step0 (c : Dev nD) (t : Fin cfg0.N) (h : ¬t.val % 8 = 0) (y : S2048x1024.Idx) :
    (outsAt0 m c t.val t.isLt).1 y
      = (outsAt0 m c (t.val - 1) (Nat.lt_of_le_of_lt (Nat.sub_le _ _) t.isLt)).1 y + part0 m c t y := by
  rw [outsAt0_B m c t h (by omega) (by omega) (by omega)]
  frame_out
  pointwise [k0_pay3]
  rfl

theorem final0 (c : Dev nD) : (dats m 0 c).arrAt 3 cfg0.N = value (m ((c.tc : Thread nD τ).loc main_arg0)) (m ((c.tc : Thread nD τ).loc main_arg2)) := by
  refine (dats m 0 c).arrAt_eq_of_covers 3 _ (by decide +kernel) fun t hf y => ?_
  have ht := (flush0_3 t).mp hf
  blk_simp
  rw [after0_3, step0 m c t (by omega), run_sum 8 (fun n h => (outsAt0 m c n h).1) (part0 m c) (by decide)
    (fun u hu i => by
      have hN : u.val < 8 := u.isLt
      rw [outsAt0_A m c u hu (by omega) (by omega) (by omega)]
      frame_out
      rfl)
    (fun u hu _ i => step0 m c u hu i) t ht y]
  obtain ⟨e0, e1, e2, e3, e4⟩ := index t
  unfold value entryT part0
  idx_vars y
  pointwise [k0_pay2, k0_pay1]
  refine Fin.sum_mul_add_congr fun s l hl => ?_
  obtain ⟨f0, f1, f2, f3, f4⟩ := index ⟨8 * (t.val / 8) + s.val, Pipeline.run_point_lt_of_flush (J := 8) t ht s⟩
  blk_point [iblk, V, f0, f2, e3]

/-- What point `t` adds to result 1. -/
def part1 (c : Dev nD) (t : Fin cfg0.N) (y : S512x1024.Idx) : EReal := k0_pay4 (iblk m c 2 t) (iblk m c 1 t) y

theorem step1 (c : Dev nD) (t : Fin cfg0.N) (h : ¬t.val % 8 = 0) (y : S512x1024.Idx) :
    (outsAt0 m c t.val t.isLt).2 y
      = (outsAt0 m c (t.val - 1) (Nat.lt_of_le_of_lt (Nat.sub_le _ _) t.isLt)).2 y + part1 m c t y := by
  rw [outsAt0_B m c t h (by omega) (by omega) (by omega)]
  frame_out
  pointwise [k0_pay5]
  rfl

theorem final1 (c : Dev nD) : (dats m 0 c).arrAt 4 cfg0.N = value (m ((c.tc : Thread nD τ).loc main_arg1)) (m ((c.tc : Thread nD τ).loc main_arg2)) := by
  refine (dats m 0 c).arrAt_eq_of_covers 4 _ (by decide +kernel) fun t hf y => ?_
  have ht := (flush0_4 t).mp hf
  blk_simp
  rw [after0_4, step1 m c t (by omega), run_sum 8 (fun n h => (outsAt0 m c n h).2) (part1 m c) (by decide)
    (fun u hu i => by
      have hN : u.val < 8 := u.isLt
      rw [outsAt0_A m c u hu (by omega) (by omega) (by omega)]
      frame_out
      rfl)
    (fun u hu _ i => step1 m c u hu i) t ht y]
  obtain ⟨e0, e1, e2, e3, e4⟩ := index t
  unfold value entryT part1
  idx_vars y
  pointwise [k0_pay4, k0_pay1]
  refine Fin.sum_mul_add_congr fun s l hl => ?_
  obtain ⟨f0, f1, f2, f3, f4⟩ := index ⟨8 * (t.val / 8) + s.val, Pipeline.run_point_lt_of_flush (J := 8) t ht s⟩
  blk_point [iblk, V, f1, f2, e4]

/-- The kernel's results are the reference's. -/
theorem algebraic : algebraic_InDwBIdeal_InDwBRefIdeal := by
  intro m g m' g' _ hargs
  refine ⟨_, _, (θ_run _ _ _).mono (fun r h c => ⟨(h c).1.trans (final0 m c), (h c).2.1.trans (final1 m c), (h c).2.2⟩) (Value.run_blocks m g),
    (θ_run _ _ _).mono (fun r h c => ⟨(h c).1.trans ?_, (h c).2.1.trans ?_, (h c).2.2⟩) (InDwBRefIdeal.Value.run (F := Ideal) m' g')⟩
  all_goals
    obtain ⟨e0, e1, e2⟩ := hargs c
    simp only [e0, e1, e2]
    funext y
    idx_vars y
    unfold value entryT
    pointwise

end Cert.MulInDwB

end
-- ==== Proof.MulInDx.lean ====
/-
  The call that takes the five gradients of the input projection back to the layer's input: the sum of five products.
-/
module

public import proofs.«01_k».proof.Defs
public import proofs.«01_k».proof.Proof.Gen.InDxIdeal.Value
public import proofs.«01_k».proof.Proof.Gen.InDxRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulInDx

open Idealize.ShloMosaic Idealize.ShloMosaic.TcCoe Idealize.SL.Sem Cert.InDxIdeal Cert.InDxIdeal.Gen Cert.Products

variable (m : (ℓ : Loc nD τ sig) → Buf (Elt Ideal) ℓ)

/-- What the call ends holding, of its arguments. -/
def value (a0 : Mat 4096 1536) (a1 : Mat 4096 512) (a2 : Mat 4096 2048) (a3 : Mat 4096 512) (a4 : Mat 4096 128) (b0 : Mat 1536 1024) (b1 : Mat 512 1024) (b2 : Mat 2048 1024) (b3 : Mat 512 1024) (b4 : Mat 128 1024) : Mat 4096 1024 :=
  fun i => entry a0 b0 (i 0) (i 1) + entry a1 b1 (i 0) (i 1) + entry a2 b2 (i 0) (i 1) + entry a3 b3 (i 0) (i 1) + entry a4 b4 (i 0) (i 1)

theorem index (t : Fin cfg0.N) : win0_0.index t = ![t.val, 0] ∧ win0_1.index t = ![0, 0] ∧ win0_2.index t = ![t.val, 0] ∧ win0_3.index t = ![0, 0] ∧ win0_4.index t = ![t.val, 0] ∧ win0_5.index t = ![0, 0] ∧ win0_6.index t = ![t.val, 0] ∧ win0_7.index t = ![0, 0] ∧ win0_8.index t = ![t.val, 0] ∧ win0_9.index t = ![0, 0] ∧ win0_10.index t = ![t.val, 0] :=
  (by decide +kernel : ∀ t : Fin grid0.N, win0_0.index t = ![t.val, 0] ∧ win0_1.index t = ![0, 0] ∧ win0_2.index t = ![t.val, 0] ∧ win0_3.index t = ![0, 0] ∧ win0_4.index t = ![t.val, 0] ∧ win0_5.index t = ![0, 0] ∧ win0_6.index t = ![t.val, 0] ∧ win0_7.index t = ![0, 0] ∧ win0_8.index t = ![t.val, 0] ∧ win0_9.index t = ![0, 0] ∧ win0_10.index t = ![t.val, 0]) t

theorem final (c : Dev nD) : (dats m 0 c).arrAt 10 cfg0.N = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 10 _ (by decide +kernel) fun t hf y => ?_
  blk_simp
  rw [after0_10]
  frame_out
  obtain ⟨e0, e1, e2, e3, e4, e5, e6, e7, e8, e9, e10⟩ := index t
  unfold value entry
  idx_vars y
  pointwise [k0_pay1]
  blk_point [iblk, V, e0, e1, e2, e3, e4, e5, e6, e7, e8, e9, e10]

/-- The kernel's result is the reference's. -/
theorem algebraic : algebraic_InDxIdeal_InDxRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (InDxRefIdeal.Value.run (F := Ideal) m' g')⟩
  obtain ⟨e0, e1, e2, e3, e4, e5, e6, e7, e8, e9⟩ := hargs c
  rw [e0, e1, e2, e3, e4, e5, e6, e7, e8, e9]
  funext y
  idx_vars y
  unfold value entry
  pointwise
  ac_rfl

end Cert.MulInDx

end
-- ==== Proof.MulBranch.lean ====
/-
  The call that takes either mixer's output to the model's width.
-/
module

public import proofs.«01_k».proof.Defs
public import proofs.«01_k».proof.Proof.Gen.BranchIdeal.Value
public import proofs.«01_k».proof.Proof.Gen.BranchRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulBranch

open Idealize.ShloMosaic Idealize.ShloMosaic.TcCoe Idealize.SL.Sem Cert.BranchIdeal Cert.BranchIdeal.Gen Cert.Products

variable (m : (ℓ : Loc nD τ sig) → Buf (Elt Ideal) ℓ)

/-- What the call ends holding, of its arguments. -/
def value (a : Mat 4096 512) (b : Mat 1024 512) : Mat 4096 1024 :=
  fun i => entryR a b (i 0) (i 1)

theorem index (t : Fin cfg0.N) : win0_0.index t = ![t.val, 0] ∧ win0_1.index t = ![0, 0]
    ∧ win0_2.index t = ![t.val, 0] :=
  (by decide +kernel : ∀ t : Fin grid0.N, win0_0.index t = ![t.val, 0] ∧ win0_1.index t = ![0, 0]
    ∧ win0_2.index t = ![t.val, 0]) t

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨e0, e1, e2⟩ := index t
  unfold value entryR
  idx_vars y
  pointwise [k0_pay1]
  blk_point [iblk, V, e0, e1, e2]

/-- The kernel's result is the reference's. -/
theorem algebraic : algebraic_BranchIdeal_BranchRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (BranchRefIdeal.Value.run (F := Ideal) m' g')⟩
  obtain ⟨e0, e1⟩ := hargs c
  rw [e0, e1]
  funext y
  idx_vars y
  unfold value entryR
  pointwise

end Cert.MulBranch

end
-- ==== Proof.MulBranchDw.lean ====
/-
  The call that forms the gradient of either mixer's projection.
-/
module

public import proofs.«01_k».proof.Defs
public import proofs.«01_k».proof.Proof.Gen.BranchDwIdeal.Value
public import proofs.«01_k».proof.Proof.Gen.BranchDwRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulBranchDw

open Idealize.ShloMosaic Idealize.ShloMosaic.TcCoe Idealize.SL.Sem Cert.BranchDwIdeal Cert.BranchDwIdeal.Gen Cert.Products

variable (m : (ℓ : Loc nD τ sig) → Buf (Elt Ideal) ℓ)

/-- What the call ends holding, of its arguments. -/
def value (a : Mat 4096 1024) (b : Mat 4096 512) : Mat 1024 512 :=
  fun i => entryT a b (i 0) (i 1)

theorem index (t : Fin cfg0.N) : win0_0.index t = ![t.val % 4, t.val / 4] ∧ win0_1.index t = ![t.val % 4, 0]
    ∧ win0_2.index t = ![t.val / 4, 0] :=
  (by decide +kernel : ∀ t : Fin grid0.N, win0_0.index t = ![t.val % 4, t.val / 4] ∧ win0_1.index t = ![t.val % 4, 0]
    ∧ win0_2.index t = ![t.val / 4, 0]) t

/-- What point `t` adds: its stretch of the sum. -/
def part (c : Dev nD) (t : Fin cfg0.N) (y : S1024x512.Idx) : EReal := k0_pay1 (iblk m c 0 t) (iblk m c 1 t) y

theorem sums (c : Dev nD) (t : Fin cfg0.N) (ht : t.val % 4 = 3) (y : S1024x512.Idx) :
    (outsAt0 m c (t.val - 1) (Nat.lt_of_le_of_lt (Nat.sub_le _ _) t.isLt)).2 y + part m c t y
      = ∑ s : Fin 4, part m c ⟨4 * (t.val / 4) + s.val, Pipeline.run_point_lt_of_flush (J := 4) t ht s⟩ y :=
  run_sum 4 (fun n h => (outsAt0 m c n h).2) (part m c) (by decide)
    (fun u hu i => by
      rw [outsAt0_A m c u hu (by omega) (by omega)]
      frame_out
      pointwise [k0_pay2]
      rfl)
    (fun u hu h3 i => by
      rw [outsAt0_B m c u hu (by omega) (by omega)]
      frame_out
      simp only [read_unread_whole]
      pointwise [k0_pay3]
      rfl) t ht y

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, outsAt0_C m c t (by omega) (by omega) ht]
  frame_out
  simp only [read_unread_whole]
  obtain ⟨e0, e1, e2⟩ := index t
  have hp : ∀ acc, k0_pay4 (iblk m c 0 t) (iblk m c 1 t) acc y = acc y + part m c t y := by
    intro acc
    pointwise [k0_pay4]
    rfl
  rw [hp, sums m c t ht y]
  unfold value
  unfold entryT part
  idx_vars y
  pointwise [k0_pay1]
  refine Fin.sum_mul_add_congr fun s l hl => ?_
  obtain ⟨f0, f1, f2⟩ := index ⟨4 * (t.val / 4) + s.val, Pipeline.run_point_lt_of_flush (J := 4) t ht s⟩
  blk_point [iblk, V, f0, f1, e2]

/-- The kernel's result is the reference's. -/
theorem algebraic : algebraic_BranchDwIdeal_BranchDwRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (BranchDwRefIdeal.Value.run (F := Ideal) m' g')⟩
  obtain ⟨e0, e1⟩ := hargs c
  rw [e0, e1]
  funext y
  idx_vars y
  unfold value entryT
  pointwise

end Cert.MulBranchDw

end
-- ==== Proof.MulBranchDx.lean ====
/-
  The call that takes the gradient at either mixer's projection back to the mixer's output.
-/
module

public import proofs.«01_k».proof.Defs
public import proofs.«01_k».proof.Proof.Gen.BranchDxIdeal.Value
public import proofs.«01_k».proof.Proof.Gen.BranchDxRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulBranchDx

open Idealize.ShloMosaic Idealize.ShloMosaic.TcCoe Idealize.SL.Sem Cert.BranchDxIdeal Cert.BranchDxIdeal.Gen Cert.Products

variable (m : (ℓ : Loc nD τ sig) → Buf (Elt Ideal) ℓ)

/-- What the call ends holding, of its arguments. -/
def value (a : Mat 4096 1024) (b : Mat 1024 512) : Mat 4096 512 :=
  fun i => entry a b (i 0) (i 1)

theorem index (t : Fin cfg0.N) : win0_0.index t = ![t.val / 2, t.val % 2] ∧ win0_1.index t = ![t.val % 2, 0]
    ∧ win0_2.index t = ![t.val / 2, 0] :=
  (by decide +kernel : ∀ t : Fin grid0.N, win0_0.index t = ![t.val / 2, t.val % 2] ∧ win0_1.index t = ![t.val % 2, 0]
    ∧ win0_2.index t = ![t.val / 2, 0]) t

/-- What point `t` adds: its stretch of the sum. -/
def part (c : Dev nD) (t : Fin cfg0.N) (y : S2048x512.Idx) : EReal := k0_pay1 (iblk m c 0 t) (iblk m c 1 t) y

theorem sums (c : Dev nD) (t : Fin cfg0.N) (ht : t.val % 2 = 1) (y : S2048x512.Idx) :
    (outsAt0 m c (t.val - 1) (Nat.lt_of_le_of_lt (Nat.sub_le _ _) t.isLt)).2 y + part m c t y
      = ∑ s : Fin 2, part m c ⟨2 * (t.val / 2) + s.val, Pipeline.run_point_lt_of_flush (J := 2) t ht s⟩ y :=
  run_sum 2 (fun n h => (outsAt0 m c n h).2) (part m c) (by decide)
    (fun u hu i => by
      rw [outsAt0_A m c u hu (by omega)]
      frame_out
      pointwise [k0_pay2]
      rfl)
    (fun u hu h1 i => absurd u.val.mod_two_eq_zero_or_one (by omega)) t ht y

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, outsAt0_B m c t (by omega) ht]
  frame_out
  simp only [read_unread_whole]
  obtain ⟨e0, e1, e2⟩ := index t
  have hp : ∀ acc, k0_pay3 (iblk m c 0 t) (iblk m c 1 t) acc y = acc y + part m c t y := by
    intro acc
    pointwise [k0_pay3]
    rfl
  rw [hp, sums m c t ht y]
  unfold value
  unfold entry part
  idx_vars y
  pointwise [k0_pay1]
  refine Fin.sum_mul_add_congr fun s l hl => ?_
  obtain ⟨f0, f1, f2⟩ := index ⟨2 * (t.val / 2) + s.val, Pipeline.run_point_lt_of_flush (J := 2) t ht s⟩
  blk_point [iblk, V, f0, f1, e2]

/-- The kernel's result is the reference's. -/
theorem algebraic : algebraic_BranchDxIdeal_BranchDxRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (BranchDxRefIdeal.Value.run (F := Ideal) m' g')⟩
  obtain ⟨e0, e1⟩ := hargs c
  rw [e0, e1]
  funext y
  idx_vars y
  unfold value entry
  pointwise

end Cert.MulBranchDx

end
-- ==== Proof.MulOut.lean ====
/-
  The call of an output projection, of the mixers or of the cross-attention, and of the cross-attention's queries.
-/
module

public import proofs.«01_k».proof.Defs
public import proofs.«01_k».proof.Proof.Gen.OutIdeal.Value
public import proofs.«01_k».proof.Proof.Gen.OutRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulOut

open Idealize.ShloMosaic Idealize.ShloMosaic.TcCoe Idealize.SL.Sem Cert.OutIdeal Cert.OutIdeal.Gen Cert.Products

variable (m : (ℓ : Loc nD τ sig) → Buf (Elt Ideal) ℓ)

/-- What the call ends holding, of its arguments. -/
def value (a : Mat 4096 1024) (b : Mat 1024 1024) : Mat 4096 1024 :=
  fun i => entry a b (i 0) (i 1)

theorem index (t : Fin cfg0.N) : win0_0.index t = ![t.val / 2, t.val % 2] ∧ win0_1.index t = ![t.val % 2, 0]
    ∧ win0_2.index t = ![t.val / 2, 0] :=
  (by decide +kernel : ∀ t : Fin grid0.N, win0_0.index t = ![t.val / 2, t.val % 2] ∧ win0_1.index t = ![t.val % 2, 0]
    ∧ win0_2.index t = ![t.val / 2, 0]) t

/-- What point `t` adds: its stretch of the sum. -/
def part (c : Dev nD) (t : Fin cfg0.N) (y : S2048x1024.Idx) : EReal := k0_pay1 (iblk m c 0 t) (iblk m c 1 t) y

theorem sums (c : Dev nD) (t : Fin cfg0.N) (ht : t.val % 2 = 1) (y : S2048x1024.Idx) :
    (outsAt0 m c (t.val - 1) (Nat.lt_of_le_of_lt (Nat.sub_le _ _) t.isLt)).2 y + part m c t y
      = ∑ s : Fin 2, part m c ⟨2 * (t.val / 2) + s.val, Pipeline.run_point_lt_of_flush (J := 2) t ht s⟩ y :=
  run_sum 2 (fun n h => (outsAt0 m c n h).2) (part m c) (by decide)
    (fun u hu i => by
      rw [outsAt0_A m c u hu (by omega)]
      frame_out
      pointwise [k0_pay2]
      rfl)
    (fun u hu h1 i => absurd u.val.mod_two_eq_zero_or_one (by omega)) t ht y

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, outsAt0_B m c t (by omega) ht]
  frame_out
  simp only [read_unread_whole]
  obtain ⟨e0, e1, e2⟩ := index t
  have hp : ∀ acc, k0_pay3 (iblk m c 0 t) (iblk m c 1 t) acc y = acc y + part m c t y := by
    intro acc
    pointwise [k0_pay3]
    rfl
  rw [hp, sums m c t ht y]
  unfold value
  unfold entry part
  idx_vars y
  pointwise [k0_pay1]
  refine Fin.sum_mul_add_congr fun s l hl => ?_
  obtain ⟨f0, f1, f2⟩ := index ⟨2 * (t.val / 2) + s.val, Pipeline.run_point_lt_of_flush (J := 2) t ht s⟩
  blk_point [iblk, V, f0, f1, e2]

/-- The kernel's result is the reference's. -/
theorem algebraic : algebraic_OutIdeal_OutRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (OutRefIdeal.Value.run (F := Ideal) m' g')⟩
  obtain ⟨e0, e1⟩ := hargs c
  rw [e0, e1]
  funext y
  idx_vars y
  unfold value entry
  pointwise

end Cert.MulOut

end
-- ==== Proof.MulOutDw.lean ====
/-
  The call that forms the gradient of an output projection, of the mixers or of the cross-attention.
-/
module

public import proofs.«01_k».proof.Defs
public import proofs.«01_k».proof.Proof.Gen.OutDwIdeal.Value
public import proofs.«01_k».proof.Proof.Gen.OutDwRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulOutDw

open Idealize.ShloMosaic Idealize.ShloMosaic.TcCoe Idealize.SL.Sem Cert.OutDwIdeal Cert.OutDwIdeal.Gen Cert.Products

variable (m : (ℓ : Loc nD τ sig) → Buf (Elt Ideal) ℓ)

/-- What the call ends holding, of its arguments. -/
def value (a : Mat 4096 1024) (b : Mat 4096 1024) : Mat 1024 1024 :=
  fun i => entryT a b (i 0) (i 1)

theorem index (t : Fin cfg0.N) : win0_0.index t = ![t.val % 4, t.val / 4] ∧ win0_1.index t = ![t.val % 4, 0]
    ∧ win0_2.index t = ![t.val / 4, 0] :=
  (by decide +kernel : ∀ t : Fin grid0.N, win0_0.index t = ![t.val % 4, t.val / 4] ∧ win0_1.index t = ![t.val % 4, 0]
    ∧ win0_2.index t = ![t.val / 4, 0]) t

/-- What point `t` adds: its stretch of the sum. -/
def part (c : Dev nD) (t : Fin cfg0.N) (y : S1024x1024.Idx) : EReal := k0_pay1 (iblk m c 0 t) (iblk m c 1 t) y

theorem sums (c : Dev nD) (t : Fin cfg0.N) (ht : t.val % 4 = 3) (y : S1024x1024.Idx) :
    (outsAt0 m c (t.val - 1) (Nat.lt_of_le_of_lt (Nat.sub_le _ _) t.isLt)).2 y + part m c t y
      = ∑ s : Fin 4, part m c ⟨4 * (t.val / 4) + s.val, Pipeline.run_point_lt_of_flush (J := 4) t ht s⟩ y :=
  run_sum 4 (fun n h => (outsAt0 m c n h).2) (part m c) (by decide)
    (fun u hu i => by
      rw [outsAt0_A m c u hu (by omega) (by omega)]
      frame_out
      pointwise [k0_pay2]
      rfl)
    (fun u hu h3 i => by
      rw [outsAt0_B m c u hu (by omega) (by omega)]
      frame_out
      simp only [read_unread_whole]
      pointwise [k0_pay3]
      rfl) t ht y

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, outsAt0_C m c t (by omega) (by omega) ht]
  frame_out
  simp only [read_unread_whole]
  obtain ⟨e0, e1, e2⟩ := index t
  have hp : ∀ acc, k0_pay4 (iblk m c 0 t) (iblk m c 1 t) acc y = acc y + part m c t y := by
    intro acc
    pointwise [k0_pay4]
    rfl
  rw [hp, sums m c t ht y]
  unfold value
  unfold entryT part
  idx_vars y
  pointwise [k0_pay1]
  refine Fin.sum_mul_add_congr fun s l hl => ?_
  obtain ⟨f0, f1, f2⟩ := index ⟨4 * (t.val / 4) + s.val, Pipeline.run_point_lt_of_flush (J := 4) t ht s⟩
  blk_point [iblk, V, f0, f1, e2]

/-- The kernel's result is the reference's. -/
theorem algebraic : algebraic_OutDwIdeal_OutDwRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (OutDwRefIdeal.Value.run (F := Ideal) m' g')⟩
  obtain ⟨e0, e1⟩ := hargs c
  rw [e0, e1]
  funext y
  idx_vars y
  unfold value entryT
  pointwise
  exact Finset.sum_congr rfl fun _ _ => mul_comm _ _

end Cert.MulOutDw

end
-- ==== Proof.MulOutDx.lean ====
/-
  The call that takes a gradient back through an output projection, of the mixers or of the cross-attention.
-/
module

public import proofs.«01_k».proof.Defs
public import proofs.«01_k».proof.Proof.Gen.OutDxIdeal.Value
public import proofs.«01_k».proof.Proof.Gen.OutDxRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulOutDx

open Idealize.ShloMosaic Idealize.ShloMosaic.TcCoe Idealize.SL.Sem Cert.OutDxIdeal Cert.OutDxIdeal.Gen Cert.Products

variable (m : (ℓ : Loc nD τ sig) → Buf (Elt Ideal) ℓ)

/-- What the call ends holding, of its arguments. -/
def value (a : Mat 4096 1024) (b : Mat 1024 1024) : Mat 4096 1024 :=
  fun i => entryR a b (i 0) (i 1)

theorem index (t : Fin cfg0.N) : win0_0.index t = ![t.val / 2, t.val % 2] ∧ win0_1.index t = ![0, t.val % 2]
    ∧ win0_2.index t = ![t.val / 2, 0] :=
  (by decide +kernel : ∀ t : Fin grid0.N, win0_0.index t = ![t.val / 2, t.val % 2] ∧ win0_1.index t = ![0, t.val % 2]
    ∧ win0_2.index t = ![t.val / 2, 0]) t

/-- What point `t` adds: its stretch of the sum. -/
def part (c : Dev nD) (t : Fin cfg0.N) (y : S2048x1024.Idx) : EReal := k0_pay1 (iblk m c 0 t) (iblk m c 1 t) y

theorem sums (c : Dev nD) (t : Fin cfg0.N) (ht : t.val % 2 = 1) (y : S2048x1024.Idx) :
    (outsAt0 m c (t.val - 1) (Nat.lt_of_le_of_lt (Nat.sub_le _ _) t.isLt)).2 y + part m c t y
      = ∑ s : Fin 2, part m c ⟨2 * (t.val / 2) + s.val, Pipeline.run_point_lt_of_flush (J := 2) t ht s⟩ y :=
  run_sum 2 (fun n h => (outsAt0 m c n h).2) (part m c) (by decide)
    (fun u hu i => by
      rw [outsAt0_A m c u hu (by omega)]
      frame_out
      pointwise [k0_pay2]
      rfl)
    (fun u hu h1 i => absurd u.val.mod_two_eq_zero_or_one (by omega)) t ht y

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, outsAt0_B m c t (by omega) ht]
  frame_out
  simp only [read_unread_whole]
  obtain ⟨e0, e1, e2⟩ := index t
  have hp : ∀ acc, k0_pay3 (iblk m c 0 t) (iblk m c 1 t) acc y = acc y + part m c t y := by
    intro acc
    pointwise [k0_pay3]
    rfl
  rw [hp, sums m c t ht y]
  unfold value
  unfold entryR part
  idx_vars y
  pointwise [k0_pay1]
  refine Fin.sum_mul_add_congr fun s l hl => ?_
  obtain ⟨f0, f1, f2⟩ := index ⟨2 * (t.val / 2) + s.val, Pipeline.run_point_lt_of_flush (J := 2) t ht s⟩
  blk_point [iblk, V, f0, f1, e2]

/-- The kernel's result is the reference's. -/
theorem algebraic : algebraic_OutDxIdeal_OutDxRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (OutDxRefIdeal.Value.run (F := Ideal) m' g')⟩
  obtain ⟨e0, e1⟩ := hargs c
  rw [e0, e1]
  funext y
  idx_vars y
  unfold value entryR
  pointwise

end Cert.MulOutDx

end
-- ==== Proof.MulQueryDw.lean ====
/-
  The call that forms the gradient of the cross-attention's query projection.
-/
module

public import proofs.«01_k».proof.Defs
public import proofs.«01_k».proof.Proof.Gen.QueryDwIdeal.Value
public import proofs.«01_k».proof.Proof.Gen.QueryDwRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulQueryDw

open Idealize.ShloMosaic Idealize.ShloMosaic.TcCoe Idealize.SL.Sem Cert.QueryDwIdeal Cert.QueryDwIdeal.Gen Cert.Products

variable (m : (ℓ : Loc nD τ sig) → Buf (Elt Ideal) ℓ)

/-- What the call ends holding, of its arguments. -/
def value (a : Mat 4096 1024) (b : Mat 4096 1024) : Mat 1024 1024 :=
  fun i => entryT a b (i 0) (i 1)

theorem index (t : Fin cfg0.N) : win0_0.index t = ![t.val % 4, t.val / 4] ∧ win0_1.index t = ![t.val % 4, 0]
    ∧ win0_2.index t = ![t.val / 4, 0] :=
  (by decide +kernel : ∀ t : Fin grid0.N, win0_0.index t = ![t.val % 4, t.val / 4] ∧ win0_1.index t = ![t.val % 4, 0]
    ∧ win0_2.index t = ![t.val / 4, 0]) t

/-- What point `t` adds: its stretch of the sum. -/
def part (c : Dev nD) (t : Fin cfg0.N) (y : S1024x1024.Idx) : EReal := k0_pay1 (iblk m c 0 t) (iblk m c 1 t) y

theorem sums (c : Dev nD) (t : Fin cfg0.N) (ht : t.val % 4 = 3) (y : S1024x1024.Idx) :
    (outsAt0 m c (t.val - 1) (Nat.lt_of_le_of_lt (Nat.sub_le _ _) t.isLt)).2 y + part m c t y
      = ∑ s : Fin 4, part m c ⟨4 * (t.val / 4) + s.val, Pipeline.run_point_lt_of_flush (J := 4) t ht s⟩ y :=
  run_sum 4 (fun n h => (outsAt0 m c n h).2) (part m c) (by decide)
    (fun u hu i => by
      rw [outsAt0_A m c u hu (by omega) (by omega)]
      frame_out
      pointwise [k0_pay2]
      rfl)
    (fun u hu h3 i => by
      rw [outsAt0_B m c u hu (by omega) (by omega)]
      frame_out
      simp only [read_unread_whole]
      pointwise [k0_pay3]
      rfl) t ht y

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, outsAt0_C m c t (by omega) (by omega) ht]
  frame_out
  simp only [read_unread_whole]
  obtain ⟨e0, e1, e2⟩ := index t
  have hp : ∀ acc, k0_pay4 (iblk m c 0 t) (iblk m c 1 t) acc y = acc y + part m c t y := by
    intro acc
    pointwise [k0_pay4]
    rfl
  rw [hp, sums m c t ht y]
  unfold value
  unfold entryT part
  idx_vars y
  pointwise [k0_pay1]
  refine Fin.sum_mul_add_congr fun s l hl => ?_
  obtain ⟨f0, f1, f2⟩ := index ⟨4 * (t.val / 4) + s.val, Pipeline.run_point_lt_of_flush (J := 4) t ht s⟩
  blk_point [iblk, V, f0, f1, e2]

/-- The kernel's result is the reference's. -/
theorem algebraic : algebraic_QueryDwIdeal_QueryDwRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (QueryDwRefIdeal.Value.run (F := Ideal) m' g')⟩
  obtain ⟨e0, e1⟩ := hargs c
  rw [e0, e1]
  funext y
  idx_vars y
  unfold value entryT
  pointwise
  exact Finset.sum_congr rfl fun _ _ => mul_comm _ _

end Cert.MulQueryDw

end
-- ==== Proof.MulQueryDx.lean ====
/-
  The call that takes the gradient of the cross-attention's queries back to its input.
-/
module

public import proofs.«01_k».proof.Defs
public import proofs.«01_k».proof.Proof.Gen.QueryDxIdeal.Value
public import proofs.«01_k».proof.Proof.Gen.QueryDxRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulQueryDx

open Idealize.ShloMosaic Idealize.ShloMosaic.TcCoe Idealize.SL.Sem Cert.QueryDxIdeal Cert.QueryDxIdeal.Gen Cert.Products

variable (m : (ℓ : Loc nD τ sig) → Buf (Elt Ideal) ℓ)

/-- What the call ends holding, of its arguments. -/
def value (a : Mat 4096 1024) (b : Mat 1024 1024) : Mat 4096 1024 :=
  fun i => entryR a b (i 0) (i 1)

theorem index (t : Fin cfg0.N) : win0_0.index t = ![t.val / 2, t.val % 2] ∧ win0_1.index t = ![0, t.val % 2]
    ∧ win0_2.index t = ![t.val / 2, 0] :=
  (by decide +kernel : ∀ t : Fin grid0.N, win0_0.index t = ![t.val / 2, t.val % 2] ∧ win0_1.index t = ![0, t.val % 2]
    ∧ win0_2.index t = ![t.val / 2, 0]) t

/-- What point `t` adds: its stretch of the sum. -/
def part (c : Dev nD) (t : Fin cfg0.N) (y : S2048x1024.Idx) : EReal := k0_pay1 (iblk m c 0 t) (iblk m c 1 t) y

theorem sums (c : Dev nD) (t : Fin cfg0.N) (ht : t.val % 2 = 1) (y : S2048x1024.Idx) :
    (outsAt0 m c (t.val - 1) (Nat.lt_of_le_of_lt (Nat.sub_le _ _) t.isLt)).2 y + part m c t y
      = ∑ s : Fin 2, part m c ⟨2 * (t.val / 2) + s.val, Pipeline.run_point_lt_of_flush (J := 2) t ht s⟩ y :=
  run_sum 2 (fun n h => (outsAt0 m c n h).2) (part m c) (by decide)
    (fun u hu i => by
      rw [outsAt0_A m c u hu (by omega)]
      frame_out
      pointwise [k0_pay2]
      rfl)
    (fun u hu h1 i => absurd u.val.mod_two_eq_zero_or_one (by omega)) t ht y

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, outsAt0_B m c t (by omega) ht]
  frame_out
  simp only [read_unread_whole]
  obtain ⟨e0, e1, e2⟩ := index t
  have hp : ∀ acc, k0_pay3 (iblk m c 0 t) (iblk m c 1 t) acc y = acc y + part m c t y := by
    intro acc
    pointwise [k0_pay3]
    rfl
  rw [hp, sums m c t ht y]
  unfold value
  unfold entryR part
  idx_vars y
  pointwise [k0_pay1]
  refine Fin.sum_mul_add_congr fun s l hl => ?_
  obtain ⟨f0, f1, f2⟩ := index ⟨2 * (t.val / 2) + s.val, Pipeline.run_point_lt_of_flush (J := 2) t ht s⟩
  blk_point [iblk, V, f0, f1, e2]

/-- The kernel's result is the reference's. -/
theorem algebraic : algebraic_QueryDxIdeal_QueryDxRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (QueryDxRefIdeal.Value.run (F := Ideal) m' g')⟩
  obtain ⟨e0, e1⟩ := hargs c
  rw [e0, e1]
  funext y
  idx_vars y
  unfold value entryR
  pointwise

end Cert.MulQueryDx

end
-- ==== Proof.MulMemKv.lean ====
/-
  The call that forms the cross-attention's keys, or its values, of the memory.
-/
module

public import proofs.«01_k».proof.Defs
public import proofs.«01_k».proof.Proof.Gen.MemKvIdeal.Value
public import proofs.«01_k».proof.Proof.Gen.MemKvRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulMemKv

open Idealize.ShloMosaic Idealize.ShloMosaic.TcCoe Idealize.SL.Sem Cert.MemKvIdeal Cert.MemKvIdeal.Gen Cert.Products

variable (m : (ℓ : Loc nD τ sig) → Buf (Elt Ideal) ℓ)

/-- What the call ends holding, of its arguments. -/
def value (a : Mat 256 1024) (b : Mat 1024 1024) : Mat 256 1024 :=
  fun i => entry a b (i 0) (i 1)

theorem index (t : Fin cfg0.N) : win0_0.index t = ![t.val / 2, t.val % 2] ∧ win0_1.index t = ![t.val % 2, 0]
    ∧ win0_2.index t = ![t.val / 2, 0] :=
  (by decide +kernel : ∀ t : Fin grid0.N, win0_0.index t = ![t.val / 2, t.val % 2] ∧ win0_1.index t = ![t.val % 2, 0]
    ∧ win0_2.index t = ![t.val / 2, 0]) t

/-- What point `t` adds: its stretch of the sum. -/
def part (c : Dev nD) (t : Fin cfg0.N) (y : S256x1024.Idx) : EReal := k0_pay1 (iblk m c 0 t) (iblk m c 1 t) y

theorem sums (c : Dev nD) (t : Fin cfg0.N) (ht : t.val % 2 = 1) (y : S256x1024.Idx) :
    (outsAt0 m c (t.val - 1) (Nat.lt_of_le_of_lt (Nat.sub_le _ _) t.isLt)).2 y + part m c t y
      = ∑ s : Fin 2, part m c ⟨2 * (t.val / 2) + s.val, Pipeline.run_point_lt_of_flush (J := 2) t ht s⟩ y :=
  run_sum 2 (fun n h => (outsAt0 m c n h).2) (part m c) (by decide)
    (fun u hu i => by
      rw [outsAt0_A m c u hu (by omega)]
      frame_out
      pointwise [k0_pay2]
      rfl)
    (fun u hu h1 i => absurd u.val.mod_two_eq_zero_or_one (by omega)) t ht y

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, outsAt0_B m c t (by omega) ht]
  frame_out
  simp only [read_unread_whole]
  obtain ⟨e0, e1, e2⟩ := index t
  have hp : ∀ acc, k0_pay3 (iblk m c 0 t) (iblk m c 1 t) acc y = acc y + part m c t y := by
    intro acc
    pointwise [k0_pay3]
    rfl
  rw [hp, sums m c t ht y]
  unfold value
  unfold entry part
  idx_vars y
  pointwise [k0_pay1]
  refine Fin.sum_mul_add_congr fun s l hl => ?_
  obtain ⟨f0, f1, f2⟩ := index ⟨2 * (t.val / 2) + s.val, Pipeline.run_point_lt_of_flush (J := 2) t ht s⟩
  blk_point [iblk, V, f0, f1, e2]

/-- The kernel's result is the reference's. -/
theorem algebraic : algebraic_MemKvIdeal_MemKvRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (MemKvRefIdeal.Value.run (F := Ideal) m' g')⟩
  obtain ⟨e0, e1⟩ := hargs c
  rw [e0, e1]
  funext y
  idx_vars y
  unfold value entry
  pointwise

end Cert.MulMemKv

end
-- ==== Proof.MulMemDw.lean ====
/-
  The call that forms the gradient of the cross-attention's key projection, or of its value projection.
-/
module

public import proofs.«01_k».proof.Defs
public import proofs.«01_k».proof.Proof.Gen.MemDwIdeal.Value
public import proofs.«01_k».proof.Proof.Gen.MemDwRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulMemDw

open Idealize.ShloMosaic Idealize.ShloMosaic.TcCoe Idealize.SL.Sem Cert.MemDwIdeal Cert.MemDwIdeal.Gen Cert.Products

variable (m : (ℓ : Loc nD τ sig) → Buf (Elt Ideal) ℓ)

/-- What the call ends holding, of its arguments. -/
def value (a : Mat 256 1024) (b : Mat 256 1024) : Mat 1024 1024 :=
  fun i => entryT a b (i 0) (i 1)

theorem index (t : Fin cfg0.N) : win0_0.index t = ![0, 0] ∧ win0_1.index t = ![0, t.val]
    ∧ win0_2.index t = ![0, t.val] :=
  (by decide +kernel : ∀ t : Fin grid0.N, win0_0.index t = ![0, 0] ∧ win0_1.index t = ![0, t.val]
    ∧ win0_2.index t = ![0, t.val]) t

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  obtain ⟨e0, e1, e2⟩ := index t
  unfold value entryT
  idx_vars y
  pointwise [k0_pay1]
  blk_point [iblk, V, e0, e1, e2]

/-- The kernel's result is the reference's. -/
theorem algebraic : algebraic_MemDwIdeal_MemDwRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (MemDwRefIdeal.Value.run (F := Ideal) m' g')⟩
  obtain ⟨e0, e1⟩ := hargs c
  rw [e0, e1]
  funext y
  idx_vars y
  unfold value entryT
  pointwise
  exact Finset.sum_congr rfl fun _ _ => mul_comm _ _

end Cert.MulMemDw

end
-- ==== Proof.MulMemDk.lean ====
/-
  The call that takes the gradient of the cross-attention's keys back to the memory.
-/
module

public import proofs.«01_k».proof.Defs
public import proofs.«01_k».proof.Proof.Gen.MemDkIdeal.Value
public import proofs.«01_k».proof.Proof.Gen.MemDkRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulMemDk

open Idealize.ShloMosaic Idealize.ShloMosaic.TcCoe Idealize.SL.Sem Cert.MemDkIdeal Cert.MemDkIdeal.Gen Cert.Products

variable (m : (ℓ : Loc nD τ sig) → Buf (Elt Ideal) ℓ)

/-- What the call ends holding, of its arguments. -/
def value (a : Mat 256 1024) (b : Mat 1024 1024) : Mat 256 1024 :=
  fun i => entryR a b (i 0) (i 1)

theorem index (t : Fin cfg0.N) : win0_0.index t = ![t.val / 2, t.val % 2] ∧ win0_1.index t = ![0, t.val % 2]
    ∧ win0_2.index t = ![t.val / 2, 0] :=
  (by decide +kernel : ∀ t : Fin grid0.N, win0_0.index t = ![t.val / 2, t.val % 2] ∧ win0_1.index t = ![0, t.val % 2]
    ∧ win0_2.index t = ![t.val / 2, 0]) t

/-- What point `t` adds: its stretch of the sum. -/
def part (c : Dev nD) (t : Fin cfg0.N) (y : S256x1024.Idx) : EReal := k0_pay1 (iblk m c 0 t) (iblk m c 1 t) y

theorem sums (c : Dev nD) (t : Fin cfg0.N) (ht : t.val % 2 = 1) (y : S256x1024.Idx) :
    (outsAt0 m c (t.val - 1) (Nat.lt_of_le_of_lt (Nat.sub_le _ _) t.isLt)).2 y + part m c t y
      = ∑ s : Fin 2, part m c ⟨2 * (t.val / 2) + s.val, Pipeline.run_point_lt_of_flush (J := 2) t ht s⟩ y :=
  run_sum 2 (fun n h => (outsAt0 m c n h).2) (part m c) (by decide)
    (fun u hu i => by
      rw [outsAt0_A m c u hu (by omega)]
      frame_out
      pointwise [k0_pay2]
      rfl)
    (fun u hu h1 i => absurd u.val.mod_two_eq_zero_or_one (by omega)) t ht y

theorem final (c : Dev nD) : (dats m 0 c).arrAt 2 cfg0.N = value (m ((c.tc : Thread nD τ).loc main_arg0)) (m ((c.tc : Thread nD τ).loc main_arg1)) := by
  refine (dats m 0 c).arrAt_eq_of_covers 2 _ (by decide +kernel) fun t hf y => ?_
  have ht := (flush0_2 t).mp hf
  blk_simp
  rw [after0_2, outsAt0_B m c t (by omega) ht]
  frame_out
  simp only [read_unread_whole]
  obtain ⟨e0, e1, e2⟩ := index t
  have hp : ∀ acc, k0_pay3 (iblk m c 0 t) (iblk m c 1 t) acc y = acc y + part m c t y := by
    intro acc
    pointwise [k0_pay3]
    rfl
  rw [hp, sums m c t ht y]
  unfold value
  unfold entryR part
  idx_vars y
  pointwise [k0_pay1]
  refine Fin.sum_mul_add_congr fun s l hl => ?_
  obtain ⟨f0, f1, f2⟩ := index ⟨2 * (t.val / 2) + s.val, Pipeline.run_point_lt_of_flush (J := 2) t ht s⟩
  blk_point [iblk, V, f0, f1, e2]

/-- The kernel's result is the reference's. -/
theorem algebraic : algebraic_MemDkIdeal_MemDkRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (MemDkRefIdeal.Value.run (F := Ideal) m' g')⟩
  obtain ⟨e0, e1⟩ := hargs c
  rw [e0, e1]
  funext y
  idx_vars y
  unfold value entryR
  pointwise

end Cert.MulMemDk

end
-- ==== Proof.MulMemDv.lean ====
/-
  The call that takes the gradient of the cross-attention's values back to the memory, and adds that of its keys.
-/
module

public import proofs.«01_k».proof.Defs
public import proofs.«01_k».proof.Proof.Gen.MemDvIdeal.Value
public import proofs.«01_k».proof.Proof.Gen.MemDvRefIdeal.Run
public import Idealize.ShloMosaic.Lib.Pipeline.ValueKit
public import Idealize.ShloMosaic.Lib.Pointwise
public import proofs.«01_k».proof.Proof.Products
public import Idealize.ShloMosaic.Lib.Pipeline.ReadBack
public import Idealize.ShloMosaic.Lib.Claim
public import Idealize.ShloMosaic.Lib.StableHlo.ReadAt

@[expose] public section

set_option maxRecDepth 16384

noncomputable section

namespace Cert.MulMemDv

open Idealize.ShloMosaic Idealize.ShloMosaic.TcCoe Idealize.SL.Sem Cert.MemDvIdeal Cert.MemDvIdeal.Gen Cert.Products

variable (m : (ℓ : Loc nD τ sig) → Buf (Elt Ideal) ℓ)

/-- What the call ends holding, of its arguments. -/
def value (a : Mat 256 1024) (b : Mat 1024 1024) (x : Mat 256 1024) : Mat 256 1024 :=
  fun i => entryR a b (i 0) (i 1) + x i

theorem index (t : Fin cfg0.N) : win0_0.index t = ![t.val / 2, t.val % 2] ∧ win0_1.index t = ![0, t.val % 2]
    ∧ win0_2.index t = ![t.val / 2, 0] ∧ win0_3.index t = ![t.val / 2, 0] :=
  (by decide +kernel : ∀ t : Fin grid0.N, win0_0.index t = ![t.val / 2, t.val % 2] ∧ win0_1.index t = ![0, t.val % 2]
    ∧ win0_2.index t = ![t.val / 2, 0] ∧ win0_3.index t = ![t.val / 2, 0]) t

/-- What point `t` adds: its stretch of the sum. -/
def part (c : Dev nD) (t : Fin cfg0.N) (y : S256x1024.Idx) : EReal := k0_pay1 (iblk m c 0 t) (iblk m c 1 t) y

theorem sums (c : Dev nD) (t : Fin cfg0.N) (ht : t.val % 2 = 1) (y : S256x1024.Idx) :
    (outsAt0 m c (t.val - 1) (Nat.lt_of_le_of_lt (Nat.sub_le _ _) t.isLt)).2 y + part m c t y
      = ∑ s : Fin 2, part m c ⟨2 * (t.val / 2) + s.val, Pipeline.run_point_lt_of_flush (J := 2) t ht s⟩ y :=
  run_sum 2 (fun n h => (outsAt0 m c n h).2) (part m c) (by decide)
    (fun u hu i => by
      rw [outsAt0_A m c u hu (by omega)]
      frame_out
      pointwise [k0_pay2]
      rfl)
    (fun u hu h1 i => absurd u.val.mod_two_eq_zero_or_one (by omega)) t ht y

theorem final (c : Dev nD) : (dats m 0 c).arrAt 3 cfg0.N = value (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht := (flush0_3 t).mp hf
  blk_simp
  rw [after0_3, outsAt0_B m c t (by omega) ht]
  frame_out
  simp only [read_unread_whole]
  obtain ⟨e0, e1, e2, e3⟩ := index t
  have hp : ∀ acc, k0_pay3 (iblk m c 0 t) (iblk m c 1 t) acc (iblk m c 2 t) y = acc y + part m c t y + iblk m c 2 t y := by
    intro acc
    pointwise [k0_pay3]
    rfl
  rw [hp, sums m c t ht y]
  unfold value
  unfold entryR part
  idx_vars y
  pointwise [k0_pay1]
  refine congrArg₂ (· + ·) (Fin.sum_mul_add_congr fun s l hl => ?_) ?_
  swap
  · blk_point [iblk, V, e2, e3]
  obtain ⟨f0, f1, f2, f3⟩ := index ⟨2 * (t.val / 2) + s.val, Pipeline.run_point_lt_of_flush (J := 2) t ht s⟩
  blk_point [iblk, V, f0, f1, e3]

/-- The kernel's result is the reference's. -/
theorem algebraic : algebraic_MemDvIdeal_MemDvRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (MemDvRefIdeal.Value.run (F := Ideal) m' g')⟩
  obtain ⟨e0, e1, e2⟩ := hargs c
  rw [e0, e1, e2]
  funext y
  idx_vars y
  unfold value entryR
  pointwise

end Cert.MulMemDv

end
-- ==== Proof.Adam.lean ====
/-
  The AdamW steps: a weight's change and its two new moments, of the weight, its gradient and its moments.
-/
module

public import proofs.«01_k».proof.Defs
public import proofs.«01_k».proof.Proof.Gen.AdamFfnIdeal.Value
public import proofs.«01_k».proof.Proof.Gen.AdamFfnRefIdeal.Run
public import proofs.«01_k».proof.Proof.Gen.AdamInIdeal.Value
public import proofs.«01_k».proof.Proof.Gen.AdamInRefIdeal.Run
public import proofs.«01_k».proof.Proof.Gen.AdamConvIdeal.Value
public import proofs.«01_k».proof.Proof.Gen.AdamConvRefIdeal.Run
public import proofs.«01_k».proof.Proof.Gen.AdamBranchIdeal.Value
public import proofs.«01_k».proof.Proof.Gen.AdamBranchRefIdeal.Run
public import proofs.«01_k».proof.Proof.Gen.AdamSquareIdeal.Value
public import proofs.«01_k».proof.Proof.Gen.AdamSquareRefIdeal.Run
public import proofs.«01_k».proof.Proof.Gen.AdamLnIdeal.Value
public import proofs.«01_k».proof.Proof.Gen.AdamLnRefIdeal.Run
public import proofs.«01_k».proof.Proof.Gen.AdamScaleIdeal.Value
public import proofs.«01_k».proof.Proof.Gen.AdamScaleRefIdeal.Run
public import proofs.«01_k».proof.Proof.Gen.AdamNormIdeal.Value
public import proofs.«01_k».proof.Proof.Gen.AdamNormRefIdeal.Run
public import proofs.«01_k».proof.Proof.Gen.AdamHeadIdeal.Value
public import proofs.«01_k».proof.Proof.Gen.AdamHeadRefIdeal.Run
public import Idealize.ShloMosaic.Lib.Pointwise

@[expose] public section

set_option maxRecDepth 16384

noncomputable section

namespace Cert.Adam

open Idealize.ShloMosaic Idealize.ShloMosaic.TcCoe Idealize.SL.Sem

/-- The step of a weight of a feed-forward layer. -/
theorem algebraic_ffn : algebraic_AdamFfnIdeal_AdamFfnRefIdeal := by
  intro m g m' g' _ hargs
  refine ⟨_, _, _, AdamFfnIdeal.Value.run m g, (θ_run _ _ _).mono (fun r h c => ?_) (AdamFfnRefIdeal.Value.run (F := Ideal) m' g')⟩
  obtain ⟨e0, e1, e2, e3⟩ := hargs c
  obtain ⟨h0, h1, h2, h3⟩ := h c
  rw [e0, e1, e2, e3] at h0
  rw [e1, e2] at h1
  rw [e1, e3] at h2
  exact ⟨h0, h1, h2, h3⟩

/-- The step of the in-projection's weight. -/
theorem algebraic_in : algebraic_AdamInIdeal_AdamInRefIdeal := by
  intro m g m' g' _ hargs
  refine ⟨_, _, _, AdamInIdeal.Value.run m g, (θ_run _ _ _).mono (fun r h c => ?_) (AdamInRefIdeal.Value.run (F := Ideal) m' g')⟩
  obtain ⟨e0, e1, e2, e3⟩ := hargs c
  obtain ⟨h0, h1, h2, h3⟩ := h c
  rw [e0, e1, e2, e3] at h0
  rw [e1, e2] at h1
  rw [e1, e3] at h2
  exact ⟨h0, h1, h2, h3⟩

/-- The step of the convolution's weight. -/
theorem algebraic_conv : algebraic_AdamConvIdeal_AdamConvRefIdeal := by
  intro m g m' g' _ hargs
  refine ⟨_, _, _, AdamConvIdeal.Value.run m g, (θ_run _ _ _).mono (fun r h c => ?_) (AdamConvRefIdeal.Value.run (F := Ideal) m' g')⟩
  obtain ⟨e0, e1, e2, e3⟩ := hargs c
  obtain ⟨h0, h1, h2, h3⟩ := h c
  rw [e0, e1, e2, e3] at h0
  rw [e1, e2] at h1
  rw [e1, e3] at h2
  exact ⟨h0, h1, h2, h3⟩

/-- The step of a weight of a branch, or the pooling weights. -/
theorem algebraic_branch : algebraic_AdamBranchIdeal_AdamBranchRefIdeal := by
  intro m g m' g' _ hargs
  refine ⟨_, _, _, AdamBranchIdeal.Value.run m g, (θ_run _ _ _).mono (fun r h c => ?_) (AdamBranchRefIdeal.Value.run (F := Ideal) m' g')⟩
  obtain ⟨e0, e1, e2, e3⟩ := hargs c
  obtain ⟨h0, h1, h2, h3⟩ := h c
  rw [e0, e1, e2, e3] at h0
  rw [e1, e2] at h1
  rw [e1, e3] at h2
  exact ⟨h0, h1, h2, h3⟩

/-- The step of a square projection's weight. -/
theorem algebraic_square : algebraic_AdamSquareIdeal_AdamSquareRefIdeal := by
  intro m g m' g' _ hargs
  refine ⟨_, _, _, AdamSquareIdeal.Value.run m g, (θ_run _ _ _).mono (fun r h c => ?_) (AdamSquareRefIdeal.Value.run (F := Ideal) m' g')⟩
  obtain ⟨e0, e1, e2, e3⟩ := hargs c
  obtain ⟨h0, h1, h2, h3⟩ := h c
  rw [e0, e1, e2, e3] at h0
  rw [e1, e2] at h1
  rw [e1, e3] at h2
  exact ⟨h0, h1, h2, h3⟩

/-- The step of a layer norm's weight or bias. -/
theorem algebraic_ln : algebraic_AdamLnIdeal_AdamLnRefIdeal := by
  intro m g m' g' _ hargs
  refine ⟨_, _, _, AdamLnIdeal.Value.run m g, (θ_run _ _ _).mono (fun r h c => ?_) (AdamLnRefIdeal.Value.run (F := Ideal) m' g')⟩
  obtain ⟨e0, e1, e2, e3⟩ := hargs c
  obtain ⟨h0, h1, h2, h3⟩ := h c
  rw [e0, e1, e2, e3] at h0
  rw [e1, e2] at h1
  rw [e1, e3] at h2
  exact ⟨h0, h1, h2, h3⟩

/-- The step of the pooling scale. -/
theorem algebraic_scale : algebraic_AdamScaleIdeal_AdamScaleRefIdeal := by
  intro m g m' g' _ hargs
  refine ⟨_, _, _, AdamScaleIdeal.Value.run m g, (θ_run _ _ _).mono (fun r h c => ?_) (AdamScaleRefIdeal.Value.run (F := Ideal) m' g')⟩
  obtain ⟨e0, e1, e2, e3⟩ := hargs c
  obtain ⟨h0, h1, h2, h3⟩ := h c
  rw [e0, e1, e2, e3] at h0
  rw [e1, e2] at h1
  rw [e1, e3] at h2
  exact ⟨h0, h1, h2, h3⟩

/-- The step of the delta rule's norm weight. -/
theorem algebraic_norm : algebraic_AdamNormIdeal_AdamNormRefIdeal := by
  intro m g m' g' _ hargs
  refine ⟨_, _, _, AdamNormIdeal.Value.run m g, (θ_run _ _ _).mono (fun r h c => ?_) (AdamNormRefIdeal.Value.run (F := Ideal) m' g')⟩
  obtain ⟨e0, e1, e2, e3⟩ := hargs c
  obtain ⟨h0, h1, h2, h3⟩ := h c
  rw [e0, e1, e2, e3] at h0
  rw [e1, e2] at h1
  rw [e1, e3] at h2
  exact ⟨h0, h1, h2, h3⟩

/-- The step of a weight of the delta rule's heads. -/
theorem algebraic_head : algebraic_AdamHeadIdeal_AdamHeadRefIdeal := by
  intro m g m' g' _ hargs
  refine ⟨_, _, _, AdamHeadIdeal.Value.run m g, (θ_run _ _ _).mono (fun r h c => ?_) (AdamHeadRefIdeal.Value.run (F := Ideal) m' g')⟩
  obtain ⟨e0, e1, e2, e3⟩ := hargs c
  obtain ⟨h0, h1, h2, h3⟩ := h c
  rw [e0, e1, e2, e3] at h0
  rw [e1, e2] at h1
  rw [e1, e3] at h2
  exact ⟨h0, h1, h2, h3⟩

end Cert.Adam

end
-- ==== Proof.Sum.lean ====
/-
  The sums of the gradients: a device's own packed gradient and the seven that the others sent it, and the small
  gradients' eight slots, each cut into its leaves.
-/
module

public import proofs.«01_k».proof.Defs
public import proofs.«01_k».proof.Proof.Gen.SumGateIdeal.Frame
public import proofs.«01_k».proof.Proof.Gen.SumGateRefIdeal.Run
public import proofs.«01_k».proof.Proof.Gen.SumDownIdeal.Frame
public import proofs.«01_k».proof.Proof.Gen.SumDownRefIdeal.Run
public import proofs.«01_k».proof.Proof.Gen.SumFfnIdeal.Frame
public import proofs.«01_k».proof.Proof.Gen.SumFfnRefIdeal.Run
public import proofs.«01_k».proof.Proof.Gen.SumMixerIdeal.Frame
public import proofs.«01_k».proof.Proof.Gen.SumMixerRefIdeal.Run
public import proofs.«01_k».proof.Proof.Gen.SumXaIdeal.Frame
public import proofs.«01_k».proof.Proof.Gen.SumXaRefIdeal.Run
public import proofs.«01_k».proof.Proof.Gen.SumSmallIdeal.Frame
public import proofs.«01_k».proof.Proof.Gen.SumSmallRefIdeal.Run
public import Idealize.ShloMosaic.Lib.Pipeline.ValueKit
public import Idealize.ShloMosaic.Lib.Pointwise
public import Idealize.ShloMosaic.Lib.Pipeline.ReadBack
public import Idealize.ShloMosaic.Lib.Claim
public import Idealize.ShloMosaic.Lib.StableHlo.ReadAt

@[expose] public section

set_option maxRecDepth 16384

noncomputable section

namespace Cert.Sum

open Idealize.ShloMosaic Idealize.ShloMosaic.TcCoe Idealize.SL.Sem

/-- A packed gradient and the seven landed beside it, added. -/
def summed (r : Nat) (own : (⟨2, ![r, 1024]⟩ : Shape).Idx → EReal) (landed : (⟨3, ![7, r, 1024]⟩ : Shape).Idx → EReal) : (⟨2, ![r, 1024]⟩ : Shape).Idx → EReal :=
  fun i => own i + ∑ k : Fin 7, landed (ix3 k (i 0) (i 1))

/-- The reference adds the same. -/
theorem summed_eq (r : Nat) (own : FVec Ideal ⟨2, ![r, 1024]⟩ .f32) (landed : FVec Ideal ⟨3, ![7, r, 1024]⟩ .f32) (h : (⟨3, ![7, r, 1024]⟩ : Shape).ReducesTo [0] ⟨2, ![r, 1024]⟩)
    (hu : 0 < Shape.numel ⟨0, ![]⟩) :
    addf own (Host.reduceAdd landed (constant (F := Ideal) ⟨0, ![]⟩ .f32 0x00000000#32) h hu) = summed r own landed := by
  funext i
  show own i + Ideal.hostReduceAdd h landed (Ideal.ofBits .f32 0x00000000#32) i = _
  rw [Ideal.hostReduceAdd_r3_a0, Ideal.ofBits_zero_f32, zero_add]
  rfl

/-- The eight slots of the small gradients, added. -/
def summed8 (stack : (⟨3, ![8, 184, 1024]⟩ : Shape).Idx → EReal) : (⟨2, ![184, 1024]⟩ : Shape).Idx → EReal :=
  fun i => ∑ k : Fin 8, stack (ix3 k (i 0) (i 1))

/-- The reference adds the same. -/
theorem summed8_eq (stack : FVec Ideal ⟨3, ![8, 184, 1024]⟩ .f32) (h : (⟨3, ![8, 184, 1024]⟩ : Shape).ReducesTo [0] ⟨2, ![184, 1024]⟩)
    (hu : 0 < Shape.numel ⟨0, ![]⟩) :
    Host.reduceAdd stack (constant (F := Ideal) ⟨0, ![]⟩ .f32 0x00000000#32) h hu = summed8 stack := by
  funext i
  show Ideal.hostReduceAdd h stack (Ideal.ofBits .f32 0x00000000#32) i = _
  rw [Ideal.hostReduceAdd_r3_a0, Ideal.ofBits_zero_f32, zero_add]
  rfl

namespace Gate
open Cert.SumGateIdeal Cert.SumGateIdeal.Gen

variable (m : (ℓ : Loc nD τ sig) → Buf (Elt Ideal) ℓ)

theorem index (t : Fin cfg0.N) : win0_0.index t = ![t.val, 0] ∧ win0_1.index t = ![0, t.val, 0] ∧ win0_2.index t = ![t.val, 0] :=
  (by decide +kernel : ∀ t : Fin grid0.N, win0_0.index t = ![t.val, 0] ∧ win0_1.index t = ![0, t.val, 0] ∧ win0_2.index t = ![t.val, 0]) t

theorem final (c : Dev nD) : (dats m 0 c).arrAt 2 cfg0.N
    = summed 352 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold summed
  idx_vars y
  pointwise [k0_pay1]
  simp only [Fin.sum_univ_seven, ← add_assoc]
  have h0 : iblk m c 0 t (ix2 y0 y1) = m ((c.tc : Thread nD τ).loc main_arg0) (((cfg0.win 2).blk t).view.emb (ix2 y0 y1)) := by
    blk_point [iblk, V, index t]
  have h1 : ∀ k, iblk m c 1 t (ix3 k y0 y1) = m ((c.tc : Thread nD τ).loc main_arg1)
      (ix3 k (((cfg0.win 2).blk t).view.emb (ix2 y0 y1) 0) (((cfg0.win 2).blk t).view.emb (ix2 y0 y1) 1)) := by
    intro k
    blk_point [iblk, V, index t]
  rw [h0, h1, h1, h1, h1, h1, h1, h1]

theorem array (c : Dev nD) : Pipeline.withArrays (cfgs 0).spec c (V0 m c) (fun w => (dats m 0 c).arrAt w (cfgs 0).N) (Proc.devRef .tc main_v1)
    = summed 352 (m ((c.tc : Thread nD τ).loc main_arg0)) (m ((c.tc : Thread nD τ).loc main_arg1)) :=
  (Pipeline.withArrays_arr spec0 (by decide) c _ _ 2).trans (final m c)

/-- The gradient of a gate's or an up projection's weight in the first layer is the reference's. -/
theorem algebraic : algebraic_SumGateIdeal_SumGateRefIdeal := by
  intro m g m' g' _ hargs
  refine ⟨_, ?_, SumGateRefIdeal.Value.run (F := Ideal) m' g'⟩
  refine (θ_run _ _ _).mono (fun r h c => ?_) (run_main m g)
  obtain ⟨e0, e1⟩ := hargs c
  refine ⟨
    ((h c).2 _ (Pipeline.mem_restRefs_of main_v3 (by decide) (by decide))).trans ?_,
    ((h c).1 0).trans (((dats m 0 c).arrAt_in 0 rfl _).trans ((A_eq m c 0).trans (V_main_arg0 m c))),
    ((h c).2 _ (Pipeline.mem_restRefs_of main_arg1 (by decide) (by decide))).trans (W_main_arg1 m (dats m) c)⟩
  all_goals
    unfold Pipeline.afterTail₀
    simp only [hostOps1, List.flatten_cons, List.flatten_nil, List.append_nil, List.cons_append, List.nil_append]
    after_results
    rw [array, e0, e1, summed_eq]
    try rfl

end Gate

namespace Down
open Cert.SumDownIdeal Cert.SumDownIdeal.Gen

variable (m : (ℓ : Loc nD τ sig) → Buf (Elt Ideal) ℓ)

theorem index (t : Fin cfg0.N) : win0_0.index t = ![t.val, 0] ∧ win0_1.index t = ![0, t.val, 0] ∧ win0_2.index t = ![t.val, 0] :=
  (by decide +kernel : ∀ t : Fin grid0.N, win0_0.index t = ![t.val, 0] ∧ win0_1.index t = ![0, t.val, 0] ∧ win0_2.index t = ![t.val, 0]) t

theorem final (c : Dev nD) : (dats m 0 c).arrAt 2 cfg0.N
    = summed 352 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold summed
  idx_vars y
  pointwise [k0_pay1]
  simp only [Fin.sum_univ_seven, ← add_assoc]
  have h0 : iblk m c 0 t (ix2 y0 y1) = m ((c.tc : Thread nD τ).loc main_arg0) (((cfg0.win 2).blk t).view.emb (ix2 y0 y1)) := by
    blk_point [iblk, V, index t]
  have h1 : ∀ k, iblk m c 1 t (ix3 k y0 y1) = m ((c.tc : Thread nD τ).loc main_arg1)
      (ix3 k (((cfg0.win 2).blk t).view.emb (ix2 y0 y1) 0) (((cfg0.win 2).blk t).view.emb (ix2 y0 y1) 1)) := by
    intro k
    blk_point [iblk, V, index t]
  rw [h0, h1, h1, h1, h1, h1, h1, h1]

theorem array (c : Dev nD) : Pipeline.withArrays (cfgs 0).spec c (V0 m c) (fun w => (dats m 0 c).arrAt w (cfgs 0).N) (Proc.devRef .tc main_v1)
    = summed 352 (m ((c.tc : Thread nD τ).loc main_arg0)) (m ((c.tc : Thread nD τ).loc main_arg1)) :=
  (Pipeline.withArrays_arr spec0 (by decide) c _ _ 2).trans (final m c)

/-- The gradient of the down projection's weight in the first layer is the reference's. -/
theorem algebraic : algebraic_SumDownIdeal_SumDownRefIdeal := by
  intro m g m' g' _ hargs
  refine ⟨_, ?_, SumDownRefIdeal.Value.run (F := Ideal) m' g'⟩
  refine (θ_run _ _ _).mono (fun r h c => ?_) (run_main m g)
  obtain ⟨e0, e1⟩ := hargs c
  refine ⟨
    ((h c).2 _ (Pipeline.mem_restRefs_of main_v2 (by decide) (by decide))).trans ?_,
    ((h c).1 0).trans (((dats m 0 c).arrAt_in 0 rfl _).trans ((A_eq m c 0).trans (V_main_arg0 m c))),
    ((h c).2 _ (Pipeline.mem_restRefs_of main_arg1 (by decide) (by decide))).trans (W_main_arg1 m (dats m) c)⟩
  all_goals
    unfold Pipeline.afterTail₀
    simp only [hostOps1, List.flatten_cons, List.flatten_nil, List.append_nil, List.cons_append, List.nil_append]
    after_results
    rw [array, e0, e1, summed_eq]
    try rfl

end Down

namespace Ffn
open Cert.SumFfnIdeal Cert.SumFfnIdeal.Gen

variable (m : (ℓ : Loc nD τ sig) → Buf (Elt Ideal) ℓ)

theorem index (t : Fin cfg0.N) : win0_0.index t = ![t.val, 0] ∧ win0_1.index t = ![0, t.val, 0] ∧ win0_2.index t = ![t.val, 0] :=
  (by decide +kernel : ∀ t : Fin grid0.N, win0_0.index t = ![t.val, 0] ∧ win0_1.index t = ![0, t.val, 0] ∧ win0_2.index t = ![t.val, 0]) t

theorem final (c : Dev nD) : (dats m 0 c).arrAt 2 cfg0.N
    = summed 1056 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold summed
  idx_vars y
  pointwise [k0_pay1]
  simp only [Fin.sum_univ_seven, ← add_assoc]
  have h0 : iblk m c 0 t (ix2 y0 y1) = m ((c.tc : Thread nD τ).loc main_arg0) (((cfg0.win 2).blk t).view.emb (ix2 y0 y1)) := by
    blk_point [iblk, V, index t]
  have h1 : ∀ k, iblk m c 1 t (ix3 k y0 y1) = m ((c.tc : Thread nD τ).loc main_arg1)
      (ix3 k (((cfg0.win 2).blk t).view.emb (ix2 y0 y1) 0) (((cfg0.win 2).blk t).view.emb (ix2 y0 y1) 1)) := by
    intro k
    blk_point [iblk, V, index t]
  rw [h0, h1, h1, h1, h1, h1, h1, h1]

theorem array (c : Dev nD) : Pipeline.withArrays (cfgs 0).spec c (V0 m c) (fun w => (dats m 0 c).arrAt w (cfgs 0).N) (Proc.devRef .tc main_v1)
    = summed 1056 (m ((c.tc : Thread nD τ).loc main_arg0)) (m ((c.tc : Thread nD τ).loc main_arg1)) :=
  (Pipeline.withArrays_arr spec0 (by decide) c _ _ 2).trans (final m c)

/-- The gradients of the second layer's three weights are the reference's. -/
theorem algebraic : algebraic_SumFfnIdeal_SumFfnRefIdeal := by
  intro m g m' g' _ hargs
  refine ⟨_, _, _, ?_, SumFfnRefIdeal.Value.run (F := Ideal) m' g'⟩
  refine (θ_run _ _ _).mono (fun r h c => ?_) (run_main m g)
  obtain ⟨e0, e1⟩ := hargs c
  refine ⟨
    ((h c).2 _ (Pipeline.mem_restRefs_of main_v4 (by decide) (by decide))).trans ?_,
    ((h c).2 _ (Pipeline.mem_restRefs_of main_v7 (by decide) (by decide))).trans ?_,
    ((h c).2 _ (Pipeline.mem_restRefs_of main_v9 (by decide) (by decide))).trans ?_,
    ((h c).1 0).trans (((dats m 0 c).arrAt_in 0 rfl _).trans ((A_eq m c 0).trans (V_main_arg0 m c))),
    ((h c).2 _ (Pipeline.mem_restRefs_of main_arg1 (by decide) (by decide))).trans (W_main_arg1 m (dats m) c)⟩
  all_goals
    unfold Pipeline.afterTail₀
    simp only [hostOps1, List.flatten_cons, List.flatten_nil, List.append_nil, List.cons_append, List.nil_append]
    after_results
    rw [array, e0, e1, summed_eq]
    try rfl

end Ffn

namespace Mixer
open Cert.SumMixerIdeal Cert.SumMixerIdeal.Gen

variable (m : (ℓ : Loc nD τ sig) → Buf (Elt Ideal) ℓ)

theorem index (t : Fin cfg0.N) : win0_0.index t = ![t.val, 0] ∧ win0_1.index t = ![0, t.val, 0] ∧ win0_2.index t = ![t.val, 0] :=
  (by decide +kernel : ∀ t : Fin grid0.N, win0_0.index t = ![t.val, 0] ∧ win0_1.index t = ![0, t.val, 0] ∧ win0_2.index t = ![t.val, 0]) t

theorem final (c : Dev nD) : (dats m 0 c).arrAt 2 cfg0.N
    = summed 1024 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold summed
  idx_vars y
  pointwise [k0_pay1]
  simp only [Fin.sum_univ_seven, ← add_assoc]
  have h0 : iblk m c 0 t (ix2 y0 y1) = m ((c.tc : Thread nD τ).loc main_arg0) (((cfg0.win 2).blk t).view.emb (ix2 y0 y1)) := by
    blk_point [iblk, V, index t]
  have h1 : ∀ k, iblk m c 1 t (ix3 k y0 y1) = m ((c.tc : Thread nD τ).loc main_arg1)
      (ix3 k (((cfg0.win 2).blk t).view.emb (ix2 y0 y1) 0) (((cfg0.win 2).blk t).view.emb (ix2 y0 y1) 1)) := by
    intro k
    blk_point [iblk, V, index t]
  rw [h0, h1, h1, h1, h1, h1, h1, h1]

theorem array (c : Dev nD) : Pipeline.withArrays (cfgs 0).spec c (V0 m c) (fun w => (dats m 0 c).arrAt w (cfgs 0).N) (Proc.devRef .tc main_v1)
    = summed 1024 (m ((c.tc : Thread nD τ).loc main_arg0)) (m ((c.tc : Thread nD τ).loc main_arg1)) :=
  (Pipeline.withArrays_arr spec0 (by decide) c _ _ 2).trans (final m c)

/-- The five leaves of the mixers' packed gradient are the reference's. -/
theorem algebraic : algebraic_SumMixerIdeal_SumMixerRefIdeal := by
  intro m g m' g' _ hargs
  refine ⟨_, _, _, _, _, ?_, SumMixerRefIdeal.Value.run (F := Ideal) m' g'⟩
  refine (θ_run _ _ _).mono (fun r h c => ?_) (run_main m g)
  obtain ⟨e0, e1⟩ := hargs c
  refine ⟨
    ((h c).2 _ (Pipeline.mem_restRefs_of main_v4 (by decide) (by decide))).trans ?_,
    ((h c).2 _ (Pipeline.mem_restRefs_of main_v8 (by decide) (by decide))).trans ?_,
    ((h c).2 _ (Pipeline.mem_restRefs_of main_v11 (by decide) (by decide))).trans ?_,
    ((h c).2 _ (Pipeline.mem_restRefs_of main_v14 (by decide) (by decide))).trans ?_,
    ((h c).2 _ (Pipeline.mem_restRefs_of main_v16 (by decide) (by decide))).trans ?_,
    ((h c).1 0).trans (((dats m 0 c).arrAt_in 0 rfl _).trans ((A_eq m c 0).trans (V_main_arg0 m c))),
    ((h c).2 _ (Pipeline.mem_restRefs_of main_arg1 (by decide) (by decide))).trans (W_main_arg1 m (dats m) c)⟩
  all_goals
    unfold Pipeline.afterTail₀
    simp only [hostOps1, List.flatten_cons, List.flatten_nil, List.append_nil, List.cons_append, List.nil_append]
    after_results
    rw [array, e0, e1, summed_eq]
    try rfl

end Mixer

namespace Xa
open Cert.SumXaIdeal Cert.SumXaIdeal.Gen

variable (m : (ℓ : Loc nD τ sig) → Buf (Elt Ideal) ℓ)

theorem index (t : Fin cfg0.N) : win0_0.index t = ![t.val, 0] ∧ win0_1.index t = ![0, t.val, 0] ∧ win0_2.index t = ![t.val, 0] :=
  (by decide +kernel : ∀ t : Fin grid0.N, win0_0.index t = ![t.val, 0] ∧ win0_1.index t = ![0, t.val, 0] ∧ win0_2.index t = ![t.val, 0]) t

theorem final (c : Dev nD) : (dats m 0 c).arrAt 2 cfg0.N
    = summed 512 (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  unfold summed
  idx_vars y
  pointwise [k0_pay1]
  simp only [Fin.sum_univ_seven, ← add_assoc]
  have h0 : iblk m c 0 t (ix2 y0 y1) = m ((c.tc : Thread nD τ).loc main_arg0) (((cfg0.win 2).blk t).view.emb (ix2 y0 y1)) := by
    blk_point [iblk, V, index t]
  have h1 : ∀ k, iblk m c 1 t (ix3 k y0 y1) = m ((c.tc : Thread nD τ).loc main_arg1)
      (ix3 k (((cfg0.win 2).blk t).view.emb (ix2 y0 y1) 0) (((cfg0.win 2).blk t).view.emb (ix2 y0 y1) 1)) := by
    intro k
    blk_point [iblk, V, index t]
  rw [h0, h1, h1, h1, h1, h1, h1, h1]

theorem array (c : Dev nD) : Pipeline.withArrays (cfgs 0).spec c (V0 m c) (fun w => (dats m 0 c).arrAt w (cfgs 0).N) (Proc.devRef .tc main_v1)
    = summed 512 (m ((c.tc : Thread nD τ).loc main_arg0)) (m ((c.tc : Thread nD τ).loc main_arg1)) :=
  (Pipeline.withArrays_arr spec0 (by decide) c _ _ 2).trans (final m c)

/-- The four leaves of the cross-attention's packed gradient are the reference's. -/
theorem algebraic : algebraic_SumXaIdeal_SumXaRefIdeal := by
  intro m g m' g' _ hargs
  refine ⟨_, _, _, _, ?_, SumXaRefIdeal.Value.run (F := Ideal) m' g'⟩
  refine (θ_run _ _ _).mono (fun r h c => ?_) (run_main m g)
  obtain ⟨e0, e1⟩ := hargs c
  refine ⟨
    ((h c).2 _ (Pipeline.mem_restRefs_of main_v3 (by decide) (by decide))).trans ?_,
    ((h c).2 _ (Pipeline.mem_restRefs_of main_v5 (by decide) (by decide))).trans ?_,
    ((h c).2 _ (Pipeline.mem_restRefs_of main_v7 (by decide) (by decide))).trans ?_,
    ((h c).2 _ (Pipeline.mem_restRefs_of main_v9 (by decide) (by decide))).trans ?_,
    ((h c).1 0).trans (((dats m 0 c).arrAt_in 0 rfl _).trans ((A_eq m c 0).trans (V_main_arg0 m c))),
    ((h c).2 _ (Pipeline.mem_restRefs_of main_arg1 (by decide) (by decide))).trans (W_main_arg1 m (dats m) c)⟩
  all_goals
    unfold Pipeline.afterTail₀
    simp only [hostOps1, List.flatten_cons, List.flatten_nil, List.append_nil, List.cons_append, List.nil_append]
    after_results
    rw [array, e0, e1, summed_eq]
    try rfl

end Xa

namespace Small
open Cert.SumSmallIdeal Cert.SumSmallIdeal.Gen

variable (m : (ℓ : Loc nD τ sig) → Buf (Elt Ideal) ℓ)

theorem index (t : Fin cfg0.N) : win0_0.index t = ![0, 0, 0] ∧ win0_1.index t = ![0, 0] :=
  (by decide +kernel : ∀ t : Fin grid0.N, win0_0.index t = ![0, 0, 0] ∧ win0_1.index t = ![0, 0]) t

theorem final (c : Dev nD) : (dats m 0 c).arrAt 1 cfg0.N = summed8 (m ((c.tc : Thread nD τ).loc main_arg0)) := by
  refine (dats m 0 c).arrAt_eq_of_covers 1 _ (by decide +kernel) fun t hf y => ?_
  blk_simp
  rw [after0_1]
  frame_out
  unfold summed8
  idx_vars y
  pointwise [k0_pay1]
  simp only [Fin.sum_univ_eight]
  have h0 : ∀ k, iblk m c 0 t (ix3 k y0 y1) = m ((c.tc : Thread nD τ).loc main_arg0)
      (ix3 k (((cfg0.win 1).blk t).view.emb (ix2 y0 y1) 0) (((cfg0.win 1).blk t).view.emb (ix2 y0 y1) 1)) := by
    intro k
    blk_point [iblk, V, index t]
  rw [h0, h0, h0, h0, h0, h0, h0, h0]

theorem array (c : Dev nD) : Pipeline.withArrays (cfgs 0).spec c (V0 m c) (fun w => (dats m 0 c).arrAt w (cfgs 0).N) (Proc.devRef .tc main_v0)
    = summed8 (m ((c.tc : Thread nD τ).loc main_arg0)) :=
  (Pipeline.withArrays_arr spec0 (by decide) c _ _ 1).trans (final m c)

/-- The fifteen small gradients and the loss are the reference's. -/
theorem algebraic : algebraic_SumSmallIdeal_SumSmallRefIdeal := by
  intro m g m' g' _ hargs
  refine ⟨_, _, _, _, _, _, _, _, _, _, _, _, _, _, _, _, ?_, SumSmallRefIdeal.Value.run (F := Ideal) m' g'⟩
  refine (θ_run _ _ _).mono (fun r h c => ?_) (run_main m g)
  have e0 := hargs c
  refine ⟨
    ((h c).2 _ (Pipeline.mem_restRefs_of main_v3 (by decide) (by decide))).trans ?_,
    ((h c).2 _ (Pipeline.mem_restRefs_of main_v6 (by decide) (by decide))).trans ?_,
    ((h c).2 _ (Pipeline.mem_restRefs_of main_v9 (by decide) (by decide))).trans ?_,
    ((h c).2 _ (Pipeline.mem_restRefs_of main_v12 (by decide) (by decide))).trans ?_,
    ((h c).2 _ (Pipeline.mem_restRefs_of main_v15 (by decide) (by decide))).trans ?_,
    ((h c).2 _ (Pipeline.mem_restRefs_of main_v18 (by decide) (by decide))).trans ?_,
    ((h c).2 _ (Pipeline.mem_restRefs_of main_v21 (by decide) (by decide))).trans ?_,
    ((h c).2 _ (Pipeline.mem_restRefs_of main_v24 (by decide) (by decide))).trans ?_,
    ((h c).2 _ (Pipeline.mem_restRefs_of main_v27 (by decide) (by decide))).trans ?_,
    ((h c).2 _ (Pipeline.mem_restRefs_of main_v30 (by decide) (by decide))).trans ?_,
    ((h c).2 _ (Pipeline.mem_restRefs_of main_v33 (by decide) (by decide))).trans ?_,
    ((h c).2 _ (Pipeline.mem_restRefs_of main_v36 (by decide) (by decide))).trans ?_,
    ((h c).2 _ (Pipeline.mem_restRefs_of main_v39 (by decide) (by decide))).trans ?_,
    ((h c).2 _ (Pipeline.mem_restRefs_of main_v42 (by decide) (by decide))).trans ?_,
    ((h c).2 _ (Pipeline.mem_restRefs_of main_v45 (by decide) (by decide))).trans ?_,
    ((h c).2 _ (Pipeline.mem_restRefs_of main_v48 (by decide) (by decide))).trans ?_,
    ((h c).1 0).trans (((dats m 0 c).arrAt_in 0 rfl _).trans ((A_eq m c 0).trans (V_main_arg0 m c)))⟩
  all_goals
    unfold Pipeline.afterTail₀
    simp only [hostOps1, List.flatten_cons, List.flatten_nil, List.append_nil, List.cons_append, List.nil_append]
    after_results
    rw [array, e0, summed8_eq]
    try rfl

end Small

end Cert.Sum
-- ==== Proof.MergeFwd.lean ====
/-
  The gated sum of two branches: each branch's output times the logistic function of its gate, and their sum.
-/
module

public import proofs.«01_k».proof.Defs
public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import proofs.«01_k».proof.Proof.Products
public import Idealize.ShloMosaic.Lib.Claim

@[expose] public section

set_option maxRecDepth 16384

noncomputable section

namespace Cert.MergeFwd

open Idealize.ShloMosaic Idealize.ShloMosaic.TcCoe Idealize.SL.Sem Cert.MergeIdeal Cert.MergeIdeal.Gen Cert.Products

variable (m : (ℓ : Loc nD τ sig) → Buf (Elt Ideal) ℓ)

theorem index (t : Fin cfg0.N) : win0_0.index t = ![t.val, 0] ∧ win0_1.index t = ![t.val, 0] ∧ win0_2.index t = ![t.val, 0] ∧ win0_3.index t = ![t.val, 0] :=
  (by decide +kernel : ∀ t : Fin grid0.N, win0_0.index t = ![t.val, 0] ∧ win0_1.index t = ![t.val, 0] ∧ win0_2.index t = ![t.val, 0] ∧ win0_3.index t = ![t.val, 0]) t

/-- The first branch's column `j` of the gates, and the second's. -/
def low (j : Fin 1024) : Fin 2048 := ⟨j.val, by omega⟩

def high (j : Fin 1024) : Fin 2048 := ⟨1024 + j.val, by omega⟩

/-- What the result ends holding. -/
def value (g : Mat 4096 2048) (a b : Mat 4096 1024) : Mat 4096 1024 := fun i =>
  Ideal.logistic (g (ix2 (i 0) (low (i 1)))) * a i + Ideal.logistic (g (ix2 (i 0) (high (i 1)))) * b i

theorem final (c : Dev nD) : (dats m 0 c).arrAt 3 cfg0.N = value (m ((c.tc : Thread nD τ).loc main_arg0)) (m ((c.tc : Thread nD τ).loc main_arg1))
    (m ((c.tc : Thread nD τ).loc main_arg2)) := by
  refine (dats m 0 c).arrAt_eq_of_covers 3 _ (by decide +kernel) fun t hf y => ?_
  blk_simp
  rw [after0_3]
  frame_out
  obtain ⟨e0, e1, e2, e3⟩ := index t
  unfold value
  idx_vars y
  pointwise [k0_pay1]
  blk_point [iblk, V, e0, e1, e2, e3, low, high]

/-- The kernel's result is the reference's. -/
theorem algebraic : algebraic_MergeIdeal_MergeRefIdeal := by
  intro m g m' g' _ hargs
  refine ⟨_, (θ_run _ _ _).mono (fun r h c => ⟨(h c).1.trans (final m c), (h c).2⟩) (Value.run_blocks m g),
    (θ_run _ _ _).mono (fun r h c => ⟨(h c).1.trans ?_, (h c).2⟩) (MergeRefIdeal.Value.run (F := Ideal) m' g')⟩
  obtain ⟨e0, e1, e2⟩ := hargs c
  simp only [e0, e1, e2]
  funext y
  idx_vars y
  unfold value
  pointwise [low, high]
  rfl

end Cert.MergeFwd

end
-- ==== Proof.MergeGrad.lean ====
/-
  The gradient of the gated sum of two branches: of each branch's output and of the gates.
-/
module

public import proofs.«01_k».proof.Defs
public import proofs.«01_k».proof.Proof.MergeFwd
public import proofs.«01_k».proof.Proof.Gen.MergeBackIdeal.Value
public import proofs.«01_k».proof.Proof.Gen.MergeBackRefIdeal.Run

@[expose] public section

set_option maxRecDepth 16384

noncomputable section

namespace Cert.MergeGrad

open Idealize.ShloMosaic Idealize.ShloMosaic.TcCoe Idealize.SL.Sem Cert.MergeBackIdeal Cert.MergeBackIdeal.Gen Cert.Products

variable (m : (ℓ : Loc nD τ sig) → Buf (Elt Ideal) ℓ)

theorem index (t : Fin cfg0.N) : win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0]) t

/-- The gradient of a branch's output: that of the sum times the branch's gate's logistic function. -/
def branch (f : Fin 1024 → Fin 2048) (g : Mat 4096 2048) (d : Mat 4096 1024) : Mat 4096 1024 := fun i =>
  d i * Ideal.logistic (g (ix2 (i 0) (f (i 1))))

/-- The column of a branch under a column of the gates. -/
def wrap (j : Fin 2048) : Fin 1024 := ⟨j.val % 1024, Nat.mod_lt _ (by decide)⟩

theorem halves (k : Fin 2048) : ∃ j, k = MergeFwd.low j ∨ k = MergeFwd.high j := by
  by_cases h : k.val < 1024
  · exact ⟨⟨k.val, h⟩, .inl rfl⟩
  · exact ⟨⟨k.val - 1024, by omega⟩, .inr (Fin.ext (by show k.val = 1024 + (k.val - 1024); omega))⟩

theorem final_low (c : Dev nD) : (dats m 0 c).arrAt 4 cfg0.N = branch MergeFwd.low (m ((c.tc : Thread nD τ).loc main_arg0)) (m ((c.tc : Thread nD τ).loc main_arg3)) := by
  refine (dats m 0 c).arrAt_eq_of_covers 4 _ (by decide +kernel) fun t hf y => ?_
  blk_simp
  rw [after0_4]
  frame_out
  obtain ⟨e0, e1, e2, e3, e4, e5, e6⟩ := index t
  unfold branch
  idx_vars y
  pointwise [k0_pay3, k0_pay1]
  blk_point [iblk, V, e0, e1, e2, e3, e4, e5, e6, MergeFwd.low]

theorem final_high (c : Dev nD) : (dats m 0 c).arrAt 5 cfg0.N = branch MergeFwd.high (m ((c.tc : Thread nD τ).loc main_arg0)) (m ((c.tc : Thread nD τ).loc main_arg3)) := by
  refine (dats m 0 c).arrAt_eq_of_covers 5 _ (by decide +kernel) fun t hf y => ?_
  blk_simp
  rw [after0_5]
  frame_out
  obtain ⟨e0, e1, e2, e3, e4, e5, e6⟩ := index t
  unfold branch
  idx_vars y
  pointwise [k0_pay4, k0_pay2]
  blk_point [iblk, V, e0, e1, e2, e3, e4, e5, e6, MergeFwd.high]

/-- The gradient of a branch's gate, of the branch's output. -/
def gate (s a d : EReal) : EReal := d * a * s * (Ideal.ofBits .f32 0x3F800000#32 - s)

/-- The branch a column of the gates is of. -/
def pick (k : Fin 2048) (a b : Mat 4096 1024) : Mat 4096 1024 := if k.val < 1024 then a else b

theorem pick_low (k : Fin 2048) (hk : k.val < 1024) (a b : Mat 4096 1024) : pick k a b = a := if_pos hk

theorem pick_high (k : Fin 2048) (hk : ¬k.val < 1024) (a b : Mat 4096 1024) : pick k a b = b := if_neg hk

/-- The gradient of the gates, the first branch's columns before the second's. -/
def gates (g : Mat 4096 2048) (a b d : Mat 4096 1024) : Mat 4096 2048 := fun i =>
  gate (Ideal.logistic (g i)) (pick (i 1) a b (ix2 (i 0) (wrap (i 1)))) (d (ix2 (i 0) (wrap (i 1))))

theorem wrap_low (j : Fin 1024) : wrap (MergeFwd.low j) = j := Fin.ext (Nat.mod_eq_of_lt j.isLt)

theorem wrap_high (j : Fin 1024) : wrap (MergeFwd.high j) = j :=
  Fin.ext (by show (1024 + j.val) % 1024 = j.val; omega)

theorem gates_low (g : Mat 4096 2048) (a b d : Mat 4096 1024) (r : Fin 4096) (j : Fin 1024) :
    gates g a b d (ix2 r (MergeFwd.low j)) = gate (Ideal.logistic (g (ix2 r (MergeFwd.low j)))) (a (ix2 r j)) (d (ix2 r j)) := by
  show gate _ (pick (MergeFwd.low j) a b (ix2 r (wrap (MergeFwd.low j)))) (d (ix2 r (wrap (MergeFwd.low j)))) = _
  rw [wrap_low, pick_low _ j.isLt]

theorem gates_high (g : Mat 4096 2048) (a b d : Mat 4096 1024) (r : Fin 4096) (j : Fin 1024) :
    gates g a b d (ix2 r (MergeFwd.high j)) = gate (Ideal.logistic (g (ix2 r (MergeFwd.high j)))) (b (ix2 r j)) (d (ix2 r j)) := by
  show gate _ (pick (MergeFwd.high j) a b (ix2 r (wrap (MergeFwd.high j)))) (d (ix2 r (wrap (MergeFwd.high j)))) = _
  rw [wrap_high, pick_high _ (by show ¬1024 + j.val < 1024; omega)]

/-- Row `y` of block `t`. -/
def at_ (t : Fin cfg0.N) (y : Fin 256) : Fin 4096 := ⟨t.val * 256 + y.val, by have h : t.val < 16 := t.isLt; omega⟩

theorem final_gates (c : Dev nD) : (dats m 0 c).arrAt 6 cfg0.N = gates (m ((c.tc : Thread nD τ).loc main_arg0)) (m ((c.tc : Thread nD τ).loc main_arg1))
    (m ((c.tc : Thread nD τ).loc main_arg2)) (m ((c.tc : Thread nD τ).loc main_arg3)) := by
  refine (dats m 0 c).arrAt_eq_of_covers 6 _ (by decide +kernel) fun t hf y => ?_
  blk_simp
  rw [after0_6]
  frame_out
  obtain ⟨e0, e1, e2, e3, e4, e5, e6⟩ := index t
  idx_vars y
  have q : ((View.whole main_v0_2).slice (win0_6.rect t)).emb (ix2 y0 y1) = ix2 (at_ t y0) y1 := by
    funext a
    refine Fin.ext ?_
    match a with
    | ⟨0, _⟩ =>
      show win0_6.index t 0 * 256 + 1 * y0.val = t.val * 256 + y0.val
      rw [e6]
      show t.val * 256 + 1 * y0.val = t.val * 256 + y0.val
      omega
    | ⟨1, _⟩ =>
      show win0_6.index t 1 * 2048 + 1 * y1.val = y1.val
      rw [e6]
      show 0 * 2048 + 1 * y1.val = y1.val
      omega
  refine Eq.trans ?_ (congrArg _ q.symm)
  obtain ⟨j, rfl | rfl⟩ := halves y1
  · rw [gates_low]
    unfold gate at_
    pointwise [k0_pay5, k0_pay2, k0_pay1, MergeFwd.low]
    blk_point [iblk, V, e0, e1, e2, e3, e4, e5, e6]
  · rw [gates_high]
    unfold gate at_
    pointwise [k0_pay5, k0_pay2, k0_pay1, MergeFwd.high]
    blk_point [iblk, V, e0, e1, e2, e3, e4, e5, e6]

/-- The kernel's results are the reference's. -/
theorem algebraic : algebraic_MergeBackIdeal_MergeBackRefIdeal := by
  intro m g m' g' _ hargs
  refine ⟨_, _, _, (θ_run _ _ _).mono (fun r h c => ⟨(h c).1.trans (final_low m c), (h c).2.1.trans (final_high m c), (h c).2.2.1.trans (final_gates m c), (h c).2.2.2⟩)
      (Value.run_blocks m g),
    (θ_run _ _ _).mono (fun r h c => ⟨(h c).1.trans ?_, (h c).2.1.trans ?_, (h c).2.2.1.trans ?_, (h c).2.2.2⟩)
      (MergeBackRefIdeal.Value.run (F := Ideal) m' g')⟩
  all_goals
    obtain ⟨e0, e1, e2, e3⟩ := hargs c
    funext y
    idx_vars y
  · unfold branch
    pointwise [MergeFwd.low]
    rw [e0, e3]
    exact mul_comm _ _
  · unfold branch
    pointwise [MergeFwd.high]
    rw [e0, e3]
    exact mul_comm _ _
  · obtain ⟨j, rfl | rfl⟩ := halves y1
    · rw [gates_low]
      unfold gate
      pointwise [MergeFwd.low]
      rw [e0, e1, e3]
      exact (mul_assoc _ (Ideal.logistic _) _).symm
    · rw [gates_high]
      unfold gate
      pointwise [MergeFwd.high]
      rw [e0, e2, e3]
      exact (mul_assoc _ (Ideal.logistic _) _).symm

end Cert.MergeGrad

end
-- ==== Proof.LayerNorm.lean ====
/-
  A row less its mean, over the root of its mean square: what a layer norm makes of a row.
-/
module

public import Idealize.ShloMosaic.Lib.Pointwise
public import proofs.«01_k».proof.Proof.Products
public import proofs.«01_k».proof.Proof.Gen.LnIdeal
public import proofs.«01_k».proof.Proof.Gen.LnRefIdeal

@[expose] public section

noncomputable section

namespace Cert.LayerNorm

open Idealize.ShloMosaic Cert.Products

/-- A row's mean. -/
def mean (x : Fin 1024 → EReal) : EReal := Ideal.div (∑ l : Fin 1024, x l) (Ideal.ofBits .f32 0x44800000#32)

/-- A row less its mean. -/
def centre (x : Fin 1024 → EReal) (j : Fin 1024) : EReal := x j - mean x

/-- A row's mean square about its mean, and the small number added. -/
def spread (x : Fin 1024 → EReal) : EReal := mean (fun j => centre x j * centre x j) + Ideal.ofBits .f32 0x3727C5AC#32

/-- One over the root of that. -/
def unit (x : Fin 1024 → EReal) : EReal := Ideal.rsqrt (spread x)

/-- A row, normalised. -/
def normal (x : Fin 1024 → EReal) (j : Fin 1024) : EReal := centre x j * unit x

/-- Row `i` of a matrix. -/
def row {n : ℕ} (x : Mat n 1024) (i : Fin n) : Fin 1024 → EReal := fun l => x (ix2 i l)

/-- A layer norm, with its scale and its shift. -/
def scaled {n : ℕ} (x : Mat n 1024) (g b : Mat 1 1024) : Mat n 1024 := fun i => normal (row x (i 0)) (i 1) * g (ix2 0 (i 1)) + b (ix2 0 (i 1))

section block
open Cert.LnIdeal Cert.LnIdeal.Facts₀

/-- The layer norm of a block of rows, as the kernel writes it. -/
def blockMean (x : FVec Ideal S1024x1024 .f32) : FVec Ideal S1024x1 .f32 :=
  divf (shapeCast S1024x1 (multiReduction .add [1] S1024 x 0x00000000#32 reduces_S1024x1024_S1024 (.inl rfl) rfl) shapeCasts_S1024_S1024x1)
    (broadcast S1024x1 (Scalar.ofBits .f32 0x44800000#32))

def blockCentre (x : FVec Ideal S1024x1024 .f32) : FVec Ideal S1024x1024 .f32 := subf x (broadcastTo S1024x1024 (blockMean x) broadcasts_S1024x1_S1024x1024)

def blockUnit (x : FVec Ideal S1024x1024 .f32) : FVec Ideal S1024x1 .f32 :=
  rsqrt (addf (blockMean (mulf (blockCentre x) (blockCentre x))) (broadcast S1024x1 (Scalar.ofBits .f32 0x3727C5AC#32)))

def blockNormal (x : FVec Ideal S1024x1024 .f32) : FVec Ideal S1024x1024 .f32 := mulf (blockCentre x) (broadcastTo S1024x1024 (blockUnit x) broadcasts_S1024x1_S1024x1024)

def blockNorm (x : FVec Ideal S1024x1024 .f32) (g b : FVec Ideal S1x1024 .f32) : FVec Ideal S1024x1024 .f32 :=
  addf (mulf (blockNormal x) (broadcastTo S1024x1024 g broadcasts_S1x1024_S1024x1024)) (broadcastTo S1024x1024 b broadcasts_S1x1024_S1024x1024)

theorem blockMean_apply (x : FVec Ideal S1024x1024 .f32) (i : Fin 1024) (j : Fin 1) : blockMean x (ix2 i j) = mean (row x i) := by
  unfold blockMean mean row
  pointwise

theorem blockCentre_apply (x : FVec Ideal S1024x1024 .f32) (i j : Fin 1024) : blockCentre x (ix2 i j) = centre (row x i) j := by
  unfold blockCentre centre
  pointwise
  rw [blockMean_apply]
  rfl

theorem blockUnit_apply (x : FVec Ideal S1024x1024 .f32) (i : Fin 1024) (j : Fin 1) : blockUnit x (ix2 i j) = unit (row x i) := by
  unfold blockUnit unit spread
  have h : row (mulf (blockCentre x) (blockCentre x)) i = fun l => centre (row x i) l * centre (row x i) l :=
    funext fun l => congrArg₂ (· * ·) (blockCentre_apply x i l) (blockCentre_apply x i l)
  rw [← h, ← blockMean_apply _ i j]
  rfl

theorem blockNormal_apply (x : FVec Ideal S1024x1024 .f32) (i j : Fin 1024) : blockNormal x (ix2 i j) = normal (row x i) j := by
  unfold blockNormal normal
  pointwise
  rw [blockUnit_apply, blockCentre_apply]

theorem blockNorm_apply (x : FVec Ideal S1024x1024 .f32) (g b : FVec Ideal S1x1024 .f32) (i j : Fin 1024) : blockNorm x g b (ix2 i j) = scaled x g b (ix2 i j) := by
  unfold blockNorm scaled
  pointwise
  rw [blockNormal_apply]

end block

section host
open Cert.LnRefIdeal Cert.LnRefIdeal.Facts₀

/-- The layer norm, as the host writes it. -/
def hostMean (x : FVec Ideal S4096x1024 .f32) : FVec Ideal S4096x1 .f32 :=
  Host.divf (broadcastInDim S4096x1 ![0] bcast_S4096_S4096x1_0 (Host.reduceAdd x (constant S_ .f32 0x00000000#32) reducesTo_S4096x1024_S4096_d1 h_S_))
    (broadcastInDim S4096x1 ![] bcast_S_S4096x1 (constant S_ .f32 0x44800000#32))

def hostCentre (x : FVec Ideal S4096x1024 .f32) : FVec Ideal S4096x1024 .f32 :=
  subf x (broadcastInDim S4096x1024 ![0, 1] bcast_S4096x1_S4096x1024_0_1 (hostMean x))

def hostSpread (x : FVec Ideal S4096x1024 .f32) : FVec Ideal S4096x1 .f32 :=
  addf (hostMean (mulf (hostCentre x) (hostCentre x))) (broadcastInDim S4096x1 ![] bcast_S_S4096x1 (constant S_ .f32 0x3727C5AC#32))

def hostNormal (x : FVec Ideal S4096x1024 .f32) : FVec Ideal S4096x1024 .f32 :=
  mulf (hostCentre x) (broadcastInDim S4096x1024 ![0, 1] bcast_S4096x1_S4096x1024_0_1 (Host.rsqrt (hostSpread x)))

def hostNorm (x : FVec Ideal S4096x1024 .f32) (g b : FVec Ideal S1x1024 .f32) : FVec Ideal S4096x1024 .f32 :=
  addf (mulf (hostNormal x) (broadcastInDim S4096x1024 ![0, 1] bcast_S1x1024_S4096x1024_0_1 g)) (broadcastInDim S4096x1024 ![0, 1] bcast_S1x1024_S4096x1024_0_1 b)

theorem hostMean_apply (x : FVec Ideal S4096x1024 .f32) (i : Fin 4096) (j : Fin 1) : hostMean x (ix2 i j) = mean (row x i) := by
  unfold hostMean mean row
  pointwise

theorem hostCentre_apply (x : FVec Ideal S4096x1024 .f32) (i : Fin 4096) (j : Fin 1024) : hostCentre x (ix2 i j) = centre (row x i) j := by
  unfold hostCentre centre
  pointwise
  rw [hostMean_apply]
  rfl

theorem hostSpread_apply (x : FVec Ideal S4096x1024 .f32) (i : Fin 4096) (j : Fin 1) : hostSpread x (ix2 i j) = spread (row x i) := by
  unfold hostSpread spread
  have h : row (mulf (hostCentre x) (hostCentre x)) i = fun l => centre (row x i) l * centre (row x i) l :=
    funext fun l => congrArg₂ (· * ·) (hostCentre_apply x i l) (hostCentre_apply x i l)
  rw [← h, ← hostMean_apply _ i j]
  rfl

theorem hostNormal_apply (x : FVec Ideal S4096x1024 .f32) (i : Fin 4096) (j : Fin 1024) : hostNormal x (ix2 i j) = normal (row x i) j := by
  unfold hostNormal normal unit
  pointwise
  rw [hostSpread_apply, hostCentre_apply]

theorem hostNorm_apply (x : FVec Ideal S4096x1024 .f32) (g b : FVec Ideal S1x1024 .f32) (i : Fin 4096) (j : Fin 1024) : hostNorm x g b (ix2 i j) = scaled x g b (ix2 i j) := by
  unfold hostNorm scaled
  pointwise
  rw [hostNormal_apply]

end host

end Cert.LayerNorm

end
-- ==== Proof.NormFwd.lean ====
/-
  The layer norms of the two inputs' weighted sum, with the sum itself.
-/
module

public import proofs.«01_k».proof.Defs
public import proofs.«01_k».proof.Proof.LayerNorm
public import proofs.«01_k».proof.Proof.Gen.LnIdeal.Value
public import proofs.«01_k».proof.Proof.Gen.LnRefIdeal.Run
public import proofs.«01_k».proof.Proof.Gen.LnHalfIdeal.Value
public import proofs.«01_k».proof.Proof.Gen.LnHalfRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.NormFwd

open Idealize.ShloMosaic Idealize.ShloMosaic.TcCoe Idealize.SL.Sem Cert.Products Cert.LayerNorm

/-- The weighted sum: the first input times the fourth root of two, and the second times `c`. -/
def residual (c : EReal) (x f : Mat 4096 1024) : Mat 4096 1024 := fun i => Ideal.ofBits .f32 0x3F9837F0#32 * x i + c * f i

/-- Row `y` of the `t`-th thousand rows. -/
def at_ (t : ℕ) (ht : t < 4) (y : Fin 1024) : Fin 4096 := ⟨t * 1024 + y.val, by omega⟩

/-- A block of rows of a matrix, normalised, is that block of the matrix normalised. -/
theorem block_scaled (k : FVec Ideal LnIdeal.S1024x1024 .f32) (x : Mat 4096 1024) (g b : FVec Ideal LnIdeal.S1x1024 .f32) (g' b' : Mat 1 1024) (t : ℕ) (ht : t < 4) (y0 y1 : Fin 1024)
    (hk : ∀ l, k (ix2 y0 l) = x (ix2 (at_ t ht y0) l)) (hg : g (ix2 0 y1) = g' (ix2 0 y1)) (hb : b (ix2 0 y1) = b' (ix2 0 y1)) :
    blockNorm k g b (ix2 y0 y1) = scaled x g' b' (ix2 (at_ t ht y0) y1) := by
  rw [blockNorm_apply]
  show normal (row k y0) y1 * g (ix2 0 y1) + b (ix2 0 y1) = normal (row x (at_ t ht y0)) y1 * g' (ix2 0 y1) + b' (ix2 0 y1)
  rw [show row k y0 = row x (at_ t ht y0) from funext hk, hg, hb]

/-- Where a block's entry lies: `o` rows and `p` columns on. -/
theorem place_of (e : (⟨2, ![4096, 1024]⟩ : Shape).Idx) (t : ℕ) (ht : t < 4) (y0 y1 : Fin 1024) (o p : ℕ) (ho : o = t) (hp : p = 0)
    (h0 : (e 0).val = o * 1024 + 1 * y0.val) (h1 : (e 1).val = p * 1024 + 1 * y1.val) : e = ix2 (at_ t ht y0) y1 := by
  subst ho hp
  funext a
  refine Fin.ext ?_
  match a with
  | ⟨0, _⟩ => exact h0.trans (by show o * 1024 + 1 * y0.val = o * 1024 + y0.val; omega)
  | ⟨1, _⟩ => exact h1.trans (by show 0 * 1024 + 1 * y1.val = y1.val; omega)

/-! ## The second input whole -/

namespace Full

open Cert.LnIdeal Cert.LnIdeal.Gen

variable (m : (ℓ : Loc nD τ sig) → Buf (Elt Ideal) ℓ)

theorem index (t : Fin cfg0.N) : win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0]) t

/-- The two inputs' weighted sum. -/
abbrev sum (c : Dev nD) : Mat 4096 1024 := residual 1 (m ((c.tc : Thread nD τ).loc main_arg0)) (m ((c.tc : Thread nD τ).loc main_arg1))

theorem pay1 (x f : Vec Ideal S1024x1024 .f32) (i : S1024x1024.Idx) : k0_pay1 x f i = Ideal.ofBits .f32 0x3F9837F0#32 * x i + 1 * f i := by
  idx_vars i
  pointwise [k0_pay1]

theorem final_sum (c : Dev nD) : (dats m 0 c).arrAt 5 cfg0.N = sum m c := by
  refine (dats m 0 c).arrAt_eq_of_covers 5 _ (by decide +kernel) fun t hf y => ?_
  blk_simp
  rw [after0_5]
  frame_out
  obtain ⟨e0, e1, e2, e3, e4, e5, e6⟩ := index t
  unfold sum residual
  idx_vars y
  rw [pay1]
  blk_point [iblk, V, e0, e1, e2, e3, e4, e5, e6]

/-- The normalised sum. -/
abbrev out (c : Dev nD) : Mat 4096 1024 := scaled (sum m c) (m ((c.tc : Thread nD τ).loc main_arg2)) (m ((c.tc : Thread nD τ).loc main_arg3))

theorem block (c : Dev nD) (t : Fin cfg0.N) (y0 y1 : Fin 1024) :
    k0_pay2 (iblk m c 0 t) (iblk m c 1 t) (iblk m c 2 t) (iblk m c 3 t) (ix2 y0 y1) = out m c (ix2 (at_ t.val t.isLt y0) y1) := by
  obtain ⟨e0, e1, e2, e3, e4, e5, e6⟩ := index t
  refine block_scaled (k0_pay1 (iblk m c 0 t) (iblk m c 1 t)) (sum m c) (iblk m c 2 t) (iblk m c 3 t) _ _ t.val t.isLt y0 y1 (fun l => ?_) ?_ ?_
  · unfold sum residual at_
    rw [pay1]
    blk_point [iblk, V, e0, e1, e2, e3, e4, e5, e6]
  · blk_point [iblk, V, e0, e1, e2, e3, e4, e5, e6]
  · blk_point [iblk, V, e0, e1, e2, e3, e4, e5, e6]

theorem final_norm (c : Dev nD) : (dats m 0 c).arrAt 4 cfg0.N = out m c := by
  refine (dats m 0 c).arrAt_eq_of_covers 4 _ (by decide +kernel) fun t hf y => ?_
  blk_simp
  rw [after0_4]
  frame_out
  idx_vars y
  have e := (index t).2.2.2.2.1
  exact (block m c t y0 y1).trans (congrArg (out m c) (place_of _ t.val t.isLt y0 y1 _ _ (congrFun e 0) (congrFun e 1) rfl rfl).symm)

theorem final_short (c : Dev nD) : (dats m 0 c).arrAt 6 cfg0.N = out m c := by
  refine (dats m 0 c).arrAt_eq_of_covers 6 _ (by decide +kernel) fun t hf y => ?_
  blk_simp
  rw [after0_6]
  frame_out
  idx_vars y
  have e := (index t).2.2.2.2.2.2
  exact (block m c t y0 y1).trans (congrArg (out m c) (place_of _ t.val t.isLt y0 y1 _ _ (congrFun e 0) (congrFun e 1) rfl rfl).symm)

/-- The kernel's results are the reference's. -/
theorem algebraic : algebraic_LnIdeal_LnRefIdeal := by
  intro m g m' g' _ hargs
  refine ⟨_, _, _, (θ_run _ _ _).mono (fun r h c => ⟨(h c).1.trans (final_norm m c), (h c).2.1.trans (final_sum m c), (h c).2.2.1.trans (final_short m c), (h c).2.2.2⟩)
      (Value.run_blocks m g),
    (θ_run _ _ _).mono (fun r h c => ⟨(h c).1.trans ?_, (h c).2.1.trans ?_, (h c).2.2.1.trans ?_, (h c).2.2.2⟩) (LnRefIdeal.Value.run (F := Ideal) m' g')⟩
  all_goals
    obtain ⟨e0, e1, e2, e3⟩ := hargs c
    have hs : (addf (mulf (broadcastInDim LnRefIdeal.S4096x1024 ![] LnRefIdeal.Gen.bcast_S_S4096x1024 (constant (F := Ideal) LnRefIdeal.S_ .f32 0x3F9837F0#32)) (m' ((c.tc : Thread LnRefIdeal.nD LnRefIdeal.τ).loc LnRefIdeal.main_arg0))) (m' ((c.tc : Thread LnRefIdeal.nD LnRefIdeal.τ).loc LnRefIdeal.main_arg1)) : FVec Ideal LnRefIdeal.S4096x1024 .f32) = sum m c := by
      rw [e0, e1]
      funext y
      idx_vars y
      unfold sum residual
      pointwise
  · exact (congrArg (fun s => hostNorm s _ _) hs).trans (by rw [e2, e3]; funext y; idx_vars y; exact hostNorm_apply _ _ _ y0 y1)
  · exact hs
  · exact (congrArg (fun s => hostNorm s _ _) hs).trans (by rw [e2, e3]; funext y; idx_vars y; exact hostNorm_apply _ _ _ y0 y1)

end Full

/-! ## The second input halved -/

namespace Half

open Cert.LnHalfIdeal Cert.LnHalfIdeal.Gen

variable (m : (ℓ : Loc nD τ sig) → Buf (Elt Ideal) ℓ)

theorem index (t : Fin cfg0.N) : win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![0, 0] ∧ win0_3.index t = ![0, 0]
    ∧ win0_4.index t = ![t.val, 0] ∧ win0_5.index t = ![t.val, 0] ∧ win0_6.index t = ![t.val, 0]) t

/-- The two inputs' weighted sum. -/
abbrev sum (c : Dev nD) : Mat 4096 1024 := residual (Ideal.ofBits .f32 0x3F000000#32) (m ((c.tc : Thread nD τ).loc main_arg0)) (m ((c.tc : Thread nD τ).loc main_arg1))

theorem pay1 (x f : Vec Ideal S1024x1024 .f32) (i : S1024x1024.Idx) : k0_pay1 x f i = Ideal.ofBits .f32 0x3F9837F0#32 * x i + (Ideal.ofBits .f32 0x3F000000#32) * f i := by
  idx_vars i
  pointwise [k0_pay1]

theorem final_sum (c : Dev nD) : (dats m 0 c).arrAt 5 cfg0.N = sum m c := by
  refine (dats m 0 c).arrAt_eq_of_covers 5 _ (by decide +kernel) fun t hf y => ?_
  blk_simp
  rw [after0_5]
  frame_out
  obtain ⟨e0, e1, e2, e3, e4, e5, e6⟩ := index t
  unfold sum residual
  idx_vars y
  rw [pay1]
  blk_point [iblk, V, e0, e1, e2, e3, e4, e5, e6]

/-- The normalised sum. -/
abbrev out (c : Dev nD) : Mat 4096 1024 := scaled (sum m c) (m ((c.tc : Thread nD τ).loc main_arg2)) (m ((c.tc : Thread nD τ).loc main_arg3))

theorem block (c : Dev nD) (t : Fin cfg0.N) (y0 y1 : Fin 1024) :
    k0_pay2 (iblk m c 0 t) (iblk m c 1 t) (iblk m c 2 t) (iblk m c 3 t) (ix2 y0 y1) = out m c (ix2 (at_ t.val t.isLt y0) y1) := by
  obtain ⟨e0, e1, e2, e3, e4, e5, e6⟩ := index t
  refine block_scaled (k0_pay1 (iblk m c 0 t) (iblk m c 1 t)) (sum m c) (iblk m c 2 t) (iblk m c 3 t) _ _ t.val t.isLt y0 y1 (fun l => ?_) ?_ ?_
  · unfold sum residual at_
    rw [pay1]
    blk_point [iblk, V, e0, e1, e2, e3, e4, e5, e6]
  · blk_point [iblk, V, e0, e1, e2, e3, e4, e5, e6]
  · blk_point [iblk, V, e0, e1, e2, e3, e4, e5, e6]

theorem final_norm (c : Dev nD) : (dats m 0 c).arrAt 4 cfg0.N = out m c := by
  refine (dats m 0 c).arrAt_eq_of_covers 4 _ (by decide +kernel) fun t hf y => ?_
  blk_simp
  rw [after0_4]
  frame_out
  idx_vars y
  have e := (index t).2.2.2.2.1
  exact (block m c t y0 y1).trans (congrArg (out m c) (place_of _ t.val t.isLt y0 y1 _ _ (congrFun e 0) (congrFun e 1) rfl rfl).symm)

theorem final_short (c : Dev nD) : (dats m 0 c).arrAt 6 cfg0.N = out m c := by
  refine (dats m 0 c).arrAt_eq_of_covers 6 _ (by decide +kernel) fun t hf y => ?_
  blk_simp
  rw [after0_6]
  frame_out
  idx_vars y
  have e := (index t).2.2.2.2.2.2
  exact (block m c t y0 y1).trans (congrArg (out m c) (place_of _ t.val t.isLt y0 y1 _ _ (congrFun e 0) (congrFun e 1) rfl rfl).symm)

/-- The kernel's results are the reference's. -/
theorem algebraic : algebraic_LnHalfIdeal_LnHalfRefIdeal := by
  intro m g m' g' _ hargs
  refine ⟨_, _, _, (θ_run _ _ _).mono (fun r h c => ⟨(h c).1.trans (final_norm m c), (h c).2.1.trans (final_sum m c), (h c).2.2.1.trans (final_short m c), (h c).2.2.2⟩)
      (Value.run_blocks m g),
    (θ_run _ _ _).mono (fun r h c => ⟨(h c).1.trans ?_, (h c).2.1.trans ?_, (h c).2.2.1.trans ?_, (h c).2.2.2⟩) (LnHalfRefIdeal.Value.run (F := Ideal) m' g')⟩
  all_goals
    obtain ⟨e0, e1, e2, e3⟩ := hargs c
    have hs : (addf (mulf (broadcastInDim LnHalfRefIdeal.S4096x1024 ![] LnHalfRefIdeal.Gen.bcast_S_S4096x1024 (constant (F := Ideal) LnHalfRefIdeal.S_ .f32 0x3F9837F0#32)) (m' ((c.tc : Thread LnHalfRefIdeal.nD LnHalfRefIdeal.τ).loc LnHalfRefIdeal.main_arg0))) (mulf (broadcastInDim LnHalfRefIdeal.S4096x1024 ![] LnHalfRefIdeal.Gen.bcast_S_S4096x1024 (constant (F := Ideal) LnHalfRefIdeal.S_ .f32 0x3F000000#32)) (m' ((c.tc : Thread LnHalfRefIdeal.nD LnHalfRefIdeal.τ).loc LnHalfRefIdeal.main_arg1))) : FVec Ideal LnRefIdeal.S4096x1024 .f32) = sum m c := by
      rw [e0, e1]
      funext y
      idx_vars y
      unfold sum residual
      pointwise
  · exact (congrArg (fun s => hostNorm s _ _) hs).trans (by rw [e2, e3]; funext y; idx_vars y; exact hostNorm_apply _ _ _ y0 y1)
  · exact hs
  · exact (congrArg (fun s => hostNorm s _ _) hs).trans (by rw [e2, e3]; funext y; idx_vars y; exact hostNorm_apply _ _ _ y0 y1)

end Half

end Cert.NormFwd

end
-- ==== Proof.NormSlope.lean ====
/-
  The gradient through a row's normalisation: the kernel's form, and the one the chain rule spells out.
-/
module

public import proofs.«01_k».proof.Proof.LayerNorm
public import proofs.«01_k».proof.Proof.Chunks

@[expose] public section

noncomputable section

namespace Cert.LayerNorm

open Idealize.ShloMosaic Cert.Products Cert.Scan

/-- The gradient of row `x`, where `d` is that of the normalised row: as the kernel computes it. -/
def slope (x d : Fin 1024 → EReal) (j : Fin 1024) : EReal := unit x * (d j - mean d - normal x j * mean (fun l => d l * normal x l))

/-- What the chain rule multiplies the row about its mean by. -/
def pull (x d : Fin 1024 → EReal) : EReal :=
  Ideal.div ((∑ l : Fin 1024, centre x l * d l) * (Ideal.ofBits .f32 0xBF000000#32 * Ideal.div (unit x) (spread x))) (Ideal.ofBits .f32 0x44800000#32)

/-- The gradient of row `x`, as the chain rule spells it out. -/
def chain (x d : Fin 1024 → EReal) (j : Fin 1024) : EReal :=
  d j * unit x + pull x d * (Ideal.ofBits .f32 0x40000000#32 * centre x j)
    + Ideal.div ((∑ l : Fin 1024, -(d l * unit x)) + ∑ l : Fin 1024, -(pull x d * (Ideal.ofBits .f32 0x40000000#32 * centre x l))) (Ideal.ofBits .f32 0x44800000#32)

/-! ## Real rows -/

theorem width_bits : Ideal.ofBits .f32 0x44800000#32 = ((1024 : ℝ) : EReal) := by
  simp [Ideal.ofBits, Ideal.ieee]
  norm_num
  rw [← EReal.coe_mul]
  norm_num

theorem half_bits : Ideal.ofBits .f32 0xBF000000#32 = ((-(1 / 2) : ℝ) : EReal) := by
  simp [Ideal.ofBits, Ideal.ieee]
  norm_num
  rw [← EReal.coe_mul]
  norm_num

theorem two_bits : Ideal.ofBits .f32 0x40000000#32 = ((2 : ℝ) : EReal) := by
  simp [Ideal.ofBits, Ideal.ieee]
  norm_num
  rw [← EReal.coe_mul]
  norm_num

theorem small_bits : ∃ e : ℝ, 0 < e ∧ Ideal.ofBits .f32 0x3727C5AC#32 = (e : EReal) := by
  refine ⟨10995116 / 2 ^ 40, by norm_num, ?_⟩
  simp [Ideal.ofBits, Ideal.ieee]
  norm_num
  rw [← EReal.coe_mul]
  norm_num

theorem sum_coe {n : ℕ} (f : Fin n → ℝ) : ∑ i, (f i : EReal) = ((∑ i, f i : ℝ) : EReal) :=
  (map_sum (⟨⟨fun x : ℝ => (x : EReal), rfl⟩, EReal.coe_add⟩ : ℝ →+ EReal) f Finset.univ).symm

theorem mean_coe (f : Fin 1024 → ℝ) : mean (fun l => (f l : EReal)) = (((∑ l, f l) / 1024 : ℝ) : EReal) := by
  unfold mean
  rw [sum_coe, width_bits, Ideal.div_coe (by norm_num), ← EReal.coe_mul]
  exact congrArg _ (by ring)

/-- The two forms agree on real numbers. -/
theorem real_eq (c d : Fin 1024 → ℝ) (s w : ℝ) (hc : ∑ l, c l = 0) (j : Fin 1024) :
    d j * s + (∑ l, c l * d l) * (-(1 / 2) * (s * (s * s))) / 1024 * (2 * c j)
        + ((∑ l, -(d l * s)) + ∑ l, -((∑ l, c l * d l) * (-(1 / 2) * (s * (s * s))) / 1024 * (2 * c l))) / 1024
      = s * (d j - (∑ l, d l) / 1024 - c j * s * ((∑ l, d l * (c l * s)) / 1024)) := by
  have h1 : ∑ l, d l * (c l * s) = (∑ l, c l * d l) * s := by
    rw [Finset.sum_mul]
    exact Finset.sum_congr rfl fun l _ => by ring
  have h2 : ∑ l, -((∑ l, c l * d l) * (-(1 / 2) * (s * (s * s))) / 1024 * (2 * c l)) = 0 := by
    rw [Finset.sum_neg_distrib, ← Finset.mul_sum, ← Finset.mul_sum, hc]
    ring
  have h3 : ∑ l, -(d l * s) = -((∑ l, d l) * s) := by
    rw [Finset.sum_neg_distrib, Finset.sum_mul]
  rw [h1, h2, h3]
  ring

theorem chain_real (x d : Fin 1024 → ℝ) (j : Fin 1024) : chain (fun l => (x l : EReal)) (fun l => (d l : EReal)) j = slope (fun l => (x l : EReal)) (fun l => (d l : EReal)) j := by
  obtain ⟨e, he, eb⟩ := small_bits
  have hc : ∀ l, centre (fun l => (x l : EReal)) l = ((x l - (∑ l, x l) / 1024 : ℝ) : EReal) := fun l => by
    unfold centre
    rw [mean_coe, ← EReal.coe_sub]
  have h0 : ∑ l, (x l - (∑ l, x l) / 1024) = 0 := by
    rw [Finset.sum_sub_distrib, Finset.sum_const, Finset.card_univ, Fintype.card_fin, nsmul_eq_mul]
    push_cast
    ring
  generalize hq : (fun l => x l - (∑ l, x l) / 1024) = c at *
  have hc' : ∀ l, centre (fun l => (x l : EReal)) l = (c l : EReal) := fun l => by rw [hc l, ← hq]
  have h0' : ∑ l, c l = 0 := h0
  obtain ⟨V, hV, ev⟩ : ∃ V : ℝ, 0 < V ∧ spread (fun l => (x l : EReal)) = (V : EReal) := by
    refine ⟨(∑ l, c l * c l) / 1024 + e, by have : 0 ≤ ∑ l, c l * c l := Finset.sum_nonneg fun l _ => mul_self_nonneg _; positivity, ?_⟩
    unfold spread
    simp only [hc', ← EReal.coe_mul]
    rw [mean_coe, eb, ← EReal.coe_add]
  have es : unit (fun l => (x l : EReal)) = (((Real.sqrt V)⁻¹ : ℝ) : EReal) := by
    unfold unit
    rw [ev, Ideal.rsqrt_coe, if_neg (not_lt.mpr hV.le), if_neg hV.ne']
  have hs : (Real.sqrt V)⁻¹ * (Real.sqrt V)⁻¹ = 1 / V := by
    rw [← mul_inv, Real.mul_self_sqrt hV.le, one_div]
  generalize (Real.sqrt V)⁻¹ = s at *
  have ep : pull (fun l => (x l : EReal)) (fun l => (d l : EReal)) = (((∑ l, c l * d l) * (-(1 / 2) * (s * (s * s))) / 1024 : ℝ) : EReal) := by
    unfold pull
    simp only [hc', ← EReal.coe_mul]
    rw [sum_coe, es, ev, Ideal.div_coe hV.ne', half_bits, width_bits, ← hs, ← EReal.coe_mul, ← EReal.coe_mul, ← EReal.coe_mul, Ideal.div_coe (by norm_num), ← EReal.coe_mul]
    exact congrArg _ (by ring)
  unfold chain slope normal
  simp only [ep, hc', es, two_bits, ← EReal.coe_mul, ← EReal.coe_neg]
  rw [mean_coe, mean_coe, sum_coe, sum_coe, width_bits, ← EReal.coe_add, ← EReal.coe_add, Ideal.div_coe (by norm_num), ← EReal.coe_mul, ← EReal.coe_add, ← EReal.coe_sub, ← EReal.coe_mul, ← EReal.coe_sub, ← EReal.coe_mul]
  refine congrArg _ (Eq.trans ?_ (real_eq c d s V h0' j))
  ring

/-! ## Rows with an infinite element -/

theorem square_top (a : EReal) (ha : a = ⊤ ∨ a = ⊥) : a * a = ⊤ := by
  obtain rfl | rfl := ha
  · exact EReal.top_mul_top
  · exact EReal.bot_mul_bot

theorem square_nonneg (a : EReal) : 0 ≤ a * a := by
  induction a using EReal.rec with
  | bot => rw [EReal.bot_mul_bot]; exact le_top
  | top => rw [EReal.top_mul_top]; exact le_top
  | coe a => rw [← EReal.coe_mul]; exact EReal.coe_nonneg.mpr (mul_self_nonneg a)

theorem centre_infinite (x : Fin 1024 → EReal) (l : Fin 1024) (h : x l = ⊤ ∨ x l = ⊥) : centre x l = ⊤ ∨ centre x l = ⊥ := by
  unfold centre
  obtain h | h := h
  · rw [h]
    induction mean x using EReal.rec with
    | bot => exact .inl rfl
    | top => exact .inr rfl
    | coe a => exact .inl (EReal.top_sub_coe a)
  · rw [h]
    exact .inr (by rw [sub_eq_add_neg]; exact EReal.bot_add _)

theorem spread_top (x : Fin 1024 → EReal) (l : Fin 1024) (h : x l = ⊤ ∨ x l = ⊥) : spread x = ⊤ := by
  obtain ⟨e, he, eb⟩ := small_bits
  have h1 : ∑ j : Fin 1024, centre x j * centre x j = ⊤ := by
    refine top_le_iff.mp ?_
    rw [← square_top _ (centre_infinite x l h)]
    exact Finset.single_le_sum (f := fun j => centre x j * centre x j) (fun j _ => square_nonneg _) (Finset.mem_univ l)
  unfold spread mean
  rw [h1, width_bits, eb, Ideal.div_coe (by norm_num), EReal.top_mul_coe_of_pos (by norm_num), EReal.top_add_coe]

theorem unit_zero (x : Fin 1024 → EReal) (l : Fin 1024) (h : x l = ⊤ ∨ x l = ⊥) : unit x = 0 := by
  unfold unit
  rw [spread_top x l h, Ideal.rsqrt_top]

theorem chain_infinite (x d : Fin 1024 → EReal) (l j : Fin 1024) (h : x l = ⊤ ∨ x l = ⊥) : chain x d j = slope x d j := by
  have hp : pull x d = 0 := by
    unfold pull
    rw [unit_zero x l h, spread_top x l h, show Ideal.div 0 ⊤ = 0 by rw [Ideal.div, if_neg EReal.top_ne_zero, zero_mul], mul_zero, mul_zero, width_bits,
      Ideal.div_coe (by norm_num), zero_mul]
  unfold chain slope
  rw [hp, unit_zero x l h]
  simp only [mul_zero, zero_mul, neg_zero, Finset.sum_const_zero, add_zero]
  rw [width_bits, Ideal.div_coe (by norm_num), zero_mul, add_zero]

/-- The two forms agree wherever the gradient that arrives is real. -/
theorem chain_eq (x d : Fin 1024 → EReal) (hd : ∀ l, IsReal (d l)) (j : Fin 1024) : chain x d j = slope x d j := by
  by_cases h : ∃ l, x l = ⊤ ∨ x l = ⊥
  · obtain ⟨l, hl⟩ := h
    exact chain_infinite x d l j hl
  · have hx : ∀ l, ∃ a : ℝ, x l = (a : EReal) := fun l => by
      rw [not_exists] at h
      have := h l
      rw [not_or] at this
      exact ⟨(x l).toReal, (EReal.coe_toReal this.1 this.2).symm⟩
    choose a ha using hx
    choose b hb using hd
    obtain rfl : x = fun l => (a l : EReal) := funext ha
    obtain rfl : d = fun l => (b l : EReal) := funext hb
    exact chain_real a b j

end Cert.LayerNorm

end
-- ==== Proof.NormBack.lean ====
/-
  The gradient of a layer norm: of its input, its scale and its shift.
-/
module

public import proofs.«01_k».proof.Defs
public import proofs.«01_k».proof.Proof.NormSlope
public import proofs.«01_k».proof.Proof.NormFwd
public import proofs.«01_k».proof.Proof.Gen.LnBackIdeal.Value
public import proofs.«01_k».proof.Proof.Gen.LnBackRefIdeal.Run
public import proofs.«01_k».proof.Proof.Gen.Pre_finite_ln
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.NormBack

open Idealize.ShloMosaic Idealize.ShloMosaic.TcCoe Idealize.SL.Sem Cert.Products Cert.LayerNorm Cert.NormFwd

/-- The gradient of the normalised rows: that of the norm's result, scaled. -/
def inner (d : Mat 4096 1024) (g : Mat 1 1024) : Mat 4096 1024 := fun i => d i * g (ix2 0 (i 1))

/-- The gradient of the input, where `d` is that of the normalised rows. -/
def valueX (x d : Mat 4096 1024) : Mat 4096 1024 := fun i => slope (row x (i 0)) (row d (i 0)) (i 1)

/-- The gradient of the scale, where `d` is that of the result. -/
def valueG (x d : Mat 4096 1024) : Mat 1 1024 := fun i => ∑ l : Fin 4096, d (ix2 l (i 1)) * normal (row x l) (i 1)

/-- The gradient of the shift. -/
def valueB (d : Mat 4096 1024) : Mat 1 1024 := fun i => ∑ l : Fin 4096, d (ix2 l (i 1))

section block
open Cert.LnBackIdeal Cert.LnBackIdeal.Gen

/-- The gradient of a block of rows, as the kernel writes it. -/
def blockSlope (x d : FVec Ideal S1024x1024 .f32) : FVec Ideal S1024x1024 .f32 :=
  mulf (broadcastTo S1024x1024 (blockUnit x) broadcasts_S1024x1_S1024x1024)
    (subf (subf d (broadcastTo S1024x1024 (blockMean d) broadcasts_S1024x1_S1024x1024))
      (mulf (blockNormal x) (broadcastTo S1024x1024 (blockMean (mulf d (blockNormal x))) broadcasts_S1024x1_S1024x1024)))

theorem blockSlope_apply (x d : FVec Ideal S1024x1024 .f32) (i j : Fin 1024) : blockSlope x d (ix2 i j) = slope (row x i) (row d i) j := by
  have h : row (mulf d (blockNormal x)) i = fun l => row d i l * normal (row x i) l :=
    funext fun l => congrArg (d (ix2 i l) * ·) (blockNormal_apply x i l)
  unfold blockSlope LayerNorm.slope
  pointwise
  rw [blockUnit_apply, blockMean_apply, blockMean_apply, blockNormal_apply, h]
  rfl

theorem outer (a b : Vec Ideal S1024x1024 .f32) (i : S1024x1024.Idx) : k0_pay9 a b i = Ideal.ofBits .f32 0x3F9837F0#32 * a i + 1 * b i := by
  idx_vars i
  pointwise [k0_pay9]

/-- What one block of rows adds to the gradients of the scale and of the shift. -/
def stepG (x a b : Vec Ideal S1024x1024 .f32) : FVec Ideal S1x1024 .f32 := k0_pay2 (k0_pay8 x) (k0_pay9 a b)

def stepB (a b : Vec Ideal S1024x1024 .f32) : FVec Ideal S1x1024 .f32 := k0_pay3 (k0_pay9 a b)

theorem stepG_apply (x a b : Vec Ideal S1024x1024 .f32) (i : Fin 1) (j : Fin 1024) : stepG x a b (ix2 i j)
    = ∑ l : Fin 1024, (Ideal.ofBits .f32 0x3F9837F0#32 * a (ix2 l j) + 1 * b (ix2 l j)) * normal (row x l) j := by
  refine Eq.trans (b := ∑ l : Fin 1024, k0_pay9 a b (ix2 l j) * blockNormal x (ix2 l j)) ?_ ?_
  · unfold stepG
    pointwise [k0_pay2]
    rfl
  · exact Finset.sum_congr rfl fun l _ => by rw [outer, blockNormal_apply]

theorem stepB_apply (a b : Vec Ideal S1024x1024 .f32) (i : Fin 1) (j : Fin 1024) : stepB a b (ix2 i j)
    = ∑ l : Fin 1024, (Ideal.ofBits .f32 0x3F9837F0#32 * a (ix2 l j) + 1 * b (ix2 l j)) := by
  refine Eq.trans (b := ∑ l : Fin 1024, k0_pay9 a b (ix2 l j)) ?_ ?_
  · unfold stepB
    pointwise [k0_pay3]
  · exact Finset.sum_congr rfl fun l _ => by rw [outer]

variable (m : (ℓ : Loc nD τ sig) → Buf (Elt Ideal) ℓ)

theorem index (t : Fin cfg0.N) : win0_0.index t = ![t.val, 0] ∧ win0_1.index t = ![t.val, 0] ∧ win0_2.index t = ![t.val, 0] ∧ win0_3.index t = ![0, 0]
    ∧ win0_4.index t = ![t.val, 0] ∧ win0_5.index t = ![0, 0] ∧ win0_6.index t = ![0, 0] :=
  (by decide +kernel : ∀ t : Fin grid0.N, win0_0.index t = ![t.val, 0] ∧ win0_1.index t = ![t.val, 0] ∧ win0_2.index t = ![t.val, 0] ∧ win0_3.index t = ![0, 0]
    ∧ win0_4.index t = ![t.val, 0] ∧ win0_5.index t = ![0, 0] ∧ win0_6.index t = ![0, 0]) t

/-- The gradient of the norm's result. -/
abbrev grad (c : Dev nD) : Mat 4096 1024 := residual 1 (m ((c.tc : Thread nD τ).loc main_arg1)) (m ((c.tc : Thread nD τ).loc main_arg2))

theorem outX (c : Dev nD) (t : Fin cfg0.N) (y : S1024x1024.Idx) :
    (outsAt0 m c t.val t.isLt).1 y = blockSlope (iblk m c 0 t) (k0_pay10 (iblk m c 1 t) (iblk m c 2 t) (iblk m c 3 t)) y := by
  have hN : t.val < 4 := t.isLt
  by_cases h : t.val % 4 = 0
  · rw [outsAt0_A m c t h (by omega) (by omega) (by omega)]
    frame_out
    rfl
  · rw [outsAt0_B m c t h (by omega) (by omega) (by omega)]
    frame_out
    rfl

theorem startG (c : Dev nD) (t : Fin cfg0.N) (h : t.val % 4 = 0) (y : S1x1024.Idx) :
    (outsAt0 m c t.val t.isLt).2.1 y = stepG (iblk m c 0 t) (iblk m c 1 t) (iblk m c 2 t) y := by
  have hN : t.val < 4 := t.isLt
  rw [outsAt0_A m c t h (by omega) (by omega) (by omega)]
  frame_out
  rfl

theorem nextG (c : Dev nD) (t : Fin cfg0.N) (h : ¬t.val % 4 = 0) (y : S1x1024.Idx) :
    (outsAt0 m c t.val t.isLt).2.1 y = (outsAt0 m c (t.val - 1) (Nat.lt_of_le_of_lt (Nat.sub_le _ _) t.isLt)).2.1 y
      + stepG (iblk m c 0 t) (iblk m c 1 t) (iblk m c 2 t) y := by
  rw [outsAt0_B m c t h (by omega) (by omega) (by omega)]
  frame_out
  pointwise [k0_pay4]
  rfl

theorem startB (c : Dev nD) (t : Fin cfg0.N) (h : t.val % 4 = 0) (y : S1x1024.Idx) :
    (outsAt0 m c t.val t.isLt).2.2 y = stepB (iblk m c 1 t) (iblk m c 2 t) y := by
  have hN : t.val < 4 := t.isLt
  rw [outsAt0_A m c t h (by omega) (by omega) (by omega)]
  frame_out
  rfl

theorem nextB (c : Dev nD) (t : Fin cfg0.N) (h : ¬t.val % 4 = 0) (y : S1x1024.Idx) :
    (outsAt0 m c t.val t.isLt).2.2 y = (outsAt0 m c (t.val - 1) (Nat.lt_of_le_of_lt (Nat.sub_le _ _) t.isLt)).2.2 y
      + stepB (iblk m c 1 t) (iblk m c 2 t) y := by
  rw [outsAt0_B m c t h (by omega) (by omega) (by omega)]
  frame_out
  pointwise [k0_pay5]
  rfl

theorem finalX (c : Dev nD) : (dats m 0 c).arrAt 4 cfg0.N
    = valueX (m ((c.tc : Thread nD τ).loc main_arg0)) (inner (grad m c) (m ((c.tc : Thread nD τ).loc main_arg3))) := by
  refine (dats m 0 c).arrAt_eq_of_covers 4 _ (by decide +kernel) fun t hf y => ?_
  blk_simp
  rw [after0_4, outX]
  obtain ⟨e0, e1, e2, e3, e4, e5, e6⟩ := index t
  idx_vars y
  refine Eq.trans ?_ (congrArg (valueX _ _) (place_of _ t.val t.isLt y0 y1 _ _ (congrFun e4 0) (congrFun e4 1) rfl rfl).symm)
  rw [blockSlope_apply]
  refine congrArg₂ (fun a b => slope a b y1) (funext fun l => ?_) (funext fun l => ?_)
  · show iblk m c 0 t (ix2 y0 l) = m ((c.tc : Thread nD τ).loc main_arg0) (ix2 (at_ t.val t.isLt y0) l)
    unfold at_
    blk_point [iblk, V, e0, e1, e2, e3, e4, e5, e6]
  · show k0_pay10 (iblk m c 1 t) (iblk m c 2 t) (iblk m c 3 t) (ix2 y0 l) = inner (grad m c) (m ((c.tc : Thread nD τ).loc main_arg3)) (ix2 (at_ t.val t.isLt y0) l)
    pointwise [k0_pay10]
    rw [outer]
    unfold inner grad NormFwd.residual at_
    blk_point [iblk, V, e0, e1, e2, e3, e4, e5, e6]

/-- Where an entry of a single row lies. -/
theorem single_of (e : (⟨2, ![1, 1024]⟩ : Shape).Idx) (y0 : Fin 1) (y1 : Fin 1024) (o p : ℕ) (ho : o = 0) (hp : p = 0)
    (h0 : (e 0).val = o * 1 + 1 * y0.val) (h1 : (e 1).val = p * 1024 + 1 * y1.val) : e = ix2 y0 y1 := by
  subst ho hp
  funext a
  refine Fin.ext ?_
  match a with
  | ⟨0, _⟩ => exact h0.trans (by show 0 * 1 + 1 * y0.val = y0.val; omega)
  | ⟨1, _⟩ => exact h1.trans (by show 0 * 1024 + 1 * y1.val = y1.val; omega)

theorem finalG (c : Dev nD) : (dats m 0 c).arrAt 5 cfg0.N = valueG (m ((c.tc : Thread nD τ).loc main_arg0)) (grad m c) := by
  refine (dats m 0 c).arrAt_eq_of_covers 5 _ (by decide +kernel) fun t hf y => ?_
  have ht := (flush0_5 t).mp hf
  blk_simp
  rw [after0_5, nextG m c t (by omega), run_sum 4 (fun n h => (outsAt0 m c n h).2.1)
    (fun t y => stepG (iblk m c 0 t) (iblk m c 1 t) (iblk m c 2 t) y) (by decide) (startG m c)
    (fun u hu _ i => nextG m c u hu i) t ht y]
  obtain ⟨e0, e1, e2, e3, e4, e5, e6⟩ := index t
  idx_vars y
  refine Eq.trans ?_ (congrArg (valueG _ _) (single_of _ y0 y1 _ _ (congrFun e5 0) (congrFun e5 1) rfl rfl).symm)
  simp only [stepG_apply]
  unfold valueG
  refine Fin.sum_mul_add_congr fun s l hl => ?_
  obtain ⟨f0, f1, f2, f3, f4, f5, f6⟩ := index ⟨4 * (t.val / 4) + s.val, Pipeline.run_point_lt_of_flush (J := 4) t ht s⟩
  refine congrArg₂ (· * ·) ?_ (congrArg (fun r => normal r y1) (funext fun e => ?_))
  · unfold grad NormFwd.residual
    blk_point [iblk, V, f0, f1, f2, f3, e5]
  · unfold row
    blk_point [iblk, V, f0, f1, f2, f3, e5]

theorem finalB (c : Dev nD) : (dats m 0 c).arrAt 6 cfg0.N = valueB (grad m c) := by
  refine (dats m 0 c).arrAt_eq_of_covers 6 _ (by decide +kernel) fun t hf y => ?_
  have ht := (flush0_6 t).mp hf
  blk_simp
  rw [after0_6, nextB m c t (by omega), run_sum 4 (fun n h => (outsAt0 m c n h).2.2)
    (fun t y => stepB (iblk m c 1 t) (iblk m c 2 t) y) (by decide) (startB m c)
    (fun u hu _ i => nextB m c u hu i) t ht y]
  obtain ⟨e0, e1, e2, e3, e4, e5, e6⟩ := index t
  idx_vars y
  refine Eq.trans ?_ (congrArg (valueB _) (single_of _ y0 y1 _ _ (congrFun e6 0) (congrFun e6 1) rfl rfl).symm)
  simp only [stepB_apply]
  unfold valueB
  refine Fin.sum_mul_add_congr fun s l hl => ?_
  obtain ⟨f0, f1, f2, f3, f4, f5, f6⟩ := index ⟨4 * (t.val / 4) + s.val, Pipeline.run_point_lt_of_flush (J := 4) t ht s⟩
  unfold grad NormFwd.residual
  blk_point [iblk, V, f0, f1, f2, f3, e6]

end block

section host
open Cert.LnBackRefIdeal Cert.LnBackRefIdeal.Gen

/-- A column of row sums. -/
def rowSum (x : FVec Ideal S4096x1024 .f32) : FVec Ideal S4096x1 .f32 :=
  shapeCast S4096x1 (Host.reduceAdd x (constant S_ .f32 0x00000000#32) reducesTo_S4096x1024_S4096_d1 h_S_) shapeCasts_S4096_S4096x1

theorem rowSum_apply (x : FVec Ideal S4096x1024 .f32) (i : Fin 4096) (j : Fin 1) : rowSum x (ix2 i j) = ∑ l : Fin 1024, x (ix2 i l) := by
  unfold rowSum
  pointwise

/-- A sum over an axis of one element. -/
theorem single_sum (x : FVec Ideal S4096x1 .f32) (i : Fin 4096) :
    Host.reduceAdd x (constant S_ .f32 0x00000000#32) reducesTo_S4096x1_S4096_d1 h_S_ (ix1 i) = x (ix2 i 0) := by
  refine Eq.trans (b := ∑ l : Fin 1, x (ix2 i l)) ?_ (Fin.sum_univ_one _)
  pointwise

/-- A column over the width of a row, set along every row. -/
def flat (x : FVec Ideal S4096x1 .f32) : FVec Ideal S4096x1024 .f32 :=
  broadcastInDim S4096x1024 ![0] bcast_S4096_S4096x1024_0 (Host.reduceAdd (Host.divf x (broadcastInDim S4096x1 ![] bcast_S_S4096x1 (constant S_ .f32 0x44800000#32)))
    (constant S_ .f32 0x00000000#32) reducesTo_S4096x1_S4096_d1 h_S_)

theorem flat_apply (x : FVec Ideal S4096x1 .f32) (i : Fin 4096) (j : Fin 1024) : flat x (ix2 i j) = Ideal.div (x (ix2 i 0)) (Ideal.ofBits .f32 0x44800000#32) := by
  refine Eq.trans (b := Host.reduceAdd (Host.divf x (broadcastInDim S4096x1 ![] bcast_S_S4096x1 (constant S_ .f32 0x44800000#32)))
    (constant S_ .f32 0x00000000#32) reducesTo_S4096x1_S4096_d1 h_S_ (ix1 i)) ?_ ((single_sum _ i).trans ?_)
  · unfold flat
    pointwise
  · pointwise

/-- The gradient through the root of the mean square. -/
def hostPull (x d : FVec Ideal S4096x1024 .f32) : FVec Ideal S4096x1 .f32 :=
  mulf (rowSum (mulf (hostCentre x) d)) (mulf (broadcastInDim S4096x1 ![] bcast_S_S4096x1 (constant S_ .f32 0xBF000000#32)) (Host.divf (Host.rsqrt (hostSpread x)) (hostSpread x)))

theorem hostPull_apply (x d : FVec Ideal S4096x1024 .f32) (i : Fin 4096) (j : Fin 1024) : flat (hostPull x d) (ix2 i j) = pull (row x i) (row d i) := by
  have h : ∀ l, mulf (hostCentre x) d (ix2 i l) = centre (row x i) l * row d i l := fun l => congrArg (· * d (ix2 i l)) (hostCentre_apply x i l)
  rw [flat_apply]
  unfold hostPull pull unit
  pointwise
  rw [rowSum_apply, hostSpread_apply]
  simp only [h]

/-- The gradient through that root, of the row about its mean. -/
def hostTail (x d : FVec Ideal S4096x1024 .f32) : FVec Ideal S4096x1024 .f32 :=
  mulf (flat (hostPull x d)) (mulf (broadcastInDim S4096x1024 ![] bcast_S_S4096x1024 (constant S_ .f32 0x40000000#32)) (hostCentre x))

theorem hostTail_apply (x d : FVec Ideal S4096x1024 .f32) (i : Fin 4096) (j : Fin 1024) :
    hostTail x d (ix2 i j) = pull (row x i) (row d i) * (Ideal.ofBits .f32 0x40000000#32 * centre (row x i) j) := by
  unfold hostTail
  pointwise
  rw [hostPull_apply, hostCentre_apply]

/-- The gradient that leaves the root as it is. -/
def hostHead (x d : FVec Ideal S4096x1024 .f32) : FVec Ideal S4096x1024 .f32 :=
  mulf d (broadcastInDim S4096x1024 ![0, 1] bcast_S4096x1_S4096x1024_0_1 (Host.rsqrt (hostSpread x)))

theorem hostHead_apply (x d : FVec Ideal S4096x1024 .f32) (i : Fin 4096) (j : Fin 1024) : hostHead x d (ix2 i j) = row d i j * unit (row x i) := by
  unfold hostHead unit
  pointwise
  rw [hostSpread_apply]
  rfl

/-- The gradient of the input, by the chain rule. -/
def hostSlope (x d : FVec Ideal S4096x1024 .f32) : FVec Ideal S4096x1024 .f32 :=
  addf (addf (hostHead x d) (hostTail x d)) (flat (addf (rowSum (Host.negf (hostHead x d))) (rowSum (Host.negf (hostTail x d)))))

theorem hostSlope_apply (x d : FVec Ideal S4096x1024 .f32) (i : Fin 4096) (j : Fin 1024) : hostSlope x d (ix2 i j) = chain (row x i) (row d i) j := by
  refine Eq.trans (b := hostHead x d (ix2 i j) + hostTail x d (ix2 i j)
    + flat (addf (rowSum (Host.negf (hostHead x d))) (rowSum (Host.negf (hostTail x d)))) (ix2 i j)) rfl ?_
  rw [flat_apply, hostHead_apply, hostTail_apply]
  refine congrArg (fun z => row d i j * unit (row x i) + pull (row x i) (row d i) * (Ideal.ofBits .f32 0x40000000#32 * centre (row x i) j)
    + Ideal.div z (Ideal.ofBits .f32 0x44800000#32)) ?_
  refine Eq.trans (b := rowSum (Host.negf (hostHead x d)) (ix2 i 0) + rowSum (Host.negf (hostTail x d)) (ix2 i 0)) rfl ?_
  rw [rowSum_apply, rowSum_apply]
  exact congrArg₂ (· + ·) (Finset.sum_congr rfl fun l _ => congrArg (- ·) (hostHead_apply x d i l)) (Finset.sum_congr rfl fun l _ => congrArg (- ·) (hostTail_apply x d i l))

/-- The gradient of the norm's result. -/
def hostGrad (a b : FVec Ideal S4096x1024 .f32) : FVec Ideal S4096x1024 .f32 :=
  addf (mulf (broadcastInDim S4096x1024 ![] bcast_S_S4096x1024 (constant S_ .f32 0x3F9837F0#32)) a) b

theorem hostGrad_eq (a b : FVec Ideal S4096x1024 .f32) : hostGrad a b = residual 1 a b := by
  funext y
  idx_vars y
  unfold hostGrad NormFwd.residual
  pointwise

def hostInner (d : FVec Ideal S4096x1024 .f32) (g : FVec Ideal S1x1024 .f32) : FVec Ideal S4096x1024 .f32 :=
  mulf d (broadcastInDim S4096x1024 ![0, 1] bcast_S1x1024_S4096x1024_0_1 g)

theorem hostInner_eq (d : FVec Ideal S4096x1024 .f32) (g : FVec Ideal S1x1024 .f32) : hostInner d g = inner d g := by
  funext y
  idx_vars y
  unfold hostInner inner
  pointwise

/-- A row of column sums. -/
def colSum (x : FVec Ideal S4096x1024 .f32) : FVec Ideal S1x1024 .f32 :=
  shapeCast S1x1024 (Host.reduceAdd x (constant S_ .f32 0x00000000#32) reducesTo_S4096x1024_S1024_d0 h_S_) shapeCasts_S1024_S1x1024

theorem colSum_apply (x : FVec Ideal S4096x1024 .f32) (i : Fin 1) (j : Fin 1024) : colSum x (ix2 i j) = ∑ l : Fin 4096, x (ix2 l j) := by
  unfold colSum
  pointwise

variable (m : (ℓ : Loc nD τ sig) → Buf (Elt Ideal) ℓ)

theorem ref (c : Dev nD) : Value.res_out0 (F := Ideal) m c = hostSlope (m ((c.tc : Thread nD τ).loc main_arg0))
    (hostInner (hostGrad (m ((c.tc : Thread nD τ).loc main_arg1)) (m ((c.tc : Thread nD τ).loc main_arg2))) (m ((c.tc : Thread nD τ).loc main_arg3))) := by
  unfold Value.res_out0 Value.res_main_v61
  rfl

end host

theorem isReal_grad (a b : Mat 4096 1024) (ha : ∀ i, Scan.IsReal (a i)) (hb : ∀ i, Scan.IsReal (b i)) (i : (⟨2, ![4096, 1024]⟩ : Shape).Idx) : Scan.IsReal (residual 1 a b i) := by
  obtain ⟨s, hs⟩ : ∃ s : ℝ, Ideal.ofBits .f32 0x3F9837F0#32 = (s : EReal) := by
    simp [Ideal.ofBits, Ideal.ieee]
    exact ⟨_, (EReal.coe_mul _ _).symm⟩
  obtain ⟨x, hx⟩ := ha i
  obtain ⟨y, hy⟩ := hb i
  exact ⟨s * x + y, by unfold NormFwd.residual; rw [hs, hx, hy, one_mul, EReal.coe_add, EReal.coe_mul]⟩

/-- The kernel's results are the reference's. -/
theorem algebraic : algebraic_LnBackIdeal_LnBackRefIdeal_pre_finite_ln := by
  intro m g m' g' hp hargs
  refine ⟨_, _, _, (θ_run _ _ _).mono (fun r h c => ⟨(h c).1.trans (finalX m c), (h c).2.1.trans (finalG m c), (h c).2.2.1.trans (finalB m c), (h c).2.2.2⟩)
      (LnBackIdeal.Value.run_blocks m g),
    (θ_run _ _ _).mono (fun r h c => ⟨((h c).1.trans (ref m' c)).trans ?_, (h c).2.1.trans ?_, (h c).2.2.1.trans ?_, (h c).2.2.2⟩)
      (LnBackRefIdeal.Value.run (F := Ideal) m' g')⟩
  all_goals
    obtain ⟨e0, e1, e2, e3⟩ := hargs c
    obtain ⟨p1, p2, p3⟩ := hp c
  · rw [e0, e1, e2, e3, hostGrad_eq, hostInner_eq]
    funext y
    idx_vars y
    rw [hostSlope_apply]
    refine chain_eq _ _ (fun l => ?_) y1
    exact (isReal_grad _ _ (real_of _ _ p1) (real_of _ _ p2) _).mul (real_of _ _ p3 _)
  · refine Eq.trans (b := colSum (mulf (hostNormal (m' ((c.tc : Thread LnBackRefIdeal.nD LnBackRefIdeal.τ).loc LnBackRefIdeal.main_arg0)))
      (hostGrad (m' ((c.tc : Thread LnBackRefIdeal.nD LnBackRefIdeal.τ).loc LnBackRefIdeal.main_arg1)) (m' ((c.tc : Thread LnBackRefIdeal.nD LnBackRefIdeal.τ).loc LnBackRefIdeal.main_arg2))))) rfl ?_
    rw [e0, e1, e2, hostGrad_eq]
    funext y
    idx_vars y
    rw [colSum_apply]
    exact Finset.sum_congr rfl fun l _ => (congrArg (· * _) (hostNormal_apply _ l y1)).trans (mul_comm _ _)
  · refine Eq.trans (b := colSum (hostGrad (m' ((c.tc : Thread LnBackRefIdeal.nD LnBackRefIdeal.τ).loc LnBackRefIdeal.main_arg1)) (m' ((c.tc : Thread LnBackRefIdeal.nD LnBackRefIdeal.τ).loc LnBackRefIdeal.main_arg2)))) rfl ?_
    rw [e1, e2, hostGrad_eq]
    funext y
    idx_vars y
    exact colSum_apply _ y0 y1

end Cert.NormBack

end
-- ==== Proof.NormLast.lean ====
/-
  The gradient of a layer norm whose result has one gradient only: of its input, its scale and its shift.
-/
module

public import proofs.«01_k».proof.Proof.NormBack
public import proofs.«01_k».proof.Proof.Gen.LnLastIdeal.Value
public import proofs.«01_k».proof.Proof.Gen.LnLastRefIdeal.Run
public import proofs.«01_k».proof.Proof.Gen.Pre_finite_last

@[expose] public section

set_option maxRecDepth 16384

noncomputable section

namespace Cert.NormLast

open Idealize.ShloMosaic Idealize.ShloMosaic.TcCoe Idealize.SL.Sem Cert.Products Cert.LayerNorm Cert.NormFwd Cert.NormBack

section block
open Cert.LnLastIdeal Cert.LnLastIdeal.Gen

theorem outer (a : Vec Ideal S1024x1024 .f32) (i : S1024x1024.Idx) : k0_pay8 a i = a i := by
  idx_vars i
  pointwise [k0_pay8]

/-- The gradient of a block of normalised rows. -/
def blockInner (a : Vec Ideal S1024x1024 .f32) (g : Vec Ideal S1x1024 .f32) : FVec Ideal S1024x1024 .f32 :=
  mulf (k0_pay8 a) (broadcastTo S1024x1024 g broadcasts_S1x1024_S1024x1024)

theorem blockInner_apply (a : Vec Ideal S1024x1024 .f32) (g : Vec Ideal S1x1024 .f32) (i j : Fin 1024) : blockInner a g (ix2 i j) = a (ix2 i j) * g (ix2 0 j) := by
  unfold blockInner
  pointwise
  rw [outer]

/-- What one block of rows adds to the gradients of the scale and of the shift. -/
def stepG (x a : Vec Ideal S1024x1024 .f32) : FVec Ideal S1x1024 .f32 := k0_pay1 (k0_pay10 x a)

def stepB (a : Vec Ideal S1024x1024 .f32) : FVec Ideal S1x1024 .f32 := k0_pay2 (k0_pay8 a)

theorem stepG_apply (x a : Vec Ideal S1024x1024 .f32) (i : Fin 1) (j : Fin 1024) : stepG x a (ix2 i j)
    = ∑ l : Fin 1024, a (ix2 l j) * normal (row x l) j := by
  refine Eq.trans (b := ∑ l : Fin 1024, k0_pay8 a (ix2 l j) * blockNormal x (ix2 l j)) ?_ ?_
  · unfold stepG
    pointwise [k0_pay1, k0_pay10]
    rfl
  · exact Finset.sum_congr rfl fun l _ => by rw [outer, blockNormal_apply]

theorem stepB_apply (a : Vec Ideal S1024x1024 .f32) (i : Fin 1) (j : Fin 1024) : stepB a (ix2 i j) = ∑ l : Fin 1024, a (ix2 l j) := by
  refine Eq.trans (b := ∑ l : Fin 1024, k0_pay8 a (ix2 l j)) ?_ ?_
  · unfold stepB
    pointwise [k0_pay2]
  · exact Finset.sum_congr rfl fun l _ => by rw [outer]

variable (m : (ℓ : Loc nD τ sig) → Buf (Elt Ideal) ℓ)

theorem index (t : Fin cfg0.N) : win0_0.index t = ![t.val, 0] ∧ win0_1.index t = ![t.val, 0] ∧ win0_2.index t = ![0, 0]
    ∧ win0_3.index t = ![t.val, 0] ∧ win0_4.index t = ![0, 0] ∧ win0_5.index t = ![0, 0] :=
  (by decide +kernel : ∀ t : Fin grid0.N, win0_0.index t = ![t.val, 0] ∧ win0_1.index t = ![t.val, 0] ∧ win0_2.index t = ![0, 0]
    ∧ win0_3.index t = ![t.val, 0] ∧ win0_4.index t = ![0, 0] ∧ win0_5.index t = ![0, 0]) t

theorem outX (c : Dev nD) (t : Fin cfg0.N) (y : S1024x1024.Idx) : (outsAt0 m c t.val t.isLt).1 y
    = blockSlope (iblk m c 0 t) (blockInner (iblk m c 1 t) (iblk m c 2 t)) y := by
  have hN : t.val < 4 := t.isLt
  by_cases h : t.val % 4 = 0
  · rw [outsAt0_A m c t h (by omega) (by omega) (by omega)]
    frame_out
    rfl
  · rw [outsAt0_B m c t h (by omega) (by omega) (by omega)]
    frame_out
    rfl

theorem startG (c : Dev nD) (t : Fin cfg0.N) (h : t.val % 4 = 0) (y : S1x1024.Idx) :
    (outsAt0 m c t.val t.isLt).2.1 y = stepG (iblk m c 0 t) (iblk m c 1 t) y := by
  have hN : t.val < 4 := t.isLt
  rw [outsAt0_A m c t h (by omega) (by omega) (by omega)]
  frame_out
  rfl

theorem nextG (c : Dev nD) (t : Fin cfg0.N) (h : ¬t.val % 4 = 0) (y : S1x1024.Idx) :
    (outsAt0 m c t.val t.isLt).2.1 y = (outsAt0 m c (t.val - 1) (Nat.lt_of_le_of_lt (Nat.sub_le _ _) t.isLt)).2.1 y
      + stepG (iblk m c 0 t) (iblk m c 1 t) y := by
  rw [outsAt0_B m c t h (by omega) (by omega) (by omega)]
  frame_out
  pointwise [k0_pay3]
  rfl

theorem startB (c : Dev nD) (t : Fin cfg0.N) (h : t.val % 4 = 0) (y : S1x1024.Idx) :
    (outsAt0 m c t.val t.isLt).2.2 y = stepB (iblk m c 1 t) y := by
  have hN : t.val < 4 := t.isLt
  rw [outsAt0_A m c t h (by omega) (by omega) (by omega)]
  frame_out
  rfl

theorem nextB (c : Dev nD) (t : Fin cfg0.N) (h : ¬t.val % 4 = 0) (y : S1x1024.Idx) :
    (outsAt0 m c t.val t.isLt).2.2 y = (outsAt0 m c (t.val - 1) (Nat.lt_of_le_of_lt (Nat.sub_le _ _) t.isLt)).2.2 y
      + stepB (iblk m c 1 t) y := by
  rw [outsAt0_B m c t h (by omega) (by omega) (by omega)]
  frame_out
  pointwise [k0_pay4]
  rfl

theorem finalX (c : Dev nD) : (dats m 0 c).arrAt 3 cfg0.N
    = valueX (m ((c.tc : Thread nD τ).loc main_arg0)) (inner (m ((c.tc : Thread nD τ).loc main_arg1)) (m ((c.tc : Thread nD τ).loc main_arg2))) := by
  refine (dats m 0 c).arrAt_eq_of_covers 3 _ (by decide +kernel) fun t hf y => ?_
  blk_simp
  rw [after0_3, outX]
  obtain ⟨e0, e1, e2, e3, e4, e5⟩ := index t
  idx_vars y
  refine Eq.trans ?_ (congrArg (valueX _ _) (place_of _ t.val t.isLt y0 y1 _ _ (congrFun e3 0) (congrFun e3 1) rfl rfl).symm)
  rw [blockSlope_apply]
  refine congrArg₂ (fun a b => LayerNorm.slope a b y1) (funext fun l => ?_) (funext fun l => ?_)
  · show iblk m c 0 t (ix2 y0 l) = m ((c.tc : Thread nD τ).loc main_arg0) (ix2 (at_ t.val t.isLt y0) l)
    unfold at_
    blk_point [iblk, V, e0, e1, e2, e3, e4, e5]
  · refine (blockInner_apply _ _ y0 l).trans ?_
    unfold row NormBack.inner at_
    blk_point [iblk, V, e0, e1, e2, e3, e4, e5]

theorem finalG (c : Dev nD) : (dats m 0 c).arrAt 4 cfg0.N = valueG (m ((c.tc : Thread nD τ).loc main_arg0)) (m ((c.tc : Thread nD τ).loc main_arg1)) := by
  refine (dats m 0 c).arrAt_eq_of_covers 4 _ (by decide +kernel) fun t hf y => ?_
  have ht := (flush0_4 t).mp hf
  blk_simp
  rw [after0_4, nextG m c t (by omega), run_sum 4 (fun n h => (outsAt0 m c n h).2.1)
    (fun t y => stepG (iblk m c 0 t) (iblk m c 1 t) y) (by decide) (startG m c)
    (fun u hu _ i => nextG m c u hu i) t ht y]
  obtain ⟨e0, e1, e2, e3, e4, e5⟩ := index t
  idx_vars y
  refine Eq.trans ?_ (congrArg (valueG _ _) (single_of _ y0 y1 _ _ (congrFun e4 0) (congrFun e4 1) rfl rfl).symm)
  simp only [stepG_apply]
  unfold valueG
  refine Fin.sum_mul_add_congr fun s l hl => ?_
  obtain ⟨f0, f1, f2, f3, f4, f5⟩ := index ⟨4 * (t.val / 4) + s.val, Pipeline.run_point_lt_of_flush (J := 4) t ht s⟩
  refine congrArg₂ (· * ·) ?_ (congrArg (fun r => normal r y1) (funext fun e => ?_))
  · blk_point [iblk, V, f0, f1, f2, f3, e4]
  · unfold row
    blk_point [iblk, V, f0, f1, f2, f3, e4]

theorem finalB (c : Dev nD) : (dats m 0 c).arrAt 5 cfg0.N = valueB (m ((c.tc : Thread nD τ).loc main_arg1)) := by
  refine (dats m 0 c).arrAt_eq_of_covers 5 _ (by decide +kernel) fun t hf y => ?_
  have ht := (flush0_5 t).mp hf
  blk_simp
  rw [after0_5, nextB m c t (by omega), run_sum 4 (fun n h => (outsAt0 m c n h).2.2)
    (fun t y => stepB (iblk m c 1 t) y) (by decide) (startB m c)
    (fun u hu _ i => nextB m c u hu i) t ht y]
  obtain ⟨e0, e1, e2, e3, e4, e5⟩ := index t
  idx_vars y
  refine Eq.trans ?_ (congrArg (valueB _) (single_of _ y0 y1 _ _ (congrFun e5 0) (congrFun e5 1) rfl rfl).symm)
  simp only [stepB_apply]
  unfold valueB
  refine Fin.sum_mul_add_congr fun s l hl => ?_
  obtain ⟨f0, f1, f2, f3, f4, f5⟩ := index ⟨4 * (t.val / 4) + s.val, Pipeline.run_point_lt_of_flush (J := 4) t ht s⟩
  blk_point [iblk, V, f0, f1, f2, f3, e5]

end block

section host
open Cert.LnLastRefIdeal Cert.LnLastRefIdeal.Gen

variable (m : (ℓ : Loc nD τ sig) → Buf (Elt Ideal) ℓ)

theorem same (d : FVec Ideal S4096x1024 .f32) : shapeCast S4096x1024 d shapeCasts_S4096x1024_S4096x1024 = d := by
  funext y
  idx_vars y
  pointwise

theorem ref (c : Dev nD) : Value.res_out0 (F := Ideal) m c = hostSlope (m ((c.tc : Thread nD τ).loc main_arg0))
    (hostInner (shapeCast S4096x1024 (m ((c.tc : Thread nD τ).loc main_arg1)) shapeCasts_S4096x1024_S4096x1024) (m ((c.tc : Thread nD τ).loc main_arg2))) := by
  unfold Value.res_out0 Value.res_main_v59
  rfl

end host

/-- The kernel's results are the reference's. -/
theorem algebraic : algebraic_LnLastIdeal_LnLastRefIdeal_pre_finite_last := by
  intro m g m' g' hp hargs
  refine ⟨_, _, _, (θ_run _ _ _).mono (fun r h c => ⟨(h c).1.trans (finalX m c), (h c).2.1.trans (finalG m c), (h c).2.2.1.trans (finalB m c), (h c).2.2.2⟩)
      (LnLastIdeal.Value.run_blocks m g),
    (θ_run _ _ _).mono (fun r h c => ⟨((h c).1.trans (ref m' c)).trans ?_, (h c).2.1.trans ?_, (h c).2.2.1.trans ?_, (h c).2.2.2⟩)
      (LnLastRefIdeal.Value.run (F := Ideal) m' g')⟩
  all_goals
    obtain ⟨e0, e1, e2⟩ := hargs c
    obtain ⟨p1, p2⟩ := hp c
  · rw [e0, e1, e2, same, hostInner_eq]
    funext y
    idx_vars y
    rw [hostSlope_apply]
    refine chain_eq _ _ (fun l => ?_) y1
    exact (real_of _ _ p1 _).mul (real_of _ _ p2 _)
  · refine Eq.trans (b := colSum (mulf (hostNormal (m' ((c.tc : Thread LnLastRefIdeal.nD LnLastRefIdeal.τ).loc LnLastRefIdeal.main_arg0)))
      (shapeCast LnLastRefIdeal.S4096x1024 (m' ((c.tc : Thread LnLastRefIdeal.nD LnLastRefIdeal.τ).loc LnLastRefIdeal.main_arg1)) LnLastRefIdeal.Gen.shapeCasts_S4096x1024_S4096x1024))) rfl ?_
    rw [e0, e1, same]
    funext y
    idx_vars y
    rw [colSum_apply]
    exact Finset.sum_congr rfl fun l _ => (congrArg (· * _) (hostNormal_apply _ l y1)).trans (mul_comm _ _)
  · refine Eq.trans (b := colSum (m' ((c.tc : Thread LnLastRefIdeal.nD LnLastRefIdeal.τ).loc LnLastRefIdeal.main_arg1))) rfl ?_
    rw [e1]
    funext y
    idx_vars y
    exact colSum_apply _ y0 y1

end Cert.NormLast

end
-- ==== Proof.GatedNorm.lean ====
/-
  The gated norm of the heads: each head's part of a row over the root of its mean square, times a scale, times the gate, the
  gate being an input times its own logistic function.
-/
module

public import proofs.«01_k».proof.Defs
public import proofs.«01_k».proof.Proof.Gen.HeadNormIdeal.Value
public import proofs.«01_k».proof.Proof.Gen.HeadNormRefIdeal.Run
public import Idealize.ShloMosaic.Lib.Pipeline.ValueKit
public import Idealize.ShloMosaic.Lib.Pointwise
public import proofs.«01_k».proof.Proof.NormFwd
public import Idealize.ShloMosaic.Lib.Claim
public import Idealize.ShloMosaic.Lib.StableHlo.ReadAt

@[expose] public section

set_option maxRecDepth 16384

noncomputable section

namespace Cert.GatedNorm

open Idealize.ShloMosaic Idealize.ShloMosaic.TcCoe Idealize.SL.Sem Cert.Products
open Cert.NormFwd (at_)

/-- Column `e` of head `h`. -/
def col (h : Fin 4) (e : Fin 128) : Fin 512 := ⟨128 * h.val + e.val, by omega⟩

/-- The head of a column, and its place in the head. -/
def hd (c : Fin 512) : Fin 4 := ⟨c.val / 128, by omega⟩

def lane (c : Fin 512) : Fin 128 := ⟨c.val % 128, by omega⟩

theorem hd_col (h : Fin 4) (e : Fin 128) : hd (col h e) = h := Fin.ext (by show (128 * h.val + e.val) / 128 = h.val; omega)

theorem lane_col (h : Fin 4) (e : Fin 128) : lane (col h e) = e := Fin.ext (by show (128 * h.val + e.val) % 128 = e.val; omega)

/-- Every column is one of a head's. -/
theorem col_eq (j : Fin 512) : ∃ h e, j = col h e := ⟨hd j, lane j, Fin.ext (Nat.div_add_mod j.val 128).symm⟩

/-- The columns of head `h`. -/
def part {α : Type} {n : ℕ} (x : (⟨2, ![n, 512]⟩ : Shape).Idx → α) (h : Fin 4) : (⟨2, ![n, 128]⟩ : Shape).Idx → α := fun i => x (ix2 (i 0) (col h (i 1)))

theorem slice_eq {α : Type} {n : ℕ} (x : (⟨2, ![n, 512]⟩ : Shape).Idx → α) (h : Fin 4) (o : ℕ) (ho : o = 128 * h.val)
    (hs : (⟨2, ![n, 512]⟩ : Shape).Slices ![0, o] ⟨2, ![n, 128]⟩) : extractStridedSlice ⟨2, ![n, 128]⟩ ![0, o] x hs = part x h := by
  subst ho
  funext i
  refine congrArg x (funext fun a => Fin.ext ?_)
  match a with
  | ⟨0, _⟩ => exact Nat.zero_add _
  | ⟨1, _⟩ => rfl

/-- Four blocks of columns side by side, at a column of head `h`. -/
theorem side {φ : FTy} (a : Fin 4 → FVec Ideal ⟨2, ![1024, 128]⟩ φ) (hc : Shape.Concatenates [⟨2, ![1024, 128]⟩, ⟨2, ![1024, 128]⟩, ⟨2, ![1024, 128]⟩, ⟨2, ![1024, 128]⟩] ⟨2, ![1024, 512]⟩ 1)
    (r : Fin 1024) (h : Fin 4) (e : Fin 128) :
    concatenate ⟨2, ![1024, 512]⟩ 1 [⟨⟨2, ![1024, 128]⟩, a 0⟩, ⟨⟨2, ![1024, 128]⟩, a 1⟩, ⟨⟨2, ![1024, 128]⟩, a 2⟩, ⟨⟨2, ![1024, 128]⟩, a 3⟩] hc (ix2 r (col h e))
      = a h (ix2 r e) := by
  fin_cases h
  all_goals
    pointwise [col]
    try split_ifs
    all_goals first
      | (exfalso; omega)
      | exact congrArg (a _) (congrArg (ix2 r) (Fin.ext (by dsimp only; omega)))

/-- One over the root of the mean square of a head's part of a row. -/
def unit (x : Fin 128 → EReal) : EReal :=
  Ideal.rsqrt (Ideal.div (∑ l : Fin 128, x l * x l) (Ideal.ofBits .f32 0x43000000#32) + Ideal.ofBits .f32 0x358637BD#32)

/-- What the norm makes of a head's part of a row, its scale and its gate. -/
def gated (x w z : Fin 128 → EReal) (e : Fin 128) : EReal := x e * unit x * w e * (z e * Ideal.logistic (z e))

/-- A head's part of row `r`. -/
def row {n : ℕ} (x : Mat n 512) (r : Fin n) (h : Fin 4) : Fin 128 → EReal := fun e => x (ix2 r (col h e))

/-- What the result ends holding. -/
def value (o z : Mat 4096 512) (w : Mat 1 128) : Mat 4096 512 := fun i =>
  gated (row o (i 0) (hd (i 1))) (fun e => w (ix2 0 e)) (row z (i 0) (hd (i 1))) (lane (i 1))

theorem value_apply (o z : Mat 4096 512) (w : Mat 1 128) (r : Fin 4096) (h : Fin 4) (e : Fin 128) :
    value o z w (ix2 r (col h e)) = gated (row o r h) (fun e => w (ix2 0 e)) (row z r h) e := by
  show gated (row o r (hd (col h e))) _ (row z r (hd (col h e))) (lane (col h e)) = _
  rw [hd_col, lane_col]

section block
open Cert.HeadNormIdeal Cert.HeadNormIdeal.Gen

variable (m : (ℓ : Loc nD τ sig) → Buf (Elt Ideal) ℓ)

/-- What the kernel forms of one head. -/
def head (x z : FVec Ideal S1024x128 .f32) (w : Vec Ideal S1x128 .f32) : FVec Ideal S1024x128 .f32 :=
  mulf (mulf (mulf x (broadcastTo S1024x128 (rsqrt (addf (divf (shapeCast S1024x1
    (multiReduction .add [1] S1024 (mulf x x) 0x00000000#32 reduces_S1024x128_S1024 (.inl rfl) rfl) shapeCasts_S1024_S1024x1)
    (broadcast S1024x1 (Scalar.ofBits .f32 0x43000000#32))) (broadcast S1024x1 (Scalar.ofBits .f32 0x358637BD#32)))) broadcasts_S1024x1_S1024x128))
    (broadcastTo S1024x128 w broadcasts_S1x128_S1024x128)) (mulf z (logistic z))

theorem head_apply (x z : FVec Ideal S1024x128 .f32) (w : Vec Ideal S1x128 .f32) (r : Fin 1024) (e : Fin 128) :
    head x z w (ix2 r e) = gated (fun l => x (ix2 r l)) (fun l => w (ix2 0 l)) (fun l => z (ix2 r l)) e := by
  unfold head gated unit
  pointwise

/-- A block of the result, from the blocks that a grid step reads. -/
theorem block (x z : Vec Ideal S1024x512 .f32) (w : Vec Ideal S1x128 .f32) (r : Fin 1024) (h : Fin 4) (e : Fin 128) :
    k0_pay1 w (k0_pay2 x) (k0_pay3 x) (k0_pay4 z) (k0_pay5 z) (k0_pay6 x z w) (k0_pay7 x z w) (k0_pay8 x) (k0_pay9 (F := Ideal)) (ix2 r (col h e))
      = gated (row x r h) (fun l => w (ix2 0 l)) (row z r h) e := by
  have hp : k0_pay1 w (k0_pay2 x) (k0_pay3 x) (k0_pay4 z) (k0_pay5 z) (k0_pay6 x z w) (k0_pay7 x z w) (k0_pay8 x) (k0_pay9 (F := Ideal))
      = truncf .bf16 (concatenate S1024x512 1
        [⟨S1024x128, head (extractStridedSlice S1024x128 ![0, 0] x slices_S1024x512_o0_0_S1024x128) (extractStridedSlice S1024x128 ![0, 0] z slices_S1024x512_o0_0_S1024x128) w⟩,
         ⟨S1024x128, head (extractStridedSlice S1024x128 ![0, 128] x slices_S1024x512_o0_128_S1024x128) (extractStridedSlice S1024x128 ![0, 128] z slices_S1024x512_o0_128_S1024x128) w⟩,
         ⟨S1024x128, head (extractStridedSlice S1024x128 ![0, 256] x slices_S1024x512_o0_256_S1024x128) (extractStridedSlice S1024x128 ![0, 256] z slices_S1024x512_o0_256_S1024x128) w⟩,
         ⟨S1024x128, head (extractStridedSlice S1024x128 ![0, 384] x slices_S1024x512_o0_384_S1024x128) (extractStridedSlice S1024x128 ![0, 384] z slices_S1024x512_o0_384_S1024x128) w⟩]
        concatenates_S1024x128_S1024x128_S1024x128_S1024x128_S1024x512_d1) bitsLt_bf16_f32 := rfl
  rw [hp]
  clear hp
  rw [slice_eq x 0 0 rfl, slice_eq x 1 128 rfl, slice_eq x 2 256 rfl, slice_eq x 3 384 rfl, slice_eq z 0 0 rfl, slice_eq z 1 128 rfl,
    slice_eq z 2 256 rfl, slice_eq z 3 384 rfl]
  refine (side (fun h => head (part x h) (part z h) w) concatenates_S1024x128_S1024x128_S1024x128_S1024x128_S1024x512_d1 r h e).trans ((head_apply _ _ _ r e).trans ?_)
  rfl

theorem index (t : Fin cfg0.N) : win0_0.index t = ![t.val, 0] ∧ win0_1.index t = ![t.val, 0] ∧ win0_2.index t = ![0, 0] ∧ win0_3.index t = ![t.val, 0] :=
  (by decide +kernel : ∀ t : Fin grid0.N, win0_0.index t = ![t.val, 0] ∧ win0_1.index t = ![t.val, 0] ∧ win0_2.index t = ![0, 0] ∧ win0_3.index t = ![t.val, 0]) t

/-- Where a block's entry lies: `o` rows and `p` columns on. -/
theorem place (e : (⟨2, ![4096, 512]⟩ : Shape).Idx) (t : ℕ) (ht : t < 4) (y0 : Fin 1024) (y1 : Fin 512) (o p : ℕ) (ho : o = t) (hp : p = 0)
    (h0 : (e 0).val = o * 1024 + 1 * y0.val) (h1 : (e 1).val = p * 512 + 1 * y1.val) : e = ix2 (at_ t ht y0) y1 := by
  subst ho hp
  funext a
  refine Fin.ext ?_
  match a with
  | ⟨0, _⟩ => exact h0.trans (by show o * 1024 + 1 * y0.val = o * 1024 + y0.val; omega)
  | ⟨1, _⟩ => exact h1.trans (by show 0 * 512 + 1 * y1.val = y1.val; omega)

theorem final (c : Dev nD) : (dats m 0 c).arrAt 3 cfg0.N = value (m ((c.tc : Thread nD τ).loc main_arg0)) (m ((c.tc : Thread nD τ).loc main_arg1))
    (m ((c.tc : Thread nD τ).loc main_arg2)) := by
  refine (dats m 0 c).arrAt_eq_of_covers 3 _ (by decide +kernel) fun t hf y => ?_
  blk_simp
  rw [after0_3]
  frame_out
  obtain ⟨e0, e1, e2, e3⟩ := index t
  idx_vars y
  obtain ⟨h, e, rfl⟩ : ∃ h e, y1 = col h e := col_eq y1
  refine Eq.trans ?_ (congrArg (value _ _ _) (place _ t.val t.isLt y0 (col h e) _ _ (congrFun e3 0) (congrFun e3 1) rfl rfl).symm)
  rw [block, value_apply]
  congr 1
  · funext l
    unfold row at_
    blk_point [iblk, V, e0, e1, e2, e3, col]
  · funext l
    blk_point [iblk, V, e0, e1, e2, e3, col]
  · funext l
    unfold row at_
    blk_point [iblk, V, e0, e1, e2, e3, col]

end block

section host
open Cert.HeadNormRefIdeal Cert.HeadNormRefIdeal.Gen

/-- Place `e` of head `h`, of a form whose heads stand before the places. -/
theorem cast3 (x : Mat 4096 512) (hs : (⟨2, ![4096, 512]⟩ : Shape).ShapeCasts ⟨3, ![4096, 4, 128]⟩) (r : Fin 4096) (h : Fin 4) (e : Fin 128) :
    shapeCast ⟨3, ![4096, 4, 128]⟩ x hs (ix3 r h e) = x (ix2 r (col h e)) := by
  pointwise [col]
  exact congrArg x (congrArg (ix2 r) (Fin.ext (congrArg (· + e.val) (mul_comm _ _))))

/-- A form whose heads stand before the places, at column `e` of head `h`. -/
theorem cast2 (x : (⟨3, ![4096, 4, 128]⟩ : Shape).Idx → EReal) (hs : (⟨3, ![4096, 4, 128]⟩ : Shape).ShapeCasts ⟨2, ![4096, 512]⟩)
    (r : Fin 4096) (h : Fin 4) (e : Fin 128) : shapeCast ⟨2, ![4096, 512]⟩ x hs (ix2 r (col h e)) = x (ix3 r h e) := by
  pointwise [col]

/-- The mean squares of the heads, and the small number added. -/
def hostSpread (x : FVec Ideal S4096x4x128 .f32) : FVec Ideal S4096x4x1 .f32 :=
  addf (Host.divf (broadcastInDim S4096x4x1 ![0, 1] bcast_S4096x4_S4096x4x1_0_1
      (Host.reduceAdd (mulf x x) (constant S_ .f32 0x00000000#32) reducesTo_S4096x4x128_S4096x4_d2 h_S_))
    (broadcastInDim S4096x4x1 ![] bcast_S_S4096x4x1 (constant S_ .f32 0x43000000#32))) (broadcastInDim S4096x4x1 ![] bcast_S_S4096x4x1 (constant S_ .f32 0x358637BD#32))

theorem hostSpread_apply (x : FVec Ideal S4096x4x128 .f32) (r : Fin 4096) (h : Fin 4) (j : Fin 1) :
    hostSpread x (ix3 r h j) = Ideal.div (∑ l : Fin 128, x (ix3 r h l) * x (ix3 r h l)) (Ideal.ofBits .f32 0x43000000#32) + Ideal.ofBits .f32 0x358637BD#32 := by
  unfold hostSpread
  pointwise

/-- The heads, normalised, scaled and gated. -/
def hostHead (x z : FVec Ideal S4096x4x128 .f32) (w : FVec Ideal S1x128 .f32) : FVec Ideal S4096x4x128 .f32 :=
  mulf (mulf (mulf x (broadcastInDim S4096x4x128 ![0, 1, 2] bcast_S4096x4x1_S4096x4x128_0_1_2 (Host.rsqrt (hostSpread x))))
    (broadcastInDim S4096x4x128 ![0, 1, 2] bcast_S1x1x128_S4096x4x128_0_1_2 (broadcastInDim S1x1x128 ![1, 2] bcast_S1x128_S1x1x128_1_2 w)))
    (mulf z (Host.divf (broadcastInDim S4096x4x128 ![] bcast_S_S4096x4x128 (constant S_ .f32 0x3F800000#32))
      (addf (broadcastInDim S4096x4x128 ![] bcast_S_S4096x4x128 (constant S_ .f32 0x3F800000#32)) (Host.exp (Host.negf z)))))

theorem hostHead_apply (x z : FVec Ideal S4096x4x128 .f32) (w : FVec Ideal S1x128 .f32) (r : Fin 4096) (h : Fin 4) (e : Fin 128) :
    hostHead x z w (ix3 r h e) = gated (fun l => x (ix3 r h l)) (fun l => w (ix2 0 l)) (fun l => z (ix3 r h l)) e := by
  unfold hostHead gated unit
  rw [← hostSpread_apply x r h 0]
  pointwise
  rfl

/-- The heads, side by side. -/
def hostGated (o z : FVec Ideal S4096x512 .f32) (w : FVec Ideal S1x128 .f32) : FVec Ideal S4096x512 .bf16 :=
  truncf .bf16 (shapeCast S4096x512 (hostHead (shapeCast S4096x4x128 o shapeCasts_S4096x512_S4096x4x128) (shapeCast S4096x4x128 z shapeCasts_S4096x512_S4096x4x128) w)
    shapeCasts_S4096x4x128_S4096x512) bitsLt_bf16_f32

theorem hostGated_apply (o z : FVec Ideal S4096x512 .f32) (w : FVec Ideal S1x128 .f32) (r : Fin 4096) (h : Fin 4) (e : Fin 128) :
    hostGated o z w (ix2 r (col h e)) = gated (row o r h) (fun l => w (ix2 0 l)) (row z r h) e := by
  refine (cast2 _ _ r h e).trans ((hostHead_apply _ _ _ r h e).trans ?_)
  simp only [cast3]
  rfl

end host

/-- The kernel's result is the reference's. -/
theorem algebraic : algebraic_HeadNormIdeal_HeadNormRefIdeal := by
  intro m g m' g' _ hargs
  refine ⟨_, (θ_run _ _ _).mono (fun r h c => ⟨(h c).1.trans (final m c), (h c).2⟩) (HeadNormIdeal.Value.run_blocks m g),
    (θ_run _ _ _).mono (fun r h c => ⟨(h c).1.trans ?_, (h c).2⟩) (HeadNormRefIdeal.Value.run (F := Ideal) m' g')⟩
  obtain ⟨e0, e1, e2⟩ := hargs c
  simp only [e0, e1, e2]
  funext y
  idx_vars y
  obtain ⟨h, e, rfl⟩ : ∃ h e, y1 = col h e := col_eq y1
  rw [value_apply]
  exact hostGated_apply (m ((c.tc : Thread HeadNormIdeal.nD HeadNormIdeal.τ).loc HeadNormIdeal.main_arg0))
    (m ((c.tc : Thread HeadNormIdeal.nD HeadNormIdeal.τ).loc HeadNormIdeal.main_arg1))
    (m ((c.tc : Thread HeadNormIdeal.nD HeadNormIdeal.τ).loc HeadNormIdeal.main_arg2)) y0 h e

end Cert.GatedNorm

end
-- ==== Proof.NormMem.lean ====
/-
  The layer norm of the memory, and its gradient: of the memory, the scale and the shift.
-/
module

public import proofs.«01_k».proof.Defs
public import proofs.«01_k».proof.Proof.NormBack
public import proofs.«01_k».proof.Proof.Gen.LnMemIdeal.Value
public import proofs.«01_k».proof.Proof.Gen.LnMemRefIdeal.Run
public import proofs.«01_k».proof.Proof.Gen.LnMemBackIdeal.Value
public import proofs.«01_k».proof.Proof.Gen.LnMemBackRefIdeal.Run
public import proofs.«01_k».proof.Proof.Gen.Pre_finite_mem

@[expose] public section

set_option maxRecDepth 16384

noncomputable section

namespace Cert.NormMem

open Idealize.ShloMosaic Idealize.ShloMosaic.TcCoe Idealize.SL.Sem Cert.Products
open Cert.LayerNorm (row normal scaled mean centre spread unit pull chain chain_eq)

/-- The gradient of the normalised rows: that of the norm's result, scaled. -/
def inner (d : Mat 256 1024) (g : Mat 1 1024) : Mat 256 1024 := fun i => d i * g (ix2 0 (i 1))

/-- The gradient of the memory, where `d` is that of the normalised rows. -/
def valueX (x d : Mat 256 1024) : Mat 256 1024 := fun i => LayerNorm.slope (row x (i 0)) (row d (i 0)) (i 1)

/-- The gradient of the scale, where `d` is that of the result. -/
def valueG (x d : Mat 256 1024) : Mat 1 1024 := fun i => ∑ l : Fin 256, d (ix2 l (i 1)) * normal (row x l) (i 1)

/-- The gradient of the shift. -/
def valueB (d : Mat 256 1024) : Mat 1 1024 := fun i => ∑ l : Fin 256, d (ix2 l (i 1))

/-- An index is the one whose coordinates it has. -/
theorem place {n k : ℕ} (e : (⟨2, ![n, k]⟩ : Shape).Idx) (y0 : Fin n) (y1 : Fin k) (o p : ℕ) (ho : o = 0) (hp : p = 0)
    (h0 : (e 0).val = o * n + 1 * y0.val) (h1 : (e 1).val = p * k + 1 * y1.val) : e = ix2 y0 y1 := by
  subst ho hp
  funext a
  refine Fin.ext ?_
  match a with
  | ⟨0, _⟩ => exact h0.trans (by show 0 * n + 1 * y0.val = y0.val; omega)
  | ⟨1, _⟩ => exact h1.trans (by show 0 * k + 1 * y1.val = y1.val; omega)

section block
open Cert.LnMemIdeal Cert.LnMemIdeal.Facts₀

/-- The layer norm of a block of rows, as the kernel writes it. -/
def blockMean (x : FVec Ideal S256x1024 .f32) : FVec Ideal S256x1 .f32 :=
  divf (shapeCast S256x1 (multiReduction .add [1] S256 x 0x00000000#32 reduces_S256x1024_S256 (.inl rfl) rfl) shapeCasts_S256_S256x1)
    (broadcast S256x1 (Scalar.ofBits .f32 0x44800000#32))

def blockCentre (x : FVec Ideal S256x1024 .f32) : FVec Ideal S256x1024 .f32 := subf x (broadcastTo S256x1024 (blockMean x) broadcasts_S256x1_S256x1024)

def blockUnit (x : FVec Ideal S256x1024 .f32) : FVec Ideal S256x1 .f32 :=
  rsqrt (addf (blockMean (mulf (blockCentre x) (blockCentre x))) (broadcast S256x1 (Scalar.ofBits .f32 0x3727C5AC#32)))

def blockNormal (x : FVec Ideal S256x1024 .f32) : FVec Ideal S256x1024 .f32 := mulf (blockCentre x) (broadcastTo S256x1024 (blockUnit x) broadcasts_S256x1_S256x1024)

def blockNorm (x : FVec Ideal S256x1024 .f32) (g b : FVec Ideal S1x1024 .f32) : FVec Ideal S256x1024 .f32 :=
  addf (mulf (blockNormal x) (broadcastTo S256x1024 g broadcasts_S1x1024_S256x1024)) (broadcastTo S256x1024 b broadcasts_S1x1024_S256x1024)

theorem blockMean_apply (x : FVec Ideal S256x1024 .f32) (i : Fin 256) (j : Fin 1) : blockMean x (ix2 i j) = mean (row x i) := by
  unfold blockMean mean row
  pointwise

theorem blockCentre_apply (x : FVec Ideal S256x1024 .f32) (i : Fin 256) (j : Fin 1024) : blockCentre x (ix2 i j) = centre (row x i) j := by
  unfold blockCentre centre
  pointwise
  rw [blockMean_apply]
  rfl

theorem blockUnit_apply (x : FVec Ideal S256x1024 .f32) (i : Fin 256) (j : Fin 1) : blockUnit x (ix2 i j) = unit (row x i) := by
  unfold blockUnit unit spread
  have h : row (mulf (blockCentre x) (blockCentre x)) i = fun l => centre (row x i) l * centre (row x i) l :=
    funext fun l => congrArg₂ (· * ·) (blockCentre_apply x i l) (blockCentre_apply x i l)
  rw [← h, ← blockMean_apply _ i j]
  rfl

theorem blockNormal_apply (x : FVec Ideal S256x1024 .f32) (i : Fin 256) (j : Fin 1024) : blockNormal x (ix2 i j) = normal (row x i) j := by
  unfold blockNormal normal
  pointwise
  rw [blockUnit_apply, blockCentre_apply]

theorem blockNorm_apply (x : FVec Ideal S256x1024 .f32) (g b : FVec Ideal S1x1024 .f32) (i : Fin 256) (j : Fin 1024) : blockNorm x g b (ix2 i j) = scaled x g b (ix2 i j) := by
  unfold blockNorm scaled
  pointwise
  rw [blockNormal_apply]

/-- The gradient of a block of rows, as the kernel writes it. -/
def blockSlope (x d : FVec Ideal S256x1024 .f32) : FVec Ideal S256x1024 .f32 :=
  mulf (broadcastTo S256x1024 (blockUnit x) broadcasts_S256x1_S256x1024)
    (subf (subf d (broadcastTo S256x1024 (blockMean d) broadcasts_S256x1_S256x1024))
      (mulf (blockNormal x) (broadcastTo S256x1024 (blockMean (mulf d (blockNormal x))) broadcasts_S256x1_S256x1024)))

theorem blockSlope_apply (x d : FVec Ideal S256x1024 .f32) (i : Fin 256) (j : Fin 1024) : blockSlope x d (ix2 i j) = LayerNorm.slope (row x i) (row d i) j := by
  have h : row (mulf d (blockNormal x)) i = fun l => row d i l * normal (row x i) l :=
    funext fun l => congrArg (d (ix2 i l) * ·) (blockNormal_apply x i l)
  unfold blockSlope LayerNorm.slope
  pointwise
  rw [blockUnit_apply, blockMean_apply, blockMean_apply, blockNormal_apply, h]
  rfl

end block

section host
open Cert.LnMemBackRefIdeal Cert.LnMemBackRefIdeal.Facts₀

/-- The layer norm, as the host writes it. -/
def hostMean (x : FVec Ideal S256x1024 .f32) : FVec Ideal S256x1 .f32 :=
  Host.divf (broadcastInDim S256x1 ![0] bcast_S256_S256x1_0 (Host.reduceAdd x (constant S_ .f32 0x00000000#32) reducesTo_S256x1024_S256_d1 h_S_))
    (broadcastInDim S256x1 ![] bcast_S_S256x1 (constant S_ .f32 0x44800000#32))

def hostCentre (x : FVec Ideal S256x1024 .f32) : FVec Ideal S256x1024 .f32 :=
  subf x (broadcastInDim S256x1024 ![0, 1] bcast_S256x1_S256x1024_0_1 (hostMean x))

def hostSpread (x : FVec Ideal S256x1024 .f32) : FVec Ideal S256x1 .f32 :=
  addf (hostMean (mulf (hostCentre x) (hostCentre x))) (broadcastInDim S256x1 ![] bcast_S_S256x1 (constant S_ .f32 0x3727C5AC#32))

def hostNormal (x : FVec Ideal S256x1024 .f32) : FVec Ideal S256x1024 .f32 :=
  mulf (hostCentre x) (broadcastInDim S256x1024 ![0, 1] bcast_S256x1_S256x1024_0_1 (Host.rsqrt (hostSpread x)))

def hostNorm (x : FVec Ideal S256x1024 .f32) (g b : FVec Ideal S1x1024 .f32) : FVec Ideal S256x1024 .f32 :=
  addf (mulf (hostNormal x) (broadcastInDim S256x1024 ![0, 1] bcast_S1x1024_S256x1024_0_1 g)) (broadcastInDim S256x1024 ![0, 1] bcast_S1x1024_S256x1024_0_1 b)

theorem hostMean_apply (x : FVec Ideal S256x1024 .f32) (i : Fin 256) (j : Fin 1) : hostMean x (ix2 i j) = mean (row x i) := by
  unfold hostMean mean row
  pointwise

theorem hostCentre_apply (x : FVec Ideal S256x1024 .f32) (i : Fin 256) (j : Fin 1024) : hostCentre x (ix2 i j) = centre (row x i) j := by
  unfold hostCentre centre
  pointwise
  rw [hostMean_apply]
  rfl

theorem hostSpread_apply (x : FVec Ideal S256x1024 .f32) (i : Fin 256) (j : Fin 1) : hostSpread x (ix2 i j) = spread (row x i) := by
  unfold hostSpread spread
  have h : row (mulf (hostCentre x) (hostCentre x)) i = fun l => centre (row x i) l * centre (row x i) l :=
    funext fun l => congrArg₂ (· * ·) (hostCentre_apply x i l) (hostCentre_apply x i l)
  rw [← h, ← hostMean_apply _ i j]
  rfl

theorem hostNormal_apply (x : FVec Ideal S256x1024 .f32) (i : Fin 256) (j : Fin 1024) : hostNormal x (ix2 i j) = normal (row x i) j := by
  unfold hostNormal normal unit
  pointwise
  rw [hostSpread_apply, hostCentre_apply]

theorem hostNorm_apply (x : FVec Ideal S256x1024 .f32) (g b : FVec Ideal S1x1024 .f32) (i : Fin 256) (j : Fin 1024) : hostNorm x g b (ix2 i j) = scaled x g b (ix2 i j) := by
  unfold hostNorm scaled
  pointwise
  rw [hostNormal_apply]

/-- A column of row sums. -/
def rowSum (x : FVec Ideal S256x1024 .f32) : FVec Ideal S256x1 .f32 :=
  shapeCast S256x1 (Host.reduceAdd x (constant S_ .f32 0x00000000#32) reducesTo_S256x1024_S256_d1 h_S_) shapeCasts_S256_S256x1

theorem rowSum_apply (x : FVec Ideal S256x1024 .f32) (i : Fin 256) (j : Fin 1) : rowSum x (ix2 i j) = ∑ l : Fin 1024, x (ix2 i l) := by
  unfold rowSum
  pointwise

/-- A sum over an axis of one element. -/
theorem single_sum (x : FVec Ideal S256x1 .f32) (i : Fin 256) :
    Host.reduceAdd x (constant S_ .f32 0x00000000#32) reducesTo_S256x1_S256_d1 h_S_ (ix1 i) = x (ix2 i 0) := by
  refine Eq.trans (b := ∑ l : Fin 1, x (ix2 i l)) ?_ (Fin.sum_univ_one _)
  pointwise

/-- A column over the width of a row, set along every row. -/
def flat (x : FVec Ideal S256x1 .f32) : FVec Ideal S256x1024 .f32 :=
  broadcastInDim S256x1024 ![0] bcast_S256_S256x1024_0 (Host.reduceAdd (Host.divf x (broadcastInDim S256x1 ![] bcast_S_S256x1 (constant S_ .f32 0x44800000#32)))
    (constant S_ .f32 0x00000000#32) reducesTo_S256x1_S256_d1 h_S_)

theorem flat_apply (x : FVec Ideal S256x1 .f32) (i : Fin 256) (j : Fin 1024) : flat x (ix2 i j) = Ideal.div (x (ix2 i 0)) (Ideal.ofBits .f32 0x44800000#32) := by
  refine Eq.trans (b := Host.reduceAdd (Host.divf x (broadcastInDim S256x1 ![] bcast_S_S256x1 (constant S_ .f32 0x44800000#32)))
    (constant S_ .f32 0x00000000#32) reducesTo_S256x1_S256_d1 h_S_ (ix1 i)) ?_ ((single_sum _ i).trans ?_)
  · unfold flat
    pointwise
  · pointwise

/-- The gradient through the root of the mean square. -/
def hostPull (x d : FVec Ideal S256x1024 .f32) : FVec Ideal S256x1 .f32 :=
  mulf (rowSum (mulf (hostCentre x) d)) (mulf (broadcastInDim S256x1 ![] bcast_S_S256x1 (constant S_ .f32 0xBF000000#32)) (Host.divf (Host.rsqrt (hostSpread x)) (hostSpread x)))

theorem hostPull_apply (x d : FVec Ideal S256x1024 .f32) (i : Fin 256) (j : Fin 1024) : flat (hostPull x d) (ix2 i j) = pull (row x i) (row d i) := by
  have h : ∀ l, mulf (hostCentre x) d (ix2 i l) = centre (row x i) l * row d i l := fun l => congrArg (· * d (ix2 i l)) (hostCentre_apply x i l)
  rw [flat_apply]
  unfold hostPull pull unit
  pointwise
  rw [rowSum_apply, hostSpread_apply]
  simp only [h]

/-- The gradient through that root, of the row about its mean. -/
def hostTail (x d : FVec Ideal S256x1024 .f32) : FVec Ideal S256x1024 .f32 :=
  mulf (flat (hostPull x d)) (mulf (broadcastInDim S256x1024 ![] bcast_S_S256x1024 (constant S_ .f32 0x40000000#32)) (hostCentre x))

theorem hostTail_apply (x d : FVec Ideal S256x1024 .f32) (i : Fin 256) (j : Fin 1024) :
    hostTail x d (ix2 i j) = pull (row x i) (row d i) * (Ideal.ofBits .f32 0x40000000#32 * centre (row x i) j) := by
  unfold hostTail
  pointwise
  rw [hostPull_apply, hostCentre_apply]

/-- The gradient that leaves the root as it is. -/
def hostHead (x d : FVec Ideal S256x1024 .f32) : FVec Ideal S256x1024 .f32 :=
  mulf d (broadcastInDim S256x1024 ![0, 1] bcast_S256x1_S256x1024_0_1 (Host.rsqrt (hostSpread x)))

theorem hostHead_apply (x d : FVec Ideal S256x1024 .f32) (i : Fin 256) (j : Fin 1024) : hostHead x d (ix2 i j) = row d i j * unit (row x i) := by
  unfold hostHead unit
  pointwise
  rw [hostSpread_apply]
  rfl

/-- The gradient of the input, by the chain rule. -/
def hostSlope (x d : FVec Ideal S256x1024 .f32) : FVec Ideal S256x1024 .f32 :=
  addf (addf (hostHead x d) (hostTail x d)) (flat (addf (rowSum (Host.negf (hostHead x d))) (rowSum (Host.negf (hostTail x d)))))

theorem hostSlope_apply (x d : FVec Ideal S256x1024 .f32) (i : Fin 256) (j : Fin 1024) : hostSlope x d (ix2 i j) = chain (row x i) (row d i) j := by
  refine Eq.trans (b := hostHead x d (ix2 i j) + hostTail x d (ix2 i j)
    + flat (addf (rowSum (Host.negf (hostHead x d))) (rowSum (Host.negf (hostTail x d)))) (ix2 i j)) rfl ?_
  rw [flat_apply, hostHead_apply, hostTail_apply]
  refine congrArg (fun z => row d i j * unit (row x i) + pull (row x i) (row d i) * (Ideal.ofBits .f32 0x40000000#32 * centre (row x i) j)
    + Ideal.div z (Ideal.ofBits .f32 0x44800000#32)) ?_
  refine Eq.trans (b := rowSum (Host.negf (hostHead x d)) (ix2 i 0) + rowSum (Host.negf (hostTail x d)) (ix2 i 0)) rfl ?_
  rw [rowSum_apply, rowSum_apply]
  exact congrArg₂ (· + ·) (Finset.sum_congr rfl fun l _ => congrArg (- ·) (hostHead_apply x d i l)) (Finset.sum_congr rfl fun l _ => congrArg (- ·) (hostTail_apply x d i l))

def hostInner (d : FVec Ideal S256x1024 .f32) (g : FVec Ideal S1x1024 .f32) : FVec Ideal S256x1024 .f32 :=
  mulf d (broadcastInDim S256x1024 ![0, 1] bcast_S1x1024_S256x1024_0_1 g)

theorem hostInner_eq (d : FVec Ideal S256x1024 .f32) (g : FVec Ideal S1x1024 .f32) : hostInner d g = inner d g := by
  funext y
  idx_vars y
  unfold hostInner inner
  pointwise

/-- A row of column sums. -/
def colSum (x : FVec Ideal S256x1024 .f32) : FVec Ideal S1x1024 .f32 :=
  shapeCast S1x1024 (Host.reduceAdd x (constant S_ .f32 0x00000000#32) reducesTo_S256x1024_S1024_d0 h_S_) shapeCasts_S1024_S1x1024

theorem colSum_apply (x : FVec Ideal S256x1024 .f32) (i : Fin 1) (j : Fin 1024) : colSum x (ix2 i j) = ∑ l : Fin 256, x (ix2 l j) := by
  unfold colSum
  pointwise

end host

/-! ## The norm -/

namespace Fwd

open Cert.LnMemIdeal Cert.LnMemIdeal.Gen

variable (m : (ℓ : Loc nD τ sig) → Buf (Elt Ideal) ℓ)

theorem index (t : Fin cfg0.N) : win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0]) t

theorem pay1 (x : Vec Ideal S256x1024 .f32) : k0_pay1 x = x := by
  funext i
  idx_vars i
  pointwise [k0_pay1]

theorem final_sum (c : Dev nD) : (dats m 0 c).arrAt 4 cfg0.N = m ((c.tc : Thread nD τ).loc main_arg0) := by
  refine (dats m 0 c).arrAt_eq_of_covers 4 _ (by decide +kernel) fun t hf y => ?_
  blk_simp
  rw [after0_4]
  frame_out
  obtain ⟨e0, e1, e2, e3, e4, e5⟩ := index t
  rw [pay1]
  idx_vars y
  blk_point [iblk, V, e0, e1, e2, e3, e4, e5]

/-- The normalised memory. -/
abbrev out (c : Dev nD) : Mat 256 1024 := scaled (m ((c.tc : Thread nD τ).loc main_arg0)) (m ((c.tc : Thread nD τ).loc main_arg1)) (m ((c.tc : Thread nD τ).loc main_arg2))

theorem block (c : Dev nD) (t : Fin cfg0.N) (y0 : Fin 256) (y1 : Fin 1024) : k0_pay2 (iblk m c 0 t) (iblk m c 1 t) (iblk m c 2 t) (ix2 y0 y1) = out m c (ix2 y0 y1) := by
  obtain ⟨e0, e1, e2, e3, e4, e5⟩ := index t
  refine Eq.trans (b := blockNorm (k0_pay1 (iblk m c 0 t)) (iblk m c 1 t) (iblk m c 2 t) (ix2 y0 y1)) rfl ?_
  rw [pay1, blockNorm_apply]
  refine congrArg₂ (· + ·) (congrArg₂ (· * ·) (congrArg (fun r => normal r y1) (funext fun l => ?_)) ?_) ?_
  · unfold row
    blk_point [iblk, V, e0, e1, e2, e3, e4, e5]
  · blk_point [iblk, V, e0, e1, e2, e3, e4, e5]
  · blk_point [iblk, V, e0, e1, e2, e3, e4, e5]

theorem final_norm (c : Dev nD) : (dats m 0 c).arrAt 3 cfg0.N = out m c := by
  refine (dats m 0 c).arrAt_eq_of_covers 3 _ (by decide +kernel) fun t hf y => ?_
  blk_simp
  rw [after0_3]
  frame_out
  idx_vars y
  have e := (index t).2.2.2.1
  exact (block m c t y0 y1).trans (congrArg (out m c) (place _ y0 y1 _ _ (congrFun e 0) (congrFun e 1) rfl rfl).symm)

theorem final_short (c : Dev nD) : (dats m 0 c).arrAt 5 cfg0.N = out m c := by
  refine (dats m 0 c).arrAt_eq_of_covers 5 _ (by decide +kernel) fun t hf y => ?_
  blk_simp
  rw [after0_5]
  frame_out
  idx_vars y
  have e := (index t).2.2.2.2.2
  exact (block m c t y0 y1).trans (congrArg (out m c) (place _ y0 y1 _ _ (congrFun e 0) (congrFun e 1) rfl rfl).symm)

/-- The kernel's results are the reference's. -/
theorem algebraic : algebraic_LnMemIdeal_LnMemRefIdeal := by
  intro m g m' g' _ hargs
  refine ⟨_, _, _, (θ_run _ _ _).mono (fun r h c => ⟨(h c).1.trans (final_norm m c), (h c).2.1.trans (final_sum m c), (h c).2.2.1.trans (final_short m c), (h c).2.2.2⟩)
      (Value.run_blocks m g),
    (θ_run _ _ _).mono (fun r h c => ⟨(h c).1.trans ?_, (h c).2.1.trans ?_, (h c).2.2.1.trans ?_, (h c).2.2.2⟩) (LnMemRefIdeal.Value.run (F := Ideal) m' g')⟩
  all_goals obtain ⟨e0, e1, e2⟩ := hargs c
  · refine Eq.trans (b := hostNorm _ _ _) rfl ?_
    rw [e0, e1, e2]
    funext y
    idx_vars y
    exact hostNorm_apply _ _ _ y0 y1
  · exact e0
  · refine Eq.trans (b := hostNorm _ _ _) rfl ?_
    rw [e0, e1, e2]
    funext y
    idx_vars y
    exact hostNorm_apply _ _ _ y0 y1

end Fwd

/-! ## The gradient -/

namespace Back

section block
open Cert.LnMemBackIdeal Cert.LnMemBackIdeal.Gen

theorem outer (a : Vec Ideal S256x1024 .f32) (i : S256x1024.Idx) : k0_pay8 a i = a i := by
  idx_vars i
  pointwise [k0_pay8]

/-- The gradient of the normalised rows. -/
def blockInner (a : Vec Ideal S256x1024 .f32) (g : Vec Ideal S1x1024 .f32) : FVec Ideal S256x1024 .f32 :=
  mulf (k0_pay8 a) (broadcastTo S256x1024 g broadcasts_S1x1024_S256x1024)

theorem blockInner_apply (a : Vec Ideal S256x1024 .f32) (g : Vec Ideal S1x1024 .f32) (i : Fin 256) (j : Fin 1024) : blockInner a g (ix2 i j) = a (ix2 i j) * g (ix2 0 j) := by
  unfold blockInner
  pointwise
  rw [outer]

/-- The gradients of the scale and of the shift. -/
def stepG (x a : Vec Ideal S256x1024 .f32) : FVec Ideal S1x1024 .f32 := k0_pay1 (k0_pay10 x a)

def stepB (a : Vec Ideal S256x1024 .f32) : FVec Ideal S1x1024 .f32 := k0_pay2 (k0_pay8 a)

theorem stepG_apply (x a : Vec Ideal S256x1024 .f32) (i : Fin 1) (j : Fin 1024) : stepG x a (ix2 i j)
    = ∑ l : Fin 256, a (ix2 l j) * normal (row x l) j := by
  refine Eq.trans (b := ∑ l : Fin 256, k0_pay8 a (ix2 l j) * blockNormal x (ix2 l j)) ?_ ?_
  · unfold stepG
    pointwise [k0_pay1, k0_pay10]
    rfl
  · exact Finset.sum_congr rfl fun l _ => by rw [outer, blockNormal_apply]

theorem stepB_apply (a : Vec Ideal S256x1024 .f32) (i : Fin 1) (j : Fin 1024) : stepB a (ix2 i j) = ∑ l : Fin 256, a (ix2 l j) := by
  refine Eq.trans (b := ∑ l : Fin 256, k0_pay8 a (ix2 l j)) ?_ ?_
  · unfold stepB
    pointwise [k0_pay2]
  · exact Finset.sum_congr rfl fun l _ => by rw [outer]

variable (m : (ℓ : Loc nD τ sig) → Buf (Elt Ideal) ℓ)

theorem index (t : Fin cfg0.N) : win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0]) t

theorem outX (c : Dev nD) (t : Fin cfg0.N) (y : S256x1024.Idx) : (outsAt0 m c t).1 y
    = blockSlope (iblk m c 0 t) (blockInner (iblk m c 1 t) (iblk m c 2 t)) y := by
  unfold outsAt0
  frame_out
  rfl

theorem outG (c : Dev nD) (t : Fin cfg0.N) (y : S1x1024.Idx) : (outsAt0 m c t).2.1 y = stepG (iblk m c 0 t) (iblk m c 1 t) y := by
  unfold outsAt0
  frame_out
  rfl

theorem outB (c : Dev nD) (t : Fin cfg0.N) (y : S1x1024.Idx) : (outsAt0 m c t).2.2 y = stepB (iblk m c 1 t) y := by
  unfold outsAt0
  frame_out
  rfl

theorem finalX (c : Dev nD) : (dats m 0 c).arrAt 3 cfg0.N
    = valueX (m ((c.tc : Thread nD τ).loc main_arg0)) (inner (m ((c.tc : Thread nD τ).loc main_arg1)) (m ((c.tc : Thread nD τ).loc main_arg2))) := by
  refine (dats m 0 c).arrAt_eq_of_covers 3 _ (by decide +kernel) fun t hf y => ?_
  blk_simp
  rw [after0_3, outX]
  obtain ⟨e0, e1, e2, e3, e4, e5⟩ := index t
  idx_vars y
  refine Eq.trans ?_ (congrArg (valueX _ _) (place _ y0 y1 _ _ (congrFun e3 0) (congrFun e3 1) rfl rfl).symm)
  rw [blockSlope_apply]
  refine congrArg₂ (fun a b => LayerNorm.slope a b y1) (funext fun l => ?_) (funext fun l => ?_)
  · show iblk m c 0 t (ix2 y0 l) = m ((c.tc : Thread nD τ).loc main_arg0) (ix2 y0 l)
    blk_point [iblk, V, e0, e1, e2, e3, e4, e5]
  · refine (blockInner_apply _ _ y0 l).trans ?_
    unfold row NormMem.inner
    blk_point [iblk, V, e0, e1, e2, e3, e4, e5]

theorem finalG (c : Dev nD) : (dats m 0 c).arrAt 4 cfg0.N = valueG (m ((c.tc : Thread nD τ).loc main_arg0)) (m ((c.tc : Thread nD τ).loc main_arg1)) := by
  refine (dats m 0 c).arrAt_eq_of_covers 4 _ (by decide +kernel) fun t hf y => ?_
  blk_simp
  rw [after0_4, outG]
  obtain ⟨e0, e1, e2, e3, e4, e5⟩ := index t
  idx_vars y
  refine Eq.trans ?_ (congrArg (valueG _ _) (place _ y0 y1 _ _ (congrFun e4 0) (congrFun e4 1) rfl rfl).symm)
  refine (stepG_apply _ _ y0 y1).trans ?_
  unfold valueG
  refine Finset.sum_congr rfl fun l _ => congrArg₂ (· * ·) ?_ (congrArg (fun r => normal r y1) (funext fun e => ?_))
  · blk_point [iblk, V, e0, e1, e2, e3, e4, e5]
  · unfold row
    blk_point [iblk, V, e0, e1, e2, e3, e4, e5]

theorem finalB (c : Dev nD) : (dats m 0 c).arrAt 5 cfg0.N = valueB (m ((c.tc : Thread nD τ).loc main_arg1)) := by
  refine (dats m 0 c).arrAt_eq_of_covers 5 _ (by decide +kernel) fun t hf y => ?_
  blk_simp
  rw [after0_5, outB]
  obtain ⟨e0, e1, e2, e3, e4, e5⟩ := index t
  idx_vars y
  refine Eq.trans ?_ (congrArg (valueB _) (place _ y0 y1 _ _ (congrFun e5 0) (congrFun e5 1) rfl rfl).symm)
  refine (stepB_apply _ y0 y1).trans ?_
  unfold valueB
  refine Finset.sum_congr rfl fun l _ => ?_
  blk_point [iblk, V, e0, e1, e2, e3, e4, e5]

end block

section host
open Cert.LnMemBackRefIdeal Cert.LnMemBackRefIdeal.Gen

variable (m : (ℓ : Loc nD τ sig) → Buf (Elt Ideal) ℓ)

theorem same (d : FVec Ideal S256x1024 .f32) : shapeCast S256x1024 d shapeCasts_S256x1024_S256x1024 = d := by
  funext y
  idx_vars y
  pointwise

theorem ref (c : Dev nD) : Value.res_out0 (F := Ideal) m c = hostSlope (m ((c.tc : Thread nD τ).loc main_arg0))
    (hostInner (shapeCast S256x1024 (m ((c.tc : Thread nD τ).loc main_arg1)) shapeCasts_S256x1024_S256x1024) (m ((c.tc : Thread nD τ).loc main_arg2))) := by
  unfold Value.res_out0 Value.res_main_v59
  rfl

end host

/-- The kernel's results are the reference's. -/
theorem algebraic : algebraic_LnMemBackIdeal_LnMemBackRefIdeal_pre_finite_mem := by
  intro m g m' g' hp hargs
  refine ⟨_, _, _, (θ_run _ _ _).mono (fun r h c => ⟨(h c).1.trans (finalX m c), (h c).2.1.trans (finalG m c), (h c).2.2.1.trans (finalB m c), (h c).2.2.2⟩)
      (LnMemBackIdeal.Value.run_blocks m g),
    (θ_run _ _ _).mono (fun r h c => ⟨((h c).1.trans (ref m' c)).trans ?_, (h c).2.1.trans ?_, (h c).2.2.1.trans ?_, (h c).2.2.2⟩)
      (LnMemBackRefIdeal.Value.run (F := Ideal) m' g')⟩
  all_goals
    obtain ⟨e0, e1, e2⟩ := hargs c
    obtain ⟨p1, p2⟩ := hp c
  · rw [e0, e1, e2, same, hostInner_eq]
    funext y
    idx_vars y
    rw [hostSlope_apply]
    refine chain_eq _ _ (fun l => ?_) y1
    exact (real_of _ _ p1 _).mul (real_of _ _ p2 _)
  · refine Eq.trans (b := colSum (mulf (hostNormal (m' ((c.tc : Thread LnMemBackRefIdeal.nD LnMemBackRefIdeal.τ).loc LnMemBackRefIdeal.main_arg0)))
      (shapeCast LnMemBackRefIdeal.S256x1024 (m' ((c.tc : Thread LnMemBackRefIdeal.nD LnMemBackRefIdeal.τ).loc LnMemBackRefIdeal.main_arg1)) LnMemBackRefIdeal.Gen.shapeCasts_S256x1024_S256x1024))) rfl ?_
    rw [e0, e1, same]
    funext y
    idx_vars y
    rw [colSum_apply]
    exact Finset.sum_congr rfl fun l _ => (congrArg (· * _) (hostNormal_apply _ l y1)).trans (mul_comm _ _)
  · refine Eq.trans (b := colSum (m' ((c.tc : Thread LnMemBackRefIdeal.nD LnMemBackRefIdeal.τ).loc LnMemBackRefIdeal.main_arg1))) rfl ?_
    rw [e1]
    funext y
    idx_vars y
    exact colSum_apply _ y0 y1

end Back

end Cert.NormMem

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite
public import proofs.«01_k».proof.Proof.BackHost
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactIdeal.Value
public import proofs.«01_k».proof.Proof.Gen.DactRefIdeal
public import proofs.«01_k».proof.Proof.Gen.DactRefIdeal.Run
public import proofs.«01_k».proof.Proof.Gen.Dwd
public import proofs.«01_k».proof.Proof.Gen.Dwd.Skeleton
public import proofs.«01_k».proof.Proof.Gen.Dwd.Launch
public import proofs.«01_k».proof.Proof.Gen.Dwd.Points
public import proofs.«01_k».proof.Proof.Gen.Dwd.Frame
public import proofs.«01_k».proof.Proof.Gen.DwdIdeal
public import proofs.«01_k».proof.Proof.Gen.DwdIdeal.Skeleton
public import proofs.«01_k».proof.Proof.Gen.DwdIdeal.Launch
public import proofs.«01_k».proof.Proof.Gen.DwdIdeal.Points
public import proofs.«01_k».proof.Proof.Gen.DwdIdeal.Frame
public import proofs.«01_k».proof.Proof.Gen.DwdIdeal.Value
public import proofs.«01_k».proof.Proof.Gen.DwdRefIdeal
public import proofs.«01_k».proof.Proof.Gen.DwdRefIdeal.Run
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwIdeal.Value
public import proofs.«01_k».proof.Proof.Gen.DwRefIdeal
public import proofs.«01_k».proof.Proof.Gen.DwRefIdeal.Run
public import proofs.«01_k».proof.Proof.Gen.Dxg
public import proofs.«01_k».proof.Proof.Gen.Dxg.Skeleton
public import proofs.«01_k».proof.Proof.Gen.Dxg.Launch
public import proofs.«01_k».proof.Proof.Gen.Dxg.Points
public import proofs.«01_k».proof.Proof.Gen.Dxg.Frame
public import proofs.«01_k».proof.Proof.Gen.DxgIdeal
public import proofs.«01_k».proof.Proof.Gen.DxgIdeal.Skeleton
public import proofs.«01_k».proof.Proof.Gen.DxgIdeal.Launch
public import proofs.«01_k».proof.Proof.Gen.DxgIdeal.Points
public import proofs.«01_k».proof.Proof.Gen.DxgIdeal.Frame
public import proofs.«01_k».proof.Proof.Gen.DxgIdeal.Value
public import proofs.«01_k».proof.Proof.Gen.DxgRefIdeal
public import proofs.«01_k».proof.Proof.Gen.DxgRefIdeal.Run
public import proofs.«01_k».proof.Proof.Gen.Dxu
public import proofs.«01_k».proof.Proof.Gen.Dxu.Skeleton
public import proofs.«01_k».proof.Proof.Gen.Dxu.Launch
public import proofs.«01_k».proof.Proof.Gen.Dxu.Points
public import proofs.«01_k».proof.Proof.Gen.Dxu.Frame
public import proofs.«01_k».proof.Proof.Gen.DxuIdeal
public import proofs.«01_k».proof.Proof.Gen.DxuIdeal.Skeleton
public import proofs.«01_k».proof.Proof.Gen.DxuIdeal.Launch
public import proofs.«01_k».proof.Proof.Gen.DxuIdeal.Points
public import proofs.«01_k».proof.Proof.Gen.DxuIdeal.Frame
public import proofs.«01_k».proof.Proof.Gen.DxuIdeal.Value
public import proofs.«01_k».proof.Proof.Gen.DxuRefIdeal
public import proofs.«01_k».proof.Proof.Gen.DxuRefIdeal.Run
public import proofs.«01_k».proof.Proof.Gen.Gu
public import proofs.«01_k».proof.Proof.Gen.Gu.Skeleton
public import proofs.«01_k».proof.Proof.Gen.Gu.Launch
public import proofs.«01_k».proof.Proof.Gen.Gu.Points
public import proofs.«01_k».proof.Proof.Gen.Gu.Frame
public import proofs.«01_k».proof.Proof.Gen.GuIdeal
public import proofs.«01_k».proof.Proof.Gen.GuIdeal.Skeleton
public import proofs.«01_k».proof.Proof.Gen.GuIdeal.Launch
public import proofs.«01_k».proof.Proof.Gen.GuIdeal.Points
public import proofs.«01_k».proof.Proof.Gen.GuIdeal.Frame
public import proofs.«01_k».proof.Proof.Gen.GuIdeal.Value
public import proofs.«01_k».proof.Proof.Gen.GuRefIdeal
public import proofs.«01_k».proof.Proof.Gen.GuRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Pre_finite_dact
public import proofs.«01_k».proof.Proof.FfnDact
public import proofs.«01_k».proof.Proof.Gen.Pre_finite_attend
public import proofs.«01_k».proof.Proof.AttendFwd
public import proofs.«01_k».proof.Proof.AttendGrad
public import proofs.«01_k».proof.Proof.FfnDwd
public import proofs.«01_k».proof.Proof.FfnDw
public import proofs.«01_k».proof.Proof.FfnDxg
public import proofs.«01_k».proof.Proof.FfnDxu
public import proofs.«01_k».proof.Proof.FfnGu
public import proofs.«01_k».proof.Proof.FfnDown
public import proofs.«01_k».proof.Proof.Gen.InQkv
public import proofs.«01_k».proof.Proof.Gen.InQkv.Skeleton
public import proofs.«01_k».proof.Proof.Gen.InQkv.Launch
public import proofs.«01_k».proof.Proof.Gen.InQkv.Points
public import proofs.«01_k».proof.Proof.Gen.InQkv.Frame
public import proofs.«01_k».proof.Proof.Gen.InQkvIdeal
public import proofs.«01_k».proof.Proof.Gen.InQkvIdeal.Skeleton
public import proofs.«01_k».proof.Proof.Gen.InQkvIdeal.Launch
public import proofs.«01_k».proof.Proof.Gen.InQkvIdeal.Points
public import proofs.«01_k».proof.Proof.Gen.InQkvIdeal.Frame
public import proofs.«01_k».proof.Proof.Gen.InQkvIdeal.Value
public import proofs.«01_k».proof.Proof.Gen.InQkvRefIdeal
public import proofs.«01_k».proof.Proof.Gen.InQkvRefIdeal.Run
public import proofs.«01_k».proof.Proof.Gen.InGates
public import proofs.«01_k».proof.Proof.Gen.InGates.Skeleton
public import proofs.«01_k».proof.Proof.Gen.InGates.Launch
public import proofs.«01_k».proof.Proof.Gen.InGates.Points
public import proofs.«01_k».proof.Proof.Gen.InGates.Frame
public import proofs.«01_k».proof.Proof.Gen.InGatesIdeal
public import proofs.«01_k».proof.Proof.Gen.InGatesIdeal.Skeleton
public import proofs.«01_k».proof.Proof.Gen.InGatesIdeal.Launch
public import proofs.«01_k».proof.Proof.Gen.InGatesIdeal.Points
public import proofs.«01_k».proof.Proof.Gen.InGatesIdeal.Frame
public import proofs.«01_k».proof.Proof.Gen.InGatesIdeal.Value
public import proofs.«01_k».proof.Proof.Gen.InGatesRefIdeal
public import proofs.«01_k».proof.Proof.Gen.InGatesRefIdeal.Run
public import proofs.«01_k».proof.Proof.Gen.InZ
public import proofs.«01_k».proof.Proof.Gen.InZ.Skeleton
public import proofs.«01_k».proof.Proof.Gen.InZ.Launch
public import proofs.«01_k».proof.Proof.Gen.InZ.Points
public import proofs.«01_k».proof.Proof.Gen.InZ.Frame
public import proofs.«01_k».proof.Proof.Gen.InZIdeal
public import proofs.«01_k».proof.Proof.Gen.InZIdeal.Skeleton
public import proofs.«01_k».proof.Proof.Gen.InZIdeal.Launch
public import proofs.«01_k».proof.Proof.Gen.InZIdeal.Points
public import proofs.«01_k».proof.Proof.Gen.InZIdeal.Frame
public import proofs.«01_k».proof.Proof.Gen.InZIdeal.Value
public import proofs.«01_k».proof.Proof.Gen.InZRefIdeal
public import proofs.«01_k».proof.Proof.Gen.InZRefIdeal.Run
public import proofs.«01_k».proof.Proof.Gen.InAb
public import proofs.«01_k».proof.Proof.Gen.InAb.Skeleton
public import proofs.«01_k».proof.Proof.Gen.InAb.Launch
public import proofs.«01_k».proof.Proof.Gen.InAb.Points
public import proofs.«01_k».proof.Proof.Gen.InAb.Frame
public import proofs.«01_k».proof.Proof.Gen.InAbIdeal
public import proofs.«01_k».proof.Proof.Gen.InAbIdeal.Skeleton
public import proofs.«01_k».proof.Proof.Gen.InAbIdeal.Launch
public import proofs.«01_k».proof.Proof.Gen.InAbIdeal.Points
public import proofs.«01_k».proof.Proof.Gen.InAbIdeal.Frame
public import proofs.«01_k».proof.Proof.Gen.InAbIdeal.Value
public import proofs.«01_k».proof.Proof.Gen.InAbRefIdeal
public import proofs.«01_k».proof.Proof.Gen.InAbRefIdeal.Run
public import proofs.«01_k».proof.Proof.Gen.InDwA
public import proofs.«01_k».proof.Proof.Gen.InDwA.Skeleton
public import proofs.«01_k».proof.Proof.Gen.InDwA.Launch
public import proofs.«01_k».proof.Proof.Gen.InDwA.Points
public import proofs.«01_k».proof.Proof.Gen.InDwA.Frame
public import proofs.«01_k».proof.Proof.Gen.InDwAIdeal
public import proofs.«01_k».proof.Proof.Gen.InDwAIdeal.Skeleton
public import proofs.«01_k».proof.Proof.Gen.InDwAIdeal.Launch
public import proofs.«01_k».proof.Proof.Gen.InDwAIdeal.Points
public import proofs.«01_k».proof.Proof.Gen.InDwAIdeal.Frame
public import proofs.«01_k».proof.Proof.Gen.InDwAIdeal.Value
public import proofs.«01_k».proof.Proof.Gen.InDwARefIdeal
public import proofs.«01_k».proof.Proof.Gen.InDwARefIdeal.Run
public import proofs.«01_k».proof.Proof.Gen.InDwB
public import proofs.«01_k».proof.Proof.Gen.InDwB.Skeleton
public import proofs.«01_k».proof.Proof.Gen.InDwB.Launch
public import proofs.«01_k».proof.Proof.Gen.InDwB.Points
public import proofs.«01_k».proof.Proof.Gen.InDwB.Frame
public import proofs.«01_k».proof.Proof.Gen.InDwBIdeal
public import proofs.«01_k».proof.Proof.Gen.InDwBIdeal.Skeleton
public import proofs.«01_k».proof.Proof.Gen.InDwBIdeal.Launch
public import proofs.«01_k».proof.Proof.Gen.InDwBIdeal.Points
public import proofs.«01_k».proof.Proof.Gen.InDwBIdeal.Frame
public import proofs.«01_k».proof.Proof.Gen.InDwBIdeal.Value
public import proofs.«01_k».proof.Proof.Gen.InDwBRefIdeal
public import proofs.«01_k».proof.Proof.Gen.InDwBRefIdeal.Run
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.Branch
public import proofs.«01_k».proof.Proof.Gen.Branch.Skeleton
public import proofs.«01_k».proof.Proof.Gen.Branch.Launch
public import proofs.«01_k».proof.Proof.Gen.Branch.Points
public import proofs.«01_k».proof.Proof.Gen.Branch.Frame
public import proofs.«01_k».proof.Proof.Gen.BranchIdeal
public import proofs.«01_k».proof.Proof.Gen.BranchIdeal.Skeleton
public import proofs.«01_k».proof.Proof.Gen.BranchIdeal.Launch
public import proofs.«01_k».proof.Proof.Gen.BranchIdeal.Points
public import proofs.«01_k».proof.Proof.Gen.BranchIdeal.Frame
public import proofs.«01_k».proof.Proof.Gen.BranchIdeal.Value
public import proofs.«01_k».proof.Proof.Gen.BranchRefIdeal
public import proofs.«01_k».proof.Proof.Gen.BranchRefIdeal.Run
public import proofs.«01_k».proof.Proof.Gen.BranchDw
public import proofs.«01_k».proof.Proof.Gen.BranchDw.Skeleton
public import proofs.«01_k».proof.Proof.Gen.BranchDw.Launch
public import proofs.«01_k».proof.Proof.Gen.BranchDw.Points
public import proofs.«01_k».proof.Proof.Gen.BranchDw.Frame
public import proofs.«01_k».proof.Proof.Gen.BranchDwIdeal
public import proofs.«01_k».proof.Proof.Gen.BranchDwIdeal.Skeleton
public import proofs.«01_k».proof.Proof.Gen.BranchDwIdeal.Launch
public import proofs.«01_k».proof.Proof.Gen.BranchDwIdeal.Points
public import proofs.«01_k».proof.Proof.Gen.BranchDwIdeal.Frame
public import proofs.«01_k».proof.Proof.Gen.BranchDwIdeal.Value
public import proofs.«01_k».proof.Proof.Gen.BranchDwRefIdeal
public import proofs.«01_k».proof.Proof.Gen.BranchDwRefIdeal.Run
public import proofs.«01_k».proof.Proof.Gen.BranchDx
public import proofs.«01_k».proof.Proof.Gen.BranchDx.Skeleton
public import proofs.«01_k».proof.Proof.Gen.BranchDx.Launch
public import proofs.«01_k».proof.Proof.Gen.BranchDx.Points
public import proofs.«01_k».proof.Proof.Gen.BranchDx.Frame
public import proofs.«01_k».proof.Proof.Gen.BranchDxIdeal
public import proofs.«01_k».proof.Proof.Gen.BranchDxIdeal.Skeleton
public import proofs.«01_k».proof.Proof.Gen.BranchDxIdeal.Launch
public import proofs.«01_k».proof.Proof.Gen.BranchDxIdeal.Points
public import proofs.«01_k».proof.Proof.Gen.BranchDxIdeal.Frame
public import proofs.«01_k».proof.Proof.Gen.BranchDxIdeal.Value
public import proofs.«01_k».proof.Proof.Gen.BranchDxRefIdeal
public import proofs.«01_k».proof.Proof.Gen.BranchDxRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.QueryDw
public import proofs.«01_k».proof.Proof.Gen.QueryDw.Skeleton
public import proofs.«01_k».proof.Proof.Gen.QueryDw.Launch
public import proofs.«01_k».proof.Proof.Gen.QueryDw.Points
public import proofs.«01_k».proof.Proof.Gen.QueryDw.Frame
public import proofs.«01_k».proof.Proof.Gen.QueryDwIdeal
public import proofs.«01_k».proof.Proof.Gen.QueryDwIdeal.Skeleton
public import proofs.«01_k».proof.Proof.Gen.QueryDwIdeal.Launch
public import proofs.«01_k».proof.Proof.Gen.QueryDwIdeal.Points
public import proofs.«01_k».proof.Proof.Gen.QueryDwIdeal.Frame
public import proofs.«01_k».proof.Proof.Gen.QueryDwIdeal.Value
public import proofs.«01_k».proof.Proof.Gen.QueryDwRefIdeal
public import proofs.«01_k».proof.Proof.Gen.QueryDwRefIdeal.Run
public import proofs.«01_k».proof.Proof.Gen.QueryDx
public import proofs.«01_k».proof.Proof.Gen.QueryDx.Skeleton
public import proofs.«01_k».proof.Proof.Gen.QueryDx.Launch
public import proofs.«01_k».proof.Proof.Gen.QueryDx.Points
public import proofs.«01_k».proof.Proof.Gen.QueryDx.Frame
public import proofs.«01_k».proof.Proof.Gen.QueryDxIdeal
public import proofs.«01_k».proof.Proof.Gen.QueryDxIdeal.Skeleton
public import proofs.«01_k».proof.Proof.Gen.QueryDxIdeal.Launch
public import proofs.«01_k».proof.Proof.Gen.QueryDxIdeal.Points
public import proofs.«01_k».proof.Proof.Gen.QueryDxIdeal.Frame
public import proofs.«01_k».proof.Proof.Gen.QueryDxIdeal.Value
public import proofs.«01_k».proof.Proof.Gen.QueryDxRefIdeal
public import proofs.«01_k».proof.Proof.Gen.QueryDxRefIdeal.Run
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemDw
public import proofs.«01_k».proof.Proof.Gen.MemDw.Skeleton
public import proofs.«01_k».proof.Proof.Gen.MemDw.Launch
public import proofs.«01_k».proof.Proof.Gen.MemDw.Points
public import proofs.«01_k».proof.Proof.Gen.MemDw.Frame
public import proofs.«01_k».proof.Proof.Gen.MemDwIdeal
public import proofs.«01_k».proof.Proof.Gen.MemDwIdeal.Skeleton
public import proofs.«01_k».proof.Proof.Gen.MemDwIdeal.Launch
public import proofs.«01_k».proof.Proof.Gen.MemDwIdeal.Points
public import proofs.«01_k».proof.Proof.Gen.MemDwIdeal.Frame
public import proofs.«01_k».proof.Proof.Gen.MemDwIdeal.Value
public import proofs.«01_k».proof.Proof.Gen.MemDwRefIdeal
public import proofs.«01_k».proof.Proof.Gen.MemDwRefIdeal.Run
public import proofs.«01_k».proof.Proof.Gen.MemDk
public import proofs.«01_k».proof.Proof.Gen.MemDk.Skeleton
public import proofs.«01_k».proof.Proof.Gen.MemDk.Launch
public import proofs.«01_k».proof.Proof.Gen.MemDk.Points
public import proofs.«01_k».proof.Proof.Gen.MemDk.Frame
public import proofs.«01_k».proof.Proof.Gen.MemDkIdeal
public import proofs.«01_k».proof.Proof.Gen.MemDkIdeal.Skeleton
public import proofs.«01_k».proof.Proof.Gen.MemDkIdeal.Launch
public import proofs.«01_k».proof.Proof.Gen.MemDkIdeal.Points
public import proofs.«01_k».proof.Proof.Gen.MemDkIdeal.Frame
public import proofs.«01_k».proof.Proof.Gen.MemDkIdeal.Value
public import proofs.«01_k».proof.Proof.Gen.MemDkRefIdeal
public import proofs.«01_k».proof.Proof.Gen.MemDkRefIdeal.Run
public import proofs.«01_k».proof.Proof.Gen.MemDv
public import proofs.«01_k».proof.Proof.Gen.MemDv.Skeleton
public import proofs.«01_k».proof.Proof.Gen.MemDv.Launch
public import proofs.«01_k».proof.Proof.Gen.MemDv.Points
public import proofs.«01_k».proof.Proof.Gen.MemDv.Frame
public import proofs.«01_k».proof.Proof.Gen.MemDvIdeal
public import proofs.«01_k».proof.Proof.Gen.MemDvIdeal.Skeleton
public import proofs.«01_k».proof.Proof.Gen.MemDvIdeal.Launch
public import proofs.«01_k».proof.Proof.Gen.MemDvIdeal.Points
public import proofs.«01_k».proof.Proof.Gen.MemDvIdeal.Frame
public import proofs.«01_k».proof.Proof.Gen.MemDvIdeal.Value
public import proofs.«01_k».proof.Proof.Gen.MemDvRefIdeal
public import proofs.«01_k».proof.Proof.Gen.MemDvRefIdeal.Run
public import proofs.«01_k».proof.Proof.MulInQkv
public import proofs.«01_k».proof.Proof.MulInGates
public import proofs.«01_k».proof.Proof.MulInZ
public import proofs.«01_k».proof.Proof.MulInAb
public import proofs.«01_k».proof.Proof.MulInDwA
public import proofs.«01_k».proof.Proof.MulInDwB
public import proofs.«01_k».proof.Proof.MulInDx
public import proofs.«01_k».proof.Proof.MulBranch
public import proofs.«01_k».proof.Proof.MulBranchDw
public import proofs.«01_k».proof.Proof.MulBranchDx
public import proofs.«01_k».proof.Proof.MulOut
public import proofs.«01_k».proof.Proof.MulOutDw
public import proofs.«01_k».proof.Proof.MulOutDx
public import proofs.«01_k».proof.Proof.MulQueryDw
public import proofs.«01_k».proof.Proof.MulQueryDx
public import proofs.«01_k».proof.Proof.MulMemKv
public import proofs.«01_k».proof.Proof.MulMemDw
public import proofs.«01_k».proof.Proof.MulMemDk
public import proofs.«01_k».proof.Proof.MulMemDv
public import proofs.«01_k».proof.Proof.Gen.AdamFfn
public import proofs.«01_k».proof.Proof.Gen.AdamFfn.Skeleton
public import proofs.«01_k».proof.Proof.Gen.AdamFfn.Launch
public import proofs.«01_k».proof.Proof.Gen.AdamFfn.Points
public import proofs.«01_k».proof.Proof.Gen.AdamFfn.Frame
public import proofs.«01_k».proof.Proof.Gen.AdamFfnIdeal
public import proofs.«01_k».proof.Proof.Gen.AdamFfnIdeal.Skeleton
public import proofs.«01_k».proof.Proof.Gen.AdamFfnIdeal.Launch
public import proofs.«01_k».proof.Proof.Gen.AdamFfnIdeal.Points
public import proofs.«01_k».proof.Proof.Gen.AdamFfnIdeal.Frame
public import proofs.«01_k».proof.Proof.Gen.AdamFfnIdeal.Value
public import proofs.«01_k».proof.Proof.Gen.AdamFfnRefIdeal
public import proofs.«01_k».proof.Proof.Gen.AdamFfnRefIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamConv
public import proofs.«01_k».proof.Proof.Gen.AdamConv.Skeleton
public import proofs.«01_k».proof.Proof.Gen.AdamConv.Launch
public import proofs.«01_k».proof.Proof.Gen.AdamConv.Points
public import proofs.«01_k».proof.Proof.Gen.AdamConv.Frame
public import proofs.«01_k».proof.Proof.Gen.AdamConvIdeal
public import proofs.«01_k».proof.Proof.Gen.AdamConvIdeal.Skeleton
public import proofs.«01_k».proof.Proof.Gen.AdamConvIdeal.Launch
public import proofs.«01_k».proof.Proof.Gen.AdamConvIdeal.Points
public import proofs.«01_k».proof.Proof.Gen.AdamConvIdeal.Frame
public import proofs.«01_k».proof.Proof.Gen.AdamConvIdeal.Value
public import proofs.«01_k».proof.Proof.Gen.AdamConvRefIdeal
public import proofs.«01_k».proof.Proof.Gen.AdamConvRefIdeal.Run
public import proofs.«01_k».proof.Proof.Gen.AdamBranch
public import proofs.«01_k».proof.Proof.Gen.AdamBranch.Skeleton
public import proofs.«01_k».proof.Proof.Gen.AdamBranch.Launch
public import proofs.«01_k».proof.Proof.Gen.AdamBranch.Points
public import proofs.«01_k».proof.Proof.Gen.AdamBranch.Frame
public import proofs.«01_k».proof.Proof.Gen.AdamBranchIdeal
public import proofs.«01_k».proof.Proof.Gen.AdamBranchIdeal.Skeleton
public import proofs.«01_k».proof.Proof.Gen.AdamBranchIdeal.Launch
public import proofs.«01_k».proof.Proof.Gen.AdamBranchIdeal.Points
public import proofs.«01_k».proof.Proof.Gen.AdamBranchIdeal.Frame
public import proofs.«01_k».proof.Proof.Gen.AdamBranchIdeal.Value
public import proofs.«01_k».proof.Proof.Gen.AdamBranchRefIdeal
public import proofs.«01_k».proof.Proof.Gen.AdamBranchRefIdeal.Run
public import proofs.«01_k».proof.Proof.Gen.AdamSquare
public import proofs.«01_k».proof.Proof.Gen.AdamSquare.Skeleton
public import proofs.«01_k».proof.Proof.Gen.AdamSquare.Launch
public import proofs.«01_k».proof.Proof.Gen.AdamSquare.Points
public import proofs.«01_k».proof.Proof.Gen.AdamSquare.Frame
public import proofs.«01_k».proof.Proof.Gen.AdamSquareIdeal
public import proofs.«01_k».proof.Proof.Gen.AdamSquareIdeal.Skeleton
public import proofs.«01_k».proof.Proof.Gen.AdamSquareIdeal.Launch
public import proofs.«01_k».proof.Proof.Gen.AdamSquareIdeal.Points
public import proofs.«01_k».proof.Proof.Gen.AdamSquareIdeal.Frame
public import proofs.«01_k».proof.Proof.Gen.AdamSquareIdeal.Value
public import proofs.«01_k».proof.Proof.Gen.AdamSquareRefIdeal
public import proofs.«01_k».proof.Proof.Gen.AdamSquareRefIdeal.Run
public import proofs.«01_k».proof.Proof.Gen.AdamLn
public import proofs.«01_k».proof.Proof.Gen.AdamLn.Skeleton
public import proofs.«01_k».proof.Proof.Gen.AdamLn.Launch
public import proofs.«01_k».proof.Proof.Gen.AdamLn.Points
public import proofs.«01_k».proof.Proof.Gen.AdamLn.Frame
public import proofs.«01_k».proof.Proof.Gen.AdamLnIdeal
public import proofs.«01_k».proof.Proof.Gen.AdamLnIdeal.Skeleton
public import proofs.«01_k».proof.Proof.Gen.AdamLnIdeal.Launch
public import proofs.«01_k».proof.Proof.Gen.AdamLnIdeal.Points
public import proofs.«01_k».proof.Proof.Gen.AdamLnIdeal.Frame
public import proofs.«01_k».proof.Proof.Gen.AdamLnIdeal.Value
public import proofs.«01_k».proof.Proof.Gen.AdamLnRefIdeal
public import proofs.«01_k».proof.Proof.Gen.AdamLnRefIdeal.Run
public import proofs.«01_k».proof.Proof.Gen.AdamScale
public import proofs.«01_k».proof.Proof.Gen.AdamScale.Skeleton
public import proofs.«01_k».proof.Proof.Gen.AdamScale.Launch
public import proofs.«01_k».proof.Proof.Gen.AdamScale.Points
public import proofs.«01_k».proof.Proof.Gen.AdamScale.Frame
public import proofs.«01_k».proof.Proof.Gen.AdamScaleIdeal
public import proofs.«01_k».proof.Proof.Gen.AdamScaleIdeal.Skeleton
public import proofs.«01_k».proof.Proof.Gen.AdamScaleIdeal.Launch
public import proofs.«01_k».proof.Proof.Gen.AdamScaleIdeal.Points
public import proofs.«01_k».proof.Proof.Gen.AdamScaleIdeal.Frame
public import proofs.«01_k».proof.Proof.Gen.AdamScaleIdeal.Value
public import proofs.«01_k».proof.Proof.Gen.AdamScaleRefIdeal
public import proofs.«01_k».proof.Proof.Gen.AdamScaleRefIdeal.Run
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormIdeal.Value
public import proofs.«01_k».proof.Proof.Gen.AdamNormRefIdeal
public import proofs.«01_k».proof.Proof.Gen.AdamNormRefIdeal.Run
public import proofs.«01_k».proof.Proof.Gen.AdamHead
public import proofs.«01_k».proof.Proof.Gen.AdamHead.Skeleton
public import proofs.«01_k».proof.Proof.Gen.AdamHead.Launch
public import proofs.«01_k».proof.Proof.Gen.AdamHead.Points
public import proofs.«01_k».proof.Proof.Gen.AdamHead.Frame
public import proofs.«01_k».proof.Proof.Gen.AdamHeadIdeal
public import proofs.«01_k».proof.Proof.Gen.AdamHeadIdeal.Skeleton
public import proofs.«01_k».proof.Proof.Gen.AdamHeadIdeal.Launch
public import proofs.«01_k».proof.Proof.Gen.AdamHeadIdeal.Points
public import proofs.«01_k».proof.Proof.Gen.AdamHeadIdeal.Frame
public import proofs.«01_k».proof.Proof.Gen.AdamHeadIdeal.Value
public import proofs.«01_k».proof.Proof.Gen.AdamHeadRefIdeal
public import proofs.«01_k».proof.Proof.Gen.AdamHeadRefIdeal.Run
public import proofs.«01_k».proof.Proof.Adam
public import proofs.«01_k».proof.Proof.Sum
public import proofs.«01_k».proof.Proof.Gen.SumGate
public import proofs.«01_k».proof.Proof.Gen.SumGate.Skeleton
public import proofs.«01_k».proof.Proof.Gen.SumGate.Launch
public import proofs.«01_k».proof.Proof.Gen.SumGate.Points
public import proofs.«01_k».proof.Proof.Gen.SumGate.Frame
public import proofs.«01_k».proof.Proof.Gen.SumGateIdeal
public import proofs.«01_k».proof.Proof.Gen.SumGateIdeal.Skeleton
public import proofs.«01_k».proof.Proof.Gen.SumGateIdeal.Launch
public import proofs.«01_k».proof.Proof.Gen.SumGateIdeal.Points
public import proofs.«01_k».proof.Proof.Gen.SumGateIdeal.Frame
public import proofs.«01_k».proof.Proof.Gen.SumGateRefIdeal
public import proofs.«01_k».proof.Proof.Gen.SumGateRefIdeal.Run
public import proofs.«01_k».proof.Proof.Gen.SumDown
public import proofs.«01_k».proof.Proof.Gen.SumDown.Skeleton
public import proofs.«01_k».proof.Proof.Gen.SumDown.Launch
public import proofs.«01_k».proof.Proof.Gen.SumDown.Points
public import proofs.«01_k».proof.Proof.Gen.SumDown.Frame
public import proofs.«01_k».proof.Proof.Gen.SumDownIdeal
public import proofs.«01_k».proof.Proof.Gen.SumDownIdeal.Skeleton
public import proofs.«01_k».proof.Proof.Gen.SumDownIdeal.Launch
public import proofs.«01_k».proof.Proof.Gen.SumDownIdeal.Points
public import proofs.«01_k».proof.Proof.Gen.SumDownIdeal.Frame
public import proofs.«01_k».proof.Proof.Gen.SumDownRefIdeal
public import proofs.«01_k».proof.Proof.Gen.SumDownRefIdeal.Run
public import proofs.«01_k».proof.Proof.Gen.SumFfn
public import proofs.«01_k».proof.Proof.Gen.SumFfn.Skeleton
public import proofs.«01_k».proof.Proof.Gen.SumFfn.Launch
public import proofs.«01_k».proof.Proof.Gen.SumFfn.Points
public import proofs.«01_k».proof.Proof.Gen.SumFfn.Frame
public import proofs.«01_k».proof.Proof.Gen.SumFfnIdeal
public import proofs.«01_k».proof.Proof.Gen.SumFfnIdeal.Skeleton
public import proofs.«01_k».proof.Proof.Gen.SumFfnIdeal.Launch
public import proofs.«01_k».proof.Proof.Gen.SumFfnIdeal.Points
public import proofs.«01_k».proof.Proof.Gen.SumFfnIdeal.Frame
public import proofs.«01_k».proof.Proof.Gen.SumFfnRefIdeal
public import proofs.«01_k».proof.Proof.Gen.SumFfnRefIdeal.Run
public import proofs.«01_k».proof.Proof.Gen.SumMixer
public import proofs.«01_k».proof.Proof.Gen.SumMixer.Skeleton
public import proofs.«01_k».proof.Proof.Gen.SumMixer.Launch
public import proofs.«01_k».proof.Proof.Gen.SumMixer.Points
public import proofs.«01_k».proof.Proof.Gen.SumMixer.Frame
public import proofs.«01_k».proof.Proof.Gen.SumMixerIdeal
public import proofs.«01_k».proof.Proof.Gen.SumMixerIdeal.Skeleton
public import proofs.«01_k».proof.Proof.Gen.SumMixerIdeal.Launch
public import proofs.«01_k».proof.Proof.Gen.SumMixerIdeal.Points
public import proofs.«01_k».proof.Proof.Gen.SumMixerIdeal.Frame
public import proofs.«01_k».proof.Proof.Gen.SumMixerRefIdeal
public import proofs.«01_k».proof.Proof.Gen.SumMixerRefIdeal.Run
public import proofs.«01_k».proof.Proof.Gen.SumXa
public import proofs.«01_k».proof.Proof.Gen.SumXa.Skeleton
public import proofs.«01_k».proof.Proof.Gen.SumXa.Launch
public import proofs.«01_k».proof.Proof.Gen.SumXa.Points
public import proofs.«01_k».proof.Proof.Gen.SumXa.Frame
public import proofs.«01_k».proof.Proof.Gen.SumXaIdeal
public import proofs.«01_k».proof.Proof.Gen.SumXaIdeal.Skeleton
public import proofs.«01_k».proof.Proof.Gen.SumXaIdeal.Launch
public import proofs.«01_k».proof.Proof.Gen.SumXaIdeal.Points
public import proofs.«01_k».proof.Proof.Gen.SumXaIdeal.Frame
public import proofs.«01_k».proof.Proof.Gen.SumXaRefIdeal
public import proofs.«01_k».proof.Proof.Gen.SumXaRefIdeal.Run
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallRefIdeal
public import proofs.«01_k».proof.Proof.Gen.SumSmallRefIdeal.Run
public import proofs.«01_k».proof.Proof.Gen.Attend
public import proofs.«01_k».proof.Proof.Gen.Attend.Skeleton
public import proofs.«01_k».proof.Proof.Gen.Attend.Launch
public import proofs.«01_k».proof.Proof.Gen.Attend.Points
public import proofs.«01_k».proof.Proof.Gen.Attend.Frame
public import proofs.«01_k».proof.Proof.Gen.AttendIdeal
public import proofs.«01_k».proof.Proof.Gen.AttendIdeal.Skeleton
public import proofs.«01_k».proof.Proof.Gen.AttendIdeal.Launch
public import proofs.«01_k».proof.Proof.Gen.AttendIdeal.Points
public import proofs.«01_k».proof.Proof.Gen.AttendIdeal.Frame
public import proofs.«01_k».proof.Proof.Gen.AttendIdeal.Value
public import proofs.«01_k».proof.Proof.Gen.AttendRefIdeal
public import proofs.«01_k».proof.Proof.Gen.AttendRefIdeal.Run
public import proofs.«01_k».proof.Proof.Gen.AttendBack
public import proofs.«01_k».proof.Proof.Gen.AttendBack.Skeleton
public import proofs.«01_k».proof.Proof.Gen.AttendBack.Launch
public import proofs.«01_k».proof.Proof.Gen.AttendBack.Points
public import proofs.«01_k».proof.Proof.Gen.AttendBack.Frame
public import proofs.«01_k».proof.Proof.Gen.AttendBackIdeal
public import proofs.«01_k».proof.Proof.Gen.AttendBackIdeal.Skeleton
public import proofs.«01_k».proof.Proof.Gen.AttendBackIdeal.Launch
public import proofs.«01_k».proof.Proof.Gen.AttendBackIdeal.Points
public import proofs.«01_k».proof.Proof.Gen.AttendBackIdeal.Frame
public import proofs.«01_k».proof.Proof.Gen.AttendBackIdeal.Value
public import proofs.«01_k».proof.Proof.Gen.AttendBackRefIdeal
public import proofs.«01_k».proof.Proof.Gen.AttendBackRefIdeal.Run
public import proofs.«01_k».proof.Proof.MergeFwd
public import proofs.«01_k».proof.Proof.MergeGrad
public import proofs.«01_k».proof.Proof.NormFwd
public import proofs.«01_k».proof.Proof.NormBack
public import proofs.«01_k».proof.Proof.Gen.Pre_finite_ln
public import proofs.«01_k».proof.Proof.NormLast
public import proofs.«01_k».proof.Proof.GatedNorm
public import proofs.«01_k».proof.Proof.Gen.Pre_finite_last
public import proofs.«01_k».proof.Proof.NormMem
public import proofs.«01_k».proof.Proof.Gen.Pre_finite_mem
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeBack
public import proofs.«01_k».proof.Proof.Gen.MergeBack.Skeleton
public import proofs.«01_k».proof.Proof.Gen.MergeBack.Launch
public import proofs.«01_k».proof.Proof.Gen.MergeBack.Points
public import proofs.«01_k».proof.Proof.Gen.MergeBack.Frame
public import proofs.«01_k».proof.Proof.Gen.MergeBackIdeal
public import proofs.«01_k».proof.Proof.Gen.MergeBackIdeal.Skeleton
public import proofs.«01_k».proof.Proof.Gen.MergeBackIdeal.Launch
public import proofs.«01_k».proof.Proof.Gen.MergeBackIdeal.Points
public import proofs.«01_k».proof.Proof.Gen.MergeBackIdeal.Frame
public import proofs.«01_k».proof.Proof.Gen.MergeBackIdeal.Value
public import proofs.«01_k».proof.Proof.Gen.MergeBackRefIdeal
public import proofs.«01_k».proof.Proof.Gen.MergeBackRefIdeal.Run
public import proofs.«01_k».proof.Proof.Gen.LnHalf
public import proofs.«01_k».proof.Proof.Gen.LnHalf.Skeleton
public import proofs.«01_k».proof.Proof.Gen.LnHalf.Launch
public import proofs.«01_k».proof.Proof.Gen.LnHalf.Points
public import proofs.«01_k».proof.Proof.Gen.LnHalf.Frame
public import proofs.«01_k».proof.Proof.Gen.LnHalfIdeal
public import proofs.«01_k».proof.Proof.Gen.LnHalfIdeal.Skeleton
public import proofs.«01_k».proof.Proof.Gen.LnHalfIdeal.Launch
public import proofs.«01_k».proof.Proof.Gen.LnHalfIdeal.Points
public import proofs.«01_k».proof.Proof.Gen.LnHalfIdeal.Frame
public import proofs.«01_k».proof.Proof.Gen.LnHalfIdeal.Value
public import proofs.«01_k».proof.Proof.Gen.LnHalfRefIdeal
public import proofs.«01_k».proof.Proof.Gen.LnHalfRefIdeal.Run
public import proofs.«01_k».proof.Proof.Gen.Ln
public import proofs.«01_k».proof.Proof.Gen.Ln.Skeleton
public import proofs.«01_k».proof.Proof.Gen.Ln.Launch
public import proofs.«01_k».proof.Proof.Gen.Ln.Points
public import proofs.«01_k».proof.Proof.Gen.Ln.Frame
public import proofs.«01_k».proof.Proof.Gen.LnIdeal
public import proofs.«01_k».proof.Proof.Gen.LnIdeal.Skeleton
public import proofs.«01_k».proof.Proof.Gen.LnIdeal.Launch
public import proofs.«01_k».proof.Proof.Gen.LnIdeal.Points
public import proofs.«01_k».proof.Proof.Gen.LnIdeal.Frame
public import proofs.«01_k».proof.Proof.Gen.LnIdeal.Value
public import proofs.«01_k».proof.Proof.Gen.LnRefIdeal
public import proofs.«01_k».proof.Proof.Gen.LnRefIdeal.Run
public import proofs.«01_k».proof.Proof.Gen.LnBack
public import proofs.«01_k».proof.Proof.Gen.LnBack.Skeleton
public import proofs.«01_k».proof.Proof.Gen.LnBack.Launch
public import proofs.«01_k».proof.Proof.Gen.LnBack.Points
public import proofs.«01_k».proof.Proof.Gen.LnBack.Frame
public import proofs.«01_k».proof.Proof.Gen.LnBackIdeal
public import proofs.«01_k».proof.Proof.Gen.LnBackIdeal.Skeleton
public import proofs.«01_k».proof.Proof.Gen.LnBackIdeal.Launch
public import proofs.«01_k».proof.Proof.Gen.LnBackIdeal.Points
public import proofs.«01_k».proof.Proof.Gen.LnBackIdeal.Frame
public import proofs.«01_k».proof.Proof.Gen.LnBackIdeal.Value
public import proofs.«01_k».proof.Proof.Gen.LnBackRefIdeal
public import proofs.«01_k».proof.Proof.Gen.LnBackRefIdeal.Run
public import proofs.«01_k».proof.Proof.Gen.LnLast
public import proofs.«01_k».proof.Proof.Gen.LnLast.Skeleton
public import proofs.«01_k».proof.Proof.Gen.LnLast.Launch
public import proofs.«01_k».proof.Proof.Gen.LnLast.Points
public import proofs.«01_k».proof.Proof.Gen.LnLast.Frame
public import proofs.«01_k».proof.Proof.Gen.LnLastIdeal
public import proofs.«01_k».proof.Proof.Gen.LnLastIdeal.Skeleton
public import proofs.«01_k».proof.Proof.Gen.LnLastIdeal.Launch
public import proofs.«01_k».proof.Proof.Gen.LnLastIdeal.Points
public import proofs.«01_k».proof.Proof.Gen.LnLastIdeal.Frame
public import proofs.«01_k».proof.Proof.Gen.LnLastIdeal.Value
public import proofs.«01_k».proof.Proof.Gen.LnLastRefIdeal
public import proofs.«01_k».proof.Proof.Gen.LnLastRefIdeal.Run
public import proofs.«01_k».proof.Proof.Gen.HeadNorm
public import proofs.«01_k».proof.Proof.Gen.HeadNorm.Skeleton
public import proofs.«01_k».proof.Proof.Gen.HeadNorm.Launch
public import proofs.«01_k».proof.Proof.Gen.HeadNorm.Points
public import proofs.«01_k».proof.Proof.Gen.HeadNorm.Frame
public import proofs.«01_k».proof.Proof.Gen.HeadNormIdeal
public import proofs.«01_k».proof.Proof.Gen.HeadNormIdeal.Skeleton
public import proofs.«01_k».proof.Proof.Gen.HeadNormIdeal.Launch
public import proofs.«01_k».proof.Proof.Gen.HeadNormIdeal.Points
public import proofs.«01_k».proof.Proof.Gen.HeadNormIdeal.Frame
public import proofs.«01_k».proof.Proof.Gen.HeadNormIdeal.Value
public import proofs.«01_k».proof.Proof.Gen.HeadNormRefIdeal
public import proofs.«01_k».proof.Proof.Gen.HeadNormRefIdeal.Run
public import proofs.«01_k».proof.Proof.Gen.LnMem
public import proofs.«01_k».proof.Proof.Gen.LnMem.Skeleton
public import proofs.«01_k».proof.Proof.Gen.LnMem.Launch
public import proofs.«01_k».proof.Proof.Gen.LnMem.Points
public import proofs.«01_k».proof.Proof.Gen.LnMem.Frame
public import proofs.«01_k».proof.Proof.Gen.LnMemIdeal
public import proofs.«01_k».proof.Proof.Gen.LnMemIdeal.Skeleton
public import proofs.«01_k».proof.Proof.Gen.LnMemIdeal.Launch
public import proofs.«01_k».proof.Proof.Gen.LnMemIdeal.Points
public import proofs.«01_k».proof.Proof.Gen.LnMemIdeal.Frame
public import proofs.«01_k».proof.Proof.Gen.LnMemIdeal.Value
public import proofs.«01_k».proof.Proof.Gen.LnMemRefIdeal
public import proofs.«01_k».proof.Proof.Gen.LnMemRefIdeal.Run
public import proofs.«01_k».proof.Proof.Gen.LnMemBack
public import proofs.«01_k».proof.Proof.Gen.LnMemBack.Skeleton
public import proofs.«01_k».proof.Proof.Gen.LnMemBack.Launch
public import proofs.«01_k».proof.Proof.Gen.LnMemBack.Points
public import proofs.«01_k».proof.Proof.Gen.LnMemBack.Frame
public import proofs.«01_k».proof.Proof.Gen.LnMemBackIdeal
public import proofs.«01_k».proof.Proof.Gen.LnMemBackIdeal.Skeleton
public import proofs.«01_k».proof.Proof.Gen.LnMemBackIdeal.Launch
public import proofs.«01_k».proof.Proof.Gen.LnMemBackIdeal.Points
public import proofs.«01_k».proof.Proof.Gen.LnMemBackIdeal.Frame
public import proofs.«01_k».proof.Proof.Gen.LnMemBackIdeal.Value
public import proofs.«01_k».proof.Proof.Gen.LnMemBackRefIdeal
public import proofs.«01_k».proof.Proof.Gen.LnMemBackRefIdeal.Run
public import Idealize.ShloMosaic.Adequacy
public import Idealize.ShloMosaic.Init

@[expose] public section

noncomputable section

namespace Cert.Proof

open Idealize.ShloMosaic Idealize.SL.Sem Cert.Kernel

/-- The reference of the backward scan ends, with its arguments as they were; it declares no semaphore. -/
theorem frame_reference : Cert.quiescent_ReferenceIdeal := fun m ρ _ =>
  (θ_run Cert.ReferenceIdeal.defs _ _).mono
    (fun r h => ⟨fun c => (h c).2.2.2.2.2.2, Idealize.ShloMosaic.sem_eq_zero_of_no_sems (by decide) r.2⟩)
    (Cert.ReferenceIdeal.Trips.run_iter (F := Ideal) m ρ
      (fun c n => (Cert.ScanEq.states (Cert.ReferenceIdeal.Trips.initState m c)) n)
      (fun _ => rfl) (fun _ _ => rfl))

theorem frame_Dact : Cert.quiescent_DactRefIdeal := fun m ρ _ =>
  (θ_run Cert.DactRefIdeal.defs _ _).mono
    (fun r h => ⟨fun c => (h c).2.2, sem_eq_zero_of_no_sems (by decide) r.2⟩)
    (Cert.DactRefIdeal.Value.run (F := Ideal) m ρ)

theorem frame_Dwd : Cert.quiescent_DwdRefIdeal := fun m ρ _ =>
  (θ_run Cert.DwdRefIdeal.defs _ _).mono
    (fun r h => ⟨fun c => (h c).2, sem_eq_zero_of_no_sems (by decide) r.2⟩)
    (Cert.DwdRefIdeal.Value.run (F := Ideal) m ρ)

theorem frame_Dw : Cert.quiescent_DwRefIdeal := fun m ρ _ =>
  (θ_run Cert.DwRefIdeal.defs _ _).mono
    (fun r h => ⟨fun c => (h c).2, sem_eq_zero_of_no_sems (by decide) r.2⟩)
    (Cert.DwRefIdeal.Value.run (F := Ideal) m ρ)

theorem frame_Dxg : Cert.quiescent_DxgRefIdeal := fun m ρ _ =>
  (θ_run Cert.DxgRefIdeal.defs _ _).mono
    (fun r h => ⟨fun c => (h c).2, sem_eq_zero_of_no_sems (by decide) r.2⟩)
    (Cert.DxgRefIdeal.Value.run (F := Ideal) m ρ)

theorem frame_Dxu : Cert.quiescent_DxuRefIdeal := fun m ρ _ =>
  (θ_run Cert.DxuRefIdeal.defs _ _).mono
    (fun r h => ⟨fun c => (h c).2, sem_eq_zero_of_no_sems (by decide) r.2⟩)
    (Cert.DxuRefIdeal.Value.run (F := Ideal) m ρ)

theorem frame_Gu : Cert.quiescent_GuRefIdeal := fun m ρ _ =>
  (θ_run Cert.GuRefIdeal.defs _ _).mono
    (fun r h => ⟨fun c => (h c).2.2.2, sem_eq_zero_of_no_sems (by decide) r.2⟩)
    (Cert.GuRefIdeal.Value.run (F := Ideal) m ρ)

theorem frame_Down : Cert.quiescent_DownRefIdeal := fun m ρ _ =>
  (θ_run Cert.DownRefIdeal.defs _ _).mono
    (fun r h => ⟨fun c => (h c).2, sem_eq_zero_of_no_sems (by decide) r.2⟩)
    (Cert.DownRefIdeal.Value.run (F := Ideal) m ρ)

theorem frame_InQkv : Cert.quiescent_InQkvRefIdeal := fun m ρ _ =>
  (θ_run Cert.InQkvRefIdeal.defs _ _).mono
    (fun r h => ⟨fun c => (h c).2, sem_eq_zero_of_no_sems (by decide) r.2⟩)
    (Cert.InQkvRefIdeal.Value.run (F := Ideal) m ρ)

theorem frame_InGates : Cert.quiescent_InGatesRefIdeal := fun m ρ _ =>
  (θ_run Cert.InGatesRefIdeal.defs _ _).mono
    (fun r h => ⟨fun c => (h c).2, sem_eq_zero_of_no_sems (by decide) r.2⟩)
    (Cert.InGatesRefIdeal.Value.run (F := Ideal) m ρ)

theorem frame_InZ : Cert.quiescent_InZRefIdeal := fun m ρ _ =>
  (θ_run Cert.InZRefIdeal.defs _ _).mono
    (fun r h => ⟨fun c => (h c).2, sem_eq_zero_of_no_sems (by decide) r.2⟩)
    (Cert.InZRefIdeal.Value.run (F := Ideal) m ρ)

theorem frame_InAb : Cert.quiescent_InAbRefIdeal := fun m ρ _ =>
  (θ_run Cert.InAbRefIdeal.defs _ _).mono
    (fun r h => ⟨fun c => (h c).2, sem_eq_zero_of_no_sems (by decide) r.2⟩)
    (Cert.InAbRefIdeal.Value.run (F := Ideal) m ρ)

theorem frame_InDwA : Cert.quiescent_InDwARefIdeal := fun m ρ _ =>
  (θ_run Cert.InDwARefIdeal.defs _ _).mono
    (fun r h => ⟨fun c => (h c).2.2.2, sem_eq_zero_of_no_sems (by decide) r.2⟩)
    (Cert.InDwARefIdeal.Value.run (F := Ideal) m ρ)

theorem frame_InDwB : Cert.quiescent_InDwBRefIdeal := fun m ρ _ =>
  (θ_run Cert.InDwBRefIdeal.defs _ _).mono
    (fun r h => ⟨fun c => (h c).2.2, sem_eq_zero_of_no_sems (by decide) r.2⟩)
    (Cert.InDwBRefIdeal.Value.run (F := Ideal) m ρ)

theorem frame_InDx : Cert.quiescent_InDxRefIdeal := fun m ρ _ =>
  (θ_run Cert.InDxRefIdeal.defs _ _).mono
    (fun r h => ⟨fun c => (h c).2, sem_eq_zero_of_no_sems (by decide) r.2⟩)
    (Cert.InDxRefIdeal.Value.run (F := Ideal) m ρ)

theorem frame_Branch : Cert.quiescent_BranchRefIdeal := fun m ρ _ =>
  (θ_run Cert.BranchRefIdeal.defs _ _).mono
    (fun r h => ⟨fun c => (h c).2, sem_eq_zero_of_no_sems (by decide) r.2⟩)
    (Cert.BranchRefIdeal.Value.run (F := Ideal) m ρ)

theorem frame_BranchDw : Cert.quiescent_BranchDwRefIdeal := fun m ρ _ =>
  (θ_run Cert.BranchDwRefIdeal.defs _ _).mono
    (fun r h => ⟨fun c => (h c).2, sem_eq_zero_of_no_sems (by decide) r.2⟩)
    (Cert.BranchDwRefIdeal.Value.run (F := Ideal) m ρ)

theorem frame_BranchDx : Cert.quiescent_BranchDxRefIdeal := fun m ρ _ =>
  (θ_run Cert.BranchDxRefIdeal.defs _ _).mono
    (fun r h => ⟨fun c => (h c).2, sem_eq_zero_of_no_sems (by decide) r.2⟩)
    (Cert.BranchDxRefIdeal.Value.run (F := Ideal) m ρ)

theorem frame_Out : Cert.quiescent_OutRefIdeal := fun m ρ _ =>
  (θ_run Cert.OutRefIdeal.defs _ _).mono
    (fun r h => ⟨fun c => (h c).2, sem_eq_zero_of_no_sems (by decide) r.2⟩)
    (Cert.OutRefIdeal.Value.run (F := Ideal) m ρ)

theorem frame_OutDw : Cert.quiescent_OutDwRefIdeal := fun m ρ _ =>
  (θ_run Cert.OutDwRefIdeal.defs _ _).mono
    (fun r h => ⟨fun c => (h c).2, sem_eq_zero_of_no_sems (by decide) r.2⟩)
    (Cert.OutDwRefIdeal.Value.run (F := Ideal) m ρ)

theorem frame_OutDx : Cert.quiescent_OutDxRefIdeal := fun m ρ _ =>
  (θ_run Cert.OutDxRefIdeal.defs _ _).mono
    (fun r h => ⟨fun c => (h c).2, sem_eq_zero_of_no_sems (by decide) r.2⟩)
    (Cert.OutDxRefIdeal.Value.run (F := Ideal) m ρ)

theorem frame_QueryDw : Cert.quiescent_QueryDwRefIdeal := fun m ρ _ =>
  (θ_run Cert.QueryDwRefIdeal.defs _ _).mono
    (fun r h => ⟨fun c => (h c).2, sem_eq_zero_of_no_sems (by decide) r.2⟩)
    (Cert.QueryDwRefIdeal.Value.run (F := Ideal) m ρ)

theorem frame_QueryDx : Cert.quiescent_QueryDxRefIdeal := fun m ρ _ =>
  (θ_run Cert.QueryDxRefIdeal.defs _ _).mono
    (fun r h => ⟨fun c => (h c).2, sem_eq_zero_of_no_sems (by decide) r.2⟩)
    (Cert.QueryDxRefIdeal.Value.run (F := Ideal) m ρ)

theorem frame_MemKv : Cert.quiescent_MemKvRefIdeal := fun m ρ _ =>
  (θ_run Cert.MemKvRefIdeal.defs _ _).mono
    (fun r h => ⟨fun c => (h c).2, sem_eq_zero_of_no_sems (by decide) r.2⟩)
    (Cert.MemKvRefIdeal.Value.run (F := Ideal) m ρ)

theorem frame_MemDw : Cert.quiescent_MemDwRefIdeal := fun m ρ _ =>
  (θ_run Cert.MemDwRefIdeal.defs _ _).mono
    (fun r h => ⟨fun c => (h c).2, sem_eq_zero_of_no_sems (by decide) r.2⟩)
    (Cert.MemDwRefIdeal.Value.run (F := Ideal) m ρ)

theorem frame_MemDk : Cert.quiescent_MemDkRefIdeal := fun m ρ _ =>
  (θ_run Cert.MemDkRefIdeal.defs _ _).mono
    (fun r h => ⟨fun c => (h c).2, sem_eq_zero_of_no_sems (by decide) r.2⟩)
    (Cert.MemDkRefIdeal.Value.run (F := Ideal) m ρ)

theorem frame_MemDv : Cert.quiescent_MemDvRefIdeal := fun m ρ _ =>
  (θ_run Cert.MemDvRefIdeal.defs _ _).mono
    (fun r h => ⟨fun c => (h c).2, sem_eq_zero_of_no_sems (by decide) r.2⟩)
    (Cert.MemDvRefIdeal.Value.run (F := Ideal) m ρ)

theorem frame_AdamFfn : Cert.quiescent_AdamFfnRefIdeal := fun m ρ _ =>
  (θ_run Cert.AdamFfnRefIdeal.defs _ _).mono
    (fun r h => ⟨fun c => (h c).2.2.2, sem_eq_zero_of_no_sems (by decide) r.2⟩)
    (Cert.AdamFfnRefIdeal.Value.run (F := Ideal) m ρ)

theorem frame_AdamIn : Cert.quiescent_AdamInRefIdeal := fun m ρ _ =>
  (θ_run Cert.AdamInRefIdeal.defs _ _).mono
    (fun r h => ⟨fun c => (h c).2.2.2, sem_eq_zero_of_no_sems (by decide) r.2⟩)
    (Cert.AdamInRefIdeal.Value.run (F := Ideal) m ρ)

theorem frame_AdamConv : Cert.quiescent_AdamConvRefIdeal := fun m ρ _ =>
  (θ_run Cert.AdamConvRefIdeal.defs _ _).mono
    (fun r h => ⟨fun c => (h c).2.2.2, sem_eq_zero_of_no_sems (by decide) r.2⟩)
    (Cert.AdamConvRefIdeal.Value.run (F := Ideal) m ρ)

theorem frame_AdamBranch : Cert.quiescent_AdamBranchRefIdeal := fun m ρ _ =>
  (θ_run Cert.AdamBranchRefIdeal.defs _ _).mono
    (fun r h => ⟨fun c => (h c).2.2.2, sem_eq_zero_of_no_sems (by decide) r.2⟩)
    (Cert.AdamBranchRefIdeal.Value.run (F := Ideal) m ρ)

theorem frame_AdamSquare : Cert.quiescent_AdamSquareRefIdeal := fun m ρ _ =>
  (θ_run Cert.AdamSquareRefIdeal.defs _ _).mono
    (fun r h => ⟨fun c => (h c).2.2.2, sem_eq_zero_of_no_sems (by decide) r.2⟩)
    (Cert.AdamSquareRefIdeal.Value.run (F := Ideal) m ρ)

theorem frame_AdamLn : Cert.quiescent_AdamLnRefIdeal := fun m ρ _ =>
  (θ_run Cert.AdamLnRefIdeal.defs _ _).mono
    (fun r h => ⟨fun c => (h c).2.2.2, sem_eq_zero_of_no_sems (by decide) r.2⟩)
    (Cert.AdamLnRefIdeal.Value.run (F := Ideal) m ρ)

theorem frame_AdamScale : Cert.quiescent_AdamScaleRefIdeal := fun m ρ _ =>
  (θ_run Cert.AdamScaleRefIdeal.defs _ _).mono
    (fun r h => ⟨fun c => (h c).2.2.2, sem_eq_zero_of_no_sems (by decide) r.2⟩)
    (Cert.AdamScaleRefIdeal.Value.run (F := Ideal) m ρ)

theorem frame_AdamNorm : Cert.quiescent_AdamNormRefIdeal := fun m ρ _ =>
  (θ_run Cert.AdamNormRefIdeal.defs _ _).mono
    (fun r h => ⟨fun c => (h c).2.2.2, sem_eq_zero_of_no_sems (by decide) r.2⟩)
    (Cert.AdamNormRefIdeal.Value.run (F := Ideal) m ρ)

theorem frame_AdamHead : Cert.quiescent_AdamHeadRefIdeal := fun m ρ _ =>
  (θ_run Cert.AdamHeadRefIdeal.defs _ _).mono
    (fun r h => ⟨fun c => (h c).2.2.2, sem_eq_zero_of_no_sems (by decide) r.2⟩)
    (Cert.AdamHeadRefIdeal.Value.run (F := Ideal) m ρ)

theorem frame_SumGate : Cert.quiescent_SumGateRefIdeal := fun m ρ _ =>
  (θ_run Cert.SumGateRefIdeal.defs _ _).mono
    (fun r h => ⟨fun c => (h c).2, sem_eq_zero_of_no_sems (by decide) r.2⟩)
    (Cert.SumGateRefIdeal.Value.run (F := Ideal) m ρ)

theorem frame_SumDown : Cert.quiescent_SumDownRefIdeal := fun m ρ _ =>
  (θ_run Cert.SumDownRefIdeal.defs _ _).mono
    (fun r h => ⟨fun c => (h c).2, sem_eq_zero_of_no_sems (by decide) r.2⟩)
    (Cert.SumDownRefIdeal.Value.run (F := Ideal) m ρ)

theorem frame_SumFfn : Cert.quiescent_SumFfnRefIdeal := fun m ρ _ =>
  (θ_run Cert.SumFfnRefIdeal.defs _ _).mono
    (fun r h => ⟨fun c => (h c).2.2.2, sem_eq_zero_of_no_sems (by decide) r.2⟩)
    (Cert.SumFfnRefIdeal.Value.run (F := Ideal) m ρ)

theorem frame_SumMixer : Cert.quiescent_SumMixerRefIdeal := fun m ρ _ =>
  (θ_run Cert.SumMixerRefIdeal.defs _ _).mono
    (fun r h => ⟨fun c => (h c).2.2.2.2.2, sem_eq_zero_of_no_sems (by decide) r.2⟩)
    (Cert.SumMixerRefIdeal.Value.run (F := Ideal) m ρ)

theorem frame_SumXa : Cert.quiescent_SumXaRefIdeal := fun m ρ _ =>
  (θ_run Cert.SumXaRefIdeal.defs _ _).mono
    (fun r h => ⟨fun c => (h c).2.2.2.2, sem_eq_zero_of_no_sems (by decide) r.2⟩)
    (Cert.SumXaRefIdeal.Value.run (F := Ideal) m ρ)

theorem frame_SumSmall : Cert.quiescent_SumSmallRefIdeal := fun m ρ _ =>
  (θ_run Cert.SumSmallRefIdeal.defs _ _).mono
    (fun r h => ⟨fun c => (h c).2.2.2.2.2.2.2.2.2.2.2.2.2.2.2.2, sem_eq_zero_of_no_sems (by decide) r.2⟩)
    (Cert.SumSmallRefIdeal.Value.run (F := Ideal) m ρ)

theorem frame_Attend : Cert.quiescent_AttendRefIdeal := fun m ρ _ =>
  (θ_run Cert.AttendRefIdeal.defs _ _).mono
    (fun r h => ⟨fun c => (h c).2, sem_eq_zero_of_no_sems (by decide) r.2⟩)
    (Cert.AttendRefIdeal.Value.run (F := Ideal) m ρ)

theorem frame_AttendBack : Cert.quiescent_AttendBackRefIdeal := fun m ρ _ =>
  (θ_run Cert.AttendBackRefIdeal.defs _ _).mono
    (fun r h => ⟨fun c => (h c).2.2.2, sem_eq_zero_of_no_sems (by decide) r.2⟩)
    (Cert.AttendBackRefIdeal.Value.run (F := Ideal) m ρ)

theorem frame_Merge : Cert.quiescent_MergeRefIdeal := fun m ρ _ =>
  (θ_run Cert.MergeRefIdeal.defs _ _).mono
    (fun r h => ⟨fun c => (h c).2, sem_eq_zero_of_no_sems (by decide) r.2⟩)
    (Cert.MergeRefIdeal.Value.run (F := Ideal) m ρ)

theorem frame_MergeBack : Cert.quiescent_MergeBackRefIdeal := fun m ρ _ =>
  (θ_run Cert.MergeBackRefIdeal.defs _ _).mono
    (fun r h => ⟨fun c => (h c).2.2.2, sem_eq_zero_of_no_sems (by decide) r.2⟩)
    (Cert.MergeBackRefIdeal.Value.run (F := Ideal) m ρ)

theorem frame_LnHalf : Cert.quiescent_LnHalfRefIdeal := fun m ρ _ =>
  (θ_run Cert.LnHalfRefIdeal.defs _ _).mono
    (fun r h => ⟨fun c => (h c).2.2.2, sem_eq_zero_of_no_sems (by decide) r.2⟩)
    (Cert.LnHalfRefIdeal.Value.run (F := Ideal) m ρ)

theorem frame_Ln : Cert.quiescent_LnRefIdeal := fun m ρ _ =>
  (θ_run Cert.LnRefIdeal.defs _ _).mono
    (fun r h => ⟨fun c => (h c).2.2.2, sem_eq_zero_of_no_sems (by decide) r.2⟩)
    (Cert.LnRefIdeal.Value.run (F := Ideal) m ρ)

theorem frame_LnBack : Cert.quiescent_LnBackRefIdeal := fun m ρ _ =>
  (θ_run Cert.LnBackRefIdeal.defs _ _).mono
    (fun r h => ⟨fun c => (h c).2.2.2, sem_eq_zero_of_no_sems (by decide) r.2⟩)
    (Cert.LnBackRefIdeal.Value.run (F := Ideal) m ρ)

theorem frame_LnLast : Cert.quiescent_LnLastRefIdeal := fun m ρ _ =>
  (θ_run Cert.LnLastRefIdeal.defs _ _).mono
    (fun r h => ⟨fun c => (h c).2.2.2, sem_eq_zero_of_no_sems (by decide) r.2⟩)
    (Cert.LnLastRefIdeal.Value.run (F := Ideal) m ρ)

theorem frame_LnMem : Cert.quiescent_LnMemRefIdeal := fun m ρ _ =>
  (θ_run Cert.LnMemRefIdeal.defs _ _).mono
    (fun r h => ⟨fun c => (h c).2.2.2, sem_eq_zero_of_no_sems (by decide) r.2⟩)
    (Cert.LnMemRefIdeal.Value.run (F := Ideal) m ρ)

theorem frame_LnMemBack : Cert.quiescent_LnMemBackRefIdeal := fun m ρ _ =>
  (θ_run Cert.LnMemBackRefIdeal.defs _ _).mono
    (fun r h => ⟨fun c => (h c).2.2.2, sem_eq_zero_of_no_sems (by decide) r.2⟩)
    (Cert.LnMemBackRefIdeal.Value.run (F := Ideal) m ρ)

theorem frame_HeadNorm : Cert.quiescent_HeadNormRefIdeal := fun m ρ _ =>
  (θ_run Cert.HeadNormRefIdeal.defs _ _).mono
    (fun r h => ⟨fun c => (h c).2, sem_eq_zero_of_no_sems (by decide) r.2⟩)
    (Cert.HeadNormRefIdeal.Value.run (F := Ideal) m ρ)

theorem claim : Cert.Claim := ⟨Cert.Kernel.Gen.facts, Cert.KernelIdeal.Gen.facts, Cert.ReferenceIdeal.Gen.facts, Cert.Dact.Gen.facts, Cert.DactIdeal.Gen.facts, Cert.DactRefIdeal.Gen.facts, Cert.Dwd.Gen.facts, Cert.DwdIdeal.Gen.facts, Cert.DwdRefIdeal.Gen.facts, Cert.Dw.Gen.facts, Cert.DwIdeal.Gen.facts, Cert.DwRefIdeal.Gen.facts, Cert.Dxg.Gen.facts, Cert.DxgIdeal.Gen.facts, Cert.DxgRefIdeal.Gen.facts, Cert.Dxu.Gen.facts, Cert.DxuIdeal.Gen.facts, Cert.DxuRefIdeal.Gen.facts, Cert.Gu.Gen.facts, Cert.GuIdeal.Gen.facts, Cert.GuRefIdeal.Gen.facts, Cert.Down.Gen.facts, Cert.DownIdeal.Gen.facts, Cert.DownRefIdeal.Gen.facts, Cert.InQkv.Gen.facts, Cert.InQkvIdeal.Gen.facts, Cert.InQkvRefIdeal.Gen.facts, Cert.InGates.Gen.facts, Cert.InGatesIdeal.Gen.facts, Cert.InGatesRefIdeal.Gen.facts, Cert.InZ.Gen.facts, Cert.InZIdeal.Gen.facts, Cert.InZRefIdeal.Gen.facts, Cert.InAb.Gen.facts, Cert.InAbIdeal.Gen.facts, Cert.InAbRefIdeal.Gen.facts, Cert.InDwA.Gen.facts, Cert.InDwAIdeal.Gen.facts, Cert.InDwARefIdeal.Gen.facts, Cert.InDwB.Gen.facts, Cert.InDwBIdeal.Gen.facts, Cert.InDwBRefIdeal.Gen.facts, Cert.InDx.Gen.facts, Cert.InDxIdeal.Gen.facts, Cert.InDxRefIdeal.Gen.facts, Cert.Branch.Gen.facts, Cert.BranchIdeal.Gen.facts, Cert.BranchRefIdeal.Gen.facts, Cert.BranchDw.Gen.facts, Cert.BranchDwIdeal.Gen.facts, Cert.BranchDwRefIdeal.Gen.facts, Cert.BranchDx.Gen.facts, Cert.BranchDxIdeal.Gen.facts, Cert.BranchDxRefIdeal.Gen.facts, Cert.Out.Gen.facts, Cert.OutIdeal.Gen.facts, Cert.OutRefIdeal.Gen.facts, Cert.OutDw.Gen.facts, Cert.OutDwIdeal.Gen.facts, Cert.OutDwRefIdeal.Gen.facts, Cert.OutDx.Gen.facts, Cert.OutDxIdeal.Gen.facts, Cert.OutDxRefIdeal.Gen.facts, Cert.QueryDw.Gen.facts, Cert.QueryDwIdeal.Gen.facts, Cert.QueryDwRefIdeal.Gen.facts, Cert.QueryDx.Gen.facts, Cert.QueryDxIdeal.Gen.facts, Cert.QueryDxRefIdeal.Gen.facts, Cert.MemKv.Gen.facts, Cert.MemKvIdeal.Gen.facts, Cert.MemKvRefIdeal.Gen.facts, Cert.MemDw.Gen.facts, Cert.MemDwIdeal.Gen.facts, Cert.MemDwRefIdeal.Gen.facts, Cert.MemDk.Gen.facts, Cert.MemDkIdeal.Gen.facts, Cert.MemDkRefIdeal.Gen.facts, Cert.MemDv.Gen.facts, Cert.MemDvIdeal.Gen.facts, Cert.MemDvRefIdeal.Gen.facts, Cert.AdamFfn.Gen.facts, Cert.AdamFfnIdeal.Gen.facts, Cert.AdamFfnRefIdeal.Gen.facts, Cert.AdamIn.Gen.facts, Cert.AdamInIdeal.Gen.facts, Cert.AdamInRefIdeal.Gen.facts, Cert.AdamConv.Gen.facts, Cert.AdamConvIdeal.Gen.facts, Cert.AdamConvRefIdeal.Gen.facts, Cert.AdamBranch.Gen.facts, Cert.AdamBranchIdeal.Gen.facts, Cert.AdamBranchRefIdeal.Gen.facts, Cert.AdamSquare.Gen.facts, Cert.AdamSquareIdeal.Gen.facts, Cert.AdamSquareRefIdeal.Gen.facts, Cert.AdamLn.Gen.facts, Cert.AdamLnIdeal.Gen.facts, Cert.AdamLnRefIdeal.Gen.facts, Cert.AdamScale.Gen.facts, Cert.AdamScaleIdeal.Gen.facts, Cert.AdamScaleRefIdeal.Gen.facts, Cert.AdamNorm.Gen.facts, Cert.AdamNormIdeal.Gen.facts, Cert.AdamNormRefIdeal.Gen.facts, Cert.AdamHead.Gen.facts, Cert.AdamHeadIdeal.Gen.facts, Cert.AdamHeadRefIdeal.Gen.facts, Cert.SumGate.Gen.facts, Cert.SumGateIdeal.Gen.facts, Cert.SumGateRefIdeal.Gen.facts, Cert.SumDown.Gen.facts, Cert.SumDownIdeal.Gen.facts, Cert.SumDownRefIdeal.Gen.facts, Cert.SumFfn.Gen.facts, Cert.SumFfnIdeal.Gen.facts, Cert.SumFfnRefIdeal.Gen.facts, Cert.SumMixer.Gen.facts, Cert.SumMixerIdeal.Gen.facts, Cert.SumMixerRefIdeal.Gen.facts, Cert.SumXa.Gen.facts, Cert.SumXaIdeal.Gen.facts, Cert.SumXaRefIdeal.Gen.facts, Cert.SumSmall.Gen.facts, Cert.SumSmallIdeal.Gen.facts, Cert.SumSmallRefIdeal.Gen.facts, Cert.Attend.Gen.facts, Cert.AttendIdeal.Gen.facts, Cert.AttendRefIdeal.Gen.facts, Cert.AttendBack.Gen.facts, Cert.AttendBackIdeal.Gen.facts, Cert.AttendBackRefIdeal.Gen.facts, Cert.Merge.Gen.facts, Cert.MergeIdeal.Gen.facts, Cert.MergeRefIdeal.Gen.facts, Cert.MergeBack.Gen.facts, Cert.MergeBackIdeal.Gen.facts, Cert.MergeBackRefIdeal.Gen.facts, Cert.LnHalf.Gen.facts, Cert.LnHalfIdeal.Gen.facts, Cert.LnHalfRefIdeal.Gen.facts, Cert.Ln.Gen.facts, Cert.LnIdeal.Gen.facts, Cert.LnRefIdeal.Gen.facts, Cert.LnBack.Gen.facts, Cert.LnBackIdeal.Gen.facts, Cert.LnBackRefIdeal.Gen.facts, Cert.LnLast.Gen.facts, Cert.LnLastIdeal.Gen.facts, Cert.LnLastRefIdeal.Gen.facts, Cert.LnMem.Gen.facts, Cert.LnMemIdeal.Gen.facts, Cert.LnMemRefIdeal.Gen.facts, Cert.LnMemBack.Gen.facts, Cert.LnMemBackIdeal.Gen.facts, Cert.LnMemBackRefIdeal.Gen.facts, Cert.HeadNorm.Gen.facts, Cert.HeadNormIdeal.Gen.facts, Cert.HeadNormRefIdeal.Gen.facts, Cert.Pre_finite.Gen.facts, Cert.Pre_finite_dact.Gen.facts, Cert.Pre_finite_attend.Gen.facts, Cert.Pre_finite_ln.Gen.facts, Cert.Pre_finite_last.Gen.facts, Cert.Pre_finite_mem.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Dact.Gen.frame m ρ,
  fun m ρ _ => Cert.DactIdeal.Gen.frame m ρ,
  fun m ρ _ => Cert.DactIdeal.Gen.frame m ρ,
  frame_Dact,
  fun m ρ _ => frame_Dact m ρ trivial,
  fun m ρ _ => Cert.Dwd.Gen.frame m ρ,
  fun m ρ _ => Cert.DwdIdeal.Gen.frame m ρ,
  frame_Dwd,
  fun m ρ _ => Cert.Dw.Gen.frame m ρ,
  fun m ρ _ => Cert.DwIdeal.Gen.frame m ρ,
  frame_Dw,
  fun m ρ _ => Cert.Dxg.Gen.frame m ρ,
  fun m ρ _ => Cert.DxgIdeal.Gen.frame m ρ,
  frame_Dxg,
  fun m ρ _ => Cert.Dxu.Gen.frame m ρ,
  fun m ρ _ => Cert.DxuIdeal.Gen.frame m ρ,
  frame_Dxu,
  fun m ρ _ => Cert.Gu.Gen.frame m ρ,
  fun m ρ _ => Cert.GuIdeal.Gen.frame m ρ,
  frame_Gu,
  fun m ρ _ => Cert.Down.Gen.frame m ρ,
  fun m ρ _ => Cert.DownIdeal.Gen.frame m ρ,
  frame_Down,
  fun m ρ _ => Cert.InQkv.Gen.frame m ρ,
  fun m ρ _ => Cert.InQkvIdeal.Gen.frame m ρ,
  frame_InQkv,
  fun m ρ _ => Cert.InGates.Gen.frame m ρ,
  fun m ρ _ => Cert.InGatesIdeal.Gen.frame m ρ,
  frame_InGates,
  fun m ρ _ => Cert.InZ.Gen.frame m ρ,
  fun m ρ _ => Cert.InZIdeal.Gen.frame m ρ,
  frame_InZ,
  fun m ρ _ => Cert.InAb.Gen.frame m ρ,
  fun m ρ _ => Cert.InAbIdeal.Gen.frame m ρ,
  frame_InAb,
  fun m ρ _ => Cert.InDwA.Gen.frame m ρ,
  fun m ρ _ => Cert.InDwAIdeal.Gen.frame m ρ,
  frame_InDwA,
  fun m ρ _ => Cert.InDwB.Gen.frame m ρ,
  fun m ρ _ => Cert.InDwBIdeal.Gen.frame m ρ,
  frame_InDwB,
  fun m ρ _ => Cert.InDx.Gen.frame m ρ,
  fun m ρ _ => Cert.InDxIdeal.Gen.frame m ρ,
  frame_InDx,
  fun m ρ _ => Cert.Branch.Gen.frame m ρ,
  fun m ρ _ => Cert.BranchIdeal.Gen.frame m ρ,
  frame_Branch,
  fun m ρ _ => Cert.BranchDw.Gen.frame m ρ,
  fun m ρ _ => Cert.BranchDwIdeal.Gen.frame m ρ,
  frame_BranchDw,
  fun m ρ _ => Cert.BranchDx.Gen.frame m ρ,
  fun m ρ _ => Cert.BranchDxIdeal.Gen.frame m ρ,
  frame_BranchDx,
  fun m ρ _ => Cert.Out.Gen.frame m ρ,
  fun m ρ _ => Cert.OutIdeal.Gen.frame m ρ,
  frame_Out,
  fun m ρ _ => Cert.OutDw.Gen.frame m ρ,
  fun m ρ _ => Cert.OutDwIdeal.Gen.frame m ρ,
  frame_OutDw,
  fun m ρ _ => Cert.OutDx.Gen.frame m ρ,
  fun m ρ _ => Cert.OutDxIdeal.Gen.frame m ρ,
  frame_OutDx,
  fun m ρ _ => Cert.QueryDw.Gen.frame m ρ,
  fun m ρ _ => Cert.QueryDwIdeal.Gen.frame m ρ,
  frame_QueryDw,
  fun m ρ _ => Cert.QueryDx.Gen.frame m ρ,
  fun m ρ _ => Cert.QueryDxIdeal.Gen.frame m ρ,
  frame_QueryDx,
  fun m ρ _ => Cert.MemKv.Gen.frame m ρ,
  fun m ρ _ => Cert.MemKvIdeal.Gen.frame m ρ,
  frame_MemKv,
  fun m ρ _ => Cert.MemDw.Gen.frame m ρ,
  fun m ρ _ => Cert.MemDwIdeal.Gen.frame m ρ,
  frame_MemDw,
  fun m ρ _ => Cert.MemDk.Gen.frame m ρ,
  fun m ρ _ => Cert.MemDkIdeal.Gen.frame m ρ,
  frame_MemDk,
  fun m ρ _ => Cert.MemDv.Gen.frame m ρ,
  fun m ρ _ => Cert.MemDvIdeal.Gen.frame m ρ,
  frame_MemDv,
  fun m ρ _ => Cert.AdamFfn.Gen.frame m ρ,
  fun m ρ _ => Cert.AdamFfnIdeal.Gen.frame m ρ,
  frame_AdamFfn,
  fun m ρ _ => Cert.AdamIn.Gen.frame m ρ,
  fun m ρ _ => Cert.AdamInIdeal.Gen.frame m ρ,
  frame_AdamIn,
  fun m ρ _ => Cert.AdamConv.Gen.frame m ρ,
  fun m ρ _ => Cert.AdamConvIdeal.Gen.frame m ρ,
  frame_AdamConv,
  fun m ρ _ => Cert.AdamBranch.Gen.frame m ρ,
  fun m ρ _ => Cert.AdamBranchIdeal.Gen.frame m ρ,
  frame_AdamBranch,
  fun m ρ _ => Cert.AdamSquare.Gen.frame m ρ,
  fun m ρ _ => Cert.AdamSquareIdeal.Gen.frame m ρ,
  frame_AdamSquare,
  fun m ρ _ => Cert.AdamLn.Gen.frame m ρ,
  fun m ρ _ => Cert.AdamLnIdeal.Gen.frame m ρ,
  frame_AdamLn,
  fun m ρ _ => Cert.AdamScale.Gen.frame m ρ,
  fun m ρ _ => Cert.AdamScaleIdeal.Gen.frame m ρ,
  frame_AdamScale,
  fun m ρ _ => Cert.AdamNorm.Gen.frame m ρ,
  fun m ρ _ => Cert.AdamNormIdeal.Gen.frame m ρ,
  frame_AdamNorm,
  fun m ρ _ => Cert.AdamHead.Gen.frame m ρ,
  fun m ρ _ => Cert.AdamHeadIdeal.Gen.frame m ρ,
  frame_AdamHead,
  fun m ρ _ => Cert.SumGate.Gen.frame m ρ,
  fun m ρ _ => Cert.SumGateIdeal.Gen.frame m ρ,
  frame_SumGate,
  fun m ρ _ => Cert.SumDown.Gen.frame m ρ,
  fun m ρ _ => Cert.SumDownIdeal.Gen.frame m ρ,
  frame_SumDown,
  fun m ρ _ => Cert.SumFfn.Gen.frame m ρ,
  fun m ρ _ => Cert.SumFfnIdeal.Gen.frame m ρ,
  frame_SumFfn,
  fun m ρ _ => Cert.SumMixer.Gen.frame m ρ,
  fun m ρ _ => Cert.SumMixerIdeal.Gen.frame m ρ,
  frame_SumMixer,
  fun m ρ _ => Cert.SumXa.Gen.frame m ρ,
  fun m ρ _ => Cert.SumXaIdeal.Gen.frame m ρ,
  frame_SumXa,
  fun m ρ _ => Cert.SumSmall.Gen.frame m ρ,
  fun m ρ _ => Cert.SumSmallIdeal.Gen.frame m ρ,
  frame_SumSmall,
  fun m ρ _ => Cert.Attend.Gen.frame m ρ,
  fun m ρ _ => Cert.AttendIdeal.Gen.frame m ρ,
  frame_Attend,
  fun m ρ _ => Cert.AttendBack.Gen.frame m ρ,
  fun m ρ _ => Cert.AttendBackIdeal.Gen.frame m ρ,
  fun m ρ _ => Cert.AttendBackIdeal.Gen.frame m ρ,
  frame_AttendBack,
  fun m ρ _ => frame_AttendBack m ρ trivial,
  fun m ρ _ => Cert.Merge.Gen.frame m ρ,
  fun m ρ _ => Cert.MergeIdeal.Gen.frame m ρ,
  frame_Merge,
  fun m ρ _ => Cert.MergeBack.Gen.frame m ρ,
  fun m ρ _ => Cert.MergeBackIdeal.Gen.frame m ρ,
  frame_MergeBack,
  fun m ρ _ => Cert.LnHalf.Gen.frame m ρ,
  fun m ρ _ => Cert.LnHalfIdeal.Gen.frame m ρ,
  frame_LnHalf,
  fun m ρ _ => Cert.Ln.Gen.frame m ρ,
  fun m ρ _ => Cert.LnIdeal.Gen.frame m ρ,
  frame_Ln,
  fun m ρ _ => Cert.LnBack.Gen.frame m ρ,
  fun m ρ _ => Cert.LnBackIdeal.Gen.frame m ρ,
  fun m ρ _ => Cert.LnBackIdeal.Gen.frame m ρ,
  frame_LnBack,
  fun m ρ _ => frame_LnBack m ρ trivial,
  fun m ρ _ => Cert.LnLast.Gen.frame m ρ,
  fun m ρ _ => Cert.LnLastIdeal.Gen.frame m ρ,
  fun m ρ _ => Cert.LnLastIdeal.Gen.frame m ρ,
  frame_LnLast,
  fun m ρ _ => frame_LnLast m ρ trivial,
  fun m ρ _ => Cert.LnMem.Gen.frame m ρ,
  fun m ρ _ => Cert.LnMemIdeal.Gen.frame m ρ,
  frame_LnMem,
  fun m ρ _ => Cert.LnMemBack.Gen.frame m ρ,
  fun m ρ _ => Cert.LnMemBackIdeal.Gen.frame m ρ,
  fun m ρ _ => Cert.LnMemBackIdeal.Gen.frame m ρ,
  frame_LnMemBack,
  fun m ρ _ => frame_LnMemBack m ρ trivial,
  fun m ρ _ => Cert.HeadNorm.Gen.frame m ρ,
  fun m ρ _ => Cert.HeadNormIdeal.Gen.frame m ρ,
  frame_HeadNorm,
  trivial,
  Cert.ScanEq.algebraic,
  trivial,
  Cert.FfnDact.algebraic,
  trivial,
  Cert.FfnDwd.algebraic,
  trivial,
  Cert.FfnDw.algebraic,
  trivial,
  Cert.FfnDxg.algebraic,
  trivial,
  Cert.FfnDxu.algebraic,
  trivial,
  Cert.FfnGu.algebraic,
  trivial,
  Cert.FfnDown.algebraic,
  trivial,
  Cert.MulInQkv.algebraic,
  trivial,
  Cert.MulInGates.algebraic,
  trivial,
  Cert.MulInZ.algebraic,
  trivial,
  Cert.MulInAb.algebraic,
  trivial,
  Cert.MulInDwA.algebraic,
  trivial,
  Cert.MulInDwB.algebraic,
  trivial,
  Cert.MulInDx.algebraic,
  trivial,
  Cert.MulBranch.algebraic,
  trivial,
  Cert.MulBranchDw.algebraic,
  trivial,
  Cert.MulBranchDx.algebraic,
  trivial,
  Cert.MulOut.algebraic,
  trivial,
  Cert.MulOutDw.algebraic,
  trivial,
  Cert.MulOutDx.algebraic,
  trivial,
  Cert.MulQueryDw.algebraic,
  trivial,
  Cert.MulQueryDx.algebraic,
  trivial,
  Cert.MulMemKv.algebraic,
  trivial,
  Cert.MulMemDw.algebraic,
  trivial,
  Cert.MulMemDk.algebraic,
  trivial,
  Cert.MulMemDv.algebraic,
  trivial,
  Cert.Adam.algebraic_ffn,
  trivial,
  Cert.Adam.algebraic_in,
  trivial,
  Cert.Adam.algebraic_conv,
  trivial,
  Cert.Adam.algebraic_branch,
  trivial,
  Cert.Adam.algebraic_square,
  trivial,
  Cert.Adam.algebraic_ln,
  trivial,
  Cert.Adam.algebraic_scale,
  trivial,
  Cert.Adam.algebraic_norm,
  trivial,
  Cert.Adam.algebraic_head,
  trivial,
  Cert.Sum.Gate.algebraic,
  trivial,
  Cert.Sum.Down.algebraic,
  trivial,
  Cert.Sum.Ffn.algebraic,
  trivial,
  Cert.Sum.Mixer.algebraic,
  trivial,
  Cert.Sum.Xa.algebraic,
  trivial,
  Cert.Sum.Small.algebraic,
  trivial,
  Cert.AttendFwd.algebraic,
  trivial,
  Cert.AttendGrad.algebraic,
  trivial,
  Cert.MergeFwd.algebraic,
  trivial,
  Cert.MergeGrad.algebraic,
  trivial,
  Cert.NormFwd.Half.algebraic,
  trivial,
  Cert.NormFwd.Full.algebraic,
  trivial,
  Cert.NormBack.algebraic,
  trivial,
  Cert.NormLast.algebraic,
  trivial,
  Cert.NormMem.Fwd.algebraic,
  trivial,
  Cert.NormMem.Back.algebraic,
  trivial,
  Cert.GatedNorm.algebraic⟩

end Cert.Proof

end
